-- ==== Defs.lean ====
def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdIdeal_finite_bwd [hPre_finite_bwd : Cert.Pre_finite_bwd.Facts] (m : (ℓ : Loc Cert.BwdIdeal.nD Cert.BwdIdeal.τ Cert.BwdIdeal.sig) → Buf (Elt Ideal) ℓ) : Prop :=
  ∀ c : Dev Cert.BwdIdeal.nD,
    (Cert.Pre_finite_bwd.fn (F := Ideal) (m ((c.tc : Thread Cert.BwdIdeal.nD Cert.BwdIdeal.τ).loc Cert.BwdIdeal.main_arg0)) (m ((c.tc : Thread Cert.BwdIdeal.nD Cert.BwdIdeal.τ).loc Cert.BwdIdeal.main_arg1)) (m ((c.tc : Thread Cert.BwdIdeal.nD Cert.BwdIdeal.τ).loc Cert.BwdIdeal.main_arg2))) = (fun _ => 1#1)

def Pre_RefBwdIdeal (m : (ℓ : Loc Cert.RefBwdIdeal.nD Cert.RefBwdIdeal.τ Cert.RefBwdIdeal.sig) → Buf (Elt Ideal) ℓ) : Prop :=
  True

def Pre_RefBwdIdeal_finite_bwd [hPre_finite_bwd : Cert.Pre_finite_bwd.Facts] (m : (ℓ : Loc Cert.RefBwdIdeal.nD Cert.RefBwdIdeal.τ Cert.RefBwdIdeal.sig) → Buf (Elt Ideal) ℓ) : Prop :=
  ∀ c : Dev Cert.RefBwdIdeal.nD,
    (Cert.Pre_finite_bwd.fn (F := Ideal) (m ((c.tc : Thread Cert.RefBwdIdeal.nD Cert.RefBwdIdeal.τ).loc Cert.RefBwdIdeal.main_arg0)) (m ((c.tc : Thread Cert.RefBwdIdeal.nD Cert.RefBwdIdeal.τ).loc Cert.RefBwdIdeal.main_arg1)) (m ((c.tc : Thread Cert.RefBwdIdeal.nD Cert.RefBwdIdeal.τ).loc Cert.RefBwdIdeal.main_arg2))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_RefFwdIdeal (m : (ℓ : Loc Cert.RefFwdIdeal.nD Cert.RefFwdIdeal.τ Cert.RefFwdIdeal.sig) → Buf (Elt Ideal) ℓ) : Prop :=
  True

def Pre_Dwi (m : (ℓ : Loc Cert.Dwi.nD Cert.Dwi.τ Cert.Dwi.sig) → Buf (Elt Bits) ℓ) : Prop :=
  True

def Pre_DwiIdeal (m : (ℓ : Loc Cert.DwiIdeal.nD Cert.DwiIdeal.τ Cert.DwiIdeal.sig) → Buf (Elt Ideal) ℓ) : Prop :=
  True

def Pre_RefDwiIdeal (m : (ℓ : Loc Cert.RefDwiIdeal.nD Cert.RefDwiIdeal.τ Cert.RefDwiIdeal.sig) → Buf (Elt Ideal) ℓ) : Prop :=
  True

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_RefDwoIdeal (m : (ℓ : Loc Cert.RefDwoIdeal.nD Cert.RefDwoIdeal.τ Cert.RefDwoIdeal.sig) → Buf (Elt Ideal) ℓ) : Prop :=
  True

def Pre_DwiCtx (m : (ℓ : Loc Cert.DwiCtx.nD Cert.DwiCtx.τ Cert.DwiCtx.sig) → Buf (Elt Bits) ℓ) : Prop :=
  True

def Pre_DwiCtxIdeal (m : (ℓ : Loc Cert.DwiCtxIdeal.nD Cert.DwiCtxIdeal.τ Cert.DwiCtxIdeal.sig) → Buf (Elt Ideal) ℓ) : Prop :=
  True

def Pre_RefDwiCtxIdeal (m : (ℓ : Loc Cert.RefDwiCtxIdeal.nD Cert.RefDwiCtxIdeal.τ Cert.RefDwiCtxIdeal.sig) → Buf (Elt Ideal) ℓ) : Prop :=
  True

def Pre_DwoCtx (m : (ℓ : Loc Cert.DwoCtx.nD Cert.DwoCtx.τ Cert.DwoCtx.sig) → Buf (Elt Bits) ℓ) : Prop :=
  True

def Pre_DwoCtxIdeal (m : (ℓ : Loc Cert.DwoCtxIdeal.nD Cert.DwoCtxIdeal.τ Cert.DwoCtxIdeal.sig) → Buf (Elt Ideal) ℓ) : Prop :=
  True

def Pre_RefDwoCtxIdeal (m : (ℓ : Loc Cert.RefDwoCtxIdeal.nD Cert.RefDwoCtxIdeal.τ Cert.RefDwoCtxIdeal.sig) → Buf (Elt Ideal) ℓ) : Prop :=
  True

def Pre_Dx2 (m : (ℓ : Loc Cert.Dx2.nD Cert.Dx2.τ Cert.Dx2.sig) → Buf (Elt Bits) ℓ) : Prop :=
  True

def Pre_Dx2Ideal (m : (ℓ : Loc Cert.Dx2Ideal.nD Cert.Dx2Ideal.τ Cert.Dx2Ideal.sig) → Buf (Elt Ideal) ℓ) : Prop :=
  True

def Pre_Dx2Ideal_finite_dx [hPre_finite_dx : Cert.Pre_finite_dx.Facts] (m : (ℓ : Loc Cert.Dx2Ideal.nD Cert.Dx2Ideal.τ Cert.Dx2Ideal.sig) → Buf (Elt Ideal) ℓ) : Prop :=
  ∀ c : Dev Cert.Dx2Ideal.nD,
    (Cert.Pre_finite_dx.fn (F := Ideal) (m ((c.tc : Thread Cert.Dx2Ideal.nD Cert.Dx2Ideal.τ).loc Cert.Dx2Ideal.main_arg0)) (m ((c.tc : Thread Cert.Dx2Ideal.nD Cert.Dx2Ideal.τ).loc Cert.Dx2Ideal.main_arg1)) (m ((c.tc : Thread Cert.Dx2Ideal.nD Cert.Dx2Ideal.τ).loc Cert.Dx2Ideal.main_arg2)) (m ((c.tc : Thread Cert.Dx2Ideal.nD Cert.Dx2Ideal.τ).loc Cert.Dx2Ideal.main_arg3)) (m ((c.tc : Thread Cert.Dx2Ideal.nD Cert.Dx2Ideal.τ).loc Cert.Dx2Ideal.main_arg4)) (m ((c.tc : Thread Cert.Dx2Ideal.nD Cert.Dx2Ideal.τ).loc Cert.Dx2Ideal.main_arg5))) = (fun _ => 1#1)

def Pre_RefDx2Ideal (m : (ℓ : Loc Cert.RefDx2Ideal.nD Cert.RefDx2Ideal.τ Cert.RefDx2Ideal.sig) → Buf (Elt Ideal) ℓ) : Prop :=
  True

def Pre_RefDx2Ideal_finite_dx [hPre_finite_dx : Cert.Pre_finite_dx.Facts] (m : (ℓ : Loc Cert.RefDx2Ideal.nD Cert.RefDx2Ideal.τ Cert.RefDx2Ideal.sig) → Buf (Elt Ideal) ℓ) : Prop :=
  ∀ c : Dev Cert.RefDx2Ideal.nD,
    (Cert.Pre_finite_dx.fn (F := Ideal) (m ((c.tc : Thread Cert.RefDx2Ideal.nD Cert.RefDx2Ideal.τ).loc Cert.RefDx2Ideal.main_arg0)) (m ((c.tc : Thread Cert.RefDx2Ideal.nD Cert.RefDx2Ideal.τ).loc Cert.RefDx2Ideal.main_arg1)) (m ((c.tc : Thread Cert.RefDx2Ideal.nD Cert.RefDx2Ideal.τ).loc Cert.RefDx2Ideal.main_arg2)) (m ((c.tc : Thread Cert.RefDx2Ideal.nD Cert.RefDx2Ideal.τ).loc Cert.RefDx2Ideal.main_arg3)) (m ((c.tc : Thread Cert.RefDx2Ideal.nD Cert.RefDx2Ideal.τ).loc Cert.RefDx2Ideal.main_arg4)) (m ((c.tc : Thread Cert.RefDx2Ideal.nD Cert.RefDx2Ideal.τ).loc Cert.RefDx2Ideal.main_arg5))) = (fun _ => 1#1)

def Pre_Dx0 (m : (ℓ : Loc Cert.Dx0.nD Cert.Dx0.τ Cert.Dx0.sig) → Buf (Elt Bits) ℓ) : Prop :=
  True

def Pre_Dx0Ideal (m : (ℓ : Loc Cert.Dx0Ideal.nD Cert.Dx0Ideal.τ Cert.Dx0Ideal.sig) → Buf (Elt Ideal) ℓ) : Prop :=
  True

def Pre_Dx0Ideal_finite_dx [hPre_finite_dx : Cert.Pre_finite_dx.Facts] (m : (ℓ : Loc Cert.Dx0Ideal.nD Cert.Dx0Ideal.τ Cert.Dx0Ideal.sig) → Buf (Elt Ideal) ℓ) : Prop :=
  ∀ c : Dev Cert.Dx0Ideal.nD,
    (Cert.Pre_finite_dx.fn (F := Ideal) (m ((c.tc : Thread Cert.Dx0Ideal.nD Cert.Dx0Ideal.τ).loc Cert.Dx0Ideal.main_arg0)) (m ((c.tc : Thread Cert.Dx0Ideal.nD Cert.Dx0Ideal.τ).loc Cert.Dx0Ideal.main_arg1)) (m ((c.tc : Thread Cert.Dx0Ideal.nD Cert.Dx0Ideal.τ).loc Cert.Dx0Ideal.main_arg2)) (m ((c.tc : Thread Cert.Dx0Ideal.nD Cert.Dx0Ideal.τ).loc Cert.Dx0Ideal.main_arg3)) (m ((c.tc : Thread Cert.Dx0Ideal.nD Cert.Dx0Ideal.τ).loc Cert.Dx0Ideal.main_arg4)) (m ((c.tc : Thread Cert.Dx0Ideal.nD Cert.Dx0Ideal.τ).loc Cert.Dx0Ideal.main_arg5))) = (fun _ => 1#1)

def Pre_RefDx0Ideal (m : (ℓ : Loc Cert.RefDx0Ideal.nD Cert.RefDx0Ideal.τ Cert.RefDx0Ideal.sig) → Buf (Elt Ideal) ℓ) : Prop :=
  True

def Pre_RefDx0Ideal_finite_dx [hPre_finite_dx : Cert.Pre_finite_dx.Facts] (m : (ℓ : Loc Cert.RefDx0Ideal.nD Cert.RefDx0Ideal.τ Cert.RefDx0Ideal.sig) → Buf (Elt Ideal) ℓ) : Prop :=
  ∀ c : Dev Cert.RefDx0Ideal.nD,
    (Cert.Pre_finite_dx.fn (F := Ideal) (m ((c.tc : Thread Cert.RefDx0Ideal.nD Cert.RefDx0Ideal.τ).loc Cert.RefDx0Ideal.main_arg0)) (m ((c.tc : Thread Cert.RefDx0Ideal.nD Cert.RefDx0Ideal.τ).loc Cert.RefDx0Ideal.main_arg1)) (m ((c.tc : Thread Cert.RefDx0Ideal.nD Cert.RefDx0Ideal.τ).loc Cert.RefDx0Ideal.main_arg2)) (m ((c.tc : Thread Cert.RefDx0Ideal.nD Cert.RefDx0Ideal.τ).loc Cert.RefDx0Ideal.main_arg3)) (m ((c.tc : Thread Cert.RefDx0Ideal.nD Cert.RefDx0Ideal.τ).loc Cert.RefDx0Ideal.main_arg4)) (m ((c.tc : Thread Cert.RefDx0Ideal.nD Cert.RefDx0Ideal.τ).loc Cert.RefDx0Ideal.main_arg5))) = (fun _ => 1#1)

def Pre_Down2 (m : (ℓ : Loc Cert.Down2.nD Cert.Down2.τ Cert.Down2.sig) → Buf (Elt Bits) ℓ) : Prop :=
  True

def Pre_Down2Ideal (m : (ℓ : Loc Cert.Down2Ideal.nD Cert.Down2Ideal.τ Cert.Down2Ideal.sig) → Buf (Elt Ideal) ℓ) : Prop :=
  True

def Pre_RefDown2Ideal (m : (ℓ : Loc Cert.RefDown2Ideal.nD Cert.RefDown2Ideal.τ Cert.RefDown2Ideal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_RefDown0Ideal (m : (ℓ : Loc Cert.RefDown0Ideal.nD Cert.RefDown0Ideal.τ Cert.RefDown0Ideal.sig) → Buf (Elt Ideal) ℓ) : Prop :=
  True

def Pre_DownCtx (m : (ℓ : Loc Cert.DownCtx.nD Cert.DownCtx.τ Cert.DownCtx.sig) → Buf (Elt Bits) ℓ) : Prop :=
  True

def Pre_DownCtxIdeal (m : (ℓ : Loc Cert.DownCtxIdeal.nD Cert.DownCtxIdeal.τ Cert.DownCtxIdeal.sig) → Buf (Elt Ideal) ℓ) : Prop :=
  True

def Pre_RefDownCtxIdeal (m : (ℓ : Loc Cert.RefDownCtxIdeal.nD Cert.RefDownCtxIdeal.τ Cert.RefDownCtxIdeal.sig) → Buf (Elt Ideal) ℓ) : Prop :=
  True

def Pre_Up2 (m : (ℓ : Loc Cert.Up2.nD Cert.Up2.τ Cert.Up2.sig) → Buf (Elt Bits) ℓ) : Prop :=
  True

def Pre_Up2Ideal (m : (ℓ : Loc Cert.Up2Ideal.nD Cert.Up2Ideal.τ Cert.Up2Ideal.sig) → Buf (Elt Ideal) ℓ) : Prop :=
  True

def Pre_Up2Ideal_finite_up [hPre_finite_up : Cert.Pre_finite_up.Facts] (m : (ℓ : Loc Cert.Up2Ideal.nD Cert.Up2Ideal.τ Cert.Up2Ideal.sig) → Buf (Elt Ideal) ℓ) : Prop :=
  ∀ c : Dev Cert.Up2Ideal.nD,
    (Cert.Pre_finite_up.fn (F := Ideal) (m ((c.tc : Thread Cert.Up2Ideal.nD Cert.Up2Ideal.τ).loc Cert.Up2Ideal.main_arg0)) (m ((c.tc : Thread Cert.Up2Ideal.nD Cert.Up2Ideal.τ).loc Cert.Up2Ideal.main_arg1)) (m ((c.tc : Thread Cert.Up2Ideal.nD Cert.Up2Ideal.τ).loc Cert.Up2Ideal.main_arg2)) (m ((c.tc : Thread Cert.Up2Ideal.nD Cert.Up2Ideal.τ).loc Cert.Up2Ideal.main_arg3))) = (fun _ => 1#1)

def Pre_RefUp2Ideal (m : (ℓ : Loc Cert.RefUp2Ideal.nD Cert.RefUp2Ideal.τ Cert.RefUp2Ideal.sig) → Buf (Elt Ideal) ℓ) : Prop :=
  True

def Pre_RefUp2Ideal_finite_up [hPre_finite_up : Cert.Pre_finite_up.Facts] (m : (ℓ : Loc Cert.RefUp2Ideal.nD Cert.RefUp2Ideal.τ Cert.RefUp2Ideal.sig) → Buf (Elt Ideal) ℓ) : Prop :=
  ∀ c : Dev Cert.RefUp2Ideal.nD,
    (Cert.Pre_finite_up.fn (F := Ideal) (m ((c.tc : Thread Cert.RefUp2Ideal.nD Cert.RefUp2Ideal.τ).loc Cert.RefUp2Ideal.main_arg0)) (m ((c.tc : Thread Cert.RefUp2Ideal.nD Cert.RefUp2Ideal.τ).loc Cert.RefUp2Ideal.main_arg1)) (m ((c.tc : Thread Cert.RefUp2Ideal.nD Cert.RefUp2Ideal.τ).loc Cert.RefUp2Ideal.main_arg2)) (m ((c.tc : Thread Cert.RefUp2Ideal.nD Cert.RefUp2Ideal.τ).loc Cert.RefUp2Ideal.main_arg3))) = (fun _ => 1#1)

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0Ideal_finite_up [hPre_finite_up : Cert.Pre_finite_up.Facts] (m : (ℓ : Loc Cert.Up0Ideal.nD Cert.Up0Ideal.τ Cert.Up0Ideal.sig) → Buf (Elt Ideal) ℓ) : Prop :=
  ∀ c : Dev Cert.Up0Ideal.nD,
    (Cert.Pre_finite_up.fn (F := Ideal) (m ((c.tc : Thread Cert.Up0Ideal.nD Cert.Up0Ideal.τ).loc Cert.Up0Ideal.main_arg0)) (m ((c.tc : Thread Cert.Up0Ideal.nD Cert.Up0Ideal.τ).loc Cert.Up0Ideal.main_arg1)) (m ((c.tc : Thread Cert.Up0Ideal.nD Cert.Up0Ideal.τ).loc Cert.Up0Ideal.main_arg2)) (m ((c.tc : Thread Cert.Up0Ideal.nD Cert.Up0Ideal.τ).loc Cert.Up0Ideal.main_arg3))) = (fun _ => 1#1)

def Pre_RefUp0Ideal (m : (ℓ : Loc Cert.RefUp0Ideal.nD Cert.RefUp0Ideal.τ Cert.RefUp0Ideal.sig) → Buf (Elt Ideal) ℓ) : Prop :=
  True

def Pre_RefUp0Ideal_finite_up [hPre_finite_up : Cert.Pre_finite_up.Facts] (m : (ℓ : Loc Cert.RefUp0Ideal.nD Cert.RefUp0Ideal.τ Cert.RefUp0Ideal.sig) → Buf (Elt Ideal) ℓ) : Prop :=
  ∀ c : Dev Cert.RefUp0Ideal.nD,
    (Cert.Pre_finite_up.fn (F := Ideal) (m ((c.tc : Thread Cert.RefUp0Ideal.nD Cert.RefUp0Ideal.τ).loc Cert.RefUp0Ideal.main_arg0)) (m ((c.tc : Thread Cert.RefUp0Ideal.nD Cert.RefUp0Ideal.τ).loc Cert.RefUp0Ideal.main_arg1)) (m ((c.tc : Thread Cert.RefUp0Ideal.nD Cert.RefUp0Ideal.τ).loc Cert.RefUp0Ideal.main_arg2)) (m ((c.tc : Thread Cert.RefUp0Ideal.nD Cert.RefUp0Ideal.τ).loc Cert.RefUp0Ideal.main_arg3))) = (fun _ => 1#1)

def Pre_UpCtx (m : (ℓ : Loc Cert.UpCtx.nD Cert.UpCtx.τ Cert.UpCtx.sig) → Buf (Elt Bits) ℓ) : Prop :=
  True

def Pre_UpCtxIdeal (m : (ℓ : Loc Cert.UpCtxIdeal.nD Cert.UpCtxIdeal.τ Cert.UpCtxIdeal.sig) → Buf (Elt Ideal) ℓ) : Prop :=
  True

def Pre_UpCtxIdeal_finite_up_ctx [hPre_finite_up_ctx : Cert.Pre_finite_up_ctx.Facts] (m : (ℓ : Loc Cert.UpCtxIdeal.nD Cert.UpCtxIdeal.τ Cert.UpCtxIdeal.sig) → Buf (Elt Ideal) ℓ) : Prop :=
  ∀ c : Dev Cert.UpCtxIdeal.nD,
    (Cert.Pre_finite_up_ctx.fn (F := Ideal) (m ((c.tc : Thread Cert.UpCtxIdeal.nD Cert.UpCtxIdeal.τ).loc Cert.UpCtxIdeal.main_arg0)) (m ((c.tc : Thread Cert.UpCtxIdeal.nD Cert.UpCtxIdeal.τ).loc Cert.UpCtxIdeal.main_arg1)) (m ((c.tc : Thread Cert.UpCtxIdeal.nD Cert.UpCtxIdeal.τ).loc Cert.UpCtxIdeal.main_arg2)) (m ((c.tc : Thread Cert.UpCtxIdeal.nD Cert.UpCtxIdeal.τ).loc Cert.UpCtxIdeal.main_arg3))) = (fun _ => 1#1)

def Pre_RefUpCtxIdeal (m : (ℓ : Loc Cert.RefUpCtxIdeal.nD Cert.RefUpCtxIdeal.τ Cert.RefUpCtxIdeal.sig) → Buf (Elt Ideal) ℓ) : Prop :=
  True

def Pre_RefUpCtxIdeal_finite_up_ctx [hPre_finite_up_ctx : Cert.Pre_finite_up_ctx.Facts] (m : (ℓ : Loc Cert.RefUpCtxIdeal.nD Cert.RefUpCtxIdeal.τ Cert.RefUpCtxIdeal.sig) → Buf (Elt Ideal) ℓ) : Prop :=
  ∀ c : Dev Cert.RefUpCtxIdeal.nD,
    (Cert.Pre_finite_up_ctx.fn (F := Ideal) (m ((c.tc : Thread Cert.RefUpCtxIdeal.nD Cert.RefUpCtxIdeal.τ).loc Cert.RefUpCtxIdeal.main_arg0)) (m ((c.tc : Thread Cert.RefUpCtxIdeal.nD Cert.RefUpCtxIdeal.τ).loc Cert.RefUpCtxIdeal.main_arg1)) (m ((c.tc : Thread Cert.RefUpCtxIdeal.nD Cert.RefUpCtxIdeal.τ).loc Cert.RefUpCtxIdeal.main_arg2)) (m ((c.tc : Thread Cert.RefUpCtxIdeal.nD Cert.RefUpCtxIdeal.τ).loc Cert.RefUpCtxIdeal.main_arg3))) = (fun _ => 1#1)

def Pre_DxCtx (m : (ℓ : Loc Cert.DxCtx.nD Cert.DxCtx.τ Cert.DxCtx.sig) → Buf (Elt Bits) ℓ) : Prop :=
  True

def Pre_DxCtxIdeal (m : (ℓ : Loc Cert.DxCtxIdeal.nD Cert.DxCtxIdeal.τ Cert.DxCtxIdeal.sig) → Buf (Elt Ideal) ℓ) : Prop :=
  True

def Pre_DxCtxIdeal_finite_dx_ctx [hPre_finite_dx_ctx : Cert.Pre_finite_dx_ctx.Facts] (m : (ℓ : Loc Cert.DxCtxIdeal.nD Cert.DxCtxIdeal.τ Cert.DxCtxIdeal.sig) → Buf (Elt Ideal) ℓ) : Prop :=
  ∀ c : Dev Cert.DxCtxIdeal.nD,
    (Cert.Pre_finite_dx_ctx.fn (F := Ideal) (m ((c.tc : Thread Cert.DxCtxIdeal.nD Cert.DxCtxIdeal.τ).loc Cert.DxCtxIdeal.main_arg0)) (m ((c.tc : Thread Cert.DxCtxIdeal.nD Cert.DxCtxIdeal.τ).loc Cert.DxCtxIdeal.main_arg1)) (m ((c.tc : Thread Cert.DxCtxIdeal.nD Cert.DxCtxIdeal.τ).loc Cert.DxCtxIdeal.main_arg2)) (m ((c.tc : Thread Cert.DxCtxIdeal.nD Cert.DxCtxIdeal.τ).loc Cert.DxCtxIdeal.main_arg3)) (m ((c.tc : Thread Cert.DxCtxIdeal.nD Cert.DxCtxIdeal.τ).loc Cert.DxCtxIdeal.main_arg4)) (m ((c.tc : Thread Cert.DxCtxIdeal.nD Cert.DxCtxIdeal.τ).loc Cert.DxCtxIdeal.main_arg5))) = (fun _ => 1#1)

def Pre_RefDxCtxIdeal (m : (ℓ : Loc Cert.RefDxCtxIdeal.nD Cert.RefDxCtxIdeal.τ Cert.RefDxCtxIdeal.sig) → Buf (Elt Ideal) ℓ) : Prop :=
  True

def Pre_RefDxCtxIdeal_finite_dx_ctx [hPre_finite_dx_ctx : Cert.Pre_finite_dx_ctx.Facts] (m : (ℓ : Loc Cert.RefDxCtxIdeal.nD Cert.RefDxCtxIdeal.τ Cert.RefDxCtxIdeal.sig) → Buf (Elt Ideal) ℓ) : Prop :=
  ∀ c : Dev Cert.RefDxCtxIdeal.nD,
    (Cert.Pre_finite_dx_ctx.fn (F := Ideal) (m ((c.tc : Thread Cert.RefDxCtxIdeal.nD Cert.RefDxCtxIdeal.τ).loc Cert.RefDxCtxIdeal.main_arg0)) (m ((c.tc : Thread Cert.RefDxCtxIdeal.nD Cert.RefDxCtxIdeal.τ).loc Cert.RefDxCtxIdeal.main_arg1)) (m ((c.tc : Thread Cert.RefDxCtxIdeal.nD Cert.RefDxCtxIdeal.τ).loc Cert.RefDxCtxIdeal.main_arg2)) (m ((c.tc : Thread Cert.RefDxCtxIdeal.nD Cert.RefDxCtxIdeal.τ).loc Cert.RefDxCtxIdeal.main_arg3)) (m ((c.tc : Thread Cert.RefDxCtxIdeal.nD Cert.RefDxCtxIdeal.τ).loc Cert.RefDxCtxIdeal.main_arg4)) (m ((c.tc : Thread Cert.RefDxCtxIdeal.nD Cert.RefDxCtxIdeal.τ).loc Cert.RefDxCtxIdeal.main_arg5))) = (fun _ => 1#1)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2))
      ∧ r.2.sem = fun _ => 0)

def quiescent_BwdIdeal_pre_finite_bwd [hBwdIdeal : Cert.BwdIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal_finite_bwd m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2))
      ∧ r.2.sem = fun _ => 0)

def quiescent_RefBwdIdeal [hRefBwdIdeal : Cert.RefBwdIdeal.Facts] : Prop :=
  ∀ (m : (ℓ : Loc Cert.RefBwdIdeal.nD Cert.RefBwdIdeal.τ Cert.RefBwdIdeal.sig) → Buf (Elt Ideal) ℓ) (g : Dev Cert.RefBwdIdeal.nD → PrngReg), Pre_RefBwdIdeal m →
    θ_run (Cert.RefBwdIdeal.defs (F := Ideal)) (onTc (τ := Cert.RefBwdIdeal.τ) (Cert.RefBwdIdeal.main (F := Ideal))) ⟨m, fun _ => 0, g⟩ (fun r => (∀ c : Dev Cert.RefBwdIdeal.nD,
      r.2.mem ((c.tc : Thread Cert.RefBwdIdeal.nD Cert.RefBwdIdeal.τ).loc Cert.RefBwdIdeal.main_arg0) = m ((c.tc : Thread Cert.RefBwdIdeal.nD Cert.RefBwdIdeal.τ).loc Cert.RefBwdIdeal.main_arg0)
      ∧ r.2.mem ((c.tc : Thread Cert.RefBwdIdeal.nD Cert.RefBwdIdeal.τ).loc Cert.RefBwdIdeal.main_arg1) = m ((c.tc : Thread Cert.RefBwdIdeal.nD Cert.RefBwdIdeal.τ).loc Cert.RefBwdIdeal.main_arg1)
      ∧ r.2.mem ((c.tc : Thread Cert.RefBwdIdeal.nD Cert.RefBwdIdeal.τ).loc Cert.RefBwdIdeal.main_arg2) = m ((c.tc : Thread Cert.RefBwdIdeal.nD Cert.RefBwdIdeal.τ).loc Cert.RefBwdIdeal.main_arg2))
      ∧ r.2.sem = fun _ => 0)

def quiescent_RefBwdIdeal_pre_finite_bwd [hRefBwdIdeal : Cert.RefBwdIdeal.Facts] [hPre_finite_bwd : Cert.Pre_finite_bwd.Facts] : Prop :=
  ∀ (m : (ℓ : Loc Cert.RefBwdIdeal.nD Cert.RefBwdIdeal.τ Cert.RefBwdIdeal.sig) → Buf (Elt Ideal) ℓ) (g : Dev Cert.RefBwdIdeal.nD → PrngReg), Pre_RefBwdIdeal_finite_bwd m →
    θ_run (Cert.RefBwdIdeal.defs (F := Ideal)) (onTc (τ := Cert.RefBwdIdeal.τ) (Cert.RefBwdIdeal.main (F := Ideal))) ⟨m, fun _ => 0, g⟩ (fun r => (∀ c : Dev Cert.RefBwdIdeal.nD,
      r.2.mem ((c.tc : Thread Cert.RefBwdIdeal.nD Cert.RefBwdIdeal.τ).loc Cert.RefBwdIdeal.main_arg0) = m ((c.tc : Thread Cert.RefBwdIdeal.nD Cert.RefBwdIdeal.τ).loc Cert.RefBwdIdeal.main_arg0)
      ∧ r.2.mem ((c.tc : Thread Cert.RefBwdIdeal.nD Cert.RefBwdIdeal.τ).loc Cert.RefBwdIdeal.main_arg1) = m ((c.tc : Thread Cert.RefBwdIdeal.nD Cert.RefBwdIdeal.τ).loc Cert.RefBwdIdeal.main_arg1)
      ∧ r.2.mem ((c.tc : Thread Cert.RefBwdIdeal.nD Cert.RefBwdIdeal.τ).loc Cert.RefBwdIdeal.main_arg2) = m ((c.tc : Thread Cert.RefBwdIdeal.nD Cert.RefBwdIdeal.τ).loc Cert.RefBwdIdeal.main_arg2))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1))
      ∧ r.2.sem = fun _ => 0)

def quiescent_RefFwdIdeal [hRefFwdIdeal : Cert.RefFwdIdeal.Facts] : Prop :=
  ∀ (m : (ℓ : Loc Cert.RefFwdIdeal.nD Cert.RefFwdIdeal.τ Cert.RefFwdIdeal.sig) → Buf (Elt Ideal) ℓ) (g : Dev Cert.RefFwdIdeal.nD → PrngReg), Pre_RefFwdIdeal m →
    θ_run (Cert.RefFwdIdeal.defs (F := Ideal)) (onTc (τ := Cert.RefFwdIdeal.τ) (Cert.RefFwdIdeal.main (F := Ideal))) ⟨m, fun _ => 0, g⟩ (fun r => (∀ c : Dev Cert.RefFwdIdeal.nD,
      r.2.mem ((c.tc : Thread Cert.RefFwdIdeal.nD Cert.RefFwdIdeal.τ).loc Cert.RefFwdIdeal.main_arg0) = m ((c.tc : Thread Cert.RefFwdIdeal.nD Cert.RefFwdIdeal.τ).loc Cert.RefFwdIdeal.main_arg0)
      ∧ r.2.mem ((c.tc : Thread Cert.RefFwdIdeal.nD Cert.RefFwdIdeal.τ).loc Cert.RefFwdIdeal.main_arg1) = m ((c.tc : Thread Cert.RefFwdIdeal.nD Cert.RefFwdIdeal.τ).loc Cert.RefFwdIdeal.main_arg1))
      ∧ r.2.sem = fun _ => 0)

def quiescent_Dwi [hDwi : Cert.Dwi.Facts] : Prop :=
  ∀ (m : (ℓ : Loc Cert.Dwi.nD Cert.Dwi.τ Cert.Dwi.sig) → Buf (Elt Bits) ℓ) (g : Dev Cert.Dwi.nD → PrngReg), Pre_Dwi m →
    θ_run (Cert.Dwi.defs (F := Bits)) (onTc (τ := Cert.Dwi.τ) (Cert.Dwi.main (F := Bits))) ⟨m, fun _ => 0, g⟩ (fun r => (∀ c : Dev Cert.Dwi.nD,
      r.2.mem ((c.tc : Thread Cert.Dwi.nD Cert.Dwi.τ).loc Cert.Dwi.main_arg0) = m ((c.tc : Thread Cert.Dwi.nD Cert.Dwi.τ).loc Cert.Dwi.main_arg0)
      ∧ r.2.mem ((c.tc : Thread Cert.Dwi.nD Cert.Dwi.τ).loc Cert.Dwi.main_arg1) = m ((c.tc : Thread Cert.Dwi.nD Cert.Dwi.τ).loc Cert.Dwi.main_arg1))
      ∧ r.2.sem = fun _ => 0)

def quiescent_DwiIdeal [hDwiIdeal : Cert.DwiIdeal.Facts] : Prop :=
  ∀ (m : (ℓ : Loc Cert.DwiIdeal.nD Cert.DwiIdeal.τ Cert.DwiIdeal.sig) → Buf (Elt Ideal) ℓ) (g : Dev Cert.DwiIdeal.nD → PrngReg), Pre_DwiIdeal m →
    θ_run (Cert.DwiIdeal.defs (F := Ideal)) (onTc (τ := Cert.DwiIdeal.τ) (Cert.DwiIdeal.main (F := Ideal))) ⟨m, fun _ => 0, g⟩ (fun r => (∀ c : Dev Cert.DwiIdeal.nD,
      r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
      ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1))
      ∧ r.2.sem = fun _ => 0)

def quiescent_RefDwiIdeal [hRefDwiIdeal : Cert.RefDwiIdeal.Facts] : Prop :=
  ∀ (m : (ℓ : Loc Cert.RefDwiIdeal.nD Cert.RefDwiIdeal.τ Cert.RefDwiIdeal.sig) → Buf (Elt Ideal) ℓ) (g : Dev Cert.RefDwiIdeal.nD → PrngReg), Pre_RefDwiIdeal m →
    θ_run (Cert.RefDwiIdeal.defs (F := Ideal)) (onTc (τ := Cert.RefDwiIdeal.τ) (Cert.RefDwiIdeal.main (F := Ideal))) ⟨m, fun _ => 0, g⟩ (fun r => (∀ c : Dev Cert.RefDwiIdeal.nD,
      r.2.mem ((c.tc : Thread Cert.RefDwiIdeal.nD Cert.RefDwiIdeal.τ).loc Cert.RefDwiIdeal.main_arg0) = m ((c.tc : Thread Cert.RefDwiIdeal.nD Cert.RefDwiIdeal.τ).loc Cert.RefDwiIdeal.main_arg0)
      ∧ r.2.mem ((c.tc : Thread Cert.RefDwiIdeal.nD Cert.RefDwiIdeal.τ).loc Cert.RefDwiIdeal.main_arg1) = m ((c.tc : Thread Cert.RefDwiIdeal.nD Cert.RefDwiIdeal.τ).loc Cert.RefDwiIdeal.main_arg1))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_RefDwoIdeal [hRefDwoIdeal : Cert.RefDwoIdeal.Facts] : Prop :=
  ∀ (m : (ℓ : Loc Cert.RefDwoIdeal.nD Cert.RefDwoIdeal.τ Cert.RefDwoIdeal.sig) → Buf (Elt Ideal) ℓ) (g : Dev Cert.RefDwoIdeal.nD → PrngReg), Pre_RefDwoIdeal m →
    θ_run (Cert.RefDwoIdeal.defs (F := Ideal)) (onTc (τ := Cert.RefDwoIdeal.τ) (Cert.RefDwoIdeal.main (F := Ideal))) ⟨m, fun _ => 0, g⟩ (fun r => (∀ c : Dev Cert.RefDwoIdeal.nD,
      r.2.mem ((c.tc : Thread Cert.RefDwoIdeal.nD Cert.RefDwoIdeal.τ).loc Cert.RefDwoIdeal.main_arg0) = m ((c.tc : Thread Cert.RefDwoIdeal.nD Cert.RefDwoIdeal.τ).loc Cert.RefDwoIdeal.main_arg0)
      ∧ r.2.mem ((c.tc : Thread Cert.RefDwoIdeal.nD Cert.RefDwoIdeal.τ).loc Cert.RefDwoIdeal.main_arg1) = m ((c.tc : Thread Cert.RefDwoIdeal.nD Cert.RefDwoIdeal.τ).loc Cert.RefDwoIdeal.main_arg1))
      ∧ r.2.sem = fun _ => 0)

def quiescent_DwiCtx [hDwiCtx : Cert.DwiCtx.Facts] : Prop :=
  ∀ (m : (ℓ : Loc Cert.DwiCtx.nD Cert.DwiCtx.τ Cert.DwiCtx.sig) → Buf (Elt Bits) ℓ) (g : Dev Cert.DwiCtx.nD → PrngReg), Pre_DwiCtx m →
    θ_run (Cert.DwiCtx.defs (F := Bits)) (onTc (τ := Cert.DwiCtx.τ) (Cert.DwiCtx.main (F := Bits))) ⟨m, fun _ => 0, g⟩ (fun r => (∀ c : Dev Cert.DwiCtx.nD,
      r.2.mem ((c.tc : Thread Cert.DwiCtx.nD Cert.DwiCtx.τ).loc Cert.DwiCtx.main_arg0) = m ((c.tc : Thread Cert.DwiCtx.nD Cert.DwiCtx.τ).loc Cert.DwiCtx.main_arg0)
      ∧ r.2.mem ((c.tc : Thread Cert.DwiCtx.nD Cert.DwiCtx.τ).loc Cert.DwiCtx.main_arg1) = m ((c.tc : Thread Cert.DwiCtx.nD Cert.DwiCtx.τ).loc Cert.DwiCtx.main_arg1))
      ∧ r.2.sem = fun _ => 0)

def quiescent_DwiCtxIdeal [hDwiCtxIdeal : Cert.DwiCtxIdeal.Facts] : Prop :=
  ∀ (m : (ℓ : Loc Cert.DwiCtxIdeal.nD Cert.DwiCtxIdeal.τ Cert.DwiCtxIdeal.sig) → Buf (Elt Ideal) ℓ) (g : Dev Cert.DwiCtxIdeal.nD → PrngReg), Pre_DwiCtxIdeal m →
    θ_run (Cert.DwiCtxIdeal.defs (F := Ideal)) (onTc (τ := Cert.DwiCtxIdeal.τ) (Cert.DwiCtxIdeal.main (F := Ideal))) ⟨m, fun _ => 0, g⟩ (fun r => (∀ c : Dev Cert.DwiCtxIdeal.nD,
      r.2.mem ((c.tc : Thread Cert.DwiCtxIdeal.nD Cert.DwiCtxIdeal.τ).loc Cert.DwiCtxIdeal.main_arg0) = m ((c.tc : Thread Cert.DwiCtxIdeal.nD Cert.DwiCtxIdeal.τ).loc Cert.DwiCtxIdeal.main_arg0)
      ∧ r.2.mem ((c.tc : Thread Cert.DwiCtxIdeal.nD Cert.DwiCtxIdeal.τ).loc Cert.DwiCtxIdeal.main_arg1) = m ((c.tc : Thread Cert.DwiCtxIdeal.nD Cert.DwiCtxIdeal.τ).loc Cert.DwiCtxIdeal.main_arg1))
      ∧ r.2.sem = fun _ => 0)

def quiescent_RefDwiCtxIdeal [hRefDwiCtxIdeal : Cert.RefDwiCtxIdeal.Facts] : Prop :=
  ∀ (m : (ℓ : Loc Cert.RefDwiCtxIdeal.nD Cert.RefDwiCtxIdeal.τ Cert.RefDwiCtxIdeal.sig) → Buf (Elt Ideal) ℓ) (g : Dev Cert.RefDwiCtxIdeal.nD → PrngReg), Pre_RefDwiCtxIdeal m →
    θ_run (Cert.RefDwiCtxIdeal.defs (F := Ideal)) (onTc (τ := Cert.RefDwiCtxIdeal.τ) (Cert.RefDwiCtxIdeal.main (F := Ideal))) ⟨m, fun _ => 0, g⟩ (fun r => (∀ c : Dev Cert.RefDwiCtxIdeal.nD,
      r.2.mem ((c.tc : Thread Cert.RefDwiCtxIdeal.nD Cert.RefDwiCtxIdeal.τ).loc Cert.RefDwiCtxIdeal.main_arg0) = m ((c.tc : Thread Cert.RefDwiCtxIdeal.nD Cert.RefDwiCtxIdeal.τ).loc Cert.RefDwiCtxIdeal.main_arg0)
      ∧ r.2.mem ((c.tc : Thread Cert.RefDwiCtxIdeal.nD Cert.RefDwiCtxIdeal.τ).loc Cert.RefDwiCtxIdeal.main_arg1) = m ((c.tc : Thread Cert.RefDwiCtxIdeal.nD Cert.RefDwiCtxIdeal.τ).loc Cert.RefDwiCtxIdeal.main_arg1))
      ∧ r.2.sem = fun _ => 0)

def quiescent_DwoCtx [hDwoCtx : Cert.DwoCtx.Facts] : Prop :=
  ∀ (m : (ℓ : Loc Cert.DwoCtx.nD Cert.DwoCtx.τ Cert.DwoCtx.sig) → Buf (Elt Bits) ℓ) (g : Dev Cert.DwoCtx.nD → PrngReg), Pre_DwoCtx m →
    θ_run (Cert.DwoCtx.defs (F := Bits)) (onTc (τ := Cert.DwoCtx.τ) (Cert.DwoCtx.main (F := Bits))) ⟨m, fun _ => 0, g⟩ (fun r => (∀ c : Dev Cert.DwoCtx.nD,
      r.2.mem ((c.tc : Thread Cert.DwoCtx.nD Cert.DwoCtx.τ).loc Cert.DwoCtx.main_arg0) = m ((c.tc : Thread Cert.DwoCtx.nD Cert.DwoCtx.τ).loc Cert.DwoCtx.main_arg0)
      ∧ r.2.mem ((c.tc : Thread Cert.DwoCtx.nD Cert.DwoCtx.τ).loc Cert.DwoCtx.main_arg1) = m ((c.tc : Thread Cert.DwoCtx.nD Cert.DwoCtx.τ).loc Cert.DwoCtx.main_arg1))
      ∧ r.2.sem = fun _ => 0)

def quiescent_DwoCtxIdeal [hDwoCtxIdeal : Cert.DwoCtxIdeal.Facts] : Prop :=
  ∀ (m : (ℓ : Loc Cert.DwoCtxIdeal.nD Cert.DwoCtxIdeal.τ Cert.DwoCtxIdeal.sig) → Buf (Elt Ideal) ℓ) (g : Dev Cert.DwoCtxIdeal.nD → PrngReg), Pre_DwoCtxIdeal m →
    θ_run (Cert.DwoCtxIdeal.defs (F := Ideal)) (onTc (τ := Cert.DwoCtxIdeal.τ) (Cert.DwoCtxIdeal.main (F := Ideal))) ⟨m, fun _ => 0, g⟩ (fun r => (∀ c : Dev Cert.DwoCtxIdeal.nD,
      r.2.mem ((c.tc : Thread Cert.DwoCtxIdeal.nD Cert.DwoCtxIdeal.τ).loc Cert.DwoCtxIdeal.main_arg0) = m ((c.tc : Thread Cert.DwoCtxIdeal.nD Cert.DwoCtxIdeal.τ).loc Cert.DwoCtxIdeal.main_arg0)
      ∧ r.2.mem ((c.tc : Thread Cert.DwoCtxIdeal.nD Cert.DwoCtxIdeal.τ).loc Cert.DwoCtxIdeal.main_arg1) = m ((c.tc : Thread Cert.DwoCtxIdeal.nD Cert.DwoCtxIdeal.τ).loc Cert.DwoCtxIdeal.main_arg1))
      ∧ r.2.sem = fun _ => 0)

def quiescent_RefDwoCtxIdeal [hRefDwoCtxIdeal : Cert.RefDwoCtxIdeal.Facts] : Prop :=
  ∀ (m : (ℓ : Loc Cert.RefDwoCtxIdeal.nD Cert.RefDwoCtxIdeal.τ Cert.RefDwoCtxIdeal.sig) → Buf (Elt Ideal) ℓ) (g : Dev Cert.RefDwoCtxIdeal.nD → PrngReg), Pre_RefDwoCtxIdeal m →
    θ_run (Cert.RefDwoCtxIdeal.defs (F := Ideal)) (onTc (τ := Cert.RefDwoCtxIdeal.τ) (Cert.RefDwoCtxIdeal.main (F := Ideal))) ⟨m, fun _ => 0, g⟩ (fun r => (∀ c : Dev Cert.RefDwoCtxIdeal.nD,
      r.2.mem ((c.tc : Thread Cert.RefDwoCtxIdeal.nD Cert.RefDwoCtxIdeal.τ).loc Cert.RefDwoCtxIdeal.main_arg0) = m ((c.tc : Thread Cert.RefDwoCtxIdeal.nD Cert.RefDwoCtxIdeal.τ).loc Cert.RefDwoCtxIdeal.main_arg0)
      ∧ r.2.mem ((c.tc : Thread Cert.RefDwoCtxIdeal.nD Cert.RefDwoCtxIdeal.τ).loc Cert.RefDwoCtxIdeal.main_arg1) = m ((c.tc : Thread Cert.RefDwoCtxIdeal.nD Cert.RefDwoCtxIdeal.τ).loc Cert.RefDwoCtxIdeal.main_arg1))
      ∧ r.2.sem = fun _ => 0)

def quiescent_Dx2 [hDx2 : Cert.Dx2.Facts] : Prop :=
  ∀ (m : (ℓ : Loc Cert.Dx2.nD Cert.Dx2.τ Cert.Dx2.sig) → Buf (Elt Bits) ℓ) (g : Dev Cert.Dx2.nD → PrngReg), Pre_Dx2 m →
    θ_run (Cert.Dx2.defs (F := Bits)) (onTc (τ := Cert.Dx2.τ) (Cert.Dx2.main (F := Bits))) ⟨m, fun _ => 0, g⟩ (fun r => (∀ c : Dev Cert.Dx2.nD,
      r.2.mem ((c.tc : Thread Cert.Dx2.nD Cert.Dx2.τ).loc Cert.Dx2.main_arg0) = m ((c.tc : Thread Cert.Dx2.nD Cert.Dx2.τ).loc Cert.Dx2.main_arg0)
      ∧ r.2.mem ((c.tc : Thread Cert.Dx2.nD Cert.Dx2.τ).loc Cert.Dx2.main_arg1) = m ((c.tc : Thread Cert.Dx2.nD Cert.Dx2.τ).loc Cert.Dx2.main_arg1)
      ∧ r.2.mem ((c.tc : Thread Cert.Dx2.nD Cert.Dx2.τ).loc Cert.Dx2.main_arg2) = m ((c.tc : Thread Cert.Dx2.nD Cert.Dx2.τ).loc Cert.Dx2.main_arg2)
      ∧ r.2.mem ((c.tc : Thread Cert.Dx2.nD Cert.Dx2.τ).loc Cert.Dx2.main_arg3) = m ((c.tc : Thread Cert.Dx2.nD Cert.Dx2.τ).loc Cert.Dx2.main_arg3)
      ∧ r.2.mem ((c.tc : Thread Cert.Dx2.nD Cert.Dx2.τ).loc Cert.Dx2.main_arg4) = m ((c.tc : Thread Cert.Dx2.nD Cert.Dx2.τ).loc Cert.Dx2.main_arg4)
      ∧ r.2.mem ((c.tc : Thread Cert.Dx2.nD Cert.Dx2.τ).loc Cert.Dx2.main_arg5) = m ((c.tc : Thread Cert.Dx2.nD Cert.Dx2.τ).loc Cert.Dx2.main_arg5))
      ∧ r.2.sem = fun _ => 0)

def quiescent_Dx2Ideal [hDx2Ideal : Cert.Dx2Ideal.Facts] : Prop :=
  ∀ (m : (ℓ : Loc Cert.Dx2Ideal.nD Cert.Dx2Ideal.τ Cert.Dx2Ideal.sig) → Buf (Elt Ideal) ℓ) (g : Dev Cert.Dx2Ideal.nD → PrngReg), Pre_Dx2Ideal m →
    θ_run (Cert.Dx2Ideal.defs (F := Ideal)) (onTc (τ := Cert.Dx2Ideal.τ) (Cert.Dx2Ideal.main (F := Ideal))) ⟨m, fun _ => 0, g⟩ (fun r => (∀ c : Dev Cert.Dx2Ideal.nD,
      r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
      ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
      ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2)
      ∧ r.2.mem ((c.tc : Thread Cert.Dx2Ideal.nD Cert.Dx2Ideal.τ).loc Cert.Dx2Ideal.main_arg3) = m ((c.tc : Thread Cert.Dx2Ideal.nD Cert.Dx2Ideal.τ).loc Cert.Dx2Ideal.main_arg3)
      ∧ r.2.mem ((c.tc : Thread Cert.Dx2Ideal.nD Cert.Dx2Ideal.τ).loc Cert.Dx2Ideal.main_arg4) = m ((c.tc : Thread Cert.Dx2Ideal.nD Cert.Dx2Ideal.τ).loc Cert.Dx2Ideal.main_arg4)
      ∧ r.2.mem ((c.tc : Thread Cert.Dx2Ideal.nD Cert.Dx2Ideal.τ).loc Cert.Dx2Ideal.main_arg5) = m ((c.tc : Thread Cert.Dx2Ideal.nD Cert.Dx2Ideal.τ).loc Cert.Dx2Ideal.main_arg5))
      ∧ r.2.sem = fun _ => 0)

def quiescent_Dx2Ideal_pre_finite_dx [hDx2Ideal : Cert.Dx2Ideal.Facts] [hPre_finite_dx : Cert.Pre_finite_dx.Facts] : Prop :=
  ∀ (m : (ℓ : Loc Cert.Dx2Ideal.nD Cert.Dx2Ideal.τ Cert.Dx2Ideal.sig) → Buf (Elt Ideal) ℓ) (g : Dev Cert.Dx2Ideal.nD → PrngReg), Pre_Dx2Ideal_finite_dx m →
    θ_run (Cert.Dx2Ideal.defs (F := Ideal)) (onTc (τ := Cert.Dx2Ideal.τ) (Cert.Dx2Ideal.main (F := Ideal))) ⟨m, fun _ => 0, g⟩ (fun r => (∀ c : Dev Cert.Dx2Ideal.nD,
      r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
      ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
      ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2)
      ∧ r.2.mem ((c.tc : Thread Cert.Dx2Ideal.nD Cert.Dx2Ideal.τ).loc Cert.Dx2Ideal.main_arg3) = m ((c.tc : Thread Cert.Dx2Ideal.nD Cert.Dx2Ideal.τ).loc Cert.Dx2Ideal.main_arg3)
      ∧ r.2.mem ((c.tc : Thread Cert.Dx2Ideal.nD Cert.Dx2Ideal.τ).loc Cert.Dx2Ideal.main_arg4) = m ((c.tc : Thread Cert.Dx2Ideal.nD Cert.Dx2Ideal.τ).loc Cert.Dx2Ideal.main_arg4)
      ∧ r.2.mem ((c.tc : Thread Cert.Dx2Ideal.nD Cert.Dx2Ideal.τ).loc Cert.Dx2Ideal.main_arg5) = m ((c.tc : Thread Cert.Dx2Ideal.nD Cert.Dx2Ideal.τ).loc Cert.Dx2Ideal.main_arg5))
      ∧ r.2.sem = fun _ => 0)

def quiescent_RefDx2Ideal [hRefDx2Ideal : Cert.RefDx2Ideal.Facts] : Prop :=
  ∀ (m : (ℓ : Loc Cert.RefDx2Ideal.nD Cert.RefDx2Ideal.τ Cert.RefDx2Ideal.sig) → Buf (Elt Ideal) ℓ) (g : Dev Cert.RefDx2Ideal.nD → PrngReg), Pre_RefDx2Ideal m →
    θ_run (Cert.RefDx2Ideal.defs (F := Ideal)) (onTc (τ := Cert.RefDx2Ideal.τ) (Cert.RefDx2Ideal.main (F := Ideal))) ⟨m, fun _ => 0, g⟩ (fun r => (∀ c : Dev Cert.RefDx2Ideal.nD,
      r.2.mem ((c.tc : Thread Cert.RefDx2Ideal.nD Cert.RefDx2Ideal.τ).loc Cert.RefDx2Ideal.main_arg0) = m ((c.tc : Thread Cert.RefDx2Ideal.nD Cert.RefDx2Ideal.τ).loc Cert.RefDx2Ideal.main_arg0)
      ∧ r.2.mem ((c.tc : Thread Cert.RefDx2Ideal.nD Cert.RefDx2Ideal.τ).loc Cert.RefDx2Ideal.main_arg1) = m ((c.tc : Thread Cert.RefDx2Ideal.nD Cert.RefDx2Ideal.τ).loc Cert.RefDx2Ideal.main_arg1)
      ∧ r.2.mem ((c.tc : Thread Cert.RefDx2Ideal.nD Cert.RefDx2Ideal.τ).loc Cert.RefDx2Ideal.main_arg2) = m ((c.tc : Thread Cert.RefDx2Ideal.nD Cert.RefDx2Ideal.τ).loc Cert.RefDx2Ideal.main_arg2)
      ∧ r.2.mem ((c.tc : Thread Cert.RefDx2Ideal.nD Cert.RefDx2Ideal.τ).loc Cert.RefDx2Ideal.main_arg3) = m ((c.tc : Thread Cert.RefDx2Ideal.nD Cert.RefDx2Ideal.τ).loc Cert.RefDx2Ideal.main_arg3)
      ∧ r.2.mem ((c.tc : Thread Cert.RefDx2Ideal.nD Cert.RefDx2Ideal.τ).loc Cert.RefDx2Ideal.main_arg4) = m ((c.tc : Thread Cert.RefDx2Ideal.nD Cert.RefDx2Ideal.τ).loc Cert.RefDx2Ideal.main_arg4)
      ∧ r.2.mem ((c.tc : Thread Cert.RefDx2Ideal.nD Cert.RefDx2Ideal.τ).loc Cert.RefDx2Ideal.main_arg5) = m ((c.tc : Thread Cert.RefDx2Ideal.nD Cert.RefDx2Ideal.τ).loc Cert.RefDx2Ideal.main_arg5))
      ∧ r.2.sem = fun _ => 0)

def quiescent_RefDx2Ideal_pre_finite_dx [hRefDx2Ideal : Cert.RefDx2Ideal.Facts] [hPre_finite_dx : Cert.Pre_finite_dx.Facts] : Prop :=
  ∀ (m : (ℓ : Loc Cert.RefDx2Ideal.nD Cert.RefDx2Ideal.τ Cert.RefDx2Ideal.sig) → Buf (Elt Ideal) ℓ) (g : Dev Cert.RefDx2Ideal.nD → PrngReg), Pre_RefDx2Ideal_finite_dx m →
    θ_run (Cert.RefDx2Ideal.defs (F := Ideal)) (onTc (τ := Cert.RefDx2Ideal.τ) (Cert.RefDx2Ideal.main (F := Ideal))) ⟨m, fun _ => 0, g⟩ (fun r => (∀ c : Dev Cert.RefDx2Ideal.nD,
      r.2.mem ((c.tc : Thread Cert.RefDx2Ideal.nD Cert.RefDx2Ideal.τ).loc Cert.RefDx2Ideal.main_arg0) = m ((c.tc : Thread Cert.RefDx2Ideal.nD Cert.RefDx2Ideal.τ).loc Cert.RefDx2Ideal.main_arg0)
      ∧ r.2.mem ((c.tc : Thread Cert.RefDx2Ideal.nD Cert.RefDx2Ideal.τ).loc Cert.RefDx2Ideal.main_arg1) = m ((c.tc : Thread Cert.RefDx2Ideal.nD Cert.RefDx2Ideal.τ).loc Cert.RefDx2Ideal.main_arg1)
      ∧ r.2.mem ((c.tc : Thread Cert.RefDx2Ideal.nD Cert.RefDx2Ideal.τ).loc Cert.RefDx2Ideal.main_arg2) = m ((c.tc : Thread Cert.RefDx2Ideal.nD Cert.RefDx2Ideal.τ).loc Cert.RefDx2Ideal.main_arg2)
      ∧ r.2.mem ((c.tc : Thread Cert.RefDx2Ideal.nD Cert.RefDx2Ideal.τ).loc Cert.RefDx2Ideal.main_arg3) = m ((c.tc : Thread Cert.RefDx2Ideal.nD Cert.RefDx2Ideal.τ).loc Cert.RefDx2Ideal.main_arg3)
      ∧ r.2.mem ((c.tc : Thread Cert.RefDx2Ideal.nD Cert.RefDx2Ideal.τ).loc Cert.RefDx2Ideal.main_arg4) = m ((c.tc : Thread Cert.RefDx2Ideal.nD Cert.RefDx2Ideal.τ).loc Cert.RefDx2Ideal.main_arg4)
      ∧ r.2.mem ((c.tc : Thread Cert.RefDx2Ideal.nD Cert.RefDx2Ideal.τ).loc Cert.RefDx2Ideal.main_arg5) = m ((c.tc : Thread Cert.RefDx2Ideal.nD Cert.RefDx2Ideal.τ).loc Cert.RefDx2Ideal.main_arg5))
      ∧ r.2.sem = fun _ => 0)

def quiescent_Dx0 [hDx0 : Cert.Dx0.Facts] : Prop :=
  ∀ (m : (ℓ : Loc Cert.Dx0.nD Cert.Dx0.τ Cert.Dx0.sig) → Buf (Elt Bits) ℓ) (g : Dev Cert.Dx0.nD → PrngReg), Pre_Dx0 m →
    θ_run (Cert.Dx0.defs (F := Bits)) (onTc (τ := Cert.Dx0.τ) (Cert.Dx0.main (F := Bits))) ⟨m, fun _ => 0, g⟩ (fun r => (∀ c : Dev Cert.Dx0.nD,
      r.2.mem ((c.tc : Thread Cert.Dx0.nD Cert.Dx0.τ).loc Cert.Dx0.main_arg0) = m ((c.tc : Thread Cert.Dx0.nD Cert.Dx0.τ).loc Cert.Dx0.main_arg0)
      ∧ r.2.mem ((c.tc : Thread Cert.Dx0.nD Cert.Dx0.τ).loc Cert.Dx0.main_arg1) = m ((c.tc : Thread Cert.Dx0.nD Cert.Dx0.τ).loc Cert.Dx0.main_arg1)
      ∧ r.2.mem ((c.tc : Thread Cert.Dx0.nD Cert.Dx0.τ).loc Cert.Dx0.main_arg2) = m ((c.tc : Thread Cert.Dx0.nD Cert.Dx0.τ).loc Cert.Dx0.main_arg2)
      ∧ r.2.mem ((c.tc : Thread Cert.Dx0.nD Cert.Dx0.τ).loc Cert.Dx0.main_arg3) = m ((c.tc : Thread Cert.Dx0.nD Cert.Dx0.τ).loc Cert.Dx0.main_arg3)
      ∧ r.2.mem ((c.tc : Thread Cert.Dx0.nD Cert.Dx0.τ).loc Cert.Dx0.main_arg4) = m ((c.tc : Thread Cert.Dx0.nD Cert.Dx0.τ).loc Cert.Dx0.main_arg4)
      ∧ r.2.mem ((c.tc : Thread Cert.Dx0.nD Cert.Dx0.τ).loc Cert.Dx0.main_arg5) = m ((c.tc : Thread Cert.Dx0.nD Cert.Dx0.τ).loc Cert.Dx0.main_arg5))
      ∧ r.2.sem = fun _ => 0)

def quiescent_Dx0Ideal [hDx0Ideal : Cert.Dx0Ideal.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
      ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2)
      ∧ r.2.mem ((c.tc : Thread Cert.Dx0Ideal.nD Cert.Dx0Ideal.τ).loc Cert.Dx0Ideal.main_arg3) = m ((c.tc : Thread Cert.Dx0Ideal.nD Cert.Dx0Ideal.τ).loc Cert.Dx0Ideal.main_arg3)
      ∧ r.2.mem ((c.tc : Thread Cert.Dx0Ideal.nD Cert.Dx0Ideal.τ).loc Cert.Dx0Ideal.main_arg4) = m ((c.tc : Thread Cert.Dx0Ideal.nD Cert.Dx0Ideal.τ).loc Cert.Dx0Ideal.main_arg4)
      ∧ r.2.mem ((c.tc : Thread Cert.Dx0Ideal.nD Cert.Dx0Ideal.τ).loc Cert.Dx0Ideal.main_arg5) = m ((c.tc : Thread Cert.Dx0Ideal.nD Cert.Dx0Ideal.τ).loc Cert.Dx0Ideal.main_arg5))
      ∧ r.2.sem = fun _ => 0)

def quiescent_Dx0Ideal_pre_finite_dx [hDx0Ideal : Cert.Dx0Ideal.Facts] [hPre_finite_dx : Cert.Pre_finite_dx.Facts] : Prop :=
  ∀ (m : (ℓ : Loc Cert.Dx0Ideal.nD Cert.Dx0Ideal.τ Cert.Dx0Ideal.sig) → Buf (Elt Ideal) ℓ) (g : Dev Cert.Dx0Ideal.nD → PrngReg), Pre_Dx0Ideal_finite_dx m →
    θ_run (Cert.Dx0Ideal.defs (F := Ideal)) (onTc (τ := Cert.Dx0Ideal.τ) (Cert.Dx0Ideal.main (F := Ideal))) ⟨m, fun _ => 0, g⟩ (fun r => (∀ c : Dev Cert.Dx0Ideal.nD,
      r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
      ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
      ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2)
      ∧ r.2.mem ((c.tc : Thread Cert.Dx0Ideal.nD Cert.Dx0Ideal.τ).loc Cert.Dx0Ideal.main_arg3) = m ((c.tc : Thread Cert.Dx0Ideal.nD Cert.Dx0Ideal.τ).loc Cert.Dx0Ideal.main_arg3)
      ∧ r.2.mem ((c.tc : Thread Cert.Dx0Ideal.nD Cert.Dx0Ideal.τ).loc Cert.Dx0Ideal.main_arg4) = m ((c.tc : Thread Cert.Dx0Ideal.nD Cert.Dx0Ideal.τ).loc Cert.Dx0Ideal.main_arg4)
      ∧ r.2.mem ((c.tc : Thread Cert.Dx0Ideal.nD Cert.Dx0Ideal.τ).loc Cert.Dx0Ideal.main_arg5) = m ((c.tc : Thread Cert.Dx0Ideal.nD Cert.Dx0Ideal.τ).loc Cert.Dx0Ideal.main_arg5))
      ∧ r.2.sem = fun _ => 0)

def quiescent_RefDx0Ideal [hRefDx0Ideal : Cert.RefDx0Ideal.Facts] : Prop :=
  ∀ (m : (ℓ : Loc Cert.RefDx0Ideal.nD Cert.RefDx0Ideal.τ Cert.RefDx0Ideal.sig) → Buf (Elt Ideal) ℓ) (g : Dev Cert.RefDx0Ideal.nD → PrngReg), Pre_RefDx0Ideal m →
    θ_run (Cert.RefDx0Ideal.defs (F := Ideal)) (onTc (τ := Cert.RefDx0Ideal.τ) (Cert.RefDx0Ideal.main (F := Ideal))) ⟨m, fun _ => 0, g⟩ (fun r => (∀ c : Dev Cert.RefDx0Ideal.nD,
      r.2.mem ((c.tc : Thread Cert.RefDx0Ideal.nD Cert.RefDx0Ideal.τ).loc Cert.RefDx0Ideal.main_arg0) = m ((c.tc : Thread Cert.RefDx0Ideal.nD Cert.RefDx0Ideal.τ).loc Cert.RefDx0Ideal.main_arg0)
      ∧ r.2.mem ((c.tc : Thread Cert.RefDx0Ideal.nD Cert.RefDx0Ideal.τ).loc Cert.RefDx0Ideal.main_arg1) = m ((c.tc : Thread Cert.RefDx0Ideal.nD Cert.RefDx0Ideal.τ).loc Cert.RefDx0Ideal.main_arg1)
      ∧ r.2.mem ((c.tc : Thread Cert.RefDx0Ideal.nD Cert.RefDx0Ideal.τ).loc Cert.RefDx0Ideal.main_arg2) = m ((c.tc : Thread Cert.RefDx0Ideal.nD Cert.RefDx0Ideal.τ).loc Cert.RefDx0Ideal.main_arg2)
      ∧ r.2.mem ((c.tc : Thread Cert.RefDx0Ideal.nD Cert.RefDx0Ideal.τ).loc Cert.RefDx0Ideal.main_arg3) = m ((c.tc : Thread Cert.RefDx0Ideal.nD Cert.RefDx0Ideal.τ).loc Cert.RefDx0Ideal.main_arg3)
      ∧ r.2.mem ((c.tc : Thread Cert.RefDx0Ideal.nD Cert.RefDx0Ideal.τ).loc Cert.RefDx0Ideal.main_arg4) = m ((c.tc : Thread Cert.RefDx0Ideal.nD Cert.RefDx0Ideal.τ).loc Cert.RefDx0Ideal.main_arg4)
      ∧ r.2.mem ((c.tc : Thread Cert.RefDx0Ideal.nD Cert.RefDx0Ideal.τ).loc Cert.RefDx0Ideal.main_arg5) = m ((c.tc : Thread Cert.RefDx0Ideal.nD Cert.RefDx0Ideal.τ).loc Cert.RefDx0Ideal.main_arg5))
      ∧ r.2.sem = fun _ => 0)

def quiescent_RefDx0Ideal_pre_finite_dx [hRefDx0Ideal : Cert.RefDx0Ideal.Facts] [hPre_finite_dx : Cert.Pre_finite_dx.Facts] : Prop :=
  ∀ (m : (ℓ : Loc Cert.RefDx0Ideal.nD Cert.RefDx0Ideal.τ Cert.RefDx0Ideal.sig) → Buf (Elt Ideal) ℓ) (g : Dev Cert.RefDx0Ideal.nD → PrngReg), Pre_RefDx0Ideal_finite_dx m →
    θ_run (Cert.RefDx0Ideal.defs (F := Ideal)) (onTc (τ := Cert.RefDx0Ideal.τ) (Cert.RefDx0Ideal.main (F := Ideal))) ⟨m, fun _ => 0, g⟩ (fun r => (∀ c : Dev Cert.RefDx0Ideal.nD,
      r.2.mem ((c.tc : Thread Cert.RefDx0Ideal.nD Cert.RefDx0Ideal.τ).loc Cert.RefDx0Ideal.main_arg0) = m ((c.tc : Thread Cert.RefDx0Ideal.nD Cert.RefDx0Ideal.τ).loc Cert.RefDx0Ideal.main_arg0)
      ∧ r.2.mem ((c.tc : Thread Cert.RefDx0Ideal.nD Cert.RefDx0Ideal.τ).loc Cert.RefDx0Ideal.main_arg1) = m ((c.tc : Thread Cert.RefDx0Ideal.nD Cert.RefDx0Ideal.τ).loc Cert.RefDx0Ideal.main_arg1)
      ∧ r.2.mem ((c.tc : Thread Cert.RefDx0Ideal.nD Cert.RefDx0Ideal.τ).loc Cert.RefDx0Ideal.main_arg2) = m ((c.tc : Thread Cert.RefDx0Ideal.nD Cert.RefDx0Ideal.τ).loc Cert.RefDx0Ideal.main_arg2)
      ∧ r.2.mem ((c.tc : Thread Cert.RefDx0Ideal.nD Cert.RefDx0Ideal.τ).loc Cert.RefDx0Ideal.main_arg3) = m ((c.tc : Thread Cert.RefDx0Ideal.nD Cert.RefDx0Ideal.τ).loc Cert.RefDx0Ideal.main_arg3)
      ∧ r.2.mem ((c.tc : Thread Cert.RefDx0Ideal.nD Cert.RefDx0Ideal.τ).loc Cert.RefDx0Ideal.main_arg4) = m ((c.tc : Thread Cert.RefDx0Ideal.nD Cert.RefDx0Ideal.τ).loc Cert.RefDx0Ideal.main_arg4)
      ∧ r.2.mem ((c.tc : Thread Cert.RefDx0Ideal.nD Cert.RefDx0Ideal.τ).loc Cert.RefDx0Ideal.main_arg5) = m ((c.tc : Thread Cert.RefDx0Ideal.nD Cert.RefDx0Ideal.τ).loc Cert.RefDx0Ideal.main_arg5))
      ∧ r.2.sem = fun _ => 0)

def quiescent_Down2 [hDown2 : Cert.Down2.Facts] : Prop :=
  ∀ (m : (ℓ : Loc Cert.Down2.nD Cert.Down2.τ Cert.Down2.sig) → Buf (Elt Bits) ℓ) (g : Dev Cert.Down2.nD → PrngReg), Pre_Down2 m →
    θ_run (Cert.Down2.defs (F := Bits)) (onTc (τ := Cert.Down2.τ) (Cert.Down2.main (F := Bits))) ⟨m, fun _ => 0, g⟩ (fun r => (∀ c : Dev Cert.Down2.nD,
      r.2.mem ((c.tc : Thread Cert.Down2.nD Cert.Down2.τ).loc Cert.Down2.main_arg0) = m ((c.tc : Thread Cert.Down2.nD Cert.Down2.τ).loc Cert.Down2.main_arg0)
      ∧ r.2.mem ((c.tc : Thread Cert.Down2.nD Cert.Down2.τ).loc Cert.Down2.main_arg1) = m ((c.tc : Thread Cert.Down2.nD Cert.Down2.τ).loc Cert.Down2.main_arg1)
      ∧ r.2.mem ((c.tc : Thread Cert.Down2.nD Cert.Down2.τ).loc Cert.Down2.main_arg2) = m ((c.tc : Thread Cert.Down2.nD Cert.Down2.τ).loc Cert.Down2.main_arg2)
      ∧ r.2.mem ((c.tc : Thread Cert.Down2.nD Cert.Down2.τ).loc Cert.Down2.main_arg3) = m ((c.tc : Thread Cert.Down2.nD Cert.Down2.τ).loc Cert.Down2.main_arg3))
      ∧ r.2.sem = fun _ => 0)

def quiescent_Down2Ideal [hDown2Ideal : Cert.Down2Ideal.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
      ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2)
      ∧ r.2.mem ((c.tc : Thread Cert.Down2Ideal.nD Cert.Down2Ideal.τ).loc Cert.Down2Ideal.main_arg3) = m ((c.tc : Thread Cert.Down2Ideal.nD Cert.Down2Ideal.τ).loc Cert.Down2Ideal.main_arg3))
      ∧ r.2.sem = fun _ => 0)

def quiescent_RefDown2Ideal [hRefDown2Ideal : Cert.RefDown2Ideal.Facts] : Prop :=
  ∀ (m : (ℓ : Loc Cert.RefDown2Ideal.nD Cert.RefDown2Ideal.τ Cert.RefDown2Ideal.sig) → Buf (Elt Ideal) ℓ) (g : Dev Cert.RefDown2Ideal.nD → PrngReg), Pre_RefDown2Ideal m →
    θ_run (Cert.RefDown2Ideal.defs (F := Ideal)) (onTc (τ := Cert.RefDown2Ideal.τ) (Cert.RefDown2Ideal.main (F := Ideal))) ⟨m, fun _ => 0, g⟩ (fun r => (∀ c : Dev Cert.RefDown2Ideal.nD,
      r.2.mem ((c.tc : Thread Cert.RefDown2Ideal.nD Cert.RefDown2Ideal.τ).loc Cert.RefDown2Ideal.main_arg0) = m ((c.tc : Thread Cert.RefDown2Ideal.nD Cert.RefDown2Ideal.τ).loc Cert.RefDown2Ideal.main_arg0)
      ∧ r.2.mem ((c.tc : Thread Cert.RefDown2Ideal.nD Cert.RefDown2Ideal.τ).loc Cert.RefDown2Ideal.main_arg1) = m ((c.tc : Thread Cert.RefDown2Ideal.nD Cert.RefDown2Ideal.τ).loc Cert.RefDown2Ideal.main_arg1)
      ∧ r.2.mem ((c.tc : Thread Cert.RefDown2Ideal.nD Cert.RefDown2Ideal.τ).loc Cert.RefDown2Ideal.main_arg2) = m ((c.tc : Thread Cert.RefDown2Ideal.nD Cert.RefDown2Ideal.τ).loc Cert.RefDown2Ideal.main_arg2)
      ∧ r.2.mem ((c.tc : Thread Cert.RefDown2Ideal.nD Cert.RefDown2Ideal.τ).loc Cert.RefDown2Ideal.main_arg3) = m ((c.tc : Thread Cert.RefDown2Ideal.nD Cert.RefDown2Ideal.τ).loc Cert.RefDown2Ideal.main_arg3))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2)
      ∧ r.2.mem ((c.tc : Thread Cert.Down0.nD Cert.Down0.τ).loc Cert.Down0.main_arg3) = m ((c.tc : Thread Cert.Down0.nD Cert.Down0.τ).loc Cert.Down0.main_arg3))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
      ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ r.2.sem = fun _ => 0)

def quiescent_RefDown0Ideal [hRefDown0Ideal : Cert.RefDown0Ideal.Facts] : Prop :=
  ∀ (m : (ℓ : Loc Cert.RefDown0Ideal.nD Cert.RefDown0Ideal.τ Cert.RefDown0Ideal.sig) → Buf (Elt Ideal) ℓ) (g : Dev Cert.RefDown0Ideal.nD → PrngReg), Pre_RefDown0Ideal m →
    θ_run (Cert.RefDown0Ideal.defs (F := Ideal)) (onTc (τ := Cert.RefDown0Ideal.τ) (Cert.RefDown0Ideal.main (F := Ideal))) ⟨m, fun _ => 0, g⟩ (fun r => (∀ c : Dev Cert.RefDown0Ideal.nD,
      r.2.mem ((c.tc : Thread Cert.RefDown0Ideal.nD Cert.RefDown0Ideal.τ).loc Cert.RefDown0Ideal.main_arg0) = m ((c.tc : Thread Cert.RefDown0Ideal.nD Cert.RefDown0Ideal.τ).loc Cert.RefDown0Ideal.main_arg0)
      ∧ r.2.mem ((c.tc : Thread Cert.RefDown0Ideal.nD Cert.RefDown0Ideal.τ).loc Cert.RefDown0Ideal.main_arg1) = m ((c.tc : Thread Cert.RefDown0Ideal.nD Cert.RefDown0Ideal.τ).loc Cert.RefDown0Ideal.main_arg1)
      ∧ r.2.mem ((c.tc : Thread Cert.RefDown0Ideal.nD Cert.RefDown0Ideal.τ).loc Cert.RefDown0Ideal.main_arg2) = m ((c.tc : Thread Cert.RefDown0Ideal.nD Cert.RefDown0Ideal.τ).loc Cert.RefDown0Ideal.main_arg2)
      ∧ r.2.mem ((c.tc : Thread Cert.RefDown0Ideal.nD Cert.RefDown0Ideal.τ).loc Cert.RefDown0Ideal.main_arg3) = m ((c.tc : Thread Cert.RefDown0Ideal.nD Cert.RefDown0Ideal.τ).loc Cert.RefDown0Ideal.main_arg3))
      ∧ r.2.sem = fun _ => 0)

def quiescent_DownCtx [hDownCtx : Cert.DownCtx.Facts] : Prop :=
  ∀ (m : (ℓ : Loc Cert.DownCtx.nD Cert.DownCtx.τ Cert.DownCtx.sig) → Buf (Elt Bits) ℓ) (g : Dev Cert.DownCtx.nD → PrngReg), Pre_DownCtx m →
    θ_run (Cert.DownCtx.defs (F := Bits)) (onTc (τ := Cert.DownCtx.τ) (Cert.DownCtx.main (F := Bits))) ⟨m, fun _ => 0, g⟩ (fun r => (∀ c : Dev Cert.DownCtx.nD,
      r.2.mem ((c.tc : Thread Cert.DownCtx.nD Cert.DownCtx.τ).loc Cert.DownCtx.main_arg0) = m ((c.tc : Thread Cert.DownCtx.nD Cert.DownCtx.τ).loc Cert.DownCtx.main_arg0)
      ∧ r.2.mem ((c.tc : Thread Cert.DownCtx.nD Cert.DownCtx.τ).loc Cert.DownCtx.main_arg1) = m ((c.tc : Thread Cert.DownCtx.nD Cert.DownCtx.τ).loc Cert.DownCtx.main_arg1)
      ∧ r.2.mem ((c.tc : Thread Cert.DownCtx.nD Cert.DownCtx.τ).loc Cert.DownCtx.main_arg2) = m ((c.tc : Thread Cert.DownCtx.nD Cert.DownCtx.τ).loc Cert.DownCtx.main_arg2)
      ∧ r.2.mem ((c.tc : Thread Cert.DownCtx.nD Cert.DownCtx.τ).loc Cert.DownCtx.main_arg3) = m ((c.tc : Thread Cert.DownCtx.nD Cert.DownCtx.τ).loc Cert.DownCtx.main_arg3))
      ∧ r.2.sem = fun _ => 0)

def quiescent_DownCtxIdeal [hDownCtxIdeal : Cert.DownCtxIdeal.Facts] : Prop :=
  ∀ (m : (ℓ : Loc Cert.DownCtxIdeal.nD Cert.DownCtxIdeal.τ Cert.DownCtxIdeal.sig) → Buf (Elt Ideal) ℓ) (g : Dev Cert.DownCtxIdeal.nD → PrngReg), Pre_DownCtxIdeal m →
    θ_run (Cert.DownCtxIdeal.defs (F := Ideal)) (onTc (τ := Cert.DownCtxIdeal.τ) (Cert.DownCtxIdeal.main (F := Ideal))) ⟨m, fun _ => 0, g⟩ (fun r => (∀ c : Dev Cert.DownCtxIdeal.nD,
      r.2.mem ((c.tc : Thread Cert.DownCtxIdeal.nD Cert.DownCtxIdeal.τ).loc Cert.DownCtxIdeal.main_arg0) = m ((c.tc : Thread Cert.DownCtxIdeal.nD Cert.DownCtxIdeal.τ).loc Cert.DownCtxIdeal.main_arg0)
      ∧ r.2.mem ((c.tc : Thread Cert.DownCtxIdeal.nD Cert.DownCtxIdeal.τ).loc Cert.DownCtxIdeal.main_arg1) = m ((c.tc : Thread Cert.DownCtxIdeal.nD Cert.DownCtxIdeal.τ).loc Cert.DownCtxIdeal.main_arg1)
      ∧ r.2.mem ((c.tc : Thread Cert.DownCtxIdeal.nD Cert.DownCtxIdeal.τ).loc Cert.DownCtxIdeal.main_arg2) = m ((c.tc : Thread Cert.DownCtxIdeal.nD Cert.DownCtxIdeal.τ).loc Cert.DownCtxIdeal.main_arg2)
      ∧ r.2.mem ((c.tc : Thread Cert.DownCtxIdeal.nD Cert.DownCtxIdeal.τ).loc Cert.DownCtxIdeal.main_arg3) = m ((c.tc : Thread Cert.DownCtxIdeal.nD Cert.DownCtxIdeal.τ).loc Cert.DownCtxIdeal.main_arg3))
      ∧ r.2.sem = fun _ => 0)

def quiescent_RefDownCtxIdeal [hRefDownCtxIdeal : Cert.RefDownCtxIdeal.Facts] : Prop :=
  ∀ (m : (ℓ : Loc Cert.RefDownCtxIdeal.nD Cert.RefDownCtxIdeal.τ Cert.RefDownCtxIdeal.sig) → Buf (Elt Ideal) ℓ) (g : Dev Cert.RefDownCtxIdeal.nD → PrngReg), Pre_RefDownCtxIdeal m →
    θ_run (Cert.RefDownCtxIdeal.defs (F := Ideal)) (onTc (τ := Cert.RefDownCtxIdeal.τ) (Cert.RefDownCtxIdeal.main (F := Ideal))) ⟨m, fun _ => 0, g⟩ (fun r => (∀ c : Dev Cert.RefDownCtxIdeal.nD,
      r.2.mem ((c.tc : Thread Cert.RefDownCtxIdeal.nD Cert.RefDownCtxIdeal.τ).loc Cert.RefDownCtxIdeal.main_arg0) = m ((c.tc : Thread Cert.RefDownCtxIdeal.nD Cert.RefDownCtxIdeal.τ).loc Cert.RefDownCtxIdeal.main_arg0)
      ∧ r.2.mem ((c.tc : Thread Cert.RefDownCtxIdeal.nD Cert.RefDownCtxIdeal.τ).loc Cert.RefDownCtxIdeal.main_arg1) = m ((c.tc : Thread Cert.RefDownCtxIdeal.nD Cert.RefDownCtxIdeal.τ).loc Cert.RefDownCtxIdeal.main_arg1)
      ∧ r.2.mem ((c.tc : Thread Cert.RefDownCtxIdeal.nD Cert.RefDownCtxIdeal.τ).loc Cert.RefDownCtxIdeal.main_arg2) = m ((c.tc : Thread Cert.RefDownCtxIdeal.nD Cert.RefDownCtxIdeal.τ).loc Cert.RefDownCtxIdeal.main_arg2)
      ∧ r.2.mem ((c.tc : Thread Cert.RefDownCtxIdeal.nD Cert.RefDownCtxIdeal.τ).loc Cert.RefDownCtxIdeal.main_arg3) = m ((c.tc : Thread Cert.RefDownCtxIdeal.nD Cert.RefDownCtxIdeal.τ).loc Cert.RefDownCtxIdeal.main_arg3))
      ∧ r.2.sem = fun _ => 0)

def quiescent_Up2 [hUp2 : Cert.Up2.Facts] : Prop :=
  ∀ (m : (ℓ : Loc Cert.Up2.nD Cert.Up2.τ Cert.Up2.sig) → Buf (Elt Bits) ℓ) (g : Dev Cert.Up2.nD → PrngReg), Pre_Up2 m →
    θ_run (Cert.Up2.defs (F := Bits)) (onTc (τ := Cert.Up2.τ) (Cert.Up2.main (F := Bits))) ⟨m, fun _ => 0, g⟩ (fun r => (∀ c : Dev Cert.Up2.nD,
      r.2.mem ((c.tc : Thread Cert.Up2.nD Cert.Up2.τ).loc Cert.Up2.main_arg0) = m ((c.tc : Thread Cert.Up2.nD Cert.Up2.τ).loc Cert.Up2.main_arg0)
      ∧ r.2.mem ((c.tc : Thread Cert.Up2.nD Cert.Up2.τ).loc Cert.Up2.main_arg1) = m ((c.tc : Thread Cert.Up2.nD Cert.Up2.τ).loc Cert.Up2.main_arg1)
      ∧ r.2.mem ((c.tc : Thread Cert.Up2.nD Cert.Up2.τ).loc Cert.Up2.main_arg2) = m ((c.tc : Thread Cert.Up2.nD Cert.Up2.τ).loc Cert.Up2.main_arg2)
      ∧ r.2.mem ((c.tc : Thread Cert.Up2.nD Cert.Up2.τ).loc Cert.Up2.main_arg3) = m ((c.tc : Thread Cert.Up2.nD Cert.Up2.τ).loc Cert.Up2.main_arg3))
      ∧ r.2.sem = fun _ => 0)

def quiescent_Up2Ideal [hUp2Ideal : Cert.Up2Ideal.Facts] : Prop :=
  ∀ (m : (ℓ : Loc Cert.Up2Ideal.nD Cert.Up2Ideal.τ Cert.Up2Ideal.sig) → Buf (Elt Ideal) ℓ) (g : Dev Cert.Up2Ideal.nD → PrngReg), Pre_Up2Ideal m →
    θ_run (Cert.Up2Ideal.defs (F := Ideal)) (onTc (τ := Cert.Up2Ideal.τ) (Cert.Up2Ideal.main (F := Ideal))) ⟨m, fun _ => 0, g⟩ (fun r => (∀ c : Dev Cert.Up2Ideal.nD,
      r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
      ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1)
      ∧ r.2.mem ((c.tc : Thread Cert.Up2Ideal.nD Cert.Up2Ideal.τ).loc Cert.Up2Ideal.main_arg2) = m ((c.tc : Thread Cert.Up2Ideal.nD Cert.Up2Ideal.τ).loc Cert.Up2Ideal.main_arg2)
      ∧ r.2.mem ((c.tc : Thread Cert.Up2Ideal.nD Cert.Up2Ideal.τ).loc Cert.Up2Ideal.main_arg3) = m ((c.tc : Thread Cert.Up2Ideal.nD Cert.Up2Ideal.τ).loc Cert.Up2Ideal.main_arg3))
      ∧ r.2.sem = fun _ => 0)

def quiescent_Up2Ideal_pre_finite_up [hUp2Ideal : Cert.Up2Ideal.Facts] [hPre_finite_up : Cert.Pre_finite_up.Facts] : Prop :=
  ∀ (m : (ℓ : Loc Cert.Up2Ideal.nD Cert.Up2Ideal.τ Cert.Up2Ideal.sig) → Buf (Elt Ideal) ℓ) (g : Dev Cert.Up2Ideal.nD → PrngReg), Pre_Up2Ideal_finite_up m →
    θ_run (Cert.Up2Ideal.defs (F := Ideal)) (onTc (τ := Cert.Up2Ideal.τ) (Cert.Up2Ideal.main (F := Ideal))) ⟨m, fun _ => 0, g⟩ (fun r => (∀ c : Dev Cert.Up2Ideal.nD,
      r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
      ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1)
      ∧ r.2.mem ((c.tc : Thread Cert.Up2Ideal.nD Cert.Up2Ideal.τ).loc Cert.Up2Ideal.main_arg2) = m ((c.tc : Thread Cert.Up2Ideal.nD Cert.Up2Ideal.τ).loc Cert.Up2Ideal.main_arg2)
      ∧ r.2.mem ((c.tc : Thread Cert.Up2Ideal.nD Cert.Up2Ideal.τ).loc Cert.Up2Ideal.main_arg3) = m ((c.tc : Thread Cert.Up2Ideal.nD Cert.Up2Ideal.τ).loc Cert.Up2Ideal.main_arg3))
      ∧ r.2.sem = fun _ => 0)

def quiescent_RefUp2Ideal [hRefUp2Ideal : Cert.RefUp2Ideal.Facts] : Prop :=
  ∀ (m : (ℓ : Loc Cert.RefUp2Ideal.nD Cert.RefUp2Ideal.τ Cert.RefUp2Ideal.sig) → Buf (Elt Ideal) ℓ) (g : Dev Cert.RefUp2Ideal.nD → PrngReg), Pre_RefUp2Ideal m →
    θ_run (Cert.RefUp2Ideal.defs (F := Ideal)) (onTc (τ := Cert.RefUp2Ideal.τ) (Cert.RefUp2Ideal.main (F := Ideal))) ⟨m, fun _ => 0, g⟩ (fun r => (∀ c : Dev Cert.RefUp2Ideal.nD,
      r.2.mem ((c.tc : Thread Cert.RefUp2Ideal.nD Cert.RefUp2Ideal.τ).loc Cert.RefUp2Ideal.main_arg0) = m ((c.tc : Thread Cert.RefUp2Ideal.nD Cert.RefUp2Ideal.τ).loc Cert.RefUp2Ideal.main_arg0)
      ∧ r.2.mem ((c.tc : Thread Cert.RefUp2Ideal.nD Cert.RefUp2Ideal.τ).loc Cert.RefUp2Ideal.main_arg1) = m ((c.tc : Thread Cert.RefUp2Ideal.nD Cert.RefUp2Ideal.τ).loc Cert.RefUp2Ideal.main_arg1)
      ∧ r.2.mem ((c.tc : Thread Cert.RefUp2Ideal.nD Cert.RefUp2Ideal.τ).loc Cert.RefUp2Ideal.main_arg2) = m ((c.tc : Thread Cert.RefUp2Ideal.nD Cert.RefUp2Ideal.τ).loc Cert.RefUp2Ideal.main_arg2)
      ∧ r.2.mem ((c.tc : Thread Cert.RefUp2Ideal.nD Cert.RefUp2Ideal.τ).loc Cert.RefUp2Ideal.main_arg3) = m ((c.tc : Thread Cert.RefUp2Ideal.nD Cert.RefUp2Ideal.τ).loc Cert.RefUp2Ideal.main_arg3))
      ∧ r.2.sem = fun _ => 0)

def quiescent_RefUp2Ideal_pre_finite_up [hRefUp2Ideal : Cert.RefUp2Ideal.Facts] [hPre_finite_up : Cert.Pre_finite_up.Facts] : Prop :=
  ∀ (m : (ℓ : Loc Cert.RefUp2Ideal.nD Cert.RefUp2Ideal.τ Cert.RefUp2Ideal.sig) → Buf (Elt Ideal) ℓ) (g : Dev Cert.RefUp2Ideal.nD → PrngReg), Pre_RefUp2Ideal_finite_up m →
    θ_run (Cert.RefUp2Ideal.defs (F := Ideal)) (onTc (τ := Cert.RefUp2Ideal.τ) (Cert.RefUp2Ideal.main (F := Ideal))) ⟨m, fun _ => 0, g⟩ (fun r => (∀ c : Dev Cert.RefUp2Ideal.nD,
      r.2.mem ((c.tc : Thread Cert.RefUp2Ideal.nD Cert.RefUp2Ideal.τ).loc Cert.RefUp2Ideal.main_arg0) = m ((c.tc : Thread Cert.RefUp2Ideal.nD Cert.RefUp2Ideal.τ).loc Cert.RefUp2Ideal.main_arg0)
      ∧ r.2.mem ((c.tc : Thread Cert.RefUp2Ideal.nD Cert.RefUp2Ideal.τ).loc Cert.RefUp2Ideal.main_arg1) = m ((c.tc : Thread Cert.RefUp2Ideal.nD Cert.RefUp2Ideal.τ).loc Cert.RefUp2Ideal.main_arg1)
      ∧ r.2.mem ((c.tc : Thread Cert.RefUp2Ideal.nD Cert.RefUp2Ideal.τ).loc Cert.RefUp2Ideal.main_arg2) = m ((c.tc : Thread Cert.RefUp2Ideal.nD Cert.RefUp2Ideal.τ).loc Cert.RefUp2Ideal.main_arg2)
      ∧ r.2.mem ((c.tc : Thread Cert.RefUp2Ideal.nD Cert.RefUp2Ideal.τ).loc Cert.RefUp2Ideal.main_arg3) = m ((c.tc : Thread Cert.RefUp2Ideal.nD Cert.RefUp2Ideal.τ).loc Cert.RefUp2Ideal.main_arg3))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1)
      ∧ r.2.mem ((c.tc : Thread Cert.Up0.nD Cert.Up0.τ).loc Cert.Up0.main_arg2) = m ((c.tc : Thread Cert.Up0.nD Cert.Up0.τ).loc Cert.Up0.main_arg2)
      ∧ r.2.mem ((c.tc : Thread Cert.Up0.nD Cert.Up0.τ).loc Cert.Up0.main_arg3) = m ((c.tc : Thread Cert.Up0.nD Cert.Up0.τ).loc Cert.Up0.main_arg3))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
      ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2)
      ∧ r.2.mem ((c.tc : Thread Cert.Up0Ideal.nD Cert.Up0Ideal.τ).loc Cert.Up0Ideal.main_arg3) = m ((c.tc : Thread Cert.Up0Ideal.nD Cert.Up0Ideal.τ).loc Cert.Up0Ideal.main_arg3))
      ∧ r.2.sem = fun _ => 0)

def quiescent_Up0Ideal_pre_finite_up [hUp0Ideal : Cert.Up0Ideal.Facts] [hPre_finite_up : Cert.Pre_finite_up.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal_finite_up m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
      ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2)
      ∧ r.2.mem ((c.tc : Thread Cert.Up0Ideal.nD Cert.Up0Ideal.τ).loc Cert.Up0Ideal.main_arg3) = m ((c.tc : Thread Cert.Up0Ideal.nD Cert.Up0Ideal.τ).loc Cert.Up0Ideal.main_arg3))
      ∧ r.2.sem = fun _ => 0)

def quiescent_RefUp0Ideal [hRefUp0Ideal : Cert.RefUp0Ideal.Facts] : Prop :=
  ∀ (m : (ℓ : Loc Cert.RefUp0Ideal.nD Cert.RefUp0Ideal.τ Cert.RefUp0Ideal.sig) → Buf (Elt Ideal) ℓ) (g : Dev Cert.RefUp0Ideal.nD → PrngReg), Pre_RefUp0Ideal m →
    θ_run (Cert.RefUp0Ideal.defs (F := Ideal)) (onTc (τ := Cert.RefUp0Ideal.τ) (Cert.RefUp0Ideal.main (F := Ideal))) ⟨m, fun _ => 0, g⟩ (fun r => (∀ c : Dev Cert.RefUp0Ideal.nD,
      r.2.mem ((c.tc : Thread Cert.RefUp0Ideal.nD Cert.RefUp0Ideal.τ).loc Cert.RefUp0Ideal.main_arg0) = m ((c.tc : Thread Cert.RefUp0Ideal.nD Cert.RefUp0Ideal.τ).loc Cert.RefUp0Ideal.main_arg0)
      ∧ r.2.mem ((c.tc : Thread Cert.RefUp0Ideal.nD Cert.RefUp0Ideal.τ).loc Cert.RefUp0Ideal.main_arg1) = m ((c.tc : Thread Cert.RefUp0Ideal.nD Cert.RefUp0Ideal.τ).loc Cert.RefUp0Ideal.main_arg1)
      ∧ r.2.mem ((c.tc : Thread Cert.RefUp0Ideal.nD Cert.RefUp0Ideal.τ).loc Cert.RefUp0Ideal.main_arg2) = m ((c.tc : Thread Cert.RefUp0Ideal.nD Cert.RefUp0Ideal.τ).loc Cert.RefUp0Ideal.main_arg2)
      ∧ r.2.mem ((c.tc : Thread Cert.RefUp0Ideal.nD Cert.RefUp0Ideal.τ).loc Cert.RefUp0Ideal.main_arg3) = m ((c.tc : Thread Cert.RefUp0Ideal.nD Cert.RefUp0Ideal.τ).loc Cert.RefUp0Ideal.main_arg3))
      ∧ r.2.sem = fun _ => 0)

def quiescent_RefUp0Ideal_pre_finite_up [hRefUp0Ideal : Cert.RefUp0Ideal.Facts] [hPre_finite_up : Cert.Pre_finite_up.Facts] : Prop :=
  ∀ (m : (ℓ : Loc Cert.RefUp0Ideal.nD Cert.RefUp0Ideal.τ Cert.RefUp0Ideal.sig) → Buf (Elt Ideal) ℓ) (g : Dev Cert.RefUp0Ideal.nD → PrngReg), Pre_RefUp0Ideal_finite_up m →
    θ_run (Cert.RefUp0Ideal.defs (F := Ideal)) (onTc (τ := Cert.RefUp0Ideal.τ) (Cert.RefUp0Ideal.main (F := Ideal))) ⟨m, fun _ => 0, g⟩ (fun r => (∀ c : Dev Cert.RefUp0Ideal.nD,
      r.2.mem ((c.tc : Thread Cert.RefUp0Ideal.nD Cert.RefUp0Ideal.τ).loc Cert.RefUp0Ideal.main_arg0) = m ((c.tc : Thread Cert.RefUp0Ideal.nD Cert.RefUp0Ideal.τ).loc Cert.RefUp0Ideal.main_arg0)
      ∧ r.2.mem ((c.tc : Thread Cert.RefUp0Ideal.nD Cert.RefUp0Ideal.τ).loc Cert.RefUp0Ideal.main_arg1) = m ((c.tc : Thread Cert.RefUp0Ideal.nD Cert.RefUp0Ideal.τ).loc Cert.RefUp0Ideal.main_arg1)
      ∧ r.2.mem ((c.tc : Thread Cert.RefUp0Ideal.nD Cert.RefUp0Ideal.τ).loc Cert.RefUp0Ideal.main_arg2) = m ((c.tc : Thread Cert.RefUp0Ideal.nD Cert.RefUp0Ideal.τ).loc Cert.RefUp0Ideal.main_arg2)
      ∧ r.2.mem ((c.tc : Thread Cert.RefUp0Ideal.nD Cert.RefUp0Ideal.τ).loc Cert.RefUp0Ideal.main_arg3) = m ((c.tc : Thread Cert.RefUp0Ideal.nD Cert.RefUp0Ideal.τ).loc Cert.RefUp0Ideal.main_arg3))
      ∧ r.2.sem = fun _ => 0)

def quiescent_UpCtx [hUpCtx : Cert.UpCtx.Facts] : Prop :=
  ∀ (m : (ℓ : Loc Cert.UpCtx.nD Cert.UpCtx.τ Cert.UpCtx.sig) → Buf (Elt Bits) ℓ) (g : Dev Cert.UpCtx.nD → PrngReg), Pre_UpCtx m →
    θ_run (Cert.UpCtx.defs (F := Bits)) (onTc (τ := Cert.UpCtx.τ) (Cert.UpCtx.main (F := Bits))) ⟨m, fun _ => 0, g⟩ (fun r => (∀ c : Dev Cert.UpCtx.nD,
      r.2.mem ((c.tc : Thread Cert.UpCtx.nD Cert.UpCtx.τ).loc Cert.UpCtx.main_arg0) = m ((c.tc : Thread Cert.UpCtx.nD Cert.UpCtx.τ).loc Cert.UpCtx.main_arg0)
      ∧ r.2.mem ((c.tc : Thread Cert.UpCtx.nD Cert.UpCtx.τ).loc Cert.UpCtx.main_arg1) = m ((c.tc : Thread Cert.UpCtx.nD Cert.UpCtx.τ).loc Cert.UpCtx.main_arg1)
      ∧ r.2.mem ((c.tc : Thread Cert.UpCtx.nD Cert.UpCtx.τ).loc Cert.UpCtx.main_arg2) = m ((c.tc : Thread Cert.UpCtx.nD Cert.UpCtx.τ).loc Cert.UpCtx.main_arg2)
      ∧ r.2.mem ((c.tc : Thread Cert.UpCtx.nD Cert.UpCtx.τ).loc Cert.UpCtx.main_arg3) = m ((c.tc : Thread Cert.UpCtx.nD Cert.UpCtx.τ).loc Cert.UpCtx.main_arg3))
      ∧ r.2.sem = fun _ => 0)

def quiescent_UpCtxIdeal [hUpCtxIdeal : Cert.UpCtxIdeal.Facts] : Prop :=
  ∀ (m : (ℓ : Loc Cert.UpCtxIdeal.nD Cert.UpCtxIdeal.τ Cert.UpCtxIdeal.sig) → Buf (Elt Ideal) ℓ) (g : Dev Cert.UpCtxIdeal.nD → PrngReg), Pre_UpCtxIdeal m →
    θ_run (Cert.UpCtxIdeal.defs (F := Ideal)) (onTc (τ := Cert.UpCtxIdeal.τ) (Cert.UpCtxIdeal.main (F := Ideal))) ⟨m, fun _ => 0, g⟩ (fun r => (∀ c : Dev Cert.UpCtxIdeal.nD,
      r.2.mem ((c.tc : Thread Cert.UpCtxIdeal.nD Cert.UpCtxIdeal.τ).loc Cert.UpCtxIdeal.main_arg0) = m ((c.tc : Thread Cert.UpCtxIdeal.nD Cert.UpCtxIdeal.τ).loc Cert.UpCtxIdeal.main_arg0)
      ∧ r.2.mem ((c.tc : Thread Cert.UpCtxIdeal.nD Cert.UpCtxIdeal.τ).loc Cert.UpCtxIdeal.main_arg1) = m ((c.tc : Thread Cert.UpCtxIdeal.nD Cert.UpCtxIdeal.τ).loc Cert.UpCtxIdeal.main_arg1)
      ∧ r.2.mem ((c.tc : Thread Cert.UpCtxIdeal.nD Cert.UpCtxIdeal.τ).loc Cert.UpCtxIdeal.main_arg2) = m ((c.tc : Thread Cert.UpCtxIdeal.nD Cert.UpCtxIdeal.τ).loc Cert.UpCtxIdeal.main_arg2)
      ∧ r.2.mem ((c.tc : Thread Cert.UpCtxIdeal.nD Cert.UpCtxIdeal.τ).loc Cert.UpCtxIdeal.main_arg3) = m ((c.tc : Thread Cert.UpCtxIdeal.nD Cert.UpCtxIdeal.τ).loc Cert.UpCtxIdeal.main_arg3))
      ∧ r.2.sem = fun _ => 0)

def quiescent_UpCtxIdeal_pre_finite_up_ctx [hUpCtxIdeal : Cert.UpCtxIdeal.Facts] [hPre_finite_up_ctx : Cert.Pre_finite_up_ctx.Facts] : Prop :=
  ∀ (m : (ℓ : Loc Cert.UpCtxIdeal.nD Cert.UpCtxIdeal.τ Cert.UpCtxIdeal.sig) → Buf (Elt Ideal) ℓ) (g : Dev Cert.UpCtxIdeal.nD → PrngReg), Pre_UpCtxIdeal_finite_up_ctx m →
    θ_run (Cert.UpCtxIdeal.defs (F := Ideal)) (onTc (τ := Cert.UpCtxIdeal.τ) (Cert.UpCtxIdeal.main (F := Ideal))) ⟨m, fun _ => 0, g⟩ (fun r => (∀ c : Dev Cert.UpCtxIdeal.nD,
      r.2.mem ((c.tc : Thread Cert.UpCtxIdeal.nD Cert.UpCtxIdeal.τ).loc Cert.UpCtxIdeal.main_arg0) = m ((c.tc : Thread Cert.UpCtxIdeal.nD Cert.UpCtxIdeal.τ).loc Cert.UpCtxIdeal.main_arg0)
      ∧ r.2.mem ((c.tc : Thread Cert.UpCtxIdeal.nD Cert.UpCtxIdeal.τ).loc Cert.UpCtxIdeal.main_arg1) = m ((c.tc : Thread Cert.UpCtxIdeal.nD Cert.UpCtxIdeal.τ).loc Cert.UpCtxIdeal.main_arg1)
      ∧ r.2.mem ((c.tc : Thread Cert.UpCtxIdeal.nD Cert.UpCtxIdeal.τ).loc Cert.UpCtxIdeal.main_arg2) = m ((c.tc : Thread Cert.UpCtxIdeal.nD Cert.UpCtxIdeal.τ).loc Cert.UpCtxIdeal.main_arg2)
      ∧ r.2.mem ((c.tc : Thread Cert.UpCtxIdeal.nD Cert.UpCtxIdeal.τ).loc Cert.UpCtxIdeal.main_arg3) = m ((c.tc : Thread Cert.UpCtxIdeal.nD Cert.UpCtxIdeal.τ).loc Cert.UpCtxIdeal.main_arg3))
      ∧ r.2.sem = fun _ => 0)

def quiescent_RefUpCtxIdeal [hRefUpCtxIdeal : Cert.RefUpCtxIdeal.Facts] : Prop :=
  ∀ (m : (ℓ : Loc Cert.RefUpCtxIdeal.nD Cert.RefUpCtxIdeal.τ Cert.RefUpCtxIdeal.sig) → Buf (Elt Ideal) ℓ) (g : Dev Cert.RefUpCtxIdeal.nD → PrngReg), Pre_RefUpCtxIdeal m →
    θ_run (Cert.RefUpCtxIdeal.defs (F := Ideal)) (onTc (τ := Cert.RefUpCtxIdeal.τ) (Cert.RefUpCtxIdeal.main (F := Ideal))) ⟨m, fun _ => 0, g⟩ (fun r => (∀ c : Dev Cert.RefUpCtxIdeal.nD,
      r.2.mem ((c.tc : Thread Cert.RefUpCtxIdeal.nD Cert.RefUpCtxIdeal.τ).loc Cert.RefUpCtxIdeal.main_arg0) = m ((c.tc : Thread Cert.RefUpCtxIdeal.nD Cert.RefUpCtxIdeal.τ).loc Cert.RefUpCtxIdeal.main_arg0)
      ∧ r.2.mem ((c.tc : Thread Cert.RefUpCtxIdeal.nD Cert.RefUpCtxIdeal.τ).loc Cert.RefUpCtxIdeal.main_arg1) = m ((c.tc : Thread Cert.RefUpCtxIdeal.nD Cert.RefUpCtxIdeal.τ).loc Cert.RefUpCtxIdeal.main_arg1)
      ∧ r.2.mem ((c.tc : Thread Cert.RefUpCtxIdeal.nD Cert.RefUpCtxIdeal.τ).loc Cert.RefUpCtxIdeal.main_arg2) = m ((c.tc : Thread Cert.RefUpCtxIdeal.nD Cert.RefUpCtxIdeal.τ).loc Cert.RefUpCtxIdeal.main_arg2)
      ∧ r.2.mem ((c.tc : Thread Cert.RefUpCtxIdeal.nD Cert.RefUpCtxIdeal.τ).loc Cert.RefUpCtxIdeal.main_arg3) = m ((c.tc : Thread Cert.RefUpCtxIdeal.nD Cert.RefUpCtxIdeal.τ).loc Cert.RefUpCtxIdeal.main_arg3))
      ∧ r.2.sem = fun _ => 0)

def quiescent_RefUpCtxIdeal_pre_finite_up_ctx [hRefUpCtxIdeal : Cert.RefUpCtxIdeal.Facts] [hPre_finite_up_ctx : Cert.Pre_finite_up_ctx.Facts] : Prop :=
  ∀ (m : (ℓ : Loc Cert.RefUpCtxIdeal.nD Cert.RefUpCtxIdeal.τ Cert.RefUpCtxIdeal.sig) → Buf (Elt Ideal) ℓ) (g : Dev Cert.RefUpCtxIdeal.nD → PrngReg), Pre_RefUpCtxIdeal_finite_up_ctx m →
    θ_run (Cert.RefUpCtxIdeal.defs (F := Ideal)) (onTc (τ := Cert.RefUpCtxIdeal.τ) (Cert.RefUpCtxIdeal.main (F := Ideal))) ⟨m, fun _ => 0, g⟩ (fun r => (∀ c : Dev Cert.RefUpCtxIdeal.nD,
      r.2.mem ((c.tc : Thread Cert.RefUpCtxIdeal.nD Cert.RefUpCtxIdeal.τ).loc Cert.RefUpCtxIdeal.main_arg0) = m ((c.tc : Thread Cert.RefUpCtxIdeal.nD Cert.RefUpCtxIdeal.τ).loc Cert.RefUpCtxIdeal.main_arg0)
      ∧ r.2.mem ((c.tc : Thread Cert.RefUpCtxIdeal.nD Cert.RefUpCtxIdeal.τ).loc Cert.RefUpCtxIdeal.main_arg1) = m ((c.tc : Thread Cert.RefUpCtxIdeal.nD Cert.RefUpCtxIdeal.τ).loc Cert.RefUpCtxIdeal.main_arg1)
      ∧ r.2.mem ((c.tc : Thread Cert.RefUpCtxIdeal.nD Cert.RefUpCtxIdeal.τ).loc Cert.RefUpCtxIdeal.main_arg2) = m ((c.tc : Thread Cert.RefUpCtxIdeal.nD Cert.RefUpCtxIdeal.τ).loc Cert.RefUpCtxIdeal.main_arg2)
      ∧ r.2.mem ((c.tc : Thread Cert.RefUpCtxIdeal.nD Cert.RefUpCtxIdeal.τ).loc Cert.RefUpCtxIdeal.main_arg3) = m ((c.tc : Thread Cert.RefUpCtxIdeal.nD Cert.RefUpCtxIdeal.τ).loc Cert.RefUpCtxIdeal.main_arg3))
      ∧ r.2.sem = fun _ => 0)

def quiescent_DxCtx [hDxCtx : Cert.DxCtx.Facts] : Prop :=
  ∀ (m : (ℓ : Loc Cert.DxCtx.nD Cert.DxCtx.τ Cert.DxCtx.sig) → Buf (Elt Bits) ℓ) (g : Dev Cert.DxCtx.nD → PrngReg), Pre_DxCtx m →
    θ_run (Cert.DxCtx.defs (F := Bits)) (onTc (τ := Cert.DxCtx.τ) (Cert.DxCtx.main (F := Bits))) ⟨m, fun _ => 0, g⟩ (fun r => (∀ c : Dev Cert.DxCtx.nD,
      r.2.mem ((c.tc : Thread Cert.DxCtx.nD Cert.DxCtx.τ).loc Cert.DxCtx.main_arg0) = m ((c.tc : Thread Cert.DxCtx.nD Cert.DxCtx.τ).loc Cert.DxCtx.main_arg0)
      ∧ r.2.mem ((c.tc : Thread Cert.DxCtx.nD Cert.DxCtx.τ).loc Cert.DxCtx.main_arg1) = m ((c.tc : Thread Cert.DxCtx.nD Cert.DxCtx.τ).loc Cert.DxCtx.main_arg1)
      ∧ r.2.mem ((c.tc : Thread Cert.DxCtx.nD Cert.DxCtx.τ).loc Cert.DxCtx.main_arg2) = m ((c.tc : Thread Cert.DxCtx.nD Cert.DxCtx.τ).loc Cert.DxCtx.main_arg2)
      ∧ r.2.mem ((c.tc : Thread Cert.DxCtx.nD Cert.DxCtx.τ).loc Cert.DxCtx.main_arg3) = m ((c.tc : Thread Cert.DxCtx.nD Cert.DxCtx.τ).loc Cert.DxCtx.main_arg3)
      ∧ r.2.mem ((c.tc : Thread Cert.DxCtx.nD Cert.DxCtx.τ).loc Cert.DxCtx.main_arg4) = m ((c.tc : Thread Cert.DxCtx.nD Cert.DxCtx.τ).loc Cert.DxCtx.main_arg4)
      ∧ r.2.mem ((c.tc : Thread Cert.DxCtx.nD Cert.DxCtx.τ).loc Cert.DxCtx.main_arg5) = m ((c.tc : Thread Cert.DxCtx.nD Cert.DxCtx.τ).loc Cert.DxCtx.main_arg5))
      ∧ r.2.sem = fun _ => 0)

def quiescent_DxCtxIdeal [hDxCtxIdeal : Cert.DxCtxIdeal.Facts] : Prop :=
  ∀ (m : (ℓ : Loc Cert.DxCtxIdeal.nD Cert.DxCtxIdeal.τ Cert.DxCtxIdeal.sig) → Buf (Elt Ideal) ℓ) (g : Dev Cert.DxCtxIdeal.nD → PrngReg), Pre_DxCtxIdeal m →
    θ_run (Cert.DxCtxIdeal.defs (F := Ideal)) (onTc (τ := Cert.DxCtxIdeal.τ) (Cert.DxCtxIdeal.main (F := Ideal))) ⟨m, fun _ => 0, g⟩ (fun r => (∀ c : Dev Cert.DxCtxIdeal.nD,
      r.2.mem ((c.tc : Thread Cert.DxCtxIdeal.nD Cert.DxCtxIdeal.τ).loc Cert.DxCtxIdeal.main_arg0) = m ((c.tc : Thread Cert.DxCtxIdeal.nD Cert.DxCtxIdeal.τ).loc Cert.DxCtxIdeal.main_arg0)
      ∧ r.2.mem ((c.tc : Thread Cert.DxCtxIdeal.nD Cert.DxCtxIdeal.τ).loc Cert.DxCtxIdeal.main_arg1) = m ((c.tc : Thread Cert.DxCtxIdeal.nD Cert.DxCtxIdeal.τ).loc Cert.DxCtxIdeal.main_arg1)
      ∧ r.2.mem ((c.tc : Thread Cert.DxCtxIdeal.nD Cert.DxCtxIdeal.τ).loc Cert.DxCtxIdeal.main_arg2) = m ((c.tc : Thread Cert.DxCtxIdeal.nD Cert.DxCtxIdeal.τ).loc Cert.DxCtxIdeal.main_arg2)
      ∧ r.2.mem ((c.tc : Thread Cert.DxCtxIdeal.nD Cert.DxCtxIdeal.τ).loc Cert.DxCtxIdeal.main_arg3) = m ((c.tc : Thread Cert.DxCtxIdeal.nD Cert.DxCtxIdeal.τ).loc Cert.DxCtxIdeal.main_arg3)
      ∧ r.2.mem ((c.tc : Thread Cert.DxCtxIdeal.nD Cert.DxCtxIdeal.τ).loc Cert.DxCtxIdeal.main_arg4) = m ((c.tc : Thread Cert.DxCtxIdeal.nD Cert.DxCtxIdeal.τ).loc Cert.DxCtxIdeal.main_arg4)
      ∧ r.2.mem ((c.tc : Thread Cert.DxCtxIdeal.nD Cert.DxCtxIdeal.τ).loc Cert.DxCtxIdeal.main_arg5) = m ((c.tc : Thread Cert.DxCtxIdeal.nD Cert.DxCtxIdeal.τ).loc Cert.DxCtxIdeal.main_arg5))
      ∧ r.2.sem = fun _ => 0)

def quiescent_DxCtxIdeal_pre_finite_dx_ctx [hDxCtxIdeal : Cert.DxCtxIdeal.Facts] [hPre_finite_dx_ctx : Cert.Pre_finite_dx_ctx.Facts] : Prop :=
  ∀ (m : (ℓ : Loc Cert.DxCtxIdeal.nD Cert.DxCtxIdeal.τ Cert.DxCtxIdeal.sig) → Buf (Elt Ideal) ℓ) (g : Dev Cert.DxCtxIdeal.nD → PrngReg), Pre_DxCtxIdeal_finite_dx_ctx m →
    θ_run (Cert.DxCtxIdeal.defs (F := Ideal)) (onTc (τ := Cert.DxCtxIdeal.τ) (Cert.DxCtxIdeal.main (F := Ideal))) ⟨m, fun _ => 0, g⟩ (fun r => (∀ c : Dev Cert.DxCtxIdeal.nD,
      r.2.mem ((c.tc : Thread Cert.DxCtxIdeal.nD Cert.DxCtxIdeal.τ).loc Cert.DxCtxIdeal.main_arg0) = m ((c.tc : Thread Cert.DxCtxIdeal.nD Cert.DxCtxIdeal.τ).loc Cert.DxCtxIdeal.main_arg0)
      ∧ r.2.mem ((c.tc : Thread Cert.DxCtxIdeal.nD Cert.DxCtxIdeal.τ).loc Cert.DxCtxIdeal.main_arg1) = m ((c.tc : Thread Cert.DxCtxIdeal.nD Cert.DxCtxIdeal.τ).loc Cert.DxCtxIdeal.main_arg1)
      ∧ r.2.mem ((c.tc : Thread Cert.DxCtxIdeal.nD Cert.DxCtxIdeal.τ).loc Cert.DxCtxIdeal.main_arg2) = m ((c.tc : Thread Cert.DxCtxIdeal.nD Cert.DxCtxIdeal.τ).loc Cert.DxCtxIdeal.main_arg2)
      ∧ r.2.mem ((c.tc : Thread Cert.DxCtxIdeal.nD Cert.DxCtxIdeal.τ).loc Cert.DxCtxIdeal.main_arg3) = m ((c.tc : Thread Cert.DxCtxIdeal.nD Cert.DxCtxIdeal.τ).loc Cert.DxCtxIdeal.main_arg3)
      ∧ r.2.mem ((c.tc : Thread Cert.DxCtxIdeal.nD Cert.DxCtxIdeal.τ).loc Cert.DxCtxIdeal.main_arg4) = m ((c.tc : Thread Cert.DxCtxIdeal.nD Cert.DxCtxIdeal.τ).loc Cert.DxCtxIdeal.main_arg4)
      ∧ r.2.mem ((c.tc : Thread Cert.DxCtxIdeal.nD Cert.DxCtxIdeal.τ).loc Cert.DxCtxIdeal.main_arg5) = m ((c.tc : Thread Cert.DxCtxIdeal.nD Cert.DxCtxIdeal.τ).loc Cert.DxCtxIdeal.main_arg5))
      ∧ r.2.sem = fun _ => 0)

def quiescent_RefDxCtxIdeal [hRefDxCtxIdeal : Cert.RefDxCtxIdeal.Facts] : Prop :=
  ∀ (m : (ℓ : Loc Cert.RefDxCtxIdeal.nD Cert.RefDxCtxIdeal.τ Cert.RefDxCtxIdeal.sig) → Buf (Elt Ideal) ℓ) (g : Dev Cert.RefDxCtxIdeal.nD → PrngReg), Pre_RefDxCtxIdeal m →
    θ_run (Cert.RefDxCtxIdeal.defs (F := Ideal)) (onTc (τ := Cert.RefDxCtxIdeal.τ) (Cert.RefDxCtxIdeal.main (F := Ideal))) ⟨m, fun _ => 0, g⟩ (fun r => (∀ c : Dev Cert.RefDxCtxIdeal.nD,
      r.2.mem ((c.tc : Thread Cert.RefDxCtxIdeal.nD Cert.RefDxCtxIdeal.τ).loc Cert.RefDxCtxIdeal.main_arg0) = m ((c.tc : Thread Cert.RefDxCtxIdeal.nD Cert.RefDxCtxIdeal.τ).loc Cert.RefDxCtxIdeal.main_arg0)
      ∧ r.2.mem ((c.tc : Thread Cert.RefDxCtxIdeal.nD Cert.RefDxCtxIdeal.τ).loc Cert.RefDxCtxIdeal.main_arg1) = m ((c.tc : Thread Cert.RefDxCtxIdeal.nD Cert.RefDxCtxIdeal.τ).loc Cert.RefDxCtxIdeal.main_arg1)
      ∧ r.2.mem ((c.tc : Thread Cert.RefDxCtxIdeal.nD Cert.RefDxCtxIdeal.τ).loc Cert.RefDxCtxIdeal.main_arg2) = m ((c.tc : Thread Cert.RefDxCtxIdeal.nD Cert.RefDxCtxIdeal.τ).loc Cert.RefDxCtxIdeal.main_arg2)
      ∧ r.2.mem ((c.tc : Thread Cert.RefDxCtxIdeal.nD Cert.RefDxCtxIdeal.τ).loc Cert.RefDxCtxIdeal.main_arg3) = m ((c.tc : Thread Cert.RefDxCtxIdeal.nD Cert.RefDxCtxIdeal.τ).loc Cert.RefDxCtxIdeal.main_arg3)
      ∧ r.2.mem ((c.tc : Thread Cert.RefDxCtxIdeal.nD Cert.RefDxCtxIdeal.τ).loc Cert.RefDxCtxIdeal.main_arg4) = m ((c.tc : Thread Cert.RefDxCtxIdeal.nD Cert.RefDxCtxIdeal.τ).loc Cert.RefDxCtxIdeal.main_arg4)
      ∧ r.2.mem ((c.tc : Thread Cert.RefDxCtxIdeal.nD Cert.RefDxCtxIdeal.τ).loc Cert.RefDxCtxIdeal.main_arg5) = m ((c.tc : Thread Cert.RefDxCtxIdeal.nD Cert.RefDxCtxIdeal.τ).loc Cert.RefDxCtxIdeal.main_arg5))
      ∧ r.2.sem = fun _ => 0)

def quiescent_RefDxCtxIdeal_pre_finite_dx_ctx [hRefDxCtxIdeal : Cert.RefDxCtxIdeal.Facts] [hPre_finite_dx_ctx : Cert.Pre_finite_dx_ctx.Facts] : Prop :=
  ∀ (m : (ℓ : Loc Cert.RefDxCtxIdeal.nD Cert.RefDxCtxIdeal.τ Cert.RefDxCtxIdeal.sig) → Buf (Elt Ideal) ℓ) (g : Dev Cert.RefDxCtxIdeal.nD → PrngReg), Pre_RefDxCtxIdeal_finite_dx_ctx m →
    θ_run (Cert.RefDxCtxIdeal.defs (F := Ideal)) (onTc (τ := Cert.RefDxCtxIdeal.τ) (Cert.RefDxCtxIdeal.main (F := Ideal))) ⟨m, fun _ => 0, g⟩ (fun r => (∀ c : Dev Cert.RefDxCtxIdeal.nD,
      r.2.mem ((c.tc : Thread Cert.RefDxCtxIdeal.nD Cert.RefDxCtxIdeal.τ).loc Cert.RefDxCtxIdeal.main_arg0) = m ((c.tc : Thread Cert.RefDxCtxIdeal.nD Cert.RefDxCtxIdeal.τ).loc Cert.RefDxCtxIdeal.main_arg0)
      ∧ r.2.mem ((c.tc : Thread Cert.RefDxCtxIdeal.nD Cert.RefDxCtxIdeal.τ).loc Cert.RefDxCtxIdeal.main_arg1) = m ((c.tc : Thread Cert.RefDxCtxIdeal.nD Cert.RefDxCtxIdeal.τ).loc Cert.RefDxCtxIdeal.main_arg1)
      ∧ r.2.mem ((c.tc : Thread Cert.RefDxCtxIdeal.nD Cert.RefDxCtxIdeal.τ).loc Cert.RefDxCtxIdeal.main_arg2) = m ((c.tc : Thread Cert.RefDxCtxIdeal.nD Cert.RefDxCtxIdeal.τ).loc Cert.RefDxCtxIdeal.main_arg2)
      ∧ r.2.mem ((c.tc : Thread Cert.RefDxCtxIdeal.nD Cert.RefDxCtxIdeal.τ).loc Cert.RefDxCtxIdeal.main_arg3) = m ((c.tc : Thread Cert.RefDxCtxIdeal.nD Cert.RefDxCtxIdeal.τ).loc Cert.RefDxCtxIdeal.main_arg3)
      ∧ r.2.mem ((c.tc : Thread Cert.RefDxCtxIdeal.nD Cert.RefDxCtxIdeal.τ).loc Cert.RefDxCtxIdeal.main_arg4) = m ((c.tc : Thread Cert.RefDxCtxIdeal.nD Cert.RefDxCtxIdeal.τ).loc Cert.RefDxCtxIdeal.main_arg4)
      ∧ r.2.mem ((c.tc : Thread Cert.RefDxCtxIdeal.nD Cert.RefDxCtxIdeal.τ).loc Cert.RefDxCtxIdeal.main_arg5) = m ((c.tc : Thread Cert.RefDxCtxIdeal.nD Cert.RefDxCtxIdeal.τ).loc Cert.RefDxCtxIdeal.main_arg5))
      ∧ r.2.sem = fun _ => 0)

def preserves_Bwd_BwdIdeal : Prop :=
  True

def algebraic_BwdIdeal_RefBwdIdeal_pre_finite_bwd [hBwdIdeal : Cert.BwdIdeal.Facts] [hRefBwdIdeal : Cert.RefBwdIdeal.Facts] [hPre_finite_bwd : Cert.Pre_finite_bwd.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.RefBwdIdeal.nD Cert.RefBwdIdeal.τ Cert.RefBwdIdeal.sig) → Buf (Elt Ideal) ℓ) (g' : Dev Cert.RefBwdIdeal.nD → PrngReg), Pre_BwdIdeal_finite_bwd m →
    (∀ c : Dev Cert.BwdIdeal.nD,
      m' ((c.tc : Thread Cert.RefBwdIdeal.nD Cert.RefBwdIdeal.τ).loc Cert.RefBwdIdeal.main_arg0) = m ((c.tc : Thread Cert.BwdIdeal.nD Cert.BwdIdeal.τ).loc Cert.BwdIdeal.main_arg0)
      ∧ m' ((c.tc : Thread Cert.RefBwdIdeal.nD Cert.RefBwdIdeal.τ).loc Cert.RefBwdIdeal.main_arg1) = m ((c.tc : Thread Cert.BwdIdeal.nD Cert.BwdIdeal.τ).loc Cert.BwdIdeal.main_arg1)
      ∧ m' ((c.tc : Thread Cert.RefBwdIdeal.nD Cert.RefBwdIdeal.τ).loc Cert.RefBwdIdeal.main_arg2) = m ((c.tc : Thread Cert.BwdIdeal.nD Cert.BwdIdeal.τ).loc Cert.BwdIdeal.main_arg2)) →
    ∃ (v0 : (c : Dev Cert.BwdIdeal.nD) → Buf (Elt Ideal) ((c.tc : Thread Cert.BwdIdeal.nD Cert.BwdIdeal.τ).loc Cert.BwdIdeal.main_v56_0)) (v1 : (c : Dev Cert.BwdIdeal.nD) → Buf (Elt Ideal) ((c.tc : Thread Cert.BwdIdeal.nD Cert.BwdIdeal.τ).loc Cert.BwdIdeal.main_v56_1)) (v2 : (c : Dev Cert.BwdIdeal.nD) → Buf (Elt Ideal) ((c.tc : Thread Cert.BwdIdeal.nD Cert.BwdIdeal.τ).loc Cert.BwdIdeal.main_v56_2)) (v3 : (c : Dev Cert.BwdIdeal.nD) → Buf (Elt Ideal) ((c.tc : Thread Cert.BwdIdeal.nD Cert.BwdIdeal.τ).loc Cert.BwdIdeal.main_v56_3)) (v4 : (c : Dev Cert.BwdIdeal.nD) → Buf (Elt Ideal) ((c.tc : Thread Cert.BwdIdeal.nD Cert.BwdIdeal.τ).loc Cert.BwdIdeal.main_v56_4)) (v5 : (c : Dev Cert.BwdIdeal.nD) → Buf (Elt Ideal) ((c.tc : Thread Cert.BwdIdeal.nD Cert.BwdIdeal.τ).loc Cert.BwdIdeal.main_v56_5)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v56_0) = v0 c
          ∧ r.2.mem ((c.tc : Thread Cert.BwdIdeal.nD Cert.BwdIdeal.τ).loc Cert.BwdIdeal.main_v56_1) = v1 c
          ∧ r.2.mem ((c.tc : Thread Cert.BwdIdeal.nD Cert.BwdIdeal.τ).loc Cert.BwdIdeal.main_v56_2) = v2 c
          ∧ r.2.mem ((c.tc : Thread Cert.BwdIdeal.nD Cert.BwdIdeal.τ).loc Cert.BwdIdeal.main_v56_3) = v3 c
          ∧ r.2.mem ((c.tc : Thread Cert.BwdIdeal.nD Cert.BwdIdeal.τ).loc Cert.BwdIdeal.main_v56_4) = v4 c
          ∧ r.2.mem ((c.tc : Thread Cert.BwdIdeal.nD Cert.BwdIdeal.τ).loc Cert.BwdIdeal.main_v56_5) = v5 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2))
      ∧ θ_run (Cert.RefBwdIdeal.defs (F := Ideal)) (onTc (τ := Cert.RefBwdIdeal.τ) (Cert.RefBwdIdeal.main (F := Ideal))) ⟨m', fun _ => 0, g'⟩ (fun r => ∀ c : Dev Cert.RefBwdIdeal.nD,
          r.2.mem ((c.tc : Thread Cert.RefBwdIdeal.nD Cert.RefBwdIdeal.τ).loc Cert.RefBwdIdeal.main_v83) = v0 c
          ∧ r.2.mem ((c.tc : Thread Cert.RefBwdIdeal.nD Cert.RefBwdIdeal.τ).loc Cert.RefBwdIdeal.main_v84) = v1 c
          ∧ r.2.mem ((c.tc : Thread Cert.RefBwdIdeal.nD Cert.RefBwdIdeal.τ).loc Cert.RefBwdIdeal.main_v85) = v2 c
          ∧ r.2.mem ((c.tc : Thread Cert.RefBwdIdeal.nD Cert.RefBwdIdeal.τ).loc Cert.RefBwdIdeal.main_v88) = v3 c
          ∧ r.2.mem ((c.tc : Thread Cert.RefBwdIdeal.nD Cert.RefBwdIdeal.τ).loc Cert.RefBwdIdeal.main_v89) = v4 c
          ∧ r.2.mem ((c.tc : Thread Cert.RefBwdIdeal.nD Cert.RefBwdIdeal.τ).loc Cert.RefBwdIdeal.main_v90) = v5 c
          ∧ r.2.mem ((c.tc : Thread Cert.RefBwdIdeal.nD Cert.RefBwdIdeal.τ).loc Cert.RefBwdIdeal.main_arg0) = m' ((c.tc : Thread Cert.RefBwdIdeal.nD Cert.RefBwdIdeal.τ).loc Cert.RefBwdIdeal.main_arg0)
          ∧ r.2.mem ((c.tc : Thread Cert.RefBwdIdeal.nD Cert.RefBwdIdeal.τ).loc Cert.RefBwdIdeal.main_arg1) = m' ((c.tc : Thread Cert.RefBwdIdeal.nD Cert.RefBwdIdeal.τ).loc Cert.RefBwdIdeal.main_arg1)
          ∧ r.2.mem ((c.tc : Thread Cert.RefBwdIdeal.nD Cert.RefBwdIdeal.τ).loc Cert.RefBwdIdeal.main_arg2) = m' ((c.tc : Thread Cert.RefBwdIdeal.nD Cert.RefBwdIdeal.τ).loc Cert.RefBwdIdeal.main_arg2))

def preserves_Fwd_FwdIdeal : Prop :=
  True

def preserves_Dwi_DwiIdeal : Prop :=
  True

def algebraic_DwiIdeal_RefDwiIdeal [hDwiIdeal : Cert.DwiIdeal.Facts] [hRefDwiIdeal : Cert.RefDwiIdeal.Facts] : Prop :=
  ∀ (m : (ℓ : Loc Cert.DwiIdeal.nD Cert.DwiIdeal.τ Cert.DwiIdeal.sig) → Buf (Elt Ideal) ℓ) (g : Dev Cert.DwiIdeal.nD → PrngReg)
    (m' : (ℓ : Loc Cert.RefDwiIdeal.nD Cert.RefDwiIdeal.τ Cert.RefDwiIdeal.sig) → Buf (Elt Ideal) ℓ) (g' : Dev Cert.RefDwiIdeal.nD → PrngReg), Pre_DwiIdeal m →
    (∀ c : Dev Cert.DwiIdeal.nD,
      m' ((c.tc : Thread Cert.RefDwiIdeal.nD Cert.RefDwiIdeal.τ).loc Cert.RefDwiIdeal.main_arg0) = m ((c.tc : Thread Cert.DwiIdeal.nD Cert.DwiIdeal.τ).loc Cert.DwiIdeal.main_arg0)
      ∧ m' ((c.tc : Thread Cert.RefDwiIdeal.nD Cert.RefDwiIdeal.τ).loc Cert.RefDwiIdeal.main_arg1) = m ((c.tc : Thread Cert.DwiIdeal.nD Cert.DwiIdeal.τ).loc Cert.DwiIdeal.main_arg1)) →
    ∃ (v0 : (c : Dev Cert.DwiIdeal.nD) → Buf (Elt Ideal) ((c.tc : Thread Cert.DwiIdeal.nD Cert.DwiIdeal.τ).loc Cert.DwiIdeal.main_v0)),
      θ_run (Cert.DwiIdeal.defs (F := Ideal)) (onTc (τ := Cert.DwiIdeal.τ) (Cert.DwiIdeal.main (F := Ideal))) ⟨m, fun _ => 0, g⟩ (fun r => ∀ c : Dev Cert.DwiIdeal.nD,
          r.2.mem ((c.tc : Thread Cert.DwiIdeal.nD Cert.DwiIdeal.τ).loc Cert.DwiIdeal.main_v0) = v0 c
          ∧ r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
          ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1))
      ∧ θ_run (Cert.RefDwiIdeal.defs (F := Ideal)) (onTc (τ := Cert.RefDwiIdeal.τ) (Cert.RefDwiIdeal.main (F := Ideal))) ⟨m', fun _ => 0, g'⟩ (fun r => ∀ c : Dev Cert.RefDwiIdeal.nD,
          r.2.mem ((c.tc : Thread Cert.RefDwiIdeal.nD Cert.RefDwiIdeal.τ).loc Cert.RefDwiIdeal.main_v16) = v0 c
          ∧ r.2.mem ((c.tc : Thread Cert.RefDwiIdeal.nD Cert.RefDwiIdeal.τ).loc Cert.RefDwiIdeal.main_arg0) = m' ((c.tc : Thread Cert.RefDwiIdeal.nD Cert.RefDwiIdeal.τ).loc Cert.RefDwiIdeal.main_arg0)
          ∧ r.2.mem ((c.tc : Thread Cert.RefDwiIdeal.nD Cert.RefDwiIdeal.τ).loc Cert.RefDwiIdeal.main_arg1) = m' ((c.tc : Thread Cert.RefDwiIdeal.nD Cert.RefDwiIdeal.τ).loc Cert.RefDwiIdeal.main_arg1))

def preserves_Dwo_DwoIdeal : Prop :=
  True

def algebraic_DwoIdeal_RefDwoIdeal [hDwoIdeal : Cert.DwoIdeal.Facts] [hRefDwoIdeal : Cert.RefDwoIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.RefDwoIdeal.nD Cert.RefDwoIdeal.τ Cert.RefDwoIdeal.sig) → Buf (Elt Ideal) ℓ) (g' : Dev Cert.RefDwoIdeal.nD → PrngReg), Pre_DwoIdeal m →
    (∀ c : Dev Cert.DwoIdeal.nD,
      m' ((c.tc : Thread Cert.RefDwoIdeal.nD Cert.RefDwoIdeal.τ).loc Cert.RefDwoIdeal.main_arg0) = m ((c.tc : Thread Cert.DwoIdeal.nD Cert.DwoIdeal.τ).loc Cert.DwoIdeal.main_arg0)
      ∧ m' ((c.tc : Thread Cert.RefDwoIdeal.nD Cert.RefDwoIdeal.τ).loc Cert.RefDwoIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.RefDwoIdeal.defs (F := Ideal)) (onTc (τ := Cert.RefDwoIdeal.τ) (Cert.RefDwoIdeal.main (F := Ideal))) ⟨m', fun _ => 0, g'⟩ (fun r => ∀ c : Dev Cert.RefDwoIdeal.nD,
          r.2.mem ((c.tc : Thread Cert.RefDwoIdeal.nD Cert.RefDwoIdeal.τ).loc Cert.RefDwoIdeal.main_v6) = v0 c
          ∧ r.2.mem ((c.tc : Thread Cert.RefDwoIdeal.nD Cert.RefDwoIdeal.τ).loc Cert.RefDwoIdeal.main_arg0) = m' ((c.tc : Thread Cert.RefDwoIdeal.nD Cert.RefDwoIdeal.τ).loc Cert.RefDwoIdeal.main_arg0)
          ∧ r.2.mem ((c.tc : Thread Cert.RefDwoIdeal.nD Cert.RefDwoIdeal.τ).loc Cert.RefDwoIdeal.main_arg1) = m' ((c.tc : Thread Cert.RefDwoIdeal.nD Cert.RefDwoIdeal.τ).loc Cert.RefDwoIdeal.main_arg1))

def preserves_DwiCtx_DwiCtxIdeal : Prop :=
  True

def algebraic_DwiCtxIdeal_RefDwiCtxIdeal [hDwiCtxIdeal : Cert.DwiCtxIdeal.Facts] [hRefDwiCtxIdeal : Cert.RefDwiCtxIdeal.Facts] : Prop :=
  ∀ (m : (ℓ : Loc Cert.DwiCtxIdeal.nD Cert.DwiCtxIdeal.τ Cert.DwiCtxIdeal.sig) → Buf (Elt Ideal) ℓ) (g : Dev Cert.DwiCtxIdeal.nD → PrngReg)
    (m' : (ℓ : Loc Cert.RefDwiCtxIdeal.nD Cert.RefDwiCtxIdeal.τ Cert.RefDwiCtxIdeal.sig) → Buf (Elt Ideal) ℓ) (g' : Dev Cert.RefDwiCtxIdeal.nD → PrngReg), Pre_DwiCtxIdeal m →
    (∀ c : Dev Cert.DwiCtxIdeal.nD,
      m' ((c.tc : Thread Cert.RefDwiCtxIdeal.nD Cert.RefDwiCtxIdeal.τ).loc Cert.RefDwiCtxIdeal.main_arg0) = m ((c.tc : Thread Cert.DwiCtxIdeal.nD Cert.DwiCtxIdeal.τ).loc Cert.DwiCtxIdeal.main_arg0)
      ∧ m' ((c.tc : Thread Cert.RefDwiCtxIdeal.nD Cert.RefDwiCtxIdeal.τ).loc Cert.RefDwiCtxIdeal.main_arg1) = m ((c.tc : Thread Cert.DwiCtxIdeal.nD Cert.DwiCtxIdeal.τ).loc Cert.DwiCtxIdeal.main_arg1)) →
    ∃ (v0 : (c : Dev Cert.DwiCtxIdeal.nD) → Buf (Elt Ideal) ((c.tc : Thread Cert.DwiCtxIdeal.nD Cert.DwiCtxIdeal.τ).loc Cert.DwiCtxIdeal.main_v0)),
      θ_run (Cert.DwiCtxIdeal.defs (F := Ideal)) (onTc (τ := Cert.DwiCtxIdeal.τ) (Cert.DwiCtxIdeal.main (F := Ideal))) ⟨m, fun _ => 0, g⟩ (fun r => ∀ c : Dev Cert.DwiCtxIdeal.nD,
          r.2.mem ((c.tc : Thread Cert.DwiCtxIdeal.nD Cert.DwiCtxIdeal.τ).loc Cert.DwiCtxIdeal.main_v0) = v0 c
          ∧ r.2.mem ((c.tc : Thread Cert.DwiCtxIdeal.nD Cert.DwiCtxIdeal.τ).loc Cert.DwiCtxIdeal.main_arg0) = m ((c.tc : Thread Cert.DwiCtxIdeal.nD Cert.DwiCtxIdeal.τ).loc Cert.DwiCtxIdeal.main_arg0)
          ∧ r.2.mem ((c.tc : Thread Cert.DwiCtxIdeal.nD Cert.DwiCtxIdeal.τ).loc Cert.DwiCtxIdeal.main_arg1) = m ((c.tc : Thread Cert.DwiCtxIdeal.nD Cert.DwiCtxIdeal.τ).loc Cert.DwiCtxIdeal.main_arg1))
      ∧ θ_run (Cert.RefDwiCtxIdeal.defs (F := Ideal)) (onTc (τ := Cert.RefDwiCtxIdeal.τ) (Cert.RefDwiCtxIdeal.main (F := Ideal))) ⟨m', fun _ => 0, g'⟩ (fun r => ∀ c : Dev Cert.RefDwiCtxIdeal.nD,
          r.2.mem ((c.tc : Thread Cert.RefDwiCtxIdeal.nD Cert.RefDwiCtxIdeal.τ).loc Cert.RefDwiCtxIdeal.main_v16) = v0 c
          ∧ r.2.mem ((c.tc : Thread Cert.RefDwiCtxIdeal.nD Cert.RefDwiCtxIdeal.τ).loc Cert.RefDwiCtxIdeal.main_arg0) = m' ((c.tc : Thread Cert.RefDwiCtxIdeal.nD Cert.RefDwiCtxIdeal.τ).loc Cert.RefDwiCtxIdeal.main_arg0)
          ∧ r.2.mem ((c.tc : Thread Cert.RefDwiCtxIdeal.nD Cert.RefDwiCtxIdeal.τ).loc Cert.RefDwiCtxIdeal.main_arg1) = m' ((c.tc : Thread Cert.RefDwiCtxIdeal.nD Cert.RefDwiCtxIdeal.τ).loc Cert.RefDwiCtxIdeal.main_arg1))

def preserves_DwoCtx_DwoCtxIdeal : Prop :=
  True

def algebraic_DwoCtxIdeal_RefDwoCtxIdeal [hDwoCtxIdeal : Cert.DwoCtxIdeal.Facts] [hRefDwoCtxIdeal : Cert.RefDwoCtxIdeal.Facts] : Prop :=
  ∀ (m : (ℓ : Loc Cert.DwoCtxIdeal.nD Cert.DwoCtxIdeal.τ Cert.DwoCtxIdeal.sig) → Buf (Elt Ideal) ℓ) (g : Dev Cert.DwoCtxIdeal.nD → PrngReg)
    (m' : (ℓ : Loc Cert.RefDwoCtxIdeal.nD Cert.RefDwoCtxIdeal.τ Cert.RefDwoCtxIdeal.sig) → Buf (Elt Ideal) ℓ) (g' : Dev Cert.RefDwoCtxIdeal.nD → PrngReg), Pre_DwoCtxIdeal m →
    (∀ c : Dev Cert.DwoCtxIdeal.nD,
      m' ((c.tc : Thread Cert.RefDwoCtxIdeal.nD Cert.RefDwoCtxIdeal.τ).loc Cert.RefDwoCtxIdeal.main_arg0) = m ((c.tc : Thread Cert.DwoCtxIdeal.nD Cert.DwoCtxIdeal.τ).loc Cert.DwoCtxIdeal.main_arg0)
      ∧ m' ((c.tc : Thread Cert.RefDwoCtxIdeal.nD Cert.RefDwoCtxIdeal.τ).loc Cert.RefDwoCtxIdeal.main_arg1) = m ((c.tc : Thread Cert.DwoCtxIdeal.nD Cert.DwoCtxIdeal.τ).loc Cert.DwoCtxIdeal.main_arg1)) →
    ∃ (v0 : (c : Dev Cert.DwoCtxIdeal.nD) → Buf (Elt Ideal) ((c.tc : Thread Cert.DwoCtxIdeal.nD Cert.DwoCtxIdeal.τ).loc Cert.DwoCtxIdeal.main_v0)),
      θ_run (Cert.DwoCtxIdeal.defs (F := Ideal)) (onTc (τ := Cert.DwoCtxIdeal.τ) (Cert.DwoCtxIdeal.main (F := Ideal))) ⟨m, fun _ => 0, g⟩ (fun r => ∀ c : Dev Cert.DwoCtxIdeal.nD,
          r.2.mem ((c.tc : Thread Cert.DwoCtxIdeal.nD Cert.DwoCtxIdeal.τ).loc Cert.DwoCtxIdeal.main_v0) = v0 c
          ∧ r.2.mem ((c.tc : Thread Cert.DwoCtxIdeal.nD Cert.DwoCtxIdeal.τ).loc Cert.DwoCtxIdeal.main_arg0) = m ((c.tc : Thread Cert.DwoCtxIdeal.nD Cert.DwoCtxIdeal.τ).loc Cert.DwoCtxIdeal.main_arg0)
          ∧ r.2.mem ((c.tc : Thread Cert.DwoCtxIdeal.nD Cert.DwoCtxIdeal.τ).loc Cert.DwoCtxIdeal.main_arg1) = m ((c.tc : Thread Cert.DwoCtxIdeal.nD Cert.DwoCtxIdeal.τ).loc Cert.DwoCtxIdeal.main_arg1))
      ∧ θ_run (Cert.RefDwoCtxIdeal.defs (F := Ideal)) (onTc (τ := Cert.RefDwoCtxIdeal.τ) (Cert.RefDwoCtxIdeal.main (F := Ideal))) ⟨m', fun _ => 0, g'⟩ (fun r => ∀ c : Dev Cert.RefDwoCtxIdeal.nD,
          r.2.mem ((c.tc : Thread Cert.RefDwoCtxIdeal.nD Cert.RefDwoCtxIdeal.τ).loc Cert.RefDwoCtxIdeal.main_v6) = v0 c
          ∧ r.2.mem ((c.tc : Thread Cert.RefDwoCtxIdeal.nD Cert.RefDwoCtxIdeal.τ).loc Cert.RefDwoCtxIdeal.main_arg0) = m' ((c.tc : Thread Cert.RefDwoCtxIdeal.nD Cert.RefDwoCtxIdeal.τ).loc Cert.RefDwoCtxIdeal.main_arg0)
          ∧ r.2.mem ((c.tc : Thread Cert.RefDwoCtxIdeal.nD Cert.RefDwoCtxIdeal.τ).loc Cert.RefDwoCtxIdeal.main_arg1) = m' ((c.tc : Thread Cert.RefDwoCtxIdeal.nD Cert.RefDwoCtxIdeal.τ).loc Cert.RefDwoCtxIdeal.main_arg1))

def preserves_Dx2_Dx2Ideal : Prop :=
  True

def algebraic_Dx2Ideal_RefDx2Ideal_pre_finite_dx [hDx2Ideal : Cert.Dx2Ideal.Facts] [hRefDx2Ideal : Cert.RefDx2Ideal.Facts] [hPre_finite_dx : Cert.Pre_finite_dx.Facts] : Prop :=
  ∀ (m : (ℓ : Loc Cert.Dx2Ideal.nD Cert.Dx2Ideal.τ Cert.Dx2Ideal.sig) → Buf (Elt Ideal) ℓ) (g : Dev Cert.Dx2Ideal.nD → PrngReg)
    (m' : (ℓ : Loc Cert.RefDx2Ideal.nD Cert.RefDx2Ideal.τ Cert.RefDx2Ideal.sig) → Buf (Elt Ideal) ℓ) (g' : Dev Cert.RefDx2Ideal.nD → PrngReg), Pre_Dx2Ideal_finite_dx m →
    (∀ c : Dev Cert.Dx2Ideal.nD,
      m' ((c.tc : Thread Cert.RefDx2Ideal.nD Cert.RefDx2Ideal.τ).loc Cert.RefDx2Ideal.main_arg0) = m ((c.tc : Thread Cert.Dx2Ideal.nD Cert.Dx2Ideal.τ).loc Cert.Dx2Ideal.main_arg0)
      ∧ m' ((c.tc : Thread Cert.RefDx2Ideal.nD Cert.RefDx2Ideal.τ).loc Cert.RefDx2Ideal.main_arg1) = m ((c.tc : Thread Cert.Dx2Ideal.nD Cert.Dx2Ideal.τ).loc Cert.Dx2Ideal.main_arg1)
      ∧ m' ((c.tc : Thread Cert.RefDx2Ideal.nD Cert.RefDx2Ideal.τ).loc Cert.RefDx2Ideal.main_arg2) = m ((c.tc : Thread Cert.Dx2Ideal.nD Cert.Dx2Ideal.τ).loc Cert.Dx2Ideal.main_arg2)
      ∧ m' ((c.tc : Thread Cert.RefDx2Ideal.nD Cert.RefDx2Ideal.τ).loc Cert.RefDx2Ideal.main_arg3) = m ((c.tc : Thread Cert.Dx2Ideal.nD Cert.Dx2Ideal.τ).loc Cert.Dx2Ideal.main_arg3)
      ∧ m' ((c.tc : Thread Cert.RefDx2Ideal.nD Cert.RefDx2Ideal.τ).loc Cert.RefDx2Ideal.main_arg4) = m ((c.tc : Thread Cert.Dx2Ideal.nD Cert.Dx2Ideal.τ).loc Cert.Dx2Ideal.main_arg4)
      ∧ m' ((c.tc : Thread Cert.RefDx2Ideal.nD Cert.RefDx2Ideal.τ).loc Cert.RefDx2Ideal.main_arg5) = m ((c.tc : Thread Cert.Dx2Ideal.nD Cert.Dx2Ideal.τ).loc Cert.Dx2Ideal.main_arg5)) →
    ∃ (v0 : (c : Dev Cert.Dx2Ideal.nD) → Buf (Elt Ideal) ((c.tc : Thread Cert.Dx2Ideal.nD Cert.Dx2Ideal.τ).loc Cert.Dx2Ideal.main_v0_0)) (v1 : (c : Dev Cert.Dx2Ideal.nD) → Buf (Elt Ideal) ((c.tc : Thread Cert.Dx2Ideal.nD Cert.Dx2Ideal.τ).loc Cert.Dx2Ideal.main_v0_1)),
      θ_run (Cert.Dx2Ideal.defs (F := Ideal)) (onTc (τ := Cert.Dx2Ideal.τ) (Cert.Dx2Ideal.main (F := Ideal))) ⟨m, fun _ => 0, g⟩ (fun r => ∀ c : Dev Cert.Dx2Ideal.nD,
          r.2.mem ((c.tc : Thread Cert.Dx2Ideal.nD Cert.Dx2Ideal.τ).loc Cert.Dx2Ideal.main_v0_0) = v0 c
          ∧ r.2.mem ((c.tc : Thread Cert.Dx2Ideal.nD Cert.Dx2Ideal.τ).loc Cert.Dx2Ideal.main_v0_1) = v1 c
          ∧ r.2.mem ((c.tc : Thread Cert.Dx2Ideal.nD Cert.Dx2Ideal.τ).loc Cert.Dx2Ideal.main_arg0) = m ((c.tc : Thread Cert.Dx2Ideal.nD Cert.Dx2Ideal.τ).loc Cert.Dx2Ideal.main_arg0)
          ∧ r.2.mem ((c.tc : Thread Cert.Dx2Ideal.nD Cert.Dx2Ideal.τ).loc Cert.Dx2Ideal.main_arg1) = m ((c.tc : Thread Cert.Dx2Ideal.nD Cert.Dx2Ideal.τ).loc Cert.Dx2Ideal.main_arg1)
          ∧ r.2.mem ((c.tc : Thread Cert.Dx2Ideal.nD Cert.Dx2Ideal.τ).loc Cert.Dx2Ideal.main_arg2) = m ((c.tc : Thread Cert.Dx2Ideal.nD Cert.Dx2Ideal.τ).loc Cert.Dx2Ideal.main_arg2)
          ∧ r.2.mem ((c.tc : Thread Cert.Dx2Ideal.nD Cert.Dx2Ideal.τ).loc Cert.Dx2Ideal.main_arg3) = m ((c.tc : Thread Cert.Dx2Ideal.nD Cert.Dx2Ideal.τ).loc Cert.Dx2Ideal.main_arg3)
          ∧ r.2.mem ((c.tc : Thread Cert.Dx2Ideal.nD Cert.Dx2Ideal.τ).loc Cert.Dx2Ideal.main_arg4) = m ((c.tc : Thread Cert.Dx2Ideal.nD Cert.Dx2Ideal.τ).loc Cert.Dx2Ideal.main_arg4)
          ∧ r.2.mem ((c.tc : Thread Cert.Dx2Ideal.nD Cert.Dx2Ideal.τ).loc Cert.Dx2Ideal.main_arg5) = m ((c.tc : Thread Cert.Dx2Ideal.nD Cert.Dx2Ideal.τ).loc Cert.Dx2Ideal.main_arg5))
      ∧ θ_run (Cert.RefDx2Ideal.defs (F := Ideal)) (onTc (τ := Cert.RefDx2Ideal.τ) (Cert.RefDx2Ideal.main (F := Ideal))) ⟨m', fun _ => 0, g'⟩ (fun r => ∀ c : Dev Cert.RefDx2Ideal.nD,
          r.2.mem ((c.tc : Thread Cert.RefDx2Ideal.nD Cert.RefDx2Ideal.τ).loc Cert.RefDx2Ideal.main_v74) = v0 c
          ∧ r.2.mem ((c.tc : Thread Cert.RefDx2Ideal.nD Cert.RefDx2Ideal.τ).loc Cert.RefDx2Ideal.main_v78) = v1 c
          ∧ r.2.mem ((c.tc : Thread Cert.RefDx2Ideal.nD Cert.RefDx2Ideal.τ).loc Cert.RefDx2Ideal.main_arg0) = m' ((c.tc : Thread Cert.RefDx2Ideal.nD Cert.RefDx2Ideal.τ).loc Cert.RefDx2Ideal.main_arg0)
          ∧ r.2.mem ((c.tc : Thread Cert.RefDx2Ideal.nD Cert.RefDx2Ideal.τ).loc Cert.RefDx2Ideal.main_arg1) = m' ((c.tc : Thread Cert.RefDx2Ideal.nD Cert.RefDx2Ideal.τ).loc Cert.RefDx2Ideal.main_arg1)
          ∧ r.2.mem ((c.tc : Thread Cert.RefDx2Ideal.nD Cert.RefDx2Ideal.τ).loc Cert.RefDx2Ideal.main_arg2) = m' ((c.tc : Thread Cert.RefDx2Ideal.nD Cert.RefDx2Ideal.τ).loc Cert.RefDx2Ideal.main_arg2)
          ∧ r.2.mem ((c.tc : Thread Cert.RefDx2Ideal.nD Cert.RefDx2Ideal.τ).loc Cert.RefDx2Ideal.main_arg3) = m' ((c.tc : Thread Cert.RefDx2Ideal.nD Cert.RefDx2Ideal.τ).loc Cert.RefDx2Ideal.main_arg3)
          ∧ r.2.mem ((c.tc : Thread Cert.RefDx2Ideal.nD Cert.RefDx2Ideal.τ).loc Cert.RefDx2Ideal.main_arg4) = m' ((c.tc : Thread Cert.RefDx2Ideal.nD Cert.RefDx2Ideal.τ).loc Cert.RefDx2Ideal.main_arg4)
          ∧ r.2.mem ((c.tc : Thread Cert.RefDx2Ideal.nD Cert.RefDx2Ideal.τ).loc Cert.RefDx2Ideal.main_arg5) = m' ((c.tc : Thread Cert.RefDx2Ideal.nD Cert.RefDx2Ideal.τ).loc Cert.RefDx2Ideal.main_arg5))

def preserves_Dx0_Dx0Ideal : Prop :=
  True

def algebraic_Dx0Ideal_RefDx0Ideal_pre_finite_dx [hDx0Ideal : Cert.Dx0Ideal.Facts] [hRefDx0Ideal : Cert.RefDx0Ideal.Facts] [hPre_finite_dx : Cert.Pre_finite_dx.Facts] : Prop :=
  ∀ (m : (ℓ : Loc Cert.Dx0Ideal.nD Cert.Dx0Ideal.τ Cert.Dx0Ideal.sig) → Buf (Elt Ideal) ℓ) (g : Dev Cert.Dx0Ideal.nD → PrngReg)
    (m' : (ℓ : Loc Cert.RefDx0Ideal.nD Cert.RefDx0Ideal.τ Cert.RefDx0Ideal.sig) → Buf (Elt Ideal) ℓ) (g' : Dev Cert.RefDx0Ideal.nD → PrngReg), Pre_Dx0Ideal_finite_dx m →
    (∀ c : Dev Cert.Dx0Ideal.nD,
      m' ((c.tc : Thread Cert.RefDx0Ideal.nD Cert.RefDx0Ideal.τ).loc Cert.RefDx0Ideal.main_arg0) = m ((c.tc : Thread Cert.Dx0Ideal.nD Cert.Dx0Ideal.τ).loc Cert.Dx0Ideal.main_arg0)
      ∧ m' ((c.tc : Thread Cert.RefDx0Ideal.nD Cert.RefDx0Ideal.τ).loc Cert.RefDx0Ideal.main_arg1) = m ((c.tc : Thread Cert.Dx0Ideal.nD Cert.Dx0Ideal.τ).loc Cert.Dx0Ideal.main_arg1)
      ∧ m' ((c.tc : Thread Cert.RefDx0Ideal.nD Cert.RefDx0Ideal.τ).loc Cert.RefDx0Ideal.main_arg2) = m ((c.tc : Thread Cert.Dx0Ideal.nD Cert.Dx0Ideal.τ).loc Cert.Dx0Ideal.main_arg2)
      ∧ m' ((c.tc : Thread Cert.RefDx0Ideal.nD Cert.RefDx0Ideal.τ).loc Cert.RefDx0Ideal.main_arg3) = m ((c.tc : Thread Cert.Dx0Ideal.nD Cert.Dx0Ideal.τ).loc Cert.Dx0Ideal.main_arg3)
      ∧ m' ((c.tc : Thread Cert.RefDx0Ideal.nD Cert.RefDx0Ideal.τ).loc Cert.RefDx0Ideal.main_arg4) = m ((c.tc : Thread Cert.Dx0Ideal.nD Cert.Dx0Ideal.τ).loc Cert.Dx0Ideal.main_arg4)
      ∧ m' ((c.tc : Thread Cert.RefDx0Ideal.nD Cert.RefDx0Ideal.τ).loc Cert.RefDx0Ideal.main_arg5) = m ((c.tc : Thread Cert.Dx0Ideal.nD Cert.Dx0Ideal.τ).loc Cert.Dx0Ideal.main_arg5)) →
    ∃ (v0 : (c : Dev Cert.Dx0Ideal.nD) → Buf (Elt Ideal) ((c.tc : Thread Cert.Dx0Ideal.nD Cert.Dx0Ideal.τ).loc Cert.Dx0Ideal.main_v0_0)) (v1 : (c : Dev Cert.Dx0Ideal.nD) → Buf (Elt Ideal) ((c.tc : Thread Cert.Dx0Ideal.nD Cert.Dx0Ideal.τ).loc Cert.Dx0Ideal.main_v0_1)),
      θ_run (Cert.Dx0Ideal.defs (F := Ideal)) (onTc (τ := Cert.Dx0Ideal.τ) (Cert.Dx0Ideal.main (F := Ideal))) ⟨m, fun _ => 0, g⟩ (fun r => ∀ c : Dev Cert.Dx0Ideal.nD,
          r.2.mem ((c.tc : Thread Cert.Dx0Ideal.nD Cert.Dx0Ideal.τ).loc Cert.Dx0Ideal.main_v0_0) = v0 c
          ∧ r.2.mem ((c.tc : Thread Cert.Dx0Ideal.nD Cert.Dx0Ideal.τ).loc Cert.Dx0Ideal.main_v0_1) = v1 c
          ∧ r.2.mem ((c.tc : Thread Cert.Dx0Ideal.nD Cert.Dx0Ideal.τ).loc Cert.Dx0Ideal.main_arg0) = m ((c.tc : Thread Cert.Dx0Ideal.nD Cert.Dx0Ideal.τ).loc Cert.Dx0Ideal.main_arg0)
          ∧ r.2.mem ((c.tc : Thread Cert.Dx0Ideal.nD Cert.Dx0Ideal.τ).loc Cert.Dx0Ideal.main_arg1) = m ((c.tc : Thread Cert.Dx0Ideal.nD Cert.Dx0Ideal.τ).loc Cert.Dx0Ideal.main_arg1)
          ∧ r.2.mem ((c.tc : Thread Cert.Dx0Ideal.nD Cert.Dx0Ideal.τ).loc Cert.Dx0Ideal.main_arg2) = m ((c.tc : Thread Cert.Dx0Ideal.nD Cert.Dx0Ideal.τ).loc Cert.Dx0Ideal.main_arg2)
          ∧ r.2.mem ((c.tc : Thread Cert.Dx0Ideal.nD Cert.Dx0Ideal.τ).loc Cert.Dx0Ideal.main_arg3) = m ((c.tc : Thread Cert.Dx0Ideal.nD Cert.Dx0Ideal.τ).loc Cert.Dx0Ideal.main_arg3)
          ∧ r.2.mem ((c.tc : Thread Cert.Dx0Ideal.nD Cert.Dx0Ideal.τ).loc Cert.Dx0Ideal.main_arg4) = m ((c.tc : Thread Cert.Dx0Ideal.nD Cert.Dx0Ideal.τ).loc Cert.Dx0Ideal.main_arg4)
          ∧ r.2.mem ((c.tc : Thread Cert.Dx0Ideal.nD Cert.Dx0Ideal.τ).loc Cert.Dx0Ideal.main_arg5) = m ((c.tc : Thread Cert.Dx0Ideal.nD Cert.Dx0Ideal.τ).loc Cert.Dx0Ideal.main_arg5))
      ∧ θ_run (Cert.RefDx0Ideal.defs (F := Ideal)) (onTc (τ := Cert.RefDx0Ideal.τ) (Cert.RefDx0Ideal.main (F := Ideal))) ⟨m', fun _ => 0, g'⟩ (fun r => ∀ c : Dev Cert.RefDx0Ideal.nD,
          r.2.mem ((c.tc : Thread Cert.RefDx0Ideal.nD Cert.RefDx0Ideal.τ).loc Cert.RefDx0Ideal.main_v74) = v0 c
          ∧ r.2.mem ((c.tc : Thread Cert.RefDx0Ideal.nD Cert.RefDx0Ideal.τ).loc Cert.RefDx0Ideal.main_v78) = v1 c
          ∧ r.2.mem ((c.tc : Thread Cert.RefDx0Ideal.nD Cert.RefDx0Ideal.τ).loc Cert.RefDx0Ideal.main_arg0) = m' ((c.tc : Thread Cert.RefDx0Ideal.nD Cert.RefDx0Ideal.τ).loc Cert.RefDx0Ideal.main_arg0)
          ∧ r.2.mem ((c.tc : Thread Cert.RefDx0Ideal.nD Cert.RefDx0Ideal.τ).loc Cert.RefDx0Ideal.main_arg1) = m' ((c.tc : Thread Cert.RefDx0Ideal.nD Cert.RefDx0Ideal.τ).loc Cert.RefDx0Ideal.main_arg1)
          ∧ r.2.mem ((c.tc : Thread Cert.RefDx0Ideal.nD Cert.RefDx0Ideal.τ).loc Cert.RefDx0Ideal.main_arg2) = m' ((c.tc : Thread Cert.RefDx0Ideal.nD Cert.RefDx0Ideal.τ).loc Cert.RefDx0Ideal.main_arg2)
          ∧ r.2.mem ((c.tc : Thread Cert.RefDx0Ideal.nD Cert.RefDx0Ideal.τ).loc Cert.RefDx0Ideal.main_arg3) = m' ((c.tc : Thread Cert.RefDx0Ideal.nD Cert.RefDx0Ideal.τ).loc Cert.RefDx0Ideal.main_arg3)
          ∧ r.2.mem ((c.tc : Thread Cert.RefDx0Ideal.nD Cert.RefDx0Ideal.τ).loc Cert.RefDx0Ideal.main_arg4) = m' ((c.tc : Thread Cert.RefDx0Ideal.nD Cert.RefDx0Ideal.τ).loc Cert.RefDx0Ideal.main_arg4)
          ∧ r.2.mem ((c.tc : Thread Cert.RefDx0Ideal.nD Cert.RefDx0Ideal.τ).loc Cert.RefDx0Ideal.main_arg5) = m' ((c.tc : Thread Cert.RefDx0Ideal.nD Cert.RefDx0Ideal.τ).loc Cert.RefDx0Ideal.main_arg5))

def preserves_Down2_Down2Ideal : Prop :=
  True

def algebraic_Down2Ideal_RefDown2Ideal [hDown2Ideal : Cert.Down2Ideal.Facts] [hRefDown2Ideal : Cert.RefDown2Ideal.Facts] : Prop :=
  ∀ (m : (ℓ : Loc Cert.Down2Ideal.nD Cert.Down2Ideal.τ Cert.Down2Ideal.sig) → Buf (Elt Ideal) ℓ) (g : Dev Cert.Down2Ideal.nD → PrngReg)
    (m' : (ℓ : Loc Cert.RefDown2Ideal.nD Cert.RefDown2Ideal.τ Cert.RefDown2Ideal.sig) → Buf (Elt Ideal) ℓ) (g' : Dev Cert.RefDown2Ideal.nD → PrngReg), Pre_Down2Ideal m →
    (∀ c : Dev Cert.Down2Ideal.nD,
      m' ((c.tc : Thread Cert.RefDown2Ideal.nD Cert.RefDown2Ideal.τ).loc Cert.RefDown2Ideal.main_arg0) = m ((c.tc : Thread Cert.Down2Ideal.nD Cert.Down2Ideal.τ).loc Cert.Down2Ideal.main_arg0)
      ∧ m' ((c.tc : Thread Cert.RefDown2Ideal.nD Cert.RefDown2Ideal.τ).loc Cert.RefDown2Ideal.main_arg1) = m ((c.tc : Thread Cert.Down2Ideal.nD Cert.Down2Ideal.τ).loc Cert.Down2Ideal.main_arg1)
      ∧ m' ((c.tc : Thread Cert.RefDown2Ideal.nD Cert.RefDown2Ideal.τ).loc Cert.RefDown2Ideal.main_arg2) = m ((c.tc : Thread Cert.Down2Ideal.nD Cert.Down2Ideal.τ).loc Cert.Down2Ideal.main_arg2)
      ∧ m' ((c.tc : Thread Cert.RefDown2Ideal.nD Cert.RefDown2Ideal.τ).loc Cert.RefDown2Ideal.main_arg3) = m ((c.tc : Thread Cert.Down2Ideal.nD Cert.Down2Ideal.τ).loc Cert.Down2Ideal.main_arg3)) →
    ∃ (v0 : (c : Dev Cert.Down2Ideal.nD) → Buf (Elt Ideal) ((c.tc : Thread Cert.Down2Ideal.nD Cert.Down2Ideal.τ).loc Cert.Down2Ideal.main_v0_0)) (v1 : (c : Dev Cert.Down2Ideal.nD) → Buf (Elt Ideal) ((c.tc : Thread Cert.Down2Ideal.nD Cert.Down2Ideal.τ).loc Cert.Down2Ideal.main_v0_1)),
      θ_run (Cert.Down2Ideal.defs (F := Ideal)) (onTc (τ := Cert.Down2Ideal.τ) (Cert.Down2Ideal.main (F := Ideal))) ⟨m, fun _ => 0, g⟩ (fun r => ∀ c : Dev Cert.Down2Ideal.nD,
          r.2.mem ((c.tc : Thread Cert.Down2Ideal.nD Cert.Down2Ideal.τ).loc Cert.Down2Ideal.main_v0_0) = v0 c
          ∧ r.2.mem ((c.tc : Thread Cert.Down2Ideal.nD Cert.Down2Ideal.τ).loc Cert.Down2Ideal.main_v0_1) = v1 c
          ∧ r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
          ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1)
          ∧ r.2.mem ((c.tc : Thread Cert.Down2Ideal.nD Cert.Down2Ideal.τ).loc Cert.Down2Ideal.main_arg2) = m ((c.tc : Thread Cert.Down2Ideal.nD Cert.Down2Ideal.τ).loc Cert.Down2Ideal.main_arg2)
          ∧ r.2.mem ((c.tc : Thread Cert.Down2Ideal.nD Cert.Down2Ideal.τ).loc Cert.Down2Ideal.main_arg3) = m ((c.tc : Thread Cert.Down2Ideal.nD Cert.Down2Ideal.τ).loc Cert.Down2Ideal.main_arg3))
      ∧ θ_run (Cert.RefDown2Ideal.defs (F := Ideal)) (onTc (τ := Cert.RefDown2Ideal.τ) (Cert.RefDown2Ideal.main (F := Ideal))) ⟨m', fun _ => 0, g'⟩ (fun r => ∀ c : Dev Cert.RefDown2Ideal.nD,
          r.2.mem ((c.tc : Thread Cert.RefDown2Ideal.nD Cert.RefDown2Ideal.τ).loc Cert.RefDown2Ideal.main_v10) = v0 c
          ∧ r.2.mem ((c.tc : Thread Cert.RefDown2Ideal.nD Cert.RefDown2Ideal.τ).loc Cert.RefDown2Ideal.main_v11) = v1 c
          ∧ r.2.mem ((c.tc : Thread Cert.RefDown2Ideal.nD Cert.RefDown2Ideal.τ).loc Cert.RefDown2Ideal.main_arg0) = m' ((c.tc : Thread Cert.RefDown2Ideal.nD Cert.RefDown2Ideal.τ).loc Cert.RefDown2Ideal.main_arg0)
          ∧ r.2.mem ((c.tc : Thread Cert.RefDown2Ideal.nD Cert.RefDown2Ideal.τ).loc Cert.RefDown2Ideal.main_arg1) = m' ((c.tc : Thread Cert.RefDown2Ideal.nD Cert.RefDown2Ideal.τ).loc Cert.RefDown2Ideal.main_arg1)
          ∧ r.2.mem ((c.tc : Thread Cert.RefDown2Ideal.nD Cert.RefDown2Ideal.τ).loc Cert.RefDown2Ideal.main_arg2) = m' ((c.tc : Thread Cert.RefDown2Ideal.nD Cert.RefDown2Ideal.τ).loc Cert.RefDown2Ideal.main_arg2)
          ∧ r.2.mem ((c.tc : Thread Cert.RefDown2Ideal.nD Cert.RefDown2Ideal.τ).loc Cert.RefDown2Ideal.main_arg3) = m' ((c.tc : Thread Cert.RefDown2Ideal.nD Cert.RefDown2Ideal.τ).loc Cert.RefDown2Ideal.main_arg3))

def preserves_Down0_Down0Ideal : Prop :=
  True

def algebraic_Down0Ideal_RefDown0Ideal [hDown0Ideal : Cert.Down0Ideal.Facts] [hRefDown0Ideal : Cert.RefDown0Ideal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.RefDown0Ideal.nD Cert.RefDown0Ideal.τ Cert.RefDown0Ideal.sig) → Buf (Elt Ideal) ℓ) (g' : Dev Cert.RefDown0Ideal.nD → PrngReg), Pre_Down0Ideal m →
    (∀ c : Dev Cert.Down0Ideal.nD,
      m' ((c.tc : Thread Cert.RefDown0Ideal.nD Cert.RefDown0Ideal.τ).loc Cert.RefDown0Ideal.main_arg0) = m ((c.tc : Thread Cert.Down0Ideal.nD Cert.Down0Ideal.τ).loc Cert.Down0Ideal.main_arg0)
      ∧ m' ((c.tc : Thread Cert.RefDown0Ideal.nD Cert.RefDown0Ideal.τ).loc Cert.RefDown0Ideal.main_arg1) = m ((c.tc : Thread Cert.Down0Ideal.nD Cert.Down0Ideal.τ).loc Cert.Down0Ideal.main_arg1)
      ∧ m' ((c.tc : Thread Cert.RefDown0Ideal.nD Cert.RefDown0Ideal.τ).loc Cert.RefDown0Ideal.main_arg2) = m ((c.tc : Thread Cert.Down0Ideal.nD Cert.Down0Ideal.τ).loc Cert.Down0Ideal.main_arg2)
      ∧ m' ((c.tc : Thread Cert.RefDown0Ideal.nD Cert.RefDown0Ideal.τ).loc Cert.RefDown0Ideal.main_arg3) = m ((c.tc : Thread Cert.Down0Ideal.nD Cert.Down0Ideal.τ).loc Cert.Down0Ideal.main_arg3)) →
    ∃ (v0 : (c : Dev Cert.Down0Ideal.nD) → Buf (Elt Ideal) ((c.tc : Thread Cert.Down0Ideal.nD Cert.Down0Ideal.τ).loc Cert.Down0Ideal.main_v0_0)) (v1 : (c : Dev Cert.Down0Ideal.nD) → Buf (Elt Ideal) ((c.tc : Thread Cert.Down0Ideal.nD Cert.Down0Ideal.τ).loc Cert.Down0Ideal.main_v0_1)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0_0) = v0 c
          ∧ r.2.mem ((c.tc : Thread Cert.Down0Ideal.nD Cert.Down0Ideal.τ).loc Cert.Down0Ideal.main_v0_1) = v1 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2)
          ∧ r.2.mem ((c.tc : Thread Cert.Down0Ideal.nD Cert.Down0Ideal.τ).loc Cert.Down0Ideal.main_arg3) = m ((c.tc : Thread Cert.Down0Ideal.nD Cert.Down0Ideal.τ).loc Cert.Down0Ideal.main_arg3))
      ∧ θ_run (Cert.RefDown0Ideal.defs (F := Ideal)) (onTc (τ := Cert.RefDown0Ideal.τ) (Cert.RefDown0Ideal.main (F := Ideal))) ⟨m', fun _ => 0, g'⟩ (fun r => ∀ c : Dev Cert.RefDown0Ideal.nD,
          r.2.mem ((c.tc : Thread Cert.RefDown0Ideal.nD Cert.RefDown0Ideal.τ).loc Cert.RefDown0Ideal.main_v10) = v0 c
          ∧ r.2.mem ((c.tc : Thread Cert.RefDown0Ideal.nD Cert.RefDown0Ideal.τ).loc Cert.RefDown0Ideal.main_v11) = v1 c
          ∧ r.2.mem ((c.tc : Thread Cert.RefDown0Ideal.nD Cert.RefDown0Ideal.τ).loc Cert.RefDown0Ideal.main_arg0) = m' ((c.tc : Thread Cert.RefDown0Ideal.nD Cert.RefDown0Ideal.τ).loc Cert.RefDown0Ideal.main_arg0)
          ∧ r.2.mem ((c.tc : Thread Cert.RefDown0Ideal.nD Cert.RefDown0Ideal.τ).loc Cert.RefDown0Ideal.main_arg1) = m' ((c.tc : Thread Cert.RefDown0Ideal.nD Cert.RefDown0Ideal.τ).loc Cert.RefDown0Ideal.main_arg1)
          ∧ r.2.mem ((c.tc : Thread Cert.RefDown0Ideal.nD Cert.RefDown0Ideal.τ).loc Cert.RefDown0Ideal.main_arg2) = m' ((c.tc : Thread Cert.RefDown0Ideal.nD Cert.RefDown0Ideal.τ).loc Cert.RefDown0Ideal.main_arg2)
          ∧ r.2.mem ((c.tc : Thread Cert.RefDown0Ideal.nD Cert.RefDown0Ideal.τ).loc Cert.RefDown0Ideal.main_arg3) = m' ((c.tc : Thread Cert.RefDown0Ideal.nD Cert.RefDown0Ideal.τ).loc Cert.RefDown0Ideal.main_arg3))

def preserves_DownCtx_DownCtxIdeal : Prop :=
  True

def algebraic_DownCtxIdeal_RefDownCtxIdeal [hDownCtxIdeal : Cert.DownCtxIdeal.Facts] [hRefDownCtxIdeal : Cert.RefDownCtxIdeal.Facts] : Prop :=
  ∀ (m : (ℓ : Loc Cert.DownCtxIdeal.nD Cert.DownCtxIdeal.τ Cert.DownCtxIdeal.sig) → Buf (Elt Ideal) ℓ) (g : Dev Cert.DownCtxIdeal.nD → PrngReg)
    (m' : (ℓ : Loc Cert.RefDownCtxIdeal.nD Cert.RefDownCtxIdeal.τ Cert.RefDownCtxIdeal.sig) → Buf (Elt Ideal) ℓ) (g' : Dev Cert.RefDownCtxIdeal.nD → PrngReg), Pre_DownCtxIdeal m →
    (∀ c : Dev Cert.DownCtxIdeal.nD,
      m' ((c.tc : Thread Cert.RefDownCtxIdeal.nD Cert.RefDownCtxIdeal.τ).loc Cert.RefDownCtxIdeal.main_arg0) = m ((c.tc : Thread Cert.DownCtxIdeal.nD Cert.DownCtxIdeal.τ).loc Cert.DownCtxIdeal.main_arg0)
      ∧ m' ((c.tc : Thread Cert.RefDownCtxIdeal.nD Cert.RefDownCtxIdeal.τ).loc Cert.RefDownCtxIdeal.main_arg1) = m ((c.tc : Thread Cert.DownCtxIdeal.nD Cert.DownCtxIdeal.τ).loc Cert.DownCtxIdeal.main_arg1)
      ∧ m' ((c.tc : Thread Cert.RefDownCtxIdeal.nD Cert.RefDownCtxIdeal.τ).loc Cert.RefDownCtxIdeal.main_arg2) = m ((c.tc : Thread Cert.DownCtxIdeal.nD Cert.DownCtxIdeal.τ).loc Cert.DownCtxIdeal.main_arg2)
      ∧ m' ((c.tc : Thread Cert.RefDownCtxIdeal.nD Cert.RefDownCtxIdeal.τ).loc Cert.RefDownCtxIdeal.main_arg3) = m ((c.tc : Thread Cert.DownCtxIdeal.nD Cert.DownCtxIdeal.τ).loc Cert.DownCtxIdeal.main_arg3)) →
    ∃ (v0 : (c : Dev Cert.DownCtxIdeal.nD) → Buf (Elt Ideal) ((c.tc : Thread Cert.DownCtxIdeal.nD Cert.DownCtxIdeal.τ).loc Cert.DownCtxIdeal.main_v0_0)) (v1 : (c : Dev Cert.DownCtxIdeal.nD) → Buf (Elt Ideal) ((c.tc : Thread Cert.DownCtxIdeal.nD Cert.DownCtxIdeal.τ).loc Cert.DownCtxIdeal.main_v0_1)),
      θ_run (Cert.DownCtxIdeal.defs (F := Ideal)) (onTc (τ := Cert.DownCtxIdeal.τ) (Cert.DownCtxIdeal.main (F := Ideal))) ⟨m, fun _ => 0, g⟩ (fun r => ∀ c : Dev Cert.DownCtxIdeal.nD,
          r.2.mem ((c.tc : Thread Cert.DownCtxIdeal.nD Cert.DownCtxIdeal.τ).loc Cert.DownCtxIdeal.main_v0_0) = v0 c
          ∧ r.2.mem ((c.tc : Thread Cert.DownCtxIdeal.nD Cert.DownCtxIdeal.τ).loc Cert.DownCtxIdeal.main_v0_1) = v1 c
          ∧ r.2.mem ((c.tc : Thread Cert.DownCtxIdeal.nD Cert.DownCtxIdeal.τ).loc Cert.DownCtxIdeal.main_arg0) = m ((c.tc : Thread Cert.DownCtxIdeal.nD Cert.DownCtxIdeal.τ).loc Cert.DownCtxIdeal.main_arg0)
          ∧ r.2.mem ((c.tc : Thread Cert.DownCtxIdeal.nD Cert.DownCtxIdeal.τ).loc Cert.DownCtxIdeal.main_arg1) = m ((c.tc : Thread Cert.DownCtxIdeal.nD Cert.DownCtxIdeal.τ).loc Cert.DownCtxIdeal.main_arg1)
          ∧ r.2.mem ((c.tc : Thread Cert.DownCtxIdeal.nD Cert.DownCtxIdeal.τ).loc Cert.DownCtxIdeal.main_arg2) = m ((c.tc : Thread Cert.DownCtxIdeal.nD Cert.DownCtxIdeal.τ).loc Cert.DownCtxIdeal.main_arg2)
          ∧ r.2.mem ((c.tc : Thread Cert.DownCtxIdeal.nD Cert.DownCtxIdeal.τ).loc Cert.DownCtxIdeal.main_arg3) = m ((c.tc : Thread Cert.DownCtxIdeal.nD Cert.DownCtxIdeal.τ).loc Cert.DownCtxIdeal.main_arg3))
      ∧ θ_run (Cert.RefDownCtxIdeal.defs (F := Ideal)) (onTc (τ := Cert.RefDownCtxIdeal.τ) (Cert.RefDownCtxIdeal.main (F := Ideal))) ⟨m', fun _ => 0, g'⟩ (fun r => ∀ c : Dev Cert.RefDownCtxIdeal.nD,
          r.2.mem ((c.tc : Thread Cert.RefDownCtxIdeal.nD Cert.RefDownCtxIdeal.τ).loc Cert.RefDownCtxIdeal.main_v13) = v0 c
          ∧ r.2.mem ((c.tc : Thread Cert.RefDownCtxIdeal.nD Cert.RefDownCtxIdeal.τ).loc Cert.RefDownCtxIdeal.main_v14) = v1 c
          ∧ r.2.mem ((c.tc : Thread Cert.RefDownCtxIdeal.nD Cert.RefDownCtxIdeal.τ).loc Cert.RefDownCtxIdeal.main_arg0) = m' ((c.tc : Thread Cert.RefDownCtxIdeal.nD Cert.RefDownCtxIdeal.τ).loc Cert.RefDownCtxIdeal.main_arg0)
          ∧ r.2.mem ((c.tc : Thread Cert.RefDownCtxIdeal.nD Cert.RefDownCtxIdeal.τ).loc Cert.RefDownCtxIdeal.main_arg1) = m' ((c.tc : Thread Cert.RefDownCtxIdeal.nD Cert.RefDownCtxIdeal.τ).loc Cert.RefDownCtxIdeal.main_arg1)
          ∧ r.2.mem ((c.tc : Thread Cert.RefDownCtxIdeal.nD Cert.RefDownCtxIdeal.τ).loc Cert.RefDownCtxIdeal.main_arg2) = m' ((c.tc : Thread Cert.RefDownCtxIdeal.nD Cert.RefDownCtxIdeal.τ).loc Cert.RefDownCtxIdeal.main_arg2)
          ∧ r.2.mem ((c.tc : Thread Cert.RefDownCtxIdeal.nD Cert.RefDownCtxIdeal.τ).loc Cert.RefDownCtxIdeal.main_arg3) = m' ((c.tc : Thread Cert.RefDownCtxIdeal.nD Cert.RefDownCtxIdeal.τ).loc Cert.RefDownCtxIdeal.main_arg3))

def preserves_Up2_Up2Ideal : Prop :=
  True

def algebraic_Up2Ideal_RefUp2Ideal_pre_finite_up [hUp2Ideal : Cert.Up2Ideal.Facts] [hRefUp2Ideal : Cert.RefUp2Ideal.Facts] [hPre_finite_up : Cert.Pre_finite_up.Facts] : Prop :=
  ∀ (m : (ℓ : Loc Cert.Up2Ideal.nD Cert.Up2Ideal.τ Cert.Up2Ideal.sig) → Buf (Elt Ideal) ℓ) (g : Dev Cert.Up2Ideal.nD → PrngReg)
    (m' : (ℓ : Loc Cert.RefUp2Ideal.nD Cert.RefUp2Ideal.τ Cert.RefUp2Ideal.sig) → Buf (Elt Ideal) ℓ) (g' : Dev Cert.RefUp2Ideal.nD → PrngReg), Pre_Up2Ideal_finite_up m →
    (∀ c : Dev Cert.Up2Ideal.nD,
      m' ((c.tc : Thread Cert.RefUp2Ideal.nD Cert.RefUp2Ideal.τ).loc Cert.RefUp2Ideal.main_arg0) = m ((c.tc : Thread Cert.Up2Ideal.nD Cert.Up2Ideal.τ).loc Cert.Up2Ideal.main_arg0)
      ∧ m' ((c.tc : Thread Cert.RefUp2Ideal.nD Cert.RefUp2Ideal.τ).loc Cert.RefUp2Ideal.main_arg1) = m ((c.tc : Thread Cert.Up2Ideal.nD Cert.Up2Ideal.τ).loc Cert.Up2Ideal.main_arg1)
      ∧ m' ((c.tc : Thread Cert.RefUp2Ideal.nD Cert.RefUp2Ideal.τ).loc Cert.RefUp2Ideal.main_arg2) = m ((c.tc : Thread Cert.Up2Ideal.nD Cert.Up2Ideal.τ).loc Cert.Up2Ideal.main_arg2)
      ∧ m' ((c.tc : Thread Cert.RefUp2Ideal.nD Cert.RefUp2Ideal.τ).loc Cert.RefUp2Ideal.main_arg3) = m ((c.tc : Thread Cert.Up2Ideal.nD Cert.Up2Ideal.τ).loc Cert.Up2Ideal.main_arg3)) →
    ∃ (v0 : (c : Dev Cert.Up2Ideal.nD) → Buf (Elt Ideal) ((c.tc : Thread Cert.Up2Ideal.nD Cert.Up2Ideal.τ).loc Cert.Up2Ideal.main_v0_0)) (v1 : (c : Dev Cert.Up2Ideal.nD) → Buf (Elt Ideal) ((c.tc : Thread Cert.Up2Ideal.nD Cert.Up2Ideal.τ).loc Cert.Up2Ideal.main_v0_1)) (v2 : (c : Dev Cert.Up2Ideal.nD) → Buf (Elt Ideal) ((c.tc : Thread Cert.Up2Ideal.nD Cert.Up2Ideal.τ).loc Cert.Up2Ideal.main_v0_2)),
      θ_run (Cert.Up2Ideal.defs (F := Ideal)) (onTc (τ := Cert.Up2Ideal.τ) (Cert.Up2Ideal.main (F := Ideal))) ⟨m, fun _ => 0, g⟩ (fun r => ∀ c : Dev Cert.Up2Ideal.nD,
          r.2.mem ((c.tc : Thread Cert.Up2Ideal.nD Cert.Up2Ideal.τ).loc Cert.Up2Ideal.main_v0_0) = v0 c
          ∧ r.2.mem ((c.tc : Thread Cert.Up2Ideal.nD Cert.Up2Ideal.τ).loc Cert.Up2Ideal.main_v0_1) = v1 c
          ∧ r.2.mem ((c.tc : Thread Cert.Up2Ideal.nD Cert.Up2Ideal.τ).loc Cert.Up2Ideal.main_v0_2) = v2 c
          ∧ r.2.mem ((c.tc : Thread Cert.Up2Ideal.nD Cert.Up2Ideal.τ).loc Cert.Up2Ideal.main_arg0) = m ((c.tc : Thread Cert.Up2Ideal.nD Cert.Up2Ideal.τ).loc Cert.Up2Ideal.main_arg0)
          ∧ r.2.mem ((c.tc : Thread Cert.Up2Ideal.nD Cert.Up2Ideal.τ).loc Cert.Up2Ideal.main_arg1) = m ((c.tc : Thread Cert.Up2Ideal.nD Cert.Up2Ideal.τ).loc Cert.Up2Ideal.main_arg1)
          ∧ r.2.mem ((c.tc : Thread Cert.Up2Ideal.nD Cert.Up2Ideal.τ).loc Cert.Up2Ideal.main_arg2) = m ((c.tc : Thread Cert.Up2Ideal.nD Cert.Up2Ideal.τ).loc Cert.Up2Ideal.main_arg2)
          ∧ r.2.mem ((c.tc : Thread Cert.Up2Ideal.nD Cert.Up2Ideal.τ).loc Cert.Up2Ideal.main_arg3) = m ((c.tc : Thread Cert.Up2Ideal.nD Cert.Up2Ideal.τ).loc Cert.Up2Ideal.main_arg3))
      ∧ θ_run (Cert.RefUp2Ideal.defs (F := Ideal)) (onTc (τ := Cert.RefUp2Ideal.τ) (Cert.RefUp2Ideal.main (F := Ideal))) ⟨m', fun _ => 0, g'⟩ (fun r => ∀ c : Dev Cert.RefUp2Ideal.nD,
          r.2.mem ((c.tc : Thread Cert.RefUp2Ideal.nD Cert.RefUp2Ideal.τ).loc Cert.RefUp2Ideal.main_v43) = v0 c
          ∧ r.2.mem ((c.tc : Thread Cert.RefUp2Ideal.nD Cert.RefUp2Ideal.τ).loc Cert.RefUp2Ideal.main_v44) = v1 c
          ∧ r.2.mem ((c.tc : Thread Cert.RefUp2Ideal.nD Cert.RefUp2Ideal.τ).loc Cert.RefUp2Ideal.main_v45) = v2 c
          ∧ r.2.mem ((c.tc : Thread Cert.RefUp2Ideal.nD Cert.RefUp2Ideal.τ).loc Cert.RefUp2Ideal.main_arg0) = m' ((c.tc : Thread Cert.RefUp2Ideal.nD Cert.RefUp2Ideal.τ).loc Cert.RefUp2Ideal.main_arg0)
          ∧ r.2.mem ((c.tc : Thread Cert.RefUp2Ideal.nD Cert.RefUp2Ideal.τ).loc Cert.RefUp2Ideal.main_arg1) = m' ((c.tc : Thread Cert.RefUp2Ideal.nD Cert.RefUp2Ideal.τ).loc Cert.RefUp2Ideal.main_arg1)
          ∧ r.2.mem ((c.tc : Thread Cert.RefUp2Ideal.nD Cert.RefUp2Ideal.τ).loc Cert.RefUp2Ideal.main_arg2) = m' ((c.tc : Thread Cert.RefUp2Ideal.nD Cert.RefUp2Ideal.τ).loc Cert.RefUp2Ideal.main_arg2)
          ∧ r.2.mem ((c.tc : Thread Cert.RefUp2Ideal.nD Cert.RefUp2Ideal.τ).loc Cert.RefUp2Ideal.main_arg3) = m' ((c.tc : Thread Cert.RefUp2Ideal.nD Cert.RefUp2Ideal.τ).loc Cert.RefUp2Ideal.main_arg3))

def preserves_Up0_Up0Ideal : Prop :=
  True

def algebraic_Up0Ideal_RefUp0Ideal_pre_finite_up [hUp0Ideal : Cert.Up0Ideal.Facts] [hRefUp0Ideal : Cert.RefUp0Ideal.Facts] [hPre_finite_up : Cert.Pre_finite_up.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.RefUp0Ideal.nD Cert.RefUp0Ideal.τ Cert.RefUp0Ideal.sig) → Buf (Elt Ideal) ℓ) (g' : Dev Cert.RefUp0Ideal.nD → PrngReg), Pre_Up0Ideal_finite_up m →
    (∀ c : Dev Cert.Up0Ideal.nD,
      m' ((c.tc : Thread Cert.RefUp0Ideal.nD Cert.RefUp0Ideal.τ).loc Cert.RefUp0Ideal.main_arg0) = m ((c.tc : Thread Cert.Up0Ideal.nD Cert.Up0Ideal.τ).loc Cert.Up0Ideal.main_arg0)
      ∧ m' ((c.tc : Thread Cert.RefUp0Ideal.nD Cert.RefUp0Ideal.τ).loc Cert.RefUp0Ideal.main_arg1) = m ((c.tc : Thread Cert.Up0Ideal.nD Cert.Up0Ideal.τ).loc Cert.Up0Ideal.main_arg1)
      ∧ m' ((c.tc : Thread Cert.RefUp0Ideal.nD Cert.RefUp0Ideal.τ).loc Cert.RefUp0Ideal.main_arg2) = m ((c.tc : Thread Cert.Up0Ideal.nD Cert.Up0Ideal.τ).loc Cert.Up0Ideal.main_arg2)
      ∧ m' ((c.tc : Thread Cert.RefUp0Ideal.nD Cert.RefUp0Ideal.τ).loc Cert.RefUp0Ideal.main_arg3) = m ((c.tc : Thread Cert.Up0Ideal.nD Cert.Up0Ideal.τ).loc Cert.Up0Ideal.main_arg3)) →
    ∃ (v0 : (c : Dev Cert.Up0Ideal.nD) → Buf (Elt Ideal) ((c.tc : Thread Cert.Up0Ideal.nD Cert.Up0Ideal.τ).loc Cert.Up0Ideal.main_v0_0)) (v1 : (c : Dev Cert.Up0Ideal.nD) → Buf (Elt Ideal) ((c.tc : Thread Cert.Up0Ideal.nD Cert.Up0Ideal.τ).loc Cert.Up0Ideal.main_v0_1)) (v2 : (c : Dev Cert.Up0Ideal.nD) → Buf (Elt Ideal) ((c.tc : Thread Cert.Up0Ideal.nD Cert.Up0Ideal.τ).loc Cert.Up0Ideal.main_v0_2)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v0_0) = v0 c
          ∧ r.2.mem ((c.tc : Thread Cert.Up0Ideal.nD Cert.Up0Ideal.τ).loc Cert.Up0Ideal.main_v0_1) = v1 c
          ∧ r.2.mem ((c.tc : Thread Cert.Up0Ideal.nD Cert.Up0Ideal.τ).loc Cert.Up0Ideal.main_v0_2) = v2 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
          ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2)
          ∧ r.2.mem ((c.tc : Thread Cert.Up0Ideal.nD Cert.Up0Ideal.τ).loc Cert.Up0Ideal.main_arg3) = m ((c.tc : Thread Cert.Up0Ideal.nD Cert.Up0Ideal.τ).loc Cert.Up0Ideal.main_arg3))
      ∧ θ_run (Cert.RefUp0Ideal.defs (F := Ideal)) (onTc (τ := Cert.RefUp0Ideal.τ) (Cert.RefUp0Ideal.main (F := Ideal))) ⟨m', fun _ => 0, g'⟩ (fun r => ∀ c : Dev Cert.RefUp0Ideal.nD,
          r.2.mem ((c.tc : Thread Cert.RefUp0Ideal.nD Cert.RefUp0Ideal.τ).loc Cert.RefUp0Ideal.main_v43) = v0 c
          ∧ r.2.mem ((c.tc : Thread Cert.RefUp0Ideal.nD Cert.RefUp0Ideal.τ).loc Cert.RefUp0Ideal.main_v44) = v1 c
          ∧ r.2.mem ((c.tc : Thread Cert.RefUp0Ideal.nD Cert.RefUp0Ideal.τ).loc Cert.RefUp0Ideal.main_v45) = v2 c
          ∧ r.2.mem ((c.tc : Thread Cert.RefUp0Ideal.nD Cert.RefUp0Ideal.τ).loc Cert.RefUp0Ideal.main_arg0) = m' ((c.tc : Thread Cert.RefUp0Ideal.nD Cert.RefUp0Ideal.τ).loc Cert.RefUp0Ideal.main_arg0)
          ∧ r.2.mem ((c.tc : Thread Cert.RefUp0Ideal.nD Cert.RefUp0Ideal.τ).loc Cert.RefUp0Ideal.main_arg1) = m' ((c.tc : Thread Cert.RefUp0Ideal.nD Cert.RefUp0Ideal.τ).loc Cert.RefUp0Ideal.main_arg1)
          ∧ r.2.mem ((c.tc : Thread Cert.RefUp0Ideal.nD Cert.RefUp0Ideal.τ).loc Cert.RefUp0Ideal.main_arg2) = m' ((c.tc : Thread Cert.RefUp0Ideal.nD Cert.RefUp0Ideal.τ).loc Cert.RefUp0Ideal.main_arg2)
          ∧ r.2.mem ((c.tc : Thread Cert.RefUp0Ideal.nD Cert.RefUp0Ideal.τ).loc Cert.RefUp0Ideal.main_arg3) = m' ((c.tc : Thread Cert.RefUp0Ideal.nD Cert.RefUp0Ideal.τ).loc Cert.RefUp0Ideal.main_arg3))

def preserves_UpCtx_UpCtxIdeal : Prop :=
  True

def algebraic_UpCtxIdeal_RefUpCtxIdeal_pre_finite_up_ctx [hUpCtxIdeal : Cert.UpCtxIdeal.Facts] [hRefUpCtxIdeal : Cert.RefUpCtxIdeal.Facts] [hPre_finite_up_ctx : Cert.Pre_finite_up_ctx.Facts] : Prop :=
  ∀ (m : (ℓ : Loc Cert.UpCtxIdeal.nD Cert.UpCtxIdeal.τ Cert.UpCtxIdeal.sig) → Buf (Elt Ideal) ℓ) (g : Dev Cert.UpCtxIdeal.nD → PrngReg)
    (m' : (ℓ : Loc Cert.RefUpCtxIdeal.nD Cert.RefUpCtxIdeal.τ Cert.RefUpCtxIdeal.sig) → Buf (Elt Ideal) ℓ) (g' : Dev Cert.RefUpCtxIdeal.nD → PrngReg), Pre_UpCtxIdeal_finite_up_ctx m →
    (∀ c : Dev Cert.UpCtxIdeal.nD,
      m' ((c.tc : Thread Cert.RefUpCtxIdeal.nD Cert.RefUpCtxIdeal.τ).loc Cert.RefUpCtxIdeal.main_arg0) = m ((c.tc : Thread Cert.UpCtxIdeal.nD Cert.UpCtxIdeal.τ).loc Cert.UpCtxIdeal.main_arg0)
      ∧ m' ((c.tc : Thread Cert.RefUpCtxIdeal.nD Cert.RefUpCtxIdeal.τ).loc Cert.RefUpCtxIdeal.main_arg1) = m ((c.tc : Thread Cert.UpCtxIdeal.nD Cert.UpCtxIdeal.τ).loc Cert.UpCtxIdeal.main_arg1)
      ∧ m' ((c.tc : Thread Cert.RefUpCtxIdeal.nD Cert.RefUpCtxIdeal.τ).loc Cert.RefUpCtxIdeal.main_arg2) = m ((c.tc : Thread Cert.UpCtxIdeal.nD Cert.UpCtxIdeal.τ).loc Cert.UpCtxIdeal.main_arg2)
      ∧ m' ((c.tc : Thread Cert.RefUpCtxIdeal.nD Cert.RefUpCtxIdeal.τ).loc Cert.RefUpCtxIdeal.main_arg3) = m ((c.tc : Thread Cert.UpCtxIdeal.nD Cert.UpCtxIdeal.τ).loc Cert.UpCtxIdeal.main_arg3)) →
    ∃ (v0 : (c : Dev Cert.UpCtxIdeal.nD) → Buf (Elt Ideal) ((c.tc : Thread Cert.UpCtxIdeal.nD Cert.UpCtxIdeal.τ).loc Cert.UpCtxIdeal.main_v0_0)) (v1 : (c : Dev Cert.UpCtxIdeal.nD) → Buf (Elt Ideal) ((c.tc : Thread Cert.UpCtxIdeal.nD Cert.UpCtxIdeal.τ).loc Cert.UpCtxIdeal.main_v0_1)) (v2 : (c : Dev Cert.UpCtxIdeal.nD) → Buf (Elt Ideal) ((c.tc : Thread Cert.UpCtxIdeal.nD Cert.UpCtxIdeal.τ).loc Cert.UpCtxIdeal.main_v0_2)),
      θ_run (Cert.UpCtxIdeal.defs (F := Ideal)) (onTc (τ := Cert.UpCtxIdeal.τ) (Cert.UpCtxIdeal.main (F := Ideal))) ⟨m, fun _ => 0, g⟩ (fun r => ∀ c : Dev Cert.UpCtxIdeal.nD,
          r.2.mem ((c.tc : Thread Cert.UpCtxIdeal.nD Cert.UpCtxIdeal.τ).loc Cert.UpCtxIdeal.main_v0_0) = v0 c
          ∧ r.2.mem ((c.tc : Thread Cert.UpCtxIdeal.nD Cert.UpCtxIdeal.τ).loc Cert.UpCtxIdeal.main_v0_1) = v1 c
          ∧ r.2.mem ((c.tc : Thread Cert.UpCtxIdeal.nD Cert.UpCtxIdeal.τ).loc Cert.UpCtxIdeal.main_v0_2) = v2 c
          ∧ r.2.mem ((c.tc : Thread Cert.UpCtxIdeal.nD Cert.UpCtxIdeal.τ).loc Cert.UpCtxIdeal.main_arg0) = m ((c.tc : Thread Cert.UpCtxIdeal.nD Cert.UpCtxIdeal.τ).loc Cert.UpCtxIdeal.main_arg0)
          ∧ r.2.mem ((c.tc : Thread Cert.UpCtxIdeal.nD Cert.UpCtxIdeal.τ).loc Cert.UpCtxIdeal.main_arg1) = m ((c.tc : Thread Cert.UpCtxIdeal.nD Cert.UpCtxIdeal.τ).loc Cert.UpCtxIdeal.main_arg1)
          ∧ r.2.mem ((c.tc : Thread Cert.UpCtxIdeal.nD Cert.UpCtxIdeal.τ).loc Cert.UpCtxIdeal.main_arg2) = m ((c.tc : Thread Cert.UpCtxIdeal.nD Cert.UpCtxIdeal.τ).loc Cert.UpCtxIdeal.main_arg2)
          ∧ r.2.mem ((c.tc : Thread Cert.UpCtxIdeal.nD Cert.UpCtxIdeal.τ).loc Cert.UpCtxIdeal.main_arg3) = m ((c.tc : Thread Cert.UpCtxIdeal.nD Cert.UpCtxIdeal.τ).loc Cert.UpCtxIdeal.main_arg3))
      ∧ θ_run (Cert.RefUpCtxIdeal.defs (F := Ideal)) (onTc (τ := Cert.RefUpCtxIdeal.τ) (Cert.RefUpCtxIdeal.main (F := Ideal))) ⟨m', fun _ => 0, g'⟩ (fun r => ∀ c : Dev Cert.RefUpCtxIdeal.nD,
          r.2.mem ((c.tc : Thread Cert.RefUpCtxIdeal.nD Cert.RefUpCtxIdeal.τ).loc Cert.RefUpCtxIdeal.main_v67) = v0 c
          ∧ r.2.mem ((c.tc : Thread Cert.RefUpCtxIdeal.nD Cert.RefUpCtxIdeal.τ).loc Cert.RefUpCtxIdeal.main_v68) = v1 c
          ∧ r.2.mem ((c.tc : Thread Cert.RefUpCtxIdeal.nD Cert.RefUpCtxIdeal.τ).loc Cert.RefUpCtxIdeal.main_v69) = v2 c
          ∧ r.2.mem ((c.tc : Thread Cert.RefUpCtxIdeal.nD Cert.RefUpCtxIdeal.τ).loc Cert.RefUpCtxIdeal.main_arg0) = m' ((c.tc : Thread Cert.RefUpCtxIdeal.nD Cert.RefUpCtxIdeal.τ).loc Cert.RefUpCtxIdeal.main_arg0)
          ∧ r.2.mem ((c.tc : Thread Cert.RefUpCtxIdeal.nD Cert.RefUpCtxIdeal.τ).loc Cert.RefUpCtxIdeal.main_arg1) = m' ((c.tc : Thread Cert.RefUpCtxIdeal.nD Cert.RefUpCtxIdeal.τ).loc Cert.RefUpCtxIdeal.main_arg1)
          ∧ r.2.mem ((c.tc : Thread Cert.RefUpCtxIdeal.nD Cert.RefUpCtxIdeal.τ).loc Cert.RefUpCtxIdeal.main_arg2) = m' ((c.tc : Thread Cert.RefUpCtxIdeal.nD Cert.RefUpCtxIdeal.τ).loc Cert.RefUpCtxIdeal.main_arg2)
          ∧ r.2.mem ((c.tc : Thread Cert.RefUpCtxIdeal.nD Cert.RefUpCtxIdeal.τ).loc Cert.RefUpCtxIdeal.main_arg3) = m' ((c.tc : Thread Cert.RefUpCtxIdeal.nD Cert.RefUpCtxIdeal.τ).loc Cert.RefUpCtxIdeal.main_arg3))

def preserves_DxCtx_DxCtxIdeal : Prop :=
  True

def algebraic_DxCtxIdeal_RefDxCtxIdeal_pre_finite_dx_ctx [hDxCtxIdeal : Cert.DxCtxIdeal.Facts] [hRefDxCtxIdeal : Cert.RefDxCtxIdeal.Facts] [hPre_finite_dx_ctx : Cert.Pre_finite_dx_ctx.Facts] : Prop :=
  ∀ (m : (ℓ : Loc Cert.DxCtxIdeal.nD Cert.DxCtxIdeal.τ Cert.DxCtxIdeal.sig) → Buf (Elt Ideal) ℓ) (g : Dev Cert.DxCtxIdeal.nD → PrngReg)
    (m' : (ℓ : Loc Cert.RefDxCtxIdeal.nD Cert.RefDxCtxIdeal.τ Cert.RefDxCtxIdeal.sig) → Buf (Elt Ideal) ℓ) (g' : Dev Cert.RefDxCtxIdeal.nD → PrngReg), Pre_DxCtxIdeal_finite_dx_ctx m →
    (∀ c : Dev Cert.DxCtxIdeal.nD,
      m' ((c.tc : Thread Cert.RefDxCtxIdeal.nD Cert.RefDxCtxIdeal.τ).loc Cert.RefDxCtxIdeal.main_arg0) = m ((c.tc : Thread Cert.DxCtxIdeal.nD Cert.DxCtxIdeal.τ).loc Cert.DxCtxIdeal.main_arg0)
      ∧ m' ((c.tc : Thread Cert.RefDxCtxIdeal.nD Cert.RefDxCtxIdeal.τ).loc Cert.RefDxCtxIdeal.main_arg1) = m ((c.tc : Thread Cert.DxCtxIdeal.nD Cert.DxCtxIdeal.τ).loc Cert.DxCtxIdeal.main_arg1)
      ∧ m' ((c.tc : Thread Cert.RefDxCtxIdeal.nD Cert.RefDxCtxIdeal.τ).loc Cert.RefDxCtxIdeal.main_arg2) = m ((c.tc : Thread Cert.DxCtxIdeal.nD Cert.DxCtxIdeal.τ).loc Cert.DxCtxIdeal.main_arg2)
      ∧ m' ((c.tc : Thread Cert.RefDxCtxIdeal.nD Cert.RefDxCtxIdeal.τ).loc Cert.RefDxCtxIdeal.main_arg3) = m ((c.tc : Thread Cert.DxCtxIdeal.nD Cert.DxCtxIdeal.τ).loc Cert.DxCtxIdeal.main_arg3)
      ∧ m' ((c.tc : Thread Cert.RefDxCtxIdeal.nD Cert.RefDxCtxIdeal.τ).loc Cert.RefDxCtxIdeal.main_arg4) = m ((c.tc : Thread Cert.DxCtxIdeal.nD Cert.DxCtxIdeal.τ).loc Cert.DxCtxIdeal.main_arg4)
      ∧ m' ((c.tc : Thread Cert.RefDxCtxIdeal.nD Cert.RefDxCtxIdeal.τ).loc Cert.RefDxCtxIdeal.main_arg5) = m ((c.tc : Thread Cert.DxCtxIdeal.nD Cert.DxCtxIdeal.τ).loc Cert.DxCtxIdeal.main_arg5)) →
    ∃ (v0 : (c : Dev Cert.DxCtxIdeal.nD) → Buf (Elt Ideal) ((c.tc : Thread Cert.DxCtxIdeal.nD Cert.DxCtxIdeal.τ).loc Cert.DxCtxIdeal.main_v0_0)) (v1 : (c : Dev Cert.DxCtxIdeal.nD) → Buf (Elt Ideal) ((c.tc : Thread Cert.DxCtxIdeal.nD Cert.DxCtxIdeal.τ).loc Cert.DxCtxIdeal.main_v0_1)),
      θ_run (Cert.DxCtxIdeal.defs (F := Ideal)) (onTc (τ := Cert.DxCtxIdeal.τ) (Cert.DxCtxIdeal.main (F := Ideal))) ⟨m, fun _ => 0, g⟩ (fun r => ∀ c : Dev Cert.DxCtxIdeal.nD,
          r.2.mem ((c.tc : Thread Cert.DxCtxIdeal.nD Cert.DxCtxIdeal.τ).loc Cert.DxCtxIdeal.main_v0_0) = v0 c
          ∧ r.2.mem ((c.tc : Thread Cert.DxCtxIdeal.nD Cert.DxCtxIdeal.τ).loc Cert.DxCtxIdeal.main_v0_1) = v1 c
          ∧ r.2.mem ((c.tc : Thread Cert.DxCtxIdeal.nD Cert.DxCtxIdeal.τ).loc Cert.DxCtxIdeal.main_arg0) = m ((c.tc : Thread Cert.DxCtxIdeal.nD Cert.DxCtxIdeal.τ).loc Cert.DxCtxIdeal.main_arg0)
          ∧ r.2.mem ((c.tc : Thread Cert.DxCtxIdeal.nD Cert.DxCtxIdeal.τ).loc Cert.DxCtxIdeal.main_arg1) = m ((c.tc : Thread Cert.DxCtxIdeal.nD Cert.DxCtxIdeal.τ).loc Cert.DxCtxIdeal.main_arg1)
          ∧ r.2.mem ((c.tc : Thread Cert.DxCtxIdeal.nD Cert.DxCtxIdeal.τ).loc Cert.DxCtxIdeal.main_arg2) = m ((c.tc : Thread Cert.DxCtxIdeal.nD Cert.DxCtxIdeal.τ).loc Cert.DxCtxIdeal.main_arg2)
          ∧ r.2.mem ((c.tc : Thread Cert.DxCtxIdeal.nD Cert.DxCtxIdeal.τ).loc Cert.DxCtxIdeal.main_arg3) = m ((c.tc : Thread Cert.DxCtxIdeal.nD Cert.DxCtxIdeal.τ).loc Cert.DxCtxIdeal.main_arg3)
          ∧ r.2.mem ((c.tc : Thread Cert.DxCtxIdeal.nD Cert.DxCtxIdeal.τ).loc Cert.DxCtxIdeal.main_arg4) = m ((c.tc : Thread Cert.DxCtxIdeal.nD Cert.DxCtxIdeal.τ).loc Cert.DxCtxIdeal.main_arg4)
          ∧ r.2.mem ((c.tc : Thread Cert.DxCtxIdeal.nD Cert.DxCtxIdeal.τ).loc Cert.DxCtxIdeal.main_arg5) = m ((c.tc : Thread Cert.DxCtxIdeal.nD Cert.DxCtxIdeal.τ).loc Cert.DxCtxIdeal.main_arg5))
      ∧ θ_run (Cert.RefDxCtxIdeal.defs (F := Ideal)) (onTc (τ := Cert.RefDxCtxIdeal.τ) (Cert.RefDxCtxIdeal.main (F := Ideal))) ⟨m', fun _ => 0, g'⟩ (fun r => ∀ c : Dev Cert.RefDxCtxIdeal.nD,
          r.2.mem ((c.tc : Thread Cert.RefDxCtxIdeal.nD Cert.RefDxCtxIdeal.τ).loc Cert.RefDxCtxIdeal.main_v139) = v0 c
          ∧ r.2.mem ((c.tc : Thread Cert.RefDxCtxIdeal.nD Cert.RefDxCtxIdeal.τ).loc Cert.RefDxCtxIdeal.main_v143) = v1 c
          ∧ r.2.mem ((c.tc : Thread Cert.RefDxCtxIdeal.nD Cert.RefDxCtxIdeal.τ).loc Cert.RefDxCtxIdeal.main_arg0) = m' ((c.tc : Thread Cert.RefDxCtxIdeal.nD Cert.RefDxCtxIdeal.τ).loc Cert.RefDxCtxIdeal.main_arg0)
          ∧ r.2.mem ((c.tc : Thread Cert.RefDxCtxIdeal.nD Cert.RefDxCtxIdeal.τ).loc Cert.RefDxCtxIdeal.main_arg1) = m' ((c.tc : Thread Cert.RefDxCtxIdeal.nD Cert.RefDxCtxIdeal.τ).loc Cert.RefDxCtxIdeal.main_arg1)
          ∧ r.2.mem ((c.tc : Thread Cert.RefDxCtxIdeal.nD Cert.RefDxCtxIdeal.τ).loc Cert.RefDxCtxIdeal.main_arg2) = m' ((c.tc : Thread Cert.RefDxCtxIdeal.nD Cert.RefDxCtxIdeal.τ).loc Cert.RefDxCtxIdeal.main_arg2)
          ∧ r.2.mem ((c.tc : Thread Cert.RefDxCtxIdeal.nD Cert.RefDxCtxIdeal.τ).loc Cert.RefDxCtxIdeal.main_arg3) = m' ((c.tc : Thread Cert.RefDxCtxIdeal.nD Cert.RefDxCtxIdeal.τ).loc Cert.RefDxCtxIdeal.main_arg3)
          ∧ r.2.mem ((c.tc : Thread Cert.RefDxCtxIdeal.nD Cert.RefDxCtxIdeal.τ).loc Cert.RefDxCtxIdeal.main_arg4) = m' ((c.tc : Thread Cert.RefDxCtxIdeal.nD Cert.RefDxCtxIdeal.τ).loc Cert.RefDxCtxIdeal.main_arg4)
          ∧ r.2.mem ((c.tc : Thread Cert.RefDxCtxIdeal.nD Cert.RefDxCtxIdeal.τ).loc Cert.RefDxCtxIdeal.main_arg5) = m' ((c.tc : Thread Cert.RefDxCtxIdeal.nD Cert.RefDxCtxIdeal.τ).loc Cert.RefDxCtxIdeal.main_arg5))

def Claim : Prop :=
  ∃ (hBwd : Cert.Bwd.Facts) (hBwdIdeal : Cert.BwdIdeal.Facts) (hRefBwdIdeal : Cert.RefBwdIdeal.Facts) (hFwd : Cert.Fwd.Facts) (hFwdIdeal : Cert.FwdIdeal.Facts) (hRefFwdIdeal : Cert.RefFwdIdeal.Facts) (hDwi : Cert.Dwi.Facts) (hDwiIdeal : Cert.DwiIdeal.Facts) (hRefDwiIdeal : Cert.RefDwiIdeal.Facts) (hDwo : Cert.Dwo.Facts) (hDwoIdeal : Cert.DwoIdeal.Facts) (hRefDwoIdeal : Cert.RefDwoIdeal.Facts) (hDwiCtx : Cert.DwiCtx.Facts) (hDwiCtxIdeal : Cert.DwiCtxIdeal.Facts) (hRefDwiCtxIdeal : Cert.RefDwiCtxIdeal.Facts) (hDwoCtx : Cert.DwoCtx.Facts) (hDwoCtxIdeal : Cert.DwoCtxIdeal.Facts) (hRefDwoCtxIdeal : Cert.RefDwoCtxIdeal.Facts) (hDx2 : Cert.Dx2.Facts) (hDx2Ideal : Cert.Dx2Ideal.Facts) (hRefDx2Ideal : Cert.RefDx2Ideal.Facts) (hDx0 : Cert.Dx0.Facts) (hDx0Ideal : Cert.Dx0Ideal.Facts) (hRefDx0Ideal : Cert.RefDx0Ideal.Facts) (hDown2 : Cert.Down2.Facts) (hDown2Ideal : Cert.Down2Ideal.Facts) (hRefDown2Ideal : Cert.RefDown2Ideal.Facts) (hDown0 : Cert.Down0.Facts) (hDown0Ideal : Cert.Down0Ideal.Facts) (hRefDown0Ideal : Cert.RefDown0Ideal.Facts) (hDownCtx : Cert.DownCtx.Facts) (hDownCtxIdeal : Cert.DownCtxIdeal.Facts) (hRefDownCtxIdeal : Cert.RefDownCtxIdeal.Facts) (hUp2 : Cert.Up2.Facts) (hUp2Ideal : Cert.Up2Ideal.Facts) (hRefUp2Ideal : Cert.RefUp2Ideal.Facts) (hUp0 : Cert.Up0.Facts) (hUp0Ideal : Cert.Up0Ideal.Facts) (hRefUp0Ideal : Cert.RefUp0Ideal.Facts) (hUpCtx : Cert.UpCtx.Facts) (hUpCtxIdeal : Cert.UpCtxIdeal.Facts) (hRefUpCtxIdeal : Cert.RefUpCtxIdeal.Facts) (hDxCtx : Cert.DxCtx.Facts) (hDxCtxIdeal : Cert.DxCtxIdeal.Facts) (hRefDxCtxIdeal : Cert.RefDxCtxIdeal.Facts) (hPre_finite_bwd : Cert.Pre_finite_bwd.Facts) (hPre_finite_dx : Cert.Pre_finite_dx.Facts) (hPre_finite_up : Cert.Pre_finite_up.Facts) (hPre_finite_up_ctx : Cert.Pre_finite_up_ctx.Facts) (hPre_finite_dx_ctx : Cert.Pre_finite_dx_ctx.Facts),
    quiescent_Bwd (hBwd := hBwd)
    ∧ quiescent_BwdIdeal (hBwdIdeal := hBwdIdeal)
    ∧ quiescent_BwdIdeal_pre_finite_bwd (hBwdIdeal := hBwdIdeal) (hPre_finite_bwd := hPre_finite_bwd)
    ∧ quiescent_RefBwdIdeal (hRefBwdIdeal := hRefBwdIdeal)
    ∧ quiescent_RefBwdIdeal_pre_finite_bwd (hRefBwdIdeal := hRefBwdIdeal) (hPre_finite_bwd := hPre_finite_bwd)
    ∧ quiescent_Fwd (hFwd := hFwd)
    ∧ quiescent_FwdIdeal (hFwdIdeal := hFwdIdeal)
    ∧ quiescent_RefFwdIdeal (hRefFwdIdeal := hRefFwdIdeal)
    ∧ quiescent_Dwi (hDwi := hDwi)
    ∧ quiescent_DwiIdeal (hDwiIdeal := hDwiIdeal)
    ∧ quiescent_RefDwiIdeal (hRefDwiIdeal := hRefDwiIdeal)
    ∧ quiescent_Dwo (hDwo := hDwo)
    ∧ quiescent_DwoIdeal (hDwoIdeal := hDwoIdeal)
    ∧ quiescent_RefDwoIdeal (hRefDwoIdeal := hRefDwoIdeal)
    ∧ quiescent_DwiCtx (hDwiCtx := hDwiCtx)
    ∧ quiescent_DwiCtxIdeal (hDwiCtxIdeal := hDwiCtxIdeal)
    ∧ quiescent_RefDwiCtxIdeal (hRefDwiCtxIdeal := hRefDwiCtxIdeal)
    ∧ quiescent_DwoCtx (hDwoCtx := hDwoCtx)
    ∧ quiescent_DwoCtxIdeal (hDwoCtxIdeal := hDwoCtxIdeal)
    ∧ quiescent_RefDwoCtxIdeal (hRefDwoCtxIdeal := hRefDwoCtxIdeal)
    ∧ quiescent_Dx2 (hDx2 := hDx2)
    ∧ quiescent_Dx2Ideal (hDx2Ideal := hDx2Ideal)
    ∧ quiescent_Dx2Ideal_pre_finite_dx (hDx2Ideal := hDx2Ideal) (hPre_finite_dx := hPre_finite_dx)
    ∧ quiescent_RefDx2Ideal (hRefDx2Ideal := hRefDx2Ideal)
    ∧ quiescent_RefDx2Ideal_pre_finite_dx (hRefDx2Ideal := hRefDx2Ideal) (hPre_finite_dx := hPre_finite_dx)
    ∧ quiescent_Dx0 (hDx0 := hDx0)
    ∧ quiescent_Dx0Ideal (hDx0Ideal := hDx0Ideal)
    ∧ quiescent_Dx0Ideal_pre_finite_dx (hDx0Ideal := hDx0Ideal) (hPre_finite_dx := hPre_finite_dx)
    ∧ quiescent_RefDx0Ideal (hRefDx0Ideal := hRefDx0Ideal)
    ∧ quiescent_RefDx0Ideal_pre_finite_dx (hRefDx0Ideal := hRefDx0Ideal) (hPre_finite_dx := hPre_finite_dx)
    ∧ quiescent_Down2 (hDown2 := hDown2)
    ∧ quiescent_Down2Ideal (hDown2Ideal := hDown2Ideal)
    ∧ quiescent_RefDown2Ideal (hRefDown2Ideal := hRefDown2Ideal)
    ∧ quiescent_Down0 (hDown0 := hDown0)
    ∧ quiescent_Down0Ideal (hDown0Ideal := hDown0Ideal)
    ∧ quiescent_RefDown0Ideal (hRefDown0Ideal := hRefDown0Ideal)
    ∧ quiescent_DownCtx (hDownCtx := hDownCtx)
    ∧ quiescent_DownCtxIdeal (hDownCtxIdeal := hDownCtxIdeal)
    ∧ quiescent_RefDownCtxIdeal (hRefDownCtxIdeal := hRefDownCtxIdeal)
    ∧ quiescent_Up2 (hUp2 := hUp2)
    ∧ quiescent_Up2Ideal (hUp2Ideal := hUp2Ideal)
    ∧ quiescent_Up2Ideal_pre_finite_up (hUp2Ideal := hUp2Ideal) (hPre_finite_up := hPre_finite_up)
    ∧ quiescent_RefUp2Ideal (hRefUp2Ideal := hRefUp2Ideal)
    ∧ quiescent_RefUp2Ideal_pre_finite_up (hRefUp2Ideal := hRefUp2Ideal) (hPre_finite_up := hPre_finite_up)
    ∧ quiescent_Up0 (hUp0 := hUp0)
    ∧ quiescent_Up0Ideal (hUp0Ideal := hUp0Ideal)
    ∧ quiescent_Up0Ideal_pre_finite_up (hUp0Ideal := hUp0Ideal) (hPre_finite_up := hPre_finite_up)
    ∧ quiescent_RefUp0Ideal (hRefUp0Ideal := hRefUp0Ideal)
    ∧ quiescent_RefUp0Ideal_pre_finite_up (hRefUp0Ideal := hRefUp0Ideal) (hPre_finite_up := hPre_finite_up)
    ∧ quiescent_UpCtx (hUpCtx := hUpCtx)
    ∧ quiescent_UpCtxIdeal (hUpCtxIdeal := hUpCtxIdeal)
    ∧ quiescent_UpCtxIdeal_pre_finite_up_ctx (hUpCtxIdeal := hUpCtxIdeal) (hPre_finite_up_ctx := hPre_finite_up_ctx)
    ∧ quiescent_RefUpCtxIdeal (hRefUpCtxIdeal := hRefUpCtxIdeal)
    ∧ quiescent_RefUpCtxIdeal_pre_finite_up_ctx (hRefUpCtxIdeal := hRefUpCtxIdeal) (hPre_finite_up_ctx := hPre_finite_up_ctx)
    ∧ quiescent_DxCtx (hDxCtx := hDxCtx)
    ∧ quiescent_DxCtxIdeal (hDxCtxIdeal := hDxCtxIdeal)
    ∧ quiescent_DxCtxIdeal_pre_finite_dx_ctx (hDxCtxIdeal := hDxCtxIdeal) (hPre_finite_dx_ctx := hPre_finite_dx_ctx)
    ∧ quiescent_RefDxCtxIdeal (hRefDxCtxIdeal := hRefDxCtxIdeal)
    ∧ quiescent_RefDxCtxIdeal_pre_finite_dx_ctx (hRefDxCtxIdeal := hRefDxCtxIdeal) (hPre_finite_dx_ctx := hPre_finite_dx_ctx)
    ∧ preserves_Bwd_BwdIdeal
    ∧ algebraic_BwdIdeal_RefBwdIdeal_pre_finite_bwd (hBwdIdeal := hBwdIdeal) (hRefBwdIdeal := hRefBwdIdeal) (hPre_finite_bwd := hPre_finite_bwd)
    ∧ preserves_Fwd_FwdIdeal
    ∧ preserves_Dwi_DwiIdeal
    ∧ algebraic_DwiIdeal_RefDwiIdeal (hDwiIdeal := hDwiIdeal) (hRefDwiIdeal := hRefDwiIdeal)
    ∧ preserves_Dwo_DwoIdeal
    ∧ algebraic_DwoIdeal_RefDwoIdeal (hDwoIdeal := hDwoIdeal) (hRefDwoIdeal := hRefDwoIdeal)
    ∧ preserves_DwiCtx_DwiCtxIdeal
    ∧ algebraic_DwiCtxIdeal_RefDwiCtxIdeal (hDwiCtxIdeal := hDwiCtxIdeal) (hRefDwiCtxIdeal := hRefDwiCtxIdeal)
    ∧ preserves_DwoCtx_DwoCtxIdeal
    ∧ algebraic_DwoCtxIdeal_RefDwoCtxIdeal (hDwoCtxIdeal := hDwoCtxIdeal) (hRefDwoCtxIdeal := hRefDwoCtxIdeal)
    ∧ preserves_Dx2_Dx2Ideal
    ∧ algebraic_Dx2Ideal_RefDx2Ideal_pre_finite_dx (hDx2Ideal := hDx2Ideal) (hRefDx2Ideal := hRefDx2Ideal) (hPre_finite_dx := hPre_finite_dx)
    ∧ preserves_Dx0_Dx0Ideal
    ∧ algebraic_Dx0Ideal_RefDx0Ideal_pre_finite_dx (hDx0Ideal := hDx0Ideal) (hRefDx0Ideal := hRefDx0Ideal) (hPre_finite_dx := hPre_finite_dx)
    ∧ preserves_Down2_Down2Ideal
    ∧ algebraic_Down2Ideal_RefDown2Ideal (hDown2Ideal := hDown2Ideal) (hRefDown2Ideal := hRefDown2Ideal)
    ∧ preserves_Down0_Down0Ideal
    ∧ algebraic_Down0Ideal_RefDown0Ideal (hDown0Ideal := hDown0Ideal) (hRefDown0Ideal := hRefDown0Ideal)
    ∧ preserves_DownCtx_DownCtxIdeal
    ∧ algebraic_DownCtxIdeal_RefDownCtxIdeal (hDownCtxIdeal := hDownCtxIdeal) (hRefDownCtxIdeal := hRefDownCtxIdeal)
    ∧ preserves_Up2_Up2Ideal
    ∧ algebraic_Up2Ideal_RefUp2Ideal_pre_finite_up (hUp2Ideal := hUp2Ideal) (hRefUp2Ideal := hRefUp2Ideal) (hPre_finite_up := hPre_finite_up)
    ∧ preserves_Up0_Up0Ideal
    ∧ algebraic_Up0Ideal_RefUp0Ideal_pre_finite_up (hUp0Ideal := hUp0Ideal) (hRefUp0Ideal := hRefUp0Ideal) (hPre_finite_up := hPre_finite_up)
    ∧ preserves_UpCtx_UpCtxIdeal
    ∧ algebraic_UpCtxIdeal_RefUpCtxIdeal_pre_finite_up_ctx (hUpCtxIdeal := hUpCtxIdeal) (hRefUpCtxIdeal := hRefUpCtxIdeal) (hPre_finite_up_ctx := hPre_finite_up_ctx)
    ∧ preserves_DxCtx_DxCtxIdeal
    ∧ algebraic_DxCtxIdeal_RefDxCtxIdeal_pre_finite_dx_ctx (hDxCtxIdeal := hDxCtxIdeal) (hRefDxCtxIdeal := hRefDxCtxIdeal) (hPre_finite_dx_ctx := hPre_finite_dx_ctx)
-- ==== Pre_finite_bwd.lean ====
abbrev S4608x2432 : Shape := ⟨2, ![4608, 2432]⟩
abbrev S4608x512 : Shape := ⟨2, ![4608, 512]⟩
abbrev S4096x512 : Shape := ⟨2, ![4096, 512]⟩
abbrev S_ : Shape := ⟨0, ![]⟩

class Facts : Prop where
  bcast_S_S4608x2432 : S_.BroadcastsInDim S4608x2432 (![] : Fin 0 → Fin S4608x2432.rank)
  reducesTo_S4608x2432_S_d0_1 : S4608x2432.ReducesTo [0, 1] S_
  h_S_ : 0 < S_.numel
  bcast_S_S4608x512 : S_.BroadcastsInDim S4608x512 (![] : Fin 0 → Fin S4608x512.rank)
  reducesTo_S4608x512_S_d0_1 : S4608x512.ReducesTo [0, 1] S_
  bcast_S_S4096x512 : S_.BroadcastsInDim S4096x512 (![] : Fin 0 → Fin S4096x512.rank)
  reducesTo_S4096x512_S_d0_1 : S4096x512.ReducesTo [0, 1] S_

variable [Facts]

def fn {F : FTy → Type} [FloatOps F] (main_arg0 : FVec F S4608x2432 .f32) (main_arg1 : FVec F S4608x512 .f32) (main_arg2 : FVec F S4096x512 .f32) : IVec S_ 1 :=
  let main_v0 : FVec F S4608x2432 .f32 := Host.absf main_arg0
  let main_cst : FVec F S_ .f32 := constant S_ .f32 0x7F800000#32
  let main_v1 : FVec F S4608x2432 .f32 := broadcastInDim S4608x2432 ![] bcast_S_S4608x2432 main_cst
  let main_v2 : IVec S4608x2432 1 := cmpf .olt main_v0 main_v1
  let main_c : IVec S_ 1 := constantI S_ 1 1#1
  let main_v3 : IVec S_ 1 := (fun x v => Host.reduce IntOp.andi x v reducesTo_S4608x2432_S_d0_1 h_S_) main_v2 main_c
  let main_v4 : FVec F S4608x512 .f32 := Host.absf main_arg1
  let main_cst_0 : FVec F S_ .f32 := constant S_ .f32 0x7F800000#32
  let main_v5 : FVec F S4608x512 .f32 := broadcastInDim S4608x512 ![] bcast_S_S4608x512 main_cst_0
  let main_v6 : IVec S4608x512 1 := cmpf .olt main_v4 main_v5
  let main_c_1 : IVec S_ 1 := constantI S_ 1 1#1
  let main_v7 : IVec S_ 1 := (fun x v => Host.reduce IntOp.andi x v reducesTo_S4608x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  main_v13
-- ==== Pre_finite_dx.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S_ : Shape := ⟨0, ![]⟩

class Facts : Prop where
  bitsLt_bf16_f32 : FTy.bits .bf16 < FTy.bits .f32
  bcast_S_S2x4096x2816 : S_.BroadcastsInDim S2x4096x2816 (![] : Fin 0 → Fin S2x4096x2816.rank)
  reducesTo_S2x4096x2816_S_d0_1_2 : S2x4096x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4096x1024 : S_.BroadcastsInDim S4096x1024 (![] : Fin 0 → Fin S4096x1024.rank)
  reducesTo_S4096x1024_S_d0_1 : S4096x1024.ReducesTo [0, 1] S_
  bcast_S_S3x1024 : S_.BroadcastsInDim S3x1024 (![] : Fin 0 → Fin S3x1024.rank)
  reducesTo_S3x1024_S_d0_1 : S3x1024.ReducesTo [0, 1] S_
  bcast_S_S2x9x1024 : S_.BroadcastsInDim S2x9x1024 (![] : Fin 0 → Fin S2x9x1024.rank)
  reducesTo_S2x9x1024_S_d0_1_2 : S2x9x1024.ReducesTo [0, 1, 2] S_

variable [Facts]

def fn_part1 {F : FTy → Type} [FloatOps F] (main_arg5 : FVec F S2x9x1024 .f32) (main_v15 : IVec S_ 1) (main_v16 : FVec F S3x1024 .f32) (main_cst_4 : FVec F S_ .f32) : IVec S_ 1 :=
  let main_v17 : FVec F S3x1024 .f32 := broadcastInDim S3x1024 ![] bcast_S_S3x1024 main_cst_4
  let main_v18 : IVec S3x1024 1 := cmpf .olt main_v16 main_v17
  let main_c_5 : IVec S_ 1 := constantI S_ 1 1#1
  let main_v19 : IVec S_ 1 := (fun x v => Host.reduce IntOp.andi x v reducesTo_S3x1024_S_d0_1 h_S_) main_v18 main_c_5
  let main_v20 : IVec S_ 1 := andi main_v15 main_v19
  let main_v21 : FVec F S2x9x1024 .f32 := Host.absf main_arg5
  let main_cst_6 : FVec F S_ .f32 := constant S_ .f32 0x7F800000#32
  let main_v22 : FVec F S2x9x1024 .f32 := broadcastInDim S2x9x1024 ![] bcast_S_S2x9x1024 main_cst_6
  let main_v23 : IVec S2x9x1024 1 := cmpf .olt main_v21 main_v22
  let main_c_7 : IVec S_ 1 := constantI S_ 1 1#1
  let main_v24 : IVec S_ 1 := (fun x v => Host.reduce IntOp.andi x v reducesTo_S2x9x1024_S_d0_1_2 h_S_) main_v23 main_c_7
  let main_v25 : IVec S_ 1 := andi main_v20 main_v24
  main_v25

def fn {F : FTy → Type} [FloatOps F] (main_arg0 : FVec F S2x4096x2816 .bf16) (main_arg1 : FVec F S4x1024x1408 .bf16) (main_arg2 : FVec F S4096x1024 .f32) (main_arg3 : FVec F S4096x1024 .f32) (main_arg4 : FVec F S3x1024 .f32) (main_arg5 : FVec F S2x9x1024 .f32) : IVec S_ 1 :=
  let main_v0 : FVec F S2x4096x2816 .f32 := (extf .f32 · bitsLt_bf16_f32) main_arg0
  let main_v1 : FVec F S2x4096x2816 .f32 := Host.absf main_v0
  let main_cst : FVec F S_ .f32 := constant S_ .f32 0x7F800000#32
  let main_v2 : FVec F S2x4096x2816 .f32 := broadcastInDim S2x4096x2816 ![] bcast_S_S2x4096x2816 main_cst
  let main_v3 : IVec S2x4096x2816 1 := cmpf .olt main_v1 main_v2
  let main_c : IVec S_ 1 := constantI S_ 1 1#1
  let main_v4 : IVec S_ 1 := (fun x v => Host.reduce IntOp.andi x v reducesTo_S2x4096x2816_S_d0_1_2 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : IVec S_ 1 := andi main_v4 main_v9
  let main_v11 : FVec F S4096x1024 .f32 := Host.absf main_arg2
  let main_cst_2 : FVec F S_ .f32 := constant S_ .f32 0x7F800000#32
  let main_v12 : FVec F S4096x1024 .f32 := broadcastInDim S4096x1024 ![] bcast_S_S4096x1024 main_cst_2
  let main_v13 : IVec S4096x1024 1 := cmpf .olt main_v11 main_v12
  let main_c_3 : IVec S_ 1 := constantI S_ 1 1#1
  let main_v14 : IVec S_ 1 := (fun x v => Host.reduce IntOp.andi x v reducesTo_S4096x1024_S_d0_1 h_S_) main_v13 main_c_3
  let main_v15 : IVec S_ 1 := andi main_v10 main_v14
  let main_v16 : FVec F S3x1024 .f32 := Host.absf main_arg4
  let main_cst_4 : FVec F S_ .f32 := constant S_ .f32 0x7F800000#32
  fn_part1 (F := F) main_arg5 main_v15 main_v16 main_cst_4
-- ==== Pre_finite_dx_ctx.lean ====
abbrev S2x4608x2816 : Shape := ⟨3, ![2, 4608, 2816]⟩
abbrev S4x1024x1408 : Shape := ⟨3, ![4, 1024, 1408]⟩
abbrev S4608x1024 : Shape := ⟨2, ![4608, 1024]⟩
abbrev S3x1024 : Shape := ⟨2, ![3, 1024]⟩
abbrev S2x9x1024 : Shape := ⟨3, ![2, 9, 1024]⟩
abbrev S_ : Shape := ⟨0, ![]⟩

class Facts : Prop where
  bitsLt_bf16_f32 : FTy.bits .bf16 < FTy.bits .f32
  bcast_S_S2x4608x2816 : S_.BroadcastsInDim S2x4608x2816 (![] : Fin 0 → Fin S2x4608x2816.rank)
  reducesTo_S2x4608x2816_S_d0_1_2 : S2x4608x2816.ReducesTo [0, 1, 2] S_
  h_S_ : 0 < S_.numel
  bcast_S_S4x1024x1408 : S_.BroadcastsInDim S4x1024x1408 (![] : Fin 0 → Fin S4x1024x1408.rank)
  reducesTo_S4x1024x1408_S_d0_1_2 : S4x1024x1408.ReducesTo [0, 1, 2] S_
  bcast_S_S4608x1024 : S_.BroadcastsInDim S4608x1024 (![] : Fin 0 → Fin S4608x1024.rank)
  reducesTo_S4608x1024_S_d0_1 : S4608x1024.ReducesTo [0, 1] S_
  bcast_S_S3x1024 : S_.BroadcastsInDim S3x1024 (![] : Fin 0 → Fin S3x1024.rank)
  reducesTo_S3x1024_S_d0_1 : S3x1024.ReducesTo [0, 1] S_
  bcast_S_S2x9x1024 : S_.BroadcastsInDim S2x9x1024 (![] : Fin 0 → Fin S2x9x1024.rank)
  reducesTo_S2x9x1024_S_d0_1_2 : S2x9x1024.ReducesTo [0, 1, 2] S_

variable [Facts]

def fn_part1 {F : FTy → Type} [FloatOps F] (main_arg5 : FVec F S2x9x1024 .f32) (main_v15 : IVec S_ 1) (main_v16 : FVec F S3x1024 .f32) (main_cst_4 : FVec F S_ .f32) : IVec S_ 1 :=
  let main_v17 : FVec F S3x1024 .f32 := broadcastInDim S3x1024 ![] bcast_S_S3x1024 main_cst_4
  let main_v18 : IVec S3x1024 1 := cmpf .olt main_v16 main_v17
  let main_c_5 : IVec S_ 1 := constantI S_ 1 1#1
  let main_v19 : IVec S_ 1 := (fun x v => Host.reduce IntOp.andi x v reducesTo_S3x1024_S_d0_1 h_S_) main_v18 main_c_5
  let main_v20 : IVec S_ 1 := andi main_v15 main_v19
  let main_v21 : FVec F S2x9x1024 .f32 := Host.absf main_arg5
  let main_cst_6 : FVec F S_ .f32 := constant S_ .f32 0x7F800000#32
  let main_v22 : FVec F S2x9x1024 .f32 := broadcastInDim S2x9x1024 ![] bcast_S_S2x9x1024 main_cst_6
  let main_v23 : IVec S2x9x1024 1 := cmpf .olt main_v21 main_v22
  let main_c_7 : IVec S_ 1 := constantI S_ 1 1#1
  let main_v24 : IVec S_ 1 := (fun x v => Host.reduce IntOp.andi x v reducesTo_S2x9x1024_S_d0_1_2 h_S_) main_v23 main_c_7
  let main_v25 : IVec S_ 1 := andi main_v20 main_v24
  main_v25

def fn {F : FTy → Type} [FloatOps F] (main_arg0 : FVec F S2x4608x2816 .bf16) (main_arg1 : FVec F S4x1024x1408 .bf16) (main_arg2 : FVec F S4608x1024 .f32) (main_arg3 : FVec F S4608x1024 .f32) (main_arg4 : FVec F S3x1024 .f32) (main_arg5 : FVec F S2x9x1024 .f32) : IVec S_ 1 :=
  let main_v0 : FVec F S2x4608x2816 .f32 := (extf .f32 · bitsLt_bf16_f32) main_arg0
  let main_v1 : FVec F S2x4608x2816 .f32 := Host.absf main_v0
  let main_cst : FVec F S_ .f32 := constant S_ .f32 0x7F800000#32
  let main_v2 : FVec F S2x4608x2816 .f32 := broadcastInDim S2x4608x2816 ![] bcast_S_S2x4608x2816 main_cst
  let main_v3 : IVec S2x4608x2816 1 := cmpf .olt main_v1 main_v2
  let main_c : IVec S_ 1 := constantI S_ 1 1#1
  let main_v4 : IVec S_ 1 := (fun x v => Host.reduce IntOp.andi x v reducesTo_S2x4608x2816_S_d0_1_2 h_S_) main_v3 main_c
  let main_v5 : FVec F S4x1024x1408 .f32 := (extf .f32 · bitsLt_bf16_f32) main_arg1
  let main_v6 : FVec F S4x1024x1408 .f32 := Host.absf main_v5
  let main_cst_0 : FVec F S_ .f32 := constant S_ .f32 0x7F800000#32
  let main_v7 : FVec F S4x1024x1408 .f32 := broadcastInDim S4x1024x1408 ![] bcast_S_S4x1024x1408 main_cst_0
  let main_v8 : IVec S4x1024x1408 1 := cmpf .olt main_v6 main_v7
  let main_c_1 : IVec S_ 1 := constantI S_ 1 1#1
  let main_v9 : IVec S_ 1 := (fun x v => Host.reduce IntOp.andi x v reducesTo_S4x1024x1408_S_d0_1_2 h_S_) main_v8 main_c_1
  let main_v10 : IVec S_ 1 := andi main_v4 main_v9
  let main_v11 : FVec F S4608x1024 .f32 := Host.absf main_arg2
  let main_cst_2 : FVec F S_ .f32 := constant S_ .f32 0x7F800000#32
  let main_v12 : FVec F S4608x1024 .f32 := broadcastInDim S4608x1024 ![] bcast_S_S4608x1024 main_cst_2
  let main_v13 : IVec S4608x1024 1 := cmpf .olt main_v11 main_v12
  let main_c_3 : IVec S_ 1 := constantI S_ 1 1#1
  let main_v14 : IVec S_ 1 := (fun x v => Host.reduce IntOp.andi x v reducesTo_S4608x1024_S_d0_1 h_S_) main_v13 main_c_3
  let main_v15 : IVec S_ 1 := andi main_v10 main_v14
  let main_v16 : FVec F S3x1024 .f32 := Host.absf main_arg4
  let main_cst_4 : FVec F S_ .f32 := constant S_ .f32 0x7F800000#32
  fn_part1 (F := F) main_arg5 main_v15 main_v16 main_cst_4
-- ==== Pre_finite_up.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S2x9x1024 : S_.BroadcastsInDim S2x9x1024 (![] : Fin 0 → Fin S2x9x1024.rank)
  reducesTo_S2x9x1024_S_d0_1_2 : S2x9x1024.ReducesTo [0, 1, 2] S_
  bitsLt_bf16_f32 : FTy.bits .bf16 < FTy.bits .f32
  bcast_S_S4x1024x1408 : S_.BroadcastsInDim S4x1024x1408 (![] : Fin 0 → Fin S4x1024x1408.rank)
  reducesTo_S4x1024x1408_S_d0_1_2 : S4x1024x1408.ReducesTo [0, 1, 2] S_

variable [Facts]

def fn_part1 {F : FTy → Type} [FloatOps F] (main_v13 : IVec S_ 1) (main_v15 : FVec F S4x1024x1408 .f32) (main_v16 : FVec F S4x1024x1408 .f32) : IVec S_ 1 :=
  let main_v17 : IVec S4x1024x1408 1 := cmpf .olt main_v15 main_v16
  let main_c_5 : IVec S_ 1 := constantI S_ 1 1#1
  let main_v18 : IVec S_ 1 := (fun x v => Host.reduce IntOp.andi x v reducesTo_S4x1024x1408_S_d0_1_2 h_S_) main_v17 main_c_5
  let main_v19 : IVec S_ 1 := andi main_v13 main_v18
  main_v19

def fn {F : FTy → Type} [FloatOps F] (main_arg0 : FVec F S4096x1024 .f32) (main_arg1 : FVec F S3x1024 .f32) (main_arg2 : FVec F S2x9x1024 .f32) (main_arg3 : FVec F S4x1024x1408 .bf16) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S3x1024 .f32 := Host.absf main_arg1
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S2x9x1024 .f32 := Host.absf main_arg2
  let main_cst_2 : FVec F S_ .f32 := constant S_ .f32 0x7F800000#32
  let main_v10 : FVec F S2x9x1024 .f32 := broadcastInDim S2x9x1024 ![] bcast_S_S2x9x1024 main_cst_2
  let main_v11 : IVec S2x9x1024 1 := cmpf .olt main_v9 main_v10
  let main_c_3 : IVec S_ 1 := constantI S_ 1 1#1
  let main_v12 : IVec S_ 1 := (fun x v => Host.reduce IntOp.andi x v reducesTo_S2x9x1024_S_d0_1_2 h_S_) main_v11 main_c_3
  let main_v13 : IVec S_ 1 := andi main_v8 main_v12
  let main_v14 : FVec F S4x1024x1408 .f32 := (extf .f32 · bitsLt_bf16_f32) main_arg3
  let main_v15 : FVec F S4x1024x1408 .f32 := Host.absf main_v14
  let main_cst_4 : FVec F S_ .f32 := constant S_ .f32 0x7F800000#32
  let main_v16 : FVec F S4x1024x1408 .f32 := broadcastInDim S4x1024x1408 ![] bcast_S_S4x1024x1408 main_cst_4
  fn_part1 (F := F) main_v13 main_v15 main_v16
-- ==== Pre_finite_up_ctx.lean ====
abbrev S4608x1024 : Shape := ⟨2, ![4608, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S_ : Shape := ⟨0, ![]⟩

class Facts : Prop where
  bcast_S_S4608x1024 : S_.BroadcastsInDim S4608x1024 (![] : Fin 0 → Fin S4608x1024.rank)
  reducesTo_S4608x1024_S_d0_1 : S4608x1024.ReducesTo [0, 1] S_
  h_S_ : 0 < S_.numel
  bcast_S_S3x1024 : S_.BroadcastsInDim S3x1024 (![] : Fin 0 → Fin S3x1024.rank)
  reducesTo_S3x1024_S_d0_1 : S3x1024.ReducesTo [0, 1] S_
  bcast_S_S2x9x1024 : S_.BroadcastsInDim S2x9x1024 (![] : Fin 0 → Fin S2x9x1024.rank)
  reducesTo_S2x9x1024_S_d0_1_2 : S2x9x1024.ReducesTo [0, 1, 2] S_
  bitsLt_bf16_f32 : FTy.bits .bf16 < FTy.bits .f32
  bcast_S_S4x1024x1408 : S_.BroadcastsInDim S4x1024x1408 (![] : Fin 0 → Fin S4x1024x1408.rank)
  reducesTo_S4x1024x1408_S_d0_1_2 : S4x1024x1408.ReducesTo [0, 1, 2] S_

variable [Facts]

def fn_part1 {F : FTy → Type} [FloatOps F] (main_v13 : IVec S_ 1) (main_v15 : FVec F S4x1024x1408 .f32) (main_v16 : FVec F S4x1024x1408 .f32) : IVec S_ 1 :=
  let main_v17 : IVec S4x1024x1408 1 := cmpf .olt main_v15 main_v16
  let main_c_5 : IVec S_ 1 := constantI S_ 1 1#1
  let main_v18 : IVec S_ 1 := (fun x v => Host.reduce IntOp.andi x v reducesTo_S4x1024x1408_S_d0_1_2 h_S_) main_v17 main_c_5
  let main_v19 : IVec S_ 1 := andi main_v13 main_v18
  main_v19

def fn {F : FTy → Type} [FloatOps F] (main_arg0 : FVec F S4608x1024 .f32) (main_arg1 : FVec F S3x1024 .f32) (main_arg2 : FVec F S2x9x1024 .f32) (main_arg3 : FVec F S4x1024x1408 .bf16) : IVec S_ 1 :=
  let main_v0 : FVec F S4608x1024 .f32 := Host.absf main_arg0
  let main_cst : FVec F S_ .f32 := constant S_ .f32 0x7F800000#32
  let main_v1 : FVec F S4608x1024 .f32 := broadcastInDim S4608x1024 ![] bcast_S_S4608x1024 main_cst
  let main_v2 : IVec S4608x1024 1 := cmpf .olt main_v0 main_v1
  let main_c : IVec S_ 1 := constantI S_ 1 1#1
  let main_v3 : IVec S_ 1 := (fun x v => Host.reduce IntOp.andi x v reducesTo_S4608x1024_S_d0_1 h_S_) main_v2 main_c
  let main_v4 : FVec F S3x1024 .f32 := Host.absf main_arg1
  let main_cst_0 : FVec F S_ .f32 := constant S_ .f32 0x7F800000#32
  let main_v5 : FVec F S3x1024 .f32 := broadcastInDim S3x1024 ![] bcast_S_S3x1024 main_cst_0
  let main_v6 : IVec S3x1024 1 := cmpf .olt main_v4 main_v5
  let main_c_1 : IVec S_ 1 := constantI S_ 1 1#1
  let main_v7 : IVec S_ 1 := (fun x v => Host.reduce IntOp.andi x v reducesTo_S3x1024_S_d0_1 h_S_) main_v6 main_c_1
  let main_v8 : IVec S_ 1 := andi main_v3 main_v7
  let main_v9 : FVec F S2x9x1024 .f32 := Host.absf main_arg2
  let main_cst_2 : FVec F S_ .f32 := constant S_ .f32 0x7F800000#32
  let main_v10 : FVec F S2x9x1024 .f32 := broadcastInDim S2x9x1024 ![] bcast_S_S2x9x1024 main_cst_2
  let main_v11 : IVec S2x9x1024 1 := cmpf .olt main_v9 main_v10
  let main_c_3 : IVec S_ 1 := constantI S_ 1 1#1
  let main_v12 : IVec S_ 1 := (fun x v => Host.reduce IntOp.andi x v reducesTo_S2x9x1024_S_d0_1_2 h_S_) main_v11 main_c_3
  let main_v13 : IVec S_ 1 := andi main_v8 main_v12
  let main_v14 : FVec F S4x1024x1408 .f32 := (extf .f32 · bitsLt_bf16_f32) main_arg3
  let main_v15 : FVec F S4x1024x1408 .f32 := Host.absf main_v14
  let main_cst_4 : FVec F S_ .f32 := constant S_ .f32 0x7F800000#32
  let main_v16 : FVec F S4x1024x1408 .f32 := broadcastInDim S4x1024x1408 ![] bcast_S_S4x1024x1408 main_cst_4
  fn_part1 (F := F) main_v13 main_v15 main_v16
-- ==== Bwd.lean ====
abbrev S4608x2432 : Shape := ⟨2, ![4608, 2432]⟩
abbrev S4608x512 : Shape := ⟨2, ![4608, 512]⟩
abbrev S4096x512 : Shape := ⟨2, ![4096, 512]⟩
abbrev S4608x256 : Shape := ⟨2, ![4608, 256]⟩
abbrev S256x256 : Shape := ⟨2, ![256, 256]⟩
abbrev S4096x256 : Shape := ⟨2, ![4096, 256]⟩
abbrev S4352x256 : Shape := ⟨2, ![4352, 256]⟩
abbrev S4352x4x64 : Shape := ⟨3, ![4352, 4, 64]⟩
abbrev S4352x8x64 : Shape := ⟨3, ![4352, 8, 64]⟩
abbrev S256x512 : Shape := ⟨2, ![256, 512]⟩
abbrev S4352x512 : Shape := ⟨2, ![4352, 512]⟩
abbrev S4352x4x128 : Shape := ⟨3, ![4352, 4, 128]⟩
abbrev S4352x8x128 : Shape := ⟨3, ![4352, 8, 128]⟩
abbrev S_ : Shape := ⟨0, ![]⟩
abbrev S1x8x64 : Shape := ⟨3, ![1, 8, 64]⟩
abbrev S67x8x64 : Shape := ⟨3, ![67, 8, 64]⟩
abbrev S68x8x64 : Shape := ⟨3, ![68, 8, 64]⟩
abbrev S4352 : Shape := ⟨1, ![4352]⟩
abbrev S1x4352 : Shape := ⟨2, ![1, 4352]⟩
abbrev S68 : Shape := ⟨1, ![68]⟩
abbrev S68x1 : Shape := ⟨2, ![68, 1]⟩
abbrev S68x4352 : Shape := ⟨2, ![68, 4352]⟩
abbrev S68x4352x1x1 : Shape := ⟨4, ![68, 4352, 1, 1]⟩
abbrev S1x4352x8x64 : Shape := ⟨4, ![1, 4352, 8, 64]⟩
abbrev S68x1x8x64 : Shape := ⟨4, ![68, 1, 8, 64]⟩
abbrev S68x4352x8x64 : Shape := ⟨4, ![68, 4352, 8, 64]⟩
abbrev S8x128x68x64 : Shape := ⟨4, ![8, 128, 68, 64]⟩
abbrev S68x8x128x64 : Shape := ⟨4, ![68, 8, 128, 64]⟩
abbrev S68x4x128x64 : Shape := ⟨4, ![68, 4, 128, 64]⟩
abbrev S64x512 : Shape := ⟨2, ![64, 512]⟩
abbrev S1x4x128x64 : Shape := ⟨4, ![1, 4, 128, 64]⟩
abbrev S64x256 : Shape := ⟨2, ![64, 256]⟩
abbrev S512x256 : Shape := ⟨2, ![512, 256]⟩
abbrev S64x64 : Shape := ⟨2, ![64, 64]⟩
abbrev S256 : Shape := ⟨1, ![256]⟩
abbrev S1x256 : Shape := ⟨2, ![1, 256]⟩
abbrev S1x1x128x64 : Shape := ⟨4, ![1, 1, 128, 64]⟩
abbrev S128x64 : Shape := ⟨2, ![128, 64]⟩
abbrev S128x256 : Shape := ⟨2, ![128, 256]⟩

abbrev nBuf : Space → Nat
  | .hbm => 73
  | .vmem => 34
  | .smem => 0
  | _ => 0

abbrev bufTy : (tb : Table) → Fin (tcTables nBuf tb) → BufTy
  | .hbm, ⟨0, _⟩ => ⟨S4608x2432, .f32⟩
  | .hbm, ⟨1, _⟩ => ⟨S4608x512, .f32⟩
  | .hbm, ⟨2, _⟩ => ⟨S4096x512, .f32⟩
  | .hbm, ⟨3, _⟩ => ⟨S4608x256, .f32⟩
  | .hbm, ⟨4, _⟩ => ⟨S4608x512, .f32⟩
  | .hbm, ⟨5, _⟩ => ⟨S256x256, .f32⟩
  | .hbm, ⟨6, _⟩ => ⟨S4096x256, .f32⟩
  | .hbm, ⟨7, _⟩ => ⟨S4352x256, .f32⟩
  | .hbm, ⟨8, _⟩ => ⟨S4352x256, .f32⟩
  | .hbm, ⟨9, _⟩ => ⟨S4352x256, .f32⟩
  | .hbm, ⟨10, _⟩ => ⟨S4352x4x64, .f32⟩
  | .hbm, ⟨11, _⟩ => ⟨S4352x4x64, .f32⟩
  | .hbm, ⟨12, _⟩ => ⟨S4352x8x64, .f32⟩
  | .hbm, ⟨13, _⟩ => ⟨S256x512, .f32⟩
  | .hbm, ⟨14, _⟩ => ⟨S4096x512, .f32⟩
  | .hbm, ⟨15, _⟩ => ⟨S4352x512, .f32⟩
  | .hbm, ⟨16, _⟩ => ⟨S4352x512, .f32⟩
  | .hbm, ⟨17, _⟩ => ⟨S4352x512, .f32⟩
  | .hbm, ⟨18, _⟩ => ⟨S4352x4x128, .f32⟩
  | .hbm, ⟨19, _⟩ => ⟨S4352x4x128, .f32⟩
  | .hbm, ⟨20, _⟩ => ⟨S4352x8x128, .f32⟩
  | .hbm, ⟨21, _⟩ => ⟨S4608x256, .f32⟩
  | .hbm, ⟨22, _⟩ => ⟨S4608x256, .f32⟩
  | .hbm, ⟨23, _⟩ => ⟨S256x256, .f32⟩
  | .hbm, ⟨24, _⟩ => ⟨S4096x256, .f32⟩
  | .hbm, ⟨25, _⟩ => ⟨S4352x256, .f32⟩
  | .hbm, ⟨26, _⟩ => ⟨S4352x256, .f32⟩
  | .hbm, ⟨27, _⟩ => ⟨S4352x256, .f32⟩
  | .hbm, ⟨28, _⟩ => ⟨S4352x4x64, .f32⟩
  | .hbm, ⟨29, _⟩ => ⟨S4352x4x64, .f32⟩
  | .hbm, ⟨30, _⟩ => ⟨S4352x8x64, .f32⟩
  | .hbm, ⟨31, _⟩ => ⟨S_, .f32⟩
  | .hbm, ⟨32, _⟩ => ⟨S_, .f32⟩
  | .hbm, ⟨33, _⟩ => ⟨S4352x8x64, .f32⟩
  | .hbm, ⟨34, _⟩ => ⟨S_, .f32⟩
  | .hbm, ⟨35, _⟩ => ⟨S1x8x64, .f32⟩
  | .hbm, ⟨36, _⟩ => ⟨S67x8x64, .f32⟩
  | .hbm, ⟨37, _⟩ => ⟨S68x8x64, .f32⟩
  | .hbm, ⟨38, _⟩ => ⟨S4352, .i32⟩
  | .hbm, ⟨39, _⟩ => ⟨S1x4352, .i32⟩
  | .hbm, ⟨40, _⟩ => ⟨S68, .i32⟩
  | .hbm, ⟨41, _⟩ => ⟨S68x1, .i32⟩
  | .hbm, ⟨42, _⟩ => ⟨S_, .i32⟩
  | .hbm, ⟨43, _⟩ => ⟨S68x1, .i32⟩
  | .hbm, ⟨44, _⟩ => ⟨S68x1, .i32⟩
  | .hbm, ⟨45, _⟩ => ⟨S68x4352, .i32⟩
  | .hbm, ⟨46, _⟩ => ⟨S68x4352, .i32⟩
  | .hbm, ⟨47, _⟩ => ⟨S68x4352, .i1⟩
  | .hbm, ⟨48, _⟩ => ⟨S68x4352x1x1, .i1⟩
  | .hbm, ⟨49, _⟩ => ⟨S1x4352x8x64, .f32⟩
  | .hbm, ⟨50, _⟩ => ⟨S68x1x8x64, .f32⟩
  | .hbm, ⟨51, _⟩ => ⟨S1x4352x8x64, .f32⟩
  | .hbm, ⟨52, _⟩ => ⟨S68x4352x8x64, .f32⟩
  | .hbm, ⟨53, _⟩ => ⟨S68x4352x8x64, .f32⟩
  | .hbm, ⟨54, _⟩ => ⟨S68x4352x8x64, .f32⟩
  | .hbm, ⟨55, _⟩ => ⟨S68x4352x8x64, .f32⟩
  | .hbm, ⟨56, _⟩ => ⟨S68x4352x8x64, .f32⟩
  | .hbm, ⟨57, _⟩ => ⟨S68x4352x8x64, .f32⟩
  | .hbm, ⟨58, _⟩ => ⟨S_, .f32⟩
  | .hbm, ⟨59, _⟩ => ⟨S_, .f32⟩
  | .hbm, ⟨60, _⟩ => ⟨S68x4352x8x64, .i1⟩
  | .hbm, ⟨61, _⟩ => ⟨S68x4352x8x64, .f32⟩
  | .hbm, ⟨62, _⟩ => ⟨S68x4352x8x64, .f32⟩
  | .hbm, ⟨63, _⟩ => ⟨S8x128x68x64, .f32⟩
  | .hbm, ⟨64, _⟩ => ⟨S68x8x128x64, .f32⟩
  | .hbm, ⟨65, _⟩ => ⟨S68x4x128x64, .f32⟩
  | .hbm, ⟨66, _⟩ => ⟨S68x4x128x64, .f32⟩
  | .hbm, ⟨67, _⟩ => ⟨S4608x512, .f32⟩
  | .hbm, ⟨68, _⟩ => ⟨S4608x512, .f32⟩
  | .hbm, ⟨69, _⟩ => ⟨S4608x256, .f32⟩
  | .hbm, ⟨70, _⟩ => ⟨S4608x512, .f32⟩
  | .hbm, ⟨71, _⟩ => ⟨S4608x512, .f32⟩
  | .hbm, ⟨72, _⟩ => ⟨S4608x256, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S1x4x128x64, .f32⟩
  | .local _ .vmem, ⟨7, _⟩ => ⟨S1x4x128x64, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S1x4x128x64, .f32⟩
  | .local _ .vmem, ⟨17, _⟩ => ⟨S1x4x128x64, .f32⟩
  | .local _ .vmem, ⟨18, _⟩ => ⟨S64x512, .f32⟩
  | .local _ .vmem, ⟨19, _⟩ => ⟨S64x512, .f32⟩
  | .local _ .vmem, ⟨20, _⟩ => ⟨S64x512, .f32⟩
  | .local _ .vmem, ⟨21, _⟩ => ⟨S64x512, .f32⟩
  | .local _ .vmem, ⟨22, _⟩ => ⟨S64x512, .f32⟩
  | .local _ .vmem, ⟨23, _⟩ => ⟨S64x512, .f32⟩
  | .local _ .vmem, ⟨24, _⟩ => ⟨S64x256, .f32⟩
  | .local _ .vmem, ⟨25, _⟩ => ⟨S64x256, .f32⟩
  | .local _ .vmem, ⟨26, _⟩ => ⟨S64x512, .f32⟩
  | .local _ .vmem, ⟨27, _⟩ => ⟨S64x512, .f32⟩
  | .local _ .vmem, ⟨28, _⟩ => ⟨S64x512, .f32⟩
  | .local _ .vmem, ⟨29, _⟩ => ⟨S64x512, .f32⟩
  | .local _ .vmem, ⟨30, _⟩ => ⟨S64x256, .f32⟩
  | .local _ .vmem, ⟨31, _⟩ => ⟨S64x256, .f32⟩
  | .local _ .vmem, ⟨32, _⟩ => ⟨S512x256, .f32⟩
  | .local _ .vmem, ⟨33, _⟩ => ⟨S512x256, .f32⟩
  | _, _ => ⟨S4608x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_call0_call0_cst : Ref sig .tc := ⟨.hbm, 31, rfl⟩
abbrev main_call0_call0_v0 : Ref sig .tc := ⟨.hbm, 32, rfl⟩
abbrev main_v28 : Ref sig .tc := ⟨.hbm, 33, rfl⟩
abbrev main_cst : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_c : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_cst_0 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56_0 : Ref sig .tc := ⟨.hbm, 67, rfl⟩
abbrev main_v56_1 : Ref sig .tc := ⟨.hbm, 68, rfl⟩
abbrev main_v56_2 : Ref sig .tc := ⟨.hbm, 69, rfl⟩
abbrev main_v56_3 : Ref sig .tc := ⟨.hbm, 70, rfl⟩
abbrev main_v56_4 : Ref sig .tc := ⟨.hbm, 71, rfl⟩
abbrev main_v56_5 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_scratch0 : Ref sig .tc := ⟨.vmem, 32, rfl⟩
abbrev cc0_scratch1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![72], ![false]⟩

def k0_cond2 (i : grid0.Coords) : BitVec 1 :=
  let arg0 : BitVec 32 := BitVec.ofNat 32 (i 0).val
  let c68_i32 : BitVec 32 := 68#32
  let v3 : BitVec 1 := Scalar.cmpi .sge arg0 c68_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c68_i32_2 : BitVec 32 := 68#32
  let v6 : BitVec 1 := Scalar.cmpi .slt arg0 c68_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c1_i32 : BitVec 32 := 1#32
  let c0_i32_1 : BitVec 32 := 0#32
  ![v5.toNat, c1_i32.toNat]

def cc0_transform_1 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c2_i32 : BitVec 32 := 2#32
  let c0_i32_1 : BitVec 32 := 0#32
  ![v5.toNat, c2_i32.toNat]

def cc0_transform_2 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c0_i32_1 : BitVec 32 := 0#32
  let c0_i32_2 : BitVec 32 := 0#32
  ![v5.toNat, c0_i32_1.toNat]

def cc0_transform_3 (i : grid0.Coords) : Fin 4 → Nat :=
  let arg0 : BitVec 32 := BitVec.ofNat 32 (i 0).val
  let c67_i32 : BitVec 32 := 67#32
  let v0 : BitVec 32 := Scalar.subi c67_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_4 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c63_i32 : BitVec 32 := 63#32
  let v6 : BitVec 32 := Scalar.minsi v5 c63_i32
  let c0_i32_1 : BitVec 32 := 0#32
  let c0_i32_2 : BitVec 32 := 0#32
  ![v6.toNat, c0_i32_1.toNat]

def cc0_transform_5 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_6 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c67_i32 : BitVec 32 := 67#32
  let v0 : BitVec 32 := Scalar.subi c67_i32 arg0
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  let c0_i32_3 : BitVec 32 := 0#32
  ![v1.toNat, c0_i32_0.toNat, c0_i32_1.toNat, c0_i32_2.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c0_i32_1 : BitVec 32 := 0#32
  let c0_i32_2 : BitVec 32 := 0#32
  ![v5.toNat, c0_i32_1.toNat]

def cc0_transform_11 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c0_i32_1 : BitVec 32 := 0#32
  let c0_i32_2 : BitVec 32 := 0#32
  ![v5.toNat, c0_i32_1.toNat]

def cc0_transform_12 (i : grid0.Coords) : Fin 2 → Nat :=
  let arg0 : BitVec 32 := BitVec.ofNat 32 (i 0).val
  let c68_i32 : BitVec 32 := 68#32
  let v0 : BitVec 1 := Scalar.cmpi .slt arg0 c68_i32
  let c67_i32 : BitVec 32 := 67#32
  let v1 : BitVec 32 := Scalar.subi c67_i32 arg0
  let c0_i32 : BitVec 32 := 0#32
  let v2 : BitVec 32 := Scalar.maxsi v1 c0_i32
  let c64_i32 : BitVec 32 := 64#32
  let v3 : BitVec 32 := Scalar.addi v2 c64_i32
  let c68_i32_0 : BitVec 32 := 68#32
  let v4 : BitVec 32 := Scalar.remsi v3 c68_i32_0
  let v5 : BitVec 32 := Scalar.select v0 v4 arg0
  let c0_i32_1 : BitVec 32 := 0#32
  let c0_i32_2 : BitVec 32 := 0#32
  ![v5.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x4x128x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S64x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S64x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S64x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== RefBwdIdeal.lean ====
abbrev S4608x2432 : Shape := ⟨2, ![4608, 2432]⟩
abbrev S4608x512 : Shape := ⟨2, ![4608, 512]⟩
abbrev S4096x512 : Shape := ⟨2, ![4096, 512]⟩
abbrev S256x2432 : Shape := ⟨2, ![256, 2432]⟩
abbrev S4096x2432 : Shape := ⟨2, ![4096, 2432]⟩
abbrev S4352x2432 : Shape := ⟨2, ![4352, 2432]⟩
abbrev S256x512 : Shape := ⟨2, ![256, 512]⟩
abbrev S4352x512 : Shape := ⟨2, ![4352, 512]⟩
abbrev S4352x256 : Shape := ⟨2, ![4352, 256]⟩
abbrev S4352x8x64 : Shape := ⟨3, ![4352, 8, 64]⟩
abbrev S4352x1024 : Shape := ⟨2, ![4352, 1024]⟩
abbrev S4352x8x128 : Shape := ⟨3, ![4352, 8, 128]⟩
abbrev S_ : Shape := ⟨0, ![]⟩
abbrev S256x1024 : Shape := ⟨2, ![256, 1024]⟩
abbrev S4096x1024 : Shape := ⟨2, ![4096, 1024]⟩
abbrev S4352 : Shape := ⟨1, ![4352]⟩
abbrev S4352x1 : Shape := ⟨2, ![4352, 1]⟩
abbrev S1x4352 : Shape := ⟨2, ![1, 4352]⟩
abbrev S4352x4352 : Shape := ⟨2, ![4352, 4352]⟩
abbrev S8x4352x4352 : Shape := ⟨3, ![8, 4352, 4352]⟩
abbrev S8x128x4352 : Shape := ⟨3, ![8, 128, 4352]⟩
abbrev S8x4352x64 : Shape := ⟨3, ![8, 4352, 64]⟩
abbrev S4352x2560 : Shape := ⟨2, ![4352, 2560]⟩
abbrev S256x2560 : Shape := ⟨2, ![256, 2560]⟩
abbrev S4096x2560 : Shape := ⟨2, ![4096, 2560]⟩
abbrev S4608x2560 : Shape := ⟨2, ![4608, 2560]⟩
abbrev S4608x256 : Shape := ⟨2, ![4608, 256]⟩

abbrev nBuf : Space → Nat
  | .hbm => 110
  | .vmem => 0
  | .smem => 0
  | _ => 0

abbrev bufTy : (tb : Table) → Fin (tcTables nBuf tb) → BufTy
  | .hbm, ⟨0, _⟩ => ⟨S4608x2432, .f32⟩
  | .hbm, ⟨1, _⟩ => ⟨S4608x512, .f32⟩
  | .hbm, ⟨2, _⟩ => ⟨S4096x512, .f32⟩
  | .hbm, ⟨3, _⟩ => ⟨S256x2432, .f32⟩
  | .hbm, ⟨4, _⟩ => ⟨S4096x2432, .f32⟩
  | .hbm, ⟨5, _⟩ => ⟨S4352x2432, .f32⟩
  | .hbm, ⟨6, _⟩ => ⟨S4352x2432, .f32⟩
  | .hbm, ⟨7, _⟩ => ⟨S4352x2432, .f32⟩
  | .hbm, ⟨8, _⟩ => ⟨S256x512, .f32⟩
  | .hbm, ⟨9, _⟩ => ⟨S4096x512, .f32⟩
  | .hbm, ⟨10, _⟩ => ⟨S4352x512, .f32⟩
  | .hbm, ⟨11, _⟩ => ⟨S4352x512, .f32⟩
  | .hbm, ⟨12, _⟩ => ⟨S4352x512, .f32⟩
  | .hbm, ⟨13, _⟩ => ⟨S4352x256, .f32⟩
  | .hbm, ⟨14, _⟩ => ⟨S4352x256, .f32⟩
  | .hbm, ⟨15, _⟩ => ⟨S4352x512, .f32⟩
  | .hbm, ⟨16, _⟩ => ⟨S4352x8x64, .f32⟩
  | .hbm, ⟨17, _⟩ => ⟨S4352x256, .f32⟩
  | .hbm, ⟨18, _⟩ => ⟨S4352x256, .f32⟩
  | .hbm, ⟨19, _⟩ => ⟨S4352x512, .f32⟩
  | .hbm, ⟨20, _⟩ => ⟨S4352x8x64, .f32⟩
  | .hbm, ⟨21, _⟩ => ⟨S4352x512, .f32⟩
  | .hbm, ⟨22, _⟩ => ⟨S4352x512, .f32⟩
  | .hbm, ⟨23, _⟩ => ⟨S4352x1024, .f32⟩
  | .hbm, ⟨24, _⟩ => ⟨S4352x8x128, .f32⟩
  | .hbm, ⟨25, _⟩ => ⟨S4352x256, .f32⟩
  | .hbm, ⟨26, _⟩ => ⟨S4352x256, .f32⟩
  | .hbm, ⟨27, _⟩ => ⟨S4352x512, .f32⟩
  | .hbm, ⟨28, _⟩ => ⟨S4352x8x64, .f32⟩
  | .hbm, ⟨29, _⟩ => ⟨S_, .f32⟩
  | .hbm, ⟨30, _⟩ => ⟨S256x1024, .f32⟩
  | .hbm, ⟨31, _⟩ => ⟨S4096x512, .f32⟩
  | .hbm, ⟨32, _⟩ => ⟨S4096x1024, .f32⟩
  | .hbm, ⟨33, _⟩ => ⟨S4352x1024, .f32⟩
  | .hbm, ⟨34, _⟩ => ⟨S_, .f32⟩
  | .hbm, ⟨35, _⟩ => ⟨S_, .f32⟩
  | .hbm, ⟨36, _⟩ => ⟨S4352x8x64, .f32⟩
  | .hbm, ⟨37, _⟩ => ⟨S_, .f32⟩
  | .hbm, ⟨38, _⟩ => ⟨S4352x8x64, .f32⟩
  | .hbm, ⟨39, _⟩ => ⟨S4352x8x64, .f32⟩
  | .hbm, ⟨40, _⟩ => ⟨S4352x8x64, .f32⟩
  | .hbm, ⟨41, _⟩ => ⟨S4352x8x64, .f32⟩
  | .hbm, ⟨42, _⟩ => ⟨S4352x8x64, .f32⟩
  | .hbm, ⟨43, _⟩ => ⟨S4352x8x64, .f32⟩
  | .hbm, ⟨44, _⟩ => ⟨S4352x8x64, .f32⟩
  | .hbm, ⟨45, _⟩ => ⟨S4352, .i32⟩
  | .hbm, ⟨46, _⟩ => ⟨S4352x1, .i32⟩
  | .hbm, ⟨47, _⟩ => ⟨S4352, .i32⟩
  | .hbm, ⟨48, _⟩ => ⟨S1x4352, .i32⟩
  | .hbm, ⟨49, _⟩ => ⟨S4352x4352, .i32⟩
  | .hbm, ⟨50, _⟩ => ⟨S4352x4352, .i32⟩
  | .hbm, ⟨51, _⟩ => ⟨S4352x4352, .i1⟩
  | .hbm, ⟨52, _⟩ => ⟨S8x4352x4352, .f32⟩
  | .hbm, ⟨53, _⟩ => ⟨S_, .f32⟩
  | .hbm, ⟨54, _⟩ => ⟨S_, .f32⟩
  | .hbm, ⟨55, _⟩ => ⟨S8x4352x4352, .i1⟩
  | .hbm, ⟨56, _⟩ => ⟨S8x4352x4352, .f32⟩
  | .hbm, ⟨57, _⟩ => ⟨S8x4352x4352, .f32⟩
  | .hbm, ⟨58, _⟩ => ⟨S_, .f32⟩
  | .hbm, ⟨59, _⟩ => ⟨S8x4352x4352, .f32⟩
  | .hbm, ⟨60, _⟩ => ⟨S8x128x4352, .f32⟩
  | .hbm, ⟨61, _⟩ => ⟨S4352x8x128, .f32⟩
  | .hbm, ⟨62, _⟩ => ⟨S4352x8x128, .f32⟩
  | .hbm, ⟨63, _⟩ => ⟨S8x128x4352, .f32⟩
  | .hbm, ⟨64, _⟩ => ⟨S8x4352x4352, .f32⟩
  | .hbm, ⟨65, _⟩ => ⟨S8x128x4352, .f32⟩
  | .hbm, ⟨66, _⟩ => ⟨S4352x8x128, .f32⟩
  | .hbm, ⟨67, _⟩ => ⟨S_, .f32⟩
  | .hbm, ⟨68, _⟩ => ⟨S8x4352x4352, .f32⟩
  | .hbm, ⟨69, _⟩ => ⟨S8x4352x4352, .f32⟩
  | .hbm, ⟨70, _⟩ => ⟨S8x4352x64, .f32⟩
  | .hbm, ⟨71, _⟩ => ⟨S4352x8x64, .f32⟩
  | .hbm, ⟨72, _⟩ => ⟨S8x4352x64, .f32⟩
  | .hbm, ⟨73, _⟩ => ⟨S4352x8x64, .f32⟩
  | .hbm, ⟨74, _⟩ => ⟨S4352x8x64, .f32⟩
  | .hbm, ⟨75, _⟩ => ⟨S4352x8x64, .f32⟩
  | .hbm, ⟨76, _⟩ => ⟨S4352x8x64, .f32⟩
  | .hbm, ⟨77, _⟩ => ⟨S4352x8x64, .f32⟩
  | .hbm, ⟨78, _⟩ => ⟨S4352x8x64, .f32⟩
  | .hbm, ⟨79, _⟩ => ⟨S4352x8x64, .f32⟩
  | .hbm, ⟨80, _⟩ => ⟨S4352x8x64, .f32⟩
  | .hbm, ⟨81, _⟩ => ⟨S4352x8x64, .f32⟩
  | .hbm, ⟨82, _⟩ => ⟨S_, .f32⟩
  | .hbm, ⟨83, _⟩ => ⟨S4352x8x64, .f32⟩
  | .hbm, ⟨84, _⟩ => ⟨S4352x8x64, .f32⟩
  | .hbm, ⟨85, _⟩ => ⟨S_, .f32⟩
  | .hbm, ⟨86, _⟩ => ⟨S_, .f32⟩
  | .hbm, ⟨87, _⟩ => ⟨S4352x8x64, .f32⟩
  | .hbm, ⟨88, _⟩ => ⟨S4352x512, .f32⟩
  | .hbm, ⟨89, _⟩ => ⟨S4352x512, .f32⟩
  | .hbm, ⟨90, _⟩ => ⟨S4352x1024, .f32⟩
  | .hbm, ⟨91, _⟩ => ⟨S4352x512, .f32⟩
  | .hbm, ⟨92, _⟩ => ⟨S4352x2560, .f32⟩
  | .hbm, ⟨93, _⟩ => ⟨S_, .f32⟩
  | .hbm, ⟨94, _⟩ => ⟨S256x2560, .f32⟩
  | .hbm, ⟨95, _⟩ => ⟨S4096x2560, .f32⟩
  | .hbm, ⟨96, _⟩ => ⟨S256x2560, .f32⟩
  | .hbm, ⟨97, _⟩ => ⟨S4608x2560, .f32⟩
  | .hbm, ⟨98, _⟩ => ⟨S4352x2560, .f32⟩
  | .hbm, ⟨99, _⟩ => ⟨S4608x2560, .f32⟩
  | .hbm, ⟨100, _⟩ => ⟨S4608x256, .f32⟩
  | .hbm, ⟨101, _⟩ => ⟨S4608x256, .f32⟩
  | .hbm, ⟨102, _⟩ => ⟨S4608x512, .f32⟩
  | .hbm, ⟨103, _⟩ => ⟨S4608x512, .f32⟩
  | .hbm, ⟨104, _⟩ => ⟨S4608x256, .f32⟩
  | .hbm, ⟨105, _⟩ => ⟨S4608x256, .f32⟩
  | .hbm, ⟨106, _⟩ => ⟨S4608x256, .f32⟩
  | .hbm, ⟨107, _⟩ => ⟨S4608x512, .f32⟩
  | .hbm, ⟨108, _⟩ => ⟨S4608x512, .f32⟩
  | .hbm, ⟨109, _⟩ => ⟨S4608x256, .f32⟩
  | _, _ => ⟨S4608x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_cst : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_call0_call0_cst : Ref sig .tc := ⟨.hbm, 34, rfl⟩
abbrev main_call0_call0_v0 : Ref sig .tc := ⟨.hbm, 35, rfl⟩
abbrev main_v30 : Ref sig .tc := ⟨.hbm, 36, rfl⟩
abbrev main_cst_0 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_1 : Ref sig .tc := ⟨.hbm, 53, rfl⟩
abbrev main_call1_v0 : Ref sig .tc := ⟨.hbm, 54, rfl⟩
abbrev main_v46_1 : Ref sig .tc := ⟨.hbm, 55, rfl⟩
abbrev main_call1_v2 : Ref sig .tc := ⟨.hbm, 56, rfl⟩
abbrev main_v46_0 : Ref sig .tc := ⟨.hbm, 57, rfl⟩
abbrev main_call1_cst : Ref sig .tc := ⟨.hbm, 58, rfl⟩
abbrev main_v46_2 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_call2_cst : Ref sig .tc := ⟨.hbm, 67, rfl⟩
abbrev main_call2_v0 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_2 : Ref sig .tc := ⟨.hbm, 82, rfl⟩
abbrev main_v67 : Ref sig .tc := ⟨.hbm, 83, rfl⟩
abbrev main_v68 : Ref sig .tc := ⟨.hbm, 84, rfl⟩
abbrev main_call3_call0_cst : Ref sig .tc := ⟨.hbm, 85, rfl⟩
abbrev main_call3_call0_v0 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_cst_3 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩

abbrev nD : Nat := 1
abbrev τ : Topo := Topo.v7x

variable {F : FTy → Type} [FloatOps F]
-- ==== Fwd.lean ====
abbrev S4608x2432 : Shape := ⟨2, ![4608, 2432]⟩
abbrev S4608x512 : Shape := ⟨2, ![4608, 512]⟩
abbrev S_ : Shape := ⟨0, ![]⟩
abbrev S8x128 : Shape := ⟨2, ![8, 128]⟩
abbrev S68x4x128x64 : Shape := ⟨4, ![68, 4, 128, 64]⟩
abbrev S64x512 : Shape := ⟨2, ![64, 512]⟩
abbrev S1x4x128x64 : Shape := ⟨4, ![1, 4, 128, 64]⟩
abbrev S512x256 : Shape := ⟨2, ![512, 256]⟩
abbrev S64x256 : Shape := ⟨2, ![64, 256]⟩
abbrev S64x64 : Shape := ⟨2, ![64, 64]⟩
abbrev S256 : Shape := ⟨1, ![256]⟩
abbrev S1x256 : Shape := ⟨2, ![1, 256]⟩
abbrev S256x256 : Shape := ⟨2, ![256, 256]⟩
abbrev S256x512 : Shape := ⟨2, ![256, 512]⟩
abbrev S128x64 : Shape := ⟨2, ![128, 64]⟩
abbrev S1x1x128x64 : Shape := ⟨4, ![1, 1, 128, 64]⟩

abbrev nBuf : Space → Nat
  | .hbm => 8
  | .vmem => 23
  | .smem => 0
  | _ => 0

abbrev bufTy : (tb : Table) → Fin (tcTables nBuf tb) → BufTy
  | .hbm, ⟨0, _⟩ => ⟨S4608x2432, .f32⟩
  | .hbm, ⟨1, _⟩ => ⟨S4608x512, .f32⟩
  | .hbm, ⟨2, _⟩ => ⟨S_, .f32⟩
  | .hbm, ⟨3, _⟩ => ⟨S8x128, .f32⟩
  | .hbm, ⟨4, _⟩ => ⟨S4608x512, .f32⟩
  | .hbm, ⟨5, _⟩ => ⟨S4608x512, .f32⟩
  | .hbm, ⟨6, _⟩ => ⟨S68x4x128x64, .f32⟩
  | .hbm, ⟨7, _⟩ => ⟨S68x4x128x64, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S8x128, .f32⟩
  | .local _ .vmem, ⟨13, _⟩ => ⟨S64x512, .f32⟩
  | .local _ .vmem, ⟨14, _⟩ => ⟨S64x512, .f32⟩
  | .local _ .vmem, ⟨15, _⟩ => ⟨S64x512, .f32⟩
  | .local _ .vmem, ⟨16, _⟩ => ⟨S64x512, .f32⟩
  | .local _ .vmem, ⟨17, _⟩ => ⟨S1x4x128x64, .f32⟩
  | .local _ .vmem, ⟨18, _⟩ => ⟨S1x4x128x64, .f32⟩
  | .local _ .vmem, ⟨19, _⟩ => ⟨S1x4x128x64, .f32⟩
  | .local _ .vmem, ⟨20, _⟩ => ⟨S1x4x128x64, .f32⟩
  | .local _ .vmem, ⟨21, _⟩ => ⟨S512x256, .f32⟩
  | .local _ .vmem, ⟨22, _⟩ => ⟨S512x256, .f32⟩
  | _, _ => ⟨S4608x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c1_i32 : BitVec 32 := 1#32
  let c0_i32 : BitVec 32 := 0#32
  ![v1.toNat, c1_i32.toNat]

def cc0_transform_1 (i : grid0.Coords) : Fin 2 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c2_i32 : BitVec 32 := 2#32
  let c0_i32 : BitVec 32 := 0#32
  ![v1.toNat, c2_i32.toNat]

def cc0_transform_2 (i : grid0.Coords) : Fin 2 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c67_i32 : BitVec 32 := 67#32
  let v0 : BitVec 32 := Scalar.subi c67_i32 arg0
  let c1_i32 : BitVec 32 := 1#32
  let c0_i32 : BitVec 32 := 0#32
  ![v0.toNat, c1_i32.toNat]

def cc0_transform_4 (i : grid0.Coords) : Fin 2 → Nat :=
  let arg0 : BitVec 32 := BitVec.ofNat 32 (i 0).val
  let c67_i32 : BitVec 32 := 67#32
  let v0 : BitVec 32 := Scalar.subi c67_i32 arg0
  let c2_i32 : BitVec 32 := 2#32
  let c0_i32 : BitVec 32 := 0#32
  ![v0.toNat, c2_i32.toNat]

def cc0_transform_5 (i : grid0.Coords) : Fin 2 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c64_i32 : BitVec 32 := 64#32
  let v0 : BitVec 32 := Scalar.addi arg0 c64_i32
  let c68_i32 : BitVec 32 := 68#32
  let v1 : BitVec 32 := Scalar.remsi v0 c68_i32
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let c67_i32 : BitVec 32 := 67#32
  let v0 : BitVec 32 := Scalar.subi c67_i32 arg0
  let c0_i32 : BitVec 32 := 0#32
  let c0_i32_0 : BitVec 32 := 0#32
  ![v0.toNat, c0_i32.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x4x128x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x4x128x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== RefFwdIdeal.lean ====
abbrev S4608x2432 : Shape := ⟨2, ![4608, 2432]⟩
abbrev S4608x512 : Shape := ⟨2, ![4608, 512]⟩
abbrev S4608x256 : Shape := ⟨2, ![4608, 256]⟩
abbrev S256x256 : Shape := ⟨2, ![256, 256]⟩
abbrev S4096x256 : Shape := ⟨2, ![4096, 256]⟩
abbrev S4352x256 : Shape := ⟨2, ![4352, 256]⟩
abbrev S4352x4x64 : Shape := ⟨3, ![4352, 4, 64]⟩
abbrev S4352x8x64 : Shape := ⟨3, ![4352, 8, 64]⟩
abbrev S256x512 : Shape := ⟨2, ![256, 512]⟩
abbrev S4096x512 : Shape := ⟨2, ![4096, 512]⟩
abbrev S4352x512 : Shape := ⟨2, ![4352, 512]⟩
abbrev S4352x4x128 : Shape := ⟨3, ![4352, 4, 128]⟩
abbrev S4352x8x128 : Shape := ⟨3, ![4352, 8, 128]⟩
abbrev S_ : Shape := ⟨0, ![]⟩
abbrev S1x8x64 : Shape := ⟨3, ![1, 8, 64]⟩
abbrev S67x8x64 : Shape := ⟨3, ![67, 8, 64]⟩
abbrev S68x8x64 : Shape := ⟨3, ![68, 8, 64]⟩
abbrev S4352 : Shape := ⟨1, ![4352]⟩
abbrev S1x4352 : Shape := ⟨2, ![1, 4352]⟩
abbrev S68 : Shape := ⟨1, ![68]⟩
abbrev S68x1 : Shape := ⟨2, ![68, 1]⟩
abbrev S68x4352 : Shape := ⟨2, ![68, 4352]⟩
abbrev S68x4352x1x1 : Shape := ⟨4, ![68, 4352, 1, 1]⟩
abbrev S1x4352x8x64 : Shape := ⟨4, ![1, 4352, 8, 64]⟩
abbrev S68x1x8x64 : Shape := ⟨4, ![68, 1, 8, 64]⟩
abbrev S68x4352x8x64 : Shape := ⟨4, ![68, 4352, 8, 64]⟩
abbrev S8x128x68x64 : Shape := ⟨4, ![8, 128, 68, 64]⟩
abbrev S68x8x128x64 : Shape := ⟨4, ![68, 8, 128, 64]⟩
abbrev S68x4x128x64 : Shape := ⟨4, ![68, 4, 128, 64]⟩

abbrev nBuf : Space → Nat
  | .hbm => 66
  | .vmem => 0
  | .smem => 0
  | _ => 0

abbrev bufTy : (tb : Table) → Fin (tcTables nBuf tb) → BufTy
  | .hbm, ⟨0, _⟩ => ⟨S4608x2432, .f32⟩
  | .hbm, ⟨1, _⟩ => ⟨S4608x512, .f32⟩
  | .hbm, ⟨2, _⟩ => ⟨S4608x256, .f32⟩
  | .hbm, ⟨3, _⟩ => ⟨S4608x512, .f32⟩
  | .hbm, ⟨4, _⟩ => ⟨S256x256, .f32⟩
  | .hbm, ⟨5, _⟩ => ⟨S4096x256, .f32⟩
  | .hbm, ⟨6, _⟩ => ⟨S4352x256, .f32⟩
  | .hbm, ⟨7, _⟩ => ⟨S4352x256, .f32⟩
  | .hbm, ⟨8, _⟩ => ⟨S4352x256, .f32⟩
  | .hbm, ⟨9, _⟩ => ⟨S4352x4x64, .f32⟩
  | .hbm, ⟨10, _⟩ => ⟨S4352x4x64, .f32⟩
  | .hbm, ⟨11, _⟩ => ⟨S4352x8x64, .f32⟩
  | .hbm, ⟨12, _⟩ => ⟨S256x512, .f32⟩
  | .hbm, ⟨13, _⟩ => ⟨S4096x512, .f32⟩
  | .hbm, ⟨14, _⟩ => ⟨S4352x512, .f32⟩
  | .hbm, ⟨15, _⟩ => ⟨S4352x512, .f32⟩
  | .hbm, ⟨16, _⟩ => ⟨S4352x512, .f32⟩
  | .hbm, ⟨17, _⟩ => ⟨S4352x4x128, .f32⟩
  | .hbm, ⟨18, _⟩ => ⟨S4352x4x128, .f32⟩
  | .hbm, ⟨19, _⟩ => ⟨S4352x8x128, .f32⟩
  | .hbm, ⟨20, _⟩ => ⟨S4608x256, .f32⟩
  | .hbm, ⟨21, _⟩ => ⟨S4608x256, .f32⟩
  | .hbm, ⟨22, _⟩ => ⟨S256x256, .f32⟩
  | .hbm, ⟨23, _⟩ => ⟨S4096x256, .f32⟩
  | .hbm, ⟨24, _⟩ => ⟨S4352x256, .f32⟩
  | .hbm, ⟨25, _⟩ => ⟨S4352x256, .f32⟩
  | .hbm, ⟨26, _⟩ => ⟨S4352x256, .f32⟩
  | .hbm, ⟨27, _⟩ => ⟨S4352x4x64, .f32⟩
  | .hbm, ⟨28, _⟩ => ⟨S4352x4x64, .f32⟩
  | .hbm, ⟨29, _⟩ => ⟨S4352x8x64, .f32⟩
  | .hbm, ⟨30, _⟩ => ⟨S_, .f32⟩
  | .hbm, ⟨31, _⟩ => ⟨S_, .f32⟩
  | .hbm, ⟨32, _⟩ => ⟨S4352x8x64, .f32⟩
  | .hbm, ⟨33, _⟩ => ⟨S_, .f32⟩
  | .hbm, ⟨34, _⟩ => ⟨S1x8x64, .f32⟩
  | .hbm, ⟨35, _⟩ => ⟨S67x8x64, .f32⟩
  | .hbm, ⟨36, _⟩ => ⟨S68x8x64, .f32⟩
  | .hbm, ⟨37, _⟩ => ⟨S4352, .i32⟩
  | .hbm, ⟨38, _⟩ => ⟨S1x4352, .i32⟩
  | .hbm, ⟨39, _⟩ => ⟨S68, .i32⟩
  | .hbm, ⟨40, _⟩ => ⟨S68x1, .i32⟩
  | .hbm, ⟨41, _⟩ => ⟨S_, .i32⟩
  | .hbm, ⟨42, _⟩ => ⟨S68x1, .i32⟩
  | .hbm, ⟨43, _⟩ => ⟨S68x1, .i32⟩
  | .hbm, ⟨44, _⟩ => ⟨S68x4352, .i32⟩
  | .hbm, ⟨45, _⟩ => ⟨S68x4352, .i32⟩
  | .hbm, ⟨46, _⟩ => ⟨S68x4352, .i1⟩
  | .hbm, ⟨47, _⟩ => ⟨S68x4352x1x1, .i1⟩
  | .hbm, ⟨48, _⟩ => ⟨S1x4352x8x64, .f32⟩
  | .hbm, ⟨49, _⟩ => ⟨S68x1x8x64, .f32⟩
  | .hbm, ⟨50, _⟩ => ⟨S1x4352x8x64, .f32⟩
  | .hbm, ⟨51, _⟩ => ⟨S68x4352x8x64, .f32⟩
  | .hbm, ⟨52, _⟩ => ⟨S68x4352x8x64, .f32⟩
  | .hbm, ⟨53, _⟩ => ⟨S68x4352x8x64, .f32⟩
  | .hbm, ⟨54, _⟩ => ⟨S68x4352x8x64, .f32⟩
  | .hbm, ⟨55, _⟩ => ⟨S68x4352x8x64, .f32⟩
  | .hbm, ⟨56, _⟩ => ⟨S68x4352x8x64, .f32⟩
  | .hbm, ⟨57, _⟩ => ⟨S_, .f32⟩
  | .hbm, ⟨58, _⟩ => ⟨S_, .f32⟩
  | .hbm, ⟨59, _⟩ => ⟨S68x4352x8x64, .i1⟩
  | .hbm, ⟨60, _⟩ => ⟨S68x4352x8x64, .f32⟩
  | .hbm, ⟨61, _⟩ => ⟨S68x4352x8x64, .f32⟩
  | .hbm, ⟨62, _⟩ => ⟨S8x128x68x64, .f32⟩
  | .hbm, ⟨63, _⟩ => ⟨S68x8x128x64, .f32⟩
  | .hbm, ⟨64, _⟩ => ⟨S68x4x128x64, .f32⟩
  | .hbm, ⟨65, _⟩ => ⟨S68x4x128x64, .f32⟩
  | _, _ => ⟨S4608x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_call0_call0_cst : Ref sig .tc := ⟨.hbm, 30, rfl⟩
abbrev main_call0_call0_v0 : Ref sig .tc := ⟨.hbm, 31, rfl⟩
abbrev main_v28 : Ref sig .tc := ⟨.hbm, 32, rfl⟩
abbrev main_cst : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_c : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_0 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩

abbrev nD : Nat := 1
abbrev τ : Topo := Topo.v7x

variable {F : FTy → Type} [FloatOps F]
-- ==== Dwi.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwiIdeal.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwiIdeal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S_ : Shape := ⟨0, ![]⟩
abbrev S1024x5632 : Shape := ⟨2, ![1024, 5632]⟩
abbrev S4096x5632 : Shape := ⟨2, ![4096, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4096x1024, .f32⟩
  | .hbm, ⟨3, _⟩ => ⟨S1x4096x2816, .bf16⟩
  | .hbm, ⟨4, _⟩ => ⟨S4096x2816, .bf16⟩
  | .hbm, ⟨5, _⟩ => ⟨S4096x2816, .f32⟩
  | .hbm, ⟨6, _⟩ => ⟨S1x4096x2816, .bf16⟩
  | .hbm, ⟨7, _⟩ => ⟨S4096x2816, .bf16⟩
  | .hbm, ⟨8, _⟩ => ⟨S4096x2816, .f32⟩
  | .hbm, ⟨9, _⟩ => ⟨S_, .f32⟩
  | .hbm, ⟨10, _⟩ => ⟨S1024x5632, .f32⟩
  | .hbm, ⟨11, _⟩ => ⟨S4096x5632, .f32⟩
  | .hbm, ⟨12, _⟩ => ⟨S4096x2816, .f32⟩
  | .hbm, ⟨13, _⟩ => ⟨S4096x2816, .f32⟩
  | .hbm, ⟨14, _⟩ => ⟨S4096x5632, .f32⟩
  | .hbm, ⟨15, _⟩ => ⟨S5632x1024, .f32⟩
  | .hbm, ⟨16, _⟩ => ⟨S1024x5632, .f32⟩
  | .hbm, ⟨17, _⟩ => ⟨S1024x4x1408, .f32⟩
  | .hbm, ⟨18, _⟩ => ⟨S4x1024x1408, .f32⟩
  | .hbm, ⟨19, _⟩ => ⟨S4x1024x1408, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== Dwo.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DwoIdeal.lean ====
abbrev S4096x2816 : Shape := ⟨2, ![4096, 2816]⟩
abbrev S4096x1024 : Shape := ⟨2, ![4096, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwoIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwiCtx.lean ====
abbrev S4608x1024 : Shape := ⟨2, ![4608, 1024]⟩
abbrev S2x4608x2816 : Shape := ⟨3, ![2, 4608, 2816]⟩
abbrev S4x1024x1408 : Shape := ⟨3, ![4, 1024, 1408]⟩
abbrev S1536x1024 : Shape := ⟨2, ![1536, 1024]⟩
abbrev S1x1536x1408 : Shape := ⟨3, ![1, 1536, 1408]⟩
abbrev S1x1024x1408 : Shape := ⟨3, ![1, 1024, 1408]⟩
abbrev S1024x1408 : Shape := ⟨2, ![1024, 1408]⟩
abbrev S1536x1408 : Shape := ⟨2, ![1536, 1408]⟩

abbrev nBuf : Space → Nat
  | .hbm => 3
  | .vmem => 7
  | .smem => 0
  | _ => 0

abbrev bufTy : (tb : Table) → Fin (tcTables nBuf tb) → BufTy
  | .hbm, ⟨0, _⟩ => ⟨S4608x1024, .bf16⟩
  | .hbm, ⟨1, _⟩ => ⟨S2x4608x2816, .bf16⟩
  | .hbm, ⟨2, _⟩ => ⟨S4x1024x1408, .bf16⟩
  | .local _ .vmem, ⟨0, _⟩ => ⟨S1536x1024, .bf16⟩
  | .local _ .vmem, ⟨1, _⟩ => ⟨S1536x1024, .bf16⟩
  | .local _ .vmem, ⟨2, _⟩ => ⟨S1x1536x1408, .bf16⟩
  | .local _ .vmem, ⟨3, _⟩ => ⟨S1x1536x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def k0_cond3 (i : grid0.Coords) : BitVec 1 :=
  let arg1 : BitVec 32 := BitVec.ofNat 32 (i 1).val
  let c2_i32 : BitVec 32 := 2#32
  let v10 : BitVec 1 := Scalar.cmpi .eq arg1 c2_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1536x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1536x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwiCtxIdeal.lean ====
abbrev S4608x1024 : Shape := ⟨2, ![4608, 1024]⟩
abbrev S2x4608x2816 : Shape := ⟨3, ![2, 4608, 2816]⟩
abbrev S1x4608x2816 : Shape := ⟨3, ![1, 4608, 2816]⟩
abbrev S4608x2816 : Shape := ⟨2, ![4608, 2816]⟩
abbrev S_ : Shape := ⟨0, ![]⟩
abbrev S1024x5632 : Shape := ⟨2, ![1024, 5632]⟩
abbrev S4608x5632 : Shape := ⟨2, ![4608, 5632]⟩
abbrev S5632x1024 : Shape := ⟨2, ![5632, 1024]⟩
abbrev S1024x4x1408 : Shape := ⟨3, ![1024, 4, 1408]⟩
abbrev S4x1024x1408 : Shape := ⟨3, ![4, 1024, 1408]⟩

abbrev nBuf : Space → Nat
  | .hbm => 20
  | .vmem => 0
  | .smem => 0
  | _ => 0

abbrev bufTy : (tb : Table) → Fin (tcTables nBuf tb) → BufTy
  | .hbm, ⟨0, _⟩ => ⟨S4608x1024, .bf16⟩
  | .hbm, ⟨1, _⟩ => ⟨S2x4608x2816, .bf16⟩
  | .hbm, ⟨2, _⟩ => ⟨S4608x1024, .f32⟩
  | .hbm, ⟨3, _⟩ => ⟨S1x4608x2816, .bf16⟩
  | .hbm, ⟨4, _⟩ => ⟨S4608x2816, .bf16⟩
  | .hbm, ⟨5, _⟩ => ⟨S4608x2816, .f32⟩
  | .hbm, ⟨6, _⟩ => ⟨S1x4608x2816, .bf16⟩
  | .hbm, ⟨7, _⟩ => ⟨S4608x2816, .bf16⟩
  | .hbm, ⟨8, _⟩ => ⟨S4608x2816, .f32⟩
  | .hbm, ⟨9, _⟩ => ⟨S_, .f32⟩
  | .hbm, ⟨10, _⟩ => ⟨S1024x5632, .f32⟩
  | .hbm, ⟨11, _⟩ => ⟨S4608x5632, .f32⟩
  | .hbm, ⟨12, _⟩ => ⟨S4608x2816, .f32⟩
  | .hbm, ⟨13, _⟩ => ⟨S4608x2816, .f32⟩
  | .hbm, ⟨14, _⟩ => ⟨S4608x5632, .f32⟩
  | .hbm, ⟨15, _⟩ => ⟨S5632x1024, .f32⟩
  | .hbm, ⟨16, _⟩ => ⟨S1024x5632, .f32⟩
  | .hbm, ⟨17, _⟩ => ⟨S1024x4x1408, .f32⟩
  | .hbm, ⟨18, _⟩ => ⟨S4x1024x1408, .f32⟩
  | .hbm, ⟨19, _⟩ => ⟨S4x1024x1408, .bf16⟩
  | _, _ => ⟨S4608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩

abbrev nD : Nat := 1
abbrev τ : Topo := Topo.v7x

variable {F : FTy → Type} [FloatOps F]
-- ==== DwoCtx.lean ====
abbrev S4608x2816 : Shape := ⟨2, ![4608, 2816]⟩
abbrev S4608x1024 : Shape := ⟨2, ![4608, 1024]⟩
abbrev S2816x1024 : Shape := ⟨2, ![2816, 1024]⟩
abbrev S1536x1408 : Shape := ⟨2, ![1536, 1408]⟩
abbrev S1536x1024 : Shape := ⟨2, ![1536, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S2816x1024, .bf16⟩
  | .local _ .vmem, ⟨0, _⟩ => ⟨S1536x1408, .bf16⟩
  | .local _ .vmem, ⟨1, _⟩ => ⟨S1536x1408, .bf16⟩
  | .local _ .vmem, ⟨2, _⟩ => ⟨S1536x1024, .bf16⟩
  | .local _ .vmem, ⟨3, _⟩ => ⟨S1536x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def k0_cond3 (i : grid0.Coords) : BitVec 1 :=
  let arg1 : BitVec 32 := BitVec.ofNat 32 (i 1).val
  let c2_i32 : BitVec 32 := 2#32
  let v9 : BitVec 1 := Scalar.cmpi .eq arg1 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1536x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefDwoCtxIdeal.lean ====
abbrev S4608x2816 : Shape := ⟨2, ![4608, 2816]⟩
abbrev S4608x1024 : Shape := ⟨2, ![4608, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S_, .f32⟩
  | .hbm, ⟨3, _⟩ => ⟨S2816x1024, .f32⟩
  | .hbm, ⟨4, _⟩ => ⟨S4608x2816, .f32⟩
  | .hbm, ⟨5, _⟩ => ⟨S4608x1024, .f32⟩
  | .hbm, ⟨6, _⟩ => ⟨S4608x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dx2.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S2x3x1024 : Shape := ⟨3, ![2, 3, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S1x9x1024 : Shape := ⟨3, ![1, 9, 1024]⟩
abbrev S512x1408 : Shape := ⟨2, ![512, 1408]⟩
abbrev S1x256x1408 : Shape := ⟨3, ![1, 256, 1408]⟩
abbrev S256x1408 : Shape := ⟨2, ![256, 1408]⟩
abbrev S512x256 : Shape := ⟨2, ![512, 256]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1x3x1024 : Shape := ⟨3, ![1, 3, 1024]⟩

abbrev nBuf : Space → Nat
  | .hbm => 8
  | .vmem => 22
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S2x9x1024, .f32⟩
  | .hbm, ⟨6, _⟩ => ⟨S4096x1024, .f32⟩
  | .hbm, ⟨7, _⟩ => ⟨S2x3x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S3x1024, .f32⟩
  | .local _ .vmem, ⟨17, _⟩ => ⟨S1x9x1024, .f32⟩
  | .local _ .vmem, ⟨18, _⟩ => ⟨S1x9x1024, .f32⟩
  | .local _ .vmem, ⟨19, _⟩ => ⟨S512x1024, .f32⟩
  | .local _ .vmem, ⟨20, _⟩ => ⟨S512x1024, .f32⟩
  | .local _ .vmem, ⟨21, _⟩ => ⟨S2x3x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c8_i32 : BitVec 32 := 8#32
  let v73 : BitVec 1 := Scalar.cmpi .sge arg0 c8_i32
  let c1_i32 : BitVec 32 := 1#32
  let c0_i32 : BitVec 32 := 0#32
  let v74 : BitVec 32 := Scalar.select v73 c1_i32 c0_i32
  let v98 : Index := Scalar.indexCast v74
  let c0_84 : Index := 0#32
  let c0_85 : Index := 0#32
  ![v98.toNat, 0, 0]
def k0_cond2 (i : grid0.Coords) : BitVec 1 :=
  let arg0 : BitVec 32 := BitVec.ofNat 32 (i 0).val
  let c8_i32_95 : BitVec 32 := 8#32
  let v124 : BitVec 1 := Scalar.cmpi .slt arg0 c8_i32_95
  let v125 : BitVec 32 := Scalar.extui v124
  let c0_i32_96 : BitVec 32 := 0#32
  let v126 : BitVec 1 := Scalar.cmpi .ne v125 c0_i32_96
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x9x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Dx2Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S2x3x1024 : Shape := ⟨3, ![2, 3, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S1x9x1024 : Shape := ⟨3, ![1, 9, 1024]⟩
abbrev S512x1408 : Shape := ⟨2, ![512, 1408]⟩
abbrev S1x256x1408 : Shape := ⟨3, ![1, 256, 1408]⟩
abbrev S256x1408 : Shape := ⟨2, ![256, 1408]⟩
abbrev S512x256 : Shape := ⟨2, ![512, 256]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1x3x1024 : Shape := ⟨3, ![1, 3, 1024]⟩

abbrev nBuf : Space → Nat
  | .hbm => 8
  | .vmem => 22
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S2x9x1024, .f32⟩
  | .hbm, ⟨6, _⟩ => ⟨S4096x1024, .f32⟩
  | .hbm, ⟨7, _⟩ => ⟨S2x3x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S3x1024, .f32⟩
  | .local _ .vmem, ⟨17, _⟩ => ⟨S1x9x1024, .f32⟩
  | .local _ .vmem, ⟨18, _⟩ => ⟨S1x9x1024, .f32⟩
  | .local _ .vmem, ⟨19, _⟩ => ⟨S512x1024, .f32⟩
  | .local _ .vmem, ⟨20, _⟩ => ⟨S512x1024, .f32⟩
  | .local _ .vmem, ⟨21, _⟩ => ⟨S2x3x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c8_i32 : BitVec 32 := 8#32
  let v73 : BitVec 1 := Scalar.cmpi .sge arg0 c8_i32
  let c1_i32 : BitVec 32 := 1#32
  let c0_i32 : BitVec 32 := 0#32
  let v74 : BitVec 32 := Scalar.select v73 c1_i32 c0_i32
  let v98 : Index := Scalar.indexCast v74
  let c0_84 : Index := 0#32
  let c0_85 : Index := 0#32
  ![v98.toNat, 0, 0]
def k0_cond2 (i : grid0.Coords) : BitVec 1 :=
  let arg0 : BitVec 32 := BitVec.ofNat 32 (i 0).val
  let c8_i32_95 : BitVec 32 := 8#32
  let v124 : BitVec 1 := Scalar.cmpi .slt arg0 c8_i32_95
  let v125 : BitVec 32 := Scalar.extui v124
  let c0_i32_96 : BitVec 32 := 0#32
  let v126 : BitVec 1 := Scalar.cmpi .ne v125 c0_i32_96
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x9x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefDx2Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S1024x4x1408 : Shape := ⟨3, ![1024, 4, 1408]⟩
abbrev S1024x5632 : Shape := ⟨2, ![1024, 5632]⟩
abbrev S1x4096x2816 : Shape := ⟨3, ![1, 4096, 2816]⟩
abbrev S4096x2816 : Shape := ⟨2, ![4096, 2816]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S2x3x1024 : Shape := ⟨3, ![2, 3, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S2x9x1024, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S1x4096x2816, .bf16⟩
  | .hbm, ⟨10, _⟩ => ⟨S4096x2816, .bf16⟩
  | .hbm, ⟨11, _⟩ => ⟨S4096x2816, .f32⟩
  | .hbm, ⟨12, _⟩ => ⟨S1x4096x2816, .bf16⟩
  | .hbm, ⟨13, _⟩ => ⟨S4096x2816, .bf16⟩
  | .hbm, ⟨14, _⟩ => ⟨S4096x2816, .f32⟩
  | .hbm, ⟨15, _⟩ => ⟨S1x1024, .f32⟩
  | .hbm, ⟨16, _⟩ => ⟨S1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x5632, .f32⟩
  | .hbm, ⟨52, _⟩ => ⟨S4096x2816, .f32⟩
  | .hbm, ⟨53, _⟩ => ⟨S4096x2816, .f32⟩
  | .hbm, ⟨54, _⟩ => ⟨S4096x5632, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S2x1024, .f32⟩
  | .hbm, ⟨90, _⟩ => ⟨S_, .f32⟩
  | .hbm, ⟨91, _⟩ => ⟨S2x1024, .f32⟩
  | .hbm, ⟨92, _⟩ => ⟨S_, .f32⟩
  | .hbm, ⟨93, _⟩ => ⟨S2x1024, .f32⟩
  | .hbm, ⟨94, _⟩ => ⟨S4096x1024, .f32⟩
  | .hbm, ⟨95, _⟩ => ⟨S2x1x1024, .f32⟩
  | .hbm, ⟨96, _⟩ => ⟨S2x1x1024, .f32⟩
  | .hbm, ⟨97, _⟩ => ⟨S2x1x1024, .f32⟩
  | .hbm, ⟨98, _⟩ => ⟨S2x3x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== Dx0.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S2x3x1024 : Shape := ⟨3, ![2, 3, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S1x9x1024 : Shape := ⟨3, ![1, 9, 1024]⟩
abbrev S512x1408 : Shape := ⟨2, ![512, 1408]⟩
abbrev S1x256x1408 : Shape := ⟨3, ![1, 256, 1408]⟩
abbrev S256x1408 : Shape := ⟨2, ![256, 1408]⟩
abbrev S512x256 : Shape := ⟨2, ![512, 256]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1x3x1024 : Shape := ⟨3, ![1, 3, 1024]⟩

abbrev nBuf : Space → Nat
  | .hbm => 8
  | .vmem => 22
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S2x9x1024, .f32⟩
  | .hbm, ⟨6, _⟩ => ⟨S4096x1024, .f32⟩
  | .hbm, ⟨7, _⟩ => ⟨S2x3x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S3x1024, .f32⟩
  | .local _ .vmem, ⟨17, _⟩ => ⟨S1x9x1024, .f32⟩
  | .local _ .vmem, ⟨18, _⟩ => ⟨S1x9x1024, .f32⟩
  | .local _ .vmem, ⟨19, _⟩ => ⟨S512x1024, .f32⟩
  | .local _ .vmem, ⟨20, _⟩ => ⟨S512x1024, .f32⟩
  | .local _ .vmem, ⟨21, _⟩ => ⟨S2x3x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c8_i32 : BitVec 32 := 8#32
  let v73 : BitVec 1 := Scalar.cmpi .sge arg0 c8_i32
  let c1_i32 : BitVec 32 := 1#32
  let c0_i32 : BitVec 32 := 0#32
  let v74 : BitVec 32 := Scalar.select v73 c1_i32 c0_i32
  let v98 : Index := Scalar.indexCast v74
  let c0_85 : Index := 0#32
  let c0_86 : Index := 0#32
  ![v98.toNat, 0, 0]
def k0_cond2 (i : grid0.Coords) : BitVec 1 :=
  let arg0 : BitVec 32 := BitVec.ofNat 32 (i 0).val
  let c8_i32_96 : BitVec 32 := 8#32
  let v124 : BitVec 1 := Scalar.cmpi .slt arg0 c8_i32_96
  let v125 : BitVec 32 := Scalar.extui v124
  let c0_i32_97 : BitVec 32 := 0#32
  let v126 : BitVec 1 := Scalar.cmpi .ne v125 c0_i32_97
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x9x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Dx0Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S2x3x1024 : Shape := ⟨3, ![2, 3, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S1x9x1024 : Shape := ⟨3, ![1, 9, 1024]⟩
abbrev S512x1408 : Shape := ⟨2, ![512, 1408]⟩
abbrev S1x256x1408 : Shape := ⟨3, ![1, 256, 1408]⟩
abbrev S256x1408 : Shape := ⟨2, ![256, 1408]⟩
abbrev S512x256 : Shape := ⟨2, ![512, 256]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1x3x1024 : Shape := ⟨3, ![1, 3, 1024]⟩

abbrev nBuf : Space → Nat
  | .hbm => 8
  | .vmem => 22
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S2x9x1024, .f32⟩
  | .hbm, ⟨6, _⟩ => ⟨S4096x1024, .f32⟩
  | .hbm, ⟨7, _⟩ => ⟨S2x3x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S3x1024, .f32⟩
  | .local _ .vmem, ⟨17, _⟩ => ⟨S1x9x1024, .f32⟩
  | .local _ .vmem, ⟨18, _⟩ => ⟨S1x9x1024, .f32⟩
  | .local _ .vmem, ⟨19, _⟩ => ⟨S512x1024, .f32⟩
  | .local _ .vmem, ⟨20, _⟩ => ⟨S512x1024, .f32⟩
  | .local _ .vmem, ⟨21, _⟩ => ⟨S2x3x1024, .f32⟩
  | _, _ => ⟨S2x4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![8], ![false]⟩

def k0_off1 (i : grid0.Coords) : Fin 3 → Nat :=
  let arg0 : BitVec 32 := BitVec.ofNat 32 (i 0).val
  let c8_i32 : BitVec 32 := 8#32
  let v73 : BitVec 1 := Scalar.cmpi .sge arg0 c8_i32
  let c1_i32 : BitVec 32 := 1#32
  let c0_i32 : BitVec 32 := 0#32
  let v74 : BitVec 32 := Scalar.select v73 c1_i32 c0_i32
  let v98 : Index := Scalar.indexCast v74
  let c0_85 : Index := 0#32
  let c0_86 : Index := 0#32
  ![v98.toNat, 0, 0]
def k0_cond2 (i : grid0.Coords) : BitVec 1 :=
  let arg0 : BitVec 32 := BitVec.ofNat 32 (i 0).val
  let c8_i32_96 : BitVec 32 := 8#32
  let v124 : BitVec 1 := Scalar.cmpi .slt arg0 c8_i32_96
  let v125 : BitVec 32 := Scalar.extui v124
  let c0_i32_97 : BitVec 32 := 0#32
  let v126 : BitVec 1 := Scalar.cmpi .ne v125 c0_i32_97
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x9x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefDx0Ideal.lean ====
abbrev S2x4096x2816 : Shape := ⟨3, ![2, 4096, 2816]⟩
abbrev S4x1024x1408 : Shape := ⟨3, ![4, 1024, 1408]⟩
abbrev S4096x1024 : Shape := ⟨2, ![4096, 1024]⟩
abbrev S3x1024 : Shape := ⟨2, ![3, 1024]⟩
abbrev S2x9x1024 : Shape := ⟨3, ![2, 9, 1024]⟩
abbrev S1024x4x1408 : Shape := ⟨3, ![1024, 4, 1408]⟩
abbrev S1024x5632 : Shape := ⟨2, ![1024, 5632]⟩
abbrev S1x4096x2816 : Shape := ⟨3, ![1, 4096, 2816]⟩
abbrev S4096x2816 : Shape := ⟨2, ![4096, 2816]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S2x3x1024 : Shape := ⟨3, ![2, 3, 1024]⟩

abbrev nBuf : Space → Nat
  | .hbm => 99
  | .vmem => 0
  | .smem => 0
  | _ => 0

abbrev bufTy : (tb : Table) → Fin (tcTables nBuf tb) → BufTy
  | .hbm, ⟨0, _⟩ => ⟨S2x4096x2816, .bf16⟩
  | .hbm, ⟨1, _⟩ => ⟨S4x1024x1408, .bf16⟩
  | .hbm, ⟨2, _⟩ => ⟨S4096x1024, .f32⟩
  | .hbm, ⟨3, _⟩ => ⟨S4096x1024, .f32⟩
  | .hbm, ⟨4, _⟩ => ⟨S3x1024, .f32⟩
  | .hbm, ⟨5, _⟩ => ⟨S2x9x1024, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S1x4096x2816, .bf16⟩
  | .hbm, ⟨10, _⟩ => ⟨S4096x2816, .bf16⟩
  | .hbm, ⟨11, _⟩ => ⟨S4096x2816, .f32⟩
  | .hbm, ⟨12, _⟩ => ⟨S1x4096x2816, .bf16⟩
  | .hbm, ⟨13, _⟩ => ⟨S4096x2816, .bf16⟩
  | .hbm, ⟨14, _⟩ => ⟨S4096x2816, .f32⟩
  | .hbm, ⟨15, _⟩ => ⟨S1x1024, .f32⟩
  | .hbm, ⟨16, _⟩ => ⟨S1024, .f32⟩
  | .hbm, ⟨17, _⟩ => ⟨S2x1024, .f32⟩
  | .hbm, ⟨18, _⟩ => ⟨S2x1x1024, .f32⟩
  | .hbm, ⟨19, _⟩ => ⟨S2x1024, .f32⟩
  | .hbm, ⟨20, _⟩ => ⟨S2x1x1024, .f32⟩
  | .hbm, ⟨21, _⟩ => ⟨S2x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S4096x1024, .f32⟩
  | .hbm, ⟨26, _⟩ => ⟨S_, .f32⟩
  | .hbm, ⟨27, _⟩ => ⟨S4096, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x5632, .f32⟩
  | .hbm, ⟨52, _⟩ => ⟨S4096x2816, .f32⟩
  | .hbm, ⟨53, _⟩ => ⟨S4096x2816, .f32⟩
  | .hbm, ⟨54, _⟩ => ⟨S4096x5632, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S_, .f32⟩
  | .hbm, ⟨61, _⟩ => ⟨S1024, .f32⟩
  | .hbm, ⟨62, _⟩ => ⟨S1x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S_, .f32⟩
  | .hbm, ⟨73, _⟩ => ⟨S4096, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S2x1024, .f32⟩
  | .hbm, ⟨90, _⟩ => ⟨S_, .f32⟩
  | .hbm, ⟨91, _⟩ => ⟨S2x1024, .f32⟩
  | .hbm, ⟨92, _⟩ => ⟨S_, .f32⟩
  | .hbm, ⟨93, _⟩ => ⟨S2x1024, .f32⟩
  | .hbm, ⟨94, _⟩ => ⟨S4096x1024, .f32⟩
  | .hbm, ⟨95, _⟩ => ⟨S2x1x1024, .f32⟩
  | .hbm, ⟨96, _⟩ => ⟨S2x1x1024, .f32⟩
  | .hbm, ⟨97, _⟩ => ⟨S2x1x1024, .f32⟩
  | .hbm, ⟨98, _⟩ => ⟨S2x3x1024, .f32⟩
  | _, _ => ⟨S2x4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_cst_4 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_7 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_8 : Ref sig .tc := ⟨.hbm, 78, rfl⟩
abbrev main_v63 : Ref sig .tc := ⟨.hbm, 79, rfl⟩
abbrev main_v64 : Ref sig .tc := ⟨.hbm, 80, rfl⟩
abbrev main_cst_9 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_v71 : Ref sig .tc := ⟨.hbm, 89, rfl⟩
abbrev main_cst_11 : Ref sig .tc := ⟨.hbm, 90, rfl⟩
abbrev main_v72 : Ref sig .tc := ⟨.hbm, 91, rfl⟩
abbrev main_cst_12 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩

abbrev nD : Nat := 1
abbrev τ : Topo := Topo.v7x

variable {F : FTy → Type} [FloatOps F]
-- ==== Down2.lean ====
abbrev S4096x2816 : Shape := ⟨2, ![4096, 2816]⟩
abbrev S2816x1024 : Shape := ⟨2, ![2816, 1024]⟩
abbrev S4096x1024 : Shape := ⟨2, ![4096, 1024]⟩
abbrev S2x9x1024 : Shape := ⟨3, ![2, 9, 1024]⟩
abbrev S1024x2816 : Shape := ⟨2, ![1024, 2816]⟩
abbrev S1024x1024 : Shape := ⟨2, ![1024, 1024]⟩
abbrev S1x9x1024 : Shape := ⟨3, ![1, 9, 1024]⟩
abbrev S2816x256 : Shape := ⟨2, ![2816, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x9x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Down2Ideal.lean ====
abbrev S4096x2816 : Shape := ⟨2, ![4096, 2816]⟩
abbrev S2816x1024 : Shape := ⟨2, ![2816, 1024]⟩
abbrev S4096x1024 : Shape := ⟨2, ![4096, 1024]⟩
abbrev S2x9x1024 : Shape := ⟨3, ![2, 9, 1024]⟩
abbrev S1024x2816 : Shape := ⟨2, ![1024, 2816]⟩
abbrev S1024x1024 : Shape := ⟨2, ![1024, 1024]⟩
abbrev S1x9x1024 : Shape := ⟨3, ![1, 9, 1024]⟩
abbrev S2816x256 : Shape := ⟨2, ![2816, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x9x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDown2Ideal.lean ====
abbrev S4096x2816 : Shape := ⟨2, ![4096, 2816]⟩
abbrev S2816x1024 : Shape := ⟨2, ![2816, 1024]⟩
abbrev S4096x1024 : Shape := ⟨2, ![4096, 1024]⟩
abbrev S2x9x1024 : Shape := ⟨3, ![2, 9, 1024]⟩
abbrev S2x1x1024 : Shape := ⟨3, ![2, 1, 1024]⟩
abbrev S2x1024 : Shape := ⟨2, ![2, 1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x9x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S2x1x1024, .f32⟩
  | .hbm, ⟨8, _⟩ => ⟨S2x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Down0.lean ====
abbrev S4096x2816 : Shape := ⟨2, ![4096, 2816]⟩
abbrev S2816x1024 : Shape := ⟨2, ![2816, 1024]⟩
abbrev S4096x1024 : Shape := ⟨2, ![4096, 1024]⟩
abbrev S2x9x1024 : Shape := ⟨3, ![2, 9, 1024]⟩
abbrev S1024x2816 : Shape := ⟨2, ![1024, 2816]⟩
abbrev S1024x1024 : Shape := ⟨2, ![1024, 1024]⟩
abbrev S1x9x1024 : Shape := ⟨3, ![1, 9, 1024]⟩
abbrev S2816x256 : Shape := ⟨2, ![2816, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x9x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Down0Ideal.lean ====
abbrev S4096x2816 : Shape := ⟨2, ![4096, 2816]⟩
abbrev S2816x1024 : Shape := ⟨2, ![2816, 1024]⟩
abbrev S4096x1024 : Shape := ⟨2, ![4096, 1024]⟩
abbrev S2x9x1024 : Shape := ⟨3, ![2, 9, 1024]⟩
abbrev S1024x2816 : Shape := ⟨2, ![1024, 2816]⟩
abbrev S1024x1024 : Shape := ⟨2, ![1024, 1024]⟩
abbrev S1x9x1024 : Shape := ⟨3, ![1, 9, 1024]⟩
abbrev S2816x256 : Shape := ⟨2, ![2816, 256]⟩
abbrev S1024x256 : Shape := ⟨2, ![1024, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x9x1024, .f32⟩
  | .hbm, ⟨4, _⟩ => ⟨S4096x1024, .f32⟩
  | .hbm, ⟨5, _⟩ => ⟨S4096x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x9x1024, .f32⟩
  | .local _ .vmem, ⟨6, _⟩ => ⟨S1x9x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDown0Ideal.lean ====
abbrev S4096x2816 : Shape := ⟨2, ![4096, 2816]⟩
abbrev S2816x1024 : Shape := ⟨2, ![2816, 1024]⟩
abbrev S4096x1024 : Shape := ⟨2, ![4096, 1024]⟩
abbrev S2x9x1024 : Shape := ⟨3, ![2, 9, 1024]⟩
abbrev S2x1x1024 : Shape := ⟨3, ![2, 1, 1024]⟩
abbrev S2x1024 : Shape := ⟨2, ![2, 1024]⟩
abbrev S1x1024 : Shape := ⟨2, ![1, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S2x9x1024, .f32⟩
  | .hbm, ⟨4, _⟩ => ⟨S4096x2816, .f32⟩
  | .hbm, ⟨5, _⟩ => ⟨S2816x1024, .f32⟩
  | .hbm, ⟨6, _⟩ => ⟨S4096x1024, .f32⟩
  | .hbm, ⟨7, _⟩ => ⟨S2x1x1024, .f32⟩
  | .hbm, ⟨8, _⟩ => ⟨S2x1024, .f32⟩
  | .hbm, ⟨9, _⟩ => ⟨S1x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== DownCtx.lean ====
abbrev S4608x2816 : Shape := ⟨2, ![4608, 2816]⟩
abbrev S2816x1024 : Shape := ⟨2, ![2816, 1024]⟩
abbrev S4608x1024 : Shape := ⟨2, ![4608, 1024]⟩
abbrev S2x9x1024 : Shape := ⟨3, ![2, 9, 1024]⟩
abbrev S512x2816 : Shape := ⟨2, ![512, 2816]⟩
abbrev S512x1024 : Shape := ⟨2, ![512, 1024]⟩
abbrev S1x9x1024 : Shape := ⟨3, ![1, 9, 1024]⟩
abbrev S2816x256 : Shape := ⟨2, ![2816, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4608x2816, .bf16⟩
  | .hbm, ⟨1, _⟩ => ⟨S2816x1024, .bf16⟩
  | .hbm, ⟨2, _⟩ => ⟨S4608x1024, .f32⟩
  | .hbm, ⟨3, _⟩ => ⟨S2x9x1024, .f32⟩
  | .hbm, ⟨4, _⟩ => ⟨S4608x1024, .f32⟩
  | .hbm, ⟨5, _⟩ => ⟨S4608x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownCtxIdeal.lean ====
abbrev S4608x2816 : Shape := ⟨2, ![4608, 2816]⟩
abbrev S2816x1024 : Shape := ⟨2, ![2816, 1024]⟩
abbrev S4608x1024 : Shape := ⟨2, ![4608, 1024]⟩
abbrev S2x9x1024 : Shape := ⟨3, ![2, 9, 1024]⟩
abbrev S512x2816 : Shape := ⟨2, ![512, 2816]⟩
abbrev S512x1024 : Shape := ⟨2, ![512, 1024]⟩
abbrev S1x9x1024 : Shape := ⟨3, ![1, 9, 1024]⟩
abbrev S2816x256 : Shape := ⟨2, ![2816, 256]⟩
abbrev S512x256 : Shape := ⟨2, ![512, 256]⟩
abbrev S1x1x256 : Shape := ⟨3, ![1, 1, 256]⟩
abbrev S1x256 : Shape := ⟨2, ![1, 256]⟩

abbrev nBuf : Space → Nat
  | .hbm => 6
  | .vmem => 11
  | .smem => 0
  | _ => 0

abbrev bufTy : (tb : Table) → Fin (tcTables nBuf tb) → BufTy
  | .hbm, ⟨0, _⟩ => ⟨S4608x2816, .bf16⟩
  | .hbm, ⟨1, _⟩ => ⟨S2816x1024, .bf16⟩
  | .hbm, ⟨2, _⟩ => ⟨S4608x1024, .f32⟩
  | .hbm, ⟨3, _⟩ => ⟨S2x9x1024, .f32⟩
  | .hbm, ⟨4, _⟩ => ⟨S4608x1024, .f32⟩
  | .hbm, ⟨5, _⟩ => ⟨S4608x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x9x1024, .f32⟩
  | .local _ .vmem, ⟨6, _⟩ => ⟨S1x9x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x9x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefDownCtxIdeal.lean ====
abbrev S4608x2816 : Shape := ⟨2, ![4608, 2816]⟩
abbrev S2816x1024 : Shape := ⟨2, ![2816, 1024]⟩
abbrev S4608x1024 : Shape := ⟨2, ![4608, 1024]⟩
abbrev S2x9x1024 : Shape := ⟨3, ![2, 9, 1024]⟩
abbrev S2x1x1024 : Shape := ⟨3, ![2, 1, 1024]⟩
abbrev S2x1024 : Shape := ⟨2, ![2, 1024]⟩
abbrev S1x1024 : Shape := ⟨2, ![1, 1024]⟩
abbrev S4096x1024 : Shape := ⟨2, ![4096, 1024]⟩
abbrev S512x1024 : Shape := ⟨2, ![512, 1024]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S2816x1024, .bf16⟩
  | .hbm, ⟨2, _⟩ => ⟨S4608x1024, .f32⟩
  | .hbm, ⟨3, _⟩ => ⟨S2x9x1024, .f32⟩
  | .hbm, ⟨4, _⟩ => ⟨S4608x2816, .f32⟩
  | .hbm, ⟨5, _⟩ => ⟨S2816x1024, .f32⟩
  | .hbm, ⟨6, _⟩ => ⟨S4608x1024, .f32⟩
  | .hbm, ⟨7, _⟩ => ⟨S2x1x1024, .f32⟩
  | .hbm, ⟨8, _⟩ => ⟨S2x1024, .f32⟩
  | .hbm, ⟨9, _⟩ => ⟨S1x1024, .f32⟩
  | .hbm, ⟨10, _⟩ => ⟨S4096x1024, .f32⟩
  | .hbm, ⟨11, _⟩ => ⟨S1x1024, .f32⟩
  | .hbm, ⟨12, _⟩ => ⟨S512x1024, .f32⟩
  | .hbm, ⟨13, _⟩ => ⟨S4608x1024, .f32⟩
  | .hbm, ⟨14, _⟩ => ⟨S_, .f32⟩
  | .hbm, ⟨15, _⟩ => ⟨S4608x1024, .f32⟩
  | .hbm, ⟨16, _⟩ => ⟨S4608x1024, .f32⟩
  | .hbm, ⟨17, _⟩ => ⟨S4608x1024, .f32⟩
  | .hbm, ⟨18, _⟩ => ⟨S4608x1024, .f32⟩
  | .hbm, ⟨19, _⟩ => ⟨S4608x1024, .bf16⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Up2.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x9x1024 : Shape := ⟨3, ![1, 9, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4096x1024, .bf16⟩
  | .hbm, ⟨5, _⟩ => ⟨S2x4096x2816, .bf16⟩
  | .hbm, ⟨6, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1024x1024, .bf16⟩
  | .local _ .vmem, ⟨10, _⟩ => ⟨S1024x1024, .bf16⟩
  | .local _ .vmem, ⟨11, _⟩ => ⟨S2x1024x1408, .bf16⟩
  | .local _ .vmem, ⟨12, _⟩ => ⟨S2x1024x1408, .bf16⟩
  | .local _ .vmem, ⟨13, _⟩ => ⟨S1024x1408, .bf16⟩
  | .local _ .vmem, ⟨14, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Up2Ideal.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x9x1024 : Shape := ⟨3, ![1, 9, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4096x1024, .bf16⟩
  | .hbm, ⟨5, _⟩ => ⟨S2x4096x2816, .bf16⟩
  | .hbm, ⟨6, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1024x1024, .bf16⟩
  | .local _ .vmem, ⟨10, _⟩ => ⟨S1024x1024, .bf16⟩
  | .local _ .vmem, ⟨11, _⟩ => ⟨S2x1024x1408, .bf16⟩
  | .local _ .vmem, ⟨12, _⟩ => ⟨S2x1024x1408, .bf16⟩
  | .local _ .vmem, ⟨13, _⟩ => ⟨S1024x1408, .bf16⟩
  | .local _ .vmem, ⟨14, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_9 : BitVec 32 := 0#32
  let v27 : BitVec 1 := Scalar.cmpi .ne v26 c0_i32_9
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefUp2Ideal.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S1x1024, .f32⟩
  | .hbm, ⟨8, _⟩ => ⟨S1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x5632, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S1x4096x2816, .f32⟩
  | .hbm, ⟨65, _⟩ => ⟨S1x4096x2816, .f32⟩
  | .hbm, ⟨66, _⟩ => ⟨S2x4096x2816, .f32⟩
  | .hbm, ⟨67, _⟩ => ⟨S4096x1024, .bf16⟩
  | .hbm, ⟨68, _⟩ => ⟨S2x4096x2816, .bf16⟩
  | .hbm, ⟨69, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v34_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v34_1 : Ref sig .tc := ⟨.hbm, 53, rfl⟩
abbrev main_v34_0 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== Up0.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x9x1024 : Shape := ⟨3, ![1, 9, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4096x1024, .bf16⟩
  | .hbm, ⟨5, _⟩ => ⟨S2x4096x2816, .bf16⟩
  | .hbm, ⟨6, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1024x1024, .bf16⟩
  | .local _ .vmem, ⟨10, _⟩ => ⟨S1024x1024, .bf16⟩
  | .local _ .vmem, ⟨11, _⟩ => ⟨S2x1024x1408, .bf16⟩
  | .local _ .vmem, ⟨12, _⟩ => ⟨S2x1024x1408, .bf16⟩
  | .local _ .vmem, ⟨13, _⟩ => ⟨S1024x1408, .bf16⟩
  | .local _ .vmem, ⟨14, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Up0Ideal.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S2x4096x2816 : Shape := ⟨3, ![2, 4096, 2816]⟩
abbrev S4096x2816 : Shape := ⟨2, ![4096, 2816]⟩
abbrev S1024x1024 : Shape := ⟨2, ![1024, 1024]⟩
abbrev S1x9x1024 : Shape := ⟨3, ![1, 9, 1024]⟩
abbrev S1x1024x1408 : Shape := ⟨3, ![1, 1024, 1408]⟩
abbrev S2x1024x1408 : Shape := ⟨3, ![2, 1024, 1408]⟩
abbrev S1024x1408 : Shape := ⟨2, ![1024, 1408]⟩
abbrev S1024 : Shape := ⟨1, ![1024]⟩
abbrev S1024x1 : Shape := ⟨2, ![1024, 1]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩

abbrev nBuf : Space → Nat
  | .hbm => 7
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4096x1024, .bf16⟩
  | .hbm, ⟨5, _⟩ => ⟨S2x4096x2816, .bf16⟩
  | .hbm, ⟨6, _⟩ => ⟨S4096x2816, .bf16⟩
  | .local _ .vmem, ⟨0, _⟩ => ⟨S1024x1024, .f32⟩
  | .local _ .vmem, ⟨1, _⟩ => ⟨S1024x1024, .f32⟩
  | .local _ .vmem, ⟨2, _⟩ => ⟨S3x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S1024x1024, .bf16⟩
  | .local _ .vmem, ⟨10, _⟩ => ⟨S1024x1024, .bf16⟩
  | .local _ .vmem, ⟨11, _⟩ => ⟨S2x1024x1408, .bf16⟩
  | .local _ .vmem, ⟨12, _⟩ => ⟨S2x1024x1408, .bf16⟩
  | .local _ .vmem, ⟨13, _⟩ => ⟨S1024x1408, .bf16⟩
  | .local _ .vmem, ⟨14, _⟩ => ⟨S1024x1408, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x1024x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefUp0Ideal.lean ====
abbrev S4096x1024 : Shape := ⟨2, ![4096, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 70
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S1x1024, .f32⟩
  | .hbm, ⟨8, _⟩ => ⟨S1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x5632, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S_, .f32⟩
  | .hbm, ⟨45, _⟩ => ⟨S4096x2816, .f32⟩
  | .hbm, ⟨46, _⟩ => ⟨S4096x2816, .f32⟩
  | .hbm, ⟨47, _⟩ => ⟨S_, .f32⟩
  | .hbm, ⟨48, _⟩ => ⟨S4096x2816, .f32⟩
  | .hbm, ⟨49, _⟩ => ⟨S4096x2816, .f32⟩
  | .hbm, ⟨50, _⟩ => ⟨S_, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S_, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x2816, .f32⟩
  | .hbm, ⟨63, _⟩ => ⟨S4096x2816, .f32⟩
  | .hbm, ⟨64, _⟩ => ⟨S1x4096x2816, .f32⟩
  | .hbm, ⟨65, _⟩ => ⟨S1x4096x2816, .f32⟩
  | .hbm, ⟨66, _⟩ => ⟨S2x4096x2816, .f32⟩
  | .hbm, ⟨67, _⟩ => ⟨S4096x1024, .bf16⟩
  | .hbm, ⟨68, _⟩ => ⟨S2x4096x2816, .bf16⟩
  | .hbm, ⟨69, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_cst_0 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_v34_2 : Ref sig .tc := ⟨.hbm, 49, rfl⟩
abbrev main_call0_cst_1 : Ref sig .tc := ⟨.hbm, 50, rfl⟩
abbrev main_call0_v6 : Ref sig .tc := ⟨.hbm, 51, rfl⟩
abbrev main_call0_v7 : Ref sig .tc := ⟨.hbm, 52, rfl⟩
abbrev main_v34_1 : Ref sig .tc := ⟨.hbm, 53, rfl⟩
abbrev main_v34_0 : Ref sig .tc := ⟨.hbm, 54, rfl⟩
abbrev main_v35 : Ref sig .tc := ⟨.hbm, 55, rfl⟩
abbrev main_cst_3 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩

abbrev nD : Nat := 1
abbrev τ : Topo := Topo.v7x

variable {F : FTy → Type} [FloatOps F]
-- ==== UpCtx.lean ====
abbrev S4608x1024 : Shape := ⟨2, ![4608, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S2x4608x2816 : Shape := ⟨3, ![2, 4608, 2816]⟩
abbrev S4608x2816 : Shape := ⟨2, ![4608, 2816]⟩
abbrev S512x1024 : Shape := ⟨2, ![512, 1024]⟩
abbrev S1x9x1024 : Shape := ⟨3, ![1, 9, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x1024x128 : Shape := ⟨3, ![1, 1024, 128]⟩
abbrev S1024x128 : Shape := ⟨2, ![1024, 128]⟩
abbrev S512x128 : Shape := ⟨2, ![512, 128]⟩
abbrev S1x512x128 : Shape := ⟨3, ![1, 512, 128]⟩

abbrev nBuf : Space → Nat
  | .hbm => 7
  | .vmem => 15
  | .smem => 0
  | _ => 0

abbrev bufTy : (tb : Table) → Fin (tcTables nBuf tb) → BufTy
  | .hbm, ⟨0, _⟩ => ⟨S4608x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4608x1024, .bf16⟩
  | .hbm, ⟨5, _⟩ => ⟨S2x4608x2816, .bf16⟩
  | .hbm, ⟨6, _⟩ => ⟨S4608x2816, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S512x1024, .bf16⟩
  | .local _ .vmem, ⟨10, _⟩ => ⟨S512x1024, .bf16⟩
  | .local _ .vmem, ⟨11, _⟩ => ⟨S2x512x1408, .bf16⟩
  | .local _ .vmem, ⟨12, _⟩ => ⟨S2x512x1408, .bf16⟩
  | .local _ .vmem, ⟨13, _⟩ => ⟨S512x1408, .bf16⟩
  | .local _ .vmem, ⟨14, _⟩ => ⟨S512x1408, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== UpCtxIdeal.lean ====
abbrev S4608x1024 : Shape := ⟨2, ![4608, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S2x4608x2816 : Shape := ⟨3, ![2, 4608, 2816]⟩
abbrev S4608x2816 : Shape := ⟨2, ![4608, 2816]⟩
abbrev S512x1024 : Shape := ⟨2, ![512, 1024]⟩
abbrev S1x9x1024 : Shape := ⟨3, ![1, 9, 1024]⟩
abbrev S1x1024x1408 : Shape := ⟨3, ![1, 1024, 1408]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1x1024 : Shape := ⟨2, ![1, 1024]⟩
abbrev S1x1x1024 : Shape := ⟨3, ![1, 1, 1024]⟩
abbrev S1x1024x256 : Shape := ⟨3, ![1, 1024, 256]⟩
abbrev S1024x256 : Shape := ⟨2, ![1024, 256]⟩
abbrev S512x256 : Shape := ⟨2, ![512, 256]⟩
abbrev S1x512x256 : Shape := ⟨3, ![1, 512, 256]⟩
abbrev S1x1024x128 : Shape := ⟨3, ![1, 1024, 128]⟩
abbrev S1024x128 : Shape := ⟨2, ![1024, 128]⟩
abbrev S512x128 : Shape := ⟨2, ![512, 128]⟩
abbrev S1x512x128 : Shape := ⟨3, ![1, 512, 128]⟩

abbrev nBuf : Space → Nat
  | .hbm => 7
  | .vmem => 15
  | .smem => 0
  | _ => 0

abbrev bufTy : (tb : Table) → Fin (tcTables nBuf tb) → BufTy
  | .hbm, ⟨0, _⟩ => ⟨S4608x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4608x1024, .bf16⟩
  | .hbm, ⟨5, _⟩ => ⟨S2x4608x2816, .bf16⟩
  | .hbm, ⟨6, _⟩ => ⟨S4608x2816, .bf16⟩
  | .local _ .vmem, ⟨0, _⟩ => ⟨S512x1024, .f32⟩
  | .local _ .vmem, ⟨1, _⟩ => ⟨S512x1024, .f32⟩
  | .local _ .vmem, ⟨2, _⟩ => ⟨S3x1024, .f32⟩
  | .local _ .vmem, ⟨3, _⟩ => ⟨S1x9x1024, .f32⟩
  | .local _ .vmem, ⟨4, _⟩ => ⟨S1x9x1024, .f32⟩
  | .local _ .vmem, ⟨5, _⟩ => ⟨S1x1024x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .bf16⟩
  | .local _ .vmem, ⟨9, _⟩ => ⟨S512x1024, .bf16⟩
  | .local _ .vmem, ⟨10, _⟩ => ⟨S512x1024, .bf16⟩
  | .local _ .vmem, ⟨11, _⟩ => ⟨S2x512x1408, .bf16⟩
  | .local _ .vmem, ⟨12, _⟩ => ⟨S2x512x1408, .bf16⟩
  | .local _ .vmem, ⟨13, _⟩ => ⟨S512x1408, .bf16⟩
  | .local _ .vmem, ⟨14, _⟩ => ⟨S512x1408, .bf16⟩
  | _, _ => ⟨S4608x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg0 : BitVec 32 := BitVec.ofNat 32 (i 0).val
  let c0_i32 : BitVec 32 := 0#32
  let v25 : BitVec 1 := Scalar.cmpi .eq arg0 c0_i32
  let v26 : BitVec 32 := Scalar.extui v25
  let c0_i32_11 : BitVec 32 := 0#32
  let v27 : BitVec 1 := Scalar.cmpi .ne v26 c0_i32_11
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 1 := Scalar.cmpi .sge arg1 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![v1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S3x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x9x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefUpCtxIdeal.lean ====
abbrev S4608x1024 : Shape := ⟨2, ![4608, 1024]⟩
abbrev S3x1024 : Shape := ⟨2, ![3, 1024]⟩
abbrev S2x9x1024 : Shape := ⟨3, ![2, 9, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩
abbrev S512x1 : Shape := ⟨2, ![512, 1]⟩
abbrev S4608x5632 : Shape := ⟨2, ![4608, 5632]⟩
abbrev S4608x2816 : Shape := ⟨2, ![4608, 2816]⟩
abbrev S1x4608x2816 : Shape := ⟨3, ![1, 4608, 2816]⟩
abbrev S2x4608x2816 : Shape := ⟨3, ![2, 4608, 2816]⟩

abbrev nBuf : Space → Nat
  | .hbm => 98
  | .vmem => 0
  | .smem => 0
  | _ => 0

abbrev bufTy : (tb : Table) → Fin (tcTables nBuf tb) → BufTy
  | .hbm, ⟨0, _⟩ => ⟨S4608x1024, .f32⟩
  | .hbm, ⟨1, _⟩ => ⟨S3x1024, .f32⟩
  | .hbm, ⟨2, _⟩ => ⟨S2x9x1024, .f32⟩
  | .hbm, ⟨3, _⟩ => ⟨S4x1024x1408, .bf16⟩
  | .hbm, ⟨4, _⟩ => ⟨S4x1024x1408, .f32⟩
  | .hbm, ⟨5, _⟩ => ⟨S1024x4x1408, .f32⟩
  | .hbm, ⟨6, _⟩ => ⟨S1024x5632, .f32⟩
  | .hbm, ⟨7, _⟩ => ⟨S1x1024, .f32⟩
  | .hbm, ⟨8, _⟩ => ⟨S1024, .f32⟩
  | .hbm, ⟨9, _⟩ => ⟨S2x1024, .f32⟩
  | .hbm, ⟨10, _⟩ => ⟨S2x1x1024, .f32⟩
  | .hbm, ⟨11, _⟩ => ⟨S2x1024, .f32⟩
  | .hbm, ⟨12, _⟩ => ⟨S2x1x1024, .f32⟩
  | .hbm, ⟨13, _⟩ => ⟨S2x1024, .f32⟩
  | .hbm, ⟨14, _⟩ => ⟨S4096x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S512x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S512x1024, .f32⟩
  | .hbm, ⟨45, _⟩ => ⟨S_, .f32⟩
  | .hbm, ⟨46, _⟩ => ⟨S512, .f32⟩
  | .hbm, ⟨47, _⟩ => ⟨S512x1, .f32⟩
  | .hbm, ⟨48, _⟩ => ⟨S_, .f32⟩
  | .hbm, ⟨49, _⟩ => ⟨S512x1, .f32⟩
  | .hbm, ⟨50, _⟩ => ⟨S512x1, .f32⟩
  | .hbm, ⟨51, _⟩ => ⟨S_, .f32⟩
  | .hbm, ⟨52, _⟩ => ⟨S512x1, .f32⟩
  | .hbm, ⟨53, _⟩ => ⟨S512x1, .f32⟩
  | .hbm, ⟨54, _⟩ => ⟨S512x1, .f32⟩
  | .hbm, ⟨55, _⟩ => ⟨S512x1024, .f32⟩
  | .hbm, ⟨56, _⟩ => ⟨S512x1024, .f32⟩
  | .hbm, ⟨57, _⟩ => ⟨S512x1024, .f32⟩
  | .hbm, ⟨58, _⟩ => ⟨S512x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S512x1024, .f32⟩
  | .hbm, ⟨63, _⟩ => ⟨S512x1024, .f32⟩
  | .hbm, ⟨64, _⟩ => ⟨S512x1024, .f32⟩
  | .hbm, ⟨65, _⟩ => ⟨S512x1024, .f32⟩
  | .hbm, ⟨66, _⟩ => ⟨S4608x1024, .f32⟩
  | .hbm, ⟨67, _⟩ => ⟨S4608x5632, .f32⟩
  | .hbm, ⟨68, _⟩ => ⟨S4608x2816, .f32⟩
  | .hbm, ⟨69, _⟩ => ⟨S4608x2816, .f32⟩
  | .hbm, ⟨70, _⟩ => ⟨S4608x2816, .f32⟩
  | .hbm, ⟨71, _⟩ => ⟨S4608x2816, .f32⟩
  | .hbm, ⟨72, _⟩ => ⟨S_, .f32⟩
  | .hbm, ⟨73, _⟩ => ⟨S4608x2816, .f32⟩
  | .hbm, ⟨74, _⟩ => ⟨S4608x2816, .f32⟩
  | .hbm, ⟨75, _⟩ => ⟨S_, .f32⟩
  | .hbm, ⟨76, _⟩ => ⟨S4608x2816, .f32⟩
  | .hbm, ⟨77, _⟩ => ⟨S4608x2816, .f32⟩
  | .hbm, ⟨78, _⟩ => ⟨S_, .f32⟩
  | .hbm, ⟨79, _⟩ => ⟨S4608x2816, .f32⟩
  | .hbm, ⟨80, _⟩ => ⟨S4608x2816, .f32⟩
  | .hbm, ⟨81, _⟩ => ⟨S4608x2816, .f32⟩
  | .hbm, ⟨82, _⟩ => ⟨S4608x2816, .f32⟩
  | .hbm, ⟨83, _⟩ => ⟨S4608x2816, .f32⟩
  | .hbm, ⟨84, _⟩ => ⟨S_, .f32⟩
  | .hbm, ⟨85, _⟩ => ⟨S4608x2816, .f32⟩
  | .hbm, ⟨86, _⟩ => ⟨S4608x2816, .f32⟩
  | .hbm, ⟨87, _⟩ => ⟨S4608x2816, .f32⟩
  | .hbm, ⟨88, _⟩ => ⟨S4608x2816, .f32⟩
  | .hbm, ⟨89, _⟩ => ⟨S4608x2816, .f32⟩
  | .hbm, ⟨90, _⟩ => ⟨S4608x2816, .f32⟩
  | .hbm, ⟨91, _⟩ => ⟨S4608x2816, .f32⟩
  | .hbm, ⟨92, _⟩ => ⟨S1x4608x2816, .f32⟩
  | .hbm, ⟨93, _⟩ => ⟨S1x4608x2816, .f32⟩
  | .hbm, ⟨94, _⟩ => ⟨S2x4608x2816, .f32⟩
  | .hbm, ⟨95, _⟩ => ⟨S4608x1024, .bf16⟩
  | .hbm, ⟨96, _⟩ => ⟨S2x4608x2816, .bf16⟩
  | .hbm, ⟨97, _⟩ => ⟨S4608x2816, .bf16⟩
  | _, _ => ⟨S4608x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_2 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_3 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_cst_5 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_call0_v0 : Ref sig .tc := ⟨.hbm, 70, rfl⟩
abbrev main_call0_v1 : Ref sig .tc := ⟨.hbm, 71, rfl⟩
abbrev main_call0_cst : Ref sig .tc := ⟨.hbm, 72, rfl⟩
abbrev main_call0_v2 : Ref sig .tc := ⟨.hbm, 73, rfl⟩
abbrev main_call0_v3 : Ref sig .tc := ⟨.hbm, 74, rfl⟩
abbrev main_call0_cst_0 : Ref sig .tc := ⟨.hbm, 75, rfl⟩
abbrev main_call0_v4 : Ref sig .tc := ⟨.hbm, 76, rfl⟩
abbrev main_v58_2 : Ref sig .tc := ⟨.hbm, 77, rfl⟩
abbrev main_call0_cst_1 : Ref sig .tc := ⟨.hbm, 78, rfl⟩
abbrev main_call0_v6 : Ref sig .tc := ⟨.hbm, 79, rfl⟩
abbrev main_call0_v7 : Ref sig .tc := ⟨.hbm, 80, rfl⟩
abbrev main_v58_1 : Ref sig .tc := ⟨.hbm, 81, rfl⟩
abbrev main_v58_0 : Ref sig .tc := ⟨.hbm, 82, rfl⟩
abbrev main_v59 : Ref sig .tc := ⟨.hbm, 83, rfl⟩
abbrev main_cst_7 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩

abbrev nD : Nat := 1
abbrev τ : Topo := Topo.v7x

variable {F : FTy → Type} [FloatOps F]
-- ==== DxCtx.lean ====
abbrev S2x4608x2816 : Shape := ⟨3, ![2, 4608, 2816]⟩
abbrev S4x1024x1408 : Shape := ⟨3, ![4, 1024, 1408]⟩
abbrev S4608x1024 : Shape := ⟨2, ![4608, 1024]⟩
abbrev S3x1024 : Shape := ⟨2, ![3, 1024]⟩
abbrev S2x9x1024 : Shape := ⟨3, ![2, 9, 1024]⟩
abbrev S4096x1024 : Shape := ⟨2, ![4096, 1024]⟩
abbrev S2x3x1024 : Shape := ⟨3, ![2, 3, 1024]⟩
abbrev S1x512x1408 : Shape := ⟨3, ![1, 512, 1408]⟩
abbrev S1x1024x1408 : Shape := ⟨3, ![1, 1024, 1408]⟩
abbrev S512x1024 : Shape := ⟨2, ![512, 1024]⟩
abbrev S1x9x1024 : Shape := ⟨3, ![1, 9, 1024]⟩
abbrev S512x1408 : Shape := ⟨2, ![512, 1408]⟩
abbrev S1x256x1408 : Shape := ⟨3, ![1, 256, 1408]⟩
abbrev S256x1408 : Shape := ⟨2, ![256, 1408]⟩
abbrev S512x256 : Shape := ⟨2, ![512, 256]⟩
abbrev S1x1024 : Shape := ⟨2, ![1, 1024]⟩
abbrev S1x1x1024 : Shape := ⟨3, ![1, 1, 1024]⟩
abbrev S512 : Shape := ⟨1, ![512]⟩
abbrev S512x1 : Shape := ⟨2, ![512, 1]⟩
abbrev S1024 : Shape := ⟨1, ![1024]⟩
abbrev S1x3x1024 : Shape := ⟨3, ![1, 3, 1024]⟩

abbrev nBuf : Space → Nat
  | .hbm => 8
  | .vmem => 22
  | .smem => 0
  | _ => 0

abbrev bufTy : (tb : Table) → Fin (tcTables nBuf tb) → BufTy
  | .hbm, ⟨0, _⟩ => ⟨S2x4608x2816, .bf16⟩
  | .hbm, ⟨1, _⟩ => ⟨S4x1024x1408, .bf16⟩
  | .hbm, ⟨2, _⟩ => ⟨S4608x1024, .f32⟩
  | .hbm, ⟨3, _⟩ => ⟨S4608x1024, .f32⟩
  | .hbm, ⟨4, _⟩ => ⟨S3x1024, .f32⟩
  | .hbm, ⟨5, _⟩ => ⟨S2x9x1024, .f32⟩
  | .hbm, ⟨6, _⟩ => ⟨S4096x1024, .f32⟩
  | .hbm, ⟨7, _⟩ => ⟨S2x3x1024, .f32⟩
  | .local _ .vmem, ⟨0, _⟩ => ⟨S1x512x1408, .bf16⟩
  | .local _ .vmem, ⟨1, _⟩ => ⟨S1x512x1408, .bf16⟩
  | .local _ .vmem, ⟨2, _⟩ => ⟨S1x1024x1408, .bf16⟩
  | .local _ .vmem, ⟨3, _⟩ => ⟨S1x512x1408, .bf16⟩
  | .local _ .vmem, ⟨4, _⟩ => ⟨S1x512x1408, .bf16⟩
  | .local _ .vmem, ⟨5, _⟩ => ⟨S1x1024x1408, .bf16⟩
  | .local _ .vmem, ⟨6, _⟩ => ⟨S1x512x1408, .bf16⟩
  | .local _ .vmem, ⟨7, _⟩ => ⟨S1x512x1408, .bf16⟩
  | .local _ .vmem, ⟨8, _⟩ => ⟨S1x1024x1408, .bf16⟩
  | .local _ .vmem, ⟨9, _⟩ => ⟨S1x512x1408, .bf16⟩
  | .local _ .vmem, ⟨10, _⟩ => ⟨S1x512x1408, .bf16⟩
  | .local _ .vmem, ⟨11, _⟩ => ⟨S1x1024x1408, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S3x1024, .f32⟩
  | .local _ .vmem, ⟨17, _⟩ => ⟨S1x9x1024, .f32⟩
  | .local _ .vmem, ⟨18, _⟩ => ⟨S1x9x1024, .f32⟩
  | .local _ .vmem, ⟨19, _⟩ => ⟨S512x1024, .f32⟩
  | .local _ .vmem, ⟨20, _⟩ => ⟨S512x1024, .f32⟩
  | .local _ .vmem, ⟨21, _⟩ => ⟨S2x3x1024, .f32⟩
  | _, _ => ⟨S2x4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21

abbrev nD : Nat := 1
abbrev τ : Topo := Topo.v7x

variable {F : FTy → Type} [FloatOps F]

abbrev grid0 : Pipeline.Grid := ⟨1, ![9], ![false]⟩

def k0_off1 (i : grid0.Coords) : Fin 3 → Nat :=
  let arg0 : BitVec 32 := BitVec.ofNat 32 (i 0).val
  let c8_i32 : BitVec 32 := 8#32
  let v73 : BitVec 1 := Scalar.cmpi .sge arg0 c8_i32
  let c1_i32 : BitVec 32 := 1#32
  let c0_i32 : BitVec 32 := 0#32
  let v74 : BitVec 32 := Scalar.select v73 c1_i32 c0_i32
  let v98 : Index := Scalar.indexCast v74
  let c0_85 : Index := 0#32
  let c0_86 : Index := 0#32
  ![v98.toNat, 0, 0]
def k0_cond2 (i : grid0.Coords) : BitVec 1 :=
  let arg0 : BitVec 32 := BitVec.ofNat 32 (i 0).val
  let c8_i32_95 : BitVec 32 := 8#32
  let v124 : BitVec 1 := Scalar.cmpi .slt arg0 c8_i32_95
  let v125 : BitVec 32 := Scalar.extui v124
  let c0_i32_96 : BitVec 32 := 0#32
  let v126 : BitVec 1 := Scalar.cmpi .ne v125 c0_i32_96
  v126

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c1_i32 : BitVec 32 := 1#32
  let c0_i32_0 : BitVec 32 := 0#32
  ![c0_i32.toNat, arg0.toNat, c1_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let c1_i32 : BitVec 32 := 1#32
  let c1_i32_0 : BitVec 32 := 1#32
  let c0_i32 : BitVec 32 := 0#32
  ![c1_i32.toNat, arg0.toNat, c1_i32_0.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.minsi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c8_i32 : BitVec 32 := 8#32
  let v0 : BitVec 1 := Scalar.cmpi .sge arg0 c8_i32
  let c1_i32 : BitVec 32 := 1#32
  let c0_i32 : BitVec 32 := 0#32
  let v1 : BitVec 32 := Scalar.select v0 c1_i32 c0_i32
  let c0_i32_0 : BitVec 32 := 0#32
  let c0_i32_1 : BitVec 32 := 0#32
  let c0_i32_2 : BitVec 32 := 0#32
  ![v1.toNat, c0_i32_0.toNat, c0_i32_1.toNat]

def cc0_transform_12 (i : grid0.Coords) : Fin 2 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  ![v0.toNat, c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S3x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x9x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2x3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== RefDxCtxIdeal.lean ====
abbrev S2x4608x2816 : Shape := ⟨3, ![2, 4608, 2816]⟩
abbrev S4x1024x1408 : Shape := ⟨3, ![4, 1024, 1408]⟩
abbrev S4608x1024 : Shape := ⟨2, ![4608, 1024]⟩
abbrev S3x1024 : Shape := ⟨2, ![3, 1024]⟩
abbrev S2x9x1024 : Shape := ⟨3, ![2, 9, 1024]⟩
abbrev S1024x4x1408 : Shape := ⟨3, ![1024, 4, 1408]⟩
abbrev S1024x5632 : Shape := ⟨2, ![1024, 5632]⟩
abbrev S1x4608x2816 : Shape := ⟨3, ![1, 4608, 2816]⟩
abbrev S4608x2816 : Shape := ⟨2, ![4608, 2816]⟩
abbrev S1x1024 : Shape := ⟨2, ![1, 1024]⟩
abbrev S1024 : Shape := ⟨1, ![1024]⟩
abbrev S2x1024 : Shape := ⟨2, ![2, 1024]⟩
abbrev S2x1x1024 : Shape := ⟨3, ![2, 1, 1024]⟩
abbrev S4096x1024 : Shape := ⟨2, ![4096, 1024]⟩
abbrev S_ : Shape := ⟨0, ![]⟩
abbrev S4096 : Shape := ⟨1, ![4096]⟩
abbrev S4096x1 : Shape := ⟨2, ![4096, 1]⟩
abbrev S512x1024 : Shape := ⟨2, ![512, 1024]⟩
abbrev S512 : Shape := ⟨1, ![512]⟩
abbrev S512x1 : Shape := ⟨2, ![512, 1]⟩
abbrev S4608x5632 : Shape := ⟨2, ![4608, 5632]⟩
abbrev S2x3x1024 : Shape := ⟨3, ![2, 3, 1024]⟩

abbrev nBuf : Space → Nat
  | .hbm => 180
  | .vmem => 0
  | .smem => 0
  | _ => 0

abbrev hbmTy0_0 (i : Nat) : BufTy := match i % 128 with
  | 0 => ⟨S2x4608x2816, .bf16⟩
  | 1 => ⟨S4x1024x1408, .bf16⟩
  | 2 => ⟨S4608x1024, .f32⟩
  | 3 => ⟨S4608x1024, .f32⟩
  | 4 => ⟨S3x1024, .f32⟩
  | 5 => ⟨S2x9x1024, .f32⟩
  | 6 => ⟨S4x1024x1408, .f32⟩
  | 7 => ⟨S1024x4x1408, .f32⟩
  | 8 => ⟨S1024x5632, .f32⟩
  | 9 => ⟨S1x4608x2816, .bf16⟩
  | 10 => ⟨S4608x2816, .bf16⟩
  | 11 => ⟨S4608x2816, .f32⟩
  | 12 => ⟨S1x4608x2816, .bf16⟩
  | 13 => ⟨S4608x2816, .bf16⟩
  | 14 => ⟨S4608x2816, .f32⟩
  | 15 => ⟨S1x1024, .f32⟩
  | 16 => ⟨S1024, .f32⟩
  | 17 => ⟨S2x1024, .f32⟩
  | 18 => ⟨S2x1x1024, .f32⟩
  | 19 => ⟨S2x1024, .f32⟩
  | 20 => ⟨S2x1x1024, .f32⟩
  | 21 => ⟨S2x1024, .f32⟩
  | 22 => ⟨S4096x1024, .f32⟩
  | 23 => ⟨S1x1024, .f32⟩
  | 24 => ⟨S1x1024, .f32⟩
  | 25 => ⟨S1x1024, .f32⟩
  | 26 => ⟨S4096x1024, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S_, .f32⟩
  | 34 => ⟨S4096x1, .f32⟩
  | 35 => ⟨S4096x1, .f32⟩
  | 36 => ⟨S4096x1, .f32⟩
  | 37 => ⟨S4096x1, .f32⟩
  | 38 => ⟨S_, .f32⟩
  | 39 => ⟨S4096x1, .f32⟩
  | 40 => ⟨S4096x1, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S1x1024, .f32⟩
  | 47 => ⟨S1x1024, .f32⟩
  | 48 => ⟨S4096x1024, .f32⟩
  | 49 => ⟨S4096x1024, .f32⟩
  | 50 => ⟨S4096x1024, .f32⟩
  | 51 => ⟨S4096x1024, .f32⟩
  | 52 => ⟨S512x1024, .f32⟩
  | 53 => ⟨S1x1024, .f32⟩
  | 54 => ⟨S1x1024, .f32⟩
  | 55 => ⟨S1x1024, .f32⟩
  | 56 => ⟨S512x1024, .f32⟩
  | 57 => ⟨S_, .f32⟩
  | 58 => ⟨S512, .f32⟩
  | 59 => ⟨S512x1, .f32⟩
  | 60 => ⟨S_, .f32⟩
  | 61 => ⟨S512x1, .f32⟩
  | 62 => ⟨S512x1, .f32⟩
  | 63 => ⟨S_, .f32⟩
  | 64 => ⟨S512x1, .f32⟩
  | 65 => ⟨S512x1, .f32⟩
  | 66 => ⟨S512x1, .f32⟩
  | 67 => ⟨S512x1, .f32⟩
  | 68 => ⟨S_, .f32⟩
  | 69 => ⟨S512x1, .f32⟩
  | 70 => ⟨S512x1, .f32⟩
  | 71 => ⟨S512x1024, .f32⟩
  | 72 => ⟨S512x1024, .f32⟩
  | 73 => ⟨S512x1024, .f32⟩
  | 74 => ⟨S512x1024, .f32⟩
  | 75 => ⟨S_, .f32⟩
  | 76 => ⟨S1x1024, .f32⟩
  | 77 => ⟨S1x1024, .f32⟩
  | 78 => ⟨S512x1024, .f32⟩
  | 79 => ⟨S512x1024, .f32⟩
  | 80 => ⟨S512x1024, .f32⟩
  | 81 => ⟨S512x1024, .f32⟩
  | 82 => ⟨S4608x1024, .f32⟩
  | 83 => ⟨S4608x5632, .f32⟩
  | 84 => ⟨S4608x2816, .f32⟩
  | 85 => ⟨S4608x2816, .f32⟩
  | 86 => ⟨S4608x5632, .f32⟩
  | 87 => ⟨S4608x1024, .f32⟩
  | 88 => ⟨S4096x1024, .f32⟩
  | 89 => ⟨S512x1024, .f32⟩
  | 90 => ⟨S_, .f32⟩
  | 91 => ⟨S1024, .f32⟩
  | 92 => ⟨S1x1024, .f32⟩
  | 93 => ⟨S512x1024, .f32⟩
  | 94 => ⟨S_, .f32⟩
  | 95 => ⟨S1024, .f32⟩
  | 96 => ⟨S1x1024, .f32⟩
  | 97 => ⟨S512x1024, .f32⟩
  | 98 => ⟨S512x1024, .f32⟩
  | 99 => ⟨S512x1024, .f32⟩
  | 100 => ⟨S_, .f32⟩
  | 101 => ⟨S1024, .f32⟩
  | 102 => ⟨S1x1024, .f32⟩
  | 103 => ⟨S512x1024, .f32⟩
  | 104 => ⟨S512x1024, .f32⟩
  | 105 => ⟨S512x1024, .f32⟩
  | 106 => ⟨S_, .f32⟩
  | 107 => ⟨S512, .f32⟩
  | 108 => ⟨S512x1, .f32⟩
  | 109 => ⟨S512x1024, .f32⟩
  | 110 => ⟨S512x1024, .f32⟩
  | 111 => ⟨S512x1, .f32⟩
  | 112 => ⟨S_, .f32⟩
  | 113 => ⟨S512x1, .f32⟩
  | 114 => ⟨S512x1, .f32⟩
  | 115 => ⟨S_, .f32⟩
  | 116 => ⟨S512, .f32⟩
  | 117 => ⟨S512x1024, .f32⟩
  | 118 => ⟨S512x1024, .f32⟩
  | 119 => ⟨S512x1024, .f32⟩
  | 120 => ⟨S512x1024, .f32⟩
  | 121 => ⟨S512x1024, .f32⟩
  | 122 => ⟨S_, .f32⟩
  | 123 => ⟨S2x1024, .f32⟩
  | 124 => ⟨S_, .f32⟩
  | 125 => ⟨S2x1024, .f32⟩
  | 126 => ⟨S_, .f32⟩
  | 127 => ⟨S2x1024, .f32⟩
  | _ => ⟨S2x4608x2816, .bf16⟩

abbrev hbmTy0_1 (i : Nat) : BufTy := match i % 128 with
  | 0 => ⟨S_, .f32⟩
  | 1 => ⟨S4608x1024, .f32⟩
  | 2 => ⟨S_, .f32⟩
  | 3 => ⟨S1024, .f32⟩
  | 4 => ⟨S1x1024, .f32⟩
  | 5 => ⟨S4096x1024, .f32⟩
  | 6 => ⟨S_, .f32⟩
  | 7 => ⟨S1024, .f32⟩
  | 8 => ⟨S1x1024, .f32⟩
  | 9 => ⟨S4096x1024, .f32⟩
  | 10 => ⟨S4096x1024, .f32⟩
  | 11 => ⟨S4096x1024, .f32⟩
  | 12 => ⟨S_, .f32⟩
  | 13 => ⟨S1024, .f32⟩
  | 14 => ⟨S1x1024, .f32⟩
  | 15 => ⟨S4096x1024, .f32⟩
  | 16 => ⟨S4096x1024, .f32⟩
  | 17 => ⟨S4096x1024, .f32⟩
  | 18 => ⟨S_, .f32⟩
  | 19 => ⟨S4096, .f32⟩
  | 20 => ⟨S4096x1, .f32⟩
  | 21 => ⟨S4096x1024, .f32⟩
  | 22 => ⟨S4096x1024, .f32⟩
  | 23 => ⟨S4096x1, .f32⟩
  | 24 => ⟨S_, .f32⟩
  | 25 => ⟨S4096x1, .f32⟩
  | 26 => ⟨S4096x1, .f32⟩
  | 27 => ⟨S_, .f32⟩
  | 28 => ⟨S4096, .f32⟩
  | 29 => ⟨S4096x1024, .f32⟩
  | 30 => ⟨S4096x1024, .f32⟩
  | 31 => ⟨S4096x1024, .f32⟩
  | 32 => ⟨S4096x1024, .f32⟩
  | 33 => ⟨S4096x1024, .f32⟩
  | 34 => ⟨S_, .f32⟩
  | 35 => ⟨S2x1024, .f32⟩
  | 36 => ⟨S2x1024, .f32⟩
  | 37 => ⟨S_, .f32⟩
  | 38 => ⟨S2x1024, .f32⟩
  | 39 => ⟨S2x1024, .f32⟩
  | 40 => ⟨S_, .f32⟩
  | 41 => ⟨S2x1024, .f32⟩
  | 42 => ⟨S2x1024, .f32⟩
  | 43 => ⟨S_, .f32⟩
  | 44 => ⟨S4608x1024, .f32⟩
  | 45 => ⟨S4608x1024, .f32⟩
  | 46 => ⟨S4608x1024, .f32⟩
  | 47 => ⟨S4096x1024, .f32⟩
  | 48 => ⟨S2x1x1024, .f32⟩
  | 49 => ⟨S2x1x1024, .f32⟩
  | 50 => ⟨S2x1x1024, .f32⟩
  | 51 => ⟨S2x3x1024, .f32⟩
  | _ => ⟨S2x4608x2816, .bf16⟩

abbrev hbmTy (i : Nat) : BufTy := match i / 128 with
  | 0 => hbmTy0_0 i
  | 1 => hbmTy0_1 i
  | _ => ⟨S2x4608x2816, .bf16⟩

abbrev bufTy : (tb : Table) → Fin (tcTables nBuf tb) → BufTy
  | .hbm, ⟨i, _⟩ => hbmTy i
  | _, _ => ⟨S2x4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_v23 : Ref sig .tc := ⟨.hbm, 31, rfl⟩
abbrev main_v24 : Ref sig .tc := ⟨.hbm, 32, rfl⟩
abbrev main_cst_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_4 : Ref sig .tc := ⟨.hbm, 57, rfl⟩
abbrev main_v46 : Ref sig .tc := ⟨.hbm, 58, rfl⟩
abbrev main_v47 : Ref sig .tc := ⟨.hbm, 59, rfl⟩
abbrev main_cst_5 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_7 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_8 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_cst_9 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_10 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_11 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_cst_12 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_cst_13 : Ref sig .tc := ⟨.hbm, 112, rfl⟩
abbrev main_v92 : Ref sig .tc := ⟨.hbm, 113, rfl⟩
abbrev main_v93 : Ref sig .tc := ⟨.hbm, 114, rfl⟩
abbrev main_cst_14 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_cst_15 : Ref sig .tc := ⟨.hbm, 122, rfl⟩
abbrev main_v100 : Ref sig .tc := ⟨.hbm, 123, rfl⟩
abbrev main_cst_16 : Ref sig .tc := ⟨.hbm, 124, rfl⟩
abbrev main_v101 : Ref sig .tc := ⟨.hbm, 125, rfl⟩
abbrev main_cst_17 : Ref sig .tc := ⟨.hbm, 126, rfl⟩
abbrev main_v102 : Ref sig .tc := ⟨.hbm, 127, rfl⟩
abbrev main_cst_18 : Ref sig .tc := ⟨.hbm, 128, rfl⟩
abbrev main_v103 : Ref sig .tc := ⟨.hbm, 129, rfl⟩
abbrev main_cst_19 : Ref sig .tc := ⟨.hbm, 130, rfl⟩
abbrev main_v104 : Ref sig .tc := ⟨.hbm, 131, rfl⟩
abbrev main_v105 : Ref sig .tc := ⟨.hbm, 132, rfl⟩
abbrev main_v106 : Ref sig .tc := ⟨.hbm, 133, rfl⟩
abbrev main_cst_20 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_cst_21 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_cst_22 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_23 : Ref sig .tc := ⟨.hbm, 152, rfl⟩
abbrev main_v122 : Ref sig .tc := ⟨.hbm, 153, rfl⟩
abbrev main_v123 : Ref sig .tc := ⟨.hbm, 154, rfl⟩
abbrev main_cst_24 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_25 : Ref sig .tc := ⟨.hbm, 162, rfl⟩
abbrev main_v130 : Ref sig .tc := ⟨.hbm, 163, rfl⟩
abbrev main_v131 : Ref sig .tc := ⟨.hbm, 164, rfl⟩
abbrev main_cst_26 : Ref sig .tc := ⟨.hbm, 165, rfl⟩
abbrev main_v132 : Ref sig .tc := ⟨.hbm, 166, rfl⟩
abbrev main_v133 : Ref sig .tc := ⟨.hbm, 167, rfl⟩
abbrev main_cst_27 : Ref sig .tc := ⟨.hbm, 168, rfl⟩
abbrev main_v134 : Ref sig .tc := ⟨.hbm, 169, rfl⟩
abbrev main_v135 : Ref sig .tc := ⟨.hbm, 170, rfl⟩
abbrev main_cst_28 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩

abbrev nD : Nat := 1
abbrev τ : Topo := Topo.v7x

variable {F : FTy → Type} [FloatOps F]
-- ==== Proof.Up2Run.lean ====
/-
  The first half of the SwiGLU sublayer (the second of either layer): the body's run at a point of either sweep of the grid, what the three outputs hold after
  each point, and the run of the whole program. The normed rows are stored in the first sweep only; their buffer is written back
  once more at the end.
-/
module

public import proofs.«01_k».proof.Proof.Gen.Up2Ideal.Frame
public import proofs.«01_k».proof.Proof.Gen.Up2Ideal.Skeleton
public import Idealize.ShloMosaic.Lib.Pipeline.TableIdle
public import Idealize.ShloMosaic.Lib.Claim

@[expose] public section

set_option maxRecDepth 16384

noncomputable section

namespace Cert.Up2Ideal.Own

open Cert.Up2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one branch: the grid's first coordinate is zero, -/
abbrev cond0_0 (i : grid0.Coords) : Prop := k0_cond1 i = 1#1

/-- that is, the point is one of the first sweep. -/
theorem hcond0_0 : ∀ t : Fin cfg0.N, cond0_0 (grid0.coords t) ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

abbrev VO0_5 : View sig .tc .vmem S1024x1024 .bf16 := (Memref.whole cc0_stg5_0 : Memref sig .tc .vmem S1024x1024 .bf16).view
abbrev VO0_6 : View sig .tc .vmem S2x1024x1408 .bf16 := (Memref.whole cc0_stg6_0 : Memref sig .tc .vmem S2x1024x1408 .bf16).view
abbrev VO0_7 : View sig .tc .vmem S1024x1408 .bf16 := (Memref.whole cc0_stg7_0 : Memref sig .tc .vmem S1024x1408 .bf16).view

section Runs

variable (c : Dev nD) (i : grid0.Coords) (arg2 : Memref sig .tc .vmem S1024x1024 .f32) (harg2 : arg2.IsWhole) (arg3 : Memref sig .tc .vmem S3x1024 .f32) (harg3 : arg3.IsWhole) (arg4 : Memref sig .tc .vmem S1x9x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1024x1024 .bf16) (harg7 : arg7.IsWhole) (arg8 : Memref sig .tc .vmem S2x1024x1408 .bf16) (harg8 : arg8.IsWhole) (arg9 : Memref sig .tc .vmem S1024x1408 .bf16) (harg9 : arg9.IsWhole)
    (x0 : Vec F S1024x1024 .f32) (x1 : Vec F S3x1024 .f32) (x2 : Vec F S1x9x1024 .f32) (x3 : Vec F S1x1024x1408 .bf16) (x4 : Vec F S1x1024x1408 .bf16)

variable (hc : cond0_0 i) in
set_option maxHeartbeats 4000000 in
/-- The body at a point of the first sweep: it stores the normed rows, and stores the products' chunks. The stores are what
    the run finds. -/
noncomputable def runA :
    Σ' (L5 : List (View.Piece (Elt F) S1024x1024 .bf16)), Σ' (L6 : List (View.Piece (Elt F) S2x1024x1408 .bf16)), { L7 : List (View.Piece (Elt F) S1024x1408 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]; · iexists _; iexact H6
    iexists _; iexact H7

variable (hc : ¬cond0_0 i) in
set_option maxHeartbeats 4000000 in
/-- The body at a point of the second sweep: it leaves the buffer of the normed rows as it is, and stores the products' chunks. The stores are what
    the run finds. -/
noncomputable def runB :
    Σ' (L6 : List (View.Piece (Elt F) S2x1024x1408 .bf16)), { L7 : List (View.Piece (Elt F) S1024x1408 .bf16) //
      ∀ (xi5 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9) K } := by
  refine ⟨?_, ?_, fun xi5 E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Runs

/-! ## What the outputs hold after each point -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1408 .bf16 := win0_7.stage (cfg0.slots t 7)
abbrev hs0_7 (t : Fin cfg0.N) : (ms0_7 t).IsWhole := hstage0_7 ((cfg0.slots t 7).cast nbuf0_7)

section

variable (c : Dev nD) (t : Fin cfg0.N)

section

variable (h : t.val < 4)

/-- The body's run at a point of the first sweep, and what it leaves in each output's buffer. -/
noncomputable def atA := runA c (grid0.coords t) _ (hs0_0 t) _ (hs0_1 t) _ (hs0_2 t) _ (hs0_3 t) _ (hs0_4 t) _ (hs0_5 t) _ (hs0_6 t) _ (hs0_7 t) (iblk m c 0 t) (iblk m c 1 t) (iblk m c 2 t) (iblk m c 3 t) (iblk m c 4 t) ((hcond0_0 t).mpr h)

theorem coverA_5 (y : S1024x1024.Idx) : ∃ pc ∈ (atA m c t h).1, y ∈ pc.1.set :=
  View.cover_of_tiledL (atA m c t h).1 S1024x1024.size (by sl_kernel_rfl) y

def outA_5 : Vec F S1024x1024 .bf16 := VO0_5.read (Elt F) (VO0_5.writes (Elt F) VO0_5.junk (atA m c t h).1)

theorem coverA_6 (y : S2x1024x1408.Idx) : ∃ pc ∈ (atA m c t h).2.1, y ∈ pc.1.set :=
  View.cover_of_tiledBy (atA m c t h).2.1 ![1, 1024, 128] (by sl_kernel_rfl) y

def outA_6 : Vec F S2x1024x1408 .bf16 := VO0_6.read (Elt F) (VO0_6.writes (Elt F) VO0_6.junk (atA m c t h).2.1)

theorem coverA_7 (y : S1024x1408.Idx) : ∃ pc ∈ (atA m c t h).2.2.1, y ∈ pc.1.set :=
  View.cover_of_tiledBy (atA m c t h).2.2.1 ![1024, 128] (by sl_kernel_rfl) y

def outA_7 : Vec F S1024x1408 .bf16 := VO0_7.read (Elt F) (VO0_7.writes (Elt F) VO0_7.junk (atA m c t h).2.2.1)

end

section

variable (h : ¬t.val < 4)

/-- The body's run at a point of the second sweep, and what it leaves in each output's buffer. -/
noncomputable def atB := runB c (grid0.coords t) _ (hs0_0 t) _ (hs0_1 t) _ (hs0_2 t) _ (hs0_3 t) _ (hs0_4 t) _ (hs0_5 t) _ (hs0_6 t) _ (hs0_7 t) (iblk m c 0 t) (iblk m c 1 t) (iblk m c 2 t) (iblk m c 3 t) (iblk m c 4 t) fun hc => h ((hcond0_0 t).mp hc)

theorem coverB_6 (y : S2x1024x1408.Idx) : ∃ pc ∈ (atB m c t h).1, y ∈ pc.1.set :=
  View.cover_of_tiledBy (atB m c t h).1 ![1, 1024, 128] (by sl_kernel_rfl) y

def outB_6 : Vec F S2x1024x1408 .bf16 := VO0_6.read (Elt F) (VO0_6.writes (Elt F) VO0_6.junk (atB m c t h).1)

theorem coverB_7 (y : S1024x1408.Idx) : ∃ pc ∈ (atB m c t h).2.1, y ∈ pc.1.set :=
  View.cover_of_tiledBy (atB m c t h).2.1 ![1024, 128] (by sl_kernel_rfl) y

def outB_7 : Vec F S1024x1408 .bf16 := VO0_7.read (Elt F) (VO0_7.writes (Elt F) VO0_7.junk (atB m c t h).2.1)

end

/-- The normed rows' buffer: at a point of the first sweep what the point stores, afterwards what the sweep's last point stored. -/
def left5 : Vec F S1024x1024 .bf16 := if h : t.val < 4 then outA_5 m c t h else outA_5 m c ⟨3, by rw [show cfg0.N = 8 from N_0]; decide⟩ (by decide)

def left6 : Vec F S2x1024x1408 .bf16 := if h : t.val < 4 then outA_6 m c t h else outB_6 m c t h

def left7 : Vec F S1024x1408 .bf16 := if h : t.val < 4 then outA_7 m c t h else outB_7 m c t h

end

/-! ## The pipeline's proof data -/

/-- The arrays as the region finds them; after the body each input's buffer at its block and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
    | ⟨7, _⟩ => left7 m c t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left5 m c t := by dsimp only [dats]
theorem after0_6 (c : Dev nD) (t : Fin cfg0.N) : (dats m 0 c).after 6 t = left6 m c t := by dsimp only [dats]
theorem after0_7 (c : Dev nD) (t : Fin cfg0.N) : (dats m 0 c).after 7 t = left7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem live0 : ∀ (w : Fin cfg0.W) (t : Fin cfg0.N), w ≠ 5 → cfg0.idle w (grid0.coords t) = false := by decide +kernel
theorem live5 : ∀ t : Fin cfg0.N, t.val < 4 → cfg0.idle 5 (grid0.coords t) = false := by decide +kernel
theorem idle5 : ∀ t : Fin cfg0.N, ¬t.val < 4 → cfg0.idle 5 (grid0.coords t) = true := by decide +kernel
theorem fresh5 : ∀ t : Fin cfg0.N, ¬t.val < 4 → cfg0.fresh 5 t.val = false := by decide +kernel

/-- In the second sweep the buffer of the normed rows holds what the first one's last point left in it. -/
theorem before5 (c : Dev nD) (t : Fin cfg0.N) (h : ¬t.val < 4) (d) : (dats m 0 c).before 5 t d = left5 m c t := by
  have hc : ∀ t : Fin cfg0.N, t.val ≠ 0 → ¬t.val < 4 → left5 m c t = left5 m c ⟨t.val - 1, by omega⟩ := fun t h0 h => by
    unfold left5
    rw [dif_neg h]
    by_cases h' : t.val - 1 < 4
    · rw [dif_pos h']
      have e : ∀ (s s' : Fin cfg0.N) (hs hs'), s = s' → outA_5 m c s hs = outA_5 m c s' hs' := fun s s' _ _ e => by subst e; rfl
      exact e _ _ _ _ (Fin.ext (by show 3 = t.val - 1; omega))
    · rw [dif_neg h']
  rw [Pipeline.Dat.before_out_traj (dats m 0 c) 5 rfl (fun _ _ => rfl) (fun t h0 hi hf => by
    rw [after0_5, after0_5]
    exact hc t h0 fun hl => Bool.false_ne_true ((live5 t hl).symm.trans hi)) t.val t rfl d, fresh5 t h, if_neg Bool.false_ne_true, after0_5]
  exact (hc t (by omega) h).symm

theorem leaves (c : Dev nD) (t : Fin cfg0.N) (w : Fin cfg0.W) (h : w ≠ 5) :
    (dats m 0 c).leavesExact w t = owns (c : Thread nD τ) ((cfg0.win w).stage (cfg0.slots t w)) fullShare ((dats m 0 c).after w t) := by
  unfold Dat.leavesExact; rw [live0 w t h]

theorem leaves5_A (c : Dev nD) (t : Fin cfg0.N) (h : t.val < 4) :
    (dats m 0 c).leavesExact 5 t = owns (c : Thread nD τ) (ms0_5 t) fullShare (outA_5 m c t h) := by
  unfold Dat.leavesExact; rw [live5 t h, after0_5]; unfold left5; rw [dif_pos h]

theorem leaves5_B (c : Dev nD) (t : Fin cfg0.N) (h : ¬t.val < 4) :
    owns (c : Thread nD τ) (ms0_5 t) fullShare (left5 m c t) ⊢ (dats m 0 c).leavesExact 5 t := by
  cases hf : (cfg0.win 5).flush t
  · rw [Dat.leavesExact_idle (dats m 0 c) 5 t (idle5 t h) hf]
    simp only [before5 m c t h]
    iintro H
    iexists (left5 m c t)
    iexact H
  · have e : (dats m 0 c).leavesExact 5 t = owns (c : Thread nD τ) (ms0_5 t) fullShare ((dats m 0 c).after 5 t) := by
      unfold Dat.leavesExact; rw [idle5 t h, hf]
    rw [e, after0_5]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (dats m 0 c).leavesExact 5 t
    ∗ owns (c : Thread nD τ) (ms0_6 t) fullShare (left6 m c t)
    ∗ owns (c : Thread nD τ) (ms0_7 t) fullShare (left7 m c t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  by_cases h : t.val < 4
  · rw [leaves5_A m c t h]
    unfold left6 left7
    rw [dif_pos h, dif_pos h]
    unfold outA_6 outA_7
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atA m c t h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns outA_5; iexists _; isplitr
      swap; · iexact H5
      ipureintro; exact View.read_writes_of_cover _ _ _ _ _ (coverA_5 m c t h)
    isplitl [H6]
    · unfold owns; iexists _; isplitr
      swap; · iexact H6
      ipureintro; exact View.read_writes_of_cover _ _ _ _ _ (coverA_6 m c t h)
    unfold owns; iexists _; isplitr
    swap; · iexact H7
    ipureintro; exact View.read_writes_of_cover _ _ _ _ _ (coverA_7 m c t h)
  · unfold left6 left7
    rw [dif_neg h, dif_neg h]
    simp only [before5 m c t h]
    unfold outB_6 outB_7
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atB m c t h).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5_B m c t h)
      iexact H5
    isplitl [H6]
    · unfold owns; iexists _; isplitr
      swap; · iexact H6
      ipureintro; exact View.read_writes_of_cover _ _ _ _ _ (coverB_6 m c t h)
    unfold owns; iexists _; isplitr
    swap; · iexact H7
    ipureintro; exact View.read_writes_of_cover _ _ _ _ _ (coverB_7 m c t h)

theorem defs₀_row (t : Fin cfg0.N) :
    defs₀ (F := F) .tc cfg0.body (cfg0.bodyArgs t (cfg0.slots t)) = bodyAt0 t := by
  unfold defs₀; rw [Defs.onTc_tc]

theorem bodyPost_eq (c : Dev nD) (t : Fin cfg0.N) : bodyPost m c t =
    iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t) := by
  rw [leaves m c t 0 (by decide), leaves m c t 1 (by decide), leaves m c t 2 (by decide), leaves m c t 3 (by decide), leaves m c t 4 (by decide),
    leaves m c t 6 (by decide), leaves m c t 7 (by decide), after0_0, after0_1, after0_2, after0_3, after0_4, after0_6, after0_7]
  rfl

theorem body_obligation (c : Dev nD) : BodyObligation (dats (F := F) m 0 c) (defs₀ (F := F)) Variants.none () Set.univ := fun t => by
  rw [bigSep_W0, bigSep_W0, defs₀_row]
  have h := sound_body m c t
  simp only [bodyPost_eq] at h
  exact triple_restated h rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Up2Ideal.Own

end
-- ==== Proof.Tn.lean ====
/-
  Arrays read at natural-number positions, and a sum over all rows cut into tiles: what the weight-gradient calls' claims share.
-/
module

public import Idealize.ShloMosaic.Lib.Pointwise
public import Idealize.ShloMosaic.Lib.Pipeline.ValueKit

@[expose] public section

noncomputable section

namespace Cert.Tn

open Idealize.ShloMosaic Finset

theorem hz2 : (![0, 0] : Fin 2 → ℕ) = 0 := by decide
theorem hz3 : (![0, 0, 0] : Fin 3 → ℕ) = 0 := by decide

/-- An entry of a matrix, zero outside it. -/
def nat2 {n k : ℕ} (x : (⟨2, ![n, k]⟩ : Shape).Idx → EReal) (i j : ℕ) : EReal :=
  if h : i < n ∧ j < k then x (ix2 ⟨i, h.1⟩ ⟨j, h.2⟩) else 0

/-- An entry of a stack of matrices, zero outside it. -/
def nat3 {l n k : ℕ} (x : (⟨3, ![l, n, k]⟩ : Shape).Idx → EReal) (a i j : ℕ) : EReal :=
  if h : a < l ∧ i < n ∧ j < k then x (ix3 ⟨a, h.1⟩ ⟨i, h.2.1⟩ ⟨j, h.2.2⟩) else 0

theorem nat2_ix {n k : ℕ} (x : (⟨2, ![n, k]⟩ : Shape).Idx → EReal) (i : Fin n) (j : Fin k) : x (ix2 i j) = nat2 x i.val j.val := by
  unfold nat2; rw [dif_pos (show i.val < n ∧ j.val < k from ⟨i.isLt, j.isLt⟩)]

theorem nat3_ix {l n k : ℕ} (x : (⟨3, ![l, n, k]⟩ : Shape).Idx → EReal) (a : Fin l) (i : Fin n) (j : Fin k) :
    x (ix3 a i j) = nat3 x a.val i.val j.val := by
  unfold nat3; rw [dif_pos (show a.val < l ∧ i.val < n ∧ j.val < k from ⟨a.isLt, i.isLt, j.isLt⟩)]

theorem nat2_at {n k : ℕ} (x : (⟨2, ![n, k]⟩ : Shape).Idx → EReal) (i : (⟨2, ![n, k]⟩ : Shape).Idx) : x i = nat2 x (i 0).val (i 1).val :=
  (congrArg x (eq_ix2 i)).trans (nat2_ix x (i 0) (i 1))

theorem nat3_at {l n k : ℕ} (x : (⟨3, ![l, n, k]⟩ : Shape).Idx → EReal) (i : (⟨3, ![l, n, k]⟩ : Shape).Idx) :
    x i = nat3 x (i 0).val (i 1).val (i 2).val :=
  (congrArg x (eq_ix3 i)).trans (nat3_ix x (i 0) (i 1) (i 2))

/-- Two tiles of rows make all of them. -/
theorem two_tiles (n : ℕ) (f : ℕ → EReal) : ∑ k : Fin n, f k.val + ∑ k : Fin n, f (n + k.val) = ∑ l : Fin (2 * n), f l.val := by
  rw [← Fin.sum_univ_univ_mul_add 2 n f, Fin.sum_univ_two]
  congr 1
  · exact sum_congr rfl fun k _ => by rw [Fin.val_zero, zero_mul, zero_add]
  · exact sum_congr rfl fun k _ => by rw [Fin.val_one, one_mul]

/-- Three tiles of rows make all of them. -/
theorem three_tiles (n : ℕ) (f : ℕ → EReal) :
    ∑ k : Fin n, f k.val + ∑ k : Fin n, f (n + k.val) + ∑ k : Fin n, f (2 * n + k.val) = ∑ l : Fin (3 * n), f l.val := by
  rw [← Fin.sum_univ_univ_mul_add 3 n f, Fin.sum_univ_three]
  congr 1
  congr 1
  · exact sum_congr rfl fun k _ => by rw [Fin.val_zero, zero_mul, zero_add]
  · exact sum_congr rfl fun k _ => by rw [Fin.val_one, one_mul]

end Cert.Tn
-- ==== Proof.Rms.lean ====
/-
  The gradient of a root-mean-square norm with a shift and a scale: the tiled form against the derivative's, on real entries.
-/
module

public import proofs.«01_k».proof.Proof.Tn
public import Idealize.ShloMosaic.PureOps.Ideal
public import Idealize.ShloMosaic.PureOps.Ideal.Laws
public import Mathlib.Tactic.Ring
public import Mathlib.Tactic.FieldSimp
public import Mathlib.Tactic.NormNum
public import Mathlib.Tactic.Positivity
public import Mathlib.Tactic.LinearCombination

@[expose] public section

noncomputable section

namespace Cert.Rms

open Idealize.ShloMosaic Finset Cert.Tn

abbrev nF : EReal := Ideal.ofBits .f32 1149239296#32
abbrev eF : EReal := Ideal.ofBits .f32 897988541#32
abbrev hF : EReal := Ideal.ofBits .f32 3204448256#32

theorem nF_eq : nF = ((1024 : ℝ) : EReal) := by
  simp [nF, Ideal.ofBits, Ideal.ieee]
  norm_num
  rw [← EReal.coe_mul]
  norm_num

theorem hF_eq : hF = ((-(1 / 2) : ℝ) : EReal) := by
  simp [hF, Ideal.ofBits, Ideal.ieee]
  norm_num
  rw [← EReal.coe_mul]
  norm_num

theorem eF_pos : ∃ e : ℝ, 0 < e ∧ eF = (e : EReal) := by
  refine ⟨8796093 * 2 ^ (-43 : ℤ), by positivity, ?_⟩
  simp [eF, Ideal.ofBits, Ideal.ieee]

/-- A row's mean square, with the small constant added. -/
def var (x : ℕ → EReal) : EReal := Ideal.div (∑ d : Fin 1024, x d.val * x d.val) nF + eF

/-- A row's factor. -/
def inv (x : ℕ → EReal) : EReal := Ideal.rsqrt (var x)

/-- The row's gradient as the body writes it. -/
def rowK (h x g s : ℕ → EReal) (d : ℕ) : EReal :=
  inv x * (h d * (g d * (1 + s d)) - x d * inv x * Ideal.div (∑ e : Fin 1024, h e.val * (g e.val * (1 + s e.val)) * (x e.val * inv x)) nF)

/-- What the derivative of the factor gives. -/
def pull (h x g s : ℕ → EReal) : EReal :=
  ∑ _e : Fin 1, Ideal.div ((∑ e : Fin 1024, x e.val * (h e.val * (1 + s e.val) * g e.val)) * (hF * Ideal.div (inv x) (var x))) nF

/-- The row's gradient as the derivative gives it. -/
def rowR (h x g s : ℕ → EReal) (d : ℕ) : EReal :=
  h d * (1 + s d) * g d * inv x + x d * pull h x g s + pull h x g s * x d

theorem coe_sum {n : ℕ} (f : Fin n → ℝ) : ∑ k, (f k : EReal) = ((∑ k, f k : ℝ) : EReal) :=
  (map_sum (⟨⟨Real.toEReal, EReal.coe_zero⟩, EReal.coe_add⟩ : ℝ →+ EReal) f univ).symm

theorem var_coe (x : ℕ → ℝ) : ∃ v : ℝ, 0 < v ∧ var (fun d => (x d : EReal)) = (v : EReal) := by
  obtain ⟨e, he, hE⟩ := eF_pos
  refine ⟨(∑ d : Fin 1024, x d.val * x d.val) * (1 / 1024) + e, ?_, ?_⟩
  · have : 0 ≤ ∑ d : Fin 1024, x d.val * x d.val := sum_nonneg fun d _ => mul_self_nonneg _
    positivity
  · unfold var
    simp only [← EReal.coe_mul]
    rw [coe_sum, nF_eq, hE, Ideal.div_coe (by norm_num), ← EReal.coe_mul, ← EReal.coe_add]

theorem inv_coe {x : ℕ → EReal} {v : ℝ} (hv : 0 < v) (h : var x = (v : EReal)) : inv x = (((Real.sqrt v)⁻¹ : ℝ) : EReal) := by
  unfold inv
  rw [h, Ideal.rsqrt_coe, if_neg (not_lt.2 hv.le), if_neg hv.ne']

theorem inv_real {x : ℕ → EReal} (hx : ∀ d, ∃ a : ℝ, x d = a) : ∃ a : ℝ, inv x = a := by
  choose x' hx using hx
  obtain rfl : x = fun d => (x' d : EReal) := funext hx
  obtain ⟨v, hv, h⟩ := var_coe x'
  exact ⟨_, inv_coe hv h⟩

theorem row_eq {h x g s : ℕ → EReal} (hh : ∀ d, ∃ a : ℝ, h d = a) (hx : ∀ d, ∃ a : ℝ, x d = a) (hg : ∀ d, ∃ a : ℝ, g d = a) (hs : ∀ d, ∃ a : ℝ, s d = a)
    (d : ℕ) : rowK h x g s d = rowR h x g s d := by
  choose h' hh using hh
  choose x' hx using hx
  choose g' hg using hg
  choose s' hs using hs
  obtain rfl : h = fun d => (h' d : EReal) := funext hh
  obtain rfl : x = fun d => (x' d : EReal) := funext hx
  obtain rfl : g = fun d => (g' d : EReal) := funext hg
  obtain rfl : s = fun d => (s' d : EReal) := funext hs
  obtain ⟨v, hv, hV⟩ := var_coe x'
  unfold rowK rowR pull
  rw [inv_coe hv hV, hV, nF_eq, hF_eq, Fin.sum_univ_one]
  have hR : (Real.sqrt v)⁻¹ * (Real.sqrt v)⁻¹ = 1 / v := by
    rw [← mul_inv, Real.mul_self_sqrt hv.le, one_div]
  generalize (Real.sqrt v)⁻¹ = R at hR
  simp only [← EReal.coe_one, ← EReal.coe_mul, ← EReal.coe_add, coe_sum]
  rw [Ideal.div_coe (by norm_num), Ideal.div_coe hv.ne', Ideal.div_coe (by norm_num)]
  simp only [← EReal.coe_mul, ← EReal.coe_add, ← EReal.coe_sub]
  refine congrArg _ ?_
  have e1 : ∑ e : Fin 1024, h' e.val * (g' e.val * (1 + s' e.val)) * (x' e.val * R) = (∑ e : Fin 1024, x' e.val * (h' e.val * (1 + s' e.val) * g' e.val)) * R := by
    rw [sum_mul]
    exact sum_congr rfl fun e _ => by ring
  rw [e1]
  generalize ∑ e : Fin 1024, x' e.val * (h' e.val * (1 + s' e.val) * g' e.val) = S
  linear_combination (-(R * x' d * S * (1 / 1024))) * hR

/-- Tiles of 512 rows, each summed and then multiplied, make the sum of all the products. -/
theorem tiles_mul (n : ℕ) {a : ℕ → EReal} {g : EReal} (ha : ∀ r, ∃ y : ℝ, a r = y) (hg : ∃ y : ℝ, g = y) :
    ∑ i ∈ range n, (∑ p : Fin 512, a (i * 512 + p.val)) * g = ∑ r : Fin (n * 512), a r.val * g := by
  choose a' ha using ha
  obtain rfl : a = fun d => (a' d : EReal) := funext ha
  obtain ⟨g', rfl⟩ := hg
  rw [← Fin.sum_univ_univ_mul_add n 512 fun r => (a' r : EReal) * g', ← Fin.sum_univ_eq_sum_range fun i => (∑ p : Fin 512, (a' (i * 512 + p.val) : EReal)) * g']
  refine sum_congr rfl fun i _ => ?_
  simp only [← EReal.coe_mul, coe_sum]
  rw [sum_mul]

theorem tiles (n : ℕ) (a : ℕ → EReal) : ∑ i ∈ range n, ∑ p : Fin 512, a (i * 512 + p.val) = ∑ r : Fin (n * 512), a r.val := by
  rw [← Fin.sum_univ_univ_mul_add n 512 a, ← Fin.sum_univ_eq_sum_range fun i => ∑ p : Fin 512, a (i * 512 + p.val)]

/-- The product with the transposed weights as the body writes it, in four parts. -/
def dhK (Z W : ℕ → ℕ → ℕ → EReal) (r d : ℕ) : EReal :=
  ((∑ k : Fin 1408, Z 0 r k.val * W 0 d k.val) + ∑ k : Fin 1408, Z 0 r (1408 + k.val) * W 1 d k.val)
    + (∑ k : Fin 1408, Z 1 r k.val * W 2 d k.val) + ∑ k : Fin 1408, Z 1 r (1408 + k.val) * W 3 d k.val

/-- The same in two parts, one to each half of the columns. -/
def dhR (Z W : ℕ → ℕ → ℕ → EReal) (r d : ℕ) : EReal :=
  (∑ k : Fin 2816, Z 0 r k.val * W (k.val / 1408) d (k.val % 1408)) + ∑ k : Fin 2816, Z 1 r k.val * W ((2816 + k.val) / 1408) d ((2816 + k.val) % 1408)

theorem dh_eq (Z W : ℕ → ℕ → ℕ → EReal) (r d : ℕ) : dhK Z W r d = dhR Z W r d := by
  have e0 := two_tiles 1408 fun k => Z 0 r k * W (k / 1408) d (k % 1408)
  have e1 := two_tiles 1408 fun k => Z 1 r k * W ((2816 + k) / 1408) d ((2816 + k) % 1408)
  unfold dhK dhR
  rw [add_assoc (_ + _)]
  refine congrArg₂ (· + ·) (Eq.trans ?_ e0) (Eq.trans ?_ e1)
  · refine congrArg₂ (· + ·) (sum_congr rfl fun k _ => ?_) (sum_congr rfl fun k _ => ?_)
    · rw [show k.val / 1408 = 0 by omega, show k.val % 1408 = k.val by omega]
    · rw [show (1408 + k.val) / 1408 = 1 by omega, show (1408 + k.val) % 1408 = k.val by omega]
  · refine congrArg₂ (· + ·) (sum_congr rfl fun k _ => ?_) (sum_congr rfl fun k _ => ?_)
    · rw [show (2816 + k.val) / 1408 = 2 by omega, show (2816 + k.val) % 1408 = k.val by omega]
    · rw [show (2816 + (1408 + k.val)) / 1408 = 3 by omega, show (2816 + (1408 + k.val)) % 1408 = k.val by omega]

/-- An index of a block by its coordinates in the array. -/
theorem nat3_co {l n k a b d : ℕ} (x : (⟨3, ![l, n, k]⟩ : Shape).Idx → EReal) (i : (⟨3, ![l, n, k]⟩ : Shape).Idx) (h0 : (i 0).val = a) (h1 : (i 1).val = b) (h2 : (i 2).val = d) :
    x i = nat3 x a b d := by
  rw [nat3_at x i, h0, h1, h2]

theorem nat2_co {n k a b : ℕ} (x : (⟨2, ![n, k]⟩ : Shape).Idx → EReal) (i : (⟨2, ![n, k]⟩ : Shape).Idx) (h0 : (i 0).val = a) (h1 : (i 1).val = b) : x i = nat2 x a b := by
  rw [nat2_at x i, h0, h1]

theorem co {w a k s b : ℕ} (h : w = a) (e : a * s + k = b) : w * s + k = b := h ▸ e

theorem nat3_real {l n k : ℕ} {x : (⟨3, ![l, n, k]⟩ : Shape).Idx → EReal} (hx : ∀ i, ∃ y : ℝ, x i = y) (a i j : ℕ) : ∃ y : ℝ, nat3 x a i j = y := by
  unfold nat3
  split
  · exact hx _
  · exact ⟨0, EReal.coe_zero.symm⟩

theorem nat2_real {n k : ℕ} {x : (⟨2, ![n, k]⟩ : Shape).Idx → EReal} (hx : ∀ i, ∃ y : ℝ, x i = y) (i j : ℕ) : ∃ y : ℝ, nat2 x i j = y := by
  unfold nat2
  split
  · exact hx _
  · exact ⟨0, EReal.coe_zero.symm⟩

theorem dot_real {n : ℕ} {a b : ℕ → EReal} (ha : ∀ k, ∃ y : ℝ, a k = y) (hb : ∀ k, ∃ y : ℝ, b k = y) : ∃ y : ℝ, ∑ k : Fin n, a k.val * b k.val = y := by
  choose a' ha using ha
  choose b' hb using hb
  refine ⟨∑ k : Fin n, a' k.val * b' k.val, ?_⟩
  simp only [ha, hb, ← EReal.coe_mul, coe_sum]

theorem dh_real {Z W : ℕ → ℕ → ℕ → EReal} (hZ : ∀ a i j, ∃ y : ℝ, Z a i j = y) (hW : ∀ a i j, ∃ y : ℝ, W a i j = y) (r d : ℕ) : ∃ y : ℝ, dhR Z W r d = y := by
  obtain ⟨a, ha⟩ := dot_real (n := 2816) (fun k => hZ 0 r k) (fun k => hW (k / 1408) d (k % 1408))
  obtain ⟨b, hb⟩ := dot_real (n := 2816) (fun k => hZ 1 r k) (fun k => hW ((2816 + k) / 1408) d ((2816 + k) % 1408))
  exact ⟨a + b, by unfold dhR; rw [ha, hb, EReal.coe_add]⟩

/-- A tile's part of the parameters' gradients: the shift's, the scale's and the norm weights'. -/
def tile (H X : ℕ → ℕ → EReal) (g s : ℕ → EReal) (q : Fin 3) (d i : ℕ) : EReal :=
  if q.val < 1 then ∑ p : Fin 512, H (i * 512 + p.val) d
  else if q.val - 1 < 1 then (∑ p : Fin 512, H (i * 512 + p.val) d * (X (i * 512 + p.val) d * inv (X (i * 512 + p.val)))) * g d
  else (∑ p : Fin 512, H (i * 512 + p.val) d * (X (i * 512 + p.val) d * inv (X (i * 512 + p.val)))) * (1 + s d)

/-- The parameters' gradients as the derivative gives them, over `n` rows. -/
def grads (n : ℕ) (H X : ℕ → ℕ → EReal) (g s : ℕ → EReal) (q : Fin 3) (d : ℕ) : EReal :=
  if q.val < 1 then ∑ r : Fin n, H r.val d
  else if q.val - 1 < 1 then ∑ r : Fin n, X r.val d * inv (X r.val) * g d * H r.val d
  else ∑ r : Fin n, X r.val d * inv (X r.val) * (H r.val d * (1 + s d))

theorem tiles_grads (n : ℕ) {H X : ℕ → ℕ → EReal} {g s : ℕ → EReal} (hH : ∀ r d, ∃ a : ℝ, H r d = a) (hX : ∀ r d, ∃ a : ℝ, X r d = a)
    (hg : ∀ d, ∃ a : ℝ, g d = a) (hs : ∀ d, ∃ a : ℝ, s d = a) (q : Fin 3) (d : ℕ) :
    ∑ i ∈ range n, tile H X g s q d i = grads (n * 512) H X g s q d := by
  have hp : ∀ r, ∃ a : ℝ, H r d * (X r d * inv (X r)) = a := fun r => by
    obtain ⟨a, ha⟩ := hH r d
    obtain ⟨b, hb⟩ := hX r d
    obtain ⟨e, he⟩ := inv_real (hX r)
    exact ⟨a * (b * e), by rw [ha, hb, he, EReal.coe_mul, EReal.coe_mul]⟩
  unfold tile grads
  by_cases h0 : q.val < 1
  · simp only [if_pos h0]
    exact tiles n fun r => H r d
  by_cases h1 : q.val - 1 < 1
  · simp only [if_neg h0, if_pos h1]
    refine (tiles_mul n hp (hg d)).trans (sum_congr rfl fun r _ => ?_)
    rw [mul_comm (H r.val d) (X r.val d * inv (X r.val)), mul_right_comm]
  · simp only [if_neg h0, if_neg h1]
    obtain ⟨b, hb⟩ := hs d
    refine (tiles_mul n hp ⟨1 + b, by rw [hb, EReal.coe_add, EReal.coe_one]⟩).trans (sum_congr rfl fun r _ => ?_)
    rw [mul_comm (H r.val d) (X r.val d * inv (X r.val)), mul_assoc (X r.val d * inv (X r.val))]

end Cert.Rms
-- ==== Proof.Up.lean ====
/-
  The SwiGLU sublayer's first half at a row: the modulated norm, the gated product, and what the backward pass takes from it.
-/
module

public import proofs.«01_k».proof.Proof.Rms
public import Idealize.ShloMosaic.Lib.WholeRead

@[expose] public section

noncomputable section

namespace Cert.Up

open Cert.Tn Cert.Rms Idealize.ShloMosaic Finset

/-- The logistic function. -/
def sg (a : EReal) : EReal := Ideal.div 1 (1 + Ideal.exp (0 - a))

/-- The modulated norm of the row `x`, at column `d`: gain `g`, shift `b`, scale `s`. -/
def hn (x g b s : ℕ → EReal) (d : ℕ) : EReal := x d * inv x * g d * (1 + s d) + b d

/-- A row by a column. -/
def dot (h w : ℕ → EReal) : EReal := ∑ k : Fin 1024, h k.val * w k.val

/-- The derivatives of the gated product by the gate (`q = 0`) and by the value, in the kernel's association. -/
def back (a u : EReal) (q : ℕ) : EReal := if q = 0 then u * (sg a * (1 + a * (1 - sg a))) else a * sg a

/-- The gated product. -/
def gated (a u : EReal) : EReal := a * sg a * u

theorem sg_real (a : ℝ) : ∃ s : ℝ, sg a = s := by
  unfold sg
  rw [zero_sub, ← EReal.coe_neg, Ideal.exp_coe, ← EReal.coe_one, ← EReal.coe_add, Ideal.div_coe (by positivity), ← EReal.coe_mul]
  exact ⟨_, rfl⟩

theorem hn_real {x g b s : ℕ → EReal} (hx : ∀ d, ∃ y : ℝ, x d = y) (hg : ∀ d, ∃ y : ℝ, g d = y) (hb : ∀ d, ∃ y : ℝ, b d = y) (hs : ∀ d, ∃ y : ℝ, s d = y) (d : ℕ) :
    ∃ y : ℝ, hn x g b s d = y := by
  obtain ⟨r, hr⟩ := inv_real hx
  obtain ⟨x', hx⟩ := hx d
  obtain ⟨g', hg⟩ := hg d
  obtain ⟨b', hb⟩ := hb d
  obtain ⟨s', hs⟩ := hs d
  refine ⟨x' * r * g' * (1 + s') + b', ?_⟩
  unfold hn
  rw [hx, hr, hg, hb, hs]
  push_cast
  rfl

/-- The gate's derivative as the chain rule writes it is the kernel's. -/
theorem back_gate {a u : EReal} (ha : ∃ y : ℝ, a = y) (hu : ∃ y : ℝ, u = y) :
    1 * u * sg a + a * (1 * u) * (sg a * (1 - sg a)) = back a u 0 := by
  obtain ⟨a, rfl⟩ := ha
  obtain ⟨u, rfl⟩ := hu
  obtain ⟨s, hs⟩ := sg_real a
  unfold back
  rw [if_pos rfl, hs]
  norm_cast
  ring

/-- The value's derivative as the chain rule writes it is the kernel's. -/
theorem back_value (a u : EReal) : a * sg a * 1 = back a u 1 := by
  unfold back
  rw [if_neg (by decide), mul_one]

theorem hn_congr {x x' g g' b b' s s' : ℕ → EReal} (hx : ∀ k : Fin 1024, x k.val = x' k.val) (hg : ∀ k : Fin 1024, g k.val = g' k.val) (hb : ∀ k : Fin 1024, b k.val = b' k.val)
    (hs : ∀ k : Fin 1024, s k.val = s' k.val) (d : Fin 1024) : hn x g b s d.val = hn x' g' b' s' d.val := by
  unfold hn Rms.inv var
  simp only [hx, hg, hb, hs]

theorem dot_congr {h h' w w' : ℕ → EReal} (hh : ∀ k : Fin 1024, h k.val = h' k.val) (hw : ∀ k : Fin 1024, w k.val = w' k.val) : dot h w = dot h' w' :=
  sum_congr rfl fun k _ => congrArg₂ (· * ·) (hh k) (hw k)

/-! ## A block of rows against a block of weights, cut in chunks -/

theorem hz2 : (![0, 0] : Fin 2 → ℕ) = fun _ => 0 := by decide

theorem co0 {w s k : ℕ} (h : w = 0) : w * s + k = k := by rw [h, zero_mul, zero_add]

theorem emb_val {s : Shape} (off size : Fin s.rank → ℕ) (inb) (x : (Rect.unit (s := s) off size inb).shape.Idx) (a : Fin s.rank) :
    ((Rect.unit (s := s) off size inb).emb x a).val = off a + (x a).val := Rect.idx_unit_val ..

section

variable {n : ℕ}

/-- The product of row `p` and column `q`. -/
abbrev pr {w : ℕ} (h : Vec Ideal ⟨2, ![n, 1024]⟩ .bf16) (p : Fin n) (a : Vec Ideal ⟨3, ![1, 1024, w]⟩ .bf16) (q : Fin w) : EReal := ∑ k : Fin 1024, h (ix2 p k) * a (ix3 0 k q)

/-- A chunk of the weights at column `o`, `w` wide. -/
abbrev wld (x : Vec Ideal ⟨3, ![1, 1024, 1408]⟩ .bf16) (o w : ℕ) (inb) := View.ld x (Rect.unit (s := ⟨3, ![1, 1024, 1408]⟩) ![0, 0, o] ![1, 1024, w] inb)

variable {h : Vec Ideal ⟨2, ![n, 1024]⟩ .bf16} {ρ : ℕ → ℕ → EReal} (hh : ∀ (p : Fin n) (d : Fin 1024), h (ix2 p d) = ρ p.val d.val) (x y : Vec Ideal ⟨3, ![1, 1024, 1408]⟩ .bf16)

/-- The derivatives' block, and the products' block, at an index. -/
abbrev backs (ρ : ℕ → ℕ → EReal) (i : (⟨3, ![2, n, 1408]⟩ : Shape).Idx) : EReal :=
  back (dot (ρ (i 1).val) (fun k => nat3 x 0 k (i 2).val)) (dot (ρ (i 1).val) (fun k => nat3 y 0 k (i 2).val)) (i 0).val
abbrev gateds (ρ : ℕ → ℕ → EReal) (i : (⟨2, ![n, 1408]⟩ : Shape).Idx) : EReal :=
  gated (dot (ρ (i 0).val) (fun k => nat3 x 0 k (i 1).val)) (dot (ρ (i 0).val) (fun k => nat3 y 0 k (i 1).val))

include hh

theorem chunk_dot {o w : ℕ} (inb) (r : Fin n) (q : Fin w) : pr h r (wld x o w inb) q = dot (ρ r.val) (fun k => nat3 x 0 k (o + q.val)) :=
  sum_congr rfl fun k _ => congrArg₂ (· * ·) (hh r k) (nat3_co x _ ((emb_val ..).trans rfl) ((emb_val ..).trans (Nat.zero_add _)) (emb_val ..))

/-- A chunk of the derivatives' block, from its values. -/
theorem backs_piece (a : ℕ) {o w : ℕ} (inb inb') (v : Vec Ideal ⟨3, ![1, n, w]⟩ .bf16)
    (hv : ∀ r q, v (ix3 0 r q) = back (pr h r (wld x o w inb) q) (pr h r (wld y o w inb) q) a) (j : (⟨3, ![1, n, w]⟩ : Shape).Idx) :
    v j = backs x y ρ ((Rect.unit (s := ⟨3, ![2, n, 1408]⟩) ![a, 0, o] ![1, n, w] inb').emb j) := by
  obtain ⟨r, q, rfl⟩ : ∃ (r : Fin n) (q : Fin w), j = ix3 0 r q := ⟨j 1, j 2, (eq_ix3 j).trans (congrArg (ix3 · _ _) (Subsingleton.elim (α := Fin 1) _ _))⟩
  have e0 : ((Rect.unit (s := ⟨3, ![2, n, 1408]⟩) ![a, 0, o] ![1, n, w] inb').emb (ix3 0 r q) 0).val = a := emb_val ..
  have e1 : ((Rect.unit (s := ⟨3, ![2, n, 1408]⟩) ![a, 0, o] ![1, n, w] inb').emb (ix3 0 r q) 1).val = r.val := (emb_val ..).trans (Nat.zero_add _)
  have e2 : ((Rect.unit (s := ⟨3, ![2, n, 1408]⟩) ![a, 0, o] ![1, n, w] inb').emb (ix3 0 r q) 2).val = o + q.val := emb_val ..
  rw [hv, chunk_dot hh, chunk_dot hh]
  simp only [backs, e0, e1, e2]

/-- A chunk of the products' block, from its values. -/
theorem gateds_piece {o w : ℕ} (inb inb') (v : Vec Ideal ⟨2, ![n, w]⟩ .bf16)
    (hv : ∀ r q, v (ix2 r q) = gated (pr h r (wld x o w inb) q) (pr h r (wld y o w inb) q)) (j : (⟨2, ![n, w]⟩ : Shape).Idx) :
    v j = gateds x y ρ ((Rect.unit (s := ⟨2, ![n, 1408]⟩) ![0, o] ![n, w] inb').emb j) := by
  obtain ⟨r, q, rfl⟩ : ∃ (r : Fin n) (q : Fin w), j = ix2 r q := ⟨j 0, j 1, eq_ix2 j⟩
  have e0 : ((Rect.unit (s := ⟨2, ![n, 1408]⟩) ![0, o] ![n, w] inb').emb (ix2 r q) 0).val = r.val := (emb_val ..).trans (Nat.zero_add _)
  have e1 : ((Rect.unit (s := ⟨2, ![n, 1408]⟩) ![0, o] ![n, w] inb').emb (ix2 r q) 1).val = o + q.val := emb_val ..
  rw [hv, chunk_dot hh, chunk_dot hh]
  simp only [gateds, e0, e1]

end

/-! ## The whole arrays -/

section

variable (X G : ℕ → ℕ → EReal) (M W : ℕ → ℕ → ℕ → EReal) (j s r d : ℕ)

/-- The modulated norm of row `r`, by row `j` of the gains and stream `s`'s rows of the modulation. -/
def H : ℕ → EReal := hn (X r) (G j) (M s (3 * j)) (M s (3 * j + 1))

/-- The gate's and the value's products at row `r` and column `d`. -/
def A : EReal := dot (H X G M j s r) (fun k => W (d / 1408) k (d % 1408))
def U : EReal := dot (H X G M j s r) (fun k => W (d / 1408 + 2) k (d % 1408))

variable {X G M W} (hX : ∀ i j, ∃ y : ℝ, X i j = y) (hG : ∀ i j, ∃ y : ℝ, G i j = y) (hM : ∀ a i j, ∃ y : ℝ, M a i j = y) (hW : ∀ a i j, ∃ y : ℝ, W a i j = y)

include hX hG hM hW

theorem A_real : ∃ y : ℝ, A X G M W j s r d = y := dot_real (hn_real (hX r) (hG j) (hM _ _) (hM _ _)) fun k => hW _ k _

theorem U_real : ∃ y : ℝ, U X G M W j s r d = y := dot_real (hn_real (hX r) (hG j) (hM _ _) (hM _ _)) fun k => hW _ k _

end

/-- The products of a staged block of rows with staged weights are the arrays'. -/
theorem A_at {X G : ℕ → ℕ → EReal} {M W : ℕ → ℕ → ℕ → EReal} {j s r b : ℕ} {h : ℕ → EReal} {w : ℕ → ℕ → EReal} (hh : ∀ d : Fin 1024, h d.val = H X G M j s r d.val)
    (hw : ∀ (k : Fin 1024) (q : Fin 1408), w k.val q.val = W b k.val q.val) (q : Fin 1408) : dot h (fun k => w k q.val) = A X G M W j s r (b * 1408 + q.val) := by
  unfold A
  rw [show (b * 1408 + q.val) / 1408 = b from by have := q.isLt; omega, show (b * 1408 + q.val) % 1408 = q.val from by have := q.isLt; omega]
  exact dot_congr hh fun k => hw k q

theorem U_at {X G : ℕ → ℕ → EReal} {M W : ℕ → ℕ → ℕ → EReal} {j s r b : ℕ} {h : ℕ → EReal} {w : ℕ → ℕ → EReal} (hh : ∀ d : Fin 1024, h d.val = H X G M j s r d.val)
    (hw : ∀ (k : Fin 1024) (q : Fin 1408), w k.val q.val = W (b + 2) k.val q.val) (q : Fin 1408) : dot h (fun k => w k q.val) = U X G M W j s r (b * 1408 + q.val) := by
  unfold U
  rw [show (b * 1408 + q.val) / 1408 = b from by have := q.isLt; omega, show (b * 1408 + q.val) % 1408 = q.val from by have := q.isLt; omega]
  exact dot_congr hh fun k => hw k q

end Cert.Up
-- ==== Proof.Up2Body.lean ====
/-
  The SwiGLU sublayer's first half at 4096 rows, second sublayer: what the body writes, read at an index.
-/
module

public import proofs.«01_k».proof.Proof.Up2Run
public import proofs.«01_k».proof.Proof.Up
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Up2Ideal.Own

open Cert.Up2Ideal Cert.Up2Ideal.Gen Cert.Tn Cert.Rms Cert.Up Idealize.ShloMosaic Idealize.ShloMosaic.TcCoe Idealize.ShloMosaic.Tactic Idealize.SL.Sem Finset
open Idealize.ShloMosaic.Pipeline (Dat)

/-! ## One chunk's values -/

section

variable (h : Vec Ideal S1024x1024 .bf16) (p : Fin 1024)

theorem gate_of (a u : Vec Ideal S1x1024x256 .bf16) (q : Fin 256) : k0_pay18 (k0_pay13 h a) (k0_pay14 h u) (k0_pay15 h a) (ix3 0 p q) = back (pr h p a q) (pr h p u q) 0 := by
  unfold k0_pay18 k0_pay16 k0_pay15 k0_pay14 k0_pay13
  pointwise
  rfl

theorem value_of (a u : Vec Ideal S1x1024x256 .bf16) (q : Fin 256) : k0_pay19 (k0_pay13 h a) (k0_pay15 h a) (ix3 0 p q) = back (pr h p a q) (pr h p u q) 1 := by
  unfold k0_pay19 k0_pay17 k0_pay16 k0_pay15 k0_pay13
  pointwise
  rfl

theorem gated_of (a u : Vec Ideal S1x1024x256 .bf16) (q : Fin 256) : k0_pay20 (k0_pay13 h a) (k0_pay14 h u) (k0_pay15 h a) (ix2 p q) = gated (pr h p a q) (pr h p u q) := by
  unfold k0_pay20 k0_pay17 k0_pay16 k0_pay15 k0_pay14 k0_pay13
  pointwise
  rfl

theorem gate_last (a u : Vec Ideal S1x1024x128 .bf16) (q : Fin 128) : k0_pay1 (k0_pay45 h u) (k0_pay48 h a) (ix3 0 p q) = back (pr h p a q) (pr h p u q) 0 := by
  unfold k0_pay1 k0_pay48 k0_pay46 k0_pay45 k0_pay44
  pointwise
  rfl

theorem value_last (a u : Vec Ideal S1x1024x128 .bf16) (q : Fin 128) : k0_pay2 (k0_pay47 h a) (ix3 0 p q) = back (pr h p a q) (pr h p u q) 1 := by
  unfold k0_pay2 k0_pay47 k0_pay46 k0_pay44
  pointwise
  rfl

theorem gated_last (a u : Vec Ideal S1x1024x128 .bf16) (q : Fin 128) : k0_pay3 (k0_pay45 h u) (k0_pay47 h a) (ix2 p q) = gated (pr h p a q) (pr h p u q) := by
  unfold k0_pay3 k0_pay47 k0_pay46 k0_pay45 k0_pay44
  pointwise
  rfl

end

/-! ## What a point leaves, read at an index -/

section

variable (m : (l : Loc nD τ sig) → Buf (Elt Ideal) l) (c : Dev nD) (t : Fin cfg0.N)

/-- The modulated norm of the staged rows. -/
abbrev row (p : ℕ) : ℕ → EReal := hn (nat2 (iblk m c 0 t) p) (nat2 (iblk m c 1 t) 2) (nat3 (iblk m c 2 t) 0 6) (nat3 (iblk m c 2 t) 0 7)

theorem hblk_at (p : Fin 1024) (d : Fin 1024) : k0_pay4 (iblk m c 0 t) (View.ld (iblk m c 1 t) (Rect.unit ![2, 0] ![1, 1024] inb_S3x1024_S1x1024_2_0))
    (View.ld (iblk m c 2 t) (Rect.unit ![0, 6, 0] ![1, 1, 1024] inb_S1x9x1024_S1x1x1024_0_6_0)) (View.ld (iblk m c 2 t) (Rect.unit ![0, 7, 0] ![1, 1, 1024] inb_S1x9x1024_S1x1x1024_0_7_0)) (ix2 p d)
    = row m c t p.val d.val := by
  unfold k0_pay4 row
  generalize iblk m c 0 t = x0
  generalize iblk m c 1 t = x1
  generalize iblk m c 2 t = x2
  pointwise
  simp only [nat2_ix x0, nat2_ix x1, nat3_ix x2]
  rfl

theorem norm_at (h : t.val < 4) (p : Fin 1024) (d : Fin 1024) : outA_5 m c t h (ix2 p d) = row m c t p.val d.val := by
  refine (congrFun (View.read_writes_eq_canon _ _ _ (coverA_5 m c t h)) (ix2 p d)).trans ?_
  unfold atA runA
  dsimp only
  sl_unfold_words
  simp only [View.canon_cons_unit_zero (S := S1024x1024) Up.hz2, View.readAt_eq_ld, Memref.IsWhole.read_unread, View.ld_unit_zero (S := S1024x1024) Up.hz2]
  exact hblk_at m c t p d

theorem back_at (y : S2x1024x1408.Idx) : left6 m c t y = backs (iblk m c 3 t) (iblk m c 4 t) (row m c t) y := by
  have hh := hblk_at m c t
  unfold left6
  by_cases h : t.val < 4
  on_goal 1 =>
    rw [dif_pos h]
    have hy := coverA_6 m c t h y
    refine (congrFun (View.read_writes_eq_canon _ _ _ (coverA_6 m c t h)) y).trans ?_
    revert hy
    unfold atA runA
  on_goal 2 =>
    rw [dif_neg h]
    have hy := coverB_6 m c t h y
    refine (congrFun (View.read_writes_eq_canon _ _ _ (coverB_6 m c t h)) y).trans ?_
    revert hy
    unfold atB runB
  all_goals
    dsimp only
    sl_unfold_words
    intro hy
    simp only [View.readAt_eq_ld, Memref.IsWhole.read_unread, View.ld_unit_zero (S := S1024x1024) Up.hz2] at hy ⊢
    refine View.canon_apply_of_pieces (Val := Elt Ideal) (e := .bf16) (S := S2x1024x1408) (backs (iblk m c 3 t) (iblk m c 4 t) (row m c t)) _ (fun pc hp j => ?_) y hy
    clear hy
    generalize iblk m c 3 t = x3 at hp ⊢
    generalize iblk m c 4 t = x4 at hp ⊢
    simp only [List.mem_cons, List.not_mem_nil, or_false] at hp
    rcases hp with rfl | rfl | rfl | rfl | rfl | rfl | rfl | rfl | rfl | rfl | rfl | rfl
    exacts [backs_piece hh x3 x4 1 inb_S1x1024x1408_S1x1024x128_0_0_1280 inb_S2x1024x1408_S1x1024x128_1_0_1280 _ (fun r => value_last _ r _ (wld x4 1280 128 inb_S1x1024x1408_S1x1024x128_0_0_1280)) j,
      backs_piece hh x3 x4 0 inb_S1x1024x1408_S1x1024x128_0_0_1280 inb_S2x1024x1408_S1x1024x128_0_0_1280 _ (fun r => gate_last _ r _ _) j,
      backs_piece hh x3 x4 1 inb_S1x1024x1408_S1x1024x256_0_0_1024 inb_S2x1024x1408_S1x1024x256_1_0_1024 _ (fun r => value_of _ r _ (wld x4 1024 256 inb_S1x1024x1408_S1x1024x256_0_0_1024)) j,
      backs_piece hh x3 x4 0 inb_S1x1024x1408_S1x1024x256_0_0_1024 inb_S2x1024x1408_S1x1024x256_0_0_1024 _ (fun r => gate_of _ r _ _) j,
      backs_piece hh x3 x4 1 inb_S1x1024x1408_S1x1024x256_0_0_768 inb_S2x1024x1408_S1x1024x256_1_0_768 _ (fun r => value_of _ r _ (wld x4 768 256 inb_S1x1024x1408_S1x1024x256_0_0_768)) j,
      backs_piece hh x3 x4 0 inb_S1x1024x1408_S1x1024x256_0_0_768 inb_S2x1024x1408_S1x1024x256_0_0_768 _ (fun r => gate_of _ r _ _) j,
      backs_piece hh x3 x4 1 inb_S1x1024x1408_S1x1024x256_0_0_512 inb_S2x1024x1408_S1x1024x256_1_0_512 _ (fun r => value_of _ r _ (wld x4 512 256 inb_S1x1024x1408_S1x1024x256_0_0_512)) j,
      backs_piece hh x3 x4 0 inb_S1x1024x1408_S1x1024x256_0_0_512 inb_S2x1024x1408_S1x1024x256_0_0_512 _ (fun r => gate_of _ r _ _) j,
      backs_piece hh x3 x4 1 inb_S1x1024x1408_S1x1024x256_0_0_256 inb_S2x1024x1408_S1x1024x256_1_0_256 _ (fun r => value_of _ r _ (wld x4 256 256 inb_S1x1024x1408_S1x1024x256_0_0_256)) j,
      backs_piece hh x3 x4 0 inb_S1x1024x1408_S1x1024x256_0_0_256 inb_S2x1024x1408_S1x1024x256_0_0_256 _ (fun r => gate_of _ r _ _) j,
      backs_piece hh x3 x4 1 inb_S1x1024x1408_S1x1024x256_0_0_0 inb_S2x1024x1408_S1x1024x256_1_0_0 _ (fun r => value_of _ r _ (wld x4 0 256 inb_S1x1024x1408_S1x1024x256_0_0_0)) j,
      backs_piece hh x3 x4 0 inb_S1x1024x1408_S1x1024x256_0_0_0 inb_S2x1024x1408_S1x1024x256_0_0_0 _ (fun r => gate_of _ r _ _) j]

theorem gated_at (y : S1024x1408.Idx) : left7 m c t y = gateds (iblk m c 3 t) (iblk m c 4 t) (row m c t) y := by
  have hh := hblk_at m c t
  unfold left7
  by_cases h : t.val < 4
  on_goal 1 =>
    rw [dif_pos h]
    have hy := coverA_7 m c t h y
    refine (congrFun (View.read_writes_eq_canon _ _ _ (coverA_7 m c t h)) y).trans ?_
    revert hy
    unfold atA runA
  on_goal 2 =>
    rw [dif_neg h]
    have hy := coverB_7 m c t h y
    refine (congrFun (View.read_writes_eq_canon _ _ _ (coverB_7 m c t h)) y).trans ?_
    revert hy
    unfold atB runB
  all_goals
    dsimp only
    sl_unfold_words
    intro hy
    simp only [View.readAt_eq_ld, Memref.IsWhole.read_unread, View.ld_unit_zero (S := S1024x1024) Up.hz2] at hy ⊢
    refine View.canon_apply_of_pieces (Val := Elt Ideal) (e := .bf16) (S := S1024x1408) (gateds (iblk m c 3 t) (iblk m c 4 t) (row m c t)) _ (fun pc hp j => ?_) y hy
    clear hy
    generalize iblk m c 3 t = x3 at hp ⊢
    generalize iblk m c 4 t = x4 at hp ⊢
    simp only [List.mem_cons, List.not_mem_nil, or_false] at hp
    rcases hp with rfl | rfl | rfl | rfl | rfl | rfl
    exacts [gateds_piece hh x3 x4 inb_S1x1024x1408_S1x1024x128_0_0_1280 inb_S1024x1408_S1024x128_0_1280 _ (fun r => gated_last _ r _ _) j,
      gateds_piece hh x3 x4 inb_S1x1024x1408_S1x1024x256_0_0_1024 inb_S1024x1408_S1024x256_0_1024 _ (fun r => gated_of _ r _ _) j,
      gateds_piece hh x3 x4 inb_S1x1024x1408_S1x1024x256_0_0_768 inb_S1024x1408_S1024x256_0_768 _ (fun r => gated_of _ r _ _) j,
      gateds_piece hh x3 x4 inb_S1x1024x1408_S1x1024x256_0_0_512 inb_S1024x1408_S1024x256_0_512 _ (fun r => gated_of _ r _ _) j,
      gateds_piece hh x3 x4 inb_S1x1024x1408_S1x1024x256_0_0_256 inb_S1024x1408_S1024x256_0_256 _ (fun r => gated_of _ r _ _) j,
      gateds_piece hh x3 x4 inb_S1x1024x1408_S1x1024x256_0_0_0 inb_S1024x1408_S1024x256_0_0 _ (fun r => gated_of _ r _ _) j]

end

/-! ## The arrays -/

section

variable (m : (l : Loc nD τ sig) → Buf (Elt Ideal) l) (c : Dev nD)

abbrev X : ℕ → ℕ → EReal := nat2 (V m c main_arg0)
abbrev G : ℕ → ℕ → EReal := nat2 (V m c main_arg1)
abbrev M : ℕ → ℕ → ℕ → EReal := nat3 (V m c main_arg2)
abbrev W : ℕ → ℕ → ℕ → EReal := nat3 (V m c main_arg3)

/-- The modulated norm of row `r`, and its products with the gate's and the value's weights. -/
abbrev H (r : ℕ) : ℕ → EReal := Up.H (X m c) (G m c) (M m c) 2 0 r
abbrev A (r d : ℕ) : EReal := Up.A (X m c) (G m c) (M m c) (W m c) 2 0 r d
abbrev U (r d : ℕ) : EReal := Up.U (X m c) (G m c) (M m c) (W m c) 2 0 r d

theorem idx : ∀ t : Fin grid0.N, (win0_0.index t 0 = t.val % 4 ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = t.val / 4 ∧ win0_3.index t 1 = 0 ∧ win0_3.index t 2 = 0)
    ∧ (win0_4.index t 0 = t.val / 4 + 2 ∧ win0_4.index t 1 = 0 ∧ win0_4.index t 2 = 0) := by decide +kernel

theorem idx_out : ∀ t : Fin grid0.N, (win0_5.index t 0 = min t.val 3 ∧ win0_5.index t 1 = 0) ∧ (win0_6.index t 0 = 0 ∧ win0_6.index t 1 = t.val % 4 ∧ win0_6.index t 2 = t.val / 4)
    ∧ win0_7.index t 0 = t.val % 4 ∧ win0_7.index t 1 = t.val / 4 := by decide +kernel

theorem row_at (t : Fin cfg0.N) (p : Fin 1024) (d : Fin 1024) : row m c t p.val d.val = H m c (t.val % 4 * 1024 + p.val) d.val := by
  have e1 : ∀ k : Fin 1024, nat2 (iblk m c 1 t) 2 k.val = G m c 2 k.val := fun k => (nat2_ix _ (2 : Fin 3) k).symm.trans
    (nat2_co (V m c main_arg1) _ (((cfg0.win 1).rect_emb_val t _ 0).trans (co (idx t).2.1.1 rfl)) (((cfg0.win 1).rect_emb_val t _ 1).trans (co0 (idx t).2.1.2)))
  have e2 : ∀ (q : Fin 9) (k : Fin 1024), nat3 (iblk m c 2 t) 0 q.val k.val = M m c 0 q.val k.val := fun q k => (nat3_ix _ (0 : Fin 1) q k).symm.trans
    (nat3_co (V m c main_arg2) _ (((cfg0.win 2).rect_emb_val t _ 0).trans (co (idx t).2.2.1.1 (Nat.mul_one _))) (((cfg0.win 2).rect_emb_val t _ 1).trans (co0 (idx t).2.2.1.2.1))
      (((cfg0.win 2).rect_emb_val t _ 2).trans (co0 (idx t).2.2.1.2.2)))
  exact hn_congr (fun k => (nat2_ix _ p k).symm.trans (nat2_co (V m c main_arg0) _ (((cfg0.win 0).rect_emb_val t _ 0).trans (co (idx t).1.1 rfl)) (((cfg0.win 0).rect_emb_val t _ 1).trans (co0 (idx t).1.2))))
    e1 (e2 6) (e2 7) d

theorem gate_at (t : Fin cfg0.N) (p : Fin 1024) (q : Fin 1408) : Up.dot (row m c t p.val) (fun k => nat3 (iblk m c 3 t) 0 k q.val)
    = A m c (t.val % 4 * 1024 + p.val) (t.val / 4 * 1408 + q.val) :=
  A_at (row_at m c t p) (fun k q => (nat3_ix _ (0 : Fin 1) k q).symm.trans (nat3_co (V m c main_arg3) _ (((cfg0.win 3).rect_emb_val t _ 0).trans (co (idx t).2.2.2.1.1 (Nat.mul_one _)))
    (((cfg0.win 3).rect_emb_val t _ 1).trans (co0 (idx t).2.2.2.1.2.1)) (((cfg0.win 3).rect_emb_val t _ 2).trans (co0 (idx t).2.2.2.1.2.2)))) q

theorem value_at (t : Fin cfg0.N) (p : Fin 1024) (q : Fin 1408) : Up.dot (row m c t p.val) (fun k => nat3 (iblk m c 4 t) 0 k q.val)
    = U m c (t.val % 4 * 1024 + p.val) (t.val / 4 * 1408 + q.val) :=
  U_at (row_at m c t p) (fun k q => (nat3_ix _ (0 : Fin 1) k q).symm.trans (nat3_co (V m c main_arg3) _ (((cfg0.win 4).rect_emb_val t _ 0).trans (co (idx t).2.2.2.2.1 (Nat.mul_one _)))
    (((cfg0.win 4).rect_emb_val t _ 1).trans (co0 (idx t).2.2.2.2.2.1)) (((cfg0.win 4).rect_emb_val t _ 2).trans (co0 (idx t).2.2.2.2.2.2)))) q

theorem left5_at (t : Fin cfg0.N) (p : Fin 1024) (d : Fin 1024) : left5 m c t (ix2 p d) = H m c (min t.val 3 * 1024 + p.val) d.val := by
  unfold left5
  by_cases h : t.val < 4
  · rw [dif_pos h, show min t.val 3 = t.val % 4 by omega]
    exact (norm_at m c t h p d).trans (row_at m c t p d)
  · rw [dif_neg h, show min t.val 3 = 3 by omega]
    exact (norm_at m c _ _ p d).trans (row_at m c ⟨3, by rw [show cfg0.N = 8 from N_0]; decide⟩ p d)

/-- The normed rows' blocks go out at the first sweep's points but its last, and at the run's last point. -/
theorem flush5 : ∀ t : Fin cfg0.N, (t.val < 3 ∨ t.val = 7) → (cfg0.win 5).flush t = true := by decide +kernel

theorem inj5 : ∀ t t' : Fin cfg0.N, (cfg0.win 5).flush t = true → (cfg0.win 5).flush t' = true → win0_5.index t = win0_5.index t' → t = t' := by decide +kernel

theorem inj67 : ∀ t t' : Fin cfg0.N, (win0_6.index t = win0_6.index t' → t = t') ∧ (win0_7.index t = win0_7.index t' → t = t') :=
  (by decide +kernel : ∀ t t' : Fin grid0.N, (win0_6.index t = win0_6.index t' → t = t') ∧ (win0_7.index t = win0_7.index t' → t = t'))

/-- The normed rows the run leaves. -/
theorem result5 (r : Fin 4096) (d : Fin 1024) : (dats m 0 c).arrAt 5 cfg0.N (ix2 r d) = H m c r.val d.val := by
  obtain ⟨t, hf, ht⟩ : ∃ t : Fin cfg0.N, (cfg0.win 5).flush t = true ∧ min t.val 3 = r.val / 1024 := by
    have := r.isLt
    by_cases h : r.val / 1024 < 3
    · exact ⟨⟨r.val / 1024, lt_of_lt_of_eq (by omega) N_0.symm⟩, flush5 _ (.inl h), by show min (r.val / 1024) 3 = _; omega⟩
    · exact ⟨⟨7, lt_of_lt_of_eq (by decide) N_0.symm⟩, flush5 _ (.inr rfl), by show min 7 3 = _; omega⟩
  have e : min t.val 3 * 1024 + r.val % 1024 = r.val := by rw [ht]; exact Nat.div_add_mod' _ _
  have hb := (dats m 0 c).read_blk_arrAt_eq_flushed 5 (fun t t' h h' hne => (cfg0.win 5).disjoint_blk fun e => hne (inj5 t t' h h' e)) cfg0.N t t.isLt hf
  refine Eq.trans (congrArg _ (funext fun a => Fin.ext ?_)) ((congrFun hb (ix2 ⟨r.val % 1024, Nat.mod_lt _ (by decide)⟩ d)).trans ((left5_at m c t ⟨r.val % 1024, Nat.mod_lt _ (by decide)⟩ d).trans ?_))
  · refine Eq.trans ?_ ((cfg0.win 5).rect_emb_val t _ a).symm
    match a with
    | ⟨0, _⟩ => exact (co (idx_out t).1.1 e).symm
    | ⟨1, _⟩ => exact (co0 (idx_out t).1.2).symm
  · simp only [e]

/-- The point whose block holds row `r` and column `d`. -/
theorem point (r : Fin 4096) (d : Fin 2816) : ∃ (t : Fin cfg0.N) (p : Fin 1024) (k : Fin 1408), t.val % 4 * 1024 + p.val = r.val ∧ t.val / 4 * 1408 + k.val = d.val := by
  have := r.isLt; have := d.isLt
  refine ⟨⟨d.val / 1408 * 4 + r.val / 1024, lt_of_lt_of_eq (by omega) N_0.symm⟩, ⟨r.val % 1024, Nat.mod_lt _ (by decide)⟩, ⟨d.val % 1408, Nat.mod_lt _ (by decide)⟩, ?_, ?_⟩
  · show (d.val / 1408 * 4 + r.val / 1024) % 4 * 1024 + r.val % 1024 = r.val; omega
  · show (d.val / 1408 * 4 + r.val / 1024) / 4 * 1408 + d.val % 1408 = d.val; omega

/-- The derivatives the run leaves. -/
theorem result6 (q : Fin 2) (r : Fin 4096) (d : Fin 2816) : (dats m 0 c).arrAt 6 cfg0.N (ix3 q r d) = back (A m c r.val d.val) (U m c r.val d.val) q.val := by
  obtain ⟨t, p, k, hr, hd⟩ := point r d
  have hb := (dats m 0 c).read_blk_arrAt_eq_flushed 6 (fun t t' _ _ hne => (cfg0.win 6).disjoint_blk fun e => hne ((inj67 t t').1 e)) cfg0.N t t.isLt (flush0_6 t)
  refine Eq.trans (congrArg _ (funext fun a => Fin.ext ?_)) ((congrFun hb (ix3 q p k)).trans
    ((back_at m c t (ix3 q p k)).trans ((congrArg₂ (back · · q.val) (gate_at m c t p k) (value_at m c t p k)).trans ?_)))
  · refine Eq.trans ?_ ((cfg0.win 6).rect_emb_val t _ a).symm
    match a with
    | ⟨0, _⟩ => exact (co0 (idx_out t).2.1.1).symm
    | ⟨1, _⟩ => exact (co (idx_out t).2.1.2.1 hr).symm
    | ⟨2, _⟩ => exact (co (idx_out t).2.1.2.2 hd).symm
  · simp only [hr, hd]

/-- The products the run leaves. -/
theorem result7 (r : Fin 4096) (d : Fin 2816) : (dats m 0 c).arrAt 7 cfg0.N (ix2 r d) = gated (A m c r.val d.val) (U m c r.val d.val) := by
  obtain ⟨t, p, k, hr, hd⟩ := point r d
  have hb := (dats m 0 c).read_blk_arrAt_eq_flushed 7 (fun t t' _ _ hne => (cfg0.win 7).disjoint_blk fun e => hne ((inj67 t t').2 e)) cfg0.N t t.isLt (flush0_7 t)
  refine Eq.trans (congrArg _ (funext fun a => Fin.ext ?_)) ((congrFun hb (ix2 p k)).trans
    ((gated_at m c t (ix2 p k)).trans ((congrArg₂ gated (gate_at m c t p k) (value_at m c t p k)).trans ?_)))
  · refine Eq.trans ?_ ((cfg0.win 7).rect_emb_val t _ a).symm
    match a with
    | ⟨0, _⟩ => exact (co (idx_out t).2.2.1 hr).symm
    | ⟨1, _⟩ => exact (co (idx_out t).2.2.2 hd).symm
  · simp only [hr, hd]

/-- Every execution ends with these results, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1 5, (h c).1 6, (h c).1 7, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end

end Cert.Up2Ideal.Own
-- ==== Proof.Finite.lean ====
/-
  The preconditions read: every entry of the arguments is a real number.
-/
module

public import proofs.«01_k».proof.Proof.Gen.Pre_finite_bwd
public import Idealize.ShloMosaic.PureOps.Ideal
public import Idealize.ShloMosaic.Lib.ReduceAll
public import Idealize.ShloMosaic.Lib.Pointwise

@[expose] public section

set_option maxRecDepth 16384

noncomputable section

namespace Cert.Gla

open Idealize.ShloMosaic Idealize.ShloMosaic.TcCoe

theorem ofBits_inf : Ideal.ofBits .f32 0x7F800000#32 = ⊤ := by
  simp [Ideal.ofBits, Ideal.ieee]

/-- A number whose absolute value lies below infinity is real. -/
theorem real_of_abs_lt {x : EReal} (h : max x (-x) < ⊤) : ∃ r : ℝ, x = r := by
  refine ⟨x.toReal, (EReal.coe_toReal ?_ ?_).symm⟩
  · rintro rfl
    simp at h
  · rintro rfl
    simp at h

/-- What the test of an array says of its entries. -/
theorem real_of_test {s t u : Shape} {axes : List (Fin s.rank)} [Subsingleton t.Idx] (x b : FVec Ideal s .f32) (hb : ∀ i, b i = Ideal.ofBits .f32 0x7F800000#32)
    (init : u.Idx → BitVec 1) (h : s.ReducesTo axes t) (hu : 0 < u.numel) (j : t.Idx)
    (e : Host.reduce IntOp.andi (cmpf .olt (Host.absf x) b) init h hu j = 1#1) (i : s.Idx) : ∃ r : ℝ, x i = r := by
  have e1 := Host.reduce_andi_all _ init h hu j e i
  have e2 : BitVec.ofBool (decide (max (x i : EReal) (-(x i : EReal)) < b i)) = 1#1 := e1
  rw [hb, ofBits_inf] at e2
  refine real_of_abs_lt ?_
  by_contra hn
  rw [decide_eq_false hn] at e2
  exact absurd e2 (by decide)

instance : Subsingleton (⟨0, ![]⟩ : Shape).Idx := ⟨fun a b => funext fun i => i.elim0⟩

/-- An array's entries as real numbers, zero outside it. -/
def entry {n k : ℕ} (x : (⟨2, ![n, k]⟩ : Shape).Idx → EReal) (i j : ℕ) : ℝ :=
  if h : i < n ∧ j < k then (x (ix2 ⟨i, h.1⟩ ⟨j, h.2⟩)).toReal else 0

theorem entry_eq {n k : ℕ} {x : (⟨2, ![n, k]⟩ : Shape).Idx → EReal} (hx : ∀ i, ∃ r : ℝ, x i = r) (i : Fin n) (j : Fin k) :
    x (ix2 i j) = ((entry x i.val j.val : ℝ) : EReal) := by
  obtain ⟨r, hr⟩ := hx (ix2 i j)
  unfold entry
  rw [dif_pos ⟨i.isLt, j.isLt⟩]
  show x (ix2 i j) = ((x (ix2 i j)).toReal : EReal)
  rw [hr, EReal.toReal_coe]

theorem reals_bwd {x : FVec Ideal ⟨2, ![4608, 2432]⟩ .f32} {y : FVec Ideal ⟨2, ![4608, 512]⟩ .f32} {z : FVec Ideal ⟨2, ![4096, 512]⟩ .f32}
    (h : Cert.Pre_finite_bwd.fn (F := Ideal) x y z = fun _ => 1#1) : (∀ i, ∃ r : ℝ, x i = r) ∧ (∀ i, ∃ r : ℝ, y i = r) ∧ ∀ i, ∃ r : ℝ, z i = r := by
  have h0 := congrFun h fun a => a.elim0
  obtain ⟨h1, hz⟩ := IntOp.andi_eq_one.1 h0
  obtain ⟨hx, hy⟩ := IntOp.andi_eq_one.1 h1
  exact ⟨real_of_test x _ (fun _ => rfl) _ _ _ _ hx, real_of_test y _ (fun _ => rfl) _ _ _ _ hy, real_of_test z _ (fun _ => rfl) _ _ _ _ hz⟩

end Cert.Gla
-- ==== Proof.Up2.lean ====
/-
  The SwiGLU sublayer's first half at 4096 rows, second sublayer: the kernel's results are the reference's.
-/
module

public import proofs.«01_k».proof.Defs
public import proofs.«01_k».proof.Proof.Up2Body
public import proofs.«01_k».proof.Proof.Finite
public import proofs.«01_k».proof.Proof.Gen.RefUp2Ideal.Run
public import proofs.«01_k».proof.Proof.Gen.Pre_finite_up

@[expose] public section

set_option maxRecDepth 16384

noncomputable section

namespace Cert.Up2Ideal.Own

open Cert.Up2Ideal Cert.Up2Ideal.Gen Cert.Tn Cert.Rms Cert.Up Cert.Gla Idealize.ShloMosaic Idealize.ShloMosaic.TcCoe Idealize.ShloMosaic.Tactic Idealize.SL.Sem Finset

theorem reals {x : FVec Ideal ⟨2, ![4096, 1024]⟩ .f32} {g : FVec Ideal ⟨2, ![3, 1024]⟩ .f32} {s : FVec Ideal ⟨3, ![2, 9, 1024]⟩ .f32} {w : FVec Ideal ⟨3, ![4, 1024, 1408]⟩ .bf16}
    (h : Cert.Pre_finite_up.fn (F := Ideal) x g s w = fun _ => 1#1) :
    (∀ i, ∃ r : ℝ, x i = r) ∧ (∀ i, ∃ r : ℝ, g i = r) ∧ (∀ i, ∃ r : ℝ, s i = r) ∧ ∀ i, ∃ r : ℝ, w i = r := by
  have h0 := congrFun h fun a => a.elim0
  obtain ⟨h1, hw⟩ := IntOp.andi_eq_one.1 h0
  obtain ⟨h2, hs⟩ := IntOp.andi_eq_one.1 h1
  obtain ⟨hx, hg⟩ := IntOp.andi_eq_one.1 h2
  exact ⟨real_of_test x _ (fun _ => rfl) _ _ _ _ hx, real_of_test g _ (fun _ => rfl) _ _ _ _ hg, real_of_test s _ (fun _ => rfl) _ _ _ _ hs,
    real_of_test (extf .f32 w (by decide)) _ (fun _ => rfl) _ _ _ _ hw⟩

theorem claim : Cert.algebraic_Up2Ideal_RefUp2Ideal_pre_finite_up := by
  intro m g m' g' hpre hargs
  refine ⟨fun c => (dats m 0 c).arrAt 5 cfg0.N, fun c => (dats m 0 c).arrAt 6 cfg0.N, fun c => (dats m 0 c).arrAt 7 cfg0.N, run_blocks m g,
    (θ_run _ _ _).mono (fun r h c => ?_) (Cert.RefUp2Ideal.Value.run (F := Ideal) m' g')⟩
  obtain ⟨h0, h1, h2, hargs'⟩ := h c
  obtain ⟨a0, a1, a2, a3⟩ := hargs c
  obtain ⟨hx, hg, hs, hw⟩ := reals (hpre c)
  have eX : ∀ (i : Fin 4096) (j : Fin 1024), m' (c.tc.loc Cert.RefUp2Ideal.main_arg0) (ix2 i j) = X m c i.val j.val := fun i j => by rw [a0, ← V_main_arg0 m c]; exact nat2_ix _ i j
  have eG : ∀ (i : Fin 3) (j : Fin 1024), m' (c.tc.loc Cert.RefUp2Ideal.main_arg1) (ix2 i j) = G m c i.val j.val := fun i j => by rw [a1, ← V_main_arg1 m c]; exact nat2_ix _ i j
  have eM : ∀ (a : Fin 2) (i : Fin 9) (j : Fin 1024), m' (c.tc.loc Cert.RefUp2Ideal.main_arg2) (ix3 a i j) = M m c a.val i.val j.val := fun a i j => by
    rw [a2, ← V_main_arg2 m c]; exact nat3_ix _ a i j
  have eW : ∀ (a : Fin 4) (i : Fin 1024) (j : Fin 1408), m' (c.tc.loc Cert.RefUp2Ideal.main_arg3) (ix3 a i j) = W m c a.val i.val j.val := fun a i j => by
    rw [a3, ← V_main_arg3 m c]; exact nat3_ix _ a i j
  have rX : ∀ i j, ∃ y : ℝ, X m c i j = y := nat2_real hx
  have rG : ∀ i j, ∃ y : ℝ, G m c i j = y := nat2_real hg
  have rM : ∀ a i j, ∃ y : ℝ, M m c a i j = y := nat3_real hs
  have rW : ∀ a i j, ∃ y : ℝ, W m c a i j = y := nat3_real hw
  refine ⟨h0.trans ?_, h1.trans ?_, h2.trans ?_, hargs'⟩
  · funext i
    obtain ⟨r, d, rfl⟩ : ∃ (r : Fin 4096) (d : Fin 1024), i = ix2 r d := ⟨i 0, i 1, eq_ix2 i⟩
    refine Eq.trans ?_ (result5 m c r d).symm
    pointwise
    simp only [eX, eG, eM]
    rfl
  · funext i
    obtain ⟨q, r, d, rfl⟩ : ∃ (q : Fin 2) (r : Fin 4096) (d : Fin 2816), i = ix3 q r d := ⟨i 0, i 1, i 2, eq_ix3 i⟩
    refine Eq.trans ?_ (result6 m c q r d).symm
    unfold Cert.RefUp2Ideal.Value.res_main_v44
    pointwise
    simp only [eX, eG, eM, eW, show (2816 + d.val) / 1408 = d.val / 1408 + 2 by omega, show (2816 + d.val) % 1408 = d.val % 1408 by omega]
    obtain rfl | rfl : q = 0 ∨ q = 1 := by omega
    · refine (dif_pos (show (0 : ℕ) < 1 from Nat.one_pos)).trans (Eq.trans ?_ (back_gate (A_real _ _ _ _ rX rG rM rW) (U_real _ _ _ _ rX rG rM rW)))
      simp only [one_mul, sg, zero_sub]
      rfl
    · refine (dif_neg (show ¬(1 : ℕ) < 1 from lt_irrefl _)).trans (Eq.trans ?_ (back_value _ _))
      simp only [mul_one, sg, zero_sub]
      rfl
  · funext i
    obtain ⟨r, d, rfl⟩ : ∃ (r : Fin 4096) (d : Fin 2816), i = ix2 r d := ⟨i 0, i 1, eq_ix2 i⟩
    refine Eq.trans ?_ (result7 m c r d).symm
    unfold Cert.RefUp2Ideal.Value.res_main_v45
    pointwise
    simp only [eX, eG, eM, eW, show (2816 + d.val) / 1408 = d.val / 1408 + 2 by omega, show (2816 + d.val) % 1408 = d.val % 1408 by omega]
    simp only [gated, sg, zero_sub]
    rfl

end Cert.Up2Ideal.Own
-- ==== Proof.Up0Run.lean ====
/-
  The first half of the SwiGLU sublayer (the first of layer 1): the body's run at a point of either sweep of the grid, what the three outputs hold after
  each point, and the run of the whole program. The normed rows are stored in the first sweep only; their buffer is written back
  once more at the end.
-/
module

public import proofs.«01_k».proof.Proof.Gen.Up0Ideal.Frame
public import proofs.«01_k».proof.Proof.Gen.Up0Ideal.Skeleton
public import Idealize.ShloMosaic.Lib.Pipeline.TableIdle
public import Idealize.ShloMosaic.Lib.Claim

@[expose] public section

set_option maxRecDepth 16384

noncomputable section

namespace Cert.Up0Ideal.Own

open Cert.Up0Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one branch: the grid's first coordinate is zero, -/
abbrev cond0_0 (i : grid0.Coords) : Prop := k0_cond1 i = 1#1

/-- that is, the point is one of the first sweep. -/
theorem hcond0_0 : ∀ t : Fin cfg0.N, cond0_0 (grid0.coords t) ↔ t.val < 4 :=
  (fun t => by
    have ht : t.val < 8 := Nat.lt_of_lt_of_eq t.isLt N_0
    have e0 : (grid0.coords t 0).val = t.val / 4 % 2 := Pipeline.Grid.coords_val t 0 (by decide) rfl
    have e1 : (grid0.coords t 1).val = t.val / 1 % 4 := Pipeline.Grid.coords_val t 1 (by decide) rfl
    simp only [cond0_0, k0_cond1, e0, e1]
    word_cmp
   : ∀ t : Fin grid0.N, cond0_0 (grid0.coords t) ↔ t.val < 4)

abbrev VO0_5 : View sig .tc .vmem S1024x1024 .bf16 := (Memref.whole cc0_stg5_0 : Memref sig .tc .vmem S1024x1024 .bf16).view
abbrev VO0_6 : View sig .tc .vmem S2x1024x1408 .bf16 := (Memref.whole cc0_stg6_0 : Memref sig .tc .vmem S2x1024x1408 .bf16).view
abbrev VO0_7 : View sig .tc .vmem S1024x1408 .bf16 := (Memref.whole cc0_stg7_0 : Memref sig .tc .vmem S1024x1408 .bf16).view

section Runs

variable (c : Dev nD) (i : grid0.Coords) (arg2 : Memref sig .tc .vmem S1024x1024 .f32) (harg2 : arg2.IsWhole) (arg3 : Memref sig .tc .vmem S3x1024 .f32) (harg3 : arg3.IsWhole) (arg4 : Memref sig .tc .vmem S1x9x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1024x1024 .bf16) (harg7 : arg7.IsWhole) (arg8 : Memref sig .tc .vmem S2x1024x1408 .bf16) (harg8 : arg8.IsWhole) (arg9 : Memref sig .tc .vmem S1024x1408 .bf16) (harg9 : arg9.IsWhole)
    (x0 : Vec F S1024x1024 .f32) (x1 : Vec F S3x1024 .f32) (x2 : Vec F S1x9x1024 .f32) (x3 : Vec F S1x1024x1408 .bf16) (x4 : Vec F S1x1024x1408 .bf16)

variable (hc : cond0_0 i) in
set_option maxHeartbeats 4000000 in
/-- The body at a point of the first sweep: it stores the normed rows, and stores the products' chunks. The stores are what
    the run finds. -/
noncomputable def runA :
    Σ' (L5 : List (View.Piece (Elt F) S1024x1024 .bf16)), Σ' (L6 : List (View.Piece (Elt F) S2x1024x1408 .bf16)), { L7 : List (View.Piece (Elt F) S1024x1408 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]; · iexists _; iexact H6
    iexists _; iexact H7

variable (hc : ¬cond0_0 i) in
set_option maxHeartbeats 4000000 in
/-- The body at a point of the second sweep: it leaves the buffer of the normed rows as it is, and stores the products' chunks. The stores are what
    the run finds. -/
noncomputable def runB :
    Σ' (L6 : List (View.Piece (Elt F) S2x1024x1408 .bf16)), { L7 : List (View.Piece (Elt F) S1024x1408 .bf16) //
      ∀ (xi5 : Vec F S1024x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9) K } := by
  refine ⟨?_, ?_, fun xi5 E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Runs

/-! ## What the outputs hold after each point -/

abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x1024x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x1408 .bf16 := win0_7.stage (cfg0.slots t 7)
abbrev hs0_7 (t : Fin cfg0.N) : (ms0_7 t).IsWhole := hstage0_7 ((cfg0.slots t 7).cast nbuf0_7)

section

variable (c : Dev nD) (t : Fin cfg0.N)

section

variable (h : t.val < 4)

/-- The body's run at a point of the first sweep, and what it leaves in each output's buffer. -/
noncomputable def atA := runA c (grid0.coords t) _ (hs0_0 t) _ (hs0_1 t) _ (hs0_2 t) _ (hs0_3 t) _ (hs0_4 t) _ (hs0_5 t) _ (hs0_6 t) _ (hs0_7 t) (iblk m c 0 t) (iblk m c 1 t) (iblk m c 2 t) (iblk m c 3 t) (iblk m c 4 t) ((hcond0_0 t).mpr h)

theorem coverA_5 (y : S1024x1024.Idx) : ∃ pc ∈ (atA m c t h).1, y ∈ pc.1.set :=
  View.cover_of_tiledL (atA m c t h).1 S1024x1024.size (by sl_kernel_rfl) y

def outA_5 : Vec F S1024x1024 .bf16 := VO0_5.read (Elt F) (VO0_5.writes (Elt F) VO0_5.junk (atA m c t h).1)

theorem coverA_6 (y : S2x1024x1408.Idx) : ∃ pc ∈ (atA m c t h).2.1, y ∈ pc.1.set :=
  View.cover_of_tiledBy (atA m c t h).2.1 ![1, 1024, 128] (by sl_kernel_rfl) y

def outA_6 : Vec F S2x1024x1408 .bf16 := VO0_6.read (Elt F) (VO0_6.writes (Elt F) VO0_6.junk (atA m c t h).2.1)

theorem coverA_7 (y : S1024x1408.Idx) : ∃ pc ∈ (atA m c t h).2.2.1, y ∈ pc.1.set :=
  View.cover_of_tiledBy (atA m c t h).2.2.1 ![1024, 128] (by sl_kernel_rfl) y

def outA_7 : Vec F S1024x1408 .bf16 := VO0_7.read (Elt F) (VO0_7.writes (Elt F) VO0_7.junk (atA m c t h).2.2.1)

end

section

variable (h : ¬t.val < 4)

/-- The body's run at a point of the second sweep, and what it leaves in each output's buffer. -/
noncomputable def atB := runB c (grid0.coords t) _ (hs0_0 t) _ (hs0_1 t) _ (hs0_2 t) _ (hs0_3 t) _ (hs0_4 t) _ (hs0_5 t) _ (hs0_6 t) _ (hs0_7 t) (iblk m c 0 t) (iblk m c 1 t) (iblk m c 2 t) (iblk m c 3 t) (iblk m c 4 t) fun hc => h ((hcond0_0 t).mp hc)

theorem coverB_6 (y : S2x1024x1408.Idx) : ∃ pc ∈ (atB m c t h).1, y ∈ pc.1.set :=
  View.cover_of_tiledBy (atB m c t h).1 ![1, 1024, 128] (by sl_kernel_rfl) y

def outB_6 : Vec F S2x1024x1408 .bf16 := VO0_6.read (Elt F) (VO0_6.writes (Elt F) VO0_6.junk (atB m c t h).1)

theorem coverB_7 (y : S1024x1408.Idx) : ∃ pc ∈ (atB m c t h).2.1, y ∈ pc.1.set :=
  View.cover_of_tiledBy (atB m c t h).2.1 ![1024, 128] (by sl_kernel_rfl) y

def outB_7 : Vec F S1024x1408 .bf16 := VO0_7.read (Elt F) (VO0_7.writes (Elt F) VO0_7.junk (atB m c t h).2.1)

end

/-- The normed rows' buffer: at a point of the first sweep what the point stores, afterwards what the sweep's last point stored. -/
def left5 : Vec F S1024x1024 .bf16 := if h : t.val < 4 then outA_5 m c t h else outA_5 m c ⟨3, by rw [show cfg0.N = 8 from N_0]; decide⟩ (by decide)

def left6 : Vec F S2x1024x1408 .bf16 := if h : t.val < 4 then outA_6 m c t h else outB_6 m c t h

def left7 : Vec F S1024x1408 .bf16 := if h : t.val < 4 then outA_7 m c t h else outB_7 m c t h

end

/-! ## The pipeline's proof data -/

/-- The arrays as the region finds them; after the body each input's buffer at its block and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
    | ⟨7, _⟩ => left7 m c t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left5 m c t := by dsimp only [dats]
theorem after0_6 (c : Dev nD) (t : Fin cfg0.N) : (dats m 0 c).after 6 t = left6 m c t := by dsimp only [dats]
theorem after0_7 (c : Dev nD) (t : Fin cfg0.N) : (dats m 0 c).after 7 t = left7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem live0 : ∀ (w : Fin cfg0.W) (t : Fin cfg0.N), w ≠ 5 → cfg0.idle w (grid0.coords t) = false := by decide +kernel
theorem live5 : ∀ t : Fin cfg0.N, t.val < 4 → cfg0.idle 5 (grid0.coords t) = false := by decide +kernel
theorem idle5 : ∀ t : Fin cfg0.N, ¬t.val < 4 → cfg0.idle 5 (grid0.coords t) = true := by decide +kernel
theorem fresh5 : ∀ t : Fin cfg0.N, ¬t.val < 4 → cfg0.fresh 5 t.val = false := by decide +kernel

/-- In the second sweep the buffer of the normed rows holds what the first one's last point left in it. -/
theorem before5 (c : Dev nD) (t : Fin cfg0.N) (h : ¬t.val < 4) (d) : (dats m 0 c).before 5 t d = left5 m c t := by
  have hc : ∀ t : Fin cfg0.N, t.val ≠ 0 → ¬t.val < 4 → left5 m c t = left5 m c ⟨t.val - 1, by omega⟩ := fun t h0 h => by
    unfold left5
    rw [dif_neg h]
    by_cases h' : t.val - 1 < 4
    · rw [dif_pos h']
      have e : ∀ (s s' : Fin cfg0.N) (hs hs'), s = s' → outA_5 m c s hs = outA_5 m c s' hs' := fun s s' _ _ e => by subst e; rfl
      exact e _ _ _ _ (Fin.ext (by show 3 = t.val - 1; omega))
    · rw [dif_neg h']
  rw [Pipeline.Dat.before_out_traj (dats m 0 c) 5 rfl (fun _ _ => rfl) (fun t h0 hi hf => by
    rw [after0_5, after0_5]
    exact hc t h0 fun hl => Bool.false_ne_true ((live5 t hl).symm.trans hi)) t.val t rfl d, fresh5 t h, if_neg Bool.false_ne_true, after0_5]
  exact (hc t (by omega) h).symm

theorem leaves (c : Dev nD) (t : Fin cfg0.N) (w : Fin cfg0.W) (h : w ≠ 5) :
    (dats m 0 c).leavesExact w t = owns (c : Thread nD τ) ((cfg0.win w).stage (cfg0.slots t w)) fullShare ((dats m 0 c).after w t) := by
  unfold Dat.leavesExact; rw [live0 w t h]

theorem leaves5_A (c : Dev nD) (t : Fin cfg0.N) (h : t.val < 4) :
    (dats m 0 c).leavesExact 5 t = owns (c : Thread nD τ) (ms0_5 t) fullShare (outA_5 m c t h) := by
  unfold Dat.leavesExact; rw [live5 t h, after0_5]; unfold left5; rw [dif_pos h]

theorem leaves5_B (c : Dev nD) (t : Fin cfg0.N) (h : ¬t.val < 4) :
    owns (c : Thread nD τ) (ms0_5 t) fullShare (left5 m c t) ⊢ (dats m 0 c).leavesExact 5 t := by
  cases hf : (cfg0.win 5).flush t
  · rw [Dat.leavesExact_idle (dats m 0 c) 5 t (idle5 t h) hf]
    simp only [before5 m c t h]
    iintro H
    iexists (left5 m c t)
    iexact H
  · have e : (dats m 0 c).leavesExact 5 t = owns (c : Thread nD τ) (ms0_5 t) fullShare ((dats m 0 c).after 5 t) := by
      unfold Dat.leavesExact; rw [idle5 t h, hf]
    rw [e, after0_5]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (dats m 0 c).leavesExact 5 t
    ∗ owns (c : Thread nD τ) (ms0_6 t) fullShare (left6 m c t)
    ∗ owns (c : Thread nD τ) (ms0_7 t) fullShare (left7 m c t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  by_cases h : t.val < 4
  · rw [leaves5_A m c t h]
    unfold left6 left7
    rw [dif_pos h, dif_pos h]
    unfold outA_6 outA_7
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atA m c t h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns outA_5; iexists _; isplitr
      swap; · iexact H5
      ipureintro; exact View.read_writes_of_cover _ _ _ _ _ (coverA_5 m c t h)
    isplitl [H6]
    · unfold owns; iexists _; isplitr
      swap; · iexact H6
      ipureintro; exact View.read_writes_of_cover _ _ _ _ _ (coverA_6 m c t h)
    unfold owns; iexists _; isplitr
    swap; · iexact H7
    ipureintro; exact View.read_writes_of_cover _ _ _ _ _ (coverA_7 m c t h)
  · unfold left6 left7
    rw [dif_neg h, dif_neg h]
    simp only [before5 m c t h]
    unfold outB_6 outB_7
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atB m c t h).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5_B m c t h)
      iexact H5
    isplitl [H6]
    · unfold owns; iexists _; isplitr
      swap; · iexact H6
      ipureintro; exact View.read_writes_of_cover _ _ _ _ _ (coverB_6 m c t h)
    unfold owns; iexists _; isplitr
    swap; · iexact H7
    ipureintro; exact View.read_writes_of_cover _ _ _ _ _ (coverB_7 m c t h)

theorem defs₀_row (t : Fin cfg0.N) :
    defs₀ (F := F) .tc cfg0.body (cfg0.bodyArgs t (cfg0.slots t)) = bodyAt0 t := by
  unfold defs₀; rw [Defs.onTc_tc]

theorem bodyPost_eq (c : Dev nD) (t : Fin cfg0.N) : bodyPost m c t =
    iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t) := by
  rw [leaves m c t 0 (by decide), leaves m c t 1 (by decide), leaves m c t 2 (by decide), leaves m c t 3 (by decide), leaves m c t 4 (by decide),
    leaves m c t 6 (by decide), leaves m c t 7 (by decide), after0_0, after0_1, after0_2, after0_3, after0_4, after0_6, after0_7]
  rfl

theorem body_obligation (c : Dev nD) : BodyObligation (dats (F := F) m 0 c) (defs₀ (F := F)) Variants.none () Set.univ := fun t => by
  rw [bigSep_W0, bigSep_W0, defs₀_row]
  have h := sound_body m c t
  simp only [bodyPost_eq] at h
  exact triple_restated h rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Up0Ideal.Own

end
-- ==== Proof.Up0Body.lean ====
/-
  The SwiGLU sublayer's first half at 4096 rows, first sublayer: what the body writes, read at an index.
-/
module

public import proofs.«01_k».proof.Proof.Up0Run
public import proofs.«01_k».proof.Proof.Up
public import proofs.«01_k».proof.Proof.Up2Body
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.Up0Ideal.Own

open Cert.Up0Ideal Cert.Up0Ideal.Gen Cert.Tn Cert.Rms Cert.Up Idealize.ShloMosaic Idealize.ShloMosaic.TcCoe Idealize.ShloMosaic.Tactic Idealize.SL.Sem Finset
open Idealize.ShloMosaic.Pipeline (Dat)

/-! ## What a point leaves, read at an index -/

section

variable (m : (l : Loc nD τ sig) → Buf (Elt Ideal) l) (c : Dev nD) (t : Fin cfg0.N)

/-- The modulated norm of the staged rows. -/
abbrev row (p : ℕ) : ℕ → EReal := hn (nat2 (iblk m c 0 t) p) (nat2 (iblk m c 1 t) 0) (nat3 (iblk m c 2 t) 0 0) (nat3 (iblk m c 2 t) 0 1)

theorem hblk_at (p : Fin 1024) (d : Fin 1024) : k0_pay4 (iblk m c 0 t) (View.ld (iblk m c 1 t) (Rect.unit ![0, 0] ![1, 1024] inb_S3x1024_S1x1024_0_0))
    (View.ld (iblk m c 2 t) (Rect.unit ![0, 0, 0] ![1, 1, 1024] inb_S1x9x1024_S1x1x1024_0_0_0)) (View.ld (iblk m c 2 t) (Rect.unit ![0, 1, 0] ![1, 1, 1024] inb_S1x9x1024_S1x1x1024_0_1_0)) (ix2 p d)
    = row m c t p.val d.val := by
  unfold k0_pay4 row
  generalize iblk m c 0 t = x0
  generalize iblk m c 1 t = x1
  generalize iblk m c 2 t = x2
  pointwise
  simp only [nat2_ix x0, nat2_ix x1, nat3_ix x2]
  rfl

theorem norm_at (h : t.val < 4) (p : Fin 1024) (d : Fin 1024) : outA_5 m c t h (ix2 p d) = row m c t p.val d.val := by
  refine (congrFun (View.read_writes_eq_canon _ _ _ (coverA_5 m c t h)) (ix2 p d)).trans ?_
  unfold atA runA
  dsimp only
  sl_unfold_words
  simp only [View.canon_cons_unit_zero (S := S1024x1024) Up.hz2, View.readAt_eq_ld, Memref.IsWhole.read_unread, View.ld_unit_zero (S := S1024x1024) Up.hz2]
  exact hblk_at m c t p d

theorem back_at (y : S2x1024x1408.Idx) : left6 m c t y = backs (iblk m c 3 t) (iblk m c 4 t) (row m c t) y := by
  have hh := hblk_at m c t
  unfold left6
  by_cases h : t.val < 4
  on_goal 1 =>
    rw [dif_pos h]
    have hy := coverA_6 m c t h y
    refine (congrFun (View.read_writes_eq_canon _ _ _ (coverA_6 m c t h)) y).trans ?_
    revert hy
    unfold atA runA
  on_goal 2 =>
    rw [dif_neg h]
    have hy := coverB_6 m c t h y
    refine (congrFun (View.read_writes_eq_canon _ _ _ (coverB_6 m c t h)) y).trans ?_
    revert hy
    unfold atB runB
  all_goals
    dsimp only
    sl_unfold_words
    intro hy
    simp only [View.readAt_eq_ld, Memref.IsWhole.read_unread, View.ld_unit_zero (S := S1024x1024) Up.hz2] at hy ⊢
    refine View.canon_apply_of_pieces (Val := Elt Ideal) (e := .bf16) (S := S2x1024x1408) (backs (iblk m c 3 t) (iblk m c 4 t) (row m c t)) _ (fun pc hp j => ?_) y hy
    clear hy
    generalize iblk m c 3 t = x3 at hp ⊢
    generalize iblk m c 4 t = x4 at hp ⊢
    simp only [List.mem_cons, List.not_mem_nil, or_false] at hp
    rcases hp with rfl | rfl | rfl | rfl | rfl | rfl | rfl | rfl | rfl | rfl | rfl | rfl
    exacts [backs_piece hh x3 x4 1 inb_S1x1024x1408_S1x1024x128_0_0_1280 inb_S2x1024x1408_S1x1024x128_1_0_1280 _ (fun r => Cert.Up2Ideal.Own.value_last _ r _ (wld x4 1280 128 inb_S1x1024x1408_S1x1024x128_0_0_1280)) j,
      backs_piece hh x3 x4 0 inb_S1x1024x1408_S1x1024x128_0_0_1280 inb_S2x1024x1408_S1x1024x128_0_0_1280 _ (fun r => Cert.Up2Ideal.Own.gate_last _ r _ _) j,
      backs_piece hh x3 x4 1 inb_S1x1024x1408_S1x1024x256_0_0_1024 inb_S2x1024x1408_S1x1024x256_1_0_1024 _ (fun r => Cert.Up2Ideal.Own.value_of _ r _ (wld x4 1024 256 inb_S1x1024x1408_S1x1024x256_0_0_1024)) j,
      backs_piece hh x3 x4 0 inb_S1x1024x1408_S1x1024x256_0_0_1024 inb_S2x1024x1408_S1x1024x256_0_0_1024 _ (fun r => Cert.Up2Ideal.Own.gate_of _ r _ _) j,
      backs_piece hh x3 x4 1 inb_S1x1024x1408_S1x1024x256_0_0_768 inb_S2x1024x1408_S1x1024x256_1_0_768 _ (fun r => Cert.Up2Ideal.Own.value_of _ r _ (wld x4 768 256 inb_S1x1024x1408_S1x1024x256_0_0_768)) j,
      backs_piece hh x3 x4 0 inb_S1x1024x1408_S1x1024x256_0_0_768 inb_S2x1024x1408_S1x1024x256_0_0_768 _ (fun r => Cert.Up2Ideal.Own.gate_of _ r _ _) j,
      backs_piece hh x3 x4 1 inb_S1x1024x1408_S1x1024x256_0_0_512 inb_S2x1024x1408_S1x1024x256_1_0_512 _ (fun r => Cert.Up2Ideal.Own.value_of _ r _ (wld x4 512 256 inb_S1x1024x1408_S1x1024x256_0_0_512)) j,
      backs_piece hh x3 x4 0 inb_S1x1024x1408_S1x1024x256_0_0_512 inb_S2x1024x1408_S1x1024x256_0_0_512 _ (fun r => Cert.Up2Ideal.Own.gate_of _ r _ _) j,
      backs_piece hh x3 x4 1 inb_S1x1024x1408_S1x1024x256_0_0_256 inb_S2x1024x1408_S1x1024x256_1_0_256 _ (fun r => Cert.Up2Ideal.Own.value_of _ r _ (wld x4 256 256 inb_S1x1024x1408_S1x1024x256_0_0_256)) j,
      backs_piece hh x3 x4 0 inb_S1x1024x1408_S1x1024x256_0_0_256 inb_S2x1024x1408_S1x1024x256_0_0_256 _ (fun r => Cert.Up2Ideal.Own.gate_of _ r _ _) j,
      backs_piece hh x3 x4 1 inb_S1x1024x1408_S1x1024x256_0_0_0 inb_S2x1024x1408_S1x1024x256_1_0_0 _ (fun r => Cert.Up2Ideal.Own.value_of _ r _ (wld x4 0 256 inb_S1x1024x1408_S1x1024x256_0_0_0)) j,
      backs_piece hh x3 x4 0 inb_S1x1024x1408_S1x1024x256_0_0_0 inb_S2x1024x1408_S1x1024x256_0_0_0 _ (fun r => Cert.Up2Ideal.Own.gate_of _ r _ _) j]

theorem gated_at (y : S1024x1408.Idx) : left7 m c t y = gateds (iblk m c 3 t) (iblk m c 4 t) (row m c t) y := by
  have hh := hblk_at m c t
  unfold left7
  by_cases h : t.val < 4
  on_goal 1 =>
    rw [dif_pos h]
    have hy := coverA_7 m c t h y
    refine (congrFun (View.read_writes_eq_canon _ _ _ (coverA_7 m c t h)) y).trans ?_
    revert hy
    unfold atA runA
  on_goal 2 =>
    rw [dif_neg h]
    have hy := coverB_7 m c t h y
    refine (congrFun (View.read_writes_eq_canon _ _ _ (coverB_7 m c t h)) y).trans ?_
    revert hy
    unfold atB runB
  all_goals
    dsimp only
    sl_unfold_words
    intro hy
    simp only [View.readAt_eq_ld, Memref.IsWhole.read_unread, View.ld_unit_zero (S := S1024x1024) Up.hz2] at hy ⊢
    refine View.canon_apply_of_pieces (Val := Elt Ideal) (e := .bf16) (S := S1024x1408) (gateds (iblk m c 3 t) (iblk m c 4 t) (row m c t)) _ (fun pc hp j => ?_) y hy
    clear hy
    generalize iblk m c 3 t = x3 at hp ⊢
    generalize iblk m c 4 t = x4 at hp ⊢
    simp only [List.mem_cons, List.not_mem_nil, or_false] at hp
    rcases hp with rfl | rfl | rfl | rfl | rfl | rfl
    exacts [gateds_piece hh x3 x4 inb_S1x1024x1408_S1x1024x128_0_0_1280 inb_S1024x1408_S1024x128_0_1280 _ (fun r => Cert.Up2Ideal.Own.gated_last _ r _ _) j,
      gateds_piece hh x3 x4 inb_S1x1024x1408_S1x1024x256_0_0_1024 inb_S1024x1408_S1024x256_0_1024 _ (fun r => Cert.Up2Ideal.Own.gated_of _ r _ _) j,
      gateds_piece hh x3 x4 inb_S1x1024x1408_S1x1024x256_0_0_768 inb_S1024x1408_S1024x256_0_768 _ (fun r => Cert.Up2Ideal.Own.gated_of _ r _ _) j,
      gateds_piece hh x3 x4 inb_S1x1024x1408_S1x1024x256_0_0_512 inb_S1024x1408_S1024x256_0_512 _ (fun r => Cert.Up2Ideal.Own.gated_of _ r _ _) j,
      gateds_piece hh x3 x4 inb_S1x1024x1408_S1x1024x256_0_0_256 inb_S1024x1408_S1024x256_0_256 _ (fun r => Cert.Up2Ideal.Own.gated_of _ r _ _) j,
      gateds_piece hh x3 x4 inb_S1x1024x1408_S1x1024x256_0_0_0 inb_S1024x1408_S1024x256_0_0 _ (fun r => Cert.Up2Ideal.Own.gated_of _ r _ _) j]

end

/-! ## The arrays -/

section

variable (m : (l : Loc nD τ sig) → Buf (Elt Ideal) l) (c : Dev nD)

abbrev X : ℕ → ℕ → EReal := nat2 (V m c main_arg0)
abbrev G : ℕ → ℕ → EReal := nat2 (V m c main_arg1)
abbrev M : ℕ → ℕ → ℕ → EReal := nat3 (V m c main_arg2)
abbrev W : ℕ → ℕ → ℕ → EReal := nat3 (V m c main_arg3)

/-- The modulated norm of row `r`, and its products with the gate's and the value's weights. -/
abbrev H (r : ℕ) : ℕ → EReal := Up.H (X m c) (G m c) (M m c) 0 0 r
abbrev A (r d : ℕ) : EReal := Up.A (X m c) (G m c) (M m c) (W m c) 0 0 r d
abbrev U (r d : ℕ) : EReal := Up.U (X m c) (G m c) (M m c) (W m c) 0 0 r d

theorem idx : ∀ t : Fin grid0.N, (win0_0.index t 0 = t.val % 4 ∧ win0_0.index t 1 = 0) ∧ (win0_1.index t 0 = 0 ∧ win0_1.index t 1 = 0)
    ∧ (win0_2.index t 0 = 0 ∧ win0_2.index t 1 = 0 ∧ win0_2.index t 2 = 0) ∧ (win0_3.index t 0 = t.val / 4 ∧ win0_3.index t 1 = 0 ∧ win0_3.index t 2 = 0)
    ∧ (win0_4.index t 0 = t.val / 4 + 2 ∧ win0_4.index t 1 = 0 ∧ win0_4.index t 2 = 0) := by decide +kernel

theorem idx_out : ∀ t : Fin grid0.N, (win0_5.index t 0 = min t.val 3 ∧ win0_5.index t 1 = 0) ∧ (win0_6.index t 0 = 0 ∧ win0_6.index t 1 = t.val % 4 ∧ win0_6.index t 2 = t.val / 4)
    ∧ win0_7.index t 0 = t.val % 4 ∧ win0_7.index t 1 = t.val / 4 := by decide +kernel

theorem row_at (t : Fin cfg0.N) (p : Fin 1024) (d : Fin 1024) : row m c t p.val d.val = H m c (t.val % 4 * 1024 + p.val) d.val := by
  have e1 : ∀ k : Fin 1024, nat2 (iblk m c 1 t) 0 k.val = G m c 0 k.val := fun k => (nat2_ix _ (0 : Fin 3) k).symm.trans
    (nat2_co (V m c main_arg1) _ (((cfg0.win 1).rect_emb_val t _ 0).trans (co (idx t).2.1.1 rfl)) (((cfg0.win 1).rect_emb_val t _ 1).trans (co0 (idx t).2.1.2)))
  have e2 : ∀ (q : Fin 9) (k : Fin 1024), nat3 (iblk m c 2 t) 0 q.val k.val = M m c 0 q.val k.val := fun q k => (nat3_ix _ (0 : Fin 1) q k).symm.trans
    (nat3_co (V m c main_arg2) _ (((cfg0.win 2).rect_emb_val t _ 0).trans (co (idx t).2.2.1.1 (Nat.mul_one _))) (((cfg0.win 2).rect_emb_val t _ 1).trans (co0 (idx t).2.2.1.2.1))
      (((cfg0.win 2).rect_emb_val t _ 2).trans (co0 (idx t).2.2.1.2.2)))
  exact hn_congr (fun k => (nat2_ix _ p k).symm.trans (nat2_co (V m c main_arg0) _ (((cfg0.win 0).rect_emb_val t _ 0).trans (co (idx t).1.1 rfl)) (((cfg0.win 0).rect_emb_val t _ 1).trans (co0 (idx t).1.2))))
    e1 (e2 0) (e2 1) d

theorem gate_at (t : Fin cfg0.N) (p : Fin 1024) (q : Fin 1408) : Up.dot (row m c t p.val) (fun k => nat3 (iblk m c 3 t) 0 k q.val)
    = A m c (t.val % 4 * 1024 + p.val) (t.val / 4 * 1408 + q.val) :=
  A_at (row_at m c t p) (fun k q => (nat3_ix _ (0 : Fin 1) k q).symm.trans (nat3_co (V m c main_arg3) _ (((cfg0.win 3).rect_emb_val t _ 0).trans (co (idx t).2.2.2.1.1 (Nat.mul_one _)))
    (((cfg0.win 3).rect_emb_val t _ 1).trans (co0 (idx t).2.2.2.1.2.1)) (((cfg0.win 3).rect_emb_val t _ 2).trans (co0 (idx t).2.2.2.1.2.2)))) q

theorem value_at (t : Fin cfg0.N) (p : Fin 1024) (q : Fin 1408) : Up.dot (row m c t p.val) (fun k => nat3 (iblk m c 4 t) 0 k q.val)
    = U m c (t.val % 4 * 1024 + p.val) (t.val / 4 * 1408 + q.val) :=
  U_at (row_at m c t p) (fun k q => (nat3_ix _ (0 : Fin 1) k q).symm.trans (nat3_co (V m c main_arg3) _ (((cfg0.win 4).rect_emb_val t _ 0).trans (co (idx t).2.2.2.2.1 (Nat.mul_one _)))
    (((cfg0.win 4).rect_emb_val t _ 1).trans (co0 (idx t).2.2.2.2.2.1)) (((cfg0.win 4).rect_emb_val t _ 2).trans (co0 (idx t).2.2.2.2.2.2)))) q

theorem left5_at (t : Fin cfg0.N) (p : Fin 1024) (d : Fin 1024) : left5 m c t (ix2 p d) = H m c (min t.val 3 * 1024 + p.val) d.val := by
  unfold left5
  by_cases h : t.val < 4
  · rw [dif_pos h, show min t.val 3 = t.val % 4 by omega]
    exact (norm_at m c t h p d).trans (row_at m c t p d)
  · rw [dif_neg h, show min t.val 3 = 3 by omega]
    exact (norm_at m c _ _ p d).trans (row_at m c ⟨3, by rw [show cfg0.N = 8 from N_0]; decide⟩ p d)

/-- The normed rows' blocks go out at the first sweep's points but its last, and at the run's last point. -/
theorem flush5 : ∀ t : Fin cfg0.N, (t.val < 3 ∨ t.val = 7) → (cfg0.win 5).flush t = true := by decide +kernel

theorem inj5 : ∀ t t' : Fin cfg0.N, (cfg0.win 5).flush t = true → (cfg0.win 5).flush t' = true → win0_5.index t = win0_5.index t' → t = t' := by decide +kernel

theorem inj67 : ∀ t t' : Fin cfg0.N, (win0_6.index t = win0_6.index t' → t = t') ∧ (win0_7.index t = win0_7.index t' → t = t') :=
  (by decide +kernel : ∀ t t' : Fin grid0.N, (win0_6.index t = win0_6.index t' → t = t') ∧ (win0_7.index t = win0_7.index t' → t = t'))

/-- The normed rows the run leaves. -/
theorem result5 (r : Fin 4096) (d : Fin 1024) : (dats m 0 c).arrAt 5 cfg0.N (ix2 r d) = H m c r.val d.val := by
  obtain ⟨t, hf, ht⟩ : ∃ t : Fin cfg0.N, (cfg0.win 5).flush t = true ∧ min t.val 3 = r.val / 1024 := by
    have := r.isLt
    by_cases h : r.val / 1024 < 3
    · exact ⟨⟨r.val / 1024, lt_of_lt_of_eq (by omega) N_0.symm⟩, flush5 _ (.inl h), by show min (r.val / 1024) 3 = _; omega⟩
    · exact ⟨⟨7, lt_of_lt_of_eq (by decide) N_0.symm⟩, flush5 _ (.inr rfl), by show min 7 3 = _; omega⟩
  have e : min t.val 3 * 1024 + r.val % 1024 = r.val := by rw [ht]; exact Nat.div_add_mod' _ _
  have hb := (dats m 0 c).read_blk_arrAt_eq_flushed 5 (fun t t' h h' hne => (cfg0.win 5).disjoint_blk fun e => hne (inj5 t t' h h' e)) cfg0.N t t.isLt hf
  refine Eq.trans (congrArg _ (funext fun a => Fin.ext ?_)) ((congrFun hb (ix2 ⟨r.val % 1024, Nat.mod_lt _ (by decide)⟩ d)).trans ((left5_at m c t ⟨r.val % 1024, Nat.mod_lt _ (by decide)⟩ d).trans ?_))
  · refine Eq.trans ?_ ((cfg0.win 5).rect_emb_val t _ a).symm
    match a with
    | ⟨0, _⟩ => exact (co (idx_out t).1.1 e).symm
    | ⟨1, _⟩ => exact (co0 (idx_out t).1.2).symm
  · simp only [e]

/-- The point whose block holds row `r` and column `d`. -/
theorem point (r : Fin 4096) (d : Fin 2816) : ∃ (t : Fin cfg0.N) (p : Fin 1024) (k : Fin 1408), t.val % 4 * 1024 + p.val = r.val ∧ t.val / 4 * 1408 + k.val = d.val := by
  have := r.isLt; have := d.isLt
  refine ⟨⟨d.val / 1408 * 4 + r.val / 1024, lt_of_lt_of_eq (by omega) N_0.symm⟩, ⟨r.val % 1024, Nat.mod_lt _ (by decide)⟩, ⟨d.val % 1408, Nat.mod_lt _ (by decide)⟩, ?_, ?_⟩
  · show (d.val / 1408 * 4 + r.val / 1024) % 4 * 1024 + r.val % 1024 = r.val; omega
  · show (d.val / 1408 * 4 + r.val / 1024) / 4 * 1408 + d.val % 1408 = d.val; omega

/-- The derivatives the run leaves. -/
theorem result6 (q : Fin 2) (r : Fin 4096) (d : Fin 2816) : (dats m 0 c).arrAt 6 cfg0.N (ix3 q r d) = back (A m c r.val d.val) (U m c r.val d.val) q.val := by
  obtain ⟨t, p, k, hr, hd⟩ := point r d
  have hb := (dats m 0 c).read_blk_arrAt_eq_flushed 6 (fun t t' _ _ hne => (cfg0.win 6).disjoint_blk fun e => hne ((inj67 t t').1 e)) cfg0.N t t.isLt (flush0_6 t)
  refine Eq.trans (congrArg _ (funext fun a => Fin.ext ?_)) ((congrFun hb (ix3 q p k)).trans
    ((back_at m c t (ix3 q p k)).trans ((congrArg₂ (back · · q.val) (gate_at m c t p k) (value_at m c t p k)).trans ?_)))
  · refine Eq.trans ?_ ((cfg0.win 6).rect_emb_val t _ a).symm
    match a with
    | ⟨0, _⟩ => exact (co0 (idx_out t).2.1.1).symm
    | ⟨1, _⟩ => exact (co (idx_out t).2.1.2.1 hr).symm
    | ⟨2, _⟩ => exact (co (idx_out t).2.1.2.2 hd).symm
  · simp only [hr, hd]

/-- The products the run leaves. -/
theorem result7 (r : Fin 4096) (d : Fin 2816) : (dats m 0 c).arrAt 7 cfg0.N (ix2 r d) = gated (A m c r.val d.val) (U m c r.val d.val) := by
  obtain ⟨t, p, k, hr, hd⟩ := point r d
  have hb := (dats m 0 c).read_blk_arrAt_eq_flushed 7 (fun t t' _ _ hne => (cfg0.win 7).disjoint_blk fun e => hne ((inj67 t t').2 e)) cfg0.N t t.isLt (flush0_7 t)
  refine Eq.trans (congrArg _ (funext fun a => Fin.ext ?_)) ((congrFun hb (ix2 p k)).trans
    ((gated_at m c t (ix2 p k)).trans ((congrArg₂ gated (gate_at m c t p k) (value_at m c t p k)).trans ?_)))
  · refine Eq.trans ?_ ((cfg0.win 7).rect_emb_val t _ a).symm
    match a with
    | ⟨0, _⟩ => exact (co (idx_out t).2.2.1 hr).symm
    | ⟨1, _⟩ => exact (co (idx_out t).2.2.2 hd).symm
  · simp only [hr, hd]

/-- Every execution ends with these results, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1 5, (h c).1 6, (h c).1 7, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end

end Cert.Up0Ideal.Own
-- ==== Proof.Up0.lean ====
/-
  The SwiGLU sublayer's first half at 4096 rows, first sublayer: the kernel's results are the reference's.
-/
module

public import proofs.«01_k».proof.Defs
public import proofs.«01_k».proof.Proof.Up0Body
public import proofs.«01_k».proof.Proof.Up2
public import proofs.«01_k».proof.Proof.Gen.RefUp0Ideal.Run

@[expose] public section

set_option maxRecDepth 16384

noncomputable section

namespace Cert.Up0Ideal.Own

open Cert.Up0Ideal Cert.Up0Ideal.Gen Cert.Tn Cert.Rms Cert.Up Cert.Gla Idealize.ShloMosaic Idealize.ShloMosaic.TcCoe Idealize.ShloMosaic.Tactic Idealize.SL.Sem Finset

theorem claim : Cert.algebraic_Up0Ideal_RefUp0Ideal_pre_finite_up := by
  intro m g m' g' hpre hargs
  refine ⟨fun c => (dats m 0 c).arrAt 5 cfg0.N, fun c => (dats m 0 c).arrAt 6 cfg0.N, fun c => (dats m 0 c).arrAt 7 cfg0.N, run_blocks m g,
    (θ_run _ _ _).mono (fun r h c => ?_) (Cert.RefUp0Ideal.Value.run (F := Ideal) m' g')⟩
  obtain ⟨h0, h1, h2, hargs'⟩ := h c
  obtain ⟨a0, a1, a2, a3⟩ := hargs c
  obtain ⟨hx, hg, hs, hw⟩ := Cert.Up2Ideal.Own.reals (hpre c)
  have eX : ∀ (i : Fin 4096) (j : Fin 1024), m' (c.tc.loc Cert.RefUp0Ideal.main_arg0) (ix2 i j) = X m c i.val j.val := fun i j => by rw [a0, ← V_main_arg0 m c]; exact nat2_ix _ i j
  have eG : ∀ (i : Fin 3) (j : Fin 1024), m' (c.tc.loc Cert.RefUp0Ideal.main_arg1) (ix2 i j) = G m c i.val j.val := fun i j => by rw [a1, ← V_main_arg1 m c]; exact nat2_ix _ i j
  have eM : ∀ (a : Fin 2) (i : Fin 9) (j : Fin 1024), m' (c.tc.loc Cert.RefUp0Ideal.main_arg2) (ix3 a i j) = M m c a.val i.val j.val := fun a i j => by
    rw [a2, ← V_main_arg2 m c]; exact nat3_ix _ a i j
  have eW : ∀ (a : Fin 4) (i : Fin 1024) (j : Fin 1408), m' (c.tc.loc Cert.RefUp0Ideal.main_arg3) (ix3 a i j) = W m c a.val i.val j.val := fun a i j => by
    rw [a3, ← V_main_arg3 m c]; exact nat3_ix _ a i j
  have rX : ∀ i j, ∃ y : ℝ, X m c i j = y := nat2_real hx
  have rG : ∀ i j, ∃ y : ℝ, G m c i j = y := nat2_real hg
  have rM : ∀ a i j, ∃ y : ℝ, M m c a i j = y := nat3_real hs
  have rW : ∀ a i j, ∃ y : ℝ, W m c a i j = y := nat3_real hw
  refine ⟨h0.trans ?_, h1.trans ?_, h2.trans ?_, hargs'⟩
  · funext i
    obtain ⟨r, d, rfl⟩ : ∃ (r : Fin 4096) (d : Fin 1024), i = ix2 r d := ⟨i 0, i 1, eq_ix2 i⟩
    refine Eq.trans ?_ (result5 m c r d).symm
    pointwise
    simp only [eX, eG, eM]
    rfl
  · funext i
    obtain ⟨q, r, d, rfl⟩ : ∃ (q : Fin 2) (r : Fin 4096) (d : Fin 2816), i = ix3 q r d := ⟨i 0, i 1, i 2, eq_ix3 i⟩
    refine Eq.trans ?_ (result6 m c q r d).symm
    unfold Cert.RefUp0Ideal.Value.res_main_v44
    pointwise
    simp only [eX, eG, eM, eW, show (2816 + d.val) / 1408 = d.val / 1408 + 2 by omega, show (2816 + d.val) % 1408 = d.val % 1408 by omega]
    obtain rfl | rfl : q = 0 ∨ q = 1 := by omega
    · refine (dif_pos (show (0 : ℕ) < 1 from Nat.one_pos)).trans (Eq.trans ?_ (back_gate (A_real _ _ _ _ rX rG rM rW) (U_real _ _ _ _ rX rG rM rW)))
      simp only [one_mul, sg, zero_sub]
      rfl
    · refine (dif_neg (show ¬(1 : ℕ) < 1 from lt_irrefl _)).trans (Eq.trans ?_ (back_value _ _))
      simp only [mul_one, sg, zero_sub]
      rfl
  · funext i
    obtain ⟨r, d, rfl⟩ : ∃ (r : Fin 4096) (d : Fin 2816), i = ix2 r d := ⟨i 0, i 1, eq_ix2 i⟩
    refine Eq.trans ?_ (result7 m c r d).symm
    unfold Cert.RefUp0Ideal.Value.res_main_v45
    pointwise
    simp only [eX, eG, eM, eW, show (2816 + d.val) / 1408 = d.val / 1408 + 2 by omega, show (2816 + d.val) % 1408 = d.val % 1408 by omega]
    simp only [gated, sg, zero_sub]
    rfl

end Cert.Up0Ideal.Own
-- ==== Proof.UpCtxRun.lean ====
/-
  The first half of the SwiGLU sublayer (the first of layer 0, at 4608 rows): the body's run at a point of either sweep of the grid, what the three outputs hold after
  each point, and the run of the whole program. The normed rows are stored in the first sweep only; their buffer is written back
  once more at the end.
-/
module

public import proofs.«01_k».proof.Proof.Gen.UpCtxIdeal.Frame
public import proofs.«01_k».proof.Proof.Gen.UpCtxIdeal.Skeleton
public import Idealize.ShloMosaic.Lib.Pipeline.TableIdle
public import Idealize.ShloMosaic.Lib.Claim

@[expose] public section

set_option maxRecDepth 16384

noncomputable section

namespace Cert.UpCtxIdeal.Own

open Cert.UpCtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one branch: the grid's first coordinate is zero, -/
abbrev cond0_0 (i : grid0.Coords) : Prop := k0_cond1 i = 1#1

/-- that is, the point is one of the first sweep. -/
theorem hcond0_0 : ∀ t : Fin cfg0.N, cond0_0 (grid0.coords t) ↔ t.val < 9 :=
  (fun t => by
    have ht : t.val < 18 := Nat.lt_of_lt_of_eq t.isLt N_0
    have e0 : (grid0.coords t 0).val = t.val / 9 % 2 := Pipeline.Grid.coords_val t 0 (by decide) rfl
    have e1 : (grid0.coords t 1).val = t.val / 1 % 9 := Pipeline.Grid.coords_val t 1 (by decide) rfl
    simp only [cond0_0, k0_cond1, e0, e1]
    word_cmp
   : ∀ t : Fin grid0.N, cond0_0 (grid0.coords t) ↔ t.val < 9)

abbrev VO0_5 : View sig .tc .vmem S512x1024 .bf16 := (Memref.whole cc0_stg5_0 : Memref sig .tc .vmem S512x1024 .bf16).view
abbrev VO0_6 : View sig .tc .vmem S2x512x1408 .bf16 := (Memref.whole cc0_stg6_0 : Memref sig .tc .vmem S2x512x1408 .bf16).view
abbrev VO0_7 : View sig .tc .vmem S512x1408 .bf16 := (Memref.whole cc0_stg7_0 : Memref sig .tc .vmem S512x1408 .bf16).view

section Runs

variable (c : Dev nD) (i : grid0.Coords) (arg2 : Memref sig .tc .vmem S512x1024 .f32) (harg2 : arg2.IsWhole) (arg3 : Memref sig .tc .vmem S3x1024 .f32) (harg3 : arg3.IsWhole) (arg4 : Memref sig .tc .vmem S1x9x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S512x1024 .bf16) (harg7 : arg7.IsWhole) (arg8 : Memref sig .tc .vmem S2x512x1408 .bf16) (harg8 : arg8.IsWhole) (arg9 : Memref sig .tc .vmem S512x1408 .bf16) (harg9 : arg9.IsWhole)
    (x0 : Vec F S512x1024 .f32) (x1 : Vec F S3x1024 .f32) (x2 : Vec F S1x9x1024 .f32) (x3 : Vec F S1x1024x1408 .bf16) (x4 : Vec F S1x1024x1408 .bf16)

variable (hc : cond0_0 i) in
set_option maxHeartbeats 4000000 in
/-- The body at a point of the first sweep: it stores the normed rows, and stores the products' chunks. The stores are what
    the run finds. -/
noncomputable def runA :
    Σ' (L5 : List (View.Piece (Elt F) S512x1024 .bf16)), Σ' (L6 : List (View.Piece (Elt F) S2x512x1408 .bf16)), { L7 : List (View.Piece (Elt F) S512x1408 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9) K } := by
  refine ⟨?_, ?_, ?_, fun E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; iexact H5
    isplitl [H6]; · iexists _; iexact H6
    iexists _; iexact H7

variable (hc : ¬cond0_0 i) in
set_option maxHeartbeats 4000000 in
/-- The body at a point of the second sweep: it leaves the buffer of the normed rows as it is, and stores the products' chunks. The stores are what
    the run finds. -/
noncomputable def runB :
    Σ' (L6 : List (View.Piece (Elt F) S2x512x1408 .bf16)), { L7 : List (View.Piece (Elt F) S512x1408 .bf16) //
      ∀ (xi5 : Vec F S512x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7)) -∗ K ⟨⟩))
          ⊢ wp frame (wpE (defs₀ (F := F)) Variants.none c none) E (cc0_ffn_up i arg2 harg2 arg3 harg3 arg4 harg4 arg5 harg5 arg6 harg6 arg7 harg7 arg8 harg8 arg9 harg9) K } := by
  refine ⟨?_, ?_, fun xi5 E K => ?run⟩
  case run =>
    simp only [cc0_ffn_up_eq_skeleton]; unfold cc0_ffn_up_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
    obtain rfl := harg2.eq_unread hf0; obtain rfl := harg3.eq_unread hf1; obtain rfl := harg4.eq_unread hf2
    obtain rfl := harg5.eq_unread hf3; obtain rfl := harg6.eq_unread hf4
    obtain rfl := harg7.eq_unread hf5
    sl_exec (disch := sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Runs

/-! ## What the outputs hold after each point -/

abbrev ms0_0 (t : Fin cfg0.N) : Memref sig .tc .vmem S512x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x9x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1024x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S2x512x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1408 .bf16 := win0_7.stage (cfg0.slots t 7)
abbrev hs0_7 (t : Fin cfg0.N) : (ms0_7 t).IsWhole := hstage0_7 ((cfg0.slots t 7).cast nbuf0_7)

section

variable (c : Dev nD) (t : Fin cfg0.N)

section

variable (h : t.val < 9)

/-- The body's run at a point of the first sweep, and what it leaves in each output's buffer. -/
noncomputable def atA := runA c (grid0.coords t) _ (hs0_0 t) _ (hs0_1 t) _ (hs0_2 t) _ (hs0_3 t) _ (hs0_4 t) _ (hs0_5 t) _ (hs0_6 t) _ (hs0_7 t) (iblk m c 0 t) (iblk m c 1 t) (iblk m c 2 t) (iblk m c 3 t) (iblk m c 4 t) ((hcond0_0 t).mpr h)

theorem coverA_5 (y : S512x1024.Idx) : ∃ pc ∈ (atA m c t h).1, y ∈ pc.1.set :=
  View.cover_of_tiledL (atA m c t h).1 S512x1024.size (by sl_kernel_rfl) y

def outA_5 : Vec F S512x1024 .bf16 := VO0_5.read (Elt F) (VO0_5.writes (Elt F) VO0_5.junk (atA m c t h).1)

theorem coverA_6 (y : S2x512x1408.Idx) : ∃ pc ∈ (atA m c t h).2.1, y ∈ pc.1.set :=
  View.cover_of_tiledBy (atA m c t h).2.1 ![1, 512, 128] (by sl_kernel_rfl) y

def outA_6 : Vec F S2x512x1408 .bf16 := VO0_6.read (Elt F) (VO0_6.writes (Elt F) VO0_6.junk (atA m c t h).2.1)

theorem coverA_7 (y : S512x1408.Idx) : ∃ pc ∈ (atA m c t h).2.2.1, y ∈ pc.1.set :=
  View.cover_of_tiledBy (atA m c t h).2.2.1 ![512, 128] (by sl_kernel_rfl) y

def outA_7 : Vec F S512x1408 .bf16 := VO0_7.read (Elt F) (VO0_7.writes (Elt F) VO0_7.junk (atA m c t h).2.2.1)

end

section

variable (h : ¬t.val < 9)

/-- The body's run at a point of the second sweep, and what it leaves in each output's buffer. -/
noncomputable def atB := runB c (grid0.coords t) _ (hs0_0 t) _ (hs0_1 t) _ (hs0_2 t) _ (hs0_3 t) _ (hs0_4 t) _ (hs0_5 t) _ (hs0_6 t) _ (hs0_7 t) (iblk m c 0 t) (iblk m c 1 t) (iblk m c 2 t) (iblk m c 3 t) (iblk m c 4 t) fun hc => h ((hcond0_0 t).mp hc)

theorem coverB_6 (y : S2x512x1408.Idx) : ∃ pc ∈ (atB m c t h).1, y ∈ pc.1.set :=
  View.cover_of_tiledBy (atB m c t h).1 ![1, 512, 128] (by sl_kernel_rfl) y

def outB_6 : Vec F S2x512x1408 .bf16 := VO0_6.read (Elt F) (VO0_6.writes (Elt F) VO0_6.junk (atB m c t h).1)

theorem coverB_7 (y : S512x1408.Idx) : ∃ pc ∈ (atB m c t h).2.1, y ∈ pc.1.set :=
  View.cover_of_tiledBy (atB m c t h).2.1 ![512, 128] (by sl_kernel_rfl) y

def outB_7 : Vec F S512x1408 .bf16 := VO0_7.read (Elt F) (VO0_7.writes (Elt F) VO0_7.junk (atB m c t h).2.1)

end

/-- The normed rows' buffer: at a point of the first sweep what the point stores, afterwards what the sweep's last point stored. -/
def left5 : Vec F S512x1024 .bf16 := if h : t.val < 9 then outA_5 m c t h else outA_5 m c ⟨8, by rw [show cfg0.N = 18 from N_0]; decide⟩ (by decide)

def left6 : Vec F S2x512x1408 .bf16 := if h : t.val < 9 then outA_6 m c t h else outB_6 m c t h

def left7 : Vec F S512x1408 .bf16 := if h : t.val < 9 then outA_7 m c t h else outB_7 m c t h

end

/-! ## The pipeline's proof data -/

/-- The arrays as the region finds them; after the body each input's buffer at its block and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => left5 m c t
    | ⟨6, _⟩ => left6 m c t
    | ⟨7, _⟩ => left7 m c t
    | ⟨_ + 8, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = left5 m c t := by dsimp only [dats]
theorem after0_6 (c : Dev nD) (t : Fin cfg0.N) : (dats m 0 c).after 6 t = left6 m c t := by dsimp only [dats]
theorem after0_7 (c : Dev nD) (t : Fin cfg0.N) : (dats m 0 c).after 7 t = left7 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

theorem live0 : ∀ (w : Fin cfg0.W) (t : Fin cfg0.N), w ≠ 5 → cfg0.idle w (grid0.coords t) = false := by decide +kernel
theorem live5 : ∀ t : Fin cfg0.N, t.val < 9 → cfg0.idle 5 (grid0.coords t) = false := by decide +kernel
theorem idle5 : ∀ t : Fin cfg0.N, ¬t.val < 9 → cfg0.idle 5 (grid0.coords t) = true := by decide +kernel
theorem fresh5 : ∀ t : Fin cfg0.N, ¬t.val < 9 → cfg0.fresh 5 t.val = false := by decide +kernel

/-- In the second sweep the buffer of the normed rows holds what the first one's last point left in it. -/
theorem before5 (c : Dev nD) (t : Fin cfg0.N) (h : ¬t.val < 9) (d) : (dats m 0 c).before 5 t d = left5 m c t := by
  have hc : ∀ t : Fin cfg0.N, t.val ≠ 0 → ¬t.val < 9 → left5 m c t = left5 m c ⟨t.val - 1, by omega⟩ := fun t h0 h => by
    unfold left5
    rw [dif_neg h]
    by_cases h' : t.val - 1 < 9
    · rw [dif_pos h']
      have e : ∀ (s s' : Fin cfg0.N) (hs hs'), s = s' → outA_5 m c s hs = outA_5 m c s' hs' := fun s s' _ _ e => by subst e; rfl
      exact e _ _ _ _ (Fin.ext (by show 8 = t.val - 1; omega))
    · rw [dif_neg h']
  rw [Pipeline.Dat.before_out_traj (dats m 0 c) 5 rfl (fun _ _ => rfl) (fun t h0 hi hf => by
    rw [after0_5, after0_5]
    exact hc t h0 fun hl => Bool.false_ne_true ((live5 t hl).symm.trans hi)) t.val t rfl d, fresh5 t h, if_neg Bool.false_ne_true, after0_5]
  exact (hc t (by omega) h).symm

theorem leaves (c : Dev nD) (t : Fin cfg0.N) (w : Fin cfg0.W) (h : w ≠ 5) :
    (dats m 0 c).leavesExact w t = owns (c : Thread nD τ) ((cfg0.win w).stage (cfg0.slots t w)) fullShare ((dats m 0 c).after w t) := by
  unfold Dat.leavesExact; rw [live0 w t h]

theorem leaves5_A (c : Dev nD) (t : Fin cfg0.N) (h : t.val < 9) :
    (dats m 0 c).leavesExact 5 t = owns (c : Thread nD τ) (ms0_5 t) fullShare (outA_5 m c t h) := by
  unfold Dat.leavesExact; rw [live5 t h, after0_5]; unfold left5; rw [dif_pos h]

theorem leaves5_B (c : Dev nD) (t : Fin cfg0.N) (h : ¬t.val < 9) :
    owns (c : Thread nD τ) (ms0_5 t) fullShare (left5 m c t) ⊢ (dats m 0 c).leavesExact 5 t := by
  cases hf : (cfg0.win 5).flush t
  · rw [Dat.leavesExact_idle (dats m 0 c) 5 t (idle5 t h) hf]
    simp only [before5 m c t h]
    iintro H
    iexists (left5 m c t)
    iexact H
  · have e : (dats m 0 c).leavesExact 5 t = owns (c : Thread nD τ) (ms0_5 t) fullShare ((dats m 0 c).after 5 t) := by
      unfold Dat.leavesExact; rw [idle5 t h, hf]
    rw [e, after0_5]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ (dats m 0 c).leavesExact 5 t
    ∗ owns (c : Thread nD τ) (ms0_6 t) fullShare (left6 m c t)
    ∗ owns (c : Thread nD τ) (ms0_7 t) fullShare (left7 m c t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  by_cases h : t.val < 9
  · rw [leaves5_A m c t h]
    unfold left6 left7
    rw [dif_pos h, dif_pos h]
    unfold outA_6 outA_7
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atA m c t h).2.2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    iintro ⟨H0, H1, H2, H3, H4, ⟨%e5, H5⟩, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · unfold owns outA_5; iexists _; isplitr
      swap; · iexact H5
      ipureintro; exact View.read_writes_of_cover _ _ _ _ _ (coverA_5 m c t h)
    isplitl [H6]
    · unfold owns; iexists _; isplitr
      swap; · iexact H6
      ipureintro; exact View.read_writes_of_cover _ _ _ _ _ (coverA_6 m c t h)
    unfold owns; iexists _; isplitr
    swap; · iexact H7
    ipureintro; exact View.read_writes_of_cover _ _ _ _ _ (coverA_7 m c t h)
  · unfold left6 left7
    rw [dif_neg h, dif_neg h]
    simp only [before5 m c t h]
    unfold outB_6 outB_7
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((atB m c t h).2.2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iintro ⟨H0, H1, H2, H3, H4, H5, ⟨%e6, H6⟩, ⟨%e7, H7⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (leaves5_B m c t h)
      iexact H5
    isplitl [H6]
    · unfold owns; iexists _; isplitr
      swap; · iexact H6
      ipureintro; exact View.read_writes_of_cover _ _ _ _ _ (coverB_6 m c t h)
    unfold owns; iexists _; isplitr
    swap; · iexact H7
    ipureintro; exact View.read_writes_of_cover _ _ _ _ _ (coverB_7 m c t h)

theorem defs₀_row (t : Fin cfg0.N) :
    defs₀ (F := F) .tc cfg0.body (cfg0.bodyArgs t (cfg0.slots t)) = bodyAt0 t := by
  unfold defs₀; rw [Defs.onTc_tc]

theorem bodyPost_eq (c : Dev nD) (t : Fin cfg0.N) : bodyPost m c t =
    iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t
      ∗ (dats m 0 c).leavesExact 4 t ∗ (dats m 0 c).leavesExact 5 t ∗ (dats m 0 c).leavesExact 6 t ∗ (dats m 0 c).leavesExact 7 t) := by
  rw [leaves m c t 0 (by decide), leaves m c t 1 (by decide), leaves m c t 2 (by decide), leaves m c t 3 (by decide), leaves m c t 4 (by decide),
    leaves m c t 6 (by decide), leaves m c t 7 (by decide), after0_0, after0_1, after0_2, after0_3, after0_4, after0_6, after0_7]
  rfl

theorem body_obligation (c : Dev nD) : BodyObligation (dats (F := F) m 0 c) (defs₀ (F := F)) Variants.none () Set.univ := fun t => by
  rw [bigSep_W0, bigSep_W0, defs₀_row]
  have h := sound_body m c t
  simp only [bodyPost_eq] at h
  exact triple_restated h rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.UpCtxIdeal.Own

end
-- ==== Proof.UpCtxBody.lean ====
/-
  The SwiGLU sublayer's first half at 4608 rows: what the body writes, read at an index.
-/
module

public import proofs.«01_k».proof.Proof.UpCtxRun
public import proofs.«01_k».proof.Proof.Up
public import Idealize.ShloMosaic.Lib.WritesUnit
public import Idealize.ShloMosaic.Lib.Pipeline.Value
public import Idealize.ShloMosaic.Lib.Pipeline.ValueKit.Tiles

@[expose] public section

set_option maxRecDepth 16384

noncomputable section

namespace Cert.UpCtxIdeal.Own

open Cert.UpCtxIdeal Cert.UpCtxIdeal.Gen Cert.Tn Cert.Rms Cert.Up Idealize.ShloMosaic Idealize.ShloMosaic.TcCoe Idealize.ShloMosaic.Tactic Idealize.SL.Sem Finset
open Idealize.ShloMosaic.Pipeline (Dat)

/-! ## One chunk's values -/

section

variable (h : Vec Ideal S512x1024 .bf16) (p : Fin 512)

theorem gate_of (a u : Vec Ideal S1x1024x256 .bf16) (q : Fin 256) : k0_pay18 (k0_pay13 h a) (k0_pay14 h u) (k0_pay15 h a) (ix3 0 p q) = back (pr h p a q) (pr h p u q) 0 := by
  unfold k0_pay18 k0_pay16 k0_pay15 k0_pay14 k0_pay13
  pointwise
  rfl

theorem value_of (a u : Vec Ideal S1x1024x256 .bf16) (q : Fin 256) : k0_pay19 (k0_pay13 h a) (k0_pay15 h a) (ix3 0 p q) = back (pr h p a q) (pr h p u q) 1 := by
  unfold k0_pay19 k0_pay17 k0_pay16 k0_pay15 k0_pay13
  pointwise
  rfl

theorem gated_of (a u : Vec Ideal S1x1024x256 .bf16) (q : Fin 256) : k0_pay20 (k0_pay13 h a) (k0_pay14 h u) (k0_pay15 h a) (ix2 p q) = gated (pr h p a q) (pr h p u q) := by
  unfold k0_pay20 k0_pay17 k0_pay16 k0_pay15 k0_pay14 k0_pay13
  pointwise
  rfl

theorem gate_last (a u : Vec Ideal S1x1024x128 .bf16) (q : Fin 128) : k0_pay1 (k0_pay45 h u) (k0_pay48 h a) (ix3 0 p q) = back (pr h p a q) (pr h p u q) 0 := by
  unfold k0_pay1 k0_pay48 k0_pay46 k0_pay45 k0_pay44
  pointwise
  rfl

theorem value_last (a u : Vec Ideal S1x1024x128 .bf16) (q : Fin 128) : k0_pay2 (k0_pay47 h a) (ix3 0 p q) = back (pr h p a q) (pr h p u q) 1 := by
  unfold k0_pay2 k0_pay47 k0_pay46 k0_pay44
  pointwise
  rfl

theorem gated_last (a u : Vec Ideal S1x1024x128 .bf16) (q : Fin 128) : k0_pay3 (k0_pay45 h u) (k0_pay47 h a) (ix2 p q) = gated (pr h p a q) (pr h p u q) := by
  unfold k0_pay3 k0_pay47 k0_pay46 k0_pay45 k0_pay44
  pointwise
  rfl

end

/-! ## What a point leaves, read at an index -/

section

variable (m : (l : Loc nD τ sig) → Buf (Elt Ideal) l) (c : Dev nD) (t : Fin cfg0.N)

/-- The modulated norm of the staged rows. -/
abbrev row (p : ℕ) : ℕ → EReal := hn (nat2 (iblk m c 0 t) p) (nat2 (iblk m c 1 t) 0) (nat3 (iblk m c 2 t) 0 0) (nat3 (iblk m c 2 t) 0 1)

theorem hblk_at (p : Fin 512) (d : Fin 1024) : k0_pay4 (iblk m c 0 t) (View.ld (iblk m c 1 t) (Rect.unit ![0, 0] ![1, 1024] inb_S3x1024_S1x1024_0_0))
    (View.ld (iblk m c 2 t) (Rect.unit ![0, 0, 0] ![1, 1, 1024] inb_S1x9x1024_S1x1x1024_0_0_0)) (View.ld (iblk m c 2 t) (Rect.unit ![0, 1, 0] ![1, 1, 1024] inb_S1x9x1024_S1x1x1024_0_1_0)) (ix2 p d)
    = row m c t p.val d.val := by
  unfold k0_pay4 row
  generalize iblk m c 0 t = x0
  generalize iblk m c 1 t = x1
  generalize iblk m c 2 t = x2
  pointwise
  simp only [nat2_ix x0, nat2_ix x1, nat3_ix x2]
  rfl

theorem norm_at (h : t.val < 9) (p : Fin 512) (d : Fin 1024) : outA_5 m c t h (ix2 p d) = row m c t p.val d.val := by
  refine (congrFun (View.read_writes_eq_canon _ _ _ (coverA_5 m c t h)) (ix2 p d)).trans ?_
  unfold atA runA
  dsimp only
  sl_unfold_words
  simp only [View.canon_cons_unit_zero (S := S512x1024) Up.hz2, View.readAt_eq_ld, Memref.IsWhole.read_unread, View.ld_unit_zero (S := S512x1024) Up.hz2]
  exact hblk_at m c t p d

theorem back_at (y : S2x512x1408.Idx) : left6 m c t y = backs (iblk m c 3 t) (iblk m c 4 t) (row m c t) y := by
  have hh := hblk_at m c t
  unfold left6
  by_cases h : t.val < 9
  on_goal 1 =>
    rw [dif_pos h]
    have hy := coverA_6 m c t h y
    refine (congrFun (View.read_writes_eq_canon _ _ _ (coverA_6 m c t h)) y).trans ?_
    revert hy
    unfold atA runA
  on_goal 2 =>
    rw [dif_neg h]
    have hy := coverB_6 m c t h y
    refine (congrFun (View.read_writes_eq_canon _ _ _ (coverB_6 m c t h)) y).trans ?_
    revert hy
    unfold atB runB
  all_goals
    dsimp only
    sl_unfold_words
    intro hy
    simp only [View.readAt_eq_ld, Memref.IsWhole.read_unread, View.ld_unit_zero (S := S512x1024) Up.hz2] at hy ⊢
    refine View.canon_apply_of_pieces (Val := Elt Ideal) (e := .bf16) (S := S2x512x1408) (backs (iblk m c 3 t) (iblk m c 4 t) (row m c t)) _ (fun pc hp j => ?_) y hy
    clear hy
    generalize iblk m c 3 t = x3 at hp ⊢
    generalize iblk m c 4 t = x4 at hp ⊢
    simp only [List.mem_cons, List.not_mem_nil, or_false] at hp
    rcases hp with rfl | rfl | rfl | rfl | rfl | rfl | rfl | rfl | rfl | rfl | rfl | rfl
    exacts [backs_piece hh x3 x4 1 inb_S1x1024x1408_S1x1024x128_0_0_1280 inb_S2x512x1408_S1x512x128_1_0_1280 _ (fun r => value_last _ r _ (wld x4 1280 128 inb_S1x1024x1408_S1x1024x128_0_0_1280)) j,
      backs_piece hh x3 x4 0 inb_S1x1024x1408_S1x1024x128_0_0_1280 inb_S2x512x1408_S1x512x128_0_0_1280 _ (fun r => gate_last _ r _ _) j,
      backs_piece hh x3 x4 1 inb_S1x1024x1408_S1x1024x256_0_0_1024 inb_S2x512x1408_S1x512x256_1_0_1024 _ (fun r => value_of _ r _ (wld x4 1024 256 inb_S1x1024x1408_S1x1024x256_0_0_1024)) j,
      backs_piece hh x3 x4 0 inb_S1x1024x1408_S1x1024x256_0_0_1024 inb_S2x512x1408_S1x512x256_0_0_1024 _ (fun r => gate_of _ r _ _) j,
      backs_piece hh x3 x4 1 inb_S1x1024x1408_S1x1024x256_0_0_768 inb_S2x512x1408_S1x512x256_1_0_768 _ (fun r => value_of _ r _ (wld x4 768 256 inb_S1x1024x1408_S1x1024x256_0_0_768)) j,
      backs_piece hh x3 x4 0 inb_S1x1024x1408_S1x1024x256_0_0_768 inb_S2x512x1408_S1x512x256_0_0_768 _ (fun r => gate_of _ r _ _) j,
      backs_piece hh x3 x4 1 inb_S1x1024x1408_S1x1024x256_0_0_512 inb_S2x512x1408_S1x512x256_1_0_512 _ (fun r => value_of _ r _ (wld x4 512 256 inb_S1x1024x1408_S1x1024x256_0_0_512)) j,
      backs_piece hh x3 x4 0 inb_S1x1024x1408_S1x1024x256_0_0_512 inb_S2x512x1408_S1x512x256_0_0_512 _ (fun r => gate_of _ r _ _) j,
      backs_piece hh x3 x4 1 inb_S1x1024x1408_S1x1024x256_0_0_256 inb_S2x512x1408_S1x512x256_1_0_256 _ (fun r => value_of _ r _ (wld x4 256 256 inb_S1x1024x1408_S1x1024x256_0_0_256)) j,
      backs_piece hh x3 x4 0 inb_S1x1024x1408_S1x1024x256_0_0_256 inb_S2x512x1408_S1x512x256_0_0_256 _ (fun r => gate_of _ r _ _) j,
      backs_piece hh x3 x4 1 inb_S1x1024x1408_S1x1024x256_0_0_0 inb_S2x512x1408_S1x512x256_1_0_0 _ (fun r => value_of _ r _ (wld x4 0 256 inb_S1x1024x1408_S1x1024x256_0_0_0)) j,
      backs_piece hh x3 x4 0 inb_S1x1024x1408_S1x1024x256_0_0_0 inb_S2x512x1408_S1x512x256_0_0_0 _ (fun r => gate_of _ r _ _) j]

theorem gated_at (y : S512x1408.Idx) : left7 m c t y = gateds (iblk m c 3 t) (iblk m c 4 t) (row m c t) y := by
  have hh := hblk_at m c t
  unfold left7
  by_cases h : t.val < 9
  on_goal 1 =>
    rw [dif_pos h]
    have hy := coverA_7 m c t h y
    refine (congrFun (View.read_writes_eq_canon _ _ _ (coverA_7 m c t h)) y).trans ?_
    revert hy
    unfold atA runA
  on_goal 2 =>
    rw [dif_neg h]
    have hy := coverB_7 m c t h y
    refine (congrFun (View.read_writes_eq_canon _ _ _ (coverB_7 m c t h)) y).trans ?_
    revert hy
    unfold atB runB
  all_goals
    dsimp only
    sl_unfold_words
    intro hy
    simp only [View.readAt_eq_ld, Memref.IsWhole.read_unread, View.ld_unit_zero (S := S512x1024) Up.hz2] at hy ⊢
    refine View.canon_apply_of_pieces (Val := Elt Ideal) (e := .bf16) (S := S512x1408) (gateds (iblk m c 3 t) (iblk m c 4 t) (row m c t)) _ (fun pc hp j => ?_) y hy
    clear hy
    generalize iblk m c 3 t = x3 at hp ⊢
    generalize iblk m c 4 t = x4 at hp ⊢
    simp only [List.mem_cons, List.not_mem_nil, or_false] at hp
    rcases hp with rfl | rfl | rfl | rfl | rfl | rfl
    exacts [gateds_piece hh x3 x4 inb_S1x1024x1408_S1x1024x128_0_0_1280 inb_S512x1408_S512x128_0_1280 _ (fun r => gated_last _ r _ _) j,
      gateds_piece hh x3 x4 inb_S1x1024x1408_S1x1024x256_0_0_1024 inb_S512x1408_S512x256_0_1024 _ (fun r => gated_of _ r _ _) j,
      gateds_piece hh x3 x4 inb_S1x1024x1408_S1x1024x256_0_0_768 inb_S512x1408_S512x256_0_768 _ (fun r => gated_of _ r _ _) j,
      gateds_piece hh x3 x4 inb_S1x1024x1408_S1x1024x256_0_0_512 inb_S512x1408_S512x256_0_512 _ (fun r => gated_of _ r _ _) j,
      gateds_piece hh x3 x4 inb_S1x1024x1408_S1x1024x256_0_0_256 inb_S512x1408_S512x256_0_256 _ (fun r => gated_of _ r _ _) j,
      gateds_piece hh x3 x4 inb_S1x1024x1408_S1x1024x256_0_0_0 inb_S512x1408_S512x256_0_0 _ (fun r => gated_of _ r _ _) j]

end

/-! ## The arrays -/

section

variable (m : (l : Loc nD τ sig) → Buf (Elt Ideal) l) (c : Dev nD)

abbrev X : ℕ → ℕ → EReal := nat2 (V m c main_arg0)
abbrev G : ℕ → ℕ → EReal := nat2 (V m c main_arg1)
abbrev M : ℕ → ℕ → ℕ → EReal := nat3 (V m c main_arg2)
abbrev W : ℕ → ℕ → ℕ → EReal := nat3 (V m c main_arg3)

/-- The modulated norm of row `r`, and its products with the gate's and the value's weights. -/
abbrev H (r : ℕ) : ℕ → EReal := Up.H (X m c) (G m c) (M m c) 0 (r / 4096) r
abbrev A (r d : ℕ) : EReal := Up.A (X m c) (G m c) (M m c) (W m c) 0 (r / 4096) r d
abbrev U (r d : ℕ) : EReal := Up.U (X m c) (G m c) (M m c) (W m c) 0 (r / 4096) r d

theorem idx : ∀ t : Fin grid0.N, (win0_0.index t 0 = t.val % 9 ∧ win0_0.index t 1 = 0) ∧ (win0_1.index t 0 = 0 ∧ win0_1.index t 1 = 0)
    ∧ (win0_2.index t 0 = (t.val % 9 / 8) ∧ win0_2.index t 1 = 0 ∧ win0_2.index t 2 = 0) ∧ (win0_3.index t 0 = t.val / 9 ∧ win0_3.index t 1 = 0 ∧ win0_3.index t 2 = 0)
    ∧ (win0_4.index t 0 = t.val / 9 + 2 ∧ win0_4.index t 1 = 0 ∧ win0_4.index t 2 = 0) := by decide +kernel

theorem idx_out : ∀ t : Fin grid0.N, (win0_5.index t 0 = min t.val 8 ∧ win0_5.index t 1 = 0) ∧ (win0_6.index t 0 = 0 ∧ win0_6.index t 1 = t.val % 9 ∧ win0_6.index t 2 = t.val / 9)
    ∧ win0_7.index t 0 = t.val % 9 ∧ win0_7.index t 1 = t.val / 9 := by decide +kernel

theorem row_at (t : Fin cfg0.N) (p : Fin 512) (d : Fin 1024) : row m c t p.val d.val = H m c (t.val % 9 * 512 + p.val) d.val := by
  have e1 : ∀ k : Fin 1024, nat2 (iblk m c 1 t) 0 k.val = G m c 0 k.val := fun k => (nat2_ix _ (0 : Fin 3) k).symm.trans
    (nat2_co (V m c main_arg1) _ (((cfg0.win 1).rect_emb_val t _ 0).trans (co (idx t).2.1.1 rfl)) (((cfg0.win 1).rect_emb_val t _ 1).trans (co0 (idx t).2.1.2)))
  have e2 : ∀ (q : Fin 9) (k : Fin 1024), nat3 (iblk m c 2 t) 0 q.val k.val = M m c (t.val % 9 / 8) q.val k.val := fun q k => (nat3_ix _ (0 : Fin 1) q k).symm.trans
    (nat3_co (V m c main_arg2) _ (((cfg0.win 2).rect_emb_val t _ 0).trans (co (idx t).2.2.1.1 (Nat.mul_one _))) (((cfg0.win 2).rect_emb_val t _ 1).trans (co0 (idx t).2.2.1.2.1))
      (((cfg0.win 2).rect_emb_val t _ 2).trans (co0 (idx t).2.2.1.2.2)))
  have es : (t.val % 9 * 512 + p.val) / 4096 = t.val % 9 / 8 := by have := p.isLt; omega
  unfold H
  rw [es]
  exact hn_congr (fun k => (nat2_ix _ p k).symm.trans (nat2_co (V m c main_arg0) _ (((cfg0.win 0).rect_emb_val t _ 0).trans (co (idx t).1.1 rfl)) (((cfg0.win 0).rect_emb_val t _ 1).trans (co0 (idx t).1.2))))
    e1 (e2 0) (e2 1) d

theorem gate_at (t : Fin cfg0.N) (p : Fin 512) (q : Fin 1408) : Up.dot (row m c t p.val) (fun k => nat3 (iblk m c 3 t) 0 k q.val)
    = A m c (t.val % 9 * 512 + p.val) (t.val / 9 * 1408 + q.val) :=
  A_at (row_at m c t p) (fun k q => (nat3_ix _ (0 : Fin 1) k q).symm.trans (nat3_co (V m c main_arg3) _ (((cfg0.win 3).rect_emb_val t _ 0).trans (co (idx t).2.2.2.1.1 (Nat.mul_one _)))
    (((cfg0.win 3).rect_emb_val t _ 1).trans (co0 (idx t).2.2.2.1.2.1)) (((cfg0.win 3).rect_emb_val t _ 2).trans (co0 (idx t).2.2.2.1.2.2)))) q

theorem value_at (t : Fin cfg0.N) (p : Fin 512) (q : Fin 1408) : Up.dot (row m c t p.val) (fun k => nat3 (iblk m c 4 t) 0 k q.val)
    = U m c (t.val % 9 * 512 + p.val) (t.val / 9 * 1408 + q.val) :=
  U_at (row_at m c t p) (fun k q => (nat3_ix _ (0 : Fin 1) k q).symm.trans (nat3_co (V m c main_arg3) _ (((cfg0.win 4).rect_emb_val t _ 0).trans (co (idx t).2.2.2.2.1 (Nat.mul_one _)))
    (((cfg0.win 4).rect_emb_val t _ 1).trans (co0 (idx t).2.2.2.2.2.1)) (((cfg0.win 4).rect_emb_val t _ 2).trans (co0 (idx t).2.2.2.2.2.2)))) q

theorem left5_at (t : Fin cfg0.N) (p : Fin 512) (d : Fin 1024) : left5 m c t (ix2 p d) = H m c (min t.val 8 * 512 + p.val) d.val := by
  unfold left5
  by_cases h : t.val < 9
  · rw [dif_pos h, show min t.val 8 = t.val % 9 by omega]
    exact (norm_at m c t h p d).trans (row_at m c t p d)
  · rw [dif_neg h, show min t.val 8 = 8 by omega]
    exact (norm_at m c _ _ p d).trans (row_at m c ⟨8, by rw [show cfg0.N = 18 from N_0]; decide⟩ p d)

/-- The normed rows' blocks go out at the first sweep's points but its last, and at the run's last point. -/
theorem flush5 : ∀ t : Fin cfg0.N, (t.val < 8 ∨ t.val = 17) → (cfg0.win 5).flush t = true := by decide +kernel

theorem inj5 : ∀ t t' : Fin cfg0.N, (cfg0.win 5).flush t = true → (cfg0.win 5).flush t' = true → win0_5.index t = win0_5.index t' → t = t' := by decide +kernel

theorem inj67 : ∀ t t' : Fin cfg0.N, (win0_6.index t = win0_6.index t' → t = t') ∧ (win0_7.index t = win0_7.index t' → t = t') :=
  (by decide +kernel : ∀ t t' : Fin grid0.N, (win0_6.index t = win0_6.index t' → t = t') ∧ (win0_7.index t = win0_7.index t' → t = t'))

/-- The normed rows the run leaves. -/
theorem result5 (r : Fin 4608) (d : Fin 1024) : (dats m 0 c).arrAt 5 cfg0.N (ix2 r d) = H m c r.val d.val := by
  obtain ⟨t, hf, ht⟩ : ∃ t : Fin cfg0.N, (cfg0.win 5).flush t = true ∧ min t.val 8 = r.val / 512 := by
    have := r.isLt
    by_cases h : r.val / 512 < 8
    · exact ⟨⟨r.val / 512, lt_of_lt_of_eq (by omega) N_0.symm⟩, flush5 _ (.inl h), by show min (r.val / 512) 8 = _; omega⟩
    · exact ⟨⟨17, lt_of_lt_of_eq (by decide) N_0.symm⟩, flush5 _ (.inr rfl), by show min 17 8 = _; omega⟩
  have e : min t.val 8 * 512 + r.val % 512 = r.val := by rw [ht]; exact Nat.div_add_mod' _ _
  have hb := (dats m 0 c).read_blk_arrAt_eq_flushed 5 (fun t t' h h' hne => (cfg0.win 5).disjoint_blk fun e => hne (inj5 t t' h h' e)) cfg0.N t t.isLt hf
  refine Eq.trans (congrArg _ (funext fun a => Fin.ext ?_)) ((congrFun hb (ix2 ⟨r.val % 512, Nat.mod_lt _ (by decide)⟩ d)).trans ((left5_at m c t ⟨r.val % 512, Nat.mod_lt _ (by decide)⟩ d).trans ?_))
  · refine Eq.trans ?_ ((cfg0.win 5).rect_emb_val t _ a).symm
    match a with
    | ⟨0, _⟩ => exact (co (idx_out t).1.1 e).symm
    | ⟨1, _⟩ => exact (co0 (idx_out t).1.2).symm
  · simp only [e]

/-- The point whose block holds row `r` and column `d`. -/
theorem point (r : Fin 4608) (d : Fin 2816) : ∃ (t : Fin cfg0.N) (p : Fin 512) (k : Fin 1408), t.val % 9 * 512 + p.val = r.val ∧ t.val / 9 * 1408 + k.val = d.val := by
  have := r.isLt; have := d.isLt
  refine ⟨⟨d.val / 1408 * 9 + r.val / 512, lt_of_lt_of_eq (by omega) N_0.symm⟩, ⟨r.val % 512, Nat.mod_lt _ (by decide)⟩, ⟨d.val % 1408, Nat.mod_lt _ (by decide)⟩, ?_, ?_⟩
  · show (d.val / 1408 * 9 + r.val / 512) % 9 * 512 + r.val % 512 = r.val; omega
  · show (d.val / 1408 * 9 + r.val / 512) / 9 * 1408 + d.val % 1408 = d.val; omega

/-- The derivatives the run leaves. -/
theorem result6 (q : Fin 2) (r : Fin 4608) (d : Fin 2816) : (dats m 0 c).arrAt 6 cfg0.N (ix3 q r d) = back (A m c r.val d.val) (U m c r.val d.val) q.val := by
  obtain ⟨t, p, k, hr, hd⟩ := point r d
  have hb := (dats m 0 c).read_blk_arrAt_eq_flushed 6 (fun t t' _ _ hne => (cfg0.win 6).disjoint_blk fun e => hne ((inj67 t t').1 e)) cfg0.N t t.isLt (flush0_6 t)
  refine Eq.trans (congrArg _ (funext fun a => Fin.ext ?_)) ((congrFun hb (ix3 q p k)).trans
    ((back_at m c t (ix3 q p k)).trans ((congrArg₂ (back · · q.val) (gate_at m c t p k) (value_at m c t p k)).trans ?_)))
  · refine Eq.trans ?_ ((cfg0.win 6).rect_emb_val t _ a).symm
    match a with
    | ⟨0, _⟩ => exact (co0 (idx_out t).2.1.1).symm
    | ⟨1, _⟩ => exact (co (idx_out t).2.1.2.1 hr).symm
    | ⟨2, _⟩ => exact (co (idx_out t).2.1.2.2 hd).symm
  · simp only [hr, hd]

/-- The products the run leaves. -/
theorem result7 (r : Fin 4608) (d : Fin 2816) : (dats m 0 c).arrAt 7 cfg0.N (ix2 r d) = gated (A m c r.val d.val) (U m c r.val d.val) := by
  obtain ⟨t, p, k, hr, hd⟩ := point r d
  have hb := (dats m 0 c).read_blk_arrAt_eq_flushed 7 (fun t t' _ _ hne => (cfg0.win 7).disjoint_blk fun e => hne ((inj67 t t').2 e)) cfg0.N t t.isLt (flush0_7 t)
  refine Eq.trans (congrArg _ (funext fun a => Fin.ext ?_)) ((congrFun hb (ix2 p k)).trans
    ((gated_at m c t (ix2 p k)).trans ((congrArg₂ gated (gate_at m c t p k) (value_at m c t p k)).trans ?_)))
  · refine Eq.trans ?_ ((cfg0.win 7).rect_emb_val t _ a).symm
    match a with
    | ⟨0, _⟩ => exact (co (idx_out t).2.2.1 hr).symm
    | ⟨1, _⟩ => exact (co (idx_out t).2.2.2 hd).symm
  · simp only [hr, hd]

/-- Every execution ends with these results, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 5 cfg0.N ∧ r.2.mem ((c : Thread nD τ).loc main_v0_1) = (dats m 0 c).arrAt 6 cfg0.N
      ∧ r.2.mem ((c : Thread nD τ).loc main_v0_2) = (dats m 0 c).arrAt 7 cfg0.N
      ∧ r.2.mem ((c : Thread nD τ).loc main_arg0) = m ((c : Thread nD τ).loc main_arg0) ∧ r.2.mem ((c : Thread nD τ).loc main_arg1) = m ((c : Thread nD τ).loc main_arg1)
      ∧ r.2.mem ((c : Thread nD τ).loc main_arg2) = m ((c : Thread nD τ).loc main_arg2) ∧ r.2.mem ((c : Thread nD τ).loc main_arg3) = m ((c : Thread nD τ).loc main_arg3) :=
  (θ_run defs _ _).mono (fun r h c => ⟨(h c).1 5, (h c).1 6, (h c).1 7, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))), ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)

end

end Cert.UpCtxIdeal.Own
-- ==== Proof.UpCtx.lean ====
/-
  The SwiGLU sublayer's first half at 4608 rows: the kernel's results are the reference's.
-/
module

public import proofs.«01_k».proof.Defs
public import proofs.«01_k».proof.Proof.UpCtxBody
public import proofs.«01_k».proof.Proof.Finite
public import proofs.«01_k».proof.Proof.Gen.RefUpCtxIdeal.Run
public import proofs.«01_k».proof.Proof.Gen.Pre_finite_up_ctx

@[expose] public section

set_option maxRecDepth 16384

noncomputable section

namespace Cert.UpCtxIdeal.Own

open Cert.UpCtxIdeal Cert.UpCtxIdeal.Gen Cert.Tn Cert.Rms Cert.Up Cert.Gla Idealize.ShloMosaic Idealize.ShloMosaic.TcCoe Idealize.ShloMosaic.Tactic Idealize.SL.Sem Finset

theorem reals {x : FVec Ideal ⟨2, ![4608, 1024]⟩ .f32} {g : FVec Ideal ⟨2, ![3, 1024]⟩ .f32} {s : FVec Ideal ⟨3, ![2, 9, 1024]⟩ .f32} {w : FVec Ideal ⟨3, ![4, 1024, 1408]⟩ .bf16}
    (h : Cert.Pre_finite_up_ctx.fn (F := Ideal) x g s w = fun _ => 1#1) :
    (∀ i, ∃ r : ℝ, x i = r) ∧ (∀ i, ∃ r : ℝ, g i = r) ∧ (∀ i, ∃ r : ℝ, s i = r) ∧ ∀ i, ∃ r : ℝ, w i = r := by
  have h0 := congrFun h fun a => a.elim0
  obtain ⟨h1, hw⟩ := IntOp.andi_eq_one.1 h0
  obtain ⟨h2, hs⟩ := IntOp.andi_eq_one.1 h1
  obtain ⟨hx, hg⟩ := IntOp.andi_eq_one.1 h2
  exact ⟨real_of_test x _ (fun _ => rfl) _ _ _ _ hx, real_of_test g _ (fun _ => rfl) _ _ _ _ hg, real_of_test s _ (fun _ => rfl) _ _ _ _ hs,
    real_of_test (extf .f32 w (by decide)) _ (fun _ => rfl) _ _ _ _ hw⟩

/-- A row is one of the first stream's, or of the second's. -/
theorem stream (r : Fin 4608) : (r.val < 4096 ∧ r.val / 4096 = 0) ∨ (¬r.val < 4096 ∧ r.val / 4096 = 1 ∧ 4096 + (r.val - 4096) = r.val) := by
  have := r.isLt
  omega

theorem claim : Cert.algebraic_UpCtxIdeal_RefUpCtxIdeal_pre_finite_up_ctx := by
  intro m g m' g' hpre hargs
  refine ⟨fun c => (dats m 0 c).arrAt 5 cfg0.N, fun c => (dats m 0 c).arrAt 6 cfg0.N, fun c => (dats m 0 c).arrAt 7 cfg0.N, run_blocks m g,
    (θ_run _ _ _).mono (fun r h c => ?_) (Cert.RefUpCtxIdeal.Value.run (F := Ideal) m' g')⟩
  obtain ⟨h0, h1, h2, hargs'⟩ := h c
  obtain ⟨a0, a1, a2, a3⟩ := hargs c
  obtain ⟨hx, hg, hs, hw⟩ := reals (hpre c)
  have eX : ∀ (i : Fin 4608) (j : Fin 1024), m' (c.tc.loc Cert.RefUpCtxIdeal.main_arg0) (ix2 i j) = X m c i.val j.val := fun i j => by rw [a0, ← V_main_arg0 m c]; exact nat2_ix _ i j
  have eG : ∀ (i : Fin 3) (j : Fin 1024), m' (c.tc.loc Cert.RefUpCtxIdeal.main_arg1) (ix2 i j) = G m c i.val j.val := fun i j => by rw [a1, ← V_main_arg1 m c]; exact nat2_ix _ i j
  have eM : ∀ (a : Fin 2) (i : Fin 9) (j : Fin 1024), m' (c.tc.loc Cert.RefUpCtxIdeal.main_arg2) (ix3 a i j) = M m c a.val i.val j.val := fun a i j => by
    rw [a2, ← V_main_arg2 m c]; exact nat3_ix _ a i j
  have eW : ∀ (a : Fin 4) (i : Fin 1024) (j : Fin 1408), m' (c.tc.loc Cert.RefUpCtxIdeal.main_arg3) (ix3 a i j) = W m c a.val i.val j.val := fun a i j => by
    rw [a3, ← V_main_arg3 m c]; exact nat3_ix _ a i j
  have rX : ∀ i j, ∃ y : ℝ, X m c i j = y := nat2_real hx
  have rG : ∀ i j, ∃ y : ℝ, G m c i j = y := nat2_real hg
  have rM : ∀ a i j, ∃ y : ℝ, M m c a i j = y := nat3_real hs
  have rW : ∀ a i j, ∃ y : ℝ, W m c a i j = y := nat3_real hw
  refine ⟨h0.trans ?_, h1.trans ?_, h2.trans ?_, hargs'⟩
  · funext i
    obtain ⟨r, d, rfl⟩ : ∃ (r : Fin 4608) (d : Fin 1024), i = ix2 r d := ⟨i 0, i 1, eq_ix2 i⟩
    refine Eq.trans ?_ (result5 m c r d).symm
    pointwise
    simp only [eX, eG, eM]
    obtain ⟨h, e⟩ | ⟨h, e, e'⟩ := stream r
    on_goal 1 => simp only [dif_pos h]
    on_goal 2 => simp only [dif_neg h, e']
    all_goals
      unfold H
      rw [e]
      rfl
  · funext i
    obtain ⟨q, r, d, rfl⟩ : ∃ (q : Fin 2) (r : Fin 4608) (d : Fin 2816), i = ix3 q r d := ⟨i 0, i 1, i 2, eq_ix3 i⟩
    refine Eq.trans ?_ (result6 m c q r d).symm
    unfold Cert.RefUpCtxIdeal.Value.res_main_v68
    pointwise
    simp only [eX, eG, eM, eW, show (2816 + d.val) / 1408 = d.val / 1408 + 2 by omega, show (2816 + d.val) % 1408 = d.val % 1408 by omega]
    obtain ⟨h, e⟩ | ⟨h, e, e'⟩ := stream r
    on_goal 1 => simp only [dif_pos h]
    on_goal 2 => simp only [dif_neg h, e']
    all_goals
      unfold A U
      rw [e]
      obtain rfl | rfl : q = 0 ∨ q = 1 := by omega
      · refine (dif_pos (show (0 : ℕ) < 1 from Nat.one_pos)).trans (Eq.trans ?_ (back_gate (A_real _ _ _ _ rX rG rM rW) (U_real _ _ _ _ rX rG rM rW)))
        simp only [one_mul, sg, zero_sub]
        rfl
      · refine (dif_neg (show ¬(1 : ℕ) < 1 from lt_irrefl _)).trans (Eq.trans ?_ (back_value _ _))
        simp only [mul_one, sg, zero_sub]
        rfl
  · funext i
    obtain ⟨r, d, rfl⟩ : ∃ (r : Fin 4608) (d : Fin 2816), i = ix2 r d := ⟨i 0, i 1, eq_ix2 i⟩
    refine Eq.trans ?_ (result7 m c r d).symm
    unfold Cert.RefUpCtxIdeal.Value.res_main_v69
    pointwise
    simp only [eX, eG, eM, eW, show (2816 + d.val) / 1408 = d.val / 1408 + 2 by omega, show (2816 + d.val) % 1408 = d.val % 1408 by omega]
    obtain ⟨h, e⟩ | ⟨h, e, e'⟩ := stream r
    on_goal 1 => simp only [dif_pos h]
    on_goal 2 => simp only [dif_neg h, e']
    all_goals
      unfold A U
      rw [e]
      simp only [gated, sg, zero_sub]
      rfl

end Cert.UpCtxIdeal.Own
-- ==== Proof.UpSame.lean ====
/-
  The printed programs of the SwiGLU sublayer's first half and their idealized forms are the same texts, so one frame serves both.
-/
module

public import proofs.«01_k».proof.Defs
public import proofs.«01_k».proof.Proof.Gen.Up2
public import proofs.«01_k».proof.Proof.Up2Run
public import proofs.«01_k».proof.Proof.Gen.Up0
public import proofs.«01_k».proof.Proof.Up0Run
public import proofs.«01_k».proof.Proof.Gen.UpCtx
public import proofs.«01_k».proof.Proof.UpCtxRun

@[expose] public section

noncomputable section

open Idealize.ShloMosaic Idealize.SL.Sem

set_option maxHeartbeats 2000000

namespace Cert.Up.Up2

theorem bodies_eq : Cert.Up2.defs₀ (F := Bits) = Cert.Up2Ideal.defs₀ (F := Bits) := by
  refine congrArg Defs.onTc (funext fun l => funext fun a => ?_)
  match l, a with
  | 0, (_, _) => rfl

theorem frame : Cert.quiescent_Up2 := by
  intro m ρ _
  rw [show Cert.Up2.defs (F := Bits) = Cert.Up2Ideal.defs (F := Bits) from congrArg (Pipeline.defs Cert.Up2Ideal.pcfgs) bodies_eq,
    show Cert.Up2.main (F := Bits) = Cert.Up2Ideal.main (F := Bits) from rfl]
  exact Cert.Up2Ideal.Own.frame (F := Bits) m ρ

end Cert.Up.Up2

namespace Cert.Up.Up0

theorem bodies_eq : Cert.Up0.defs₀ (F := Bits) = Cert.Up0Ideal.defs₀ (F := Bits) := by
  refine congrArg Defs.onTc (funext fun l => funext fun a => ?_)
  match l, a with
  | 0, (_, _) => rfl

theorem frame : Cert.quiescent_Up0 := by
  intro m ρ _
  rw [show Cert.Up0.defs (F := Bits) = Cert.Up0Ideal.defs (F := Bits) from congrArg (Pipeline.defs Cert.Up0Ideal.pcfgs) bodies_eq,
    show Cert.Up0.main (F := Bits) = Cert.Up0Ideal.main (F := Bits) from rfl]
  exact Cert.Up0Ideal.Own.frame (F := Bits) m ρ

end Cert.Up.Up0

namespace Cert.Up.UpCtx

theorem bodies_eq : Cert.UpCtx.defs₀ (F := Bits) = Cert.UpCtxIdeal.defs₀ (F := Bits) := by
  refine congrArg Defs.onTc (funext fun l => funext fun a => ?_)
  match l, a with
  | 0, (_, _) => rfl

theorem frame : Cert.quiescent_UpCtx := by
  intro m ρ _
  rw [show Cert.UpCtx.defs (F := Bits) = Cert.UpCtxIdeal.defs (F := Bits) from congrArg (Pipeline.defs Cert.UpCtxIdeal.pcfgs) bodies_eq,
    show Cert.UpCtx.main (F := Bits) = Cert.UpCtxIdeal.main (F := Bits) from rfl]
  exact Cert.UpCtxIdeal.Own.frame (F := Bits) m ρ

end Cert.Up.UpCtx
-- ==== Proof.Dx2Body.lean ====
/-
  The gradient of the norm before the SwiGLU sublayer's first product, at 4096 rows: what the body writes, read at an index.
-/
module

public import proofs.«01_k».proof.Defs
public import proofs.«01_k».proof.Proof.Tn
public import proofs.«01_k».proof.Proof.Rms
public import proofs.«01_k».proof.Proof.Gen.Dx2Ideal.Value
public import Idealize.ShloMosaic.Lib.WholeRead
public import Idealize.ShloMosaic.Lib.WritesUnit

@[expose] public section

set_option maxRecDepth 16384

noncomputable section

namespace Cert.Dx2Ideal.Own

open Cert.Dx2Ideal Cert.Dx2Ideal.Gen Cert.Dx2Ideal.Value Cert.Tn Cert.Rms Idealize.ShloMosaic Idealize.ShloMosaic.TcCoe Idealize.ShloMosaic.Tactic Idealize.SL.Sem Finset

section Body

variable (z0 z1 z2 z3 : Vec Ideal S1x512x1408 .bf16) (w0 w1 w2 w3 : Vec Ideal S1x1024x1408 .bf16)

/-- The body's product with the transposed weights: four column chunks, each the sum of four parts' products. -/
def dhv : FVec Ideal S512x1024 .f32 :=
  k0_pay11 (k0_pay2 z0) (k0_pay3 z1) (k0_pay4 z2) (k0_pay5 z3)
    (k0_pay6 z0 z1 z2 z3 (View.ld w0 (Rect.unit ![0, 0, 0] ![1, 256, 1408] inb_S1x1024x1408_S1x256x1408_0_0_0))
      (View.ld w1 (Rect.unit ![0, 0, 0] ![1, 256, 1408] inb_S1x1024x1408_S1x256x1408_0_0_0))
      (View.ld w2 (Rect.unit ![0, 0, 0] ![1, 256, 1408] inb_S1x1024x1408_S1x256x1408_0_0_0))
      (View.ld w3 (Rect.unit ![0, 0, 0] ![1, 256, 1408] inb_S1x1024x1408_S1x256x1408_0_0_0)))
    (k0_pay8 (k0_pay3 z1) (k0_pay4 z2) (k0_pay5 z3)
      (k0_pay7 z0 (View.ld w0 (Rect.unit ![0, 256, 0] ![1, 256, 1408] inb_S1x1024x1408_S1x256x1408_0_256_0)))
      (View.ld w1 (Rect.unit ![0, 256, 0] ![1, 256, 1408] inb_S1x1024x1408_S1x256x1408_0_256_0))
      (View.ld w2 (Rect.unit ![0, 256, 0] ![1, 256, 1408] inb_S1x1024x1408_S1x256x1408_0_256_0))
      (View.ld w3 (Rect.unit ![0, 256, 0] ![1, 256, 1408] inb_S1x1024x1408_S1x256x1408_0_256_0)))
    (k0_pay9 (k0_pay2 z0) (k0_pay3 z1) (k0_pay4 z2) (k0_pay5 z3)
      (View.ld w0 (Rect.unit ![0, 512, 0] ![1, 256, 1408] inb_S1x1024x1408_S1x256x1408_0_512_0))
      (View.ld w1 (Rect.unit ![0, 512, 0] ![1, 256, 1408] inb_S1x1024x1408_S1x256x1408_0_512_0))
      (View.ld w2 (Rect.unit ![0, 512, 0] ![1, 256, 1408] inb_S1x1024x1408_S1x256x1408_0_512_0))
      (View.ld w3 (Rect.unit ![0, 512, 0] ![1, 256, 1408] inb_S1x1024x1408_S1x256x1408_0_512_0)))
    (k0_pay10 (View.ld w0 (Rect.unit ![0, 768, 0] ![1, 256, 1408] inb_S1x1024x1408_S1x256x1408_0_768_0)))
    (constant S512x256 FTy.f32 0#32)
    (View.ld w1 (Rect.unit ![0, 768, 0] ![1, 256, 1408] inb_S1x1024x1408_S1x256x1408_0_768_0))
    (View.ld w2 (Rect.unit ![0, 768, 0] ![1, 256, 1408] inb_S1x1024x1408_S1x256x1408_0_768_0))
    (View.ld w3 (Rect.unit ![0, 768, 0] ![1, 256, 1408] inb_S1x1024x1408_S1x256x1408_0_768_0))

/-- The columns' sums. -/
def colsum (D : FVec Ideal S512x1024 .f32) : FVec Ideal S1x1024 .f32 :=
  shapeCast S1x1024 (multiReduction .add [0] S1024 D 0x00000000#32 reduces_S512x1024_S1024 (.inl rfl) rfl) shapeCasts_S1024_S1x1024

/-- The four parts' products at row `p` and column `d`. -/
def parts (p : Fin 512) (d : Fin 1024) : EReal :=
  ((∑ k : Fin 1408, z0 (ix3 0 p k) * w0 (ix3 0 d k)) + ∑ k : Fin 1408, z1 (ix3 0 p k) * w1 (ix3 0 d k))
    + (∑ k : Fin 1408, z2 (ix3 0 p k) * w2 (ix3 0 d k)) + ∑ k : Fin 1408, z3 (ix3 0 p k) * w3 (ix3 0 d k)

theorem dhv_at (p : Fin 512) (d : Fin 1024) : dhv z0 z1 z2 z3 w0 w1 w2 w3 (ix2 p d) = parts z0 z1 z2 z3 w0 w1 w2 w3 p d := by
  unfold dhv k0_pay11 k0_pay6 k0_pay8 k0_pay7 k0_pay9 k0_pay10 k0_pay2 k0_pay3 k0_pay4 k0_pay5
  pointwise
  by_cases h0 : d.val < 256
  · exact (dif_pos h0).trans rfl
  refine (dif_neg h0).trans ?_
  by_cases h1 : d.val - 256 < 256
  · refine (dif_pos h1).trans ?_
    have e : ∀ h, (⟨256 + (d.val - 256), h⟩ : Fin 1024) = d := fun h => Fin.ext (by show 256 + (d.val - 256) = d.val; omega)
    simp only [e]
    rfl
  refine (dif_neg h1).trans ?_
  by_cases h2 : d.val - 256 - 256 < 256
  · refine (dif_pos h2).trans ?_
    have e : ∀ h, (⟨512 + (d.val - 256 - 256), h⟩ : Fin 1024) = d := fun h => Fin.ext (by show 512 + (d.val - 256 - 256) = d.val; omega)
    simp only [e]
    rfl
  · refine (dif_neg h2).trans ?_
    have e : ∀ h, (⟨768 + (d.val - 256 - 256 - 256), h⟩ : Fin 1024) = d := fun h => Fin.ext (by show 768 + (d.val - 256 - 256 - 256) = d.val; omega)
    simp only [e]
    rfl

variable (dh : FVec Ideal S512x1024 .f32) (x y : Vec Ideal S512x1024 .f32) (g3 : Vec Ideal S3x1024 .f32) (md : Vec Ideal S1x9x1024 .f32)

theorem inv_at (p : Fin 512) : k0_pay13 x (ix2 p 0) = Ideal.rsqrt (Ideal.div (∑ d : Fin 1024, x (ix2 p d) * x (ix2 p d)) nF + eF) := by
  unfold k0_pay13
  pointwise

variable (gv : Vec Ideal S1x1024 .f32) (sv : Vec Ideal S1x1x1024 .f32)

theorem dx_of (p : Fin 512) (d : Fin 1024) : k0_pay1 (k0_pay18 dh gv (k0_pay12 sv) (k0_pay13 x) (k0_pay14 x)) y (ix2 p d)
    = y (ix2 p d) + k0_pay13 x (ix2 p 0) * (dh (ix2 p d) * (gv (ix2 0 d) * (1 + sv (ix3 0 0 d))) - x (ix2 p d) * k0_pay13 x (ix2 p 0) *
        Ideal.div (∑ e : Fin 1024, dh (ix2 p e) * (gv (ix2 0 e) * (1 + sv (ix3 0 0 e))) * (x (ix2 p e) * k0_pay13 x (ix2 p 0))) nF) := by
  unfold k0_pay1 k0_pay18 k0_pay12 k0_pay14
  pointwise

theorem stats_of (old : Vec Ideal S1x3x1024 .f32) (q : Fin 3) (d : Fin 1024) :
    k0_pay17 dh gv (k0_pay12 sv) (k0_pay14 x) (colsum dh) old (ix3 0 q d)
    = old (ix3 0 q d) + (if q.val < 1 then ∑ p : Fin 512, dh (ix2 p d)
        else if q.val - 1 < 1 then (∑ p : Fin 512, dh (ix2 p d) * (x (ix2 p d) * k0_pay13 x (ix2 p 0))) * gv (ix2 0 d)
        else (∑ p : Fin 512, dh (ix2 p d) * (x (ix2 p d) * k0_pay13 x (ix2 p 0))) * (1 + sv (ix3 0 0 d))) := by
  unfold k0_pay17 k0_pay12 k0_pay14 colsum
  pointwise
  refine congrArg _ ?_
  by_cases h0 : q.val < 1
  · exact (dif_pos h0).trans (if_pos h0).symm
  refine (dif_neg h0).trans (Eq.trans ?_ (if_neg h0).symm)
  by_cases h1 : q.val - 1 < 1
  · refine (dif_pos h1).trans (Eq.trans ?_ (if_pos h1).symm)
    have e : ∀ h, (⟨q.val - 1, h⟩ : Fin 1) = 0 := fun h => Fin.ext (by show q.val - 1 = 0; omega)
    simp only [e]
  · exact (dif_neg h1).trans (if_neg h1).symm

/-- The row of norm weights the body reads. -/
abbrev gld : Vec Ideal S1x1024 .f32 := View.ld g3 (Rect.unit ![2, 0] ![1, 1024] inb_S3x1024_S1x1024_2_0)

/-- The row of scales the body reads. -/
abbrev sld : FVec Ideal S1x1024 .f32 := k0_pay12 (View.ld md (Rect.unit ![0, 7, 0] ![1, 1, 1024] inb_S1x9x1024_S1x1x1024_0_7_0))

theorem dx_at (p : Fin 512) (d : Fin 1024) : k0_pay1 (k0_pay18 dh (gld g3) (sld md) (k0_pay13 x) (k0_pay14 x)) y (ix2 p d)
    = y (ix2 p d) + k0_pay13 x (ix2 p 0) * (dh (ix2 p d) * (g3 (ix2 2 d) * (1 + md (ix3 0 7 d))) - x (ix2 p d) * k0_pay13 x (ix2 p 0) *
        Ideal.div (∑ e : Fin 1024, dh (ix2 p e) * (g3 (ix2 2 e) * (1 + md (ix3 0 7 e))) * (x (ix2 p e) * k0_pay13 x (ix2 p 0))) nF) := by
  refine (dx_of dh x y (gld g3) _ p d).trans ?_
  unfold gld
  pointwise

theorem stats_at (old : Vec Ideal S1x3x1024 .f32) (q : Fin 3) (d : Fin 1024) :
    k0_pay17 dh (gld g3) (sld md) (k0_pay14 x) (colsum dh) old (ix3 0 q d)
    = old (ix3 0 q d) + (if q.val < 1 then ∑ p : Fin 512, dh (ix2 p d)
        else if q.val - 1 < 1 then (∑ p : Fin 512, dh (ix2 p d) * (x (ix2 p d) * k0_pay13 x (ix2 p 0))) * g3 (ix2 2 d)
        else (∑ p : Fin 512, dh (ix2 p d) * (x (ix2 p d) * k0_pay13 x (ix2 p 0))) * (1 + md (ix3 0 7 d))) := by
  refine (stats_of dh x (gld g3) _ old q d).trans ?_
  unfold gld
  pointwise

theorem zeros_at (j : S2x3x1024.Idx) : k0_pay16 (F := Ideal) j = 0 := by
  unfold k0_pay16
  pointwise

end Body

variable (m : (l : Loc nD τ sig) → Buf (Elt Ideal) l) (c : Dev nD)

abbrev Z : ℕ → ℕ → ℕ → EReal := nat3 (V m c main_arg0)
abbrev W : ℕ → ℕ → ℕ → EReal := nat3 (V m c main_arg1)
abbrev X : ℕ → ℕ → EReal := nat2 (V m c main_arg2)
abbrev D : ℕ → ℕ → EReal := nat2 (V m c main_arg3)
abbrev G : ℕ → ℕ → EReal := nat2 (V m c main_arg4)
abbrev M : ℕ → ℕ → ℕ → EReal := nat3 (V m c main_arg5)

/-- The body's product at a point. -/
abbrev dhp (t : Fin cfg0.N) : FVec Ideal S512x1024 .f32 :=
  dhv (iblk m c 0 t) (iblk m c 2 t) (iblk m c 4 t) (iblk m c 6 t) (iblk m c 1 t) (iblk m c 3 t) (iblk m c 5 t) (iblk m c 7 t)

/-- Where the body adds its part of the parameters' gradients: stream 0 at each of the eight points. -/
theorem off_eq : ∀ t : Fin cfg0.N, ![BitVec.toNat (Scalar.indexCast (Scalar.select (Scalar.cmpi CmpIPredicate.sge (BitVec.ofNat 32 (grid0.coords t 0).val) 8#32) 1#32 0#32)), 0, 0] = ![0, 0, 0] := by
  decide +kernel

theorem lt_eq : ∀ t : Fin cfg0.N, Scalar.cmpi CmpIPredicate.slt (BitVec.ofNat 32 (grid0.coords t 0).val) 8#32 = 1#1 := by
  decide +kernel

theorem add_eq (t : Fin cfg0.N) (y : Vec Ideal S512x1024 .f32) : k0_pay19 (BitVec.ofNat 32 (grid0.coords t 0).val) y = y := by
  unfold k0_pay19
  dsimp only
  rw [lt_eq t]
  rfl

theorem rows_eq (t : Fin cfg0.N) : (outsAt0 m c t.val t.isLt).1
    = k0_pay1 (k0_pay18 (dhp m c t) (gld (iblk m c 10 t)) (sld (iblk m c 11 t)) (k0_pay13 (iblk m c 8 t)) (k0_pay14 (iblk m c 8 t))) (iblk m c 9 t) := by
  by_cases h0 : t.val % 8 = 0
  · rw [outsAt0_A m c t h0]
    dsimp only
    unfold out0_A_12
    refine (View.read_writes_eq_canon _ _ _ (fun y => cover0_A_12 ..)).trans ?_
    unfold kernelRun0_A
    dsimp only
    sl_unfold_words
    simp only [View.canon_cons_unit_zero (S := S512x1024) hz2, View.readAt_eq_ld, Memref.IsWhole.read_unread,
      View.ld_unit_zero (S := S512x1024) hz2, View.ld_unit_zero (S := S1x512x1408) hz3, add_eq]
    rfl
  · rw [outsAt0_B m c t h0]
    dsimp only
    unfold out0_B_12
    refine (View.read_writes_eq_canon _ _ _ (fun y => cover0_B_12 ..)).trans ?_
    unfold kernelRun0_B
    dsimp only
    sl_unfold_words
    simp only [View.canon_cons_unit_zero (S := S512x1024) hz2, View.readAt_eq_ld, Memref.IsWhole.read_unread,
      View.ld_unit_zero (S := S512x1024) hz2, View.ld_unit_zero (S := S1x512x1408) hz3, add_eq]
    rfl

theorem first_eq (t : Fin cfg0.N) (h0 : t.val % 8 = 0) (q : Fin 3) (d : Fin 1024) : (outsAt0 m c t.val t.isLt).2 (ix3 0 q d)
    = k0_pay17 (dhp m c t) (gld (iblk m c 10 t)) (sld (iblk m c 11 t)) (k0_pay14 (iblk m c 8 t)) (colsum (dhp m c t)) (fun _ => 0) (ix3 0 q d) := by
  rw [outsAt0_A m c t h0]
  dsimp only
  unfold out0_A_13
  unfold kernelRun0_A
  dsimp only
  sl_unfold_words
  refine (View.read_writes_cons_unit_of_mem _ _ _ _ _ _ (ix3 0 q d) (off_eq t) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread,
    View.ld_unit_zero (S := S512x1024) hz2, View.ld_unit_zero (S := S1x512x1408) hz3, View.readCov_eq_canon', View.canon_cons_unit_zero (S := S2x3x1024) hz3, zeros_at]
  rfl

theorem first_zero (t : Fin cfg0.N) (h0 : t.val % 8 = 0) (q : Fin 3) (d : Fin 1024) : (outsAt0 m c t.val t.isLt).2 (ix3 1 q d) = 0 := by
  rw [outsAt0_A m c t h0]
  dsimp only
  unfold out0_A_13
  unfold kernelRun0_A
  dsimp only
  sl_unfold_words
  refine (View.read_writes_cons_unit_of_not_mem _ _ _ _ _ (ix3 1 q d) (off_eq t) 0 (.inr (le_refl 1))).trans ?_
  refine (View.read_writes_junk_apply_eq_canon _ _ _).trans ?_
  rw [View.canon_cons_unit_zero (S := S2x3x1024) hz3, zeros_at]

theorem next_eq (n : ℕ) (hn : n + 1 < cfg0.N) (q : Fin 3) (d : Fin 1024) : (outsAt0 m c (n + 1) hn).2 (ix3 0 q d)
    = k0_pay17 (dhp m c ⟨n + 1, hn⟩) (gld (iblk m c 10 ⟨n + 1, hn⟩)) (sld (iblk m c 11 ⟨n + 1, hn⟩)) (k0_pay14 (iblk m c 8 ⟨n + 1, hn⟩)) (colsum (dhp m c ⟨n + 1, hn⟩))
        (fun j => (outsAt0 m c n (Nat.lt_of_succ_lt hn)).2 (ix3 0 (j 1) (j 2))) (ix3 0 q d) := by
  have hN : cfg0.N = 8 := N_0
  rw [show outsAt0 m c (n + 1) hn = _ from outsAt0_B m c ⟨n + 1, hn⟩ (by show ¬(n + 1) % 8 = 0; omega)]
  dsimp only
  unfold out0_B_13
  unfold kernelRun0_B
  dsimp only
  sl_unfold_words
  refine (View.read_writes_cons_unit_of_mem _ _ _ _ _ _ (ix3 0 q d) (off_eq ⟨n + 1, hn⟩) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread, View.ld_unit_zero (S := S512x1024) hz2, View.ld_unit_zero (S := S1x512x1408) hz3]
  refine congrArg (fun o => k0_pay17 (dhp m c ⟨n + 1, hn⟩) (gld (iblk m c 10 ⟨n + 1, hn⟩)) (sld (iblk m c 11 ⟨n + 1, hn⟩)) (k0_pay14 (iblk m c 8 ⟨n + 1, hn⟩))
    (colsum (dhp m c ⟨n + 1, hn⟩)) o (ix3 0 q d)) (funext fun j => ?_)
  refine View.ld_unit_apply_of _ _ _ _ j (ix3 0 (j 1) (j 2)) fun a => Eq.trans ?_ (congrArg (· + (j a).val) (congrFun (off_eq ⟨n + 1, hn⟩) a)).symm
  match a with
  | ⟨0, _⟩ => have := (j 0).isLt; show 0 = 0 + (j 0).val; exact (show 0 = 0 + (j 0).val by have : (j 0).val < 1 := (j 0).isLt; omega)
  | ⟨1, _⟩ => exact (Nat.zero_add _).symm
  | ⟨2, _⟩ => exact (Nat.zero_add _).symm

theorem next_zero (n : ℕ) (hn : n + 1 < cfg0.N) (q : Fin 3) (d : Fin 1024) :
    (outsAt0 m c (n + 1) hn).2 (ix3 1 q d) = (outsAt0 m c n (Nat.lt_of_succ_lt hn)).2 (ix3 1 q d) := by
  have hN : cfg0.N = 8 := N_0
  rw [show outsAt0 m c (n + 1) hn = _ from outsAt0_B m c ⟨n + 1, hn⟩ (by show ¬(n + 1) % 8 = 0; omega)]
  dsimp only
  unfold out0_B_13
  unfold kernelRun0_B
  dsimp only
  sl_unfold_words
  refine (View.read_writes_cons_unit_of_not_mem _ _ _ _ _ (ix3 1 q d) (off_eq ⟨n + 1, hn⟩) 0 (.inr (le_refl 1))).trans ?_
  exact congrFun ((hs0_13 ⟨n + 1, hn⟩).read_unread _) _

theorem idxZ : ∀ t : Fin grid0.N, (win0_0.index t 0 = 0 ∧ win0_0.index t 1 = t.val ∧ win0_0.index t 2 = 0) ∧ (win0_2.index t 0 = 0 ∧ win0_2.index t 1 = t.val ∧ win0_2.index t 2 = 1)
    ∧ (win0_4.index t 0 = 1 ∧ win0_4.index t 1 = t.val ∧ win0_4.index t 2 = 0) ∧ (win0_6.index t 0 = 1 ∧ win0_6.index t 1 = t.val ∧ win0_6.index t 2 = 1) := by decide +kernel

theorem idxW : ∀ t : Fin grid0.N, (win0_1.index t 0 = 0 ∧ win0_1.index t 1 = 0 ∧ win0_1.index t 2 = 0) ∧ (win0_3.index t 0 = 1 ∧ win0_3.index t 1 = 0 ∧ win0_3.index t 2 = 0)
    ∧ (win0_5.index t 0 = 2 ∧ win0_5.index t 1 = 0 ∧ win0_5.index t 2 = 0) ∧ (win0_7.index t 0 = 3 ∧ win0_7.index t 1 = 0 ∧ win0_7.index t 2 = 0) := by decide +kernel

theorem idxR : ∀ t : Fin grid0.N, (win0_8.index t 0 = t.val ∧ win0_8.index t 1 = 0) ∧ (win0_9.index t 0 = t.val ∧ win0_9.index t 1 = 0) ∧ (win0_10.index t 0 = 0 ∧ win0_10.index t 1 = 0)
    ∧ (win0_11.index t 0 = 0 ∧ win0_11.index t 1 = 0 ∧ win0_11.index t 2 = 0) := by decide +kernel

theorem read0 (t : Fin cfg0.N) (p : Fin 512) (k : Fin 1408) : iblk m c 0 t (ix3 0 p k) = Z m c 0 (t.val * 512 + p.val) (k.val) :=
  nat3_co (V m c main_arg0) _ (((cfg0.win 0).rect_emb_val t _ 0).trans (co (idxZ t).1.1 rfl)) (((cfg0.win 0).rect_emb_val t _ 1).trans (co (idxZ t).1.2.1 rfl))
    (((cfg0.win 0).rect_emb_val t _ 2).trans (co (idxZ t).1.2.2 (by rw [zero_mul, zero_add]; rfl)))

theorem read1 (t : Fin cfg0.N) (d : Fin 1024) (k : Fin 1408) : iblk m c 1 t (ix3 0 d k) = W m c 0 d.val k.val :=
  nat3_co (V m c main_arg1) _ (((cfg0.win 1).rect_emb_val t _ 0).trans (co (idxW t).1.1 rfl)) (((cfg0.win 1).rect_emb_val t _ 1).trans (co (idxW t).1.2.1 (by rw [zero_mul, zero_add]; rfl)))
    (((cfg0.win 1).rect_emb_val t _ 2).trans (co (idxW t).1.2.2 (by rw [zero_mul, zero_add]; rfl)))

theorem read2 (t : Fin cfg0.N) (p : Fin 512) (k : Fin 1408) : iblk m c 2 t (ix3 0 p k) = Z m c 0 (t.val * 512 + p.val) (1408 + k.val) :=
  nat3_co (V m c main_arg0) _ (((cfg0.win 2).rect_emb_val t _ 0).trans (co (idxZ t).2.1.1 rfl)) (((cfg0.win 2).rect_emb_val t _ 1).trans (co (idxZ t).2.1.2.1 rfl))
    (((cfg0.win 2).rect_emb_val t _ 2).trans (co (idxZ t).2.1.2.2 (by rw [one_mul]; rfl)))

theorem read3 (t : Fin cfg0.N) (d : Fin 1024) (k : Fin 1408) : iblk m c 3 t (ix3 0 d k) = W m c 1 d.val k.val :=
  nat3_co (V m c main_arg1) _ (((cfg0.win 3).rect_emb_val t _ 0).trans (co (idxW t).2.1.1 rfl)) (((cfg0.win 3).rect_emb_val t _ 1).trans (co (idxW t).2.1.2.1 (by rw [zero_mul, zero_add]; rfl)))
    (((cfg0.win 3).rect_emb_val t _ 2).trans (co (idxW t).2.1.2.2 (by rw [zero_mul, zero_add]; rfl)))

theorem read4 (t : Fin cfg0.N) (p : Fin 512) (k : Fin 1408) : iblk m c 4 t (ix3 0 p k) = Z m c 1 (t.val * 512 + p.val) (k.val) :=
  nat3_co (V m c main_arg0) _ (((cfg0.win 4).rect_emb_val t _ 0).trans (co (idxZ t).2.2.1.1 rfl)) (((cfg0.win 4).rect_emb_val t _ 1).trans (co (idxZ t).2.2.1.2.1 rfl))
    (((cfg0.win 4).rect_emb_val t _ 2).trans (co (idxZ t).2.2.1.2.2 (by rw [zero_mul, zero_add]; rfl)))

theorem read5 (t : Fin cfg0.N) (d : Fin 1024) (k : Fin 1408) : iblk m c 5 t (ix3 0 d k) = W m c 2 d.val k.val :=
  nat3_co (V m c main_arg1) _ (((cfg0.win 5).rect_emb_val t _ 0).trans (co (idxW t).2.2.1.1 rfl)) (((cfg0.win 5).rect_emb_val t _ 1).trans (co (idxW t).2.2.1.2.1 (by rw [zero_mul, zero_add]; rfl)))
    (((cfg0.win 5).rect_emb_val t _ 2).trans (co (idxW t).2.2.1.2.2 (by rw [zero_mul, zero_add]; rfl)))

theorem read6 (t : Fin cfg0.N) (p : Fin 512) (k : Fin 1408) : iblk m c 6 t (ix3 0 p k) = Z m c 1 (t.val * 512 + p.val) (1408 + k.val) :=
  nat3_co (V m c main_arg0) _ (((cfg0.win 6).rect_emb_val t _ 0).trans (co (idxZ t).2.2.2.1 rfl)) (((cfg0.win 6).rect_emb_val t _ 1).trans (co (idxZ t).2.2.2.2.1 rfl))
    (((cfg0.win 6).rect_emb_val t _ 2).trans (co (idxZ t).2.2.2.2.2 (by rw [one_mul]; rfl)))

theorem read7 (t : Fin cfg0.N) (d : Fin 1024) (k : Fin 1408) : iblk m c 7 t (ix3 0 d k) = W m c 3 d.val k.val :=
  nat3_co (V m c main_arg1) _ (((cfg0.win 7).rect_emb_val t _ 0).trans (co (idxW t).2.2.2.1 rfl)) (((cfg0.win 7).rect_emb_val t _ 1).trans (co (idxW t).2.2.2.2.1 (by rw [zero_mul, zero_add]; rfl)))
    (((cfg0.win 7).rect_emb_val t _ 2).trans (co (idxW t).2.2.2.2.2 (by rw [zero_mul, zero_add]; rfl)))

theorem read8 (t : Fin cfg0.N) (p : Fin 512) (d : Fin 1024) : iblk m c 8 t (ix2 p d) = X m c (t.val * 512 + p.val) d.val :=
  nat2_co (V m c main_arg2) _ (((cfg0.win 8).rect_emb_val t _ 0).trans (co (idxR t).1.1 rfl)) (((cfg0.win 8).rect_emb_val t _ 1).trans (co (idxR t).1.2 (by rw [zero_mul, zero_add]; rfl)))

theorem read9 (t : Fin cfg0.N) (p : Fin 512) (d : Fin 1024) : iblk m c 9 t (ix2 p d) = D m c (t.val * 512 + p.val) d.val :=
  nat2_co (V m c main_arg3) _ (((cfg0.win 9).rect_emb_val t _ 0).trans (co (idxR t).2.1.1 rfl)) (((cfg0.win 9).rect_emb_val t _ 1).trans (co (idxR t).2.1.2 (by rw [zero_mul, zero_add]; rfl)))

theorem read10 (t : Fin cfg0.N) (d : Fin 1024) : iblk m c 10 t (ix2 2 d) = G m c 2 d.val :=
  nat2_co (V m c main_arg4) _ (((cfg0.win 10).rect_emb_val t _ 0).trans (co (idxR t).2.2.1.1 rfl)) (((cfg0.win 10).rect_emb_val t _ 1).trans (co (idxR t).2.2.1.2 (by rw [zero_mul, zero_add]; rfl)))

theorem read11 (t : Fin cfg0.N) (d : Fin 1024) : iblk m c 11 t (ix3 0 7 d) = M m c 0 7 d.val :=
  nat3_co (V m c main_arg5) _ (((cfg0.win 11).rect_emb_val t _ 0).trans (co (idxR t).2.2.2.1 rfl)) (((cfg0.win 11).rect_emb_val t _ 1).trans (co (idxR t).2.2.2.2.1 rfl))
    (((cfg0.win 11).rect_emb_val t _ 2).trans (co (idxR t).2.2.2.2.2 (by rw [zero_mul, zero_add]; rfl)))

/-- A row of the product with the transposed weights. -/
abbrev H (r d : ℕ) : EReal := dhK (Z m c) (W m c) r d

theorem dhp_at (t : Fin cfg0.N) (p : Fin 512) (d : Fin 1024) : dhp m c t (ix2 p d) = H m c (t.val * 512 + p.val) d.val := by
  refine (dhv_at _ _ _ _ _ _ _ _ p d).trans ?_
  unfold parts
  simp only [read0, read1, read2, read3, read4, read5, read6, read7]
  rfl

theorem invp_at (t : Fin cfg0.N) (p : Fin 512) : k0_pay13 (iblk m c 8 t) (ix2 p 0) = inv (X m c (t.val * 512 + p.val)) := by
  refine (inv_at (iblk m c 8 t) p).trans ?_
  simp only [read8]
  rfl

/-- A row of what a point writes. -/
theorem row_at (t : Fin cfg0.N) (p : Fin 512) (d : Fin 1024) : (outsAt0 m c t.val t.isLt).1 (ix2 p d)
    = D m c (t.val * 512 + p.val) d.val + rowK (H m c (t.val * 512 + p.val)) (X m c (t.val * 512 + p.val)) (G m c 2) (M m c 0 7) d.val := by
  rw [rows_eq]
  refine (dx_at _ _ _ _ _ p d).trans ?_
  simp only [dhp_at, invp_at, read8, read9, read10, read11]
  rfl

theorem tile_at (t : Fin cfg0.N) (old : Vec Ideal S1x3x1024 .f32) (q : Fin 3) (d : Fin 1024) :
    k0_pay17 (dhp m c t) (gld (iblk m c 10 t)) (sld (iblk m c 11 t)) (k0_pay14 (iblk m c 8 t)) (colsum (dhp m c t)) old (ix3 0 q d)
      = old (ix3 0 q d) + tile (H m c) (X m c) (G m c 2) (M m c 0 7) q d.val t.val := by
  refine (stats_at _ _ _ _ old q d).trans ?_
  simp only [dhp_at, invp_at, read8, read10, read11]
  rfl

theorem sum_at (n : ℕ) (hn : n < cfg0.N) (q : Fin 3) (d : Fin 1024) :
    (outsAt0 m c n hn).2 (ix3 0 q d) = ∑ i ∈ range (n + 1), tile (H m c) (X m c) (G m c 2) (M m c 0 7) q d.val i ∧ (outsAt0 m c n hn).2 (ix3 1 q d) = 0 := by
  induction n with
  | zero =>
    refine ⟨(first_eq m c ⟨0, hn⟩ rfl q d).trans ((tile_at m c ⟨0, hn⟩ _ q d).trans ?_), first_zero m c ⟨0, hn⟩ rfl q d⟩
    rw [sum_range_succ, range_zero, sum_empty]
  | succ n ih =>
    obtain ⟨h0, h1⟩ := ih (Nat.lt_of_succ_lt hn)
    refine ⟨(next_eq m c n hn q d).trans ((tile_at m c ⟨n + 1, hn⟩ _ q d).trans ?_), (next_zero m c n hn q d).trans h1⟩
    rw [sum_range_succ _ (n + 1), ← h0]
    rfl

theorem idxO : ∀ t : Fin grid0.N, (win0_12.index t 0 = t.val ∧ win0_12.index t 1 = 0) ∧ win0_13.index t 0 = 0 ∧ win0_13.index t 1 = 0 ∧ win0_13.index t 2 = 0 := by decide +kernel

/-- The rows the run leaves. -/
theorem result0 (r : Fin 4096) (d : Fin 1024) : (dats m 0 c).arrAt 12 cfg0.N (ix2 r d)
    = D m c r.val d.val + rowK (H m c r.val) (X m c r.val) (G m c 2) (M m c 0 7) d.val := by
  have hr : r.val / 512 < cfg0.N := lt_of_lt_of_eq (by have := r.isLt; omega) N_0.symm
  have e : r.val / 512 * 512 + r.val % 512 = r.val := Nat.div_add_mod' _ _
  refine Eq.trans (congrArg _ (funext fun a => Fin.ext ?_)) ((congrFun ((blocks12 m c ⟨r.val / 512, hr⟩ (flush0_12 _)).trans (flushed12 m c ⟨r.val / 512, hr⟩))
    (ix2 ⟨r.val % 512, Nat.mod_lt _ (by decide)⟩ d)).trans ((row_at m c ⟨r.val / 512, hr⟩ ⟨r.val % 512, Nat.mod_lt _ (by decide)⟩ d).trans ?_))
  · refine Eq.trans ?_ ((cfg0.win 12).rect_emb_val ⟨r.val / 512, hr⟩ _ a).symm
    match a with
    | ⟨0, _⟩ => exact (co (idxO ⟨r.val / 512, hr⟩).1.1 e).symm
    | ⟨1, _⟩ => exact (co (idxO ⟨r.val / 512, hr⟩).1.2 (by rw [zero_mul, zero_add]; rfl)).symm
  · dsimp only
    rw [e]

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => absurd (Fin.ext (by
    have hN : cfg0.N = 8 := N_0
    have := (flush0_13 t).mp h
    have := (flush0_13 t').mp h'
    omega)) hne

/-- The parameters' gradients the run leaves. -/
theorem result1 (s : Fin 2) (q : Fin 3) (d : Fin 1024) : (dats m 0 c).arrAt 13 cfg0.N (ix3 s q d) = (outsAt0 m c 7 (by decide)).2 (ix3 s q d) := by
  have hb := (dats m 0 c).read_blk_arrAt_eq_flushed 13 disjoint13 cfg0.N ⟨7, by decide⟩ (by decide) ((flush0_13 ⟨7, by decide⟩).mpr rfl)
  refine Eq.trans (congrArg _ (funext fun a => Fin.ext ?_)) (congrFun (hb.trans (flushed13 m c ⟨7, by decide⟩)) (ix3 s q d))
  refine Eq.trans ?_ ((cfg0.win 13).rect_emb_val ⟨7, by decide⟩ _ a).symm
  match a with
  | ⟨0, _⟩ => exact (co (idxO ⟨7, by decide⟩).2.1 (by rw [zero_mul, zero_add])).symm
  | ⟨1, _⟩ => exact (co (idxO ⟨7, by decide⟩).2.2.1 (by rw [zero_mul, zero_add])).symm
  | ⟨2, _⟩ => exact (co (idxO ⟨7, by decide⟩).2.2.2 (by rw [zero_mul, zero_add])).symm

end Cert.Dx2Ideal.Own
-- ==== Proof.RefDx.lean ====
/-
  The derivative of the norm before the SwiGLU sublayer's first product, read at an index.
-/
module

public import proofs.«01_k».proof.Defs
public import proofs.«01_k».proof.Proof.Rms
public import proofs.«01_k».proof.Proof.Gen.RefDx2Ideal.Run

@[expose] public section

set_option maxRecDepth 16384

noncomputable section

namespace Cert.RefDx2Ideal.Own

open Cert.RefDx2Ideal Cert.RefDx2Ideal.Value Cert.Tn Cert.Rms Idealize.ShloMosaic Idealize.ShloMosaic.TcCoe Idealize.ShloMosaic.Tactic Idealize.SL.Sem Finset

variable (m : (l : Loc nD τ sig) → Buf (Elt Ideal) l) (c : Dev nD)

theorem dz_ix (a : Fin 2) (i : Fin 4096) (j : Fin 2816) : m (c.tc.loc main_arg0) (ix3 a i j) = nat3 (m (c.tc.loc main_arg0)) a.val i.val j.val := nat3_ix _ a i j
theorem w_ix (a : Fin 4) (i : Fin 1024) (j : Fin 1408) : m (c.tc.loc main_arg1) (ix3 a i j) = nat3 (m (c.tc.loc main_arg1)) a.val i.val j.val := nat3_ix _ a i j
theorem x_ix (i : Fin 4096) (j : Fin 1024) : m (c.tc.loc main_arg2) (ix2 i j) = nat2 (m (c.tc.loc main_arg2)) i.val j.val := nat2_ix _ i j
theorem d_ix (i : Fin 4096) (j : Fin 1024) : m (c.tc.loc main_arg3) (ix2 i j) = nat2 (m (c.tc.loc main_arg3)) i.val j.val := nat2_ix _ i j
theorem g_ix (i : Fin 3) (j : Fin 1024) : m (c.tc.loc main_arg4) (ix2 i j) = nat2 (m (c.tc.loc main_arg4)) i.val j.val := nat2_ix _ i j
theorem m_ix (a : Fin 2) (i : Fin 9) (j : Fin 1024) : m (c.tc.loc main_arg5) (ix3 a i j) = nat3 (m (c.tc.loc main_arg5)) a.val i.val j.val := nat3_ix _ a i j

abbrev H (r d : ℕ) : EReal := dhR (nat3 (m (c.tc.loc main_arg0))) (nat3 (m (c.tc.loc main_arg1))) r d

theorem rows_at (r : Fin 4096) (d : Fin 1024) : res_out0 (F := Ideal) m c (ix2 r d)
    = nat2 (m (c.tc.loc main_arg3)) r.val d.val + rowR (H m c r.val) (nat2 (m (c.tc.loc main_arg2)) r.val) (nat2 (m (c.tc.loc main_arg4)) 2) (nat3 (m (c.tc.loc main_arg5)) 0 7) d.val := by
  unfold res_out0 res_main_v74
  pointwise
  simp only [dz_ix, w_ix, x_ix, d_ix, g_ix, m_ix]
  rfl

theorem grads_at (q : Fin 3) (d : Fin 1024) : res_out1 (F := Ideal) m c (ix3 0 q d)
    = grads 4096 (H m c) (nat2 (m (c.tc.loc main_arg2))) (nat2 (m (c.tc.loc main_arg4)) 2) (nat3 (m (c.tc.loc main_arg5)) 0 7) q d.val := by
  unfold res_out1 res_main_v78
  pointwise
  simp only [dz_ix, w_ix, x_ix, d_ix, g_ix, m_ix]
  rfl

theorem zeros_at (q : Fin 3) (d : Fin 1024) : res_out1 (F := Ideal) m c (ix3 1 q d) = (0 : EReal) := by
  unfold res_out1 res_main_v78
  pointwise
  split <;> [skip; split] <;> simp

end Cert.RefDx2Ideal.Own
-- ==== Proof.Dx2.lean ====
/-
  The gradient of the norm before the SwiGLU sublayer's first product, at 4096 rows: the body's tiles are the derivative's rows.
-/
module

public import proofs.«01_k».proof.Proof.Dx2Body
public import proofs.«01_k».proof.Proof.RefDx
public import proofs.«01_k».proof.Proof.Finite
public import proofs.«01_k».proof.Proof.Gen.Dx2.Frame
public import proofs.«01_k».proof.Proof.Gen.Pre_finite_dx

@[expose] public section

set_option maxRecDepth 16384

noncomputable section

namespace Cert.Dx2Ideal.Own

open Cert.Dx2Ideal Cert.Dx2Ideal.Gen Cert.Dx2Ideal.Value Cert.Tn Cert.Rms Cert.Gla Idealize.ShloMosaic Idealize.ShloMosaic.TcCoe Idealize.ShloMosaic.Tactic Idealize.SL.Sem Finset

theorem reals {z : FVec Ideal ⟨3, ![2, 4096, 2816]⟩ .bf16} {w : FVec Ideal ⟨3, ![4, 1024, 1408]⟩ .bf16} {x y : FVec Ideal ⟨2, ![4096, 1024]⟩ .f32}
    {g : FVec Ideal ⟨2, ![3, 1024]⟩ .f32} {s : FVec Ideal ⟨3, ![2, 9, 1024]⟩ .f32} (h : Cert.Pre_finite_dx.fn (F := Ideal) z w x y g s = fun _ => 1#1) :
    (∀ i, ∃ r : ℝ, z i = r) ∧ (∀ i, ∃ r : ℝ, w i = r) ∧ (∀ i, ∃ r : ℝ, x i = r) ∧ (∀ i, ∃ r : ℝ, g i = r) ∧ ∀ i, ∃ r : ℝ, s i = r := by
  have h0 := congrFun h fun a => a.elim0
  obtain ⟨h1, hs⟩ := IntOp.andi_eq_one.1 h0
  obtain ⟨h2, hg⟩ := IntOp.andi_eq_one.1 h1
  obtain ⟨h3, hx⟩ := IntOp.andi_eq_one.1 h2
  obtain ⟨hz, hw⟩ := IntOp.andi_eq_one.1 h3
  exact ⟨real_of_test (extf .f32 z (by decide)) _ (fun _ => rfl) _ _ _ _ hz, real_of_test (extf .f32 w (by decide)) _ (fun _ => rfl) _ _ _ _ hw,
    real_of_test x _ (fun _ => rfl) _ _ _ _ hx, real_of_test g _ (fun _ => rfl) _ _ _ _ hg, real_of_test s _ (fun _ => rfl) _ _ _ _ hs⟩

theorem claim : Cert.algebraic_Dx2Ideal_RefDx2Ideal_pre_finite_dx := by
  intro m g m' g' hpre hargs
  refine ⟨fun c => (dats m 0 c).arrAt 12 cfg0.N, fun c => (dats m 0 c).arrAt 13 cfg0.N, Cert.Dx2Ideal.Value.run_blocks (F := Ideal) m g,
    (θ_run _ _ _).mono (fun r h c => ?_) (Cert.RefDx2Ideal.Value.run (F := Ideal) m' g')⟩
  obtain ⟨h0, h1, hargs'⟩ := h c
  obtain ⟨a0, a1, a2, a3, a4, a5⟩ := hargs c
  obtain ⟨hz, hw, hx, hg, hs⟩ := reals (hpre c)
  have eZ : nat3 (m' (c.tc.loc Cert.RefDx2Ideal.main_arg0)) = Z m c := by rw [a0, ← V_main_arg0 m c]
  have eW : nat3 (m' (c.tc.loc Cert.RefDx2Ideal.main_arg1)) = W m c := by rw [a1, ← V_main_arg1 m c]
  have eX : nat2 (m' (c.tc.loc Cert.RefDx2Ideal.main_arg2)) = X m c := by rw [a2, ← V_main_arg2 m c]
  have eD : nat2 (m' (c.tc.loc Cert.RefDx2Ideal.main_arg3)) = D m c := by rw [a3, ← V_main_arg3 m c]
  have eG : nat2 (m' (c.tc.loc Cert.RefDx2Ideal.main_arg4)) = G m c := by rw [a4, ← V_main_arg4 m c]
  have eM : nat3 (m' (c.tc.loc Cert.RefDx2Ideal.main_arg5)) = M m c := by rw [a5, ← V_main_arg5 m c]
  have eH : Cert.RefDx2Ideal.Own.H m' c = H m c := by
    funext r d
    show dhR (nat3 (m' (c.tc.loc Cert.RefDx2Ideal.main_arg0))) (nat3 (m' (c.tc.loc Cert.RefDx2Ideal.main_arg1))) r d = _
    rw [eZ, eW, ← dh_eq]
  have rZ : ∀ a i j, ∃ y : ℝ, Z m c a i j = y := by rw [← eZ, a0]; exact nat3_real hz
  have rW : ∀ a i j, ∃ y : ℝ, W m c a i j = y := by rw [← eW, a1]; exact nat3_real hw
  have rX : ∀ i j, ∃ y : ℝ, X m c i j = y := by rw [← eX, a2]; exact nat2_real hx
  have rG : ∀ i j, ∃ y : ℝ, G m c i j = y := by rw [← eG, a4]; exact nat2_real hg
  have rM : ∀ a i j, ∃ y : ℝ, M m c a i j = y := by rw [← eM, a5]; exact nat3_real hs
  have rH : ∀ r d, ∃ y : ℝ, H m c r d = y := fun r d => by
    show ∃ y : ℝ, dhK (Z m c) (W m c) r d = y
    rw [dh_eq]
    exact dh_real rZ rW r d
  refine ⟨h0.trans ?_, h1.trans ?_, hargs'⟩
  · funext i
    rw [eq_ix2 i]
    generalize i 0 = r, i 1 = d
    refine (Cert.RefDx2Ideal.Own.rows_at m' c r d).trans (Eq.trans ?_ (result0 m c r d).symm)
    rw [eD, eX, eG, eM, eH, row_eq (rH r.val) (rX r.val) (rG 2) (rM 0 7)]
  · funext i
    rw [eq_ix3 i]
    generalize i 0 = s, i 1 = q, i 2 = d
    refine Eq.trans ?_ (result1 m c s q d).symm
    match s with
    | ⟨0, _⟩ =>
      refine (Cert.RefDx2Ideal.Own.grads_at m' c q d).trans (Eq.trans ?_ (sum_at m c 7 (by decide) q d).1.symm)
      rw [eX, eG, eM, eH]
      exact (tiles_grads 8 rH rX (rG 2) (rM 0 7) q d.val).symm
    | ⟨1, _⟩ => exact (Cert.RefDx2Ideal.Own.zeros_at m' c q d).trans (sum_at m c 7 (by decide) q d).2.symm

end Cert.Dx2Ideal.Own
-- ==== Proof.Dx0Body.lean ====
/-
  The gradient of the norm before the first SwiGLU sublayer's first product, at 4096 rows: what the body writes, read at an index.
-/
module

public import proofs.«01_k».proof.Defs
public import proofs.«01_k».proof.Proof.Tn
public import proofs.«01_k».proof.Proof.Dx2Body
public import proofs.«01_k».proof.Proof.Gen.Dx0Ideal.Value
public import Idealize.ShloMosaic.Lib.WholeRead
public import Idealize.ShloMosaic.Lib.WritesUnit

@[expose] public section

set_option maxRecDepth 16384

noncomputable section

namespace Cert.Dx0Ideal.Own

open Cert.Dx2Ideal.Own (dhv colsum dx_of stats_of)
open Cert.Dx0Ideal Cert.Dx0Ideal.Gen Cert.Dx0Ideal.Value Cert.Tn Cert.Rms Idealize.ShloMosaic Idealize.ShloMosaic.TcCoe Idealize.ShloMosaic.Tactic Idealize.SL.Sem Finset

variable (g3 : Vec Ideal S3x1024 .f32) (md : Vec Ideal S1x9x1024 .f32)

/-- The row of norm weights the body reads. -/
def gld : Vec Ideal S1x1024 .f32 := View.ld g3 (Rect.unit ![0, 0] ![1, 1024] inb_S3x1024_S1x1024_0_0)

/-- The row of scales the body reads. -/
def sld : Vec Ideal S1x1x1024 .f32 := View.ld md (Rect.unit ![0, 1, 0] ![1, 1, 1024] inb_S1x9x1024_S1x1x1024_0_1_0)

theorem gld_at (d : Fin 1024) : gld g3 (ix2 0 d) = g3 (ix2 0 d) := by
  unfold gld
  pointwise

theorem sld_at (d : Fin 1024) : sld md (ix3 0 0 d) = md (ix3 0 1 d) := by
  unfold sld
  pointwise

theorem zeros_at (j : S2x3x1024.Idx) : k0_pay16 (F := Ideal) j = 0 := Cert.Dx2Ideal.Own.zeros_at j

variable (m : (l : Loc nD τ sig) → Buf (Elt Ideal) l) (c : Dev nD)

abbrev Z : ℕ → ℕ → ℕ → EReal := nat3 (V m c main_arg0)
abbrev W : ℕ → ℕ → ℕ → EReal := nat3 (V m c main_arg1)
abbrev X : ℕ → ℕ → EReal := nat2 (V m c main_arg2)
abbrev D : ℕ → ℕ → EReal := nat2 (V m c main_arg3)
abbrev G : ℕ → ℕ → EReal := nat2 (V m c main_arg4)
abbrev M : ℕ → ℕ → ℕ → EReal := nat3 (V m c main_arg5)

/-- The body's product at a point. -/
abbrev dhp (t : Fin cfg0.N) : FVec Ideal S512x1024 .f32 :=
  dhv (iblk m c 0 t) (iblk m c 2 t) (iblk m c 4 t) (iblk m c 6 t) (iblk m c 1 t) (iblk m c 3 t) (iblk m c 5 t) (iblk m c 7 t)

/-- Where the body adds its part of the parameters' gradients: stream 0 at each of the eight points. -/
theorem off_eq : ∀ t : Fin cfg0.N, ![BitVec.toNat (Scalar.indexCast (Scalar.select (Scalar.cmpi CmpIPredicate.sge (BitVec.ofNat 32 (grid0.coords t 0).val) 8#32) 1#32 0#32)), 0, 0] = ![0, 0, 0] := by
  decide +kernel

theorem lt_eq : ∀ t : Fin cfg0.N, Scalar.cmpi CmpIPredicate.slt (BitVec.ofNat 32 (grid0.coords t 0).val) 8#32 = 1#1 := by
  decide +kernel

theorem add_eq (t : Fin cfg0.N) (y : Vec Ideal S512x1024 .f32) : k0_pay19 (BitVec.ofNat 32 (grid0.coords t 0).val) y = y := by
  unfold k0_pay19
  dsimp only
  rw [lt_eq t]
  rfl

theorem rows_eq (t : Fin cfg0.N) : (outsAt0 m c t.val t.isLt).1
    = k0_pay1 (k0_pay18 (dhp m c t) (gld (iblk m c 10 t)) (k0_pay12 (sld (iblk m c 11 t))) (k0_pay13 (iblk m c 8 t)) (k0_pay14 (iblk m c 8 t))) (iblk m c 9 t) := by
  by_cases h0 : t.val % 8 = 0
  · rw [outsAt0_A m c t h0]
    dsimp only
    unfold out0_A_12
    refine (View.read_writes_eq_canon _ _ _ (fun y => cover0_A_12 ..)).trans ?_
    unfold kernelRun0_A
    dsimp only
    sl_unfold_words
    simp only [View.canon_cons_unit_zero (S := S512x1024) hz2, View.readAt_eq_ld, Memref.IsWhole.read_unread,
      View.ld_unit_zero (S := S512x1024) hz2, View.ld_unit_zero (S := S1x512x1408) hz3, add_eq]
    rfl
  · rw [outsAt0_B m c t h0]
    dsimp only
    unfold out0_B_12
    refine (View.read_writes_eq_canon _ _ _ (fun y => cover0_B_12 ..)).trans ?_
    unfold kernelRun0_B
    dsimp only
    sl_unfold_words
    simp only [View.canon_cons_unit_zero (S := S512x1024) hz2, View.readAt_eq_ld, Memref.IsWhole.read_unread,
      View.ld_unit_zero (S := S512x1024) hz2, View.ld_unit_zero (S := S1x512x1408) hz3, add_eq]
    rfl

theorem first_eq (t : Fin cfg0.N) (h0 : t.val % 8 = 0) (q : Fin 3) (d : Fin 1024) : (outsAt0 m c t.val t.isLt).2 (ix3 0 q d)
    = k0_pay17 (dhp m c t) (gld (iblk m c 10 t)) (k0_pay12 (sld (iblk m c 11 t))) (k0_pay14 (iblk m c 8 t)) (colsum (dhp m c t)) (fun _ => 0) (ix3 0 q d) := by
  rw [outsAt0_A m c t h0]
  dsimp only
  unfold out0_A_13
  unfold kernelRun0_A
  dsimp only
  sl_unfold_words
  refine (View.read_writes_cons_unit_of_mem _ _ _ _ _ _ (ix3 0 q d) (off_eq t) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread,
    View.ld_unit_zero (S := S512x1024) hz2, View.ld_unit_zero (S := S1x512x1408) hz3, View.readCov_eq_canon', View.canon_cons_unit_zero (S := S2x3x1024) hz3, zeros_at]
  rfl

theorem first_zero (t : Fin cfg0.N) (h0 : t.val % 8 = 0) (q : Fin 3) (d : Fin 1024) : (outsAt0 m c t.val t.isLt).2 (ix3 1 q d) = 0 := by
  rw [outsAt0_A m c t h0]
  dsimp only
  unfold out0_A_13
  unfold kernelRun0_A
  dsimp only
  sl_unfold_words
  refine (View.read_writes_cons_unit_of_not_mem _ _ _ _ _ (ix3 1 q d) (off_eq t) 0 (.inr (le_refl 1))).trans ?_
  refine (View.read_writes_junk_apply_eq_canon _ _ _).trans ?_
  rw [View.canon_cons_unit_zero (S := S2x3x1024) hz3, zeros_at]

theorem next_eq (n : ℕ) (hn : n + 1 < cfg0.N) (q : Fin 3) (d : Fin 1024) : (outsAt0 m c (n + 1) hn).2 (ix3 0 q d)
    = k0_pay17 (dhp m c ⟨n + 1, hn⟩) (gld (iblk m c 10 ⟨n + 1, hn⟩)) (k0_pay12 (sld (iblk m c 11 ⟨n + 1, hn⟩))) (k0_pay14 (iblk m c 8 ⟨n + 1, hn⟩)) (colsum (dhp m c ⟨n + 1, hn⟩))
        (fun j => (outsAt0 m c n (Nat.lt_of_succ_lt hn)).2 (ix3 0 (j 1) (j 2))) (ix3 0 q d) := by
  have hN : cfg0.N = 8 := N_0
  rw [show outsAt0 m c (n + 1) hn = _ from outsAt0_B m c ⟨n + 1, hn⟩ (by show ¬(n + 1) % 8 = 0; omega)]
  dsimp only
  unfold out0_B_13
  unfold kernelRun0_B
  dsimp only
  sl_unfold_words
  refine (View.read_writes_cons_unit_of_mem _ _ _ _ _ _ (ix3 0 q d) (off_eq ⟨n + 1, hn⟩) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread, View.ld_unit_zero (S := S512x1024) hz2, View.ld_unit_zero (S := S1x512x1408) hz3]
  refine congrArg (fun o => k0_pay17 (dhp m c ⟨n + 1, hn⟩) (gld (iblk m c 10 ⟨n + 1, hn⟩)) (k0_pay12 (sld (iblk m c 11 ⟨n + 1, hn⟩))) (k0_pay14 (iblk m c 8 ⟨n + 1, hn⟩))
    (colsum (dhp m c ⟨n + 1, hn⟩)) o (ix3 0 q d)) (funext fun j => ?_)
  refine View.ld_unit_apply_of _ _ _ _ j (ix3 0 (j 1) (j 2)) fun a => Eq.trans ?_ (congrArg (· + (j a).val) (congrFun (off_eq ⟨n + 1, hn⟩) a)).symm
  match a with
  | ⟨0, _⟩ => have := (j 0).isLt; show 0 = 0 + (j 0).val; exact (show 0 = 0 + (j 0).val by have : (j 0).val < 1 := (j 0).isLt; omega)
  | ⟨1, _⟩ => exact (Nat.zero_add _).symm
  | ⟨2, _⟩ => exact (Nat.zero_add _).symm

theorem next_zero (n : ℕ) (hn : n + 1 < cfg0.N) (q : Fin 3) (d : Fin 1024) :
    (outsAt0 m c (n + 1) hn).2 (ix3 1 q d) = (outsAt0 m c n (Nat.lt_of_succ_lt hn)).2 (ix3 1 q d) := by
  have hN : cfg0.N = 8 := N_0
  rw [show outsAt0 m c (n + 1) hn = _ from outsAt0_B m c ⟨n + 1, hn⟩ (by show ¬(n + 1) % 8 = 0; omega)]
  dsimp only
  unfold out0_B_13
  unfold kernelRun0_B
  dsimp only
  sl_unfold_words
  refine (View.read_writes_cons_unit_of_not_mem _ _ _ _ _ (ix3 1 q d) (off_eq ⟨n + 1, hn⟩) 0 (.inr (le_refl 1))).trans ?_
  exact congrFun ((hs0_13 ⟨n + 1, hn⟩).read_unread _) _

/-- A row of the product with the transposed weights. -/
abbrev H (r d : ℕ) : EReal := dhK (Z m c) (W m c) r d

/-- The two launches read their arguments' blocks alike: they differ in the row of the weights and of the modulation alone. -/
theorem dhp_at (t : Fin cfg0.N) (p : Fin 512) (d : Fin 1024) : dhp m c t (ix2 p d) = H m c (t.val * 512 + p.val) d.val :=
  Cert.Dx2Ideal.Own.dhp_at m c t p d

theorem invp_at (t : Fin cfg0.N) (p : Fin 512) : Cert.Dx2Ideal.Gen.k0_pay13 (iblk m c 8 t) (ix2 p 0) = inv (X m c (t.val * 512 + p.val)) :=
  Cert.Dx2Ideal.Own.invp_at m c t p

theorem read8 (t : Fin cfg0.N) (p : Fin 512) (d : Fin 1024) : iblk m c 8 t (ix2 p d) = X m c (t.val * 512 + p.val) d.val :=
  Cert.Dx2Ideal.Own.read8 m c t p d

theorem read9 (t : Fin cfg0.N) (p : Fin 512) (d : Fin 1024) : iblk m c 9 t (ix2 p d) = D m c (t.val * 512 + p.val) d.val :=
  Cert.Dx2Ideal.Own.read9 m c t p d

theorem idxR : ∀ t : Fin grid0.N, (win0_10.index t 0 = 0 ∧ win0_10.index t 1 = 0) ∧ win0_11.index t 0 = 0 ∧ win0_11.index t 1 = 0 ∧ win0_11.index t 2 = 0 :=
  fun t => (Cert.Dx2Ideal.Own.idxR t).2.2

theorem read10 (t : Fin cfg0.N) (d : Fin 1024) : iblk m c 10 t (ix2 0 d) = G m c 0 d.val :=
  nat2_co (V m c main_arg4) _ (((cfg0.win 10).rect_emb_val t _ 0).trans (co (idxR t).1.1 rfl)) (((cfg0.win 10).rect_emb_val t _ 1).trans (co (idxR t).1.2 (by rw [zero_mul, zero_add]; rfl)))

theorem read11 (t : Fin cfg0.N) (d : Fin 1024) : iblk m c 11 t (ix3 0 1 d) = M m c 0 1 d.val :=
  nat3_co (V m c main_arg5) _ (((cfg0.win 11).rect_emb_val t _ 0).trans (co (idxR t).2.1 rfl)) (((cfg0.win 11).rect_emb_val t _ 1).trans (co (idxR t).2.2.1 rfl))
    (((cfg0.win 11).rect_emb_val t _ 2).trans (co (idxR t).2.2.2 (by rw [zero_mul, zero_add]; rfl)))

/-- A row of what a point writes. -/
theorem row_at (t : Fin cfg0.N) (p : Fin 512) (d : Fin 1024) : (outsAt0 m c t.val t.isLt).1 (ix2 p d)
    = D m c (t.val * 512 + p.val) d.val + rowK (H m c (t.val * 512 + p.val)) (X m c (t.val * 512 + p.val)) (G m c 0) (M m c 0 1) d.val := by
  rw [rows_eq]
  refine (dx_of _ _ _ _ _ p d).trans ?_
  simp only [gld_at, sld_at, dhp_at, invp_at, read8, read9, read10, read11]
  rfl

theorem tile_at (t : Fin cfg0.N) (old : Vec Ideal S1x3x1024 .f32) (q : Fin 3) (d : Fin 1024) :
    k0_pay17 (dhp m c t) (gld (iblk m c 10 t)) (k0_pay12 (sld (iblk m c 11 t))) (k0_pay14 (iblk m c 8 t)) (colsum (dhp m c t)) old (ix3 0 q d)
      = old (ix3 0 q d) + tile (H m c) (X m c) (G m c 0) (M m c 0 1) q d.val t.val := by
  refine (stats_of _ _ _ _ old q d).trans ?_
  simp only [gld_at, sld_at, dhp_at, invp_at, read8, read10, read11]
  rfl

theorem sum_at (n : ℕ) (hn : n < cfg0.N) (q : Fin 3) (d : Fin 1024) :
    (outsAt0 m c n hn).2 (ix3 0 q d) = ∑ i ∈ range (n + 1), tile (H m c) (X m c) (G m c 0) (M m c 0 1) q d.val i ∧ (outsAt0 m c n hn).2 (ix3 1 q d) = 0 := by
  induction n with
  | zero =>
    refine ⟨(first_eq m c ⟨0, hn⟩ rfl q d).trans ((tile_at m c ⟨0, hn⟩ _ q d).trans ?_), first_zero m c ⟨0, hn⟩ rfl q d⟩
    rw [sum_range_succ, range_zero, sum_empty]
  | succ n ih =>
    obtain ⟨h0, h1⟩ := ih (Nat.lt_of_succ_lt hn)
    refine ⟨(next_eq m c n hn q d).trans ((tile_at m c ⟨n + 1, hn⟩ _ q d).trans ?_), (next_zero m c n hn q d).trans h1⟩
    rw [sum_range_succ _ (n + 1), ← h0]
    rfl

theorem idxO : ∀ t : Fin grid0.N, (win0_12.index t 0 = t.val ∧ win0_12.index t 1 = 0) ∧ win0_13.index t 0 = 0 ∧ win0_13.index t 1 = 0 ∧ win0_13.index t 2 = 0 := by decide +kernel

/-- The rows the run leaves. -/
theorem result0 (r : Fin 4096) (d : Fin 1024) : (dats m 0 c).arrAt 12 cfg0.N (ix2 r d)
    = D m c r.val d.val + rowK (H m c r.val) (X m c r.val) (G m c 0) (M m c 0 1) d.val := by
  have hr : r.val / 512 < cfg0.N := lt_of_lt_of_eq (by have := r.isLt; omega) N_0.symm
  have e : r.val / 512 * 512 + r.val % 512 = r.val := Nat.div_add_mod' _ _
  refine Eq.trans (congrArg _ (funext fun a => Fin.ext ?_)) ((congrFun ((blocks12 m c ⟨r.val / 512, hr⟩ (flush0_12 _)).trans (flushed12 m c ⟨r.val / 512, hr⟩))
    (ix2 ⟨r.val % 512, Nat.mod_lt _ (by decide)⟩ d)).trans ((row_at m c ⟨r.val / 512, hr⟩ ⟨r.val % 512, Nat.mod_lt _ (by decide)⟩ d).trans ?_))
  · refine Eq.trans ?_ ((cfg0.win 12).rect_emb_val ⟨r.val / 512, hr⟩ _ a).symm
    match a with
    | ⟨0, _⟩ => exact (co (idxO ⟨r.val / 512, hr⟩).1.1 e).symm
    | ⟨1, _⟩ => exact (co (idxO ⟨r.val / 512, hr⟩).1.2 (by rw [zero_mul, zero_add]; rfl)).symm
  · dsimp only
    rw [e]

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => absurd (Fin.ext (by
    have hN : cfg0.N = 8 := N_0
    have := (flush0_13 t).mp h
    have := (flush0_13 t').mp h'
    omega)) hne

/-- The parameters' gradients the run leaves. -/
theorem result1 (s : Fin 2) (q : Fin 3) (d : Fin 1024) : (dats m 0 c).arrAt 13 cfg0.N (ix3 s q d) = (outsAt0 m c 7 (by decide)).2 (ix3 s q d) := by
  have hb := (dats m 0 c).read_blk_arrAt_eq_flushed 13 disjoint13 cfg0.N ⟨7, by decide⟩ (by decide) ((flush0_13 ⟨7, by decide⟩).mpr rfl)
  refine Eq.trans (congrArg _ (funext fun a => Fin.ext ?_)) (congrFun (hb.trans (flushed13 m c ⟨7, by decide⟩)) (ix3 s q d))
  refine Eq.trans ?_ ((cfg0.win 13).rect_emb_val ⟨7, by decide⟩ _ a).symm
  match a with
  | ⟨0, _⟩ => exact (co (idxO ⟨7, by decide⟩).2.1 (by rw [zero_mul, zero_add])).symm
  | ⟨1, _⟩ => exact (co (idxO ⟨7, by decide⟩).2.2.1 (by rw [zero_mul, zero_add])).symm
  | ⟨2, _⟩ => exact (co (idxO ⟨7, by decide⟩).2.2.2 (by rw [zero_mul, zero_add])).symm

end Cert.Dx0Ideal.Own
-- ==== Proof.RefDx0.lean ====
/-
  The derivative of the norm before the first SwiGLU sublayer's first product, read at an index.
-/
module

public import proofs.«01_k».proof.Defs
public import proofs.«01_k».proof.Proof.Rms
public import proofs.«01_k».proof.Proof.Gen.RefDx0Ideal.Run

@[expose] public section

set_option maxRecDepth 16384

noncomputable section

namespace Cert.RefDx0Ideal.Own

open Cert.RefDx0Ideal Cert.RefDx0Ideal.Value Cert.Tn Cert.Rms Idealize.ShloMosaic Idealize.ShloMosaic.TcCoe Idealize.ShloMosaic.Tactic Idealize.SL.Sem Finset

variable (m : (l : Loc nD τ sig) → Buf (Elt Ideal) l) (c : Dev nD)

theorem dz_ix (a : Fin 2) (i : Fin 4096) (j : Fin 2816) : m (c.tc.loc main_arg0) (ix3 a i j) = nat3 (m (c.tc.loc main_arg0)) a.val i.val j.val := nat3_ix _ a i j
theorem w_ix (a : Fin 4) (i : Fin 1024) (j : Fin 1408) : m (c.tc.loc main_arg1) (ix3 a i j) = nat3 (m (c.tc.loc main_arg1)) a.val i.val j.val := nat3_ix _ a i j
theorem x_ix (i : Fin 4096) (j : Fin 1024) : m (c.tc.loc main_arg2) (ix2 i j) = nat2 (m (c.tc.loc main_arg2)) i.val j.val := nat2_ix _ i j
theorem d_ix (i : Fin 4096) (j : Fin 1024) : m (c.tc.loc main_arg3) (ix2 i j) = nat2 (m (c.tc.loc main_arg3)) i.val j.val := nat2_ix _ i j
theorem g_ix (i : Fin 3) (j : Fin 1024) : m (c.tc.loc main_arg4) (ix2 i j) = nat2 (m (c.tc.loc main_arg4)) i.val j.val := nat2_ix _ i j
theorem m_ix (a : Fin 2) (i : Fin 9) (j : Fin 1024) : m (c.tc.loc main_arg5) (ix3 a i j) = nat3 (m (c.tc.loc main_arg5)) a.val i.val j.val := nat3_ix _ a i j

abbrev H (r d : ℕ) : EReal := dhR (nat3 (m (c.tc.loc main_arg0))) (nat3 (m (c.tc.loc main_arg1))) r d

theorem rows_at (r : Fin 4096) (d : Fin 1024) : res_out0 (F := Ideal) m c (ix2 r d)
    = nat2 (m (c.tc.loc main_arg3)) r.val d.val + rowR (H m c r.val) (nat2 (m (c.tc.loc main_arg2)) r.val) (nat2 (m (c.tc.loc main_arg4)) 0) (nat3 (m (c.tc.loc main_arg5)) 0 1) d.val := by
  unfold res_out0 res_main_v74
  pointwise
  simp only [dz_ix, w_ix, x_ix, d_ix, g_ix, m_ix]
  rfl

theorem grads_at (q : Fin 3) (d : Fin 1024) : res_out1 (F := Ideal) m c (ix3 0 q d)
    = grads 4096 (H m c) (nat2 (m (c.tc.loc main_arg2))) (nat2 (m (c.tc.loc main_arg4)) 0) (nat3 (m (c.tc.loc main_arg5)) 0 1) q d.val := by
  unfold res_out1 res_main_v78
  pointwise
  simp only [dz_ix, w_ix, x_ix, d_ix, g_ix, m_ix]
  rfl

theorem zeros_at (q : Fin 3) (d : Fin 1024) : res_out1 (F := Ideal) m c (ix3 1 q d) = (0 : EReal) := by
  unfold res_out1 res_main_v78
  pointwise
  split <;> [skip; split] <;> simp

end Cert.RefDx0Ideal.Own
-- ==== Proof.Dx0.lean ====
/-
  The gradient of the norm before the first SwiGLU sublayer's first product, at 4096 rows: the body's tiles are the derivative's rows.
-/
module

public import proofs.«01_k».proof.Proof.Dx0Body
public import proofs.«01_k».proof.Proof.RefDx0
public import proofs.«01_k».proof.Proof.Dx2
public import proofs.«01_k».proof.Proof.Finite
public import proofs.«01_k».proof.Proof.Gen.Dx0.Frame
public import proofs.«01_k».proof.Proof.Gen.Pre_finite_dx

@[expose] public section

set_option maxRecDepth 16384

noncomputable section

namespace Cert.Dx0Ideal.Own

open Cert.Dx0Ideal Cert.Dx0Ideal.Gen Cert.Dx0Ideal.Value Cert.Tn Cert.Rms Cert.Gla Idealize.ShloMosaic Idealize.ShloMosaic.TcCoe Idealize.ShloMosaic.Tactic Idealize.SL.Sem Finset

theorem claim : Cert.algebraic_Dx0Ideal_RefDx0Ideal_pre_finite_dx := by
  intro m g m' g' hpre hargs
  refine ⟨fun c => (dats m 0 c).arrAt 12 cfg0.N, fun c => (dats m 0 c).arrAt 13 cfg0.N, Cert.Dx0Ideal.Value.run_blocks (F := Ideal) m g,
    (θ_run _ _ _).mono (fun r h c => ?_) (Cert.RefDx0Ideal.Value.run (F := Ideal) m' g')⟩
  obtain ⟨h0, h1, hargs'⟩ := h c
  obtain ⟨a0, a1, a2, a3, a4, a5⟩ := hargs c
  obtain ⟨hz, hw, hx, hg, hs⟩ := Cert.Dx2Ideal.Own.reals (hpre c)
  have eZ : nat3 (m' (c.tc.loc Cert.RefDx0Ideal.main_arg0)) = Z m c := by rw [a0, ← V_main_arg0 m c]
  have eW : nat3 (m' (c.tc.loc Cert.RefDx0Ideal.main_arg1)) = W m c := by rw [a1, ← V_main_arg1 m c]
  have eX : nat2 (m' (c.tc.loc Cert.RefDx0Ideal.main_arg2)) = X m c := by rw [a2, ← V_main_arg2 m c]
  have eD : nat2 (m' (c.tc.loc Cert.RefDx0Ideal.main_arg3)) = D m c := by rw [a3, ← V_main_arg3 m c]
  have eG : nat2 (m' (c.tc.loc Cert.RefDx0Ideal.main_arg4)) = G m c := by rw [a4, ← V_main_arg4 m c]
  have eM : nat3 (m' (c.tc.loc Cert.RefDx0Ideal.main_arg5)) = M m c := by rw [a5, ← V_main_arg5 m c]
  have eH : Cert.RefDx0Ideal.Own.H m' c = H m c := by
    funext r d
    show dhR (nat3 (m' (c.tc.loc Cert.RefDx0Ideal.main_arg0))) (nat3 (m' (c.tc.loc Cert.RefDx0Ideal.main_arg1))) r d = _
    rw [eZ, eW, ← dh_eq]
  have rZ : ∀ a i j, ∃ y : ℝ, Z m c a i j = y := by rw [← eZ, a0]; exact nat3_real hz
  have rW : ∀ a i j, ∃ y : ℝ, W m c a i j = y := by rw [← eW, a1]; exact nat3_real hw
  have rX : ∀ i j, ∃ y : ℝ, X m c i j = y := by rw [← eX, a2]; exact nat2_real hx
  have rG : ∀ i j, ∃ y : ℝ, G m c i j = y := by rw [← eG, a4]; exact nat2_real hg
  have rM : ∀ a i j, ∃ y : ℝ, M m c a i j = y := by rw [← eM, a5]; exact nat3_real hs
  have rH : ∀ r d, ∃ y : ℝ, H m c r d = y := fun r d => by
    show ∃ y : ℝ, dhK (Z m c) (W m c) r d = y
    rw [dh_eq]
    exact dh_real rZ rW r d
  refine ⟨h0.trans ?_, h1.trans ?_, hargs'⟩
  · funext i
    rw [eq_ix2 i]
    generalize i 0 = r, i 1 = d
    refine (Cert.RefDx0Ideal.Own.rows_at m' c r d).trans (Eq.trans ?_ (result0 m c r d).symm)
    rw [eD, eX, eG, eM, eH, row_eq (rH r.val) (rX r.val) (rG 0) (rM 0 1)]
  · funext i
    rw [eq_ix3 i]
    generalize i 0 = s, i 1 = q, i 2 = d
    refine Eq.trans ?_ (result1 m c s q d).symm
    match s with
    | ⟨0, _⟩ =>
      refine (Cert.RefDx0Ideal.Own.grads_at m' c q d).trans (Eq.trans ?_ (sum_at m c 7 (by decide) q d).1.symm)
      rw [eX, eG, eM, eH]
      exact (tiles_grads 8 rH rX (rG 0) (rM 0 1) q d.val).symm
    | ⟨1, _⟩ => exact (Cert.RefDx0Ideal.Own.zeros_at m' c q d).trans (sum_at m c 7 (by decide) q d).2.symm

end Cert.Dx0Ideal.Own
-- ==== Proof.DxCtxRun.lean ====
/-
  The gradient of the norm before the first SwiGLU sublayer's first product, at 4608 rows: the body's run at a point of each of its
  three cases, what the outputs hold after each point, and the run of the whole program. The context's rows come last, and their
  gradient is not stored: the last point writes the eighth tile's rows back, which the point before left.
-/
module

public import proofs.«01_k».proof.Proof.Gen.DxCtxIdeal.Frame
public import proofs.«01_k».proof.Proof.Gen.DxCtxIdeal.Skeleton
public import Idealize.ShloMosaic.Lib.Pipeline.TableIdle
public import Idealize.ShloMosaic.Lib.Claim

@[expose] public section

set_option maxRecDepth 16384

noncomputable section

namespace Cert.DxCtxIdeal.Own

open Cert.DxCtxIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The conditions of the body's two branches: the point is the first, -/
abbrev cond0_0 (i : grid0.Coords) : Prop := (Scalar.cmpi .ne (Scalar.extui (Scalar.cmpi .eq (BitVec.ofNat 32 (i 0).val) 0#32)) 0#32) = 1#1

theorem hcond0_0 : ∀ t : Fin cfg0.N, cond0_0 (grid0.coords t) ↔ t.val = 0 := by decide +kernel

/-- and it is not the last. -/
abbrev cond0_1 (i : grid0.Coords) : Prop := k0_cond2 i = 1#1

theorem hcond0_1 : ∀ t : Fin cfg0.N, cond0_1 (grid0.coords t) ↔ t.val < 8 := by decide +kernel

abbrev VO0_12 : View sig .tc .vmem S512x1024 .f32 := (Memref.whole cc0_stg12_0 : Memref sig .tc .vmem S512x1024 .f32).view
abbrev VO0_13 : View sig .tc .vmem S2x3x1024 .f32 := (Memref.whole cc0_stg13_0 : Memref sig .tc .vmem S2x3x1024 .f32).view

section Runs

variable (c : Dev nD) (i : grid0.Coords) (arg1 : Memref sig .tc .vmem S1x512x1408 .bf16) (harg1 : arg1.IsWhole) (arg2 : Memref sig .tc .vmem S1x1024x1408 .bf16) (harg2 : arg2.IsWhole) (arg3 : Memref sig .tc .vmem S1x512x1408 .bf16) (harg3 : arg3.IsWhole) (arg4 : Memref sig .tc .vmem S1x1024x1408 .bf16) (harg4 : arg4.IsWhole) (arg5 : Memref sig .tc .vmem S1x512x1408 .bf16) (harg5 : arg5.IsWhole) (arg6 : Memref sig .tc .vmem S1x1024x1408 .bf16) (harg6 : arg6.IsWhole) (arg7 : Memref sig .tc .vmem S1x512x1408 .bf16) (harg7 : arg7.IsWhole) (arg8 : Memref sig .tc .vmem S1x1024x1408 .bf16) (harg8 : arg8.IsWhole) (arg9 : Memref sig .tc .vmem S512x1024 .f32) (harg9 : arg9.IsWhole) (arg10 : Memref sig .tc .vmem S512x1024 .f32) (harg10 : arg10.IsWhole) (arg11 : Memref sig .tc .vmem S3x1024 .f32) (harg11 : arg11.IsWhole) (arg12 : Memref sig .tc .vmem S1x9x1024 .f32) (harg12 : arg12.IsWhole) (arg13 : Memref sig .tc .vmem S512x1024 .f32) (harg13 : arg13.IsWhole) (arg14 : Memref sig .tc .vmem S2x3x1024 .f32) (harg14 : arg14.IsWhole)
    (x0 : Vec F S1x512x1408 .bf16) (x1 : Vec F S1x1024x1408 .bf16) (x2 : Vec F S1x512x1408 .bf16) (x3 : Vec F S1x1024x1408 .bf16) (x4 : Vec F S1x512x1408 .bf16) (x5 : Vec F S1x1024x1408 .bf16) (x6 : Vec F S1x512x1408 .bf16) (x7 : Vec F S1x1024x1408 .bf16) (x8 : Vec F S512x1024 .f32) (x9 : Vec F S512x1024 .f32) (x10 : Vec F S3x1024 .f32) (x11 : Vec F S1x9x1024 .f32)

set_option maxHeartbeats 4000000 in
/-- The body at the first point: it clears the sums, adds its own, and stores its rows. The stores are what the run finds. -/
noncomputable def runA (hc0 : cond0_0 i) (hc1 : cond0_1 i) :
    Σ' (L12 : List (View.Piece (Elt F) S512x1024 .f32)), { L13 : List (View.Piece (Elt F) S2x3x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (∃ f, arg14.view.loc (c : Thread nD τ) ↦[arg14.view.set]{fullShare} arg14.view.writes (Elt F) f L13)) -∗ K ⟨⟩))
          ⊢ wp frame (wpE (defs₀ (F := F)) Variants.none c none) E (cc0_ffn_dx i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ffn_dx_eq_skeleton]; unfold cc0_ffn_dx_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexists _; iexact H13

set_option maxHeartbeats 4000000 in
/-- The body at a point between: it adds its sums to what the point before left, and stores its rows. The stores are what the run finds. -/
noncomputable def runB (hc0 : ¬cond0_0 i) (hc1 : cond0_1 i) (xo13 : Vec F S2x3x1024 .f32) :
    Σ' (L12 : List (View.Piece (Elt F) S512x1024 .f32)), { L13 : List (View.Piece (Elt F) S2x3x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ owns (c : Thread nD τ) arg14 fullShare xo13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ f, arg13.view.loc (c : Thread nD τ) ↦[arg13.view.set]{fullShare} arg13.view.writes (Elt F) f L12) ∗ (arg14.view.loc (c : Thread nD τ) ↦[arg14.view.set]{fullShare} arg14.view.writes (Elt F) (harg14.unread xo13) L13)) -∗ K ⟨⟩))
          ⊢ wp frame (wpE (defs₀ (F := F)) Variants.none c none) E (cc0_ffn_dx i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, ?_, fun E K => ?run⟩
  case run =>
    simp only [cc0_ffn_dx_eq_skeleton]; unfold cc0_ffn_dx_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]; · iexists _; iexact H12
    iexact H13

set_option maxHeartbeats 4000000 in
/-- The body at the last point: it adds its sums and stores no rows. The stores are what the run finds. -/
noncomputable def runC (hc0 : ¬cond0_0 i) (hc1 : ¬cond0_1 i) (xo13 : Vec F S2x3x1024 .f32) :
    { L13 : List (View.Piece (Elt F) S2x3x1024 .f32) //
      ∀ (xi12 : Vec F S512x1024 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ owns (c : Thread nD τ) arg14 fullShare xo13
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare xi12 ∗ (arg14.view.loc (c : Thread nD τ) ↦[arg14.view.set]{fullShare} arg14.view.writes (Elt F) (harg14.unread xo13) L13)) -∗ K ⟨⟩))
          ⊢ wp frame (wpE (defs₀ (F := F)) Variants.none c none) E (cc0_ffn_dx i arg1 harg1 arg2 harg2 arg3 harg3 arg4 harg4 arg5 harg5 arg6 harg6 arg7 harg7 arg8 harg8 arg9 harg9 arg10 harg10 arg11 harg11 arg12 harg12 arg13 harg13 arg14 harg14) K } := by
  refine ⟨?_, fun xi12 E K => ?run⟩
  case run =>
    simp only [cc0_ffn_dx_eq_skeleton]; unfold cc0_ffn_dx_skel
    simp only [k0_part4_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    iexact H13

end Runs

/-! ## What the outputs hold after each point -/

abbrev ms0_0 (t : Fin cfg0.N) : Memref sig .tc .vmem S1x512x1408 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024x1408 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x1408 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x1408 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1408 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1024x1408 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x512x1408 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024x1408 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S3x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x9x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S512x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S2x3x1024 .f32 := win0_13.stage (cfg0.slots t 13)
abbrev hs0_13 (t : Fin cfg0.N) : (ms0_13 t).IsWhole := hstage0_13 ((cfg0.slots t 13).cast nbuf0_13)

section

variable (c : Dev nD) (t : Fin cfg0.N)

section

variable (h0 : t.val = 0)

/-- The body's run at the first point, and what it leaves in each output's buffer. -/
noncomputable def atA := runA c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr (by omega))

theorem coverA_12 (y : S512x1024.Idx) : ∃ pc ∈ (atA m c t h0).1, y ∈ pc.1.set :=
  View.cover_of_tiledL (atA m c t h0).1 S512x1024.size (by sl_kernel_rfl) y

def outA_12 : Vec F S512x1024 .f32 := VO0_12.read (Elt F) (VO0_12.writes (Elt F) VO0_12.junk (atA m c t h0).1)

theorem coverA_13 (y : S2x3x1024.Idx) : ∃ pc ∈ (atA m c t h0).2.1, y ∈ pc.1.set := by
  unfold atA
  exact View.cover_of_wholeMem (runA c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) ((hcond0_0 t).mpr h0) ((hcond0_1 t).mpr (by omega))).2.1 (by sl_whole_mem) y

def outA_13 : Vec F S2x3x1024 .f32 := VO0_13.read (Elt F) (VO0_13.writes (Elt F) VO0_13.junk (atA m c t h0).2.1)

end

variable (h0 : t.val ≠ 0)

section

variable (h : t.val < 8) (x : Vec F S2x3x1024 .f32)

/-- The body's run at a point between, over the sums `x`, and what it leaves. -/
noncomputable def atB := runB c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun hc => h0 ((hcond0_0 t).mp hc)) ((hcond0_1 t).mpr h) x

theorem coverB_12 (y : S512x1024.Idx) : ∃ pc ∈ (atB m c t h0 h x).1, y ∈ pc.1.set :=
  View.cover_of_tiledL (atB m c t h0 h x).1 S512x1024.size (by sl_kernel_rfl) y

def outB_12 : Vec F S512x1024 .f32 := VO0_12.read (Elt F) (VO0_12.writes (Elt F) VO0_12.junk (atB m c t h0 h x).1)

def outB_13 : Vec F S2x3x1024 .f32 := (ms0_13 t).view.read (Elt F) ((ms0_13 t).view.writes (Elt F) ((hs0_13 t).unread x) (atB m c t h0 h x).2.1)

end

section

variable (h : ¬t.val < 8) (x : Vec F S2x3x1024 .f32)

/-- The body's run at the last point, over the sums `x`, and what it leaves. -/
noncomputable def atC := runC c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (fun hc => h0 ((hcond0_0 t).mp hc)) (fun hc => h ((hcond0_1 t).mp hc)) x

def outC_13 : Vec F S2x3x1024 .f32 := (ms0_13 t).view.read (Elt F) ((ms0_13 t).view.writes (Elt F) ((hs0_13 t).unread x) (atC m c t h0 h x).1)

end

end

/-- The sums after a point, over what the point before left. -/
def next13 (c : Dev nD) (t : Fin cfg0.N) (h0 : t.val ≠ 0) (x : Vec F S2x3x1024 .f32) : Vec F S2x3x1024 .f32 :=
  if h : t.val < 8 then outB_13 m c t h0 h x else outC_13 m c t h0 h x

/-- The sums after point `n`. -/
def sums (c : Dev nD) : (n : ℕ) → n < cfg0.N → Vec F S2x3x1024 .f32
  | 0, hn => outA_13 m c ⟨0, hn⟩ rfl
  | n + 1, hn => next13 m c ⟨n + 1, hn⟩ (Nat.succ_ne_zero n) (sums c n (Nat.lt_of_succ_lt hn))

theorem sums_first (c : Dev nD) (t : Fin cfg0.N) (h0 : t.val = 0) : sums m c t.val t.isLt = outA_13 m c t h0 := by
  obtain ⟨n, hn⟩ := t
  cases n with
  | zero => rfl
  | succ n => exact absurd h0 (Nat.succ_ne_zero n)

theorem sums_next (c : Dev nD) (t : Fin cfg0.N) (h0 : t.val ≠ 0) :
    sums m c t.val t.isLt = next13 m c t h0 (sums m c (t.val - 1) (Nat.lt_of_le_of_lt (Nat.sub_le _ _) t.isLt)) := by
  obtain ⟨n, hn⟩ := t
  cases n with
  | zero => exact absurd rfl h0
  | succ n => rfl

/-- The rows a point before the last stores. -/
def rows (c : Dev nD) (t : Fin cfg0.N) (h : t.val < 8) : Vec F S512x1024 .f32 :=
  if h0 : t.val = 0 then outA_12 m c t h0 else outB_12 m c t h0 h (sums m c (t.val - 1) (Nat.lt_of_le_of_lt (Nat.sub_le _ _) t.isLt))

/-- The rows' buffer: what the point stores, and at the last point what the point before stored. -/
def left12 (c : Dev nD) (t : Fin cfg0.N) : Vec F S512x1024 .f32 :=
  if h : t.val < 8 then rows m c t h else rows m c ⟨7, by rw [show cfg0.N = 9 from N_0]; decide⟩ (show 7 < 8 by decide)

/-! ## The pipeline's proof data -/

/-- The arrays as the region finds them; after the body each input's buffer at its block and the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => left12 m c t
    | ⟨13, _⟩ => sums m c t.val t.isLt
    | ⟨_ + 14, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = left12 m c t := by dsimp only [dats]
theorem after0_13 (c : Dev nD) (t : Fin cfg0.N) : (dats m 0 c).after 13 t = sums m c t.val t.isLt := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

theorem live0 : ∀ (w : Fin cfg0.W) (t : Fin cfg0.N), w ≠ 12 → cfg0.idle w (grid0.coords t) = false := by decide +kernel
theorem live12 : ∀ t : Fin cfg0.N, t.val < 8 → cfg0.idle 12 (grid0.coords t) = false := by decide +kernel
theorem idle12 : ∀ t : Fin cfg0.N, ¬t.val < 8 → cfg0.idle 12 (grid0.coords t) = true := by decide +kernel
theorem fresh12 : ∀ t : Fin cfg0.N, ¬t.val < 8 → cfg0.fresh 12 t.val = false := by decide +kernel

/-- At the last point the rows' buffer holds what the point before left in it. -/
theorem before12 (c : Dev nD) (t : Fin cfg0.N) (h : ¬t.val < 8) (d) : (dats m 0 c).before 12 t d = left12 m c t := by
  have hc : ∀ t : Fin cfg0.N, t.val ≠ 0 → ¬t.val < 8 → left12 m c t = left12 m c ⟨t.val - 1, by omega⟩ := fun t h0 h => by
    unfold left12
    have hN : t.val < 9 := lt_of_lt_of_eq t.isLt N_0
    have e : ∀ (s s' : Fin cfg0.N) (hs hs'), s = s' → rows m c s hs = rows m c s' hs' := fun s s' _ _ e => by subst e; rfl
    rw [dif_neg h, dif_pos (show t.val - 1 < 8 by omega)]
    exact e _ _ _ _ (Fin.ext (by show 7 = t.val - 1; omega))
  rw [Pipeline.Dat.before_out_traj (dats m 0 c) 12 rfl (fun _ _ => rfl) (fun t h0 hi hf => by
    rw [after0_12, after0_12]
    exact hc t h0 fun hl => Bool.false_ne_true ((live12 t hl).symm.trans hi)) t.val t rfl d, fresh12 t h, if_neg Bool.false_ne_true, after0_12]
  exact (hc t (by omega) h).symm

/-- After the first point the sums' buffer holds what the point before left in it. -/
theorem before13 (c : Dev nD) (t : Fin cfg0.N) (h0 : t.val ≠ 0) (d) :
    (dats m 0 c).before 13 t d = sums m c (t.val - 1) (Nat.lt_of_le_of_lt (Nat.sub_le _ _) t.isLt) := by
  have hN : t.val < 9 := lt_of_lt_of_eq t.isLt N_0
  rw [Dat.before_out_kept _ 13 rfl t h0 (Bool.eq_false_iff.mpr fun h => by have := (flush0_13 _).mp h; dsimp only at this; omega)
    (fun _ => rfl) (fun _ _ => rfl)]
  dsimp only [dats]

theorem leaves (c : Dev nD) (t : Fin cfg0.N) (w : Fin cfg0.W) (h : w ≠ 12) :
    (dats m 0 c).leavesExact w t = owns (c : Thread nD τ) ((cfg0.win w).stage (cfg0.slots t w)) fullShare ((dats m 0 c).after w t) := by
  unfold Dat.leavesExact; rw [live0 w t h]

theorem leaves12 (c : Dev nD) (t : Fin cfg0.N) (h : t.val < 8) :
    (dats m 0 c).leavesExact 12 t = owns (c : Thread nD τ) (ms0_12 t) fullShare (rows m c t h) := by
  unfold Dat.leavesExact; rw [live12 t h, after0_12]; unfold left12; rw [dif_pos h]

theorem leaves12_last (c : Dev nD) (t : Fin cfg0.N) (h : ¬t.val < 8) :
    owns (c : Thread nD τ) (ms0_12 t) fullShare (left12 m c t) ⊢ (dats m 0 c).leavesExact 12 t := by
  cases hf : (cfg0.win 12).flush t
  · rw [Dat.leavesExact_idle (dats m 0 c) 12 t (idle12 t h) hf]
    simp only [before12 m c t h]
    iintro H
    iexists (left12 m c t)
    iexact H
  · have e : (dats m 0 c).leavesExact 12 t = owns (c : Thread nD τ) (ms0_12 t) fullShare ((dats m 0 c).after 12 t) := by
      unfold Dat.leavesExact; rw [idle12 t h, hf]
    rw [e, after0_12]

/-! ## The body at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (iblk m c 4 t)
    ∗ owns (c : Thread nD τ) (ms0_5 t) fullShare (iblk m c 5 t)
    ∗ owns (c : Thread nD τ) (ms0_6 t) fullShare (iblk m c 6 t)
    ∗ owns (c : Thread nD τ) (ms0_7 t) fullShare (iblk m c 7 t)
    ∗ owns (c : Thread nD τ) (ms0_8 t) fullShare (iblk m c 8 t)
    ∗ owns (c : Thread nD τ) (ms0_9 t) fullShare (iblk m c 9 t)
    ∗ owns (c : Thread nD τ) (ms0_10 t) fullShare (iblk m c 10 t)
    ∗ owns (c : Thread nD τ) (ms0_11 t) fullShare (iblk m c 11 t)
    ∗ (dats m 0 c).leavesExact 12 t
    ∗ owns (c : Thread nD τ) (ms0_13 t) fullShare (sums m c t.val t.isLt))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  by_cases h0 : t.val = 0
  · rw [leaves12 m c t (by omega), sums_first m c t h0]
    unfold rows
    rw [dif_pos h0]
    unfold outA_12 outA_13
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atA m c t h0).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexists _; iexact H13
    iintro ⟨H0, H1, H2, H3, H4, H5, H6, H7, H8, H9, H10, H11, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (coverA_12 m c t h0)
    unfold owns; iexists _; isplitr
    swap; · iexact H13
    ipureintro; exact View.read_writes_of_cover _ _ _ _ _ (coverA_13 m c t h0)
  simp only [before13 m c t h0]
  rw [sums_next m c t h0]
  unfold next13
  by_cases h : t.val < 8
  · rw [leaves12 m c t h, dif_pos h]
    unfold rows
    rw [dif_neg h0]
    unfold outB_12 outB_13
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atB m c t h0 h _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexists _; iexact H12
    isplitl [H13]; · iexact H13
    iintro ⟨H0, H1, H2, H3, H4, H5, H6, H7, H8, H9, H10, H11, ⟨%e12, H12⟩, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · unfold owns; iexists _; isplitr
      swap; · iexact H12
      ipureintro; exact View.read_writes_of_cover _ _ _ _ _ (coverB_12 m c t h0 h _)
    unfold owns; iexists _; isplitr
    swap; · iexact H13
    ipureintro; rfl
  · rw [dif_neg h]
    simp only [before12 m c t h]
    unfold outC_13
    dsimp only
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((atC m c t h0 h _).2 _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, H3, H4, H5, H6, H7, H8, H9, H10, H11, H12, H13⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]
    · iapply (leaves12_last m c t h)
      iexact H12
    unfold owns; iexists _; isplitr
    swap; · iexact H13
    ipureintro; rfl

theorem defs₀_row (t : Fin cfg0.N) :
    defs₀ (F := F) .tc cfg0.body (cfg0.bodyArgs t (cfg0.slots t)) = bodyAt0 t := by
  unfold defs₀; rw [Defs.onTc_tc]

theorem bodyPost_eq (c : Dev nD) (t : Fin cfg0.N) : bodyPost m c t =
    iprop((dats m 0 c).Φ t.succ ∗ (dats m 0 c).owesAt () t.succ
      ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t ∗ (dats m 0 c).leavesExact 8 t ∗ (dats m 0 c).leavesExact 9 t ∗ (dats m 0 c).leavesExact 10 t ∗ (dats m 0 c).leavesExact 11 t ∗ (dats m 0 c).leavesExact 12 t ∗ (dats m 0 c).leavesExact 13 t) := by
  rw [leaves m c t 0 (by decide), leaves m c t 1 (by decide), leaves m c t 2 (by decide), leaves m c t 3 (by decide), leaves m c t 4 (by decide), leaves m c t 5 (by decide), leaves m c t 6 (by decide), leaves m c t 7 (by decide), leaves m c t 8 (by decide), leaves m c t 9 (by decide), leaves m c t 10 (by decide), leaves m c t 11 (by decide), leaves m c t 13 (by decide),
    after0_0, after0_1, after0_2, after0_3, after0_4, after0_5, after0_6, after0_7, after0_8, after0_9, after0_10, after0_11, after0_13]
  rfl

theorem body_obligation (c : Dev nD) : BodyObligation (dats (F := F) m 0 c) (defs₀ (F := F)) Variants.none () Set.univ := fun t => by
  rw [bigSep_W0, bigSep_W0, defs₀_row]
  have h := sound_body m c t
  simp only [bodyPost_eq] at h
  exact triple_restated h rfl .rfl fun _ => .rfl

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.DxCtxIdeal.Own

end
-- ==== Proof.DxCtxBody.lean ====
/-
  The gradient of the norm before the first SwiGLU sublayer's first product, at 4608 rows: what the body writes, read at an index.
-/
module

public import proofs.«01_k».proof.Defs
public import proofs.«01_k».proof.Proof.Tn
public import proofs.«01_k».proof.Proof.Dx2Body
public import proofs.«01_k».proof.Proof.DxCtxRun
public import proofs.«01_k».proof.Proof.Up
public import Idealize.ShloMosaic.Lib.WholeRead
public import Idealize.ShloMosaic.Lib.WritesUnit

@[expose] public section

set_option maxRecDepth 16384

noncomputable section

namespace Cert.DxCtxIdeal.Own

open Cert.Dx2Ideal.Own (dhv colsum dhv_at inv_at dx_of stats_of)
open Cert.DxCtxIdeal Cert.DxCtxIdeal.Gen Cert.Tn Cert.Rms Idealize.ShloMosaic Idealize.ShloMosaic.TcCoe Idealize.ShloMosaic.Tactic Idealize.SL.Sem Finset
open Cert.Up (co0)

variable (g3 : Vec Ideal S3x1024 .f32) (md : Vec Ideal S1x9x1024 .f32)

/-- The row of norm weights the body reads. -/
def gld : Vec Ideal S1x1024 .f32 := View.ld g3 (Rect.unit ![0, 0] ![1, 1024] inb_S3x1024_S1x1024_0_0)

/-- The row of scales the body reads. -/
def sld : Vec Ideal S1x1x1024 .f32 := View.ld md (Rect.unit ![0, 1, 0] ![1, 1, 1024] inb_S1x9x1024_S1x1x1024_0_1_0)

theorem gld_at (d : Fin 1024) : gld g3 (ix2 0 d) = g3 (ix2 0 d) := by
  unfold gld
  pointwise

theorem sld_at (d : Fin 1024) : sld md (ix3 0 0 d) = md (ix3 0 1 d) := by
  unfold sld
  pointwise

theorem zeros_at (j : S2x3x1024.Idx) : k0_pay16 (F := Ideal) j = 0 := Cert.Dx2Ideal.Own.zeros_at j

variable (m : (l : Loc nD τ sig) → Buf (Elt Ideal) l) (c : Dev nD)

abbrev Z : ℕ → ℕ → ℕ → EReal := nat3 (V m c main_arg0)
abbrev W : ℕ → ℕ → ℕ → EReal := nat3 (V m c main_arg1)
abbrev X : ℕ → ℕ → EReal := nat2 (V m c main_arg2)
abbrev D : ℕ → ℕ → EReal := nat2 (V m c main_arg3)
abbrev G : ℕ → ℕ → EReal := nat2 (V m c main_arg4)
abbrev M : ℕ → ℕ → ℕ → EReal := nat3 (V m c main_arg5)

/-- The body's product at a point. -/
abbrev dhp (t : Fin cfg0.N) : FVec Ideal S512x1024 .f32 :=
  dhv (iblk m c 0 t) (iblk m c 2 t) (iblk m c 4 t) (iblk m c 6 t) (iblk m c 1 t) (iblk m c 3 t) (iblk m c 5 t) (iblk m c 7 t)

/-- Where the body adds its part of the parameters' gradients: the latent stream at the first eight points, the context's at the last. -/
theorem off0 : ∀ t : Fin cfg0.N, t.val < 8 → ![BitVec.toNat (Scalar.indexCast (Scalar.select (Scalar.cmpi CmpIPredicate.sge (BitVec.ofNat 32 (grid0.coords t 0).val) 8#32) 1#32 0#32)), 0, 0] = ![0, 0, 0] := by
  decide +kernel

theorem off1 : ∀ t : Fin cfg0.N, ¬t.val < 8 → ![BitVec.toNat (Scalar.indexCast (Scalar.select (Scalar.cmpi CmpIPredicate.sge (BitVec.ofNat 32 (grid0.coords t 0).val) 8#32) 1#32 0#32)), 0, 0] = ![1, 0, 0] := by
  decide +kernel

theorem lt_eq : ∀ t : Fin cfg0.N, Scalar.cmpi CmpIPredicate.slt (BitVec.ofNat 32 (grid0.coords t 0).val) 9#32 = 1#1 := by
  decide +kernel

theorem add_eq (t : Fin cfg0.N) (y : Vec Ideal S512x1024 .f32) : k0_pay19 (BitVec.ofNat 32 (grid0.coords t 0).val) y = y := by
  unfold k0_pay19
  dsimp only
  rw [lt_eq t]
  rfl

theorem rows_eq (t : Fin cfg0.N) (h : t.val < 8) : rows m c t h
    = k0_pay1 (k0_pay18 (dhp m c t) (gld (iblk m c 10 t)) (k0_pay12 (sld (iblk m c 11 t))) (k0_pay13 (iblk m c 8 t)) (k0_pay14 (iblk m c 8 t))) (iblk m c 9 t) := by
  unfold rows
  by_cases h0 : t.val = 0
  · rw [dif_pos h0]
    unfold outA_12
    refine (View.read_writes_eq_canon _ _ _ (coverA_12 m c t h0)).trans ?_
    unfold atA runA
    dsimp only
    sl_unfold_words
    simp only [View.canon_cons_unit_zero (S := S512x1024) hz2, View.readAt_eq_ld, Memref.IsWhole.read_unread,
      View.ld_unit_zero (S := S512x1024) hz2, View.ld_unit_zero (S := S1x512x1408) hz3, add_eq]
    rfl
  · rw [dif_neg h0]
    unfold outB_12
    refine (View.read_writes_eq_canon _ _ _ (coverB_12 m c t h0 h _)).trans ?_
    unfold atB runB
    dsimp only
    sl_unfold_words
    simp only [View.canon_cons_unit_zero (S := S512x1024) hz2, View.readAt_eq_ld, Memref.IsWhole.read_unread,
      View.ld_unit_zero (S := S512x1024) hz2, View.ld_unit_zero (S := S1x512x1408) hz3, add_eq]
    rfl

/-- The point's sums over what the accumulator held. -/
abbrev stats (t : Fin cfg0.N) (old : Vec Ideal S1x3x1024 .f32) : FVec Ideal S1x3x1024 .f32 :=
  k0_pay17 (dhp m c t) (gld (iblk m c 10 t)) (k0_pay12 (sld (iblk m c 11 t))) (k0_pay14 (iblk m c 8 t)) (colsum (dhp m c t)) old

theorem first_eq (t : Fin cfg0.N) (h0 : t.val = 0) (q : Fin 3) (d : Fin 1024) : outA_13 m c t h0 (ix3 0 q d) = stats m c t (fun _ => 0) (ix3 0 q d) := by
  unfold outA_13 atA runA
  dsimp only
  sl_unfold_words
  refine (View.read_writes_cons_unit_of_mem _ _ _ _ _ _ (ix3 0 q d) (off0 t (by omega)) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread,
    View.ld_unit_zero (S := S512x1024) hz2, View.ld_unit_zero (S := S1x512x1408) hz3]
  refine congrArg (fun o => stats m c t o (ix3 0 q d)) (funext fun j => ?_)
  refine (View.read_writes_junk_apply_eq_canon _ _ _).trans ?_
  rw [View.canon_cons_unit_zero (S := S2x3x1024) hz3, zeros_at]

theorem first_zero (t : Fin cfg0.N) (h0 : t.val = 0) (q : Fin 3) (d : Fin 1024) : outA_13 m c t h0 (ix3 1 q d) = 0 := by
  unfold outA_13 atA runA
  dsimp only
  sl_unfold_words
  refine (View.read_writes_cons_unit_of_not_mem _ _ _ _ _ (ix3 1 q d) (off0 t (by omega)) 0 (.inr (le_refl 1))).trans ?_
  refine (View.read_writes_junk_apply_eq_canon _ _ _).trans ?_
  rw [View.canon_cons_unit_zero (S := S2x3x1024) hz3, zeros_at]

variable (t : Fin cfg0.N) (h0 : t.val ≠ 0) (x : Vec Ideal S2x3x1024 .f32) (q : Fin 3) (d : Fin 1024)

theorem next_eq (h : t.val < 8) : outB_13 m c t h0 h x (ix3 0 q d) = stats m c t (fun j => x (ix3 0 (j 1) (j 2))) (ix3 0 q d) := by
  unfold outB_13 atB runB
  dsimp only
  sl_unfold_words
  refine (View.read_writes_cons_unit_of_mem _ _ _ _ _ _ (ix3 0 q d) (off0 t h) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread, View.ld_unit_zero (S := S512x1024) hz2, View.ld_unit_zero (S := S1x512x1408) hz3]
  refine congrArg (fun o => stats m c t o (ix3 0 q d)) (funext fun j => ?_)
  refine View.ld_unit_apply_of _ _ _ _ j (ix3 0 (j 1) (j 2)) fun a => Eq.trans ?_ (congrArg (· + (j a).val) (congrFun (off0 t h) a)).symm
  match a with
  | ⟨0, _⟩ => exact (show 0 = 0 + (j 0).val by have : (j 0).val < 1 := (j 0).isLt; omega)
  | ⟨1, _⟩ => exact (Nat.zero_add _).symm
  | ⟨2, _⟩ => exact (Nat.zero_add _).symm

theorem next_keep (h : t.val < 8) : outB_13 m c t h0 h x (ix3 1 q d) = x (ix3 1 q d) := by
  unfold outB_13 atB runB
  dsimp only
  sl_unfold_words
  refine (View.read_writes_cons_unit_of_not_mem _ _ _ _ _ (ix3 1 q d) (off0 t h) 0 (.inr (le_refl 1))).trans ?_
  exact congrFun ((hs0_13 t).read_unread _) _

theorem last_eq (h : ¬t.val < 8) : outC_13 m c t h0 h x (ix3 1 q d) = stats m c t (fun j => x (ix3 1 (j 1) (j 2))) (ix3 0 q d) := by
  unfold outC_13 atC runC
  dsimp only
  sl_unfold_words
  refine (View.read_writes_cons_unit_of_mem _ _ _ _ _ _ (ix3 0 q d) (off1 t h) ?_).trans ?_
  · intro a
    match a with
    | ⟨0, _⟩ => rfl
    | ⟨1, _⟩ => exact (Nat.zero_add _).symm
    | ⟨2, _⟩ => exact (Nat.zero_add _).symm
  simp only [View.readAt_eq_ld, Memref.IsWhole.read_unread, View.ld_unit_zero (S := S512x1024) hz2, View.ld_unit_zero (S := S1x512x1408) hz3]
  refine congrArg (fun o => stats m c t o (ix3 0 q d)) (funext fun j => ?_)
  refine View.ld_unit_apply_of _ _ _ _ j (ix3 1 (j 1) (j 2)) fun a => Eq.trans ?_ (congrArg (· + (j a).val) (congrFun (off1 t h) a)).symm
  match a with
  | ⟨0, _⟩ => exact (show 1 = 1 + (j 0).val by have : (j 0).val < 1 := (j 0).isLt; omega)
  | ⟨1, _⟩ => exact (Nat.zero_add _).symm
  | ⟨2, _⟩ => exact (Nat.zero_add _).symm

theorem last_keep (h : ¬t.val < 8) : outC_13 m c t h0 h x (ix3 0 q d) = x (ix3 0 q d) := by
  unfold outC_13 atC runC
  dsimp only
  sl_unfold_words
  refine (View.read_writes_cons_unit_of_not_mem _ _ _ _ _ (ix3 0 q d) (off1 t h) 0 (.inl (by show 0 < 1; decide))).trans ?_
  exact congrFun ((hs0_13 t).read_unread _) _

theorem idxZ : ∀ t : Fin grid0.N, (win0_0.index t 0 = 0 ∧ win0_0.index t 1 = t.val ∧ win0_0.index t 2 = 0) ∧ (win0_2.index t 0 = 0 ∧ win0_2.index t 1 = t.val ∧ win0_2.index t 2 = 1)
    ∧ (win0_4.index t 0 = 1 ∧ win0_4.index t 1 = t.val ∧ win0_4.index t 2 = 0) ∧ (win0_6.index t 0 = 1 ∧ win0_6.index t 1 = t.val ∧ win0_6.index t 2 = 1) := by decide +kernel

theorem idxW : ∀ t : Fin grid0.N, (win0_1.index t 0 = 0 ∧ win0_1.index t 1 = 0 ∧ win0_1.index t 2 = 0) ∧ (win0_3.index t 0 = 1 ∧ win0_3.index t 1 = 0 ∧ win0_3.index t 2 = 0)
    ∧ (win0_5.index t 0 = 2 ∧ win0_5.index t 1 = 0 ∧ win0_5.index t 2 = 0) ∧ (win0_7.index t 0 = 3 ∧ win0_7.index t 1 = 0 ∧ win0_7.index t 2 = 0) := by decide +kernel

theorem idxR : ∀ t : Fin grid0.N, (win0_8.index t 0 = t.val ∧ win0_8.index t 1 = 0) ∧ (win0_9.index t 0 = t.val ∧ win0_9.index t 1 = 0) ∧ (win0_10.index t 0 = 0 ∧ win0_10.index t 1 = 0)
    ∧ (win0_11.index t 0 = t.val / 8 ∧ win0_11.index t 1 = 0 ∧ win0_11.index t 2 = 0) := by decide +kernel

variable (p : Fin 512) (k : Fin 1408)

theorem read0 : iblk m c 0 t (ix3 0 p k) = Z m c 0 (t.val * 512 + p.val) k.val :=
  nat3_co (V m c main_arg0) _ (((cfg0.win 0).rect_emb_val t _ 0).trans (co (idxZ t).1.1 rfl)) (((cfg0.win 0).rect_emb_val t _ 1).trans (co (idxZ t).1.2.1 rfl))
    (((cfg0.win 0).rect_emb_val t _ 2).trans (co0 (idxZ t).1.2.2))

theorem read1 : iblk m c 1 t (ix3 0 d k) = W m c 0 d.val k.val :=
  nat3_co (V m c main_arg1) _ (((cfg0.win 1).rect_emb_val t _ 0).trans (co (idxW t).1.1 rfl)) (((cfg0.win 1).rect_emb_val t _ 1).trans (co0 (idxW t).1.2.1))
    (((cfg0.win 1).rect_emb_val t _ 2).trans (co0 (idxW t).1.2.2))

theorem read2 : iblk m c 2 t (ix3 0 p k) = Z m c 0 (t.val * 512 + p.val) (1408 + k.val) :=
  nat3_co (V m c main_arg0) _ (((cfg0.win 2).rect_emb_val t _ 0).trans (co (idxZ t).2.1.1 rfl)) (((cfg0.win 2).rect_emb_val t _ 1).trans (co (idxZ t).2.1.2.1 rfl))
    (((cfg0.win 2).rect_emb_val t _ 2).trans (co (idxZ t).2.1.2.2 (by rw [one_mul]; rfl)))

theorem read3 : iblk m c 3 t (ix3 0 d k) = W m c 1 d.val k.val :=
  nat3_co (V m c main_arg1) _ (((cfg0.win 3).rect_emb_val t _ 0).trans (co (idxW t).2.1.1 rfl)) (((cfg0.win 3).rect_emb_val t _ 1).trans (co0 (idxW t).2.1.2.1))
    (((cfg0.win 3).rect_emb_val t _ 2).trans (co0 (idxW t).2.1.2.2))

theorem read4 : iblk m c 4 t (ix3 0 p k) = Z m c 1 (t.val * 512 + p.val) k.val :=
  nat3_co (V m c main_arg0) _ (((cfg0.win 4).rect_emb_val t _ 0).trans (co (idxZ t).2.2.1.1 rfl)) (((cfg0.win 4).rect_emb_val t _ 1).trans (co (idxZ t).2.2.1.2.1 rfl))
    (((cfg0.win 4).rect_emb_val t _ 2).trans (co0 (idxZ t).2.2.1.2.2))

theorem read5 : iblk m c 5 t (ix3 0 d k) = W m c 2 d.val k.val :=
  nat3_co (V m c main_arg1) _ (((cfg0.win 5).rect_emb_val t _ 0).trans (co (idxW t).2.2.1.1 rfl)) (((cfg0.win 5).rect_emb_val t _ 1).trans (co0 (idxW t).2.2.1.2.1))
    (((cfg0.win 5).rect_emb_val t _ 2).trans (co0 (idxW t).2.2.1.2.2))

theorem read6 : iblk m c 6 t (ix3 0 p k) = Z m c 1 (t.val * 512 + p.val) (1408 + k.val) :=
  nat3_co (V m c main_arg0) _ (((cfg0.win 6).rect_emb_val t _ 0).trans (co (idxZ t).2.2.2.1 rfl)) (((cfg0.win 6).rect_emb_val t _ 1).trans (co (idxZ t).2.2.2.2.1 rfl))
    (((cfg0.win 6).rect_emb_val t _ 2).trans (co (idxZ t).2.2.2.2.2 (by rw [one_mul]; rfl)))

theorem read7 : iblk m c 7 t (ix3 0 d k) = W m c 3 d.val k.val :=
  nat3_co (V m c main_arg1) _ (((cfg0.win 7).rect_emb_val t _ 0).trans (co (idxW t).2.2.2.1 rfl)) (((cfg0.win 7).rect_emb_val t _ 1).trans (co0 (idxW t).2.2.2.2.1))
    (((cfg0.win 7).rect_emb_val t _ 2).trans (co0 (idxW t).2.2.2.2.2))

theorem read8 : iblk m c 8 t (ix2 p d) = X m c (t.val * 512 + p.val) d.val :=
  nat2_co (V m c main_arg2) _ (((cfg0.win 8).rect_emb_val t _ 0).trans (co (idxR t).1.1 rfl)) (((cfg0.win 8).rect_emb_val t _ 1).trans (co0 (idxR t).1.2))

theorem read9 : iblk m c 9 t (ix2 p d) = D m c (t.val * 512 + p.val) d.val :=
  nat2_co (V m c main_arg3) _ (((cfg0.win 9).rect_emb_val t _ 0).trans (co (idxR t).2.1.1 rfl)) (((cfg0.win 9).rect_emb_val t _ 1).trans (co0 (idxR t).2.1.2))

theorem read10 : iblk m c 10 t (ix2 0 d) = G m c 0 d.val :=
  nat2_co (V m c main_arg4) _ (((cfg0.win 10).rect_emb_val t _ 0).trans (co (idxR t).2.2.1.1 rfl)) (((cfg0.win 10).rect_emb_val t _ 1).trans (co0 (idxR t).2.2.1.2))

theorem read11 : iblk m c 11 t (ix3 0 1 d) = M m c (t.val / 8) 1 d.val :=
  nat3_co (V m c main_arg5) _ (((cfg0.win 11).rect_emb_val t _ 0).trans (co (idxR t).2.2.2.1 (Nat.mul_one _))) (((cfg0.win 11).rect_emb_val t _ 1).trans (co (idxR t).2.2.2.2.1 rfl))
    (((cfg0.win 11).rect_emb_val t _ 2).trans (co0 (idxR t).2.2.2.2.2))

/-- A row of the product with the transposed weights. -/
abbrev H (r d : ℕ) : EReal := dhK (Z m c) (W m c) r d

theorem dhp_at : dhp m c t (ix2 p d) = H m c (t.val * 512 + p.val) d.val := by
  refine (dhv_at _ _ _ _ _ _ _ _ p d).trans ?_
  unfold Cert.Dx2Ideal.Own.parts
  simp only [read0, read1, read2, read3, read4, read5, read6, read7]
  rfl

theorem invp_at : Cert.Dx2Ideal.Gen.k0_pay13 (iblk m c 8 t) (ix2 p 0) = inv (X m c (t.val * 512 + p.val)) := by
  refine (inv_at (iblk m c 8 t) p).trans ?_
  simp only [read8]
  rfl

/-- A row of what a point writes. -/
theorem row_at (h : t.val < 8) : rows m c t h (ix2 p d)
    = D m c (t.val * 512 + p.val) d.val + rowK (H m c (t.val * 512 + p.val)) (X m c (t.val * 512 + p.val)) (G m c 0) (M m c 0 1) d.val := by
  rw [rows_eq]
  refine (dx_of _ _ _ _ _ p d).trans ?_
  simp only [gld_at, sld_at, dhp_at, invp_at, read8, read9, read10, read11, show t.val / 8 = 0 by omega]
  rfl

theorem tile_at (old : Vec Ideal S1x3x1024 .f32) : stats m c t old (ix3 0 q d)
    = old (ix3 0 q d) + tile (H m c) (X m c) (G m c 0) (M m c (t.val / 8) 1) q d.val t.val := by
  refine (stats_of _ _ _ _ old q d).trans ?_
  simp only [gld_at, sld_at, dhp_at, invp_at, read8, read10, read11]
  rfl

/-- The sums after a point before the last. -/
theorem sum_at (n : ℕ) (hn : n < cfg0.N) (h : n < 8) :
    sums m c n hn (ix3 0 q d) = ∑ i ∈ range (n + 1), tile (H m c) (X m c) (G m c 0) (M m c 0 1) q d.val i ∧ sums m c n hn (ix3 1 q d) = 0 := by
  induction n with
  | zero =>
    refine ⟨(first_eq m c ⟨0, hn⟩ rfl q d).trans ((tile_at m c ⟨0, hn⟩ q d _).trans ?_), first_zero m c ⟨0, hn⟩ rfl q d⟩
    rw [sum_range_succ, range_zero, sum_empty, show (⟨0, hn⟩ : Fin cfg0.N).val / 8 = 0 from Nat.zero_div 8]
  | succ n ih =>
    obtain ⟨h0, h1⟩ := ih (Nat.lt_of_succ_lt hn) (Nat.lt_of_succ_lt h)
    have e : sums m c (n + 1) hn = outB_13 m c ⟨n + 1, hn⟩ (Nat.succ_ne_zero n) h (sums m c n (Nat.lt_of_succ_lt hn)) := dif_pos h
    rw [e]
    refine ⟨(next_eq m c _ _ _ q d h).trans ((tile_at m c ⟨n + 1, hn⟩ q d _).trans ?_), (next_keep m c _ _ _ q d h).trans h1⟩
    rw [sum_range_succ _ (n + 1), ← h0, show (⟨n + 1, hn⟩ : Fin cfg0.N).val / 8 = 0 from Nat.div_eq_of_lt h]
    rfl

/-- The sums after the last point: the latent rows' tiles, and the context's. -/
theorem last_at (n : ℕ) (hn : n + 1 < cfg0.N) (h : n + 1 = 8) :
    sums m c (n + 1) hn (ix3 0 q d) = ∑ i ∈ range (n + 1), tile (H m c) (X m c) (G m c 0) (M m c 0 1) q d.val i
    ∧ sums m c (n + 1) hn (ix3 1 q d) = tile (H m c) (X m c) (G m c 0) (M m c 1 1) q d.val (n + 1) := by
  obtain ⟨h0, h1⟩ := sum_at m c q d n (Nat.lt_of_succ_lt hn) (by omega)
  have h8 : ¬n + 1 < 8 := by omega
  have e : sums m c (n + 1) hn = outC_13 m c ⟨n + 1, hn⟩ (Nat.succ_ne_zero n) h8 (sums m c n (Nat.lt_of_succ_lt hn)) := dif_neg h8
  rw [e]
  refine ⟨(last_keep m c _ _ _ q d h8).trans h0, (last_eq m c _ _ _ q d h8).trans ((tile_at m c ⟨n + 1, hn⟩ q d _).trans ?_)⟩
  rw [show (⟨n + 1, hn⟩ : Fin cfg0.N).val / 8 = 1 by show (n + 1) / 8 = 1; omega]
  exact (congrArg (· + _) h1).trans (zero_add _)

theorem idxO : ∀ t : Fin grid0.N, (win0_12.index t 0 = min t.val 7 ∧ win0_12.index t 1 = 0) ∧ win0_13.index t 0 = 0 ∧ win0_13.index t 1 = 0 ∧ win0_13.index t 2 = 0 := by decide +kernel

theorem left12_at : left12 m c t (ix2 p d) = D m c (min t.val 7 * 512 + p.val) d.val
    + rowK (H m c (min t.val 7 * 512 + p.val)) (X m c (min t.val 7 * 512 + p.val)) (G m c 0) (M m c 0 1) d.val := by
  unfold left12
  by_cases h : t.val < 8
  · rw [dif_pos h, show min t.val 7 = t.val by omega]
    exact row_at m c t d p h
  · rw [dif_neg h, show min t.val 7 = 7 by omega]
    exact row_at m c ⟨7, by rw [show cfg0.N = 9 from N_0]; decide⟩ d p (show 7 < 8 by decide)

/-- The rows' blocks go out at the points but the eighth: its tile goes out at the last point. -/
theorem flush12 : ∀ t : Fin cfg0.N, t.val ≠ 7 → (cfg0.win 12).flush t = true := by decide +kernel

theorem inj12 : ∀ t t' : Fin cfg0.N, (cfg0.win 12).flush t = true → (cfg0.win 12).flush t' = true → win0_12.index t = win0_12.index t' → t = t' := by decide +kernel

/-- The rows the run leaves. -/
theorem result0 (r : Fin 4096) (d : Fin 1024) : (dats m 0 c).arrAt 12 cfg0.N (ix2 r d)
    = D m c r.val d.val + rowK (H m c r.val) (X m c r.val) (G m c 0) (M m c 0 1) d.val := by
  obtain ⟨t, hf, ht⟩ : ∃ t : Fin cfg0.N, (cfg0.win 12).flush t = true ∧ min t.val 7 = r.val / 512 := by
    have := r.isLt
    by_cases h : r.val / 512 < 7
    · exact ⟨⟨r.val / 512, lt_of_lt_of_eq (by omega) N_0.symm⟩, flush12 _ (by show r.val / 512 ≠ 7; omega), by show min (r.val / 512) 7 = _; omega⟩
    · exact ⟨⟨8, lt_of_lt_of_eq (by decide) N_0.symm⟩, flush12 _ (show 8 ≠ 7 by decide), by show min 8 7 = _; omega⟩
  have e : min t.val 7 * 512 + r.val % 512 = r.val := by rw [ht]; exact Nat.div_add_mod' _ _
  have hb := (dats m 0 c).read_blk_arrAt_eq_flushed 12 (fun t t' h h' hne => (cfg0.win 12).disjoint_blk fun e => hne (inj12 t t' h h' e)) cfg0.N t t.isLt hf
  refine Eq.trans (congrArg _ (funext fun a => Fin.ext ?_)) ((congrFun hb (ix2 ⟨r.val % 512, Nat.mod_lt _ (by decide)⟩ d)).trans ((left12_at m c t d ⟨r.val % 512, Nat.mod_lt _ (by decide)⟩).trans ?_))
  · refine Eq.trans ?_ ((cfg0.win 12).rect_emb_val t _ a).symm
    match a with
    | ⟨0, _⟩ => exact (co (idxO t).1.1 e).symm
    | ⟨1, _⟩ => exact (co0 (idxO t).1.2).symm
  · simp only [e]

theorem disjoint13 : ∀ t t' : Fin cfg0.N, (cfg0.win 13).flush t = true → (cfg0.win 13).flush t' = true → t ≠ t' →
    Disjoint ((cfg0.win 13).blk t).view.set ((cfg0.win 13).blk t').view.set :=
  fun t t' h h' hne => absurd (Fin.ext (by
    have hN : cfg0.N = 9 := N_0
    have := (flush0_13 t).mp h
    have := (flush0_13 t').mp h'
    omega)) hne

/-- The parameters' gradients the run leaves. -/
theorem result1 (t : Fin cfg0.N) (ht : t.val = 8) (s : Fin 2) (q : Fin 3) (d : Fin 1024) : (dats m 0 c).arrAt 13 cfg0.N (ix3 s q d) = sums m c t.val t.isLt (ix3 s q d) := by
  have hb := (dats m 0 c).read_blk_arrAt_eq_flushed 13 disjoint13 cfg0.N t t.isLt ((flush0_13 t).mpr (by omega))
  refine Eq.trans (congrArg _ (funext fun a => Fin.ext ?_)) (congrFun hb (ix3 s q d))
  refine Eq.trans ?_ ((cfg0.win 13).rect_emb_val t _ a).symm
  match a with
  | ⟨0, _⟩ => exact (co0 (idxO t).2.1).symm
  | ⟨1, _⟩ => exact (co0 (idxO t).2.2.1).symm
  | ⟨2, _⟩ => exact (co0 (idxO t).2.2.2).symm

/-- Every execution ends with these results, and the arguments as they were. -/
theorem run_blocks (ρ : Dev nD → PrngReg) : θ_run defs (onTc (τ := τ) (main (F := Ideal))) ⟨m, fun _ => 0, ρ⟩ fun r => ∀ c : Dev nD,
      r.2.mem ((c : Thread nD τ).loc main_v0_0) = (dats m 0 c).arrAt 12 cfg0.N ∧ r.2.mem ((c : Thread nD τ).loc main_v0_1) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 12, (h c).1 13, ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 8).trans (((dats m 0 c).arrAt_in 8 rfl _).trans ((A_eq m c 8).trans (V_main_arg2 m c))),
      ((h c).1 9).trans (((dats m 0 c).arrAt_in 9 rfl _).trans ((A_eq m c 9).trans (V_main_arg3 m c))),
      ((h c).1 10).trans (((dats m 0 c).arrAt_in 10 rfl _).trans ((A_eq m c 10).trans (V_main_arg4 m c))),
      ((h c).1 11).trans (((dats m 0 c).arrAt_in 11 rfl _).trans ((A_eq m c 11).trans (V_main_arg5 m c)))⟩) (run_main m ρ)

end Cert.DxCtxIdeal.Own
-- ==== Proof.RefDxCtx.lean ====
/-
  The derivative of the norm before the first SwiGLU sublayer's first product, over the latent and the context's rows, read at an index.
-/
module

public import proofs.«01_k».proof.Defs
public import proofs.«01_k».proof.Proof.Rms
public import proofs.«01_k».proof.Proof.Gen.RefDxCtxIdeal.Run

@[expose] public section

set_option maxRecDepth 16384

noncomputable section

namespace Cert.RefDxCtxIdeal.Own

open Cert.RefDxCtxIdeal Cert.RefDxCtxIdeal.Value Cert.Tn Cert.Rms Idealize.ShloMosaic Idealize.ShloMosaic.TcCoe Idealize.ShloMosaic.Tactic Idealize.SL.Sem Finset

variable (m : (l : Loc nD τ sig) → Buf (Elt Ideal) l) (c : Dev nD)

theorem dz_ix (a : Fin 2) (i : Fin 4608) (j : Fin 2816) : m (c.tc.loc main_arg0) (ix3 a i j) = nat3 (m (c.tc.loc main_arg0)) a.val i.val j.val := nat3_ix _ a i j
theorem w_ix (a : Fin 4) (i : Fin 1024) (j : Fin 1408) : m (c.tc.loc main_arg1) (ix3 a i j) = nat3 (m (c.tc.loc main_arg1)) a.val i.val j.val := nat3_ix _ a i j
theorem x_ix (i : Fin 4608) (j : Fin 1024) : m (c.tc.loc main_arg2) (ix2 i j) = nat2 (m (c.tc.loc main_arg2)) i.val j.val := nat2_ix _ i j
theorem d_ix (i : Fin 4608) (j : Fin 1024) : m (c.tc.loc main_arg3) (ix2 i j) = nat2 (m (c.tc.loc main_arg3)) i.val j.val := nat2_ix _ i j
theorem g_ix (i : Fin 3) (j : Fin 1024) : m (c.tc.loc main_arg4) (ix2 i j) = nat2 (m (c.tc.loc main_arg4)) i.val j.val := nat2_ix _ i j
theorem m_ix (a : Fin 2) (i : Fin 9) (j : Fin 1024) : m (c.tc.loc main_arg5) (ix3 a i j) = nat3 (m (c.tc.loc main_arg5)) a.val i.val j.val := nat3_ix _ a i j

abbrev H (r d : ℕ) : EReal := dhR (nat3 (m (c.tc.loc main_arg0))) (nat3 (m (c.tc.loc main_arg1))) r d

/-- A sum with a padded part outside its array. -/
theorem sel {P : Prop} {_ : Decidable P} {a : P → EReal} {b x : EReal} (hP : ¬P) : x + ((if h : P then a h else 0) + b) = x + b := by
  rw [dif_neg hP, zero_add]

set_option maxRecDepth 100000 in
theorem rows_at (r : Fin 4096) (d : Fin 1024) : res_out0 (F := Ideal) m c (ix2 r d)
    = nat2 (m (c.tc.loc main_arg3)) r.val d.val + rowR (H m c r.val) (nat2 (m (c.tc.loc main_arg2)) r.val) (nat2 (m (c.tc.loc main_arg4)) 0) (nat3 (m (c.tc.loc main_arg5)) 0 1) d.val := by
  unfold res_out0 res_main_v139
  pointwise
  refine (sel fun h => h.1).trans ?_
  simp only [dz_ix, w_ix, x_ix, d_ix, g_ix, m_ix]
  rfl

/-- The latent rows' part of the parameters' gradients, -/
theorem grads_at (q : Fin 3) (d : Fin 1024) : res_out1 (F := Ideal) m c (ix3 0 q d)
    = grads 4096 (H m c) (nat2 (m (c.tc.loc main_arg2))) (nat2 (m (c.tc.loc main_arg4)) 0) (nat3 (m (c.tc.loc main_arg5)) 0 1) q d.val := by
  unfold res_out1 res_main_v143
  pointwise
  simp only [dz_ix, w_ix, x_ix, d_ix, g_ix, m_ix, dif_neg (show ¬(1 ≤ (0 : Fin 2).val ∧ (0 : Fin 2).val - 1 < 1) by decide), dif_pos (show (0 : Fin 2).val < 1 by decide), zero_add]
  rfl

/-- and the context's. -/
theorem grads_ctx_at (q : Fin 3) (d : Fin 1024) : res_out1 (F := Ideal) m c (ix3 1 q d)
    = grads 512 (fun r => H m c (4096 + r)) (fun r => nat2 (m (c.tc.loc main_arg2)) (4096 + r)) (nat2 (m (c.tc.loc main_arg4)) 0) (nat3 (m (c.tc.loc main_arg5)) 1 1) q d.val := by
  unfold res_out1 res_main_v143
  pointwise
  simp only [dz_ix, w_ix, x_ix, d_ix, g_ix, m_ix, dif_pos (show 1 ≤ (1 : Fin 2).val ∧ (1 : Fin 2).val - 1 < 1 by decide), dif_neg (show ¬(1 : Fin 2).val < 1 by decide), add_zero]
  rfl

end Cert.RefDxCtxIdeal.Own
-- ==== Proof.DxCtx.lean ====
/-
  The gradient of the norm before the first SwiGLU sublayer's first product, at 4608 rows: the body's tiles are the derivative's rows.
-/
module

public import proofs.«01_k».proof.Proof.DxCtxBody
public import proofs.«01_k».proof.Proof.RefDxCtx
public import proofs.«01_k».proof.Proof.Finite
public import proofs.«01_k».proof.Proof.Gen.DxCtx
public import proofs.«01_k».proof.Proof.Gen.Pre_finite_dx_ctx

@[expose] public section

set_option maxRecDepth 16384

noncomputable section

namespace Cert.DxCtxIdeal.Own

open Cert.DxCtxIdeal Cert.DxCtxIdeal.Gen Cert.Tn Cert.Rms Cert.Gla Idealize.ShloMosaic Idealize.ShloMosaic.TcCoe Idealize.ShloMosaic.Tactic Idealize.SL.Sem Finset

theorem reals {z : FVec Ideal ⟨3, ![2, 4608, 2816]⟩ .bf16} {w : FVec Ideal ⟨3, ![4, 1024, 1408]⟩ .bf16} {x y : FVec Ideal ⟨2, ![4608, 1024]⟩ .f32}
    {g : FVec Ideal ⟨2, ![3, 1024]⟩ .f32} {s : FVec Ideal ⟨3, ![2, 9, 1024]⟩ .f32} (h : Cert.Pre_finite_dx_ctx.fn (F := Ideal) z w x y g s = fun _ => 1#1) :
    (∀ i, ∃ r : ℝ, z i = r) ∧ (∀ i, ∃ r : ℝ, w i = r) ∧ (∀ i, ∃ r : ℝ, x i = r) ∧ (∀ i, ∃ r : ℝ, g i = r) ∧ ∀ i, ∃ r : ℝ, s i = r := by
  have h0 := congrFun h fun a => a.elim0
  obtain ⟨h1, hs⟩ := IntOp.andi_eq_one.1 h0
  obtain ⟨h2, hg⟩ := IntOp.andi_eq_one.1 h1
  obtain ⟨h3, hx⟩ := IntOp.andi_eq_one.1 h2
  obtain ⟨hz, hw⟩ := IntOp.andi_eq_one.1 h3
  exact ⟨real_of_test (extf .f32 z (by decide)) _ (fun _ => rfl) _ _ _ _ hz, real_of_test (extf .f32 w (by decide)) _ (fun _ => rfl) _ _ _ _ hw,
    real_of_test x _ (fun _ => rfl) _ _ _ _ hx, real_of_test g _ (fun _ => rfl) _ _ _ _ hg, real_of_test s _ (fun _ => rfl) _ _ _ _ hs⟩

theorem claim : Cert.algebraic_DxCtxIdeal_RefDxCtxIdeal_pre_finite_dx_ctx := by
  intro m g m' g' hpre hargs
  refine ⟨fun c => (dats m 0 c).arrAt 12 cfg0.N, fun c => (dats m 0 c).arrAt 13 cfg0.N, run_blocks m g,
    (θ_run _ _ _).mono (fun r h c => ?_) (Cert.RefDxCtxIdeal.Value.run (F := Ideal) m' g')⟩
  obtain ⟨h0, h1, hargs'⟩ := h c
  obtain ⟨a0, a1, a2, a3, a4, a5⟩ := hargs c
  obtain ⟨hz, hw, hx, hg, hs⟩ := reals (hpre c)
  have eZ : nat3 (m' (c.tc.loc Cert.RefDxCtxIdeal.main_arg0)) = Z m c := by rw [a0, ← V_main_arg0 m c]
  have eW : nat3 (m' (c.tc.loc Cert.RefDxCtxIdeal.main_arg1)) = W m c := by rw [a1, ← V_main_arg1 m c]
  have eX : nat2 (m' (c.tc.loc Cert.RefDxCtxIdeal.main_arg2)) = X m c := by rw [a2, ← V_main_arg2 m c]
  have eD : nat2 (m' (c.tc.loc Cert.RefDxCtxIdeal.main_arg3)) = D m c := by rw [a3, ← V_main_arg3 m c]
  have eG : nat2 (m' (c.tc.loc Cert.RefDxCtxIdeal.main_arg4)) = G m c := by rw [a4, ← V_main_arg4 m c]
  have eM : nat3 (m' (c.tc.loc Cert.RefDxCtxIdeal.main_arg5)) = M m c := by rw [a5, ← V_main_arg5 m c]
  have eH : Cert.RefDxCtxIdeal.Own.H m' c = H m c := by
    funext r d
    show dhR (nat3 (m' (c.tc.loc Cert.RefDxCtxIdeal.main_arg0))) (nat3 (m' (c.tc.loc Cert.RefDxCtxIdeal.main_arg1))) r d = _
    rw [eZ, eW, ← dh_eq]
  have rZ : ∀ a i j, ∃ y : ℝ, Z m c a i j = y := by rw [← eZ, a0]; exact nat3_real hz
  have rW : ∀ a i j, ∃ y : ℝ, W m c a i j = y := by rw [← eW, a1]; exact nat3_real hw
  have rX : ∀ i j, ∃ y : ℝ, X m c i j = y := by rw [← eX, a2]; exact nat2_real hx
  have rG : ∀ i j, ∃ y : ℝ, G m c i j = y := by rw [← eG, a4]; exact nat2_real hg
  have rM : ∀ a i j, ∃ y : ℝ, M m c a i j = y := by rw [← eM, a5]; exact nat3_real hs
  have rH : ∀ r d, ∃ y : ℝ, H m c r d = y := fun r d => by
    show ∃ y : ℝ, dhK (Z m c) (W m c) r d = y
    rw [dh_eq]
    exact dh_real rZ rW r d
  refine ⟨h0.trans ?_, h1.trans ?_, hargs'⟩
  · funext i
    rw [eq_ix2 i]
    generalize i 0 = r, i 1 = d
    refine (Cert.RefDxCtxIdeal.Own.rows_at m' c r d).trans (Eq.trans ?_ (result0 m c r d).symm)
    rw [eD, eX, eG, eM, eH, row_eq (rH r.val) (rX r.val) (rG 0) (rM 0 1)]
  · funext i
    rw [eq_ix3 i]
    generalize i 0 = s, i 1 = q, i 2 = d
    have h8 : 7 + 1 < cfg0.N := lt_of_lt_of_eq (by decide) N_0.symm
    refine Eq.trans ?_ (result1 m c ⟨7 + 1, h8⟩ rfl s q d).symm
    obtain ⟨l0, l1⟩ := last_at m c q d 7 h8 rfl
    match s with
    | ⟨0, _⟩ =>
      refine (Cert.RefDxCtxIdeal.Own.grads_at m' c q d).trans (Eq.trans ?_ l0.symm)
      rw [eX, eG, eM, eH]
      exact (tiles_grads 8 rH rX (rG 0) (rM 0 1) q d.val).symm
    | ⟨1, _⟩ =>
      refine (Cert.RefDxCtxIdeal.Own.grads_ctx_at m' c q d).trans (Eq.trans ?_ l1.symm)
      rw [eX, eG, eM, eH]
      refine (tiles_grads 1 (fun r => rH (4096 + r)) (fun r => rX (4096 + r)) (rG 0) (rM 1 1) q d.val).symm.trans ?_
      rw [sum_range_one]
      unfold tile
      simp only [zero_mul, zero_add]

end Cert.DxCtxIdeal.Own

set_option maxHeartbeats 2000000

namespace Cert.Dx

open Idealize.ShloMosaic Idealize.SL.Sem

theorem bodies_eq : Cert.DxCtx.defs₀ (F := Bits) = Cert.DxCtxIdeal.defs₀ (F := Bits) := by
  refine congrArg Defs.onTc (funext fun l => funext fun a => ?_)
  match l, a with
  | 0, (_, _) => rfl

theorem frame : Cert.quiescent_DxCtx := by
  intro m ρ _
  rw [show Cert.DxCtx.defs (F := Bits) = Cert.DxCtxIdeal.defs (F := Bits) from congrArg (Pipeline.defs Cert.DxCtxIdeal.pcfgs) bodies_eq,
    show Cert.DxCtx.main (F := Bits) = Cert.DxCtxIdeal.main (F := Bits) from rfl]
  exact Cert.DxCtxIdeal.Own.frame (F := Bits) m ρ

end Cert.Dx
-- ==== Proof.Down2Body.lean ====
/-
  The SwiGLU sublayer's second product with its residual, at 4096 rows: what the body writes, read at an index.
-/
module

public import proofs.«01_k».proof.Defs
public import proofs.«01_k».proof.Proof.Tn
public import proofs.«01_k».proof.Proof.Rms
public import proofs.«01_k».proof.Proof.Gen.Down2Ideal.Value
public import Idealize.ShloMosaic.Lib.WholeRead
public import Idealize.ShloMosaic.Lib.WritesUnit
public import Idealize.ShloMosaic.Lib.Pipeline.ValueKit.Tiles

@[expose] public section

set_option maxRecDepth 16384

noncomputable section

namespace Cert.Down2Ideal.Own

open Cert.Down2Ideal Cert.Down2Ideal.Gen Cert.Down2Ideal.Value Cert.Tn Cert.Rms Idealize.ShloMosaic Idealize.ShloMosaic.TcCoe Idealize.ShloMosaic.Tactic Idealize.SL.Sem Finset

/-- The half the sublayer's result is taken by. -/
abbrev half : EReal := Ideal.ofBits .f32 1056964608#32

theorem out_of (v0 : Vec Ideal S1024x2816 .bf16) (v1 : Vec Ideal S2816x256 .bf16) (v5 : Vec Ideal S1024x256 .f32) (v6 : Vec Ideal S1x1x256 .f32) (p : Fin 1024) (q : Fin 256) :
    k0_pay9 v0 v1 v5 v6 (ix2 p q) = v5 (ix2 p q) + half * v6 (ix3 0 0 q) * ∑ k : Fin 2816, v0 (ix2 p k) * v1 (ix2 k q) := by
  unfold k0_pay9 k0_pay7
  pointwise

theorem prod_of (v0 : Vec Ideal S1024x2816 .bf16) (v1 : Vec Ideal S2816x256 .bf16) (p : Fin 1024) (q : Fin 256) :
    k0_pay8 v0 v1 (ix2 p q) = ∑ k : Fin 2816, v0 (ix2 p k) * v1 (ix2 k q) := by
  unfold k0_pay8 k0_pay7
  pointwise

variable (x0 : Vec Ideal S1024x2816 .bf16) (x1 : Vec Ideal S2816x1024 .bf16) (x2 : Vec Ideal S1024x1024 .f32) (x3 : Vec Ideal S1x9x1024 .f32)

theorem x0_ix (i : Fin 1024) (j : Fin 2816) : x0 (ix2 i j) = nat2 x0 i.val j.val := nat2_ix x0 i j
theorem x1_ix (i : Fin 2816) (j : Fin 1024) : x1 (ix2 i j) = nat2 x1 i.val j.val := nat2_ix x1 i j
theorem x2_ix (i : Fin 1024) (j : Fin 1024) : x2 (ix2 i j) = nat2 x2 i.val j.val := nat2_ix x2 i j
theorem x3_ix (a : Fin 1) (i : Fin 9) (j : Fin 1024) : x3 (ix3 a i j) = nat3 x3 a.val i.val j.val := nat3_ix x3 a i j

theorem emb_val {s : Shape} (off size : Fin s.rank → ℕ) (inb) (x : (Rect.unit (s := s) off size inb).shape.Idx) (a : Fin s.rank) :
    ((Rect.unit (s := s) off size inb).emb x a).val = off a + (x a).val := Rect.idx_unit_val ..

theorem row0 (o v : ℕ) : (![0, o] : Fin 2 → ℕ) 0 + v = v := Nat.zero_add v
theorem col1 (o v : ℕ) : (![0, o] : Fin 2 → ℕ) 1 + v = o + v := rfl

theorem prod_at (p : Fin 1024) (d : Fin 1024) : out0_5 x0 x1 x2 x3 (ix2 p d) = ∑ k : Fin 2816, nat2 x0 p.val k.val * nat2 x1 k.val d.val := by
  unfold out0_5
  refine View.canon_apply_of_pieces (Val := Elt Ideal) (e := .bf16) (S := S1024x1024) (fun y => ∑ k : Fin 2816, nat2 x0 (y 0).val k.val * nat2 x1 k.val (y 1).val) _ (fun pc hp j => ?_) (ix2 p d) (cover0_5 ..)
  simp only [List.mem_cons, List.not_mem_nil, or_false] at hp
  rcases hp with rfl | rfl | rfl | rfl
  all_goals
    obtain ⟨r, q, rfl⟩ : ∃ (r : Fin 1024) (q : Fin 256), j = ix2 r q := ⟨j 0, j 1, eq_ix2 j⟩
    refine (prod_of _ _ r q).trans ?_
    pointwise
    simp only [x0_ix, x1_ix, emb_val, row0, col1, Nat.zero_add]
    rfl

theorem out_at (p : Fin 1024) (d : Fin 1024) : out0_4 x0 x1 x2 x3 (ix2 p d)
    = nat2 x2 p.val d.val + half * nat3 x3 0 8 d.val * ∑ k : Fin 2816, nat2 x0 p.val k.val * nat2 x1 k.val d.val := by
  unfold out0_4
  refine View.canon_apply_of_pieces (Val := Elt Ideal) (e := .f32) (S := S1024x1024) (fun y => nat2 x2 (y 0).val (y 1).val + half * nat3 x3 0 8 (y 1).val * ∑ k : Fin 2816, nat2 x0 (y 0).val k.val * nat2 x1 k.val (y 1).val)
    _ (fun pc hp j => ?_) (ix2 p d) (cover0_4 ..)
  simp only [List.mem_cons, List.not_mem_nil, or_false] at hp
  rcases hp with rfl | rfl | rfl | rfl
  all_goals
    obtain ⟨r, q, rfl⟩ : ∃ (r : Fin 1024) (q : Fin 256), j = ix2 r q := ⟨j 0, j 1, eq_ix2 j⟩
    refine (out_of _ _ _ _ r q).trans ?_
    pointwise
    simp only [x0_ix, x1_ix, x2_ix, x3_ix, emb_val, row0, col1, Nat.zero_add]
    rfl

variable (m : (l : Loc nD τ sig) → Buf (Elt Ideal) l) (c : Dev nD)

abbrev S : ℕ → ℕ → EReal := nat2 (V m c main_arg0)
abbrev W : ℕ → ℕ → EReal := nat2 (V m c main_arg1)
abbrev X : ℕ → ℕ → EReal := nat2 (V m c main_arg2)
abbrev M : ℕ → ℕ → ℕ → EReal := nat3 (V m c main_arg3)

theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0 ∧ win0_3.index t 2 = 0) ∧ (win0_4.index t 0 = t.val ∧ win0_4.index t 1 = 0) ∧ win0_5.index t 0 = t.val ∧ win0_5.index t 1 = 0 := by decide +kernel

theorem read0 (t : Fin cfg0.N) (p : Fin 1024) (k : Fin 2816) : nat2 (iblk m c 0 t) p.val k.val = S m c (t.val * 1024 + p.val) k.val :=
  (nat2_ix _ p k).symm.trans (nat2_co (V m c main_arg0) _ (((cfg0.win 0).rect_emb_val t _ 0).trans (co (idx t).1.1 rfl))
    (((cfg0.win 0).rect_emb_val t _ 1).trans (co (idx t).1.2 (by rw [zero_mul, zero_add]; rfl))))

theorem read1 (t : Fin cfg0.N) (k : Fin 2816) (d : Fin 1024) : nat2 (iblk m c 1 t) k.val d.val = W m c k.val d.val :=
  (nat2_ix _ k d).symm.trans (nat2_co (V m c main_arg1) _ (((cfg0.win 1).rect_emb_val t _ 0).trans (co (idx t).2.1.1 (by rw [zero_mul, zero_add]; rfl)))
    (((cfg0.win 1).rect_emb_val t _ 1).trans (co (idx t).2.1.2 (by rw [zero_mul, zero_add]; rfl))))

theorem read2 (t : Fin cfg0.N) (p : Fin 1024) (d : Fin 1024) : nat2 (iblk m c 2 t) p.val d.val = X m c (t.val * 1024 + p.val) d.val :=
  (nat2_ix _ p d).symm.trans (nat2_co (V m c main_arg2) _ (((cfg0.win 2).rect_emb_val t _ 0).trans (co (idx t).2.2.1.1 rfl))
    (((cfg0.win 2).rect_emb_val t _ 1).trans (co (idx t).2.2.1.2 (by rw [zero_mul, zero_add]; rfl))))

theorem read3 (t : Fin cfg0.N) (d : Fin 1024) : nat3 (iblk m c 3 t) 0 8 d.val = M m c 0 8 d.val :=
  (nat3_ix _ (0 : Fin 1) (8 : Fin 9) d).symm.trans (nat3_co (V m c main_arg3) _ (((cfg0.win 3).rect_emb_val t _ 0).trans (co (idx t).2.2.2.1.1 rfl))
    (((cfg0.win 3).rect_emb_val t _ 1).trans (co (idx t).2.2.2.1.2.1 rfl)) (((cfg0.win 3).rect_emb_val t _ 2).trans (co (idx t).2.2.2.1.2.2 (by rw [zero_mul, zero_add]; rfl))))

/-- The product at row `r` and column `d`. -/
abbrev P (r d : ℕ) : EReal := ∑ k : Fin 2816, S m c r k.val * W m c k.val d

/-- The rows the run leaves. -/
theorem result0 (r : Fin 4096) (d : Fin 1024) : (dats m 0 c).arrAt 4 cfg0.N (ix2 r d) = X m c r.val d.val + half * M m c 0 8 d.val * P m c r.val d.val := by
  have hr : r.val / 1024 < cfg0.N := lt_of_lt_of_eq (by have := r.isLt; omega) N_0.symm
  have e : r.val / 1024 * 1024 + r.val % 1024 = r.val := Nat.div_add_mod' _ _
  refine Eq.trans (congrArg _ (funext fun a => Fin.ext ?_)) ((congrFun ((blocks4 m c ⟨r.val / 1024, hr⟩ (flush0_4 _)).trans (flushed4 m c ⟨r.val / 1024, hr⟩))
    (ix2 ⟨r.val % 1024, Nat.mod_lt _ (by decide)⟩ d)).trans ((out_at _ _ _ _ ⟨r.val % 1024, Nat.mod_lt _ (by decide)⟩ d).trans ?_))
  · refine Eq.trans ?_ ((cfg0.win 4).rect_emb_val ⟨r.val / 1024, hr⟩ _ a).symm
    match a with
    | ⟨0, _⟩ => exact (co (idx ⟨r.val / 1024, hr⟩).2.2.2.2.1.1 e).symm
    | ⟨1, _⟩ => exact (co (idx ⟨r.val / 1024, hr⟩).2.2.2.2.1.2 (by rw [zero_mul, zero_add]; rfl)).symm
  · simp only [read0 m c ⟨r.val / 1024, hr⟩ ⟨r.val % 1024, Nat.mod_lt _ (by decide)⟩, read1, read2 m c ⟨r.val / 1024, hr⟩ ⟨r.val % 1024, Nat.mod_lt _ (by decide)⟩, read3, e]

/-- The product the run leaves. -/
theorem result1 (r : Fin 4096) (d : Fin 1024) : (dats m 0 c).arrAt 5 cfg0.N (ix2 r d) = P m c r.val d.val := by
  have hr : r.val / 1024 < cfg0.N := lt_of_lt_of_eq (by have := r.isLt; omega) N_0.symm
  have e : r.val / 1024 * 1024 + r.val % 1024 = r.val := Nat.div_add_mod' _ _
  refine Eq.trans (congrArg _ (funext fun a => Fin.ext ?_)) ((congrFun ((blocks5 m c ⟨r.val / 1024, hr⟩ (flush0_5 _)).trans (flushed5 m c ⟨r.val / 1024, hr⟩))
    (ix2 ⟨r.val % 1024, Nat.mod_lt _ (by decide)⟩ d)).trans ((prod_at _ _ _ _ ⟨r.val % 1024, Nat.mod_lt _ (by decide)⟩ d).trans ?_))
  · refine Eq.trans ?_ ((cfg0.win 5).rect_emb_val ⟨r.val / 1024, hr⟩ _ a).symm
    match a with
    | ⟨0, _⟩ => exact (co (idx ⟨r.val / 1024, hr⟩).2.2.2.2.2.1 e).symm
    | ⟨1, _⟩ => exact (co (idx ⟨r.val / 1024, hr⟩).2.2.2.2.2.2 (by rw [zero_mul, zero_add]; rfl)).symm
  · simp only [read0 m c ⟨r.val / 1024, hr⟩ ⟨r.val % 1024, Nat.mod_lt _ (by decide)⟩, read1, e]

end Cert.Down2Ideal.Own
-- ==== Proof.Down2.lean ====
/-
  The SwiGLU sublayer's second product with its residual, at 4096 rows: the body's column pieces are the whole product.
-/
module

public import proofs.«01_k».proof.Proof.Down2Body
public import proofs.«01_k».proof.Proof.Gen.Down2.Frame
public import proofs.«01_k».proof.Proof.Gen.RefDown2Ideal.Run

@[expose] public section

set_option maxRecDepth 16384

noncomputable section

namespace Cert.Down2Ideal.Own

open Cert.Down2Ideal Cert.Down2Ideal.Gen Cert.Down2Ideal.Value Cert.Tn Cert.Rms Idealize.ShloMosaic Idealize.ShloMosaic.TcCoe Idealize.ShloMosaic.Tactic Idealize.SL.Sem Finset

theorem claim : Cert.algebraic_Down2Ideal_RefDown2Ideal := by
  intro m g m' g' _ hargs
  refine ⟨fun c => (dats m 0 c).arrAt 4 cfg0.N, fun c => (dats m 0 c).arrAt 5 cfg0.N, Cert.Down2Ideal.Value.run_blocks (F := Ideal) m g,
    (θ_run _ _ _).mono (fun r h c => ?_) (Cert.RefDown2Ideal.Value.run (F := Ideal) m' g')⟩
  obtain ⟨h0, h1, hargs'⟩ := h c
  obtain ⟨a0, a1, a2, a3⟩ := hargs c
  have eS : ∀ (i : Fin 4096) (j : Fin 2816), m' (c.tc.loc Cert.RefDown2Ideal.main_arg0) (ix2 i j) = S m c i.val j.val := fun i j => by rw [a0, ← V_main_arg0 m c]; exact nat2_ix _ i j
  have eW : ∀ (i : Fin 2816) (j : Fin 1024), m' (c.tc.loc Cert.RefDown2Ideal.main_arg1) (ix2 i j) = W m c i.val j.val := fun i j => by rw [a1, ← V_main_arg1 m c]; exact nat2_ix _ i j
  have eX : ∀ (i : Fin 4096) (j : Fin 1024), m' (c.tc.loc Cert.RefDown2Ideal.main_arg2) (ix2 i j) = X m c i.val j.val := fun i j => by rw [a2, ← V_main_arg2 m c]; exact nat2_ix _ i j
  have eM : ∀ (a : Fin 2) (i : Fin 9) (j : Fin 1024), m' (c.tc.loc Cert.RefDown2Ideal.main_arg3) (ix3 a i j) = M m c a.val i.val j.val := fun a i j => by
    rw [a3, ← V_main_arg3 m c]; exact nat3_ix _ a i j
  refine ⟨h0.trans ?_, h1.trans ?_, hargs'⟩
  · funext i
    obtain ⟨r, d, rfl⟩ : ∃ (r : Fin 4096) (d : Fin 1024), i = ix2 r d := ⟨i 0, i 1, eq_ix2 i⟩
    refine Eq.trans ?_ (result0 m c r d).symm
    pointwise
    simp only [eS, eW, eX, eM]
    rfl
  · funext i
    obtain ⟨r, d, rfl⟩ : ∃ (r : Fin 4096) (d : Fin 1024), i = ix2 r d := ⟨i 0, i 1, eq_ix2 i⟩
    refine Eq.trans ?_ (result1 m c r d).symm
    pointwise
    simp only [eS, eW]

end Cert.Down2Ideal.Own
-- ==== Proof.Down0Body.lean ====
/-
  The first SwiGLU sublayer's second product with its residual, at 4096 rows: what the body writes, read at an index.
-/
module

public import proofs.«01_k».proof.Defs
public import proofs.«01_k».proof.Proof.Tn
public import proofs.«01_k».proof.Proof.Down2Body
public import proofs.«01_k».proof.Proof.Gen.Down0Ideal.Value
public import Idealize.ShloMosaic.Lib.WholeRead
public import Idealize.ShloMosaic.Lib.WritesUnit
public import Idealize.ShloMosaic.Lib.Pipeline.ValueKit.Tiles

@[expose] public section

set_option maxRecDepth 16384

noncomputable section

namespace Cert.Down0Ideal.Own

open Cert.Down2Ideal.Own (half out_of x0_ix x1_ix x2_ix x3_ix emb_val row0 col1)
open Cert.Down0Ideal Cert.Down0Ideal.Gen Cert.Down0Ideal.Value Cert.Tn Cert.Rms Idealize.ShloMosaic Idealize.ShloMosaic.TcCoe Idealize.ShloMosaic.Tactic Idealize.SL.Sem Finset

theorem prod_at (x0 : Vec Ideal S1024x2816 .bf16) (x1 : Vec Ideal S2816x1024 .bf16) (x2 : Vec Ideal S1024x1024 .f32) (x3 : Vec Ideal S1x9x1024 .f32) (p : Fin 1024) (d : Fin 1024) :
    out0_5 x0 x1 x2 x3 (ix2 p d) = ∑ k : Fin 2816, nat2 x0 p.val k.val * nat2 x1 k.val d.val :=
  Cert.Down2Ideal.Own.prod_at x0 x1 x2 x3 p d

variable (x0 : Vec Ideal S1024x2816 .bf16) (x1 : Vec Ideal S2816x1024 .bf16) (x2 : Vec Ideal S1024x1024 .f32) (x3 : Vec Ideal S1x9x1024 .f32)

theorem out_at (p : Fin 1024) (d : Fin 1024) : out0_4 x0 x1 x2 x3 (ix2 p d)
    = nat2 x2 p.val d.val + half * nat3 x3 0 2 d.val * ∑ k : Fin 2816, nat2 x0 p.val k.val * nat2 x1 k.val d.val := by
  unfold out0_4
  refine View.canon_apply_of_pieces (Val := Elt Ideal) (e := .f32) (S := S1024x1024) (fun y => nat2 x2 (y 0).val (y 1).val + half * nat3 x3 0 2 (y 1).val * ∑ k : Fin 2816, nat2 x0 (y 0).val k.val * nat2 x1 k.val (y 1).val)
    _ (fun pc hp j => ?_) (ix2 p d) (cover0_4 ..)
  simp only [List.mem_cons, List.not_mem_nil, or_false] at hp
  rcases hp with rfl | rfl | rfl | rfl
  all_goals
    obtain ⟨r, q, rfl⟩ : ∃ (r : Fin 1024) (q : Fin 256), j = ix2 r q := ⟨j 0, j 1, eq_ix2 j⟩
    refine (out_of _ _ _ _ r q).trans ?_
    pointwise
    simp only [x0_ix, x1_ix, x2_ix, x3_ix, emb_val, row0, col1, Nat.zero_add]
    rfl

variable (m : (l : Loc nD τ sig) → Buf (Elt Ideal) l) (c : Dev nD)

abbrev S : ℕ → ℕ → EReal := nat2 (V m c main_arg0)
abbrev W : ℕ → ℕ → EReal := nat2 (V m c main_arg1)
abbrev X : ℕ → ℕ → EReal := nat2 (V m c main_arg2)
abbrev M : ℕ → ℕ → ℕ → EReal := nat3 (V m c main_arg3)

/-- The two launches move their windows alike: they differ in the row of the modulation alone. -/
theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = 0 ∧ win0_3.index t 1 = 0 ∧ win0_3.index t 2 = 0) ∧ (win0_4.index t 0 = t.val ∧ win0_4.index t 1 = 0) ∧ win0_5.index t 0 = t.val ∧ win0_5.index t 1 = 0 :=
  Cert.Down2Ideal.Own.idx

theorem read0 (t : Fin cfg0.N) (p : Fin 1024) (k : Fin 2816) : nat2 (iblk m c 0 t) p.val k.val = S m c (t.val * 1024 + p.val) k.val :=
  Cert.Down2Ideal.Own.read0 m c t p k

theorem read1 (t : Fin cfg0.N) (k : Fin 2816) (d : Fin 1024) : nat2 (iblk m c 1 t) k.val d.val = W m c k.val d.val :=
  Cert.Down2Ideal.Own.read1 m c t k d

theorem read2 (t : Fin cfg0.N) (p : Fin 1024) (d : Fin 1024) : nat2 (iblk m c 2 t) p.val d.val = X m c (t.val * 1024 + p.val) d.val :=
  Cert.Down2Ideal.Own.read2 m c t p d

theorem read3 (t : Fin cfg0.N) (d : Fin 1024) : nat3 (iblk m c 3 t) 0 2 d.val = M m c 0 2 d.val :=
  (nat3_ix _ (0 : Fin 1) (2 : Fin 9) d).symm.trans (nat3_co (V m c main_arg3) _ (((cfg0.win 3).rect_emb_val t _ 0).trans (co (idx t).2.2.2.1.1 rfl))
    (((cfg0.win 3).rect_emb_val t _ 1).trans (co (idx t).2.2.2.1.2.1 rfl)) (((cfg0.win 3).rect_emb_val t _ 2).trans (co (idx t).2.2.2.1.2.2 (by rw [zero_mul, zero_add]; rfl))))

/-- The product at row `r` and column `d`. -/
abbrev P (r d : ℕ) : EReal := ∑ k : Fin 2816, S m c r k.val * W m c k.val d

/-- The rows the run leaves. -/
theorem result0 (r : Fin 4096) (d : Fin 1024) : (dats m 0 c).arrAt 4 cfg0.N (ix2 r d) = X m c r.val d.val + half * M m c 0 2 d.val * P m c r.val d.val := by
  have hr : r.val / 1024 < cfg0.N := lt_of_lt_of_eq (by have := r.isLt; omega) N_0.symm
  have e : r.val / 1024 * 1024 + r.val % 1024 = r.val := Nat.div_add_mod' _ _
  refine Eq.trans (congrArg _ (funext fun a => Fin.ext ?_)) ((congrFun ((blocks4 m c ⟨r.val / 1024, hr⟩ (flush0_4 _)).trans (flushed4 m c ⟨r.val / 1024, hr⟩))
    (ix2 ⟨r.val % 1024, Nat.mod_lt _ (by decide)⟩ d)).trans ((out_at _ _ _ _ ⟨r.val % 1024, Nat.mod_lt _ (by decide)⟩ d).trans ?_))
  · refine Eq.trans ?_ ((cfg0.win 4).rect_emb_val ⟨r.val / 1024, hr⟩ _ a).symm
    match a with
    | ⟨0, _⟩ => exact (co (idx ⟨r.val / 1024, hr⟩).2.2.2.2.1.1 e).symm
    | ⟨1, _⟩ => exact (co (idx ⟨r.val / 1024, hr⟩).2.2.2.2.1.2 (by rw [zero_mul, zero_add]; rfl)).symm
  · simp only [read0 m c ⟨r.val / 1024, hr⟩ ⟨r.val % 1024, Nat.mod_lt _ (by decide)⟩, read1, read2 m c ⟨r.val / 1024, hr⟩ ⟨r.val % 1024, Nat.mod_lt _ (by decide)⟩, read3, e]

/-- The product the run leaves. -/
theorem result1 (r : Fin 4096) (d : Fin 1024) : (dats m 0 c).arrAt 5 cfg0.N (ix2 r d) = P m c r.val d.val := by
  have hr : r.val / 1024 < cfg0.N := lt_of_lt_of_eq (by have := r.isLt; omega) N_0.symm
  have e : r.val / 1024 * 1024 + r.val % 1024 = r.val := Nat.div_add_mod' _ _
  refine Eq.trans (congrArg _ (funext fun a => Fin.ext ?_)) ((congrFun ((blocks5 m c ⟨r.val / 1024, hr⟩ (flush0_5 _)).trans (flushed5 m c ⟨r.val / 1024, hr⟩))
    (ix2 ⟨r.val % 1024, Nat.mod_lt _ (by decide)⟩ d)).trans ((prod_at _ _ _ _ ⟨r.val % 1024, Nat.mod_lt _ (by decide)⟩ d).trans ?_))
  · refine Eq.trans ?_ ((cfg0.win 5).rect_emb_val ⟨r.val / 1024, hr⟩ _ a).symm
    match a with
    | ⟨0, _⟩ => exact (co (idx ⟨r.val / 1024, hr⟩).2.2.2.2.2.1 e).symm
    | ⟨1, _⟩ => exact (co (idx ⟨r.val / 1024, hr⟩).2.2.2.2.2.2 (by rw [zero_mul, zero_add]; rfl)).symm
  · simp only [read0 m c ⟨r.val / 1024, hr⟩ ⟨r.val % 1024, Nat.mod_lt _ (by decide)⟩, read1, e]

end Cert.Down0Ideal.Own
-- ==== Proof.Down0.lean ====
/-
  The first SwiGLU sublayer's second product with its residual, at 4096 rows: the body's column pieces are the whole product.
-/
module

public import proofs.«01_k».proof.Proof.Down0Body
public import proofs.«01_k».proof.Proof.Gen.Down0.Frame
public import proofs.«01_k».proof.Proof.Gen.RefDown0Ideal.Run

@[expose] public section

set_option maxRecDepth 16384

noncomputable section

namespace Cert.Down0Ideal.Own

open Cert.Down0Ideal Cert.Down0Ideal.Gen Cert.Down0Ideal.Value Cert.Tn Cert.Rms Idealize.ShloMosaic Idealize.ShloMosaic.TcCoe Idealize.ShloMosaic.Tactic Idealize.SL.Sem Finset

theorem claim : Cert.algebraic_Down0Ideal_RefDown0Ideal := by
  intro m g m' g' _ hargs
  refine ⟨fun c => (dats m 0 c).arrAt 4 cfg0.N, fun c => (dats m 0 c).arrAt 5 cfg0.N, Cert.Down0Ideal.Value.run_blocks (F := Ideal) m g,
    (θ_run _ _ _).mono (fun r h c => ?_) (Cert.RefDown0Ideal.Value.run (F := Ideal) m' g')⟩
  obtain ⟨h0, h1, hargs'⟩ := h c
  obtain ⟨a0, a1, a2, a3⟩ := hargs c
  have eS : ∀ (i : Fin 4096) (j : Fin 2816), m' (c.tc.loc Cert.RefDown0Ideal.main_arg0) (ix2 i j) = S m c i.val j.val := fun i j => by rw [a0, ← V_main_arg0 m c]; exact nat2_ix _ i j
  have eW : ∀ (i : Fin 2816) (j : Fin 1024), m' (c.tc.loc Cert.RefDown0Ideal.main_arg1) (ix2 i j) = W m c i.val j.val := fun i j => by rw [a1, ← V_main_arg1 m c]; exact nat2_ix _ i j
  have eX : ∀ (i : Fin 4096) (j : Fin 1024), m' (c.tc.loc Cert.RefDown0Ideal.main_arg2) (ix2 i j) = X m c i.val j.val := fun i j => by rw [a2, ← V_main_arg2 m c]; exact nat2_ix _ i j
  have eM : ∀ (a : Fin 2) (i : Fin 9) (j : Fin 1024), m' (c.tc.loc Cert.RefDown0Ideal.main_arg3) (ix3 a i j) = M m c a.val i.val j.val := fun a i j => by
    rw [a3, ← V_main_arg3 m c]; exact nat3_ix _ a i j
  refine ⟨h0.trans ?_, h1.trans ?_, hargs'⟩
  · funext i
    obtain ⟨r, d, rfl⟩ : ∃ (r : Fin 4096) (d : Fin 1024), i = ix2 r d := ⟨i 0, i 1, eq_ix2 i⟩
    refine Eq.trans ?_ (result0 m c r d).symm
    pointwise
    simp only [eS, eW, eX, eM]
    rfl
  · funext i
    obtain ⟨r, d, rfl⟩ : ∃ (r : Fin 4096) (d : Fin 1024), i = ix2 r d := ⟨i 0, i 1, eq_ix2 i⟩
    refine Eq.trans ?_ (result1 m c r d).symm
    pointwise
    simp only [eS, eW]

end Cert.Down0Ideal.Own
-- ==== Proof.DownCtxBody.lean ====
/-
  The first SwiGLU sublayer's second product with its residual, over the latent rows and the context's: what the body writes, read at an index.
-/
module

public import proofs.«01_k».proof.Defs
public import proofs.«01_k».proof.Proof.Tn
public import proofs.«01_k».proof.Proof.Down2Body
public import proofs.«01_k».proof.Proof.Gen.DownCtxIdeal.Value
public import Idealize.ShloMosaic.Lib.WholeRead
public import Idealize.ShloMosaic.Lib.WritesUnit
public import Idealize.ShloMosaic.Lib.Pipeline.ValueKit.Tiles

@[expose] public section

set_option maxRecDepth 16384

noncomputable section

namespace Cert.DownCtxIdeal.Own

open Cert.Down2Ideal.Own (half x1_ix x3_ix emb_val row0 col1)
open Cert.DownCtxIdeal Cert.DownCtxIdeal.Gen Cert.DownCtxIdeal.Value Cert.Tn Cert.Rms Idealize.ShloMosaic Idealize.ShloMosaic.TcCoe Idealize.ShloMosaic.Tactic Idealize.SL.Sem Finset

theorem out_of (v0 : Vec Ideal S512x2816 .bf16) (v1 : Vec Ideal S2816x256 .bf16) (v5 : Vec Ideal S512x256 .f32) (v6 : Vec Ideal S1x1x256 .f32) (p : Fin 512) (q : Fin 256) :
    k0_pay9 v0 v1 v5 v6 (ix2 p q) = v5 (ix2 p q) + half * v6 (ix3 0 0 q) * ∑ k : Fin 2816, v0 (ix2 p k) * v1 (ix2 k q) := by
  unfold k0_pay9 k0_pay7
  pointwise

theorem prod_of (v0 : Vec Ideal S512x2816 .bf16) (v1 : Vec Ideal S2816x256 .bf16) (p : Fin 512) (q : Fin 256) :
    k0_pay8 v0 v1 (ix2 p q) = ∑ k : Fin 2816, v0 (ix2 p k) * v1 (ix2 k q) := by
  unfold k0_pay8 k0_pay7
  pointwise

variable (x0 : Vec Ideal S512x2816 .bf16) (x1 : Vec Ideal S2816x1024 .bf16) (x2 : Vec Ideal S512x1024 .f32) (x3 : Vec Ideal S1x9x1024 .f32)

theorem x0_ix (i : Fin 512) (j : Fin 2816) : x0 (ix2 i j) = nat2 x0 i.val j.val := nat2_ix x0 i j
theorem x2_ix (i : Fin 512) (j : Fin 1024) : x2 (ix2 i j) = nat2 x2 i.val j.val := nat2_ix x2 i j

theorem prod_at (p : Fin 512) (d : Fin 1024) : out0_5 x0 x1 x2 x3 (ix2 p d) = ∑ k : Fin 2816, nat2 x0 p.val k.val * nat2 x1 k.val d.val := by
  unfold out0_5
  refine View.canon_apply_of_pieces (Val := Elt Ideal) (e := .bf16) (S := S512x1024) (fun y => ∑ k : Fin 2816, nat2 x0 (y 0).val k.val * nat2 x1 k.val (y 1).val) _ (fun pc hp j => ?_) (ix2 p d) (cover0_5 ..)
  simp only [List.mem_cons, List.not_mem_nil, or_false] at hp
  rcases hp with rfl | rfl | rfl | rfl
  all_goals
    obtain ⟨r, q, rfl⟩ : ∃ (r : Fin 512) (q : Fin 256), j = ix2 r q := ⟨j 0, j 1, eq_ix2 j⟩
    refine (prod_of _ _ r q).trans ?_
    pointwise
    simp only [x0_ix, x1_ix, emb_val, row0, col1, Nat.zero_add]
    rfl

theorem out_at (p : Fin 512) (d : Fin 1024) : out0_4 x0 x1 x2 x3 (ix2 p d)
    = nat2 x2 p.val d.val + half * nat3 x3 0 2 d.val * ∑ k : Fin 2816, nat2 x0 p.val k.val * nat2 x1 k.val d.val := by
  unfold out0_4
  refine View.canon_apply_of_pieces (Val := Elt Ideal) (e := .f32) (S := S512x1024) (fun y => nat2 x2 (y 0).val (y 1).val + half * nat3 x3 0 2 (y 1).val * ∑ k : Fin 2816, nat2 x0 (y 0).val k.val * nat2 x1 k.val (y 1).val)
    _ (fun pc hp j => ?_) (ix2 p d) (cover0_4 ..)
  simp only [List.mem_cons, List.not_mem_nil, or_false] at hp
  rcases hp with rfl | rfl | rfl | rfl
  all_goals
    obtain ⟨r, q, rfl⟩ : ∃ (r : Fin 512) (q : Fin 256), j = ix2 r q := ⟨j 0, j 1, eq_ix2 j⟩
    refine (out_of _ _ _ _ r q).trans ?_
    pointwise
    simp only [x0_ix, x1_ix, x2_ix, x3_ix, emb_val, row0, col1, Nat.zero_add]
    rfl

variable (m : (l : Loc nD τ sig) → Buf (Elt Ideal) l) (c : Dev nD)

abbrev S : ℕ → ℕ → EReal := nat2 (V m c main_arg0)
abbrev W : ℕ → ℕ → EReal := nat2 (V m c main_arg1)
abbrev X : ℕ → ℕ → EReal := nat2 (V m c main_arg2)
abbrev M : ℕ → ℕ → ℕ → EReal := nat3 (V m c main_arg3)

theorem idx : ∀ t : Fin grid0.N, (win0_0.index t 0 = t.val ∧ win0_0.index t 1 = 0) ∧ (win0_1.index t 0 = 0 ∧ win0_1.index t 1 = 0) ∧ (win0_2.index t 0 = t.val ∧ win0_2.index t 1 = 0)
    ∧ (win0_3.index t 0 = t.val / 8 ∧ win0_3.index t 1 = 0 ∧ win0_3.index t 2 = 0) ∧ (win0_4.index t 0 = t.val ∧ win0_4.index t 1 = 0) ∧ win0_5.index t 0 = t.val ∧ win0_5.index t 1 = 0 := by decide +kernel

theorem read0 (t : Fin cfg0.N) (p : Fin 512) (k : Fin 2816) : nat2 (iblk m c 0 t) p.val k.val = S m c (t.val * 512 + p.val) k.val :=
  (nat2_ix _ p k).symm.trans (nat2_co (V m c main_arg0) _ (((cfg0.win 0).rect_emb_val t _ 0).trans (co (idx t).1.1 rfl))
    (((cfg0.win 0).rect_emb_val t _ 1).trans (co (idx t).1.2 (by rw [zero_mul, zero_add]; rfl))))

theorem read1 (t : Fin cfg0.N) (k : Fin 2816) (d : Fin 1024) : nat2 (iblk m c 1 t) k.val d.val = W m c k.val d.val :=
  (nat2_ix _ k d).symm.trans (nat2_co (V m c main_arg1) _ (((cfg0.win 1).rect_emb_val t _ 0).trans (co (idx t).2.1.1 (by rw [zero_mul, zero_add]; rfl)))
    (((cfg0.win 1).rect_emb_val t _ 1).trans (co (idx t).2.1.2 (by rw [zero_mul, zero_add]; rfl))))

theorem read2 (t : Fin cfg0.N) (p : Fin 512) (d : Fin 1024) : nat2 (iblk m c 2 t) p.val d.val = X m c (t.val * 512 + p.val) d.val :=
  (nat2_ix _ p d).symm.trans (nat2_co (V m c main_arg2) _ (((cfg0.win 2).rect_emb_val t _ 0).trans (co (idx t).2.2.1.1 rfl))
    (((cfg0.win 2).rect_emb_val t _ 1).trans (co (idx t).2.2.1.2 (by rw [zero_mul, zero_add]; rfl))))

theorem read3 (t : Fin cfg0.N) (d : Fin 1024) : nat3 (iblk m c 3 t) 0 2 d.val = M m c (t.val / 8) 2 d.val :=
  (nat3_ix _ (0 : Fin 1) (2 : Fin 9) d).symm.trans (nat3_co (V m c main_arg3) _ (((cfg0.win 3).rect_emb_val t _ 0).trans (co (idx t).2.2.2.1.1 (Nat.mul_one _)))
    (((cfg0.win 3).rect_emb_val t _ 1).trans (co (idx t).2.2.2.1.2.1 rfl)) (((cfg0.win 3).rect_emb_val t _ 2).trans (co (idx t).2.2.2.1.2.2 (by rw [zero_mul, zero_add]; rfl))))

/-- The product at row `r` and column `d`. -/
abbrev P (r d : ℕ) : EReal := ∑ k : Fin 2816, S m c r k.val * W m c k.val d

/-- The rows the run leaves. -/
theorem result0 (r : Fin 4608) (d : Fin 1024) : (dats m 0 c).arrAt 4 cfg0.N (ix2 r d) = X m c r.val d.val + half * M m c (r.val / 4096) 2 d.val * P m c r.val d.val := by
  have hr : r.val / 512 < cfg0.N := lt_of_lt_of_eq (by have := r.isLt; omega) N_0.symm
  have e : r.val / 512 * 512 + r.val % 512 = r.val := Nat.div_add_mod' _ _
  refine Eq.trans (congrArg _ (funext fun a => Fin.ext ?_)) ((congrFun ((blocks4 m c ⟨r.val / 512, hr⟩ (flush0_4 _)).trans (flushed4 m c ⟨r.val / 512, hr⟩))
    (ix2 ⟨r.val % 512, Nat.mod_lt _ (by decide)⟩ d)).trans ((out_at _ _ _ _ ⟨r.val % 512, Nat.mod_lt _ (by decide)⟩ d).trans ?_))
  · refine Eq.trans ?_ ((cfg0.win 4).rect_emb_val ⟨r.val / 512, hr⟩ _ a).symm
    match a with
    | ⟨0, _⟩ => exact (co (idx ⟨r.val / 512, hr⟩).2.2.2.2.1.1 e).symm
    | ⟨1, _⟩ => exact (co (idx ⟨r.val / 512, hr⟩).2.2.2.2.1.2 (by rw [zero_mul, zero_add]; rfl)).symm
  · simp only [read0 m c ⟨r.val / 512, hr⟩ ⟨r.val % 512, Nat.mod_lt _ (by decide)⟩, read1, read2 m c ⟨r.val / 512, hr⟩ ⟨r.val % 512, Nat.mod_lt _ (by decide)⟩, read3, e]
    rw [Nat.div_div_eq_div_mul]

/-- The product the run leaves. -/
theorem result1 (r : Fin 4608) (d : Fin 1024) : (dats m 0 c).arrAt 5 cfg0.N (ix2 r d) = P m c r.val d.val := by
  have hr : r.val / 512 < cfg0.N := lt_of_lt_of_eq (by have := r.isLt; omega) N_0.symm
  have e : r.val / 512 * 512 + r.val % 512 = r.val := Nat.div_add_mod' _ _
  refine Eq.trans (congrArg _ (funext fun a => Fin.ext ?_)) ((congrFun ((blocks5 m c ⟨r.val / 512, hr⟩ (flush0_5 _)).trans (flushed5 m c ⟨r.val / 512, hr⟩))
    (ix2 ⟨r.val % 512, Nat.mod_lt _ (by decide)⟩ d)).trans ((prod_at _ _ _ _ ⟨r.val % 512, Nat.mod_lt _ (by decide)⟩ d).trans ?_))
  · refine Eq.trans ?_ ((cfg0.win 5).rect_emb_val ⟨r.val / 512, hr⟩ _ a).symm
    match a with
    | ⟨0, _⟩ => exact (co (idx ⟨r.val / 512, hr⟩).2.2.2.2.2.1 e).symm
    | ⟨1, _⟩ => exact (co (idx ⟨r.val / 512, hr⟩).2.2.2.2.2.2 (by rw [zero_mul, zero_add]; rfl)).symm
  · simp only [read0 m c ⟨r.val / 512, hr⟩ ⟨r.val % 512, Nat.mod_lt _ (by decide)⟩, read1, e]

end Cert.DownCtxIdeal.Own
-- ==== Proof.DownCtx.lean ====
/-
  The first SwiGLU sublayer's second product with its residual, over the latent rows and the context's: the body's column pieces are the whole product.
-/
module

public import proofs.«01_k».proof.Proof.DownCtxBody
public import proofs.«01_k».proof.Proof.Gen.DownCtx.Frame
public import proofs.«01_k».proof.Proof.Gen.RefDownCtxIdeal.Run

@[expose] public section

set_option maxRecDepth 16384

noncomputable section

namespace Cert.DownCtxIdeal.Own

open Cert.DownCtxIdeal Cert.DownCtxIdeal.Gen Cert.DownCtxIdeal.Value Cert.Tn Cert.Rms Idealize.ShloMosaic Idealize.ShloMosaic.TcCoe Idealize.ShloMosaic.Tactic Idealize.SL.Sem Finset

theorem claim : Cert.algebraic_DownCtxIdeal_RefDownCtxIdeal := by
  intro m g m' g' _ hargs
  refine ⟨fun c => (dats m 0 c).arrAt 4 cfg0.N, fun c => (dats m 0 c).arrAt 5 cfg0.N, Cert.DownCtxIdeal.Value.run_blocks (F := Ideal) m g,
    (θ_run _ _ _).mono (fun r h c => ?_) (Cert.RefDownCtxIdeal.Value.run (F := Ideal) m' g')⟩
  obtain ⟨h0, h1, hargs'⟩ := h c
  obtain ⟨a0, a1, a2, a3⟩ := hargs c
  have eS : ∀ (i : Fin 4608) (j : Fin 2816), m' (c.tc.loc Cert.RefDownCtxIdeal.main_arg0) (ix2 i j) = S m c i.val j.val := fun i j => by rw [a0, ← V_main_arg0 m c]; exact nat2_ix _ i j
  have eW : ∀ (i : Fin 2816) (j : Fin 1024), m' (c.tc.loc Cert.RefDownCtxIdeal.main_arg1) (ix2 i j) = W m c i.val j.val := fun i j => by rw [a1, ← V_main_arg1 m c]; exact nat2_ix _ i j
  have eX : ∀ (i : Fin 4608) (j : Fin 1024), m' (c.tc.loc Cert.RefDownCtxIdeal.main_arg2) (ix2 i j) = X m c i.val j.val := fun i j => by rw [a2, ← V_main_arg2 m c]; exact nat2_ix _ i j
  have eM : ∀ (a : Fin 2) (i : Fin 9) (j : Fin 1024), m' (c.tc.loc Cert.RefDownCtxIdeal.main_arg3) (ix3 a i j) = M m c a.val i.val j.val := fun a i j => by
    rw [a3, ← V_main_arg3 m c]; exact nat3_ix _ a i j
  refine ⟨h0.trans ?_, h1.trans ?_, hargs'⟩
  · funext i
    obtain ⟨r, d, rfl⟩ : ∃ (r : Fin 4608) (d : Fin 1024), i = ix2 r d := ⟨i 0, i 1, eq_ix2 i⟩
    refine Eq.trans ?_ (result0 m c r d).symm
    pointwise
    simp only [eS, eW, eX, eM]
    refine congrArg (fun g => X m c r.val d.val + Ideal.ofBits FTy.f32 1056964608#32 * g * ∑ k : Fin 2816, S m c r.val k.val * W m c k.val d.val) ?_
    by_cases h : r.val < 4096
    · rw [dif_pos h, Nat.div_eq_of_lt h]
      rfl
    · rw [dif_neg h, show r.val / 4096 = 1 by have := r.isLt; omega]
      rfl
  · funext i
    obtain ⟨r, d, rfl⟩ : ∃ (r : Fin 4608) (d : Fin 1024), i = ix2 r d := ⟨i 0, i 1, eq_ix2 i⟩
    refine Eq.trans ?_ (result1 m c r d).symm
    pointwise
    simp only [eS, eW]

end Cert.DownCtxIdeal.Own
-- ==== Proof.Dwi.lean ====
/-
  The weight gradient of the SwiGLU sublayer's first product, at 4096 rows: each block of the result is the sum of two tiles' products.
-/
module

public import proofs.«01_k».proof.Defs
public import proofs.«01_k».proof.Proof.Tn
public import proofs.«01_k».proof.Proof.Gen.DwiIdeal.Value
public import proofs.«01_k».proof.Proof.Gen.RefDwiIdeal.Run
public import Idealize.ShloMosaic.Lib.WholeRead

@[expose] public section

set_option maxRecDepth 16384

noncomputable section

namespace Cert.DwiIdeal.Own

open Cert.DwiIdeal Cert.DwiIdeal.Gen Cert.DwiIdeal.Value Cert.Tn Idealize.ShloMosaic Idealize.ShloMosaic.TcCoe Idealize.ShloMosaic.Tactic Idealize.SL.Sem Finset

section Body

variable (c : Dev nD) (i : grid0.Coords) (arg2 : Memref sig .tc .vmem S2048x1024 .bf16) (harg2 : arg2.IsWhole)
  (arg3 : Memref sig .tc .vmem S1x2048x1408 .bf16) (harg3 : arg3.IsWhole) (arg4 : Memref sig .tc .vmem S1x1024x1408 .bf16) (harg4 : arg4.IsWhole)
  (arg5 : Memref sig .tc .vmem S1024x1408 .f32) (harg5 : arg5.IsWhole) (x0 : Vec Ideal S2048x1024 .bf16) (x1 : Vec Ideal S1x2048x1408 .bf16)
  (acc : Vec Ideal S1024x1408 .f32)

theorem first_eq (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  simp only [View.canon_cons_unit_zero (S := S1024x1408) hz2, View.readAt_eq_ld, harg2.read_unread, harg3.read_unread,
    View.ld_unit_zero (S := S2048x1024) hz2, View.ld_unit_zero (S := S1x2048x1408) hz3]

theorem last_eq (hc0 : ¬cond0_0 i) (hc1 : cond0_1 i) (hc2 : cond0_2 i) :
    out0_B_2 c i arg2 harg2 arg3 harg3 arg4 harg4 arg5 harg5 hc0 hc1 hc2 x0 x1 acc = k0_pay4 (k0_pay3 x0 x1 acc) := by
  unfold out0_B_2
  rw [View.read_writes_eq_canon _ _ _ (cover0_B_2 c i arg2 harg2 arg3 harg3 arg4 harg4 arg5 harg5 hc0 hc1 hc2 x0 x1 acc)]
  unfold kernelRun0_B
  dsimp only
  sl_unfold_words
  simp only [View.canon_cons_unit_zero (S := S1x1024x1408) hz3, View.readCov_unit_zero (S := S1024x1408) _ hz2, View.readAt_eq_ld, harg2.read_unread,
    harg3.read_unread, harg5.read_unread, View.ld_unit_zero (S := S2048x1024) hz2, View.ld_unit_zero (S := S1x2048x1408) hz3,
    View.ld_unit_zero (S := S1024x1408) hz2]

theorem pay2_at (d : Fin 1024) (e : Fin 1408) : k0_pay2 x0 x1 (ix2 d e) = ∑ k : Fin 2048, x0 (ix2 k d) * x1 (ix3 0 k e) := by
  unfold k0_pay2 k0_pay1
  pointwise

theorem pay43_at (d : Fin 1024) (e : Fin 1408) :
    k0_pay4 (k0_pay3 x0 x1 acc) (ix3 0 d e) = acc (ix2 d e) + ∑ k : Fin 2048, x0 (ix2 k d) * x1 (ix3 0 k e) := by
  unfold k0_pay4 k0_pay3 k0_pay1
  pointwise

end Body

variable (m : (l : Loc nD τ sig) → Buf (Elt Ideal) l) (c : Dev nD)

abbrev A : ℕ → ℕ → EReal := nat2 (V m c main_arg0)
abbrev B : ℕ → ℕ → ℕ → EReal := nat3 (V m c main_arg1)

theorem idx0 : ∀ t : Fin grid0.N, win0_0.index t 0 = t.val % 2 ∧ win0_0.index t 1 = 0 := by decide +kernel
theorem idx1 : ∀ t : Fin grid0.N, win0_1.index t 0 = t.val / 2 / 2 ∧ win0_1.index t 1 = t.val % 2 ∧ win0_1.index t 2 = t.val / 2 % 2 := by decide +kernel

theorem read0 (t : Fin cfg0.N) (k : Fin 2048) (d : Fin 1024) : iblk m c 0 t (ix2 k d) = A m c (t.val % 2 * 2048 + k.val) d.val := by
  refine (nat2_at (V m c main_arg0) (((cfg0.win 0).rect t).emb (ix2 k d))).trans ?_
  rw [(cfg0.win 0).rect_emb_val t _ 0, (cfg0.win 0).rect_emb_val t _ 1]
  show A m c (win0_0.index t 0 * 2048 + k.val) (win0_0.index t 1 * 1024 + d.val) = _
  rw [(idx0 t).1, (idx0 t).2, zero_mul, zero_add]

theorem read1 (t : Fin cfg0.N) (k : Fin 2048) (e : Fin 1408) :
    iblk m c 1 t (ix3 0 k e) = B m c (t.val / 2 / 2) (t.val % 2 * 2048 + k.val) (t.val / 2 % 2 * 1408 + e.val) := by
  refine (nat3_at (V m c main_arg1) (((cfg0.win 1).rect t).emb (ix3 0 k e))).trans ?_
  rw [(cfg0.win 1).rect_emb_val t _ 0, (cfg0.win 1).rect_emb_val t _ 1, (cfg0.win 1).rect_emb_val t _ 2]
  show B m c (win0_1.index t 0 * 1 + 0) (win0_1.index t 1 * 2048 + k.val) (win0_1.index t 2 * 1408 + e.val) = _
  rw [(idx1 t).1, (idx1 t).2.1, (idx1 t).2.2, mul_one, add_zero]

/-- What the last of a block's two points leaves in the output. -/
theorem block_at (n : ℕ) (hn : 2 * n + 1 < cfg0.N) (d : Fin 1024) (e : Fin 1408) :
    (outsAt0 m c (2 * n + 1) hn).1 (ix3 0 d e) = ∑ r : Fin 4096, A m c r.val d.val * B m c (n / 2) r.val (n % 2 * 1408 + e.val) := by
  have h1 := outsAt0_B m c ⟨2 * n + 1, hn⟩ (by show ¬(2 * n + 1) % 2 = 0; omega) (by show (2 * n + 1) % 2 = 1; omega) (by show (2 * n + 1) % 2 = 1; omega)
  have h0 := outsAt0_A m c ⟨2 * n, by omega⟩ (by show 2 * n % 2 = 0; omega) (by show ¬2 * n % 2 = 1; omega) (by show ¬2 * n % 2 = 1; omega)
  rw [show outsAt0 m c (2 * n + 1) hn = _ from h1]
  dsimp only
  rw [last_eq, pay43_at]
  simp only [Nat.add_sub_cancel]
  rw [show outsAt0 m c (2 * n) _ = _ from h0]
  dsimp only
  rw [first_eq, pay2_at]
  refine Eq.trans ?_ (two_tiles 2048 fun r => A m c r d.val * B m c (n / 2) r (n % 2 * 1408 + e.val))
  refine congrArg₂ (· + ·) (sum_congr rfl fun k _ => ?_) (sum_congr rfl fun k _ => ?_)
  · rw [read0, read1]
    show A m c (2 * n % 2 * 2048 + k.val) d.val * B m c (2 * n / 2 / 2) (2 * n % 2 * 2048 + k.val) (2 * n / 2 % 2 * 1408 + e.val) = _
    rw [show 2 * n % 2 = 0 by omega, show 2 * n / 2 = n by omega, zero_mul, zero_add]
  · rw [read0, read1]
    show A m c ((2 * n + 1) % 2 * 2048 + k.val) d.val * B m c ((2 * n + 1) / 2 / 2) ((2 * n + 1) % 2 * 2048 + k.val) ((2 * n + 1) / 2 % 2 * 1408 + e.val) = _
    rw [show (2 * n + 1) % 2 = 1 by omega, show (2 * n + 1) / 2 = n by omega, one_mul]

/-- What the run leaves in the result. -/
theorem result_at (q : Fin 4) (d : Fin 1024) (e : Fin 1408) :
    G2 m c (ix3 q d e) = ∑ r : Fin 4096, A m c r.val d.val * B m c (q.val / 2) r.val (q.val % 2 * 1408 + e.val) := by
  have hp : pt2Of (ix3 q d e) = 2 * q.val + 1 := by
    show 2 * (1 * (q.val / 1 - 0) + 1 * (d.val / 1024 - 0) + 1 * (e.val / 1408 - 0)) + 1 = _
    have := d.isLt; have := e.isLt; omega
  have hq : 2 * q.val + 1 < cfg0.N := lt_of_lt_of_eq (by omega) N_0.symm
  have hl : loc2Of (ix3 q d e) = ix3 0 d e := by
    funext a; apply Fin.ext
    match a with
    | ⟨0, _⟩ => show q.val % 1 = 0; omega
    | ⟨1, _⟩ => show d.val % 1024 = d.val; omega
    | ⟨2, _⟩ => show e.val % 1408 = e.val; omega
  unfold G2
  rw [dif_pos (hp ▸ hq), hl, fold0_congr m c _ _ _ (lt_of_eq_of_lt (Nat.zero_add _) hq) hp, ← outsAt0_sweep m c _ hq]
  exact block_at m c q.val hq d e

/-- What the reference computes of the same arrays. -/
theorem claim : Cert.algebraic_DwiIdeal_RefDwiIdeal := by
  intro m g m' g' hm hargs
  refine ⟨G2 m, Cert.DwiIdeal.Value.run (F := Ideal) m g, (θ_run _ _ _).mono (fun r h c => ?_) (Cert.RefDwiIdeal.Value.run (F := Ideal) m' g')⟩
  obtain ⟨h0, hargs'⟩ := h c
  obtain ⟨a0, a1⟩ := hargs c
  refine ⟨h0.trans ?_, hargs'⟩
  rw [a0, a1]
  funext i
  rw [eq_ix3 i]
  generalize i 0 = q, i 1 = d, i 2 = e
  refine Eq.trans ?_ (result_at m c q d e).symm
  pointwise
  refine sum_congr rfl fun r _ => (mul_comm _ _).trans (congrArg₂ (· * ·) ?_ ?_)
  · refine (nat2_ix (m (c.tc.loc main_arg0)) r d).trans ?_
    show _ = nat2 (V m c main_arg0) _ _
    rw [V_main_arg0]
  · show _ = nat3 (V m c main_arg1) _ _ _
    rw [V_main_arg1]
    have hq : q.val < 4 := q.isLt
    have he : e.val < 1408 := e.isLt
    by_cases h : q.val * 1408 + e.val < 2816
    · refine (dif_pos h).trans ((nat3_ix _ _ _ _).trans ?_)
      show nat3 _ 0 r.val (q.val * 1408 + e.val) = _
      rw [show q.val / 2 = 0 by omega, show q.val % 2 = q.val by omega]
    · refine (dif_neg h).trans ((nat3_ix _ _ _ _).trans ?_)
      show nat3 _ 1 r.val (q.val * 1408 + e.val - 2816) = _
      rw [show q.val / 2 = 1 by omega, show q.val % 2 * 1408 + e.val = q.val * 1408 + e.val - 2816 by omega]

end Cert.DwiIdeal.Own
-- ==== Proof.Dwo.lean ====
/-
  The weight gradient of the SwiGLU sublayer's second product, at 4096 rows: each half of the result's rows is the sum of two tiles' products.
-/
module

public import proofs.«01_k».proof.Defs
public import proofs.«01_k».proof.Proof.Tn
public import proofs.«01_k».proof.Proof.Gen.DwoIdeal.Value
public import proofs.«01_k».proof.Proof.Gen.RefDwoIdeal.Run
public import Idealize.ShloMosaic.Lib.WholeRead

@[expose] public section

set_option maxRecDepth 16384

noncomputable section

namespace Cert.DwoIdeal.Own

open Cert.DwoIdeal Cert.DwoIdeal.Gen Cert.DwoIdeal.Value Cert.Tn Idealize.ShloMosaic Idealize.ShloMosaic.TcCoe Idealize.ShloMosaic.Tactic Idealize.SL.Sem Finset

section Body

variable (c : Dev nD) (i : grid0.Coords) (arg2 : Memref sig .tc .vmem S2048x1408 .bf16) (harg2 : arg2.IsWhole)
  (arg3 : Memref sig .tc .vmem S2048x1024 .bf16) (harg3 : arg3.IsWhole) (arg4 : Memref sig .tc .vmem S1408x1024 .bf16) (harg4 : arg4.IsWhole)
  (arg5 : Memref sig .tc .vmem S1408x1024 .f32) (harg5 : arg5.IsWhole) (x0 : Vec Ideal S2048x1408 .bf16) (x1 : Vec Ideal S2048x1024 .bf16)
  (acc : Vec Ideal S1408x1024 .f32)

theorem first_eq (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  simp only [View.canon_cons_unit_zero (S := S1408x1024) hz2, View.readAt_eq_ld, harg2.read_unread, harg3.read_unread,
    View.ld_unit_zero (S := S2048x1408) hz2, View.ld_unit_zero (S := S2048x1024) hz2]

theorem last_eq (hc0 : ¬cond0_0 i) (hc1 : cond0_1 i) (hc2 : cond0_2 i) :
    out0_B_2 c i arg2 harg2 arg3 harg3 arg4 harg4 arg5 harg5 hc0 hc1 hc2 x0 x1 acc = k0_pay4 (k0_pay3 x0 x1 acc) := by
  unfold out0_B_2
  rw [View.read_writes_eq_canon _ _ _ (cover0_B_2 c i arg2 harg2 arg3 harg3 arg4 harg4 arg5 harg5 hc0 hc1 hc2 x0 x1 acc)]
  unfold kernelRun0_B
  dsimp only
  sl_unfold_words
  simp only [View.canon_cons_unit_zero (S := S1408x1024) hz2, View.readCov_unit_zero (S := S1408x1024) _ hz2, View.readAt_eq_ld, harg2.read_unread,
    harg3.read_unread, harg5.read_unread, View.ld_unit_zero (S := S2048x1408) hz2, View.ld_unit_zero (S := S2048x1024) hz2,
    View.ld_unit_zero (S := S1408x1024) hz2]

theorem pay2_at (e : Fin 1408) (d : Fin 1024) : k0_pay2 x0 x1 (ix2 e d) = ∑ k : Fin 2048, x0 (ix2 k e) * x1 (ix2 k d) := by
  unfold k0_pay2 k0_pay1
  pointwise

theorem pay43_at (e : Fin 1408) (d : Fin 1024) :
    k0_pay4 (k0_pay3 x0 x1 acc) (ix2 e d) = acc (ix2 e d) + ∑ k : Fin 2048, x0 (ix2 k e) * x1 (ix2 k d) := by
  unfold k0_pay4 k0_pay3 k0_pay1
  pointwise

end Body

variable (m : (l : Loc nD τ sig) → Buf (Elt Ideal) l) (c : Dev nD)

abbrev A : ℕ → ℕ → EReal := nat2 (V m c main_arg0)
abbrev B : ℕ → ℕ → EReal := nat2 (V m c main_arg1)

theorem idx0 : ∀ t : Fin grid0.N, win0_0.index t 0 = t.val % 2 ∧ win0_0.index t 1 = t.val / 2 := by decide +kernel
theorem idx1 : ∀ t : Fin grid0.N, win0_1.index t 0 = t.val % 2 ∧ win0_1.index t 1 = 0 := by decide +kernel

theorem read0 (t : Fin cfg0.N) (k : Fin 2048) (e : Fin 1408) : iblk m c 0 t (ix2 k e) = A m c (t.val % 2 * 2048 + k.val) (t.val / 2 * 1408 + e.val) := by
  refine (nat2_at (V m c main_arg0) (((cfg0.win 0).rect t).emb (ix2 k e))).trans ?_
  rw [(cfg0.win 0).rect_emb_val t _ 0, (cfg0.win 0).rect_emb_val t _ 1]
  show A m c (win0_0.index t 0 * 2048 + k.val) (win0_0.index t 1 * 1408 + e.val) = _
  rw [(idx0 t).1, (idx0 t).2]

theorem read1 (t : Fin cfg0.N) (k : Fin 2048) (d : Fin 1024) : iblk m c 1 t (ix2 k d) = B m c (t.val % 2 * 2048 + k.val) d.val := by
  refine (nat2_at (V m c main_arg1) (((cfg0.win 1).rect t).emb (ix2 k d))).trans ?_
  rw [(cfg0.win 1).rect_emb_val t _ 0, (cfg0.win 1).rect_emb_val t _ 1]
  show B m c (win0_1.index t 0 * 2048 + k.val) (win0_1.index t 1 * 1024 + d.val) = _
  rw [(idx1 t).1, (idx1 t).2, zero_mul, zero_add]

/-- What the last of a block's two points leaves in the output. -/
theorem block_at (n : ℕ) (hn : 2 * n + 1 < cfg0.N) (e : Fin 1408) (d : Fin 1024) :
    (outsAt0 m c (2 * n + 1) hn).1 (ix2 e d) = ∑ r : Fin 4096, A m c r.val (n * 1408 + e.val) * B m c r.val d.val := by
  have h1 := outsAt0_B m c ⟨2 * n + 1, hn⟩ (by show ¬(2 * n + 1) % 2 = 0; omega) (by show (2 * n + 1) % 2 = 1; omega) (by show (2 * n + 1) % 2 = 1; omega)
  have h0 := outsAt0_A m c ⟨2 * n, by omega⟩ (by show 2 * n % 2 = 0; omega) (by show ¬2 * n % 2 = 1; omega) (by show ¬2 * n % 2 = 1; omega)
  rw [show outsAt0 m c (2 * n + 1) hn = _ from h1]
  dsimp only
  rw [last_eq, pay43_at]
  simp only [Nat.add_sub_cancel]
  rw [show outsAt0 m c (2 * n) _ = _ from h0]
  dsimp only
  rw [first_eq, pay2_at]
  refine Eq.trans ?_ (two_tiles 2048 fun r => A m c r (n * 1408 + e.val) * B m c r d.val)
  refine congrArg₂ (· + ·) (sum_congr rfl fun k _ => ?_) (sum_congr rfl fun k _ => ?_)
  · rw [read0, read1]
    show A m c (2 * n % 2 * 2048 + k.val) (2 * n / 2 * 1408 + e.val) * B m c (2 * n % 2 * 2048 + k.val) d.val = _
    rw [show 2 * n % 2 = 0 by omega, show 2 * n / 2 = n by omega, zero_mul, zero_add]
  · rw [read0, read1]
    show A m c ((2 * n + 1) % 2 * 2048 + k.val) ((2 * n + 1) / 2 * 1408 + e.val) * B m c ((2 * n + 1) % 2 * 2048 + k.val) d.val = _
    rw [show (2 * n + 1) % 2 = 1 by omega, show (2 * n + 1) / 2 = n by omega, one_mul]

/-- What the run leaves in the result. -/
theorem result_at (e : Fin 2816) (d : Fin 1024) : G2 m c (ix2 e d) = ∑ r : Fin 4096, A m c r.val e.val * B m c r.val d.val := by
  have hp : pt2Of (ix2 e d) = 2 * (e.val / 1408) + 1 := by
    show 2 * (1 * (e.val / 1408 - 0) + 1 * (d.val / 1024 - 0)) + 1 = _
    have := d.isLt; omega
  have hq : 2 * (e.val / 1408) + 1 < cfg0.N := lt_of_lt_of_eq (by have := e.isLt; omega) N_0.symm
  have hl : loc2Of (ix2 e d) = ix2 ⟨e.val % 1408, Nat.mod_lt _ (by decide)⟩ d := by
    funext a; apply Fin.ext
    match a with
    | ⟨0, _⟩ => rfl
    | ⟨1, _⟩ => show d.val % 1024 = d.val; omega
  unfold G2
  rw [dif_pos (hp ▸ hq), hl, fold0_congr m c _ _ _ (lt_of_eq_of_lt (Nat.zero_add _) hq) hp, ← outsAt0_sweep m c _ hq]
  refine (block_at m c (e.val / 1408) hq _ d).trans (sum_congr rfl fun r _ => ?_)
  show A m c r.val (e.val / 1408 * 1408 + e.val % 1408) * _ = _
  rw [Nat.div_add_mod']

/-- What the reference computes of the same arrays. -/
theorem claim : Cert.algebraic_DwoIdeal_RefDwoIdeal := by
  intro m g m' g' hm hargs
  refine ⟨G2 m, Cert.DwoIdeal.Value.run (F := Ideal) m g, (θ_run _ _ _).mono (fun r h c => ?_) (Cert.RefDwoIdeal.Value.run (F := Ideal) m' g')⟩
  obtain ⟨h0, hargs'⟩ := h c
  obtain ⟨a0, a1⟩ := hargs c
  refine ⟨h0.trans ?_, hargs'⟩
  rw [a0, a1]
  funext i
  rw [eq_ix2 i]
  generalize i 0 = e, i 1 = d
  refine Eq.trans ?_ (result_at m c e d).symm
  pointwise
  refine sum_congr rfl fun r _ => (mul_comm _ _).trans (congrArg₂ (· * ·) ?_ ?_)
  · refine (nat2_ix (m (c.tc.loc main_arg0)) r e).trans ?_
    show _ = nat2 (V m c main_arg0) _ _
    rw [V_main_arg0]
  · refine (nat2_ix (m (c.tc.loc main_arg1)) r d).trans ?_
    show _ = nat2 (V m c main_arg1) _ _
    rw [V_main_arg1]

end Cert.DwoIdeal.Own
-- ==== Proof.DwiCtx.lean ====
/-
  The weight gradient of the SwiGLU sublayer's first product, at the 4608 rows of the stream with its context: each block of the result is the sum of three tiles' products.
-/
module

public import proofs.«01_k».proof.Defs
public import proofs.«01_k».proof.Proof.Tn
public import proofs.«01_k».proof.Proof.Gen.DwiCtxIdeal.Value
public import proofs.«01_k».proof.Proof.Gen.RefDwiCtxIdeal.Run
public import Idealize.ShloMosaic.Lib.WholeRead

@[expose] public section

set_option maxRecDepth 16384

noncomputable section

namespace Cert.DwiCtxIdeal.Own

open Cert.DwiCtxIdeal Cert.DwiCtxIdeal.Gen Cert.DwiCtxIdeal.Value Cert.Tn Idealize.ShloMosaic Idealize.ShloMosaic.TcCoe Idealize.ShloMosaic.Tactic Idealize.SL.Sem Finset

section Body

variable (c : Dev nD) (i : grid0.Coords) (arg2 : Memref sig .tc .vmem S1536x1024 .bf16) (harg2 : arg2.IsWhole)
  (arg3 : Memref sig .tc .vmem S1x1536x1408 .bf16) (harg3 : arg3.IsWhole) (arg4 : Memref sig .tc .vmem S1x1024x1408 .bf16) (harg4 : arg4.IsWhole)
  (arg5 : Memref sig .tc .vmem S1024x1408 .f32) (harg5 : arg5.IsWhole) (x0 : Vec Ideal S1536x1024 .bf16) (x1 : Vec Ideal S1x1536x1408 .bf16)
  (acc : Vec Ideal S1024x1408 .f32)

theorem first_eq (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  simp only [View.canon_cons_unit_zero (S := S1024x1408) hz2, View.readAt_eq_ld, harg2.read_unread, harg3.read_unread,
    View.ld_unit_zero (S := S1536x1024) hz2, View.ld_unit_zero (S := S1x1536x1408) hz3]

theorem mid_eq (hc0 : ¬cond0_0 i) (hc1 : cond0_1 i) (hc2 : ¬cond0_2 i) :
    sout0_B_0 c i arg2 harg2 arg3 harg3 arg4 harg4 arg5 harg5 hc0 hc1 hc2 x0 x1 acc = k0_pay3 x0 x1 acc := by
  unfold sout0_B_0
  rw [View.read_writes_eq_canon _ _ _ (scover0_B_0 c i arg2 harg2 arg3 harg3 arg4 harg4 arg5 harg5 hc0 hc1 hc2 x0 x1 acc)]
  unfold kernelRun0_B
  dsimp only
  sl_unfold_words
  simp only [View.canon_cons_unit_zero (S := S1024x1408) hz2, View.readAt_eq_ld, harg2.read_unread,
    harg3.read_unread, harg5.read_unread, View.ld_unit_zero (S := S1536x1024) hz2, View.ld_unit_zero (S := S1x1536x1408) hz3,
    View.ld_unit_zero (S := S1024x1408) hz2]

theorem last_eq (hc0 : ¬cond0_0 i) (hc1 : cond0_1 i) (hc2 : cond0_2 i) :
    out0_C_2 c i arg2 harg2 arg3 harg3 arg4 harg4 arg5 harg5 hc0 hc1 hc2 x0 x1 acc = k0_pay4 (k0_pay3 x0 x1 acc) := by
  unfold out0_C_2
  rw [View.read_writes_eq_canon _ _ _ (cover0_C_2 c i arg2 harg2 arg3 harg3 arg4 harg4 arg5 harg5 hc0 hc1 hc2 x0 x1 acc)]
  unfold kernelRun0_C
  dsimp only
  sl_unfold_words
  simp only [View.canon_cons_unit_zero (S := S1x1024x1408) hz3, View.readCov_unit_zero (S := S1024x1408) _ hz2, View.readAt_eq_ld, harg2.read_unread,
    harg3.read_unread, harg5.read_unread, View.ld_unit_zero (S := S1536x1024) hz2, View.ld_unit_zero (S := S1x1536x1408) hz3,
    View.ld_unit_zero (S := S1024x1408) hz2]

theorem pay2_at (d : Fin 1024) (e : Fin 1408) : k0_pay2 x0 x1 (ix2 d e) = ∑ k : Fin 1536, x0 (ix2 k d) * x1 (ix3 0 k e) := by
  unfold k0_pay2 k0_pay1
  pointwise

theorem pay3_at (d : Fin 1024) (e : Fin 1408) :
    k0_pay3 x0 x1 acc (ix2 d e) = acc (ix2 d e) + ∑ k : Fin 1536, x0 (ix2 k d) * x1 (ix3 0 k e) := by
  unfold k0_pay3 k0_pay1
  pointwise

theorem pay43_at (d : Fin 1024) (e : Fin 1408) :
    k0_pay4 (k0_pay3 x0 x1 acc) (ix3 0 d e) = acc (ix2 d e) + ∑ k : Fin 1536, x0 (ix2 k d) * x1 (ix3 0 k e) := by
  unfold k0_pay4 k0_pay3 k0_pay1
  pointwise

end Body

variable (m : (l : Loc nD τ sig) → Buf (Elt Ideal) l) (c : Dev nD)

abbrev A : ℕ → ℕ → EReal := nat2 (V m c main_arg0)
abbrev B : ℕ → ℕ → ℕ → EReal := nat3 (V m c main_arg1)

theorem idx0 : ∀ t : Fin grid0.N, win0_0.index t 0 = t.val % 3 ∧ win0_0.index t 1 = 0 := by decide +kernel
theorem idx1 : ∀ t : Fin grid0.N, win0_1.index t 0 = t.val / 3 / 2 ∧ win0_1.index t 1 = t.val % 3 ∧ win0_1.index t 2 = t.val / 3 % 2 := by decide +kernel

theorem read0 (t : Fin cfg0.N) (k : Fin 1536) (d : Fin 1024) : iblk m c 0 t (ix2 k d) = A m c (t.val % 3 * 1536 + k.val) d.val := by
  refine (nat2_at (V m c main_arg0) (((cfg0.win 0).rect t).emb (ix2 k d))).trans ?_
  rw [(cfg0.win 0).rect_emb_val t _ 0, (cfg0.win 0).rect_emb_val t _ 1]
  show A m c (win0_0.index t 0 * 1536 + k.val) (win0_0.index t 1 * 1024 + d.val) = _
  rw [(idx0 t).1, (idx0 t).2, zero_mul, zero_add]

theorem read1 (t : Fin cfg0.N) (k : Fin 1536) (e : Fin 1408) :
    iblk m c 1 t (ix3 0 k e) = B m c (t.val / 3 / 2) (t.val % 3 * 1536 + k.val) (t.val / 3 % 2 * 1408 + e.val) := by
  refine (nat3_at (V m c main_arg1) (((cfg0.win 1).rect t).emb (ix3 0 k e))).trans ?_
  rw [(cfg0.win 1).rect_emb_val t _ 0, (cfg0.win 1).rect_emb_val t _ 1, (cfg0.win 1).rect_emb_val t _ 2]
  show B m c (win0_1.index t 0 * 1 + 0) (win0_1.index t 1 * 1536 + k.val) (win0_1.index t 2 * 1408 + e.val) = _
  rw [(idx1 t).1, (idx1 t).2.1, (idx1 t).2.2, mul_one, add_zero]

/-- What the last of a block's three points leaves in the output. -/
theorem block_at (n : ℕ) (hn : 3 * n + 2 < cfg0.N) (d : Fin 1024) (e : Fin 1408) :
    (outsAt0 m c (3 * n + 2) hn).1 (ix3 0 d e) = ∑ r : Fin 4608, A m c r.val d.val * B m c (n / 2) r.val (n % 2 * 1408 + e.val) := by
  have h2 := outsAt0_C m c ⟨3 * n + 2, hn⟩ (by show ¬(3 * n + 2) % 3 = 0; omega) (by show 1 ≤ (3 * n + 2) % 3; omega) (by show (3 * n + 2) % 3 = 2; omega)
  have h1 := outsAt0_B m c ⟨3 * n + 1, by omega⟩ (by show ¬(3 * n + 1) % 3 = 0; omega) (by show 1 ≤ (3 * n + 1) % 3; omega) (by show ¬(3 * n + 1) % 3 = 2; omega)
  have h0 := outsAt0_A m c ⟨3 * n, by omega⟩ (by show 3 * n % 3 = 0; omega) (by show ¬1 ≤ 3 * n % 3; omega) (by show ¬3 * n % 3 = 2; omega)
  rw [show outsAt0 m c (3 * n + 2) hn = _ from h2]
  dsimp only
  rw [last_eq, pay43_at]
  simp only [show 3 * n + 2 - 1 = 3 * n + 1 from rfl]
  rw [show outsAt0 m c (3 * n + 1) _ = _ from h1]
  dsimp only
  rw [mid_eq, pay3_at]
  simp only [Nat.add_sub_cancel]
  rw [show outsAt0 m c (3 * n) _ = _ from h0]
  dsimp only
  rw [first_eq, pay2_at]
  refine Eq.trans ?_ (three_tiles 1536 fun r => A m c r d.val * B m c (n / 2) r (n % 2 * 1408 + e.val))
  refine congrArg₂ (· + ·) (congrArg₂ (· + ·) (sum_congr rfl fun k _ => ?_) (sum_congr rfl fun k _ => ?_)) (sum_congr rfl fun k _ => ?_)
  · rw [read0, read1]
    show A m c (3 * n % 3 * 1536 + k.val) d.val * B m c (3 * n / 3 / 2) (3 * n % 3 * 1536 + k.val) (3 * n / 3 % 2 * 1408 + e.val) = _
    rw [show 3 * n % 3 = 0 by omega, show 3 * n / 3 = n by omega, zero_mul, zero_add]
  · rw [read0, read1]
    show A m c ((3 * n + 1) % 3 * 1536 + k.val) d.val * B m c ((3 * n + 1) / 3 / 2) ((3 * n + 1) % 3 * 1536 + k.val) ((3 * n + 1) / 3 % 2 * 1408 + e.val) = _
    rw [show (3 * n + 1) % 3 = 1 by omega, show (3 * n + 1) / 3 = n by omega, one_mul]
  · rw [read0, read1]
    show A m c ((3 * n + 2) % 3 * 1536 + k.val) d.val * B m c ((3 * n + 2) / 3 / 2) ((3 * n + 2) % 3 * 1536 + k.val) ((3 * n + 2) / 3 % 2 * 1408 + e.val) = _
    rw [show (3 * n + 2) % 3 = 2 by omega, show (3 * n + 2) / 3 = n by omega]

/-- What the run leaves in the result. -/
theorem result_at (q : Fin 4) (d : Fin 1024) (e : Fin 1408) :
    G2 m c (ix3 q d e) = ∑ r : Fin 4608, A m c r.val d.val * B m c (q.val / 2) r.val (q.val % 2 * 1408 + e.val) := by
  have hp : pt2Of (ix3 q d e) = 3 * q.val + 2 := by
    show 3 * (1 * (q.val / 1 - 0) + 1 * (d.val / 1024 - 0) + 1 * (e.val / 1408 - 0)) + 2 = _
    have := d.isLt; have := e.isLt; omega
  have hq : 3 * q.val + 2 < cfg0.N := lt_of_lt_of_eq (by omega) N_0.symm
  have hl : loc2Of (ix3 q d e) = ix3 0 d e := by
    funext a; apply Fin.ext
    match a with
    | ⟨0, _⟩ => show q.val % 1 = 0; omega
    | ⟨1, _⟩ => show d.val % 1024 = d.val; omega
    | ⟨2, _⟩ => show e.val % 1408 = e.val; omega
  unfold G2
  rw [dif_pos (hp ▸ hq), hl, fold0_congr m c _ _ _ (lt_of_eq_of_lt (Nat.zero_add _) hq) hp, ← outsAt0_sweep m c _ hq]
  exact block_at m c q.val hq d e

/-- What the reference computes of the same arrays. -/
theorem claim : Cert.algebraic_DwiCtxIdeal_RefDwiCtxIdeal := by
  intro m g m' g' hm hargs
  refine ⟨G2 m, Cert.DwiCtxIdeal.Value.run (F := Ideal) m g, (θ_run _ _ _).mono (fun r h c => ?_) (Cert.RefDwiCtxIdeal.Value.run (F := Ideal) m' g')⟩
  obtain ⟨h0, hargs'⟩ := h c
  obtain ⟨a0, a1⟩ := hargs c
  refine ⟨h0.trans ?_, hargs'⟩
  rw [a0, a1]
  funext i
  rw [eq_ix3 i]
  generalize i 0 = q, i 1 = d, i 2 = e
  refine Eq.trans ?_ (result_at m c q d e).symm
  pointwise
  refine sum_congr rfl fun r _ => (mul_comm _ _).trans (congrArg₂ (· * ·) ?_ ?_)
  · refine (nat2_ix (m (c.tc.loc main_arg0)) r d).trans ?_
    show _ = nat2 (V m c main_arg0) _ _
    rw [V_main_arg0]
  · show _ = nat3 (V m c main_arg1) _ _ _
    rw [V_main_arg1]
    have hq : q.val < 4 := q.isLt
    have he : e.val < 1408 := e.isLt
    by_cases h : q.val * 1408 + e.val < 2816
    · refine (dif_pos h).trans ((nat3_ix _ _ _ _).trans ?_)
      show nat3 _ 0 r.val (q.val * 1408 + e.val) = _
      rw [show q.val / 2 = 0 by omega, show q.val % 2 = q.val by omega]
    · refine (dif_neg h).trans ((nat3_ix _ _ _ _).trans ?_)
      show nat3 _ 1 r.val (q.val * 1408 + e.val - 2816) = _
      rw [show q.val / 2 = 1 by omega, show q.val % 2 * 1408 + e.val = q.val * 1408 + e.val - 2816 by omega]

end Cert.DwiCtxIdeal.Own
-- ==== Proof.DwoCtx.lean ====
/-
  The weight gradient of the SwiGLU sublayer's second product, at the 4608 rows of the stream with its context: each half of the result's rows is the sum of three tiles' products.
-/
module

public import proofs.«01_k».proof.Defs
public import proofs.«01_k».proof.Proof.Tn
public import proofs.«01_k».proof.Proof.Gen.DwoCtxIdeal.Value
public import proofs.«01_k».proof.Proof.Gen.RefDwoCtxIdeal.Run
public import Idealize.ShloMosaic.Lib.WholeRead

@[expose] public section

set_option maxRecDepth 16384

noncomputable section

namespace Cert.DwoCtxIdeal.Own

open Cert.DwoCtxIdeal Cert.DwoCtxIdeal.Gen Cert.DwoCtxIdeal.Value Cert.Tn Idealize.ShloMosaic Idealize.ShloMosaic.TcCoe Idealize.ShloMosaic.Tactic Idealize.SL.Sem Finset

section Body

variable (c : Dev nD) (i : grid0.Coords) (arg2 : Memref sig .tc .vmem S1536x1408 .bf16) (harg2 : arg2.IsWhole)
  (arg3 : Memref sig .tc .vmem S1536x1024 .bf16) (harg3 : arg3.IsWhole) (arg4 : Memref sig .tc .vmem S1408x1024 .bf16) (harg4 : arg4.IsWhole)
  (arg5 : Memref sig .tc .vmem S1408x1024 .f32) (harg5 : arg5.IsWhole) (x0 : Vec Ideal S1536x1408 .bf16) (x1 : Vec Ideal S1536x1024 .bf16)
  (acc : Vec Ideal S1408x1024 .f32)

theorem first_eq (hc0 : cond0_0 i) (hc1 : ¬cond0_1 i) (hc2 : ¬cond0_2 i) :
    sout0_A_0 c i arg2 harg2 arg3 harg3 arg4 harg4 arg5 harg5 hc0 hc1 hc2 x0 x1 = k0_pay2 x0 x1 := by
  unfold sout0_A_0
  rw [View.read_writes_eq_canon _ _ _ (scover0_A_0 c i arg2 harg2 arg3 harg3 arg4 harg4 arg5 harg5 hc0 hc1 hc2 x0 x1)]
  unfold kernelRun0_A
  dsimp only
  sl_unfold_words
  simp only [View.canon_cons_unit_zero (S := S1408x1024) hz2, View.readAt_eq_ld, harg2.read_unread, harg3.read_unread,
    View.ld_unit_zero (S := S1536x1408) hz2, View.ld_unit_zero (S := S1536x1024) hz2]

theorem mid_eq (hc0 : ¬cond0_0 i) (hc1 : cond0_1 i) (hc2 : ¬cond0_2 i) :
    sout0_B_0 c i arg2 harg2 arg3 harg3 arg4 harg4 arg5 harg5 hc0 hc1 hc2 x0 x1 acc = k0_pay3 x0 x1 acc := by
  unfold sout0_B_0
  rw [View.read_writes_eq_canon _ _ _ (scover0_B_0 c i arg2 harg2 arg3 harg3 arg4 harg4 arg5 harg5 hc0 hc1 hc2 x0 x1 acc)]
  unfold kernelRun0_B
  dsimp only
  sl_unfold_words
  simp only [View.canon_cons_unit_zero (S := S1408x1024) hz2, View.readAt_eq_ld, harg2.read_unread,
    harg3.read_unread, harg5.read_unread, View.ld_unit_zero (S := S1536x1408) hz2, View.ld_unit_zero (S := S1536x1024) hz2,
    View.ld_unit_zero (S := S1408x1024) hz2]

theorem last_eq (hc0 : ¬cond0_0 i) (hc1 : cond0_1 i) (hc2 : cond0_2 i) :
    out0_C_2 c i arg2 harg2 arg3 harg3 arg4 harg4 arg5 harg5 hc0 hc1 hc2 x0 x1 acc = k0_pay4 (k0_pay3 x0 x1 acc) := by
  unfold out0_C_2
  rw [View.read_writes_eq_canon _ _ _ (cover0_C_2 c i arg2 harg2 arg3 harg3 arg4 harg4 arg5 harg5 hc0 hc1 hc2 x0 x1 acc)]
  unfold kernelRun0_C
  dsimp only
  sl_unfold_words
  simp only [View.canon_cons_unit_zero (S := S1408x1024) hz2, View.readCov_unit_zero (S := S1408x1024) _ hz2, View.readAt_eq_ld, harg2.read_unread,
    harg3.read_unread, harg5.read_unread, View.ld_unit_zero (S := S1536x1408) hz2, View.ld_unit_zero (S := S1536x1024) hz2,
    View.ld_unit_zero (S := S1408x1024) hz2]

theorem pay2_at (e : Fin 1408) (d : Fin 1024) : k0_pay2 x0 x1 (ix2 e d) = ∑ k : Fin 1536, x0 (ix2 k e) * x1 (ix2 k d) := by
  unfold k0_pay2 k0_pay1
  pointwise

theorem pay3_at (e : Fin 1408) (d : Fin 1024) :
    k0_pay3 x0 x1 acc (ix2 e d) = acc (ix2 e d) + ∑ k : Fin 1536, x0 (ix2 k e) * x1 (ix2 k d) := by
  unfold k0_pay3 k0_pay1
  pointwise

theorem pay43_at (e : Fin 1408) (d : Fin 1024) :
    k0_pay4 (k0_pay3 x0 x1 acc) (ix2 e d) = acc (ix2 e d) + ∑ k : Fin 1536, x0 (ix2 k e) * x1 (ix2 k d) := by
  unfold k0_pay4 k0_pay3 k0_pay1
  pointwise

end Body

variable (m : (l : Loc nD τ sig) → Buf (Elt Ideal) l) (c : Dev nD)

abbrev A : ℕ → ℕ → EReal := nat2 (V m c main_arg0)
abbrev B : ℕ → ℕ → EReal := nat2 (V m c main_arg1)

theorem idx0 : ∀ t : Fin grid0.N, win0_0.index t 0 = t.val % 3 ∧ win0_0.index t 1 = t.val / 3 := by decide +kernel
theorem idx1 : ∀ t : Fin grid0.N, win0_1.index t 0 = t.val % 3 ∧ win0_1.index t 1 = 0 := by decide +kernel

theorem read0 (t : Fin cfg0.N) (k : Fin 1536) (e : Fin 1408) : iblk m c 0 t (ix2 k e) = A m c (t.val % 3 * 1536 + k.val) (t.val / 3 * 1408 + e.val) := by
  refine (nat2_at (V m c main_arg0) (((cfg0.win 0).rect t).emb (ix2 k e))).trans ?_
  rw [(cfg0.win 0).rect_emb_val t _ 0, (cfg0.win 0).rect_emb_val t _ 1]
  show A m c (win0_0.index t 0 * 1536 + k.val) (win0_0.index t 1 * 1408 + e.val) = _
  rw [(idx0 t).1, (idx0 t).2]

theorem read1 (t : Fin cfg0.N) (k : Fin 1536) (d : Fin 1024) : iblk m c 1 t (ix2 k d) = B m c (t.val % 3 * 1536 + k.val) d.val := by
  refine (nat2_at (V m c main_arg1) (((cfg0.win 1).rect t).emb (ix2 k d))).trans ?_
  rw [(cfg0.win 1).rect_emb_val t _ 0, (cfg0.win 1).rect_emb_val t _ 1]
  show B m c (win0_1.index t 0 * 1536 + k.val) (win0_1.index t 1 * 1024 + d.val) = _
  rw [(idx1 t).1, (idx1 t).2, zero_mul, zero_add]

/-- What the last of a block's three points leaves in the output. -/
theorem block_at (n : ℕ) (hn : 3 * n + 2 < cfg0.N) (e : Fin 1408) (d : Fin 1024) :
    (outsAt0 m c (3 * n + 2) hn).1 (ix2 e d) = ∑ r : Fin 4608, A m c r.val (n * 1408 + e.val) * B m c r.val d.val := by
  have h2 := outsAt0_C m c ⟨3 * n + 2, hn⟩ (by show ¬(3 * n + 2) % 3 = 0; omega) (by show 1 ≤ (3 * n + 2) % 3; omega) (by show (3 * n + 2) % 3 = 2; omega)
  have h1 := outsAt0_B m c ⟨3 * n + 1, by omega⟩ (by show ¬(3 * n + 1) % 3 = 0; omega) (by show 1 ≤ (3 * n + 1) % 3; omega) (by show ¬(3 * n + 1) % 3 = 2; omega)
  have h0 := outsAt0_A m c ⟨3 * n, by omega⟩ (by show 3 * n % 3 = 0; omega) (by show ¬1 ≤ 3 * n % 3; omega) (by show ¬3 * n % 3 = 2; omega)
  rw [show outsAt0 m c (3 * n + 2) hn = _ from h2]
  dsimp only
  rw [last_eq, pay43_at]
  simp only [show 3 * n + 2 - 1 = 3 * n + 1 from rfl]
  rw [show outsAt0 m c (3 * n + 1) _ = _ from h1]
  dsimp only
  rw [mid_eq, pay3_at]
  simp only [Nat.add_sub_cancel]
  rw [show outsAt0 m c (3 * n) _ = _ from h0]
  dsimp only
  rw [first_eq, pay2_at]
  refine Eq.trans ?_ (three_tiles 1536 fun r => A m c r (n * 1408 + e.val) * B m c r d.val)
  refine congrArg₂ (· + ·) (congrArg₂ (· + ·) (sum_congr rfl fun k _ => ?_) (sum_congr rfl fun k _ => ?_)) (sum_congr rfl fun k _ => ?_)
  · rw [read0, read1]
    show A m c (3 * n % 3 * 1536 + k.val) (3 * n / 3 * 1408 + e.val) * B m c (3 * n % 3 * 1536 + k.val) d.val = _
    rw [show 3 * n % 3 = 0 by omega, show 3 * n / 3 = n by omega, zero_mul, zero_add]
  · rw [read0, read1]
    show A m c ((3 * n + 1) % 3 * 1536 + k.val) ((3 * n + 1) / 3 * 1408 + e.val) * B m c ((3 * n + 1) % 3 * 1536 + k.val) d.val = _
    rw [show (3 * n + 1) % 3 = 1 by omega, show (3 * n + 1) / 3 = n by omega, one_mul]
  · rw [read0, read1]
    show A m c ((3 * n + 2) % 3 * 1536 + k.val) ((3 * n + 2) / 3 * 1408 + e.val) * B m c ((3 * n + 2) % 3 * 1536 + k.val) d.val = _
    rw [show (3 * n + 2) % 3 = 2 by omega, show (3 * n + 2) / 3 = n by omega]

/-- What the run leaves in the result. -/
theorem result_at (e : Fin 2816) (d : Fin 1024) : G2 m c (ix2 e d) = ∑ r : Fin 4608, A m c r.val e.val * B m c r.val d.val := by
  have hp : pt2Of (ix2 e d) = 3 * (e.val / 1408) + 2 := by
    show 3 * (1 * (e.val / 1408 - 0) + 1 * (d.val / 1024 - 0)) + 2 = _
    have := d.isLt; omega
  have hq : 3 * (e.val / 1408) + 2 < cfg0.N := lt_of_lt_of_eq (by have := e.isLt; omega) N_0.symm
  have hl : loc2Of (ix2 e d) = ix2 ⟨e.val % 1408, Nat.mod_lt _ (by decide)⟩ d := by
    funext a; apply Fin.ext
    match a with
    | ⟨0, _⟩ => rfl
    | ⟨1, _⟩ => show d.val % 1024 = d.val; omega
  unfold G2
  rw [dif_pos (hp ▸ hq), hl, fold0_congr m c _ _ _ (lt_of_eq_of_lt (Nat.zero_add _) hq) hp, ← outsAt0_sweep m c _ hq]
  refine (block_at m c (e.val / 1408) hq _ d).trans (sum_congr rfl fun r _ => ?_)
  show A m c r.val (e.val / 1408 * 1408 + e.val % 1408) * _ = _
  rw [Nat.div_add_mod']

/-- What the reference computes of the same arrays. -/
theorem claim : Cert.algebraic_DwoCtxIdeal_RefDwoCtxIdeal := by
  intro m g m' g' hm hargs
  refine ⟨G2 m, Cert.DwoCtxIdeal.Value.run (F := Ideal) m g, (θ_run _ _ _).mono (fun r h c => ?_) (Cert.RefDwoCtxIdeal.Value.run (F := Ideal) m' g')⟩
  obtain ⟨h0, hargs'⟩ := h c
  obtain ⟨a0, a1⟩ := hargs c
  refine ⟨h0.trans ?_, hargs'⟩
  rw [a0, a1]
  funext i
  rw [eq_ix2 i]
  generalize i 0 = e, i 1 = d
  refine Eq.trans ?_ (result_at m c e d).symm
  pointwise
  refine sum_congr rfl fun r _ => (mul_comm _ _).trans (congrArg₂ (· * ·) ?_ ?_)
  · refine (nat2_ix (m (c.tc.loc main_arg0)) r e).trans ?_
    show _ = nat2 (V m c main_arg0) _ _
    rw [V_main_arg0]
  · refine (nat2_ix (m (c.tc.loc main_arg1)) r d).trans ?_
    show _ = nat2 (V m c main_arg1) _ _
    rw [V_main_arg1]

end Cert.DwoCtxIdeal.Own
-- ==== Proof.BwdOuts.lean ====
/-
  The backward kernel, one grid point at a time: what each output's staging buffer and each carried scratch buffer hold after the body, by
  the case of the body's conditions the point is in (A: the first point; B: the other points that run a chunk; C: the points that store zeros).
-/
module

public import proofs.«01_k».proof.Proof.Gen.BwdIdeal.Frame.RunC
public import Idealize.ShloMosaic.Lib.Claim

@[expose] public section

set_option maxRecDepth 16384

noncomputable section

namespace Cert.BwdIdeal.Own

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

variable (c : Dev nD) (t : Fin cfg0.N)

section CaseA

variable (hc0 : cond0_0 (grid0.coords t)) (hc1 : ¬cond0_1 (grid0.coords t)) (hc2 : cond0_2 (grid0.coords t))
  (x0 x1 x2 : Vec F S64x512 .f32) (x3 : Vec F S1x4x128x64 .f32) (x4 x5 x6 x7 : Vec F S64x512 .f32) (x8 : Vec F S1x4x128x64 .f32) (x9 : Vec F S64x512 .f32)

/-- The run at a point of case A. -/
noncomputable abbrev atA := kernelRun0_A c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) hc0 hc1 hc2 x0 x1 x2 x3 x4 x5 x6 x7 x8 x9

/-- Case A's pieces for output 10 tile its block, so they cover it. -/
theorem cover0_A_10 (y : S64x512.Idx) :
    ∃ pc ∈ (atA c t hc0 hc1 hc2 x0 x1 x2 x3 x4 x5 x6 x7 x8 x9).1, y ∈ pc.1.set :=
  View.cover_of_tiledL _ S64x512.size (by sl_kernel_rfl) y

/-- What case A leaves in output 10's staging buffer: its pieces read back over junk. -/
def out0_A_10 : Vec F S64x512 .f32 :=
  VO0_10.read (Elt F) (VO0_10.writes (Elt F) VO0_10.junk (atA c t hc0 hc1 hc2 x0 x1 x2 x3 x4 x5 x6 x7 x8 x9).1)

/-- Case A's pieces for output 11 tile its block, so they cover it. -/
theorem cover0_A_11 (y : S64x512.Idx) :
    ∃ pc ∈ (atA c t hc0 hc1 hc2 x0 x1 x2 x3 x4 x5 x6 x7 x8 x9).2.1, y ∈ pc.1.set :=
  View.cover_of_tiledL _ S64x512.size (by sl_kernel_rfl) y

/-- What case A leaves in output 11's staging buffer: its pieces read back over junk. -/
def out0_A_11 : Vec F S64x512 .f32 :=
  VO0_11.read (Elt F) (VO0_11.writes (Elt F) VO0_11.junk (atA c t hc0 hc1 hc2 x0 x1 x2 x3 x4 x5 x6 x7 x8 x9).2.1)

/-- Case A's pieces for output 12 tile its block, so they cover it. -/
theorem cover0_A_12 (y : S64x256.Idx) :
    ∃ pc ∈ (atA c t hc0 hc1 hc2 x0 x1 x2 x3 x4 x5 x6 x7 x8 x9).2.2.1, y ∈ pc.1.set :=
  View.cover_of_tiledL _ S64x256.size (by sl_kernel_rfl) y

/-- What case A leaves in output 12's staging buffer: its pieces read back over junk. -/
def out0_A_12 : Vec F S64x256 .f32 :=
  VO0_12.read (Elt F) (VO0_12.writes (Elt F) VO0_12.junk (atA c t hc0 hc1 hc2 x0 x1 x2 x3 x4 x5 x6 x7 x8 x9).2.2.1)

/-- Case A's pieces for output 13 tile its block, so they cover it. -/
theorem cover0_A_13 (y : S64x512.Idx) :
    ∃ pc ∈ (atA c t hc0 hc1 hc2 x0 x1 x2 x3 x4 x5 x6 x7 x8 x9).2.2.2.1, y ∈ pc.1.set :=
  View.cover_of_tiledL _ S64x512.size (by sl_kernel_rfl) y

/-- What case A leaves in output 13's staging buffer: its pieces read back over junk. -/
def out0_A_13 : Vec F S64x512 .f32 :=
  VO0_13.read (Elt F) (VO0_13.writes (Elt F) VO0_13.junk (atA c t hc0 hc1 hc2 x0 x1 x2 x3 x4 x5 x6 x7 x8 x9).2.2.2.1)

/-- Case A's pieces for output 14 tile its block, so they cover it. -/
theorem cover0_A_14 (y : S64x512.Idx) :
    ∃ pc ∈ (atA c t hc0 hc1 hc2 x0 x1 x2 x3 x4 x5 x6 x7 x8 x9).2.2.2.2.1, y ∈ pc.1.set :=
  View.cover_of_tiledL _ S64x512.size (by sl_kernel_rfl) y

/-- What case A leaves in output 14's staging buffer: its pieces read back over junk. -/
def out0_A_14 : Vec F S64x512 .f32 :=
  VO0_14.read (Elt F) (VO0_14.writes (Elt F) VO0_14.junk (atA c t hc0 hc1 hc2 x0 x1 x2 x3 x4 x5 x6 x7 x8 x9).2.2.2.2.1)

/-- Case A's pieces for output 15 tile its block, so they cover it. -/
theorem cover0_A_15 (y : S64x256.Idx) :
    ∃ pc ∈ (atA c t hc0 hc1 hc2 x0 x1 x2 x3 x4 x5 x6 x7 x8 x9).2.2.2.2.2.1, y ∈ pc.1.set :=
  View.cover_of_tiledL _ S64x256.size (by sl_kernel_rfl) y

/-- What case A leaves in output 15's staging buffer: its pieces read back over junk. -/
def out0_A_15 : Vec F S64x256 .f32 :=
  VO0_15.read (Elt F) (VO0_15.writes (Elt F) VO0_15.junk (atA c t hc0 hc1 hc2 x0 x1 x2 x3 x4 x5 x6 x7 x8 x9).2.2.2.2.2.1)

/-- Case A's pieces for scratch `arg17`, which the kernel carries between points, cover it. -/
theorem scover0_A_0 (y : S512x256.Idx) :
    ∃ pc ∈ (atA c t hc0 hc1 hc2 x0 x1 x2 x3 x4 x5 x6 x7 x8 x9).2.2.2.2.2.2.1, y ∈ pc.1.set :=
  View.cover_of_tiledL _ S512x256.size (by sl_kernel_rfl) y

/-- What case A leaves in scratch `arg17`: its pieces read back over junk. -/
def sout0_A_0 : Vec F S512x256 .f32 :=
  VS0_0.read (Elt F) (VS0_0.writes (Elt F) VS0_0.junk (atA c t hc0 hc1 hc2 x0 x1 x2 x3 x4 x5 x6 x7 x8 x9).2.2.2.2.2.2.1)

/-- Case A's pieces for scratch `arg18`, which the kernel carries between points, cover it. -/
theorem scover0_A_1 (y : S512x256.Idx) :
    ∃ pc ∈ (atA c t hc0 hc1 hc2 x0 x1 x2 x3 x4 x5 x6 x7 x8 x9).2.2.2.2.2.2.2.1, y ∈ pc.1.set :=
  View.cover_of_tiledL _ S512x256.size (by sl_kernel_rfl) y

/-- What case A leaves in scratch `arg18`: its pieces read back over junk. -/
def sout0_A_1 : Vec F S512x256 .f32 :=
  VS0_1.read (Elt F) (VS0_1.writes (Elt F) VS0_1.junk (atA c t hc0 hc1 hc2 x0 x1 x2 x3 x4 x5 x6 x7 x8 x9).2.2.2.2.2.2.2.1)

end CaseA

section CaseB

variable (hc0 : ¬cond0_0 (grid0.coords t)) (hc1 : ¬cond0_1 (grid0.coords t)) (hc2 : cond0_2 (grid0.coords t))
  (x0 x1 x2 : Vec F S64x512 .f32) (x3 : Vec F S1x4x128x64 .f32) (x4 x5 x6 x7 : Vec F S64x512 .f32) (x8 : Vec F S1x4x128x64 .f32) (x9 : Vec F S64x512 .f32)
  (xs0 xs1 : Vec F S512x256 .f32)

/-- The run at a point of case B. -/
noncomputable abbrev atB := kernelRun0_B c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) hc0 hc1 hc2 x0 x1 x2 x3 x4 x5 x6 x7 x8 x9 xs0 xs1

/-- Case B's pieces for output 10 tile its block, so they cover it. -/
theorem cover0_B_10 (y : S64x512.Idx) :
    ∃ pc ∈ (atB c t hc0 hc1 hc2 x0 x1 x2 x3 x4 x5 x6 x7 x8 x9 xs0 xs1).1, y ∈ pc.1.set :=
  View.cover_of_tiledL _ S64x512.size (by sl_kernel_rfl) y

/-- What case B leaves in output 10's staging buffer: its pieces read back over junk. -/
def out0_B_10 : Vec F S64x512 .f32 :=
  VO0_10.read (Elt F) (VO0_10.writes (Elt F) VO0_10.junk (atB c t hc0 hc1 hc2 x0 x1 x2 x3 x4 x5 x6 x7 x8 x9 xs0 xs1).1)

/-- Case B's pieces for output 11 tile its block, so they cover it. -/
theorem cover0_B_11 (y : S64x512.Idx) :
    ∃ pc ∈ (atB c t hc0 hc1 hc2 x0 x1 x2 x3 x4 x5 x6 x7 x8 x9 xs0 xs1).2.1, y ∈ pc.1.set :=
  View.cover_of_tiledL _ S64x512.size (by sl_kernel_rfl) y

/-- What case B leaves in output 11's staging buffer: its pieces read back over junk. -/
def out0_B_11 : Vec F S64x512 .f32 :=
  VO0_11.read (Elt F) (VO0_11.writes (Elt F) VO0_11.junk (atB c t hc0 hc1 hc2 x0 x1 x2 x3 x4 x5 x6 x7 x8 x9 xs0 xs1).2.1)

/-- Case B's pieces for output 12 tile its block, so they cover it. -/
theorem cover0_B_12 (y : S64x256.Idx) :
    ∃ pc ∈ (atB c t hc0 hc1 hc2 x0 x1 x2 x3 x4 x5 x6 x7 x8 x9 xs0 xs1).2.2.1, y ∈ pc.1.set :=
  View.cover_of_tiledL _ S64x256.size (by sl_kernel_rfl) y

/-- What case B leaves in output 12's staging buffer: its pieces read back over junk. -/
def out0_B_12 : Vec F S64x256 .f32 :=
  VO0_12.read (Elt F) (VO0_12.writes (Elt F) VO0_12.junk (atB c t hc0 hc1 hc2 x0 x1 x2 x3 x4 x5 x6 x7 x8 x9 xs0 xs1).2.2.1)

/-- Case B's pieces for output 13 tile its block, so they cover it. -/
theorem cover0_B_13 (y : S64x512.Idx) :
    ∃ pc ∈ (atB c t hc0 hc1 hc2 x0 x1 x2 x3 x4 x5 x6 x7 x8 x9 xs0 xs1).2.2.2.1, y ∈ pc.1.set :=
  View.cover_of_tiledL _ S64x512.size (by sl_kernel_rfl) y

/-- What case B leaves in output 13's staging buffer: its pieces read back over junk. -/
def out0_B_13 : Vec F S64x512 .f32 :=
  VO0_13.read (Elt F) (VO0_13.writes (Elt F) VO0_13.junk (atB c t hc0 hc1 hc2 x0 x1 x2 x3 x4 x5 x6 x7 x8 x9 xs0 xs1).2.2.2.1)

/-- Case B's pieces for output 14 tile its block, so they cover it. -/
theorem cover0_B_14 (y : S64x512.Idx) :
    ∃ pc ∈ (atB c t hc0 hc1 hc2 x0 x1 x2 x3 x4 x5 x6 x7 x8 x9 xs0 xs1).2.2.2.2.1, y ∈ pc.1.set :=
  View.cover_of_tiledL _ S64x512.size (by sl_kernel_rfl) y

/-- What case B leaves in output 14's staging buffer: its pieces read back over junk. -/
def out0_B_14 : Vec F S64x512 .f32 :=
  VO0_14.read (Elt F) (VO0_14.writes (Elt F) VO0_14.junk (atB c t hc0 hc1 hc2 x0 x1 x2 x3 x4 x5 x6 x7 x8 x9 xs0 xs1).2.2.2.2.1)

/-- Case B's pieces for output 15 tile its block, so they cover it. -/
theorem cover0_B_15 (y : S64x256.Idx) :
    ∃ pc ∈ (atB c t hc0 hc1 hc2 x0 x1 x2 x3 x4 x5 x6 x7 x8 x9 xs0 xs1).2.2.2.2.2.1, y ∈ pc.1.set :=
  View.cover_of_tiledL _ S64x256.size (by sl_kernel_rfl) y

/-- What case B leaves in output 15's staging buffer: its pieces read back over junk. -/
def out0_B_15 : Vec F S64x256 .f32 :=
  VO0_15.read (Elt F) (VO0_15.writes (Elt F) VO0_15.junk (atB c t hc0 hc1 hc2 x0 x1 x2 x3 x4 x5 x6 x7 x8 x9 xs0 xs1).2.2.2.2.2.1)

/-- Case B's pieces for scratch `arg17`, which the kernel carries between points, cover it. -/
theorem scover0_B_0 (y : S512x256.Idx) :
    ∃ pc ∈ (atB c t hc0 hc1 hc2 x0 x1 x2 x3 x4 x5 x6 x7 x8 x9 xs0 xs1).2.2.2.2.2.2.1, y ∈ pc.1.set :=
  View.cover_of_tiledL _ S512x256.size (by sl_kernel_rfl) y

/-- What case B leaves in scratch `arg17`: its pieces read back over junk. -/
def sout0_B_0 : Vec F S512x256 .f32 :=
  VS0_0.read (Elt F) (VS0_0.writes (Elt F) VS0_0.junk (atB c t hc0 hc1 hc2 x0 x1 x2 x3 x4 x5 x6 x7 x8 x9 xs0 xs1).2.2.2.2.2.2.1)

/-- Case B's pieces for scratch `arg18`, which the kernel carries between points, cover it. -/
theorem scover0_B_1 (y : S512x256.Idx) :
    ∃ pc ∈ (atB c t hc0 hc1 hc2 x0 x1 x2 x3 x4 x5 x6 x7 x8 x9 xs0 xs1).2.2.2.2.2.2.2.1, y ∈ pc.1.set :=
  View.cover_of_tiledL _ S512x256.size (by sl_kernel_rfl) y

/-- What case B leaves in scratch `arg18`: its pieces read back over junk. -/
def sout0_B_1 : Vec F S512x256 .f32 :=
  VS0_1.read (Elt F) (VS0_1.writes (Elt F) VS0_1.junk (atB c t hc0 hc1 hc2 x0 x1 x2 x3 x4 x5 x6 x7 x8 x9 xs0 xs1).2.2.2.2.2.2.2.1)

end CaseB

section CaseC

variable (hc0 : ¬cond0_0 (grid0.coords t)) (hc1 : cond0_1 (grid0.coords t)) (hc2 : ¬cond0_2 (grid0.coords t))
  (x0 x1 x2 : Vec F S64x512 .f32) (x3 : Vec F S1x4x128x64 .f32) (x4 x5 x6 x7 : Vec F S64x512 .f32) (x8 : Vec F S1x4x128x64 .f32) (x9 : Vec F S64x512 .f32)
  (xs0 xs1 : Vec F S512x256 .f32)

/-- The run at a point of case C. -/
noncomputable abbrev atC := kernelRun0_C c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) scM0_0 (Memref.isWhole_whole _) scM0_1 (Memref.isWhole_whole _) hc0 hc1 hc2 x0 x1 x2 x3 x4 x5 x6 x7 x8 x9 xs0 xs1

/-- Case C's pieces for output 10 tile its block, so they cover it. -/
theorem cover0_C_10 (y : S64x512.Idx) :
    ∃ pc ∈ (atC c t hc0 hc1 hc2 x0 x1 x2 x3 x4 x5 x6 x7 x8 x9 xs0 xs1).1, y ∈ pc.1.set :=
  View.cover_of_tiledL _ S64x512.size (by sl_kernel_rfl) y

/-- What case C leaves in output 10's staging buffer: its pieces read back over junk. -/
def out0_C_10 : Vec F S64x512 .f32 :=
  VO0_10.read (Elt F) (VO0_10.writes (Elt F) VO0_10.junk (atC c t hc0 hc1 hc2 x0 x1 x2 x3 x4 x5 x6 x7 x8 x9 xs0 xs1).1)

/-- Case C's pieces for output 11 tile its block, so they cover it. -/
theorem cover0_C_11 (y : S64x512.Idx) :
    ∃ pc ∈ (atC c t hc0 hc1 hc2 x0 x1 x2 x3 x4 x5 x6 x7 x8 x9 xs0 xs1).2.1, y ∈ pc.1.set :=
  View.cover_of_tiledL _ S64x512.size (by sl_kernel_rfl) y

/-- What case C leaves in output 11's staging buffer: its pieces read back over junk. -/
def out0_C_11 : Vec F S64x512 .f32 :=
  VO0_11.read (Elt F) (VO0_11.writes (Elt F) VO0_11.junk (atC c t hc0 hc1 hc2 x0 x1 x2 x3 x4 x5 x6 x7 x8 x9 xs0 xs1).2.1)

/-- Case C's pieces for output 12 tile its block, so they cover it. -/
theorem cover0_C_12 (y : S64x256.Idx) :
    ∃ pc ∈ (atC c t hc0 hc1 hc2 x0 x1 x2 x3 x4 x5 x6 x7 x8 x9 xs0 xs1).2.2.1, y ∈ pc.1.set :=
  View.cover_of_tiledL _ S64x256.size (by sl_kernel_rfl) y

/-- What case C leaves in output 12's staging buffer: its pieces read back over junk. -/
def out0_C_12 : Vec F S64x256 .f32 :=
  VO0_12.read (Elt F) (VO0_12.writes (Elt F) VO0_12.junk (atC c t hc0 hc1 hc2 x0 x1 x2 x3 x4 x5 x6 x7 x8 x9 xs0 xs1).2.2.1)

/-- Case C's pieces for output 13 tile its block, so they cover it. -/
theorem cover0_C_13 (y : S64x512.Idx) :
    ∃ pc ∈ (atC c t hc0 hc1 hc2 x0 x1 x2 x3 x4 x5 x6 x7 x8 x9 xs0 xs1).2.2.2.1, y ∈ pc.1.set :=
  View.cover_of_tiledL _ S64x512.size (by sl_kernel_rfl) y

/-- What case C leaves in output 13's staging buffer: its pieces read back over junk. -/
def out0_C_13 : Vec F S64x512 .f32 :=
  VO0_13.read (Elt F) (VO0_13.writes (Elt F) VO0_13.junk (atC c t hc0 hc1 hc2 x0 x1 x2 x3 x4 x5 x6 x7 x8 x9 xs0 xs1).2.2.2.1)

/-- Case C's pieces for output 14 tile its block, so they cover it. -/
theorem cover0_C_14 (y : S64x512.Idx) :
    ∃ pc ∈ (atC c t hc0 hc1 hc2 x0 x1 x2 x3 x4 x5 x6 x7 x8 x9 xs0 xs1).2.2.2.2.1, y ∈ pc.1.set :=
  View.cover_of_tiledL _ S64x512.size (by sl_kernel_rfl) y

/-- What case C leaves in output 14's staging buffer: its pieces read back over junk. -/
def out0_C_14 : Vec F S64x512 .f32 :=
  VO0_14.read (Elt F) (VO0_14.writes (Elt F) VO0_14.junk (atC c t hc0 hc1 hc2 x0 x1 x2 x3 x4 x5 x6 x7 x8 x9 xs0 xs1).2.2.2.2.1)

/-- Case C's pieces for output 15 tile its block, so they cover it. -/
theorem cover0_C_15 (y : S64x256.Idx) :
    ∃ pc ∈ (atC c t hc0 hc1 hc2 x0 x1 x2 x3 x4 x5 x6 x7 x8 x9 xs0 xs1).2.2.2.2.2.1, y ∈ pc.1.set :=
  View.cover_of_tiledL _ S64x256.size (by sl_kernel_rfl) y

/-- What case C leaves in output 15's staging buffer: its pieces read back over junk. -/
def out0_C_15 : Vec F S64x256 .f32 :=
  VO0_15.read (Elt F) (VO0_15.writes (Elt F) VO0_15.junk (atC c t hc0 hc1 hc2 x0 x1 x2 x3 x4 x5 x6 x7 x8 x9 xs0 xs1).2.2.2.2.2.1)

end CaseC

end Cert.BwdIdeal.Own
-- ==== Proof.BwdRun.lean ====
/-
  The backward kernel's run: what its outputs and its carried scratch hold after every grid point, and the run of the whole program.
-/
module

public import proofs.«01_k».proof.Proof.Gen.BwdIdeal.Frame.RunC
public import Idealize.ShloMosaic.Lib.Claim
public import proofs.«01_k».proof.Proof.BwdOuts
@[expose] public section

set_option maxRecDepth 16384

noncomputable section

namespace Cert.BwdIdeal.Own

open Cert.BwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the outputs hold after each point -/

/-- The six outputs' blocks and the two carried scratch buffers. -/
abbrev Outs (F : FTy → Type) : Type := Vec F S64x512 .f32 × Vec F S64x512 .f32 × Vec F S64x256 .f32 × Vec F S64x512 .f32 × Vec F S64x512 .f32 × Vec F S64x256 .f32 × Vec F S512x256 .f32 × Vec F S512x256 .f32

/-- What the outputs' buffers and the carried scratch hold after a point of each of the three cases, by what the scratch held before it. -/
def ptA (c : Dev nD) (t : Fin cfg0.N) (h0 : t.val % 72 = 0) (h1 : ¬68 ≤ t.val) (h2 : t.val < 68) : Outs F :=
  (out0_A_10 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   out0_A_11 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   out0_A_12 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   out0_A_13 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   out0_A_14 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   out0_A_15 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   sout0_A_0 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t),
   sout0_A_1 c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t))

def ptB (c : Dev nD) (t : Fin cfg0.N) (h0 : ¬t.val % 72 = 0) (h1 : ¬68 ≤ t.val) (h2 : t.val < 68) (s0 s1 : Vec F S512x256 .f32) : Outs F :=
  (out0_B_10 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   out0_B_11 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   out0_B_12 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   out0_B_13 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   out0_B_14 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   out0_B_15 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   sout0_B_0 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1,
   sout0_B_1 c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) s0 s1)

def ptC (c : Dev nD) (t : Fin cfg0.N) (h0 : ¬t.val % 72 = 0) (h1 : 68 ≤ t.val) (h2 : ¬t.val < 68) (s0 s1 : Vec F S512x256 .f32) : Outs F :=
  (out0_C_10 c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) s0 s1,
   out0_C_11 c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) s0 s1,
   out0_C_12 c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) s0 s1,
   out0_C_13 c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) s0 s1,
   out0_C_14 c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) s0 s1,
   out0_C_15 c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) s0 s1,
   s0,
   s1)

/-- The case a point is of, at the scratch `p` carries to it. -/
def outsStep (c : Dev nD) (t : Fin cfg0.N) (p : Outs F) : Outs F :=
  have hN : t.val < 72 := lt_of_lt_of_eq t.isLt N_0
  if h0 : t.val % 72 = 0 then ptA m c t h0 (by omega) (by omega)
  else if h1 : 68 ≤ t.val then ptC m c t h0 h1 (by omega) p.2.2.2.2.2.2.1 p.2.2.2.2.2.2.2
  else ptB m c t h0 h1 (by omega) p.2.2.2.2.2.2.1 p.2.2.2.2.2.2.2

/-- What the outputs' buffers and the carried scratch hold after point `n`: the case the point is in, run at its blocks and at what point `n - 1` left. -/
def outsAt0 (c : Dev nD) : (n : ℕ) → n < cfg0.N → Outs F
  | 0, hn => ptA m c ⟨0, hn⟩ (Nat.zero_mod _) (show ¬68 ≤ 0 by decide) (show 0 < 68 by decide)
  | n + 1, hn => outsStep m c ⟨n + 1, hn⟩ (outsAt0 c n (Nat.lt_of_succ_lt hn))

/-- `outsAt0` at a point of case A: that case's contents. -/
theorem outsAt0_A (c : Dev nD) (t : Fin cfg0.N) (h0 : t.val % 72 = 0) (h1 : ¬68 ≤ t.val) (h2 : t.val < 68) :
    outsAt0 m c t.val t.isLt = ptA m c t h0 h1 h2 := by
  obtain ⟨n, hn⟩ := t
  cases n with
  | zero => exact rfl
  | succ n =>
    have e : ∀ p : Outs F, outsStep m c ⟨n + 1, hn⟩ p = _ := fun p => dif_pos h0
    exact e _

/-- `outsAt0` at a point of case B: that case's contents, over what the point before left. -/
theorem outsAt0_B (c : Dev nD) (t : Fin cfg0.N) (h0 : ¬t.val % 72 = 0) (h1 : ¬68 ≤ t.val) (h2 : t.val < 68) :
    outsAt0 m c t.val t.isLt = ptB m c t h0 h1 h2
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  obtain ⟨n, hn⟩ := t
  cases n with
  | zero => exact absurd (Nat.zero_mod _) h0
  | succ n =>
    have e : ∀ p : Outs F, outsStep m c ⟨n + 1, hn⟩ p = _ := fun p => (dif_neg h0).trans (dif_neg h1)
    exact e _

/-- `outsAt0` at a point of case C: that case's contents, over what the point before left. -/
theorem outsAt0_C (c : Dev nD) (t : Fin cfg0.N) (h0 : ¬t.val % 72 = 0) (h1 : 68 ≤ t.val) (h2 : ¬t.val < 68) :
    outsAt0 m c t.val t.isLt = ptC m c t h0 h1 h2
      (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  obtain ⟨n, hn⟩ := t
  cases n with
  | zero => exact absurd (Nat.zero_mod _) h0
  | succ n =>
    have e : ∀ p : Outs F, outsStep m c ⟨n + 1, hn⟩ p = _ := fun p => (dif_neg h0).trans (dif_pos h1)
    exact e _

/-- The invariant before point `n`: before the first the two carried scratch buffers hold anything, afterwards what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.2.1) ∗ owns (c : Thread nD τ) scM0_1 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.1) ∗ owns (c : Thread nD τ) scM0_1 fullShare ((outsAt0 m c (n - 1) (by omega)).2.2.2.2.2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => iblk m c 2 t
    | ⟨3, _⟩ => iblk m c 3 t
    | ⟨4, _⟩ => iblk m c 4 t
    | ⟨5, _⟩ => X0_5 m c t
    | ⟨6, _⟩ => X0_6 m c t
    | ⟨7, _⟩ => iblk m c 7 t
    | ⟨8, _⟩ => iblk m c 8 t
    | ⟨9, _⟩ => iblk m c 9 t
    | ⟨10, _⟩ => (outsAt0 m c t.val t.isLt).1
    | ⟨11, _⟩ => (outsAt0 m c t.val t.isLt).2.1
    | ⟨12, _⟩ => (outsAt0 m c t.val t.isLt).2.2.1
    | ⟨13, _⟩ => (outsAt0 m c t.val t.isLt).2.2.2.1
    | ⟨14, _⟩ => (outsAt0 m c t.val t.isLt).2.2.2.2.1
    | ⟨15, _⟩ => (outsAt0 m c t.val t.isLt).2.2.2.2.2.1
    | ⟨_ + 16, h⟩ => absurd h (Nat.not_lt.2 (Nat.le_add_left _ _))
  Φ t := PhiS m c t.val (Nat.le_of_lt_succ t.isLt)
  q w := Pipeline.shareOf spec0 w
  owed _ := 0

/-- The proof data's arrays are the contents the region finds. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = X0_5 m c t := by dsimp only [dats]
theorem after0_6 (c : Dev nD) (t : Fin cfg0.N) : (dats m 0 c).after 6 t = X0_6 m c t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = (outsAt0 m c t.val t.isLt).1 := by dsimp only [dats]
theorem after0_11 (c : Dev nD) (t : Fin cfg0.N) : (dats m 0 c).after 11 t = (outsAt0 m c t.val t.isLt).2.1 := by dsimp only [dats]
theorem after0_12 (c : Dev nD) (t : Fin cfg0.N) : (dats m 0 c).after 12 t = (outsAt0 m c t.val t.isLt).2.2.1 := by dsimp only [dats]
theorem after0_13 (c : Dev nD) (t : Fin cfg0.N) : (dats m 0 c).after 13 t = (outsAt0 m c t.val t.isLt).2.2.2.1 := by dsimp only [dats]
theorem after0_14 (c : Dev nD) (t : Fin cfg0.N) : (dats m 0 c).after 14 t = (outsAt0 m c t.val t.isLt).2.2.2.2.1 := by dsimp only [dats]
theorem after0_15 (c : Dev nD) (t : Fin cfg0.N) : (dats m 0 c).after 15 t = (outsAt0 m c t.val t.isLt).2.2.2.2.2.1 := by dsimp only [dats]

/-- Each input's current staging buffer holds its block at every point, fetched there or not (`beforeK_W_of`). -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = X0_5 m c t :=
  before0_5_of m (dats m 0 c) (A_eq m c 5) (after0_5 m c) t d
theorem before0_6 (c : Dev nD) (t : Fin cfg0.N) (d) : (dats m 0 c).before 6 t d = X0_6 m c t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

/-- A window the point stores into is left at what the proof data names. -/
theorem leaves (c : Dev nD) (t : Fin cfg0.N) (w : Fin cfg0.W) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 4000000 in
/-- The body at any point, by the case the point is in. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  rw [leaves m c t 0 (liveAt0_0 t), leaves m c t 1 (liveAt0_1 t), leaves m c t 2 (liveAt0_2 t), leaves m c t 3 (liveAt0_3 t), leaves m c t 4 (liveAt0_4 t), leaves m c t 5 (liveAt0_5 t), leaves m c t 6 (liveAt0_6 t), leaves m c t 7 (liveAt0_7 t), leaves m c t 8 (liveAt0_8 t), leaves m c t 9 (liveAt0_9 t),
    after0_0, after0_1, after0_2, after0_3, after0_4, after0_5, after0_6, after0_7, after0_8, after0_9]
  have hN : t.val < 72 := lt_of_lt_of_eq t.isLt (show cfg0.N = 72 from N_0)
  by_cases h0 : t.val % 72 = 0
  · by_cases h1 : 68 ≤ t.val
    · exfalso; omega
    · by_cases h2 : t.val < 68
      · have ⟨g0, g1, g2⟩ : cond0_0 (grid0.coords t) ∧ ¬cond0_1 (grid0.coords t) ∧ cond0_2 (grid0.coords t) :=
          ⟨(hcond0_0 t).mpr h0, fun h => h1 ((hcond0_1 t).mp h), (hcond0_2 t).mpr h2⟩
        rw [leaves m c t 10 (liveAt0_10_A t g0 g1 g2), leaves m c t 11 (liveAt0_11_A t g0 g1 g2), leaves m c t 12 (liveAt0_12_A t g0 g1 g2), leaves m c t 13 (liveAt0_13_A t g0 g1 g2), leaves m c t 14 (liveAt0_14_A t g0 g1 g2), leaves m c t 15 (liveAt0_15_A t g0 g1 g2),
          after0_10, after0_11, after0_12, after0_13, after0_14, after0_15]
        by_cases hz : t.val = 0
        · rw [PhiS_castSucc m c t, PhiS_zero m c _ _ hz, PhiA0_eq]
          rw [outsAt0_A m c t h0 h1 h2]
          unfold ptA out0_A_10 out0_A_11 out0_A_12 out0_A_13 out0_A_14 out0_A_15 sout0_A_0 sout0_A_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((atA c t ((hcond0_0 t).mpr h0) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t)).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (fun _ => scover0_A_0 ..)
              unfold owns; iexists _; isplitr
              swap; · iexact HS1
              ipureintro; exact View.read_writes_of_cover _ _ _ _ _ (fun _ => scover0_A_1 ..)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (fun _ => cover0_A_10 ..)
          isplitl [H11]
          · unfold owns; iexists _; isplitr
            swap; · iexact H11
            ipureintro; exact View.read_writes_of_cover _ _ _ _ _ (fun _ => cover0_A_11 ..)
          isplitl [H12]
          · unfold owns; iexists _; isplitr
            swap; · iexact H12
            ipureintro; exact View.read_writes_of_cover _ _ _ _ _ (fun _ => cover0_A_12 ..)
          isplitl [H13]
          · unfold owns; iexists _; isplitr
            swap; · iexact H13
            ipureintro; exact View.read_writes_of_cover _ _ _ _ _ (fun _ => cover0_A_13 ..)
          isplitl [H14]
          · unfold owns; iexists _; isplitr
            swap; · iexact H14
            ipureintro; exact View.read_writes_of_cover _ _ _ _ _ (fun _ => cover0_A_14 ..)
          unfold owns; iexists _; isplitr
          swap; · iexact H15
          ipureintro; exact View.read_writes_of_cover _ _ _ _ _ (fun _ => cover0_A_15 ..)
        · exfalso; have hN : t.val < 72 := lt_of_lt_of_eq t.isLt (show cfg0.N = 72 from N_0); omega
      · exfalso; omega
  · by_cases h1 : 68 ≤ t.val
    · by_cases h2 : t.val < 68
      · exfalso; omega
      · have ⟨g0, g1, g2⟩ : ¬cond0_0 (grid0.coords t) ∧ cond0_1 (grid0.coords t) ∧ ¬cond0_2 (grid0.coords t) :=
          ⟨fun h => h0 ((hcond0_0 t).mp h), (hcond0_1 t).mpr h1, fun h => h2 ((hcond0_2 t).mp h)⟩
        rw [leaves m c t 10 (liveAt0_10_C t g0 g1 g2), leaves m c t 11 (liveAt0_11_C t g0 g1 g2), leaves m c t 12 (liveAt0_12_C t g0 g1 g2), leaves m c t 13 (liveAt0_13_C t g0 g1 g2), leaves m c t 14 (liveAt0_14_C t g0 g1 g2), leaves m c t 15 (liveAt0_15_C t g0 g1 g2),
          after0_10, after0_11, after0_12, after0_13, after0_14, after0_15]
        by_cases hz : t.val = 0
        · exfalso; have hN : t.val < 72 := lt_of_lt_of_eq t.isLt (show cfg0.N = 72 from N_0); omega
        · rw [PhiS_castSucc m c t, PhiS_pos m c _ _ hz]
          rw [outsAt0_C m c t h0 h1 h2]
          unfold ptC out0_C_10 out0_C_11 out0_C_12 out0_C_13 out0_C_14 out0_C_15; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((atC c t (fun h => h0 ((hcond0_0 t).mp h)) ((hcond0_1 t).mpr h1) (fun h => h2 ((hcond0_2 t).mp h)) (X0_0 m c t) (X0_1 m c t) (iblk m c 2 t) (iblk m c 3 t) (iblk m c 4 t) (X0_5 m c t) (X0_6 m c t) (iblk m c 7 t) (iblk m c 8 t) (iblk m c 9 t) _ _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%e15, H15⟩, HS0, HS1⟩
          isplitl [HS0 HS1 Hg]
          · isplitl [HS0 HS1]
            · isplitl [HS0]
              · iexact HS0
              iexact HS1
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (fun _ => cover0_C_10 ..)
          isplitl [H11]
          · unfold owns; iexists _; isplitr
            swap; · iexact H11
            ipureintro; exact View.read_writes_of_cover _ _ _ _ _ (fun _ => cover0_C_11 ..)
          isplitl [H12]
          · unfold owns; iexists _; isplitr
            swap; · iexact H12
            ipureintro; exact View.read_writes_of_cover _ _ _ _ _ (fun _ => cover0_C_12 ..)
          isplitl [H13]
          · unfold owns; iexists _; isplitr
            swap; · iexact H13
            ipureintro; exact View.read_writes_of_cover _ _ _ _ _ (fun _ => cover0_C_13 ..)
          isplitl [H14]
          · unfold owns; iexists _; isplitr
            swap; · iexact H14
            ipureintro; exact View.read_writes_of_cover _ _ _ _ _ (fun _ => cover0_C_14 ..)
          unfold owns; iexists _; isplitr
          swap; · iexact H15
          ipureintro; exact View.read_writes_of_cover _ _ _ _ _ (fun _ => cover0_C_15 ..)
    · by_cases h2 : t.val < 68
      · have ⟨g0, g1, g2⟩ : ¬cond0_0 (grid0.coords t) ∧ ¬cond0_1 (grid0.coords t) ∧ cond0_2 (grid0.coords t) :=
          ⟨fun h => h0 ((hcond0_0 t).mp h), fun h => h1 ((hcond0_1 t).mp h), (hcond0_2 t).mpr h2⟩
        rw [leaves m c t 10 (liveAt0_10_B t g0 g1 g2), leaves m c t 11 (liveAt0_11_B t g0 g1 g2), leaves m c t 12 (liveAt0_12_B t g0 g1 g2), leaves m c t 13 (liveAt0_13_B t g0 g1 g2), leaves m c t 14 (liveAt0_14_B t g0 g1 g2), leaves m c t 15 (liveAt0_15_B t g0 g1 g2),
          after0_10, after0_11, after0_12, after0_13, after0_14, after0_15]
        by_cases hz : t.val = 0
        · exfalso; have hN : t.val < 72 := lt_of_lt_of_eq t.isLt (show cfg0.N = 72 from N_0); omega
        · rw [PhiS_castSucc m c t, PhiS_pos m c _ _ hz]
          rw [outsAt0_B m c t h0 h1 h2]
          unfold ptB out0_B_10 out0_B_11 out0_B_12 out0_B_13 out0_B_14 out0_B_15 sout0_B_0 sout0_B_1; (try dsimp only)
          iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
          iapply ((atB c t (fun h => h0 ((hcond0_0 t).mp h)) (fun h => h1 ((hcond0_1 t).mp h)) ((hcond0_2 t).mpr h2) (X0_0 m c t) (X0_1 m c t) (iblk m c 2 t) (iblk m c 3 t) (iblk m c 4 t) (X0_5 m c t) (X0_6 m c t) (iblk m c 7 t) (iblk m c 8 t) (iblk m c 9 t) _ _).2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexists _; iexact H10
          isplitl [H11]; · iexists _; iexact H11
          isplitl [H12]; · iexists _; iexact H12
          isplitl [H13]; · iexists _; iexact H13
          isplitl [H14]; · iexists _; iexact H14
          isplitl [H15]; · iexists _; iexact H15
          isplitl [HS0]; · iexact HS0
          isplitl [HS1]; · iexact HS1
          iintro ⟨H0, H1, H2, H3, H4, H5, H6, H7, H8, H9, ⟨%e10, H10⟩, ⟨%e11, H11⟩, ⟨%e12, H12⟩, ⟨%e13, H13⟩, ⟨%e14, H14⟩, ⟨%e15, H15⟩, ⟨%es0, HS0⟩, ⟨%es1, HS1⟩⟩
          isplitl [HS0 HS1 Hg]
          · isplitl [HS0 HS1]
            · isplitl [HS0]
              · unfold owns; iexists _; isplitr
                swap; · iexact HS0
                ipureintro; exact View.read_writes_of_cover _ _ _ _ _ (fun _ => scover0_B_0 ..)
              unfold owns; iexists _; isplitr
              swap; · iexact HS1
              ipureintro; exact View.read_writes_of_cover _ _ _ _ _ (fun _ => scover0_B_1 ..)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]
          · unfold owns; iexists _; isplitr
            swap; · iexact H10
            ipureintro; exact View.read_writes_of_cover _ _ _ _ _ (fun _ => cover0_B_10 ..)
          isplitl [H11]
          · unfold owns; iexists _; isplitr
            swap; · iexact H11
            ipureintro; exact View.read_writes_of_cover _ _ _ _ _ (fun _ => cover0_B_11 ..)
          isplitl [H12]
          · unfold owns; iexists _; isplitr
            swap; · iexact H12
            ipureintro; exact View.read_writes_of_cover _ _ _ _ _ (fun _ => cover0_B_12 ..)
          isplitl [H13]
          · unfold owns; iexists _; isplitr
            swap; · iexact H13
            ipureintro; exact View.read_writes_of_cover _ _ _ _ _ (fun _ => cover0_B_13 ..)
          isplitl [H14]
          · unfold owns; iexists _; isplitr
            swap; · iexact H14
            ipureintro; exact View.read_writes_of_cover _ _ _ _ _ (fun _ => cover0_B_14 ..)
          unfold owns; iexists _; isplitr
          swap; · iexact H15
          ipureintro; exact View.read_writes_of_cover _ _ _ _ _ (fun _ => cover0_B_15 ..)
      · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body at every point, as the pipeline asks for it. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 72 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME: `Cert.quiescent_BwdIdeal`'s statement (Defs.lean) at any `F` — Proof.lean cites it at `Bits`:
    `theorem Cert.Proof.claim : Cert.Claim := ⟨Cert.BwdIdeal.Gen.facts, fun m ρ _ => Cert.BwdIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.BwdIdeal.Own

end
-- ==== Proof.BwdSame.lean ====
/-
  The printed backward program and its idealized form are the same text, so one frame serves both.
-/
module

public import proofs.«01_k».proof.Defs
public import proofs.«01_k».proof.Proof.Gen.Bwd
public import proofs.«01_k».proof.Proof.BwdRun

@[expose] public section

noncomputable section

namespace Cert.Gla.Bwd

open Idealize.ShloMosaic Idealize.SL.Sem

set_option maxHeartbeats 2000000

theorem bodies_eq : Cert.Bwd.defs₀ (F := Bits) = Cert.BwdIdeal.defs₀ (F := Bits) := by
  refine congrArg Defs.onTc (funext fun l => funext fun a => ?_)
  match l, a with
  | 0, (_, _) => rfl

theorem defs_eq : Cert.Bwd.defs (F := Bits) = Cert.BwdIdeal.defs (F := Bits) := congrArg (Pipeline.defs Cert.BwdIdeal.pcfgs) bodies_eq

theorem main_eq : Cert.Bwd.main (F := Bits) = Cert.BwdIdeal.main (F := Bits) := rfl

theorem frame : Cert.quiescent_Bwd := by
  intro m ρ _
  rw [defs_eq, main_eq]
  exact Cert.BwdIdeal.Own.frame (F := Bits) m ρ

end Cert.Gla.Bwd
-- ==== Proof.Chunk.lean ====
/-
  One head of gated linear attention over the real numbers, with its gradients, and what the pass over chunks computes of them.

  The sequence's positions are natural numbers below `T`. `q`, `k` and the log-decays `a` have a key column each, the values `v` and the
  cotangent `w` of the output a value column. The whole-sequence formulas (`dqt`, `dkt`, `dv`, `da`) are the gradients of
  `o t = Σ_{s ≤ t} ⟨qt t, kt s⟩ v s`; the chunk formulas (`Local`) are what one chunk computes from its own rows, the state before it and the
  gradient of the state after it. `Chunk` proves them equal.
-/
module

public import Idealize.ShloMosaic.PureOps.Ideal
public import Mathlib.Algebra.BigOperators.Intervals
public import Mathlib.Tactic.Ring

@[expose] public section

noncomputable section

namespace Cert.Gla

open Finset

/-! ## The whole sequence -/

section Whole

variable {K V : Type} [Fintype K] [Fintype V]

/-- The running log-decay: the sum of `a` up to and including position `t`. -/
def cum (a : ℕ → K → ℝ) (t : ℕ) (d : K) : ℝ := ∑ s ∈ range (t + 1), a s d

/-- The log-decay before position `t`. -/
def before (a : ℕ → K → ℝ) (t : ℕ) (d : K) : ℝ := ∑ s ∈ range t, a s d

/-- The scaled query. -/
def qt (q a : ℕ → K → ℝ) (t : ℕ) (d : K) : ℝ := q t d * (1 / 8) * Real.exp (cum a t d)

/-- The scaled key. -/
def kt (k a : ℕ → K → ℝ) (t : ℕ) (d : K) : ℝ := k t d * Real.exp (-cum a t d)

/-- The attention weight of `s` in row `t`. -/
def att (q k a : ℕ → K → ℝ) (t s : ℕ) : ℝ := ∑ d, qt q a t d * kt k a s d

/-- The gradient of that weight. -/
def datt (v w : ℕ → V → ℝ) (t s : ℕ) : ℝ := ∑ e, w t e * v s e

/-- The gradient of the scaled query. -/
def dqt (k a : ℕ → K → ℝ) (v w : ℕ → V → ℝ) (T t : ℕ) (d : K) : ℝ :=
  ∑ s ∈ range T, if s ≤ t then datt v w t s * kt k a s d else 0

/-- The gradient of the scaled key. -/
def dkt (q a : ℕ → K → ℝ) (v w : ℕ → V → ℝ) (T s : ℕ) (d : K) : ℝ :=
  ∑ t ∈ range T, if s ≤ t then datt v w t s * qt q a t d else 0

/-- The gradient of the value. -/
def dv (q k a : ℕ → K → ℝ) (w : ℕ → V → ℝ) (T s : ℕ) (e : V) : ℝ :=
  ∑ t ∈ range T, if s ≤ t then att q k a t s * w t e else 0

/-- The gradient of the running log-decay. -/
def dcum (q k a : ℕ → K → ℝ) (v w : ℕ → V → ℝ) (T t : ℕ) (d : K) : ℝ :=
  dqt k a v w T t d * qt q a t d - dkt q a v w T t d * kt k a t d

/-- The gradient of the log-decay: that of the running sums it enters. -/
def da (q k a : ℕ → K → ℝ) (v w : ℕ → V → ℝ) (T s : ℕ) (d : K) : ℝ :=
  ∑ t ∈ Ico s T, dcum q k a v w T t d

/-- The keys and values before position `m`, undecayed. -/
def past (k a : ℕ → K → ℝ) (v : ℕ → V → ℝ) (m : ℕ) (e : V) (d : K) : ℝ := ∑ s ∈ range m, kt k a s d * v s e

/-- The queries and cotangents from position `m` on, undecayed. -/
def future (q a : ℕ → K → ℝ) (w : ℕ → V → ℝ) (T m : ℕ) (e : V) (d : K) : ℝ := ∑ t ∈ Ico m T, qt q a t d * w t e

/-- The state before position `m`: every earlier key and value, decayed up to there. -/
def state (k a : ℕ → K → ℝ) (v : ℕ → V → ℝ) (m : ℕ) (e : V) (d : K) : ℝ :=
  ∑ s ∈ range m, k s d * Real.exp (before a m d - cum a s d) * v s e

/-- The gradient of the state before position `m`: every later query and cotangent, decayed from there. -/
def dstate (q a : ℕ → K → ℝ) (w : ℕ → V → ℝ) (T m : ℕ) (e : V) (d : K) : ℝ :=
  Real.exp (-before a m d) * future q a w T m e d

theorem state_eq (k a : ℕ → K → ℝ) (v : ℕ → V → ℝ) (m : ℕ) (e : V) (d : K) :
    state k a v m e d = Real.exp (before a m d) * past k a v m e d := by
  rw [state, past, mul_sum]
  refine sum_congr rfl fun s _ => ?_
  rw [kt, sub_eq_add_neg, Real.exp_add]; ring

/-- Later rows' gradients of the running log-decay: only the pairs across position `m` remain. -/
theorem sum_dcum (q k a : ℕ → K → ℝ) (v w : ℕ → V → ℝ) {T m : ℕ} (hm : m ≤ T) (d : K) :
    ∑ t ∈ Ico m T, dcum q k a v w T t d = ∑ e, future q a w T m e d * past k a v m e d := by
  have h1 : ∑ t ∈ Ico m T, dqt k a v w T t d * qt q a t d
      = ∑ t ∈ Ico m T, ∑ s ∈ Ico m T, (if s ≤ t then datt v w t s * kt k a s d * qt q a t d else 0)
        + ∑ t ∈ Ico m T, ∑ s ∈ range m, datt v w t s * kt k a s d * qt q a t d := by
    rw [← sum_add_distrib]
    refine sum_congr rfl fun t ht => ?_
    have ht' := (mem_Ico.1 ht).1
    rw [dqt, sum_mul, ← sum_range_add_sum_Ico _ hm, add_comm]
    congr 1
    · refine sum_congr rfl fun s _ => ?_
      split <;> simp
    · refine sum_congr rfl fun s hs => ?_
      rw [if_pos (le_trans (le_of_lt (mem_range.1 hs)) ht')]
  have h2 : ∑ s ∈ Ico m T, dkt q a v w T s d * kt k a s d
      = ∑ t ∈ Ico m T, ∑ s ∈ Ico m T, (if s ≤ t then datt v w t s * kt k a s d * qt q a t d else 0) := by
    rw [sum_comm]
    refine sum_congr rfl fun s hs => ?_
    have hs' := (mem_Ico.1 hs).1
    rw [dkt, sum_mul, ← sum_range_add_sum_Ico _ hm]
    rw [sum_eq_zero, zero_add]
    · refine sum_congr rfl fun t _ => ?_
      split <;> ring
    · intro t ht
      have := mem_range.1 ht
      rw [if_neg (by omega), zero_mul]
  have h3 : ∑ t ∈ Ico m T, dcum q k a v w T t d
      = ∑ t ∈ Ico m T, ∑ s ∈ range m, datt v w t s * kt k a s d * qt q a t d := by
    simp only [dcum]
    rw [sum_sub_distrib, h1, h2]; ring
  rw [h3]
  have h4 : ∀ e, future q a w T m e d * past k a v m e d = ∑ t ∈ Ico m T, ∑ s ∈ range m, w t e * v s e * kt k a s d * qt q a t d := by
    intro e
    rw [future, past, sum_mul_sum]
    exact sum_congr rfl fun t _ => sum_congr rfl fun s _ => by ring
  simp only [h4]
  calc _ = ∑ t ∈ Ico m T, ∑ s ∈ range m, ∑ e, w t e * v s e * kt k a s d * qt q a t d := by simp only [datt, sum_mul]
    _ = ∑ t ∈ Ico m T, ∑ e, ∑ s ∈ range m, w t e * v s e * kt k a s d * qt q a t d := sum_congr rfl fun t _ => sum_comm
    _ = _ := sum_comm

end Whole

/-! ## One chunk -/

section Chunk

variable {R K V : Type} [Fintype R] [Fintype K] [Fintype V]

/-- A chunk's local running log-decay: `le s r` says row `s` is read no later than row `r`. -/
def lg (le : R → R → Prop) [∀ s r, Decidable (le s r)] (a : R → K → ℝ) (r : R) (d : K) : ℝ := ∑ s, if le s r then a s d else 0

/-- A chunk's whole log-decay. -/
def lgl (a : R → K → ℝ) (d : K) : ℝ := ∑ s, a s d

variable (le : R → R → Prop) [∀ s r, Decidable (le s r)] (q k a : R → K → ℝ) (v w : R → V → ℝ) (S D : V → K → ℝ)

/-- The query scaled from the chunk's start. -/
def lqt (r : R) (d : K) : ℝ := q r d * (1 / 8 * Real.exp (lg le a r d))

/-- The key scaled from the chunk's start. -/
def lkt (r : R) (d : K) : ℝ := k r d * Real.exp (0 - lg le a r d)

/-- The key scaled to the chunk's end. -/
def lke (r : R) (d : K) : ℝ := k r d * Real.exp (lgl a d - lg le a r d)

/-- The chunk's own attention weights. -/
def latt (r s : R) : ℝ := if le s r then ∑ d, lqt le q a r d * lkt le k a s d else 0

/-- Their gradients. -/
def ldatt (r s : R) : ℝ := if le s r then ∑ e, w r e * v s e else 0

/-- The gradient of the scaled query: the chunk's own keys and the state before it. -/
def ldqt (r : R) (d : K) : ℝ := (∑ s, ldatt le v w r s * lkt le k a s d) + ∑ e, w r e * S e d

/-- The gradient of the scaled key within the chunk. -/
def ldkt (s : R) (d : K) : ℝ := ∑ r, ldatt le v w r s * lqt le q a r d

/-- The gradient of the value. -/
def ldv (s : R) (e : V) : ℝ := (∑ r, latt le q k a r s * w r e) + ∑ d, lke le k a s d * D e d

/-- The gradient of the key scaled to the chunk's end. -/
def ldke (s : R) (d : K) : ℝ := ∑ e, v s e * D e d

/-- The state after the chunk. -/
def lstate (e : V) (d : K) : ℝ := S e d * Real.exp (lgl a d) + ∑ r, v r e * lke le k a r d

/-- The gradient of the state before the chunk. -/
def ldstate (e : V) (d : K) : ℝ := D e d * Real.exp (lgl a d) + ∑ r, w r e * lqt le q a r d

/-- The gradient of the chunk's whole log-decay. -/
def ldgl (d : K) : ℝ := (∑ s, ldke v D s d * lke le k a s d) + (∑ e, D e d * S e d) * Real.exp (lgl a d)

/-- The gradient of the local running log-decay. -/
def ldg (r : R) (d : K) : ℝ :=
  ldqt le k a v w S r d * lqt le q a r d - ldkt le q a v w r d * lkt le k a r d - ldke v D r d * lke le k a r d

/-- The gradient of the log-decay. -/
def lda (s : R) (d : K) : ℝ := (∑ r, if le s r then ldg le q k a v w S D r d else 0) + ldgl le k a v S D d

/-- The gradient of the query. -/
def ldq (r : R) (d : K) : ℝ := ldqt le k a v w S r d * (1 / 8 * Real.exp (lg le a r d))

/-- The gradient of the key. -/
def ldk (r : R) (d : K) : ℝ := ldkt le q a v w r d * Real.exp (0 - lg le a r d) + ldke v D r d * Real.exp (lgl a d - lg le a r d)

end Chunk

/-! ## The chunk formulas compute the sequence's -/

section Agree

variable {R K V : Type} [Fintype R] [Fintype K] [Fintype V]
variable (le : R → R → Prop) [∀ s r, Decidable (le s r)] (q k a : ℕ → K → ℝ) (v w : ℕ → V → ℝ)

/-- A chunk's rows: row `r` holds position `pos r`, the rows fill the positions from `lo` up to `hi`, and `le` is the order of positions. -/
structure Rows (le : R → R → Prop) (pos : R → ℕ) (lo hi : ℕ) : Prop where
  sum : ∀ f : ℕ → ℝ, ∑ r, f (pos r) = ∑ t ∈ Ico lo hi, f t
  le_iff : ∀ s r, le s r ↔ pos s ≤ pos r
  lo_le : ∀ r, lo ≤ pos r
  lt_hi : ∀ r, pos r < hi
  lo_hi : lo ≤ hi

variable {le} {pos : R → ℕ} {lo hi T : ℕ} (h : Rows le pos lo hi)
include h

theorem Rows.lg_eq (r : R) (d : K) : lg le (fun r => a (pos r)) r d = cum a (pos r) d - before a lo d := by
  have e : lg le (fun r => a (pos r)) r d = ∑ s ∈ Ico lo hi, if s ≤ pos r then a s d else 0 := by
    rw [← h.sum]; simp only [lg, h.le_iff]
  rw [e, cum, before, eq_sub_iff_add_eq, add_comm, ← sum_filter]
  have h1 := h.lo_le r; have h2 := h.lt_hi r
  have : filter (· ≤ pos r) (Ico lo hi) = Ico lo (pos r + 1) := by ext x; simp; omega
  rw [this, sum_range_add_sum_Ico _ (by omega)]

theorem Rows.lgl_eq (d : K) : lgl (fun r => a (pos r)) d = before a hi d - before a lo d := by
  rw [lgl, h.sum (fun t => a t d), before, before, eq_sub_iff_add_eq, add_comm, sum_range_add_sum_Ico _ h.lo_hi]

theorem Rows.lqt_eq (r : R) (d : K) :
    lqt le (fun r => q (pos r)) (fun r => a (pos r)) r d = qt q a (pos r) d * Real.exp (-before a lo d) := by
  rw [lqt, h.lg_eq, qt, sub_eq_add_neg, Real.exp_add]; ring

theorem Rows.lkt_eq (r : R) (d : K) :
    lkt le (fun r => k (pos r)) (fun r => a (pos r)) r d = kt k a (pos r) d * Real.exp (before a lo d) := by
  rw [lkt, h.lg_eq, kt, show 0 - (cum a (pos r) d - before a lo d) = -cum a (pos r) d + before a lo d by ring, Real.exp_add]; ring

theorem Rows.lke_eq (r : R) (d : K) :
    lke le (fun r => k (pos r)) (fun r => a (pos r)) r d = kt k a (pos r) d * Real.exp (before a hi d) := by
  rw [lke, h.lg_eq, h.lgl_eq, kt,
    show before a hi d - before a lo d - (cum a (pos r) d - before a lo d) = -cum a (pos r) d + before a hi d by ring, Real.exp_add]; ring

/-- A chunk adds its keys and values to the state. -/
theorem Rows.lstate_eq (e : V) (d : K) :
    lstate le (fun r => k (pos r)) (fun r => a (pos r)) (fun r => v (pos r)) (state k a v lo) e d = state k a v hi e d := by
  rw [lstate, h.lgl_eq, state_eq, state_eq]
  simp only [h.lke_eq]
  rw [h.sum (fun t => v t e * (kt k a t d * Real.exp (before a hi d))), past, past, ← sum_range_add_sum_Ico _ h.lo_hi, mul_add, mul_sum (Ico lo hi),
    sub_eq_add_neg, Real.exp_add, Real.exp_neg]
  have := Real.exp_ne_zero (before a lo d)
  congr 1
  · field_simp
  · exact sum_congr rfl fun t _ => by ring

/-- A chunk adds its queries and cotangents to the gradient of the state. -/
theorem Rows.ldstate_eq (hT : hi ≤ T) (e : V) (d : K) :
    ldstate le (fun r => q (pos r)) (fun r => a (pos r)) (fun r => w (pos r)) (dstate q a w T hi) e d = dstate q a w T lo e d := by
  rw [ldstate, h.lgl_eq, dstate, dstate]
  simp only [h.lqt_eq]
  rw [h.sum (fun t => w t e * (qt q a t d * Real.exp (-before a lo d))), future, future, ← sum_Ico_consecutive _ h.lo_hi hT, mul_add, mul_sum (Ico lo hi),
    sub_eq_add_neg, Real.exp_add, add_comm]
  have := Real.exp_ne_zero (before a hi d)
  congr 1
  · exact sum_congr rfl fun t _ => by ring
  · rw [Real.exp_neg (before a hi d)]; field_simp

theorem Rows.ldqt_eq (hT : hi ≤ T) (r : R) (d : K) :
    ldqt le (fun r => k (pos r)) (fun r => a (pos r)) (fun r => v (pos r)) (fun r => w (pos r)) (state k a v lo) r d
      = dqt k a v w T (pos r) d * Real.exp (before a lo d) := by
  have h1 := h.lo_le r; have h2 := h.lt_hi r; have h3 := h.lo_hi
  rw [ldqt]
  simp only [ldatt, h.lkt_eq, h.le_iff]
  rw [h.sum (fun s => (if s ≤ pos r then ∑ e, w (pos r) e * v s e else 0) * (kt k a s d * Real.exp (before a lo d))), dqt,
    ← sum_range_add_sum_Ico _ (le_trans h.lo_hi hT), ← sum_Ico_consecutive _ h.lo_hi hT,
    sum_eq_zero (s := Ico hi T) (fun s hs => if_neg (by have := (mem_Ico.1 hs).1; omega)), add_zero, add_mul, add_comm, sum_mul, sum_mul]
  congr 1
  · simp only [state_eq, past, mul_sum]
    rw [sum_comm]
    refine sum_congr rfl fun s hs => ?_
    rw [if_pos (by have := mem_range.1 hs; omega), datt, sum_mul, sum_mul]
    exact sum_congr rfl fun e _ => by ring
  · refine sum_congr rfl fun s _ => ?_
    split
    · rw [datt]; ring
    · ring

/-- The gradient of a key scaled to the chunk's end, in the sequence's terms. -/
theorem Rows.ldke_eq (s : R) (d : K) :
    ldke (fun r => v (pos r)) (dstate q a w T hi) s d
      = (∑ t ∈ Ico hi T, datt v w t (pos s) * qt q a t d) * Real.exp (-before a hi d) := by
  rw [ldke]
  simp only [dstate, future, mul_sum, datt, sum_mul]
  rw [sum_comm]
  exact sum_congr rfl fun t _ => sum_congr rfl fun e _ => by ring

theorem Rows.ldkt_eq (hT : hi ≤ T) (s : R) (d : K) :
    ldkt le (fun r => q (pos r)) (fun r => a (pos r)) (fun r => v (pos r)) (fun r => w (pos r)) s d
      = (dkt q a v w T (pos s) d - ∑ t ∈ Ico hi T, datt v w t (pos s) * qt q a t d) * Real.exp (-before a lo d) := by
  have h1 := h.lo_le s; have h2 := h.lt_hi s; have h3 := h.lo_hi
  rw [ldkt]
  simp only [ldatt, h.lqt_eq, h.le_iff]
  rw [h.sum (fun t => (if pos s ≤ t then ∑ e, w t e * v (pos s) e else 0) * (qt q a t d * Real.exp (-before a lo d))), dkt,
    ← sum_range_add_sum_Ico _ (le_trans h.lo_hi hT), ← sum_Ico_consecutive _ h.lo_hi hT,
    sum_eq_zero (s := range lo) (fun t ht => if_neg (by have := mem_range.1 ht; omega)), zero_add]
  have e : ∑ t ∈ Ico hi T, (if pos s ≤ t then datt v w t (pos s) * qt q a t d else 0) = ∑ t ∈ Ico hi T, datt v w t (pos s) * qt q a t d :=
    sum_congr rfl fun t ht => if_pos (by have := (mem_Ico.1 ht).1; omega)
  rw [e, add_sub_cancel_right, sum_mul]
  refine sum_congr rfl fun t _ => ?_
  split
  · rw [datt]; ring
  · ring

/-- The gradients of the key scaled either way make up that of the scaled key. -/
theorem Rows.ldkt_add (hT : hi ≤ T) (s : R) (d : K) :
    ldkt le (fun r => q (pos r)) (fun r => a (pos r)) (fun r => v (pos r)) (fun r => w (pos r)) s d * Real.exp (before a lo d)
      + ldke (fun r => v (pos r)) (dstate q a w T hi) s d * Real.exp (before a hi d) = dkt q a v w T (pos s) d := by
  rw [h.ldkt_eq q a v w hT, h.ldke_eq q a v w, Real.exp_neg, Real.exp_neg]
  have := Real.exp_ne_zero (before a lo d); have := Real.exp_ne_zero (before a hi d)
  field_simp; ring

/-- The gradient of the query. -/
theorem Rows.ldq_eq (hT : hi ≤ T) (r : R) (d : K) :
    ldq le (fun r => k (pos r)) (fun r => a (pos r)) (fun r => v (pos r)) (fun r => w (pos r)) (state k a v lo) r d
      = dqt k a v w T (pos r) d * (1 / 8) * Real.exp (cum a (pos r) d) := by
  rw [ldq, h.ldqt_eq k a v w hT, h.lg_eq, sub_eq_add_neg, Real.exp_add, Real.exp_neg]
  have := Real.exp_ne_zero (before a lo d)
  field_simp

/-- The gradient of the key. -/
theorem Rows.ldk_eq (hT : hi ≤ T) (s : R) (d : K) :
    ldk le (fun r => q (pos r)) (fun r => a (pos r)) (fun r => v (pos r)) (fun r => w (pos r)) (dstate q a w T hi) s d
      = dkt q a v w T (pos s) d * Real.exp (-cum a (pos s) d) := by
  rw [ldk, h.lg_eq, h.lgl_eq, ← h.ldkt_add q a v w hT,
    show 0 - (cum a (pos s) d - before a lo d) = -cum a (pos s) d + before a lo d by ring,
    show before a hi d - before a lo d - (cum a (pos s) d - before a lo d) = -cum a (pos s) d + before a hi d by ring, Real.exp_add, Real.exp_add]
  ring

/-- The gradient of the value. -/
theorem Rows.ldv_eq (hT : hi ≤ T) (s : R) (e : V) :
    ldv le (fun r => q (pos r)) (fun r => k (pos r)) (fun r => a (pos r)) (fun r => w (pos r)) (dstate q a w T hi) s e
      = dv q k a w T (pos s) e := by
  have h1 := h.lo_le s; have h2 := h.lt_hi s; have h3 := h.lo_hi
  have hc : ∀ x y : ℝ, ∀ d, x * Real.exp (-before a lo d) * (y * Real.exp (before a lo d)) = x * y := by
    intro x y d
    rw [Real.exp_neg]; have := Real.exp_ne_zero (before a lo d); field_simp
  rw [ldv]
  simp only [latt, h.lqt_eq, h.lkt_eq, h.lke_eq, h.le_iff, hc]
  rw [h.sum (fun t => (if pos s ≤ t then ∑ d, qt q a t d * kt k a (pos s) d else 0) * w t e), dv,
    ← sum_range_add_sum_Ico _ (le_trans h.lo_hi hT), ← sum_Ico_consecutive _ h.lo_hi hT,
    sum_eq_zero (s := range lo) (fun t ht => if_neg (by have := mem_range.1 ht; omega)), zero_add]
  congr 1
  · refine sum_congr rfl fun t _ => ?_
    split
    · rw [att]
    · ring
  · simp only [dstate, future, mul_sum]
    rw [sum_comm]
    refine sum_congr rfl fun t ht => ?_
    rw [if_pos (by have := (mem_Ico.1 ht).1; omega), att, sum_mul]
    refine sum_congr rfl fun d _ => ?_
    rw [Real.exp_neg]; have := Real.exp_ne_zero (before a hi d); field_simp

theorem Rows.ldg_eq (hT : hi ≤ T) (r : R) (d : K) :
    ldg le (fun r => q (pos r)) (fun r => k (pos r)) (fun r => a (pos r)) (fun r => v (pos r)) (fun r => w (pos r)) (state k a v lo)
      (dstate q a w T hi) r d = dcum q k a v w T (pos r) d := by
  rw [ldg, h.ldqt_eq k a v w hT, h.lqt_eq, h.lkt_eq, h.lke_eq, dcum, ← h.ldkt_add q a v w hT, Real.exp_neg]
  have := Real.exp_ne_zero (before a lo d)
  field_simp; ring

/-- What a chunk adds for the rows after it: their gradients of the running log-decay. -/
theorem Rows.ldgl_eq (hT : hi ≤ T) (d : K) :
    ldgl le (fun r => k (pos r)) (fun r => a (pos r)) (fun r => v (pos r)) (state k a v lo) (dstate q a w T hi) d
      = ∑ t ∈ Ico hi T, dcum q k a v w T t d := by
  rw [sum_dcum q k a v w hT, ldgl, h.lgl_eq]
  simp only [h.lke_eq, ldke, sum_mul]
  rw [sum_comm, ← sum_add_distrib]
  refine sum_congr rfl fun e _ => ?_
  rw [h.sum (fun t => v t e * dstate q a w T hi e d * (kt k a t d * Real.exp (before a hi d))), past, ← sum_range_add_sum_Ico _ h.lo_hi, state_eq, past,
    dstate, sub_eq_add_neg, Real.exp_add, Real.exp_neg, Real.exp_neg, mul_add, mul_sum (Ico lo hi), add_comm]
  have := Real.exp_ne_zero (before a lo d); have := Real.exp_ne_zero (before a hi d)
  congr 1
  · field_simp
  · refine sum_congr rfl fun t _ => ?_
    field_simp

/-- The gradient of the log-decay. -/
theorem Rows.lda_eq (hT : hi ≤ T) (s : R) (d : K) :
    lda le (fun r => q (pos r)) (fun r => k (pos r)) (fun r => a (pos r)) (fun r => v (pos r)) (fun r => w (pos r)) (state k a v lo)
      (dstate q a w T hi) s d = da q k a v w T (pos s) d := by
  have h1 := h.lo_le s; have h2 := h.lt_hi s; have h3 := h.lo_hi
  rw [lda, h.ldgl_eq q k a v w hT, da]
  simp only [h.ldg_eq q k a v w hT, h.le_iff]
  rw [h.sum (fun t => if pos s ≤ t then dcum q k a v w T t d else 0), ← sum_filter]
  have : filter (pos s ≤ ·) (Ico lo hi) = Ico (pos s) hi := by ext x; simp; omega
  rw [this, sum_Ico_consecutive _ (by omega) hT]

end Agree

end Cert.Gla
-- ==== Proof.Heads.lean ====
/-
  The columns of the arrays, split by head: a row of 256 holds four heads of 64 key columns, a row of 512 four heads of 128 value columns.
  Sums over such rows, the masks that compare two columns' heads, and finite extended reals.
-/
module

public import Idealize.ShloMosaic.Lib.Pointwise
public import Idealize.ShloMosaic.Lib.ValueIdx
public import Idealize.ShloMosaic.Lib.IdealHost
public import Mathlib.Tactic.Ring

@[expose] public section

set_option maxRecDepth 16384

noncomputable section

namespace Cert.Gla

open Idealize.ShloMosaic Finset

/-- Column `d` of head `h` among the key columns. -/
def colK (h : Fin 4) (d : Fin 64) : Fin 256 := ⟨64 * h.val + d.val, by omega⟩

/-- Column `e` of head `h` among the value columns. -/
def colV (h : Fin 4) (e : Fin 128) : Fin 512 := ⟨128 * h.val + e.val, by omega⟩

theorem colK_val (h : Fin 4) (d : Fin 64) : (colK h d).val = 64 * h.val + d.val := rfl

theorem colV_val (h : Fin 4) (e : Fin 128) : (colV h e).val = 128 * h.val + e.val := rfl

/-- Every key column is one of a head's. -/
theorem exists_colK (c : Fin 256) : ∃ h d, c = colK h d :=
  ⟨⟨c.val / 64, by omega⟩, ⟨c.val % 64, by omega⟩, by ext; simp only [colK_val]; omega⟩

/-- Every value column is one of a head's. -/
theorem exists_colV (c : Fin 512) : ∃ h e, c = colV h e :=
  ⟨⟨c.val / 128, by omega⟩, ⟨c.val % 128, by omega⟩, by ext; simp only [colV_val]; omega⟩

theorem sum_colK {M : Type} [AddCommMonoid M] (f : Fin 256 → M) : ∑ c, f c = ∑ h, ∑ d, f (colK h d) := by
  rw [← Fintype.sum_prod_type' (fun h d => f (colK h d))]
  refine (Fintype.sum_bijective (fun p : Fin 4 × Fin 64 => colK p.1 p.2) ⟨?_, ?_⟩ _ _ fun _ => rfl).symm
  · rintro ⟨h, d⟩ ⟨h', d'⟩ e
    have := congrArg Fin.val e
    simp only [colK_val] at this
    ext <;> simp only <;> omega
  · intro c
    obtain ⟨h, d, rfl⟩ := exists_colK c
    exact ⟨(h, d), rfl⟩

theorem sum_colV {M : Type} [AddCommMonoid M] (f : Fin 512 → M) : ∑ c, f c = ∑ h, ∑ e, f (colV h e) := by
  rw [← Fintype.sum_prod_type' (fun h e => f (colV h e))]
  refine (Fintype.sum_bijective (fun p : Fin 4 × Fin 128 => colV p.1 p.2) ⟨?_, ?_⟩ _ _ fun _ => rfl).symm
  · rintro ⟨h, d⟩ ⟨h', d'⟩ e
    have := congrArg Fin.val e
    simp only [colV_val] at this
    ext <;> simp only <;> omega
  · intro c
    obtain ⟨h, d, rfl⟩ := exists_colV c
    exact ⟨(h, d), rfl⟩

/-- A finite sum of finite extended reals is the sum of the reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

theorem coe_ite (p : Prop) [Decidable p] (a : ℝ) : (if p then (a : EReal) else 0) = ((if p then a else 0 : ℝ) : EReal) := by
  split <;> simp

/-- The sum of products over the key columns, one side of which is zero outside head `h`. -/
theorem block_sumK (f g : Fin 256 → EReal) (h : Fin 4) (F G : Fin 64 → ℝ) (hf : ∀ d, f (colK h d) = (F d : EReal))
    (hg : ∀ d, g (colK h d) = (G d : EReal)) (h0 : ∀ h' d, h' ≠ h → f (colK h' d) * g (colK h' d) = 0) :
    ∑ c, f c * g c = ((∑ d, F d * G d : ℝ) : EReal) := by
  rw [sum_colK, sum_eq_single h, ← coe_sum]
  · exact sum_congr rfl fun d _ => by rw [hf, hg, EReal.coe_mul]
  · intro h' _ hh
    exact sum_eq_zero fun d _ => h0 h' d hh
  · intro hh; exact absurd (mem_univ h) hh

/-- The sum of products over the value columns, one side of which is zero outside head `h`. -/
theorem block_sumV (f g : Fin 512 → EReal) (h : Fin 4) (F G : Fin 128 → ℝ) (hf : ∀ d, f (colV h d) = (F d : EReal))
    (hg : ∀ d, g (colV h d) = (G d : EReal)) (h0 : ∀ h' d, h' ≠ h → f (colV h' d) * g (colV h' d) = 0) :
    ∑ c, f c * g c = ((∑ d, F d * G d : ℝ) : EReal) := by
  rw [sum_colV, sum_eq_single h, ← coe_sum]
  · exact sum_congr rfl fun d _ => by rw [hf, hg, EReal.coe_mul]
  · intro h' _ hh
    exact sum_eq_zero fun d _ => h0 h' d hh
  · intro hh; exact absurd (mem_univ h) hh

/-- A sum of products of finite extended reals. -/
theorem coe_dot {ι : Type} [Fintype ι] (f g : ι → EReal) (F G : ι → ℝ) (hf : ∀ i, f i = (F i : EReal)) (hg : ∀ i, g i = (G i : EReal)) :
    ∑ i, f i * g i = ((∑ i, F i * G i : ℝ) : EReal) := by
  rw [← coe_sum]
  exact sum_congr rfl fun i _ => by rw [hf, hg, EReal.coe_mul]

/-! ## The masks -/

theorem shr6 : ∀ n : Fin 512, IntOp.shrsi .vector (BitVec.ofNat 32 n.val) 6#32 = BitVec.ofNat 32 (n.val / 64) := by decide +kernel

theorem shr7 : ∀ n : Fin 512, IntOp.shrsi .vector (BitVec.ofNat 32 n.val) 7#32 = BitVec.ofNat 32 (n.val / 128) := by decide +kernel

theorem eq4 : ∀ h h' : Fin 4, IntOp.cmpi .eq (BitVec.ofNat 32 h.val) (BitVec.ofNat 32 h'.val) = if h = h' then 1#1 else 0#1 := by
  decide +kernel

theorem shrK (h : Fin 4) (d : Fin 64) : IntOp.shrsi .vector (BitVec.ofNat 32 (colK h d).val) 6#32 = BitVec.ofNat 32 h.val := by
  rw [shr6 ⟨(colK h d).val, by omega⟩]
  congr 1; simp only [colK_val]; omega

theorem shrV (h : Fin 4) (e : Fin 128) : IntOp.shrsi .vector (BitVec.ofNat 32 (colV h e).val) 7#32 = BitVec.ofNat 32 h.val := by
  rw [shr7 (colV h e)]
  congr 1; simp only [colV_val]; omega

theorem select_ite {α : Type} (p : Prop) [Decidable p] (a b : α) :
    Scalar.select (if p then 1#1 else 0#1) a b = if p then a else b := by
  unfold Scalar.select
  split <;> simp

theorem sle64 : ∀ i j : Fin 64, IntOp.cmpi .sle (BitVec.ofNat 32 j.val) (BitVec.ofNat 32 i.val) = if j ≤ i then 1#1 else 0#1 := by
  decide +kernel

theorem sge64 : ∀ i j : Fin 64, IntOp.cmpi .sge (BitVec.ofNat 32 j.val) (BitVec.ofNat 32 i.val) = if i ≤ j then 1#1 else 0#1 := by
  decide +kernel

theorem and63 : ∀ h : Fin 4, ∀ d : Fin 64, IntOp.andi (BitVec.ofNat 32 (64 * h.val + d.val)) 63#32 = BitVec.ofNat 32 d.val := by
  decide +kernel

/-- Four arrays stacked along the key columns. -/
theorem stackK {α : Type} (F : Fin 4 → Fin 64 → α) (h : Fin 4) (d : Fin 64)
    (s : (colK h d).val - 64 - 64 - 64 < 64) :
    (if h1 : (colK h d).val < 64 then F 0 ⟨(colK h d).val, h1⟩ else if h2 : (colK h d).val - 64 < 64 then F 1 ⟨(colK h d).val - 64, h2⟩
      else if h3 : (colK h d).val - 64 - 64 < 64 then F 2 ⟨(colK h d).val - 64 - 64, h3⟩ else F 3 ⟨(colK h d).val - 64 - 64 - 64, s⟩)
      = F h d := by
  have hv := colK_val h d
  obtain ⟨h, hh⟩ := h
  simp only at hv
  split_ifs with h1 h2 h3
  · obtain rfl : h = 0 := by omega
    exact congrArg (F 0) (Fin.ext (by simp only; omega))
  · obtain rfl : h = 1 := by omega
    exact congrArg (F 1) (Fin.ext (by simp only; omega))
  · obtain rfl : h = 2 := by omega
    exact congrArg (F 2) (Fin.ext (by simp only; omega))
  · obtain rfl : h = 3 := by omega
    exact congrArg (F 3) (Fin.ext (by simp only; omega))

/-- Four arrays stacked along the value columns. -/
theorem stackV {α : Type} (F : Fin 4 → Fin 128 → α) (h : Fin 4) (d : Fin 128)
    (s : (colV h d).val - 128 - 128 - 128 < 128) :
    (if h1 : (colV h d).val < 128 then F 0 ⟨(colV h d).val, h1⟩ else if h2 : (colV h d).val - 128 < 128 then F 1 ⟨(colV h d).val - 128, h2⟩
      else if h3 : (colV h d).val - 128 - 128 < 128 then F 2 ⟨(colV h d).val - 128 - 128, h3⟩ else F 3 ⟨(colV h d).val - 128 - 128 - 128, s⟩)
      = F h d := by
  have hv := colV_val h d
  obtain ⟨h, hh⟩ := h
  simp only at hv
  split_ifs with h1 h2 h3
  · obtain rfl : h = 0 := by omega
    exact congrArg (F 0) (Fin.ext (by simp only; omega))
  · obtain rfl : h = 1 := by omega
    exact congrArg (F 1) (Fin.ext (by simp only; omega))
  · obtain rfl : h = 2 := by omega
    exact congrArg (F 2) (Fin.ext (by simp only; omega))
  · obtain rfl : h = 3 := by omega
    exact congrArg (F 3) (Fin.ext (by simp only; omega))

theorem ofBits_eighth : Ideal.ofBits .f32 0x3E000000#32 = (((1 : ℝ) / 8 : ℝ) : EReal) := by
  simp [Ideal.ofBits, Ideal.ieee, -EReal.coe_mul]; norm_num

end Cert.Gla
-- ==== Proof.Seqs.lean ====
/-
  The sequences of the two scans, read off the arrays: direction `b` (`false` forward, `true` reverse), head `h`, position `t`. The forward
  direction sees the context (rows 4096 to 4351) before the latents (rows 0 to 4095); the reverse direction sees the rows from the last back to the first.
-/
module

public import proofs.«01_k».proof.Proof.Chunk
public import proofs.«01_k».proof.Proof.Heads

@[expose] public section

noncomputable section

namespace Cert.Gla

open Finset

/-- The row at a position. -/
def row : Bool → ℕ → ℕ
  | false, t => if t < 256 then 4096 + t else t - 256
  | true, t => 4351 - t

/-- The position of a row. -/
def pos : Bool → ℕ → ℕ
  | false, i => if 4096 ≤ i then i - 4096 else i + 256
  | true, i => 4351 - i

theorem row_false (t : ℕ) : row false t = if t < 256 then 4096 + t else t - 256 := rfl

theorem row_true (t : ℕ) : row true t = 4351 - t := rfl

theorem pos_false (i : ℕ) : pos false i = if 4096 ≤ i then i - 4096 else i + 256 := rfl

theorem pos_true (i : ℕ) : pos true i = 4351 - i := rfl

/-- The queries, keys and values are columns of the projection `Z`, from columns 512, 768 and 1024 on. -/
def sq (Z : ℕ → ℕ → ℝ) (b : Bool) (h : Fin 4) (t : ℕ) (d : Fin 64) : ℝ := Z (row b t) (512 + (64 * h.val + d.val))
@[inherit_doc sq] def sk (Z : ℕ → ℕ → ℝ) (b : Bool) (h : Fin 4) (t : ℕ) (d : Fin 64) : ℝ := Z (row b t) (768 + (64 * h.val + d.val))
@[inherit_doc sq] def sv (Z : ℕ → ℕ → ℝ) (b : Bool) (h : Fin 4) (t : ℕ) (e : Fin 128) : ℝ := Z (row b t) (1024 + (128 * h.val + e.val))

/-- The log-decays are columns of `A`: the first half for the forward direction, the second for the reverse. -/
def sa (A : ℕ → ℕ → ℝ) (b : Bool) (h : Fin 4) (t : ℕ) (d : Fin 64) : ℝ := A (row b t) (b.toNat * 256 + (64 * h.val + d.val))

/-- The cotangent of the output: zero at the first 256 positions, whose output is dropped, or where the row is outside the latents. -/
def sw (W : ℕ → ℕ → ℝ) (b : Bool) (h : Fin 4) (t : ℕ) (e : Fin 128) : ℝ := if t < 256 then 0 else W (row b t) (128 * h.val + e.val)

section Grads

variable (Z A W : ℕ → ℕ → ℝ) (b : Bool) (h : Fin 4) (t : ℕ)

/-- The gradient of the query. -/
def gq (d : Fin 64) : ℝ := dqt (sk Z b h) (sa A b h) (sv Z b h) (sw W b h) 4352 t d * (1 / 8) * Real.exp (cum (sa A b h) t d)

/-- The gradient of the key. -/
def gk (d : Fin 64) : ℝ := dkt (sq Z b h) (sa A b h) (sv Z b h) (sw W b h) 4352 t d * Real.exp (-cum (sa A b h) t d)

/-- The gradient of the value. -/
def gv (e : Fin 128) : ℝ := dv (sq Z b h) (sk Z b h) (sa A b h) (sw W b h) 4352 t e

/-- The gradient of the log-decay. -/
def ga (d : Fin 64) : ℝ := da (sq Z b h) (sk Z b h) (sa A b h) (sv Z b h) (sw W b h) 4352 t d

/-- The state before position `t`. -/
def gs (e : Fin 128) (d : Fin 64) : ℝ := state (sk Z b h) (sa A b h) (sv Z b h) t e d

end Grads

/-- The array of the queries' gradients beside the keys', in the rows' own order, zero below row 4352. -/
def IsQK (Z A W : ℕ → ℕ → ℝ) (b : Bool) (x : (⟨2, ![4608, 512]⟩ : Idealize.ShloMosaic.Shape).Idx → EReal) : Prop :=
  ∀ (i : Fin 4608) (h : Fin 4) (d : Fin 64),
    x (Idealize.ShloMosaic.ix2 i ⟨64 * h.val + d.val, by omega⟩) = ((if i.val < 4352 then gq Z A W b h (pos b i) d else 0 : ℝ) : EReal)
    ∧ x (Idealize.ShloMosaic.ix2 i ⟨256 + (64 * h.val + d.val), by omega⟩) = ((if i.val < 4352 then gk Z A W b h (pos b i) d else 0 : ℝ) : EReal)

/-- The array of the values' gradients. -/
def IsV (Z A W : ℕ → ℕ → ℝ) (b : Bool) (x : (⟨2, ![4608, 512]⟩ : Idealize.ShloMosaic.Shape).Idx → EReal) : Prop :=
  ∀ (i : Fin 4608) (h : Fin 4) (e : Fin 128), x (Idealize.ShloMosaic.ix2 i (colV h e)) = ((if i.val < 4352 then gv Z A W b h (pos b i) e else 0 : ℝ) : EReal)

/-- The array of the log-decays' gradients. -/
def IsA (Z A W : ℕ → ℕ → ℝ) (b : Bool) (x : (⟨2, ![4608, 256]⟩ : Idealize.ShloMosaic.Shape).Idx → EReal) : Prop :=
  ∀ (i : Fin 4608) (h : Fin 4) (d : Fin 64), x (Idealize.ShloMosaic.ix2 i (colK h d)) = ((if i.val < 4352 then ga Z A W b h (pos b i) d else 0 : ℝ) : EReal)

/-- The array of the states before each chunk of 64 positions. -/
def IsS (Z A : ℕ → ℕ → ℝ) (b : Bool) (x : (⟨4, ![68, 4, 128, 64]⟩ : Idealize.ShloMosaic.Shape).Idx → EReal) : Prop :=
  ∀ (i : Fin 68) (h : Fin 4) (e : Fin 128) (d : Fin 64), x (Idealize.ShloMosaic.ix4 i h e d) = ((gs Z A b h (64 * i) e d : ℝ) : EReal)

open Idealize.ShloMosaic

variable {Z A W : ℕ → ℕ → ℝ} {b : Bool}

theorem IsQK.ext {x y : (⟨2, ![4608, 512]⟩ : Shape).Idx → EReal} (hx : IsQK Z A W b x) (hy : IsQK Z A W b y) : x = y := by
  funext j
  rw [eq_ix2 j]
  by_cases hj : (j 1).val < 256
  · obtain ⟨h, d, e⟩ := exists_colK ⟨(j 1).val, hj⟩
    have e1 : j 1 = (⟨64 * h.val + d.val, by omega⟩ : Fin 512) := Fin.ext (congrArg (fun x : Fin 256 => x.val) e)
    rw [e1]
    exact ((hx (j 0) h d).1).trans ((hy (j 0) h d).1).symm
  · have hj2 : (j 1).val < 512 := (j 1).isLt
    obtain ⟨h, d, e⟩ := exists_colK ⟨(j 1).val - 256, by omega⟩
    have e0 : (j 1).val - 256 = 64 * h.val + d.val := congrArg (fun x : Fin 256 => x.val) e
    have e1 : j 1 = (⟨256 + (64 * h.val + d.val), by omega⟩ : Fin 512) := Fin.ext (by show (j 1).val = 256 + (64 * h.val + d.val); omega)
    rw [e1]
    exact ((hx (j 0) h d).2).trans ((hy (j 0) h d).2).symm

theorem IsV.ext {x y : (⟨2, ![4608, 512]⟩ : Shape).Idx → EReal} (hx : IsV Z A W b x) (hy : IsV Z A W b y) : x = y := by
  funext j
  obtain ⟨h, d, e⟩ := exists_colV (j 1)
  rw [eq_ix2 j, e]
  exact (hx (j 0) h d).trans (hy (j 0) h d).symm

theorem IsA.ext {x y : (⟨2, ![4608, 256]⟩ : Shape).Idx → EReal} (hx : IsA Z A W b x) (hy : IsA Z A W b y) : x = y := by
  funext j
  obtain ⟨h, d, e⟩ := exists_colK (j 1)
  rw [eq_ix2 j, e]
  exact (hx (j 0) h d).trans (hy (j 0) h d).symm

theorem IsS.ext {x y : (⟨4, ![68, 4, 128, 64]⟩ : Shape).Idx → EReal} (hx : IsS Z A b x) (hy : IsS Z A b y) : x = y := by
  funext j
  rw [eq_ix4 j]
  exact (hx _ _ _ _).trans (hy _ _ _ _).symm

/-- Rows of a chunk in the order of the positions. -/
theorem rows_up (lo : ℕ) : Rows (fun s r : Fin 64 => s ≤ r) (fun r => lo + r.val) lo (lo + 64) where
  sum f := by
    rw [Fin.sum_univ_eq_sum_range (fun r => f (lo + r)), sum_Ico_eq_sum_range]
    simp
  le_iff s r := by rw [Fin.le_def]; omega
  lo_le r := by omega
  lt_hi r := by omega
  lo_hi := by omega

/-- Rows of a chunk against the order of the positions. -/
theorem rows_down (lo : ℕ) : Rows (fun s r : Fin 64 => r ≤ s) (fun r => lo + (63 - r.val)) lo (lo + 64) where
  sum f := by
    rw [Fin.sum_univ_eq_sum_range (fun r => f (lo + (63 - r))), sum_Ico_eq_sum_range,
      ← sum_range_reflect (fun r => f (lo + r)), show lo + 64 - lo = 64 by omega]
  le_iff s r := by rw [Fin.le_def]; omega
  lo_le r := by omega
  lt_hi r := by omega
  lo_hi := by omega

end Cert.Gla
-- ==== Proof.BwdRead.lean ====
/-
  What the block computations of the backward kernel leave, entry by entry, as real numbers: the forward direction's, and those of the
  reverse direction that read the same. Each theorem takes the entries of a computation's operands as real numbers and states the entries of
  its result, with the formulas of `Chunk`.
-/
module

public import proofs.«01_k».proof.Proof.Gen.BwdIdeal.Skeleton
public import proofs.«01_k».proof.Proof.Chunk
public import proofs.«01_k».proof.Proof.Heads

@[expose] public section

set_option maxRecDepth 16384

noncomputable section

namespace Cert.Gla.Bwd

open Cert.BwdIdeal Cert.BwdIdeal.Gen Idealize.ShloMosaic Idealize.ShloMosaic.TcCoe Finset

/-- The order of a chunk's rows in the forward scan. -/
abbrev fle (s r : Fin 64) : Prop := s ≤ r

/-- The order of a chunk's rows in the reverse scan. -/
abbrev rle (s r : Fin 64) : Prop := r ≤ s

/-- The array `x` has four heads of 64 columns, its entries `f`. -/
def HasK {n : ℕ} (x : (⟨2, ![n, 256]⟩ : Shape).Idx → EReal) (f : Fin 4 → Fin n → Fin 64 → ℝ) : Prop :=
  ∀ r h d, x (ix2 r (colK h d)) = ((f h r d : ℝ) : EReal)

/-- The array `x` has four heads of 128 columns, its entries `f`. -/
def HasV {n : ℕ} (x : (⟨2, ![n, 512]⟩ : Shape).Idx → EReal) (f : Fin 4 → Fin n → Fin 128 → ℝ) : Prop :=
  ∀ r h e, x (ix2 r (colV h e)) = ((f h r e : ℝ) : EReal)

/-- The matrix `x` holds the four heads' `g` as its diagonal blocks, keys by keys. -/
def DiagKK (x : (⟨2, ![256, 256]⟩ : Shape).Idx → EReal) (g : Fin 4 → Fin 64 → Fin 64 → ℝ) : Prop :=
  ∀ h' s h d, x (ix2 (colK h' s) (colK h d)) = if h' = h then ((g h s d : ℝ) : EReal) else 0

/-- The matrix `x` holds the four heads' `g` as its diagonal blocks, keys by values. -/
def DiagKV (x : (⟨2, ![256, 512]⟩ : Shape).Idx → EReal) (g : Fin 4 → Fin 64 → Fin 128 → ℝ) : Prop :=
  ∀ h' s h e, x (ix2 (colK h' s) (colV h e)) = if h' = h then ((g h s e : ℝ) : EReal) else 0

/-- The matrix `x` holds the four heads' `g` as its diagonal blocks, values by keys. -/
def DiagVK (x : (⟨2, ![512, 256]⟩ : Shape).Idx → EReal) (g : Fin 4 → Fin 128 → Fin 64 → ℝ) : Prop :=
  ∀ h' e h d, x (ix2 (colV h' e) (colK h d)) = if h' = h then ((g h e d : ℝ) : EReal) else 0

/-- The mask `x` selects, of the four heads' pairs of rows, those in the order `le`. -/
def MaskK (le : Fin 64 → Fin 64 → Prop) [∀ s r, Decidable (le s r)] (x : (⟨2, ![64, 256]⟩ : Shape).Idx → BitVec 1) : Prop :=
  ∀ r h s, x (ix2 r (colK h s)) = if le s r then 1#1 else 0#1

/-- The matrix `x` sums the rows up to a row in the order `le`. -/
def Tri (le : Fin 64 → Fin 64 → Prop) [∀ s r, Decidable (le s r)] (x : (⟨2, ![64, 64]⟩ : Shape).Idx → EReal) : Prop :=
  ∀ r s, x (ix2 r s) = if le s r then 1 else 0

section Order

variable {le : Fin 64 → Fin 64 → Prop} [∀ s r, Decidable (le s r)]

/-- The triangular matrix times the log-decays, in two parts of which the second is zero: the running log-decay. -/
theorem tri_sum {t : (⟨2, ![64, 64]⟩ : Shape).Idx → EReal} (ht : Tri le t) {x : (⟨2, ![64, 256]⟩ : Shape).Idx → EReal} {A : Fin 4 → Fin 64 → Fin 64 → ℝ}
    (hx : HasK x A) (r : Fin 64) (h : Fin 4) (d : Fin 64) :
    (∑ s, t (ix2 r s) * x (ix2 s (colK h d)) + ∑ s, t (ix2 r s) * (x (ix2 s (colK h d)) - x (ix2 s (colK h d))))
      = ((lg le (A h) r d : ℝ) : EReal) := by
  have h2 : ∑ s, t (ix2 r s) * (x (ix2 s (colK h d)) - x (ix2 s (colK h d))) = 0 := by
    refine sum_eq_zero fun s _ => ?_
    rw [hx, ← EReal.coe_sub, sub_self, EReal.coe_zero, mul_zero]
  rw [h2, add_zero, lg, ← coe_sum]
  refine sum_congr rfl fun s _ => ?_
  rw [ht, hx, ite_mul, one_mul, zero_mul, coe_ite]

/-- The transposed triangular matrix times an array, in two parts of which the second is zero. -/
theorem tri_sum_t {t : (⟨2, ![64, 64]⟩ : Shape).Idx → EReal} (ht : Tri le t) (x : Fin 64 → EReal) (A : Fin 64 → ℝ) (hx : ∀ r, x r = (A r : EReal))
    (s : Fin 64) :
    (∑ r, t (ix2 r s) * x r + ∑ r, t (ix2 r s) * (x r - x r)) = ((∑ r, (if le s r then A r else 0) : ℝ) : EReal) := by
  have h2 : ∑ r, t (ix2 r s) * (x r - x r) = 0 := by
    refine sum_eq_zero fun r _ => ?_
    rw [hx, ← EReal.coe_sub, sub_self, EReal.coe_zero, mul_zero]
  rw [h2, add_zero, ← coe_sum]
  refine sum_congr rfl fun r _ => ?_
  rw [ht, hx, ite_mul, one_mul, zero_mul, coe_ite]

end Order

/-! ## The masks and the decays, forward -/

theorem pay12_tri : Tri fle (k0_pay12 (F := Ideal)) := by
  intro r s
  unfold k0_pay12
  pointwise
  rw [sle64, select_ite]

theorem pay50_tri : Tri rle (k0_pay50 (F := Ideal)) := by
  intro r s
  unfold k0_pay50
  pointwise
  rw [sge64, select_ite]

theorem pay27_mask : MaskK fle k0_pay27 := by
  intro r h s
  unfold k0_pay27
  pointwise
  rw [colK_val, and63, sle64]

theorem pay65_mask : MaskK rle k0_pay65 := by
  intro r h s
  unfold k0_pay65
  pointwise
  rw [colK_val, and63, sge64]

section Forward

variable {x : Vec Ideal S64x512 .f32} {y : Vec Ideal S64x512 .f32} {A Q K : Fin 4 → Fin 64 → Fin 64 → ℝ}

theorem pay13_has (ha : HasK (k0_pay11 x) A) : HasK (k0_pay13 x) fun h => lg fle (A h) := by
  intro r h d
  unfold k0_pay13
  pointwise
  exact tri_sum pay12_tri ha r h d

theorem pay14_has (ha : HasK (k0_pay11 x) A) : HasK (k0_pay14 x) fun h _ => lgl (A h) := by
  intro r h d
  unfold k0_pay14
  pointwise
  simp only [ha _ h d, lgl, coe_sum]

theorem pay15_has (ha : HasK (k0_pay11 x) A) : HasK (k0_pay15 x) fun h r d => Real.exp (lg fle (A h) r d) := by
  intro r h d
  unfold k0_pay15
  pointwise
  rw [pay13_has ha, Ideal.exp_coe]

theorem pay16_has (ha : HasK (k0_pay11 x) A) : HasK (k0_pay16 x) fun h r d => Real.exp (0 - lg fle (A h) r d) := by
  intro r h d
  unfold k0_pay16
  pointwise
  rw [pay13_has ha, ← EReal.coe_zero, ← EReal.coe_sub, Ideal.exp_coe]

theorem pay17_has (ha : HasK (k0_pay11 x) A) : HasK (k0_pay17 x) fun h r d => Real.exp (lgl (A h) d - lg fle (A h) r d) := by
  intro r h d
  unfold k0_pay17
  pointwise
  rw [pay13_has ha, pay14_has ha, ← EReal.coe_sub, Ideal.exp_coe]

theorem pay18_has (hq : HasK (k0_pay47 y) Q) (ha : HasK (k0_pay11 x) A) : HasK (k0_pay18 y x) fun h => lqt fle (Q h) (A h) := by
  intro r h d
  have e : k0_pay18 y x (ix2 r (colK h d)) = k0_pay47 y (ix2 r (colK h d)) * (Ideal.ofBits .f32 0x3E000000#32 * k0_pay15 x (ix2 r (colK h d))) := by
    unfold k0_pay18 k0_pay47
    pointwise
  rw [e, hq, pay15_has ha, ofBits_eighth, ← EReal.coe_mul, ← EReal.coe_mul]
  rfl

theorem pay19_has (hk : HasK (k0_pay10 y) K) (ha : HasK (k0_pay11 x) A) : HasK (k0_pay19 y x) fun h => lkt fle (K h) (A h) := by
  intro r h d
  unfold k0_pay19
  pointwise
  rw [hk, pay16_has ha, ← EReal.coe_mul, lkt]

theorem pay20_has (hk : HasK (k0_pay10 y) K) (ha : HasK (k0_pay11 x) A) : HasK (k0_pay20 y x) fun h => lke fle (K h) (A h) := by
  intro r h d
  unfold k0_pay20
  pointwise
  rw [hk, pay17_has ha, ← EReal.coe_mul, lke]

end Forward

/-! ## The decays, reverse -/

section Reverse

variable {x : Vec Ideal S64x512 .f32} {q k : FVec Ideal S64x256 .f32} {A Q K : Fin 4 → Fin 64 → Fin 64 → ℝ}

theorem pay51_has (ha : HasK (k0_pay49 x) A) : HasK (k0_pay51 x) fun h => lg rle (A h) := by
  intro r h d
  unfold k0_pay51
  pointwise
  exact tri_sum pay50_tri ha r h d

theorem pay52_has (ha : HasK (k0_pay49 x) A) : HasK (k0_pay52 x) fun h _ => lgl (A h) := by
  intro r h d
  unfold k0_pay52
  pointwise
  simp only [ha _ h d, lgl, coe_sum]

theorem pay53_has (ha : HasK (k0_pay49 x) A) : HasK (k0_pay53 x) fun h r d => Real.exp (lg rle (A h) r d) := by
  intro r h d
  unfold k0_pay53
  pointwise
  rw [pay51_has ha, Ideal.exp_coe]

theorem pay54_has (ha : HasK (k0_pay49 x) A) : HasK (k0_pay54 x) fun h r d => Real.exp (0 - lg rle (A h) r d) := by
  intro r h d
  unfold k0_pay54
  pointwise
  rw [pay51_has ha, ← EReal.coe_zero, ← EReal.coe_sub, Ideal.exp_coe]

theorem pay55_has (ha : HasK (k0_pay49 x) A) :
    HasK (k0_pay55 (k0_pay51 x) (k0_pay52 x)) fun h r d => Real.exp (lgl (A h) d - lg rle (A h) r d) := by
  intro r h d
  unfold k0_pay55
  pointwise
  rw [pay51_has ha, pay52_has ha, ← EReal.coe_sub, Ideal.exp_coe]

theorem pay56_has (hq : HasK q Q) (ha : HasK (k0_pay49 x) A) : HasK (k0_pay56 q (k0_pay53 x)) fun h => lqt rle (Q h) (A h) := by
  intro r h d
  unfold k0_pay56
  pointwise
  rw [hq, pay53_has ha, ofBits_eighth, ← EReal.coe_mul, ← EReal.coe_mul, lqt]

theorem pay57_has (hk : HasK k K) (ha : HasK (k0_pay49 x) A) : HasK (k0_pay57 k (k0_pay54 x)) fun h => lkt rle (K h) (A h) := by
  intro r h d
  unfold k0_pay57
  pointwise
  rw [hk, pay54_has ha, ← EReal.coe_mul, lkt]

theorem pay58_has (hk : HasK k K) (ha : HasK (k0_pay49 x) A) : HasK (k0_pay58 k (k0_pay51 x) (k0_pay52 x)) fun h => lke rle (K h) (A h) := by
  intro r h d
  unfold k0_pay58
  pointwise
  rw [hk, pay55_has ha, ← EReal.coe_mul, lke]

end Reverse

/-! ## The stacked operands -/

theorem pay25_diag {x : FVec Ideal S64x256 .f32} {g : Fin 4 → Fin 64 → Fin 64 → ℝ} (hx : HasK x g) : DiagKK (k0_pay25 x) g := by
  intro h' s h d
  unfold k0_pay25
  pointwise
  rw [shrK, shrK, eq4, select_ite]
  refine if_congr Iff.rfl ?_ rfl
  rw [← hx]
  exact stackK (fun _ s => x (ix2 s (colK h d))) h' s (by omega)

theorem pay26_diag {x : FVec Ideal S64x512 .bf16} {g : Fin 4 → Fin 64 → Fin 128 → ℝ} (hx : HasV x g) : DiagKV (k0_pay26 x) g := by
  intro h' s h d
  unfold k0_pay26
  pointwise
  rw [shrK, shrV, eq4, select_ite]
  refine if_congr Iff.rfl ?_ rfl
  rw [← hx]
  exact stackK (fun _ s => x (ix2 s (colV h d))) h' s (by omega)

/-- The four states, each read with its two leading axes dropped. -/
def HasS (x : (⟨4, ![1, 1, 128, 64]⟩ : Shape).Idx → EReal) (S : Fin 128 → Fin 64 → ℝ) : Prop :=
  ∀ e d, x (ix4 0 0 e d) = ((S e d : ℝ) : EReal)

theorem pay67_diag {x y z w : Vec Ideal S1x1x128x64 .f32} {S : Fin 4 → Fin 128 → Fin 64 → ℝ} (hx : HasS x (S 0)) (hy : HasS y (S 1))
    (hz : HasS z (S 2)) (hw : HasS w (S 3)) : DiagVK (k0_pay67 x y z w) S := by
  intro h' e h d
  let X : Fin 4 → Fin 128 → Fin 64 → EReal := fun g e d =>
    match g with
    | 0 => x (ix4 0 0 e d)
    | 1 => y (ix4 0 0 e d)
    | 2 => z (ix4 0 0 e d)
    | 3 => w (ix4 0 0 e d)
  unfold k0_pay67
  pointwise
  rw [shrV, shrK, eq4, select_ite]
  split
  · next hh =>
    subst hh
    have hX : X h' e d = ((S h' e d : ℝ) : EReal) := by
      match h' with
      | 0 => exact hx e d
      | 1 => exact hy e d
      | 2 => exact hz e d
      | 3 => exact hw e d
    exact (stackV (fun g e => if h1 : (colK h' d).val < 64 then X g e ⟨(colK h' d).val, h1⟩
      else if h2 : (colK h' d).val - 64 < 64 then X g e ⟨(colK h' d).val - 64, h2⟩
      else if h3 : (colK h' d).val - 64 - 64 < 64 then X g e ⟨(colK h' d).val - 64 - 64, h3⟩
      else X g e ⟨(colK h' d).val - 64 - 64 - 64, by omega⟩) h' e (by omega)).trans
      ((stackK (fun _ => X h' e) h' d (by omega)).trans hX)
  · rfl

/-! ## The chunk's products -/

section Products

variable {le : Fin 64 → Fin 64 → Prop} [∀ s r, Decidable (le s r)]
variable {q k a : Fin 4 → Fin 64 → Fin 64 → ℝ} {v w : Fin 4 → Fin 64 → Fin 128 → ℝ} {S D : Fin 4 → Fin 128 → Fin 64 → ℝ}

/-- The chunk's own attention weights. -/
theorem pay33_has {x : FVec Ideal S64x256 .bf16} {y : FVec Ideal S256x256 .bf16} {m : IVec S64x256 1}
    (hx : HasK x fun h => lqt le (q h) (a h)) (hy : DiagKK y fun h => lkt le (k h) (a h)) (hm : MaskK le m) :
    HasK (k0_pay33 x y m) fun h => latt le (q h) (k h) (a h) := by
  intro r h s
  unfold k0_pay33
  pointwise
  rw [hm, select_ite, latt, ← coe_ite]
  refine if_congr Iff.rfl ?_ rfl
  exact block_sumK _ _ h _ _ (fun d => hx r h d) (fun d => by rw [hy, if_pos rfl]) fun h' d hh => by rw [hy, if_neg (Ne.symm hh), mul_zero]

/-- Their gradients. -/
theorem pay34_has {x : FVec Ideal S64x512 .bf16} {y : FVec Ideal S256x512 .bf16} {m : IVec S64x256 1}
    (hx : HasV x w) (hy : DiagKV y v) (hm : MaskK le m) :
    HasK (k0_pay34 x y m) fun h => ldatt le (v h) (w h) := by
  intro r h s
  unfold k0_pay34
  pointwise
  rw [hm, select_ite, ldatt, ← coe_ite]
  refine if_congr Iff.rfl ?_ rfl
  exact block_sumV _ _ h _ _ (fun d => hx r h d) (fun d => by rw [hy, if_pos rfl]) fun h' d hh => by rw [hy, if_neg (Ne.symm hh), mul_zero]

/-- The gradient of the scaled query. -/
theorem pay35_has {x : FVec Ideal S64x512 .bf16} {y : FVec Ideal S256x256 .bf16} {z : FVec Ideal S256x512 .bf16} {m : IVec S64x256 1}
    {s0 s1 : FVec Ideal S128x64 .f32} {s2 s3 : Vec Ideal S1x1x128x64 .f32}
    (hx : HasV x w) (hy : DiagKK y fun h => lkt le (k h) (a h)) (hz : DiagKV z v) (hm : MaskK le m) (hs : DiagVK (k0_pay31 s0 s1 s2 s3) S) :
    HasK (k0_pay35 x y z m s0 s1 s2 s3) fun h => ldqt le (k h) (a h) (v h) (w h) (S h) := by
  intro r h d
  unfold k0_pay35
  pointwise
  rw [ldqt, EReal.coe_add]
  congr 1
  · exact block_sumK _ _ h _ _ (fun s => pay34_has hx hz hm r h s) (fun s => by rw [hy, if_pos rfl]) fun h' d hh => by
      rw [hy, if_neg hh, mul_zero]
  · exact block_sumV _ _ h _ _ (fun e => hx r h e) (fun e => by rw [hs, if_pos rfl]) fun h' d hh => by rw [hs, if_neg hh, mul_zero]

/-- Four diagonal blocks, each the only one of its columns that is not zero, added up. -/
theorem fold4 (h : Fin 4) (x : EReal) :
    ((if (0 : Fin 4) = h then x else 0) + (if (1 : Fin 4) = h then x else 0)) + ((if (2 : Fin 4) = h then x else 0) + (if (3 : Fin 4) = h then x else 0)) = x := by
  match h with
  | 0 => simp
  | 1 => simp
  | 2 => simp
  | 3 => simp

theorem pay36_eq (h' h : Fin 4) (s d : Fin 64) : k0_pay36 (ix2 (colK h' s) (colK h d)) = if h' = h then 1#1 else 0#1 := by
  unfold k0_pay36
  pointwise
  rw [shrK, shrK, eq4]

/-- The gradient of the scaled key within the chunk. -/
theorem pay39_has {x : FVec Ideal S64x512 .bf16} {y : FVec Ideal S64x256 .bf16} {z : FVec Ideal S256x512 .bf16} {m : IVec S64x256 1}
    (hx : HasV x w) (hy : HasK y fun h => lqt le (q h) (a h)) (hz : DiagKV z v) (hm : MaskK le m) :
    HasK (k0_pay39 k0_pay36 (k0_pay37 x y z m) k0_pay38) fun h => ldkt le (q h) (a h) (v h) (w h) := by
  intro s h d
  have e37 : k0_pay37 x y z m (ix2 (colK h s) (colK h d)) = ((ldkt le (q h) (a h) (v h) (w h) s d : ℝ) : EReal) := by
    unfold k0_pay37
    pointwise
    exact coe_dot _ _ _ _ (fun r => pay34_has hx hz hm r h s) (fun r => hy r h d)
  have e38 : ∀ i, k0_pay38 (F := Ideal) i = 0 := by
    intro i
    unfold k0_pay38
    pointwise
  have part : ∀ h' : Fin 4, Scalar.select (k0_pay36 (ix2 (colK h' s) (colK h d))) (k0_pay37 x y z m (ix2 (colK h' s) (colK h d)))
      (k0_pay38 (ix2 (colK h' s) (colK h d))) = if h' = h then ((ldkt le (q h) (a h) (v h) (w h) s d : ℝ) : EReal) else 0 := by
    intro h'
    rw [pay36_eq, select_ite, e38]
    split
    · next hh => subst hh; exact e37
    · rfl
  have e0 : colK 0 s = ⟨s.val, by omega⟩ := by ext; simp [colK_val]
  have e1 : colK 1 s = ⟨64 + s.val, by omega⟩ := by ext; simp [colK_val]
  have e2 : colK 2 s = ⟨128 + s.val, by omega⟩ := by ext; simp [colK_val]
  have e3 : colK 3 s = ⟨192 + s.val, by omega⟩ := by ext; simp [colK_val]
  unfold k0_pay39
  pointwise
  rw [← e0, ← e1, ← e2, ← e3, part, part, part, part, fold4]

/-- The gradient of the value. -/
theorem pay40_has {x : FVec Ideal S64x512 .bf16} {y : FVec Ideal S64x256 .bf16} {z : FVec Ideal S512x256 .bf16} {t : FVec Ideal S64x256 .bf16}
    (hx : HasV x w) (hy : HasK y fun h => lke le (k h) (a h)) (hz : DiagVK z D) (ht : HasK t fun h => latt le (q h) (k h) (a h)) :
    HasV (k0_pay40 x y z t) fun h => ldv le (q h) (k h) (a h) (w h) (D h) := by
  intro s h e
  have part : ∀ (h' : Fin 4) (c : Fin 256), c = colK h' s → Scalar.select (IntOp.cmpi .eq (IntOp.shrsi .vector (BitVec.ofNat 32 c.val) 6#32)
      (IntOp.shrsi .vector (BitVec.ofNat 32 (colV h e).val) 7#32)) (∑ r, t (ix2 r c) * x (ix2 r (colV h e))) 0
        = if h' = h then ((∑ r, latt le (q h) (k h) (a h) r s * w h r e : ℝ) : EReal) else 0 := by
    rintro h' _ rfl
    rw [shrK, shrV, eq4, select_ite]
    split
    · next hh => subst hh; exact coe_dot _ _ _ _ (fun r => ht r h' s) (fun r => hx r h' e)
    · rfl
  unfold k0_pay40
  pointwise
  refine (congrArg₂ (· + ·) (congrArg₂ (· + ·)
    (congrArg₂ (· + ·) (part 0 ⟨s.val, by omega⟩ (by ext; simp [colK_val])) (part 1 ⟨64 + s.val, by omega⟩ (by ext; simp [colK_val])))
    (congrArg₂ (· + ·) (part 2 ⟨128 + s.val, by omega⟩ (by ext; simp [colK_val])) (part 3 ⟨192 + s.val, by omega⟩ (by ext; simp [colK_val])))) rfl).trans ?_
  rw [fold4, ldv, EReal.coe_add]
  congr 1
  exact block_sumK _ _ h _ _ (fun d => hy s h d) (fun d => by rw [hz, if_pos rfl]) fun h' d hh => by rw [hz, if_neg (Ne.symm hh), mul_zero]

/-- The gradient of the key scaled to the chunk's end. -/
theorem pay41_has {x : FVec Ideal S64x512 .bf16} {z : FVec Ideal S512x256 .bf16} (hx : HasV x v) (hz : DiagVK z D) :
    HasK (k0_pay41 x z) fun h => ldke (v h) (D h) := by
  intro s h d
  unfold k0_pay41
  pointwise
  exact block_sumV _ _ h _ _ (fun e => hx s h e) (fun e => by rw [hz, if_pos rfl]) fun h' e hh => by rw [hz, if_neg hh, mul_zero]

/-- The gradient of the state before the chunk. -/
theorem pay42_diag {x : FVec Ideal S64x512 .bf16} {y : FVec Ideal S64x256 .bf16} {z : FVec Ideal S1x256 .f32} {t : Vec Ideal S512x256 .f32}
    (hx : HasV x w) (hy : HasK y fun h => lqt le (q h) (a h)) (hz : HasK z fun h _ d => Real.exp (lgl (a h) d)) (ht : DiagVK t D) :
    DiagVK (k0_pay42 x y z t) fun h => ldstate le (q h) (a h) (w h) (D h) := by
  intro h' e h d
  unfold k0_pay42
  pointwise
  rw [shrV, shrK, eq4, select_ite, ht, hz]
  split
  · next hh =>
    subst hh
    rw [ldstate, EReal.coe_add, EReal.coe_mul]
    congr 1
    exact coe_dot _ _ _ _ (fun r => hx r h' e) (fun r => hy r h' d)
  · rw [zero_mul, add_zero]

/-- The first part of the gradient of the chunk's whole log-decay. -/
theorem pay43_has {x : FVec Ideal S64x256 .f32} {y : FVec Ideal S64x512 .bf16} {z : FVec Ideal S512x256 .bf16} (hy : HasV y v) (hz : DiagVK z D)
    (hx : HasK x fun h => lke le (k h) (a h)) :
    HasK (k0_pay43 x y z) fun h _ d => ∑ s, ldke (v h) (D h) s d * lke le (k h) (a h) s d := by
  intro r h d
  unfold k0_pay43
  pointwise
  exact coe_dot _ _ _ _ (fun s => pay41_has hy hz s h d) (fun s => hx s h d)

/-- The second part. -/
theorem pay44_has {x : FVec Ideal S1x256 .f32} {y : FVec Ideal S512x256 .f32} {z : Vec Ideal S512x256 .f32}
    (hx : HasK x fun h _ d => Real.exp (lgl (a h) d)) (hy : DiagVK y S) (hz : DiagVK z D) :
    HasK (k0_pay44 x y z) fun h _ d => (∑ e, D h e d * S h e d) * Real.exp (lgl (a h) d) := by
  intro r h d
  unfold k0_pay44
  pointwise
  rw [hx, EReal.coe_mul]
  congr 1
  exact block_sumV _ _ h _ _ (fun e => by rw [hz, if_pos rfl]) (fun e => by rw [hy, if_pos rfl]) fun h' e hh => by rw [hz, if_neg hh, zero_mul]

/-- The gradient of the log-decay. -/
theorem pay45_has {t : FVec Ideal S64x64 .bf16} {x45 x46 x47 x119 x136 x156 : FVec Ideal S64x256 .f32} {x172 x176 : FVec Ideal S1x256 .f32}
    (ht : Tri le t) (h45 : HasK x45 fun h => lqt le (q h) (a h)) (h46 : HasK x46 fun h => lkt le (k h) (a h)) (h47 : HasK x47 fun h => lke le (k h) (a h))
    (h119 : HasK x119 fun h => ldqt le (k h) (a h) (v h) (w h) (S h)) (h136 : HasK x136 fun h => ldkt le (q h) (a h) (v h) (w h))
    (h156 : HasK x156 fun h => ldke (v h) (D h)) (h172 : HasK x172 fun h _ d => ∑ s, ldke (v h) (D h) s d * lke le (k h) (a h) s d)
    (h176 : HasK x176 fun h _ d => (∑ e, D h e d * S h e d) * Real.exp (lgl (a h) d)) :
    HasK (k0_pay45 t x45 x46 x47 x119 x136 x156 x172 x176) fun h => lda le (q h) (k h) (a h) (v h) (w h) (S h) (D h) := by
  intro s h d
  unfold k0_pay45
  pointwise
  rw [h172, h176, lda, EReal.coe_add, ldgl, EReal.coe_add]
  congr 1
  refine tri_sum_t ht _ (fun r => ldg le (q h) (k h) (a h) (v h) (w h) (S h) (D h) r d) (fun r => ?_) s
  rw [h119, h45, h136, h46, h156, h47, ← EReal.coe_mul, ← EReal.coe_mul, ← EReal.coe_mul, ← EReal.coe_sub, ← EReal.coe_sub, ldg]

/-- The gradients of the query and of the key, side by side. -/
theorem pay46_q {x36 x39 x42 x119 x136 x156 : FVec Ideal S64x256 .f32} (h36 : HasK x36 fun h r d => Real.exp (lg le (a h) r d))
    (h119 : HasK x119 fun h => ldqt le (k h) (a h) (v h) (w h) (S h)) (r : Fin 64) (h : Fin 4) (d : Fin 64) :
    k0_pay46 x36 x39 x42 x119 x136 x156 (ix2 r ⟨(colK h d).val, by omega⟩) = ((ldq le (k h) (a h) (v h) (w h) (S h) r d : ℝ) : EReal) := by
  unfold k0_pay46
  pointwise
  rw [h119, h36, ofBits_eighth, ← EReal.coe_mul, ← EReal.coe_mul, ldq]

theorem pay46_k {x36 x39 x42 x119 x136 x156 : FVec Ideal S64x256 .f32} (h39 : HasK x39 fun h r d => Real.exp (0 - lg le (a h) r d))
    (h42 : HasK x42 fun h r d => Real.exp (lgl (a h) d - lg le (a h) r d))
    (h136 : HasK x136 fun h => ldkt le (q h) (a h) (v h) (w h)) (h156 : HasK x156 fun h => ldke (v h) (D h)) (r : Fin 64) (h : Fin 4) (d : Fin 64) :
    k0_pay46 x36 x39 x42 x119 x136 x156 (ix2 r ⟨256 + (colK h d).val, by omega⟩)
      = ((ldk le (q h) (a h) (v h) (w h) (D h) r d : ℝ) : EReal) := by
  unfold k0_pay46
  pointwise
  rw [h136, h39, h156, h42, ← EReal.coe_mul, ← EReal.coe_mul, ← EReal.coe_add, ldk]

end Products

end Cert.Gla.Bwd
-- ==== Proof.BwdStep.lean ====
/-
  One grid point of the backward kernel: what the body leaves in each output's staging buffer and in the two carried scratch buffers, as
  functions of the blocks it read. Both directions compute the same functions (`core…`) of their own scaled queries and keys.
-/
module

public import proofs.«01_k».proof.Proof.BwdOuts
public import Idealize.ShloMosaic.Lib.Claim
public import Idealize.ShloMosaic.Lib.WholeRead

@[expose] public section

set_option maxRecDepth 16384

noncomputable section

namespace Cert.BwdIdeal.Own

open Cert.BwdIdeal.Gen
open Idealize.ShloMosaic Idealize.ShloMosaic.TcCoe Idealize.ShloMosaic.Tactic

variable {F : FTy → Type} [FloatOps F]

/-- What a chunk computes of its queries, keys and log-decays alone: the scaled queries and keys, the decays, the order of its rows. -/
structure Scaled (F : FTy → Type) [FloatOps F] where
  /-- the scaled query -/
  qt : FVec F S64x256 .f32
  /-- the key scaled from the chunk's start -/
  kt : FVec F S64x256 .f32
  /-- the key scaled to the chunk's end -/
  ke : FVec F S64x256 .f32
  /-- the decay from the chunk's start -/
  eg : FVec F S64x256 .f32
  /-- its reciprocal -/
  en : FVec F S64x256 .f32
  /-- the decay to the chunk's end -/
  ee : FVec F S64x256 .f32
  /-- the whole chunk's decay -/
  el : FVec F S1x256 .f32
  /-- the matrix that sums the rows up to a row -/
  tri : FVec F S64x64 .bf16
  /-- the mask of the pairs of rows in order -/
  mask : IVec S64x256 1

/-- The forward direction's. -/
def scaledF (x0 x2 : Vec F S64x512 .f32) : Scaled F where
  qt := k0_pay18 x0 x2
  kt := k0_pay19 x0 x2
  ke := k0_pay20 x0 x2
  eg := k0_pay15 x2
  en := k0_pay16 x2
  ee := k0_pay17 x2
  el := k0_pay28 (k0_pay14 x2)
  tri := k0_pay12
  mask := k0_pay27

/-- The reverse direction's. -/
def scaledR (x5 x7 : Vec F S64x512 .f32) : Scaled F where
  qt := k0_pay56 (k0_pay47 x5) (k0_pay53 x7)
  kt := k0_pay57 (k0_pay48 x5) (k0_pay54 x7)
  ke := k0_pay58 (k0_pay48 x5) (k0_pay51 x7) (k0_pay52 x7)
  eg := k0_pay53 x7
  en := k0_pay54 x7
  ee := k0_pay55 (k0_pay51 x7) (k0_pay52 x7)
  el := k0_pay66 (k0_pay52 x7)
  tri := k0_pay50
  mask := k0_pay65

/-- The cotangent's block of the forward direction: zero for the context's chunks. -/
def cotF (i : grid0.Coords) (x4 : Vec F S64x512 .f32) : FVec F S64x512 .bf16 :=
  k0_pay22 (Scalar.select (Scalar.cmpi .slt (BitVec.ofNat 32 (i 0).val) 68#32)
    (Scalar.remsi (Scalar.addi (Scalar.maxsi (Scalar.subi 67#32 (BitVec.ofNat 32 (i 0).val)) 0#32) 64#32) 68#32) (BitVec.ofNat 32 (i 0).val)) 64#32 x4

/-- The cotangent's block of the reverse direction. -/
def cotR (i : grid0.Coords) (x9 : Vec F S64x512 .f32) : FVec F S64x512 .bf16 := k0_pay60 (BitVec.ofNat 32 (i 0).val) x9

/-- The saved states of the four heads. -/
def st0 (x : Vec F S1x4x128x64 .f32) : Vec F S1x1x128x64 .f32 := View.ld x (Rect.unit (s := S1x4x128x64) ![0, 0, 0, 0] S1x1x128x64.size inb_S1x4x128x64_S1x1x128x64_0_0_0_0)
@[inherit_doc st0] def st1 (x : Vec F S1x4x128x64 .f32) : Vec F S1x1x128x64 .f32 := View.ld x (Rect.unit (s := S1x4x128x64) ![0, 1, 0, 0] S1x1x128x64.size inb_S1x4x128x64_S1x1x128x64_0_1_0_0)
@[inherit_doc st0] def st2 (x : Vec F S1x4x128x64 .f32) : Vec F S1x1x128x64 .f32 := View.ld x (Rect.unit (s := S1x4x128x64) ![0, 2, 0, 0] S1x1x128x64.size inb_S1x4x128x64_S1x1x128x64_0_2_0_0)
@[inherit_doc st0] def st3 (x : Vec F S1x4x128x64 .f32) : Vec F S1x1x128x64 .f32 := View.ld x (Rect.unit (s := S1x4x128x64) ![0, 3, 0, 0] S1x1x128x64.size inb_S1x4x128x64_S1x1x128x64_0_3_0_0)

section Core

variable (b : Scaled F) (v w : FVec F S64x512 .bf16) (s : Vec F S1x4x128x64 .f32) (D : Vec F S512x256 .f32)

/-- The gradient of the scaled query. -/
def coreDq : FVec F S64x256 .f32 := k0_pay35 w (k0_pay25 b.kt) (k0_pay26 v) b.mask (k0_pay29 (st0 s)) (k0_pay30 (st1 s)) (st2 s) (st3 s)

/-- The gradient of the scaled key within the chunk. -/
def coreDk : FVec F S64x256 .f32 := k0_pay39 k0_pay36 (k0_pay37 w (k0_pay23 b.qt) (k0_pay26 v) b.mask) k0_pay38

/-- The gradient of the key scaled to the chunk's end. -/
def coreDe : FVec F S64x256 .f32 := k0_pay41 v (k0_pay32 D)

/-- The gradients of the query and of the key, side by side. -/
def coreQK : FVec F S64x512 .f32 := k0_pay46 b.eg b.en b.ee (coreDq b v w s) (coreDk b v w) (coreDe v D)

/-- The gradient of the value. -/
def coreV : FVec F S64x512 .f32 := k0_pay40 w (k0_pay24 b.ke) (k0_pay32 D) (k0_pay33 (k0_pay23 b.qt) (k0_pay25 b.kt) b.mask)

/-- The gradient of the log-decay. -/
def coreA : FVec F S64x256 .f32 :=
  k0_pay45 b.tri b.qt b.kt b.ke (coreDq b v w s) (coreDk b v w) (coreDe v D) (k0_pay43 b.ke v (k0_pay32 D))
    (k0_pay44 b.el (k0_pay67 (st0 s) (st1 s) (st2 s) (st3 s)) D)

/-- The gradient of the state before the chunk. -/
def coreD : FVec F S512x256 .f32 := k0_pay42 w (k0_pay23 b.qt) b.el D

end Core

theorem hz2 : (![0, 0] : Fin 2 → ℕ) = 0 := by decide

theorem pay9_self (x : FVec F S512x256 .f32) : k0_pay9 x = x := shapeCast_self _ _

theorem pay82_self (x : FVec F S512x256 .f32) : k0_pay82 x = x := shapeCast_self _ _

theorem rev_q (q e : FVec F S64x256 .f32) : k0_pay61 q e = k0_pay23 (k0_pay56 q e) := rfl

theorem rev_k (k e : FVec F S64x256 .f32) : k0_pay63 k e = k0_pay25 (k0_pay57 k e) := rfl

theorem rev_e (k g : FVec F S64x256 .f32) (l : FVec F S1x256 .f32) : k0_pay62 k g l = k0_pay24 (k0_pay58 k g l) := rfl

theorem rev_v (x : Vec F S64x512 .f32) : k0_pay64 x = k0_pay26 (k0_pay59 x) := rfl

theorem rev_dq (w : FVec F S64x512 .bf16) (k v m) (s0 s1 s2 s3 : Vec F S1x1x128x64 .f32) :
    k0_pay73 (k0_pay71 w k v m) (k0_pay72 w s0 s1 s2 s3) = k0_pay35 w k v m (k0_pay29 s0) (k0_pay30 s1) s2 s3 := rfl

theorem rev_dk (w : FVec F S64x512 .bf16) (q v m) : k0_pay74 q (k0_pay70 w v m) = k0_pay39 k0_pay36 (k0_pay37 w q v m) k0_pay38 := rfl

theorem rev_de (v : FVec F S64x512 .bf16) (D : Vec F S512x256 .f32) : k0_pay76 v (k0_pay68 D) = k0_pay41 v (k0_pay32 D) := rfl

theorem rev_qk (a b c d e f : FVec F S64x256 .f32) : k0_pay81 a b c d e f = k0_pay46 a b c d e f := rfl

theorem rev_dv (w : FVec F S64x512 .bf16) (e : FVec F S64x256 .bf16) (D q k m) : k0_pay75 w e D (k0_pay69 q k m) = k0_pay40 w e D (k0_pay33 q k m) := rfl

theorem rev_da (t : FVec F S64x64 .bf16) (a b c : FVec F S64x256 .f32) (l : FVec F S1x256 .f32) (s D q k) (v : FVec F S64x512 .bf16) (E) :
    k0_pay80 t a b c l s D q k (k0_pay41 v E) = k0_pay45 t a b c q k (k0_pay41 v E) (k0_pay43 c v E) (k0_pay44 l s D) := rfl

theorem rev_ds (w : FVec F S64x512 .bf16) (q) (l : FVec F S1x256 .f32) (D : Vec F S512x256 .f32) :
    k0_pay79 w q (k0_pay77 l D) k0_pay78 (constant S512x256 .f32 0#32) = k0_pay42 w q l D := rfl

variable (c : Dev nD) (t : Fin cfg0.N)

theorem hsc0 : scM0_0.IsWhole := Memref.isWhole_whole _

theorem hsc1 : scM0_1.IsWhole := Memref.isWhole_whole _

section CaseA

variable (hc0 : cond0_0 (grid0.coords t)) (hc1 : ¬cond0_1 (grid0.coords t)) (hc2 : cond0_2 (grid0.coords t))
  (x0 x1 x2 : Vec F S64x512 .f32) (x3 : Vec F S1x4x128x64 .f32) (x4 x5 x6 x7 : Vec F S64x512 .f32) (x8 : Vec F S1x4x128x64 .f32) (x9 : Vec F S64x512 .f32)

theorem out0_A_10_eq : out0_A_10 c t hc0 hc1 hc2 x0 x1 x2 x3 x4 x5 x6 x7 x8 x9 = coreQK (scaledF x0 x2) (k0_pay21 x1) (cotF (grid0.coords t) x4) x3 k0_pay1 := by
  unfold out0_A_10
  rw [View.read_writes_eq_canon _ _ _ (fun _ => cover0_A_10 ..)]
  unfold atA kernelRun0_A
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem out0_A_11_eq : out0_A_11 c t hc0 hc1 hc2 x0 x1 x2 x3 x4 x5 x6 x7 x8 x9 = coreV (scaledF x0 x2) (cotF (grid0.coords t) x4) k0_pay1 := by
  unfold out0_A_11
  rw [View.read_writes_eq_canon _ _ _ (fun _ => cover0_A_11 ..)]
  unfold atA kernelRun0_A
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem out0_A_12_eq : out0_A_12 c t hc0 hc1 hc2 x0 x1 x2 x3 x4 x5 x6 x7 x8 x9 = coreA (scaledF x0 x2) (k0_pay21 x1) (cotF (grid0.coords t) x4) x3 k0_pay1 := by
  unfold out0_A_12
  rw [View.read_writes_eq_canon _ _ _ (fun _ => cover0_A_12 ..)]
  unfold atA kernelRun0_A
  dsimp only
  sl_unfold_words
  simp only [View.canon_cons_unit_zero (S := S64x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem sout0_A_0_eq : sout0_A_0 c t hc0 hc1 hc2 x0 x1 x2 x3 x4 x5 x6 x7 x8 x9 = coreD (scaledF x0 x2) (cotF (grid0.coords t) x4) k0_pay1 := by
  unfold sout0_A_0
  rw [View.read_writes_eq_canon _ _ _ (fun _ => scover0_A_0 ..)]
  unfold atA kernelRun0_A
  dsimp only
  sl_unfold_words
  simp only [View.canon_cons_unit_zero (S := S512x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem out0_A_13_eq : out0_A_13 c t hc0 hc1 hc2 x0 x1 x2 x3 x4 x5 x6 x7 x8 x9 = coreQK (scaledR x5 x7) (k0_pay59 x6) (cotR (grid0.coords t) x9) x8 k0_pay2 := by
  unfold out0_A_13
  rw [View.read_writes_eq_canon _ _ _ (fun _ => cover0_A_13 ..)]
  unfold atA kernelRun0_A
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

theorem out0_A_14_eq : out0_A_14 c t hc0 hc1 hc2 x0 x1 x2 x3 x4 x5 x6 x7 x8 x9 = coreV (scaledR x5 x7) (cotR (grid0.coords t) x9) k0_pay2 := by
  unfold out0_A_14
  rw [View.read_writes_eq_canon _ _ _ (fun _ => cover0_A_14 ..)]
  unfold atA kernelRun0_A
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

theorem out0_A_15_eq : out0_A_15 c t hc0 hc1 hc2 x0 x1 x2 x3 x4 x5 x6 x7 x8 x9 = coreA (scaledR x5 x7) (k0_pay59 x6) (cotR (grid0.coords t) x9) x8 k0_pay2 := by
  unfold out0_A_15
  rw [View.read_writes_eq_canon _ _ _ (fun _ => cover0_A_15 ..)]
  unfold atA kernelRun0_A
  dsimp only
  sl_unfold_words
  simp only [View.canon_cons_unit_zero (S := S64x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

theorem sout0_A_1_eq : sout0_A_1 c t hc0 hc1 hc2 x0 x1 x2 x3 x4 x5 x6 x7 x8 x9 = coreD (scaledR x5 x7) (cotR (grid0.coords t) x9) k0_pay2 := by
  unfold sout0_A_1
  rw [View.read_writes_eq_canon _ _ _ (fun _ => scover0_A_1 ..)]
  unfold atA kernelRun0_A
  dsimp only
  sl_unfold_words
  simp only [View.canon_cons_unit_zero (S := S512x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

end CaseA

section CaseB

variable (hc0 : ¬cond0_0 (grid0.coords t)) (hc1 : ¬cond0_1 (grid0.coords t)) (hc2 : cond0_2 (grid0.coords t))
  (x0 x1 x2 : Vec F S64x512 .f32) (x3 : Vec F S1x4x128x64 .f32) (x4 x5 x6 x7 : Vec F S64x512 .f32) (x8 : Vec F S1x4x128x64 .f32) (x9 : Vec F S64x512 .f32) (xs0 xs1 : Vec F S512x256 .f32)

theorem out0_B_10_eq : out0_B_10 c t hc0 hc1 hc2 x0 x1 x2 x3 x4 x5 x6 x7 x8 x9 xs0 xs1 = coreQK (scaledF x0 x2) (k0_pay21 x1) (cotF (grid0.coords t) x4) x3 xs0 := by
  unfold out0_B_10
  rw [View.read_writes_eq_canon _ _ _ (fun _ => cover0_B_10 ..)]
  unfold atB kernelRun0_B
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem out0_B_11_eq : out0_B_11 c t hc0 hc1 hc2 x0 x1 x2 x3 x4 x5 x6 x7 x8 x9 xs0 xs1 = coreV (scaledF x0 x2) (cotF (grid0.coords t) x4) xs0 := by
  unfold out0_B_11
  rw [View.read_writes_eq_canon _ _ _ (fun _ => cover0_B_11 ..)]
  unfold atB kernelRun0_B
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem out0_B_12_eq : out0_B_12 c t hc0 hc1 hc2 x0 x1 x2 x3 x4 x5 x6 x7 x8 x9 xs0 xs1 = coreA (scaledF x0 x2) (k0_pay21 x1) (cotF (grid0.coords t) x4) x3 xs0 := by
  unfold out0_B_12
  rw [View.read_writes_eq_canon _ _ _ (fun _ => cover0_B_12 ..)]
  unfold atB kernelRun0_B
  dsimp only
  sl_unfold_words
  simp only [View.canon_cons_unit_zero (S := S64x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem sout0_B_0_eq : sout0_B_0 c t hc0 hc1 hc2 x0 x1 x2 x3 x4 x5 x6 x7 x8 x9 xs0 xs1 = coreD (scaledF x0 x2) (cotF (grid0.coords t) x4) xs0 := by
  unfold sout0_B_0
  rw [View.read_writes_eq_canon _ _ _ (fun _ => scover0_B_0 ..)]
  unfold atB kernelRun0_B
  dsimp only
  sl_unfold_words
  simp only [View.canon_cons_unit_zero (S := S512x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self]
  rfl

theorem out0_B_13_eq : out0_B_13 c t hc0 hc1 hc2 x0 x1 x2 x3 x4 x5 x6 x7 x8 x9 xs0 xs1 = coreQK (scaledR x5 x7) (k0_pay59 x6) (cotR (grid0.coords t) x9) x8 xs1 := by
  unfold out0_B_13
  rw [View.read_writes_eq_canon _ _ _ (fun _ => cover0_B_13 ..)]
  unfold atB kernelRun0_B
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

theorem out0_B_14_eq : out0_B_14 c t hc0 hc1 hc2 x0 x1 x2 x3 x4 x5 x6 x7 x8 x9 xs0 xs1 = coreV (scaledR x5 x7) (cotR (grid0.coords t) x9) xs1 := by
  unfold out0_B_14
  rw [View.read_writes_eq_canon _ _ _ (fun _ => cover0_B_14 ..)]
  unfold atB kernelRun0_B
  dsimp only
  sl_unfold_words
  simp only [View.canon_cons_unit_zero (S := S64x512) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

theorem out0_B_15_eq : out0_B_15 c t hc0 hc1 hc2 x0 x1 x2 x3 x4 x5 x6 x7 x8 x9 xs0 xs1 = coreA (scaledR x5 x7) (k0_pay59 x6) (cotR (grid0.coords t) x9) x8 xs1 := by
  unfold out0_B_15
  rw [View.read_writes_eq_canon _ _ _ (fun _ => cover0_B_15 ..)]
  unfold atB kernelRun0_B
  dsimp only
  sl_unfold_words
  simp only [View.canon_cons_unit_zero (S := S64x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

theorem sout0_B_1_eq : sout0_B_1 c t hc0 hc1 hc2 x0 x1 x2 x3 x4 x5 x6 x7 x8 x9 xs0 xs1 = coreD (scaledR x5 x7) (cotR (grid0.coords t) x9) xs1 := by
  unfold sout0_B_1
  rw [View.read_writes_eq_canon _ _ _ (fun _ => scover0_B_1 ..)]
  unfold atB kernelRun0_B
  dsimp only
  sl_unfold_words
  simp only [View.canon_cons_unit_zero (S := S512x256) hz2, View.readCov_unit_zero (S := S512x256) _ hz2, View.readAt_eq_ld, (hs0_0 t).read_unread, (hs0_1 t).read_unread, (hs0_2 t).read_unread,
    (hs0_3 t).read_unread, (hs0_4 t).read_unread, (hs0_5 t).read_unread, (hs0_6 t).read_unread, (hs0_7 t).read_unread, (hs0_8 t).read_unread, (hs0_9 t).read_unread,
    hsc0.read_unread, hsc1.read_unread, View.ld_unit_zero (S := S64x512) hz2, View.ld_unit_zero (S := S512x256) hz2, pay9_self, pay82_self,
    rev_q, rev_k, rev_e, rev_v, rev_dq, rev_dk, rev_de, rev_qk, rev_dv, rev_da, rev_ds]
  rfl

end CaseB

end Cert.BwdIdeal.Own
-- ==== Proof.BwdCore.lean ====
/-
  One grid point of the backward kernel as real numbers: given the chunk's queries, keys, values, log-decays and cotangent as rows of whole
  sequences, the state before the chunk and the gradient of the state after it, each output of the point is the whole sequences' gradient.
-/
module

public import proofs.«01_k».proof.Proof.BwdRead
public import proofs.«01_k».proof.Proof.BwdStep

@[expose] public section

set_option maxRecDepth 16384

noncomputable section

namespace Cert.Gla.Bwd

open Cert.BwdIdeal Cert.BwdIdeal.Gen Cert.BwdIdeal.Own Idealize.ShloMosaic Idealize.ShloMosaic.TcCoe Finset

/-- What a chunk computed of its queries, keys and log-decays holds the chunk formulas' values. -/
structure Reads (le : Fin 64 → Fin 64 → Prop) [∀ s r, Decidable (le s r)] (b : Scaled Ideal) (q k a : Fin 4 → Fin 64 → Fin 64 → ℝ) : Prop where
  qt : HasK b.qt fun h => lqt le (q h) (a h)
  kt : HasK b.kt fun h => lkt le (k h) (a h)
  ke : HasK b.ke fun h => lke le (k h) (a h)
  eg : HasK b.eg fun h r d => Real.exp (lg le (a h) r d)
  en : HasK b.en fun h r d => Real.exp (0 - lg le (a h) r d)
  ee : HasK b.ee fun h r d => Real.exp (lgl (a h) d - lg le (a h) r d)
  el : HasK b.el fun h _ d => Real.exp (lgl (a h) d)
  tri : Tri le b.tri
  mask : MaskK le b.mask

theorem scaledF_reads {x0 x2 : Vec Ideal S64x512 .f32} {q k a : Fin 4 → Fin 64 → Fin 64 → ℝ} (hq : HasK (k0_pay47 x0) q) (hk : HasK (k0_pay10 x0) k)
    (ha : HasK (k0_pay11 x2) a) : Reads fle (scaledF x0 x2) q k a where
  qt := pay18_has hq ha
  kt := pay19_has hk ha
  ke := pay20_has hk ha
  eg := pay15_has ha
  en := pay16_has ha
  ee := pay17_has ha
  el := by
    intro r h d
    show k0_pay28 (k0_pay14 x2) _ = _
    unfold k0_pay28
    pointwise
    rw [pay14_has ha, Ideal.exp_coe]
  tri := pay12_tri
  mask := pay27_mask

theorem scaledR_reads {x5 x7 : Vec Ideal S64x512 .f32} {q k a : Fin 4 → Fin 64 → Fin 64 → ℝ} (hq : HasK (k0_pay47 x5) q) (hk : HasK (k0_pay48 x5) k)
    (ha : HasK (k0_pay49 x7) a) : Reads rle (scaledR x5 x7) q k a where
  qt := pay56_has hq ha
  kt := pay57_has hk ha
  ke := pay58_has hk ha
  eg := pay53_has ha
  en := pay54_has ha
  ee := pay55_has ha
  el := by
    intro r h d
    show k0_pay66 (k0_pay52 x7) _ = _
    unfold k0_pay66
    pointwise
    rw [pay52_has ha, Ideal.exp_coe]
  tri := pay50_tri
  mask := pay65_mask

theorem pay23_has {x : FVec Ideal S64x256 .f32} {f : Fin 4 → Fin 64 → Fin 64 → ℝ} (hx : HasK x f) : HasK (k0_pay23 x) f := by
  intro r h d
  unfold k0_pay23
  pointwise
  exact hx r h d

theorem pay24_has {x : FVec Ideal S64x256 .f32} {f : Fin 4 → Fin 64 → Fin 64 → ℝ} (hx : HasK x f) : HasK (k0_pay24 x) f := by
  intro r h d
  unfold k0_pay24
  pointwise
  exact hx r h d

theorem pay32_diag {x : Vec Ideal S512x256 .f32} {f : Fin 4 → Fin 128 → Fin 64 → ℝ} (hx : DiagVK x f) : DiagVK (k0_pay32 x) f := by
  intro h' e h d
  unfold k0_pay32
  pointwise
  exact hx h' e h d

/-- The saved states of a chunk, the four heads' in one array. -/
def HasSt (x : Vec Ideal S1x4x128x64 .f32) (S : Fin 4 → Fin 128 → Fin 64 → ℝ) : Prop := ∀ h e d, x (ix4 0 h e d) = ((S h e d : ℝ) : EReal)

section

variable {x : Vec Ideal S1x4x128x64 .f32} {S : Fin 4 → Fin 128 → Fin 64 → ℝ} (hx : HasSt x S)
include hx

theorem st0_has : HasS (st0 x) (S 0) := by
  intro e d
  rw [← hx]
  exact congrArg x (funext fun a => Fin.ext (by fin_cases a <;> simp [ix4, Rect.unit, Rect.emb]))

theorem st1_has : HasS (st1 x) (S 1) := by
  intro e d
  rw [← hx]
  exact congrArg x (funext fun a => Fin.ext (by fin_cases a <;> simp [ix4, Rect.unit, Rect.emb]))

theorem st2_has : HasS (st2 x) (S 2) := by
  intro e d
  rw [← hx]
  exact congrArg x (funext fun a => Fin.ext (by fin_cases a <;> simp [ix4, Rect.unit, Rect.emb]))

theorem st3_has : HasS (st3 x) (S 3) := by
  intro e d
  rw [← hx]
  exact congrArg x (funext fun a => Fin.ext (by fin_cases a <;> simp [ix4, Rect.unit, Rect.emb]))

end

section Core

variable {le : Fin 64 → Fin 64 → Prop} [∀ s r, Decidable (le s r)] {pos : Fin 64 → ℕ} {lo hi T : ℕ} (hr : Rows le pos lo hi) (hT : hi ≤ T)
variable {q k a : Fin 4 → ℕ → Fin 64 → ℝ} {v w : Fin 4 → ℕ → Fin 128 → ℝ}
variable {b : Scaled Ideal} (hb : Reads le b (fun h r => q h (pos r)) (fun h r => k h (pos r)) (fun h r => a h (pos r)))
variable {xv xw : FVec Ideal S64x512 .bf16} (hv : HasV xv fun h r => v h (pos r)) (hw : HasV xw fun h r => w h (pos r))
variable {s : Vec Ideal S1x4x128x64 .f32} (hs : HasSt s fun h => state (k h) (a h) (v h) lo)
variable {D : Vec Ideal S512x256 .f32} (hD : DiagVK D fun h => dstate (q h) (a h) (w h) T hi)

include hb hv hw in
theorem coreDk_has : HasK (coreDk b xv xw) fun h => ldkt le (fun r => q h (pos r)) (fun r => a h (pos r)) (fun r => v h (pos r)) (fun r => w h (pos r)) :=
  pay39_has hw (pay23_has hb.qt) (pay26_diag hv) hb.mask

include hv hD in
theorem coreDe_has : HasK (coreDe xv D) fun h => ldke (fun r => v h (pos r)) (dstate (q h) (a h) (w h) T hi) :=
  pay41_has hv (pay32_diag hD)

include hs in
theorem states_diag : DiagVK (k0_pay67 (st0 s) (st1 s) (st2 s) (st3 s)) fun h => state (k h) (a h) (v h) lo :=
  pay67_diag (st0_has hs) (st1_has hs) (st2_has hs) (st3_has hs)

include hb hv hw hs in
theorem coreDq_has : HasK (coreDq b xv xw s) fun h =>
    ldqt le (fun r => k h (pos r)) (fun r => a h (pos r)) (fun r => v h (pos r)) (fun r => w h (pos r)) (state (k h) (a h) (v h) lo) :=
  pay35_has hw (pay25_diag hb.kt) (pay26_diag hv) hb.mask (states_diag hs)

include hr hT hb hv hw hs in
theorem coreQK_q (r : Fin 64) (h : Fin 4) (d : Fin 64) : coreQK b xv xw s D (ix2 r ⟨(colK h d).val, by omega⟩)
    = ((dqt (k h) (a h) (v h) (w h) T (pos r) d * (1 / 8) * Real.exp (cum (a h) (pos r) d) : ℝ) : EReal) :=
  (pay46_q hb.eg (coreDq_has hb hv hw hs) r h d).trans (congrArg _ (hr.ldq_eq _ _ _ _ hT r d))

include hr hT hb hv hw hD in
theorem coreQK_k (r : Fin 64) (h : Fin 4) (d : Fin 64) : coreQK b xv xw s D (ix2 r ⟨256 + (colK h d).val, by omega⟩)
    = ((dkt (q h) (a h) (v h) (w h) T (pos r) d * Real.exp (-cum (a h) (pos r) d) : ℝ) : EReal) :=
  (pay46_k hb.en hb.ee (coreDk_has hb hv hw) (coreDe_has hv hD) r h d).trans (congrArg _ (hr.ldk_eq _ _ _ _ hT r d))

include hr hT hb hw hD in
theorem coreV_has : HasV (coreV b xw D) fun h r => dv (q h) (k h) (a h) (w h) T (pos r) := fun r h e =>
  (pay40_has hw (pay24_has hb.ke) (pay32_diag hD) (pay33_has (pay23_has hb.qt) (pay25_diag hb.kt) hb.mask) r h e).trans
    (congrArg _ (hr.ldv_eq _ _ _ _ hT r e))

include hr hT hb hv hw hs hD in
theorem coreA_has : HasK (coreA b xv xw s D) fun h r => da (q h) (k h) (a h) (v h) (w h) T (pos r) := fun r h d =>
  (pay45_has hb.tri hb.qt hb.kt hb.ke (coreDq_has hb hv hw hs) (coreDk_has hb hv hw) (coreDe_has hv hD) (pay43_has hv (pay32_diag hD) hb.ke)
    (pay44_has hb.el (states_diag hs) hD) r h d).trans (congrArg _ (hr.lda_eq _ _ _ _ _ hT r d))

include hr hT hb hw hD in
theorem coreD_diag : DiagVK (coreD b xw D) fun h => dstate (q h) (a h) (w h) T lo := fun h' e h d =>
  (pay42_diag hw (pay23_has hb.qt) hb.el hD h' e h d).trans (by simp only [hr.ldstate_eq _ _ _ hT])

end Core

end Cert.Gla.Bwd
-- ==== Proof.BwdWin.lean ====
/-
  The blocks the backward kernel's grid points read, as entries of its argument arrays.
-/
module

public import proofs.«01_k».proof.Proof.Seqs
public import proofs.«01_k».proof.Proof.BwdRun
public import proofs.«01_k».proof.Proof.BwdCore
public import Idealize.ShloMosaic.Lib.Pipeline.Value

@[expose] public section

set_option maxRecDepth 16384

noncomputable section

namespace Cert.Gla.Bwd

open Cert.BwdIdeal Cert.BwdIdeal.Gen Cert.BwdIdeal.Own Idealize.ShloMosaic Idealize.ShloMosaic.TcCoe Finset

variable (m : (l : Loc nD τ sig) → Buf (Elt Ideal) l)

/-- Block indices at a point of the first 68. -/
theorem idx0 : ∀ t : Fin grid0.N, t.val < 68 → win0_0.index t 0 = (67 - t.val + 64) % 68 ∧ win0_0.index t 1 = 1 := by decide +kernel
@[inherit_doc idx0] theorem idx1 : ∀ t : Fin grid0.N, t.val < 68 → win0_1.index t 0 = (67 - t.val + 64) % 68 ∧ win0_1.index t 1 = 2 := by decide +kernel
@[inherit_doc idx0] theorem idx2 : ∀ t : Fin grid0.N, t.val < 68 → win0_2.index t 0 = (67 - t.val + 64) % 68 ∧ win0_2.index t 1 = 0 := by decide +kernel
@[inherit_doc idx0] theorem idx3 : ∀ t : Fin grid0.N, t.val < 68 →
    win0_3.index t 0 = 67 - t.val ∧ win0_3.index t 1 = 0 ∧ win0_3.index t 2 = 0 ∧ win0_3.index t 3 = 0 := by decide +kernel
@[inherit_doc idx0] theorem idx4 : ∀ t : Fin grid0.N, t.val < 68 → win0_4.index t 0 = min ((67 - t.val + 64) % 68) 63 ∧ win0_4.index t 1 = 0 := by decide +kernel
@[inherit_doc idx0] theorem idx5 : ∀ t : Fin grid0.N, t.val < 68 → win0_5.index t 0 = t.val ∧ win0_5.index t 1 = 1 := by decide +kernel
@[inherit_doc idx0] theorem idx6 : ∀ t : Fin grid0.N, t.val < 68 → win0_6.index t 0 = t.val ∧ win0_6.index t 1 = 2 := by decide +kernel
@[inherit_doc idx0] theorem idx7 : ∀ t : Fin grid0.N, t.val < 68 → win0_7.index t 0 = t.val ∧ win0_7.index t 1 = 0 := by decide +kernel
@[inherit_doc idx0] theorem idx8 : ∀ t : Fin grid0.N, t.val < 68 →
    win0_8.index t 0 = 67 - t.val ∧ win0_8.index t 1 = 0 ∧ win0_8.index t 2 = 0 ∧ win0_8.index t 3 = 0 := by decide +kernel
@[inherit_doc idx0] theorem idx9 : ∀ t : Fin grid0.N, t.val < 68 → win0_9.index t 0 = min t.val 63 ∧ win0_9.index t 1 = 0 := by decide +kernel

/-- A chunk's rows in the array: forward. -/
theorem row_up {t r : ℕ} (ht : t < 68) (hr : r < 64) : (67 - t + 64) % 68 * 64 + r = row false (64 * (67 - t) + r) := by
  rw [row_false]; split <;> omega

/-- A chunk's rows in the array: reverse. -/
theorem row_down {t r : ℕ} (ht : t < 68) (hr : r < 64) : t * 64 + r = row true (64 * (67 - t) + (63 - r)) := by
  rw [row_true]; omega

section Words

variable {x : Vec Ideal S64x512 .f32} {f : Fin 4 → Fin 64 → Fin 128 → ℝ}

theorem wordF : ∀ n : Fin 72, n.val < 68 → Scalar.cmpi .slt (Scalar.select (Scalar.cmpi .slt (BitVec.ofNat 32 n.val) 68#32)
    (Scalar.remsi (Scalar.addi (Scalar.maxsi (Scalar.subi 67#32 (BitVec.ofNat 32 n.val)) 0#32) 64#32) 68#32) (BitVec.ofNat 32 n.val)) 64#32
    = if 64 * (67 - n.val) < 256 then 0#1 else 1#1 := by decide +kernel

theorem wordR : ∀ n : Fin 72, n.val < 68 → Scalar.cmpi .slt (BitVec.ofNat 32 n.val) 64#32 = if 64 * (67 - n.val) < 256 then 0#1 else 1#1 := by decide +kernel

theorem cotF_has (i : grid0.Coords) (hi : (i 0).val < 68) (hx : ¬64 * (67 - (i 0).val) < 256 → HasV x f) :
    HasV (cotF i x) fun h r e => if 64 * (67 - (i 0).val) < 256 then 0 else f h r e := by
  intro r h e
  show Scalar.select (Scalar.cmpi .slt _ 64#32) x (broadcast S64x512 (Scalar.ofBits (F := Ideal) .f32 0x00000000#32)) _ = _
  rw [wordF (i 0) hi]
  by_cases hl : 64 * (67 - (i 0).val) < 256
  · simp only [if_pos hl]
    exact Ideal.ofBits_zero_f32
  · simp only [if_neg hl]
    exact hx hl r h e

theorem cotR_has (i : grid0.Coords) (hi : (i 0).val < 68) (hx : ¬64 * (67 - (i 0).val) < 256 → HasV x f) :
    HasV (cotR i x) fun h r e => if 64 * (67 - (i 0).val) < 256 then 0 else f h r e := by
  intro r h e
  show Scalar.select (Scalar.cmpi .slt (BitVec.ofNat 32 (i 0).val) 64#32) x (broadcast S64x512 (Scalar.ofBits (F := Ideal) .f32 0x00000000#32)) _ = _
  rw [wordR (i 0) hi]
  by_cases hl : 64 * (67 - (i 0).val) < 256
  · simp only [if_pos hl]
    exact Ideal.ofBits_zero_f32
  · simp only [if_neg hl]
    exact hx hl r h e

end Words

variable {m} {Z A W : ℕ → ℕ → ℝ} {c : Dev nD} (t : Fin cfg0.N) (ht : t.val < 68)

/-! ## Entries of the blocks -/

theorem read0 (h : ∀ i : S4608x2432.Idx, V m c main_arg0 i = ((Z (i 0).val (i 1).val : ℝ) : EReal)) (r : Fin 64) (j : Fin 512) :
    X0_0 m c t (ix2 r j) = ((Z (win0_0.index t 0 * 64 + r.val) (win0_0.index t 1 * 512 + j.val) : ℝ) : EReal) := by
  unfold X0_0 Pipeline.Window.fill
  rw [dif_pos (moved0_0 t _)]
  refine (h (((cfg0.win 0).rect t).emb _)).trans ?_
  rw [(cfg0.win 0).rect_emb_val t _ 0, (cfg0.win 0).rect_emb_val t _ 1]
  rfl

theorem read1 (h : ∀ i : S4608x2432.Idx, V m c main_arg0 i = ((Z (i 0).val (i 1).val : ℝ) : EReal)) (r : Fin 64) (j : Fin 512) :
    X0_1 m c t (ix2 r j) = ((Z (win0_1.index t 0 * 64 + r.val) (win0_1.index t 1 * 512 + j.val) : ℝ) : EReal) := by
  unfold X0_1 Pipeline.Window.fill
  rw [dif_pos (moved0_1 t _)]
  refine (h (((cfg0.win 1).rect t).emb _)).trans ?_
  rw [(cfg0.win 1).rect_emb_val t _ 0, (cfg0.win 1).rect_emb_val t _ 1]
  rfl

theorem read2 (h : ∀ i : S4608x512.Idx, V m c main_arg1 i = ((A (i 0).val (i 1).val : ℝ) : EReal)) (r : Fin 64) (j : Fin 512) :
    iblk m c 2 t (ix2 r j) = ((A (win0_2.index t 0 * 64 + r.val) (win0_2.index t 1 * 512 + j.val) : ℝ) : EReal) := by
  refine (h (((cfg0.win 2).rect t).emb (ix2 r j))).trans ?_
  rw [(cfg0.win 2).rect_emb_val t _ 0, (cfg0.win 2).rect_emb_val t _ 1]
  rfl

theorem read4 (h : ∀ i : S4096x512.Idx, V m c main_arg2 i = ((W (i 0).val (i 1).val : ℝ) : EReal)) (r : Fin 64) (j : Fin 512) :
    iblk m c 4 t (ix2 r j) = ((W (win0_4.index t 0 * 64 + r.val) (win0_4.index t 1 * 512 + j.val) : ℝ) : EReal) := by
  refine (h (((cfg0.win 4).rect t).emb (ix2 r j))).trans ?_
  rw [(cfg0.win 4).rect_emb_val t _ 0, (cfg0.win 4).rect_emb_val t _ 1]
  rfl

theorem read5 (h : ∀ i : S4608x2432.Idx, V m c main_arg0 i = ((Z (i 0).val (i 1).val : ℝ) : EReal)) (r : Fin 64) (j : Fin 512) :
    X0_5 m c t (ix2 r j) = ((Z (win0_5.index t 0 * 64 + r.val) (win0_5.index t 1 * 512 + j.val) : ℝ) : EReal) := by
  unfold X0_5 Pipeline.Window.fill
  rw [dif_pos (moved0_5 t _)]
  refine (h (((cfg0.win 5).rect t).emb _)).trans ?_
  rw [(cfg0.win 5).rect_emb_val t _ 0, (cfg0.win 5).rect_emb_val t _ 1]
  rfl

theorem read6 (h : ∀ i : S4608x2432.Idx, V m c main_arg0 i = ((Z (i 0).val (i 1).val : ℝ) : EReal)) (r : Fin 64) (j : Fin 512) :
    X0_6 m c t (ix2 r j) = ((Z (win0_6.index t 0 * 64 + r.val) (win0_6.index t 1 * 512 + j.val) : ℝ) : EReal) := by
  unfold X0_6 Pipeline.Window.fill
  rw [dif_pos (moved0_6 t _)]
  refine (h (((cfg0.win 6).rect t).emb _)).trans ?_
  rw [(cfg0.win 6).rect_emb_val t _ 0, (cfg0.win 6).rect_emb_val t _ 1]
  rfl

theorem read7 (h : ∀ i : S4608x512.Idx, V m c main_arg1 i = ((A (i 0).val (i 1).val : ℝ) : EReal)) (r : Fin 64) (j : Fin 512) :
    iblk m c 7 t (ix2 r j) = ((A (win0_7.index t 0 * 64 + r.val) (win0_7.index t 1 * 512 + j.val) : ℝ) : EReal) := by
  refine (h (((cfg0.win 7).rect t).emb (ix2 r j))).trans ?_
  rw [(cfg0.win 7).rect_emb_val t _ 0, (cfg0.win 7).rect_emb_val t _ 1]
  rfl

theorem read9 (h : ∀ i : S4096x512.Idx, V m c main_arg2 i = ((W (i 0).val (i 1).val : ℝ) : EReal)) (r : Fin 64) (j : Fin 512) :
    iblk m c 9 t (ix2 r j) = ((W (win0_9.index t 0 * 64 + r.val) (win0_9.index t 1 * 512 + j.val) : ℝ) : EReal) := by
  refine (h (((cfg0.win 9).rect t).emb (ix2 r j))).trans ?_
  rw [(cfg0.win 9).rect_emb_val t _ 0, (cfg0.win 9).rect_emb_val t _ 1]
  rfl

include ht

section Reads

variable (hZ : ∀ i : S4608x2432.Idx, V m c main_arg0 i = ((Z (i 0).val (i 1).val : ℝ) : EReal))
include hZ

theorem queryF : HasK (k0_pay47 (X0_0 m c t)) fun h r d => sq Z false h (64 * (67 - t.val) + r) d := by
  intro r h d
  unfold k0_pay47
  pointwise
  refine (read0 t hZ r _).trans ?_
  rw [(idx0 t ht).1, (idx0 t ht).2, row_up ht r.isLt]
  rfl

theorem keyF : HasK (k0_pay10 (X0_0 m c t)) fun h r d => sk Z false h (64 * (67 - t.val) + r) d := by
  intro r h d
  unfold k0_pay10
  pointwise
  refine (read0 t hZ r _).trans ?_
  rw [(idx0 t ht).1, (idx0 t ht).2, row_up ht r.isLt]
  exact congrArg (fun n => ((Z _ n : ℝ) : EReal)) (show 1 * 512 + (256 + (64 * h.val + d.val)) = 768 + (64 * h.val + d.val) by omega)

theorem valueF : HasV (k0_pay21 (X0_1 m c t)) fun h r e => sv Z false h (64 * (67 - t.val) + r) e := by
  intro r h e
  refine (read1 t hZ r _).trans ?_
  rw [(idx1 t ht).1, (idx1 t ht).2, row_up ht r.isLt]
  rfl

theorem queryR : HasK (k0_pay47 (X0_5 m c t)) fun h r d => sq Z true h (64 * (67 - t.val) + (63 - r)) d := by
  intro r h d
  unfold k0_pay47
  pointwise
  refine (read5 t hZ r _).trans ?_
  rw [(idx5 t ht).1, (idx5 t ht).2, row_down ht r.isLt]
  rfl

theorem keyR : HasK (k0_pay48 (X0_5 m c t)) fun h r d => sk Z true h (64 * (67 - t.val) + (63 - r)) d := by
  intro r h d
  unfold k0_pay48
  pointwise
  refine (read5 t hZ r _).trans ?_
  rw [(idx5 t ht).1, (idx5 t ht).2, row_down ht r.isLt]
  exact congrArg (fun n => ((Z _ n : ℝ) : EReal)) (show 1 * 512 + (256 + (64 * h.val + d.val)) = 768 + (64 * h.val + d.val) by omega)

theorem valueR : HasV (k0_pay59 (X0_6 m c t)) fun h r e => sv Z true h (64 * (67 - t.val) + (63 - r)) e := by
  intro r h e
  refine (read6 t hZ r _).trans ?_
  rw [(idx6 t ht).1, (idx6 t ht).2, row_down ht r.isLt]
  rfl

end Reads

section Reads

variable (hA : ∀ i : S4608x512.Idx, V m c main_arg1 i = ((A (i 0).val (i 1).val : ℝ) : EReal))
include hA

theorem decayF : HasK (k0_pay11 (iblk m c 2 t)) fun h r d => sa A false h (64 * (67 - t.val) + r) d := by
  intro r h d
  unfold k0_pay11
  pointwise
  refine (read2 t hA r _).trans ?_
  rw [(idx2 t ht).1, (idx2 t ht).2, row_up ht r.isLt]
  rfl

theorem decayR : HasK (k0_pay49 (iblk m c 7 t)) fun h r d => sa A true h (64 * (67 - t.val) + (63 - r)) d := by
  intro r h d
  unfold k0_pay49
  pointwise
  refine (read7 t hA r _).trans ?_
  rw [(idx7 t ht).1, (idx7 t ht).2, row_down ht r.isLt]
  exact congrArg (fun n => ((A _ n : ℝ) : EReal)) (show 0 * 512 + (256 + (64 * h.val + d.val)) = true.toNat * 256 + (64 * h.val + d.val) by rw [Bool.toNat_true]; omega)

end Reads

section Reads

variable (hW : ∀ i : S4096x512.Idx, V m c main_arg2 i = ((W (i 0).val (i 1).val : ℝ) : EReal))
include hW

theorem cotangentF (hc : ((grid0.coords t) 0).val = t.val) : HasV (cotF (grid0.coords t) (iblk m c 4 t)) fun h r e => sw W false h (64 * (67 - t.val) + r) e := by
  intro r h e
  refine (cotF_has (f := fun h r e => W (row false (64 * (67 - t.val) + r)) (128 * h.val + e.val)) _ (by rw [hc]; exact ht) (fun hl r h e => ?_) r h e).trans ?_
  · rw [hc] at hl
    refine (read4 t hW r _).trans ?_
    rw [(idx4 t ht).1, (idx4 t ht).2, Nat.zero_mul, Nat.zero_add, show min ((67 - t.val + 64) % 68) 63 = (67 - t.val + 64) % 68 by omega, row_up ht r.isLt]
    rfl
  · rw [hc]
    exact congrArg _ (if_congr (show 64 * (67 - t.val) < 256 ↔ 64 * (67 - t.val) + r.val < 256 by omega) rfl rfl)

theorem cotangentR (hc : ((grid0.coords t) 0).val = t.val) : HasV (cotR (grid0.coords t) (iblk m c 9 t)) fun h r e => sw W true h (64 * (67 - t.val) + (63 - r)) e := by
  intro r h e
  refine (cotR_has (f := fun h r e => W (row true (64 * (67 - t.val) + (63 - r))) (128 * h.val + e.val)) _ (by rw [hc]; exact ht) (fun hl r h e => ?_) r h e).trans ?_
  · rw [hc] at hl
    refine (read9 t hW r _).trans ?_
    rw [(idx9 t ht).1, (idx9 t ht).2, Nat.zero_mul, Nat.zero_add, show min t.val 63 = t.val by omega, row_down ht r.isLt]
    rfl
  · rw [hc]
    exact congrArg _ (if_congr (show 64 * (67 - t.val) < 256 ↔ 64 * (67 - t.val) + (63 - r.val) < 256 by omega) rfl rfl)

end Reads

theorem stateF (hS : IsS Z A false (V m c main_v54)) : HasSt (iblk m c 3 t) fun h => state (sk Z false h) (sa A false h) (sv Z false h) (64 * (67 - t.val)) := by
  intro h e d
  refine (congrArg (V m c main_v54) (funext fun a => Fin.ext ?_)).trans (hS ⟨67 - t.val, by omega⟩ h e d)
  have hi := idx3 t ht
  refine ((cfg0.win 3).rect_emb_val t _ a).trans ?_
  match a with
  | ⟨0, _⟩ => show win0_3.index t 0 * 1 + 0 = 67 - t.val; rw [hi.1]; omega
  | ⟨1, _⟩ => show win0_3.index t 1 * 4 + h.val = h.val; rw [hi.2.1]; omega
  | ⟨2, _⟩ => show win0_3.index t 2 * 128 + e.val = e.val; rw [hi.2.2.1]; omega
  | ⟨3, _⟩ => show win0_3.index t 3 * 64 + d.val = d.val; rw [hi.2.2.2]; omega

theorem stateR (hS : IsS Z A true (V m c main_v55)) : HasSt (iblk m c 8 t) fun h => state (sk Z true h) (sa A true h) (sv Z true h) (64 * (67 - t.val)) := by
  intro h e d
  refine (congrArg (V m c main_v55) (funext fun a => Fin.ext ?_)).trans (hS ⟨67 - t.val, by omega⟩ h e d)
  have hi := idx8 t ht
  refine ((cfg0.win 8).rect_emb_val t _ a).trans ?_
  match a with
  | ⟨0, _⟩ => show win0_8.index t 0 * 1 + 0 = 67 - t.val; rw [hi.1]; omega
  | ⟨1, _⟩ => show win0_8.index t 1 * 4 + h.val = h.val; rw [hi.2.1]; omega
  | ⟨2, _⟩ => show win0_8.index t 2 * 128 + e.val = e.val; rw [hi.2.2.1]; omega
  | ⟨3, _⟩ => show win0_8.index t 3 * 64 + d.val = d.val; rw [hi.2.2.2]; omega

end Cert.Gla.Bwd
-- ==== Proof.BwdTail.lean ====
/-
  What the backward kernel's last points leave: zero in every output.
-/
module

public import proofs.«01_k».proof.Proof.BwdStep

@[expose] public section

set_option maxRecDepth 16384

noncomputable section

namespace Cert.BwdIdeal.Own

open Cert.BwdIdeal.Gen
open Idealize.ShloMosaic Idealize.ShloMosaic.TcCoe Idealize.ShloMosaic.Tactic

variable {F : FTy → Type} [FloatOps F]

variable (c : Dev nD) (t : Fin cfg0.N) (hc0 : ¬cond0_0 (grid0.coords t)) (hc1 : cond0_1 (grid0.coords t)) (hc2 : ¬cond0_2 (grid0.coords t))
  (x0 x1 x2 : Vec F S64x512 .f32) (x3 : Vec F S1x4x128x64 .f32) (x4 x5 x6 x7 : Vec F S64x512 .f32) (x8 : Vec F S1x4x128x64 .f32) (x9 : Vec F S64x512 .f32) (xs0 xs1 : Vec F S512x256 .f32)

theorem out0_C_10_eq : out0_C_10 c t hc0 hc1 hc2 x0 x1 x2 x3 x4 x5 x6 x7 x8 x9 xs0 xs1 = k0_pay3 := by
  unfold out0_C_10
  rw [View.read_writes_eq_canon _ _ _ (fun _ => cover0_C_10 ..)]
  unfold atC kernelRun0_C
  dsimp only
  sl_unfold_words
  simp only [View.canon_cons_unit_zero (S := S64x512) hz2]

theorem out0_C_11_eq : out0_C_11 c t hc0 hc1 hc2 x0 x1 x2 x3 x4 x5 x6 x7 x8 x9 xs0 xs1 = k0_pay4 := by
  unfold out0_C_11
  rw [View.read_writes_eq_canon _ _ _ (fun _ => cover0_C_11 ..)]
  unfold atC kernelRun0_C
  dsimp only
  sl_unfold_words
  simp only [View.canon_cons_unit_zero (S := S64x512) hz2]

theorem out0_C_12_eq : out0_C_12 c t hc0 hc1 hc2 x0 x1 x2 x3 x4 x5 x6 x7 x8 x9 xs0 xs1 = k0_pay5 := by
  unfold out0_C_12
  rw [View.read_writes_eq_canon _ _ _ (fun _ => cover0_C_12 ..)]
  unfold atC kernelRun0_C
  dsimp only
  sl_unfold_words
  simp only [View.canon_cons_unit_zero (S := S64x256) hz2]

theorem out0_C_13_eq : out0_C_13 c t hc0 hc1 hc2 x0 x1 x2 x3 x4 x5 x6 x7 x8 x9 xs0 xs1 = k0_pay6 := by
  unfold out0_C_13
  rw [View.read_writes_eq_canon _ _ _ (fun _ => cover0_C_13 ..)]
  unfold atC kernelRun0_C
  dsimp only
  sl_unfold_words
  simp only [View.canon_cons_unit_zero (S := S64x512) hz2]

theorem out0_C_14_eq : out0_C_14 c t hc0 hc1 hc2 x0 x1 x2 x3 x4 x5 x6 x7 x8 x9 xs0 xs1 = k0_pay7 := by
  unfold out0_C_14
  rw [View.read_writes_eq_canon _ _ _ (fun _ => cover0_C_14 ..)]
  unfold atC kernelRun0_C
  dsimp only
  sl_unfold_words
  simp only [View.canon_cons_unit_zero (S := S64x512) hz2]

theorem out0_C_15_eq : out0_C_15 c t hc0 hc1 hc2 x0 x1 x2 x3 x4 x5 x6 x7 x8 x9 xs0 xs1 = k0_pay8 := by
  unfold out0_C_15
  rw [View.read_writes_eq_canon _ _ _ (fun _ => cover0_C_15 ..)]
  unfold atC kernelRun0_C
  dsimp only
  sl_unfold_words
  simp only [View.canon_cons_unit_zero (S := S64x256) hz2]

end Cert.BwdIdeal.Own
-- ==== Proof.BwdScan.lean ====
/-
  The backward kernel's pass over its grid points: the gradient of the state it carries, and what each point leaves in its output blocks.
-/
module

public import proofs.«01_k».proof.Proof.BwdWin
public import proofs.«01_k».proof.Proof.BwdTail

@[expose] public section

set_option maxRecDepth 16384

noncomputable section

namespace Cert.Gla.Bwd

open Cert.BwdIdeal Cert.BwdIdeal.Gen Cert.BwdIdeal.Own Idealize.ShloMosaic Idealize.ShloMosaic.TcCoe Finset

variable (m : (l : Loc nD τ sig) → Buf (Elt Ideal) l) (c : Dev nD) (t : Fin cfg0.N)

/-- What a grid point leaves, given the gradients of the states it found. -/
def outs (D0 D1 : Vec Ideal S512x256 .f32) :
    Vec Ideal S64x512 .f32 × Vec Ideal S64x512 .f32 × Vec Ideal S64x256 .f32 × Vec Ideal S64x512 .f32 × Vec Ideal S64x512 .f32 × Vec Ideal S64x256 .f32
      × Vec Ideal S512x256 .f32 × Vec Ideal S512x256 .f32 :=
  (coreQK (scaledF (X0_0 m c t) (iblk m c 2 t)) (k0_pay21 (X0_1 m c t)) (cotF (grid0.coords t) (iblk m c 4 t)) (iblk m c 3 t) D0,
   coreV (scaledF (X0_0 m c t) (iblk m c 2 t)) (cotF (grid0.coords t) (iblk m c 4 t)) D0,
   coreA (scaledF (X0_0 m c t) (iblk m c 2 t)) (k0_pay21 (X0_1 m c t)) (cotF (grid0.coords t) (iblk m c 4 t)) (iblk m c 3 t) D0,
   coreQK (scaledR (X0_5 m c t) (iblk m c 7 t)) (k0_pay59 (X0_6 m c t)) (cotR (grid0.coords t) (iblk m c 9 t)) (iblk m c 8 t) D1,
   coreV (scaledR (X0_5 m c t) (iblk m c 7 t)) (cotR (grid0.coords t) (iblk m c 9 t)) D1,
   coreA (scaledR (X0_5 m c t) (iblk m c 7 t)) (k0_pay59 (X0_6 m c t)) (cotR (grid0.coords t) (iblk m c 9 t)) (iblk m c 8 t) D1,
   coreD (scaledF (X0_0 m c t) (iblk m c 2 t)) (cotF (grid0.coords t) (iblk m c 4 t)) D0,
   coreD (scaledR (X0_5 m c t) (iblk m c 7 t)) (cotR (grid0.coords t) (iblk m c 9 t)) D1)

set_option maxHeartbeats 2000000 in
theorem outs_A (h0 : t.val % 72 = 0) (h1 : ¬68 ≤ t.val) (h2 : t.val < 68) : outsAt0 m c t.val t.isLt = outs m c t (k0_pay1 (F := Ideal)) (k0_pay2 (F := Ideal)) := by
  rw [outsAt0_A m c t h0 h1 h2, ptA, out0_A_10_eq, out0_A_11_eq, out0_A_12_eq, out0_A_13_eq, out0_A_14_eq, out0_A_15_eq, sout0_A_0_eq, sout0_A_1_eq]
  rfl

set_option maxHeartbeats 2000000 in
theorem outs_B (h0 : ¬t.val % 72 = 0) (h1 : ¬68 ≤ t.val) (h2 : t.val < 68) :
    outsAt0 m c t.val t.isLt = outs m c t (outsAt0 m c (t.val - 1) (Nat.lt_of_le_of_lt (Nat.sub_le _ _) t.isLt)).2.2.2.2.2.2.1
      (outsAt0 m c (t.val - 1) (Nat.lt_of_le_of_lt (Nat.sub_le _ _) t.isLt)).2.2.2.2.2.2.2 := by
  rw [outsAt0_B m c t h0 h1 h2, ptB, out0_B_10_eq, out0_B_11_eq, out0_B_12_eq, out0_B_13_eq, out0_B_14_eq, out0_B_15_eq, sout0_B_0_eq, sout0_B_1_eq]
  rfl

/-- Past the last chunk every output is zero. -/
structure Zero (o : Vec Ideal S64x512 .f32 × Vec Ideal S64x512 .f32 × Vec Ideal S64x256 .f32 × Vec Ideal S64x512 .f32 × Vec Ideal S64x512 .f32 × Vec Ideal S64x256 .f32
      × Vec Ideal S512x256 .f32 × Vec Ideal S512x256 .f32) : Prop where
  z0 : ∀ y, o.1 y = 0
  z1 : ∀ y, o.2.1 y = 0
  z2 : ∀ y, o.2.2.1 y = 0
  z3 : ∀ y, o.2.2.2.1 y = 0
  z4 : ∀ y, o.2.2.2.2.1 y = 0
  z5 : ∀ y, o.2.2.2.2.2.1 y = 0

set_option maxHeartbeats 2000000 in
theorem outs_C (h0 : ¬t.val % 72 = 0) (h1 : 68 ≤ t.val) (h2 : ¬t.val < 68) : Zero (outsAt0 m c t.val t.isLt) := by
  rw [outsAt0_C m c t h0 h1 h2, ptC, out0_C_10_eq, out0_C_11_eq, out0_C_12_eq, out0_C_13_eq, out0_C_14_eq, out0_C_15_eq]
  exact ⟨fun _ => Ideal.ofBits_zero_f32, fun _ => Ideal.ofBits_zero_f32, fun _ => Ideal.ofBits_zero_f32, fun _ => Ideal.ofBits_zero_f32,
    fun _ => Ideal.ofBits_zero_f32, fun _ => Ideal.ofBits_zero_f32⟩

variable {m} {c} {Z A W : ℕ → ℕ → ℝ}

theorem point (t : Fin cfg0.N) : ((grid0.coords t) 0).val = t.val := by
  have e0 : (grid0.coords t 0).val = t.val / 1 % 72 := Pipeline.Grid.coords_val t 0 (by decide) rfl
  have hN : t.val < 72 := lt_of_lt_of_eq t.isLt N_0
  rw [e0]; omega

/-- The gradient of the state a direction carries. -/
def Carries (Z A W : ℕ → ℕ → ℝ) (b : Bool) (n : ℕ) (D : Vec Ideal S512x256 .f32) : Prop :=
  DiagVK D fun h => dstate (sq Z b h) (sa A b h) (sw W b h) 4352 n

/-- What one direction of a grid point leaves, its rows at the positions `p`. -/
structure Leaves (Z A W : ℕ → ℕ → ℝ) (b : Bool) (p : Fin 64 → ℕ) (qk : Vec Ideal S64x512 .f32) (v : Vec Ideal S64x512 .f32) (a : Vec Ideal S64x256 .f32) : Prop where
  hq : ∀ (r : Fin 64) (h : Fin 4) (d : Fin 64), qk (ix2 r ⟨(colK h d).val, by omega⟩) = ((gq Z A W b h (p r) d : ℝ) : EReal)
  hk : ∀ (r : Fin 64) (h : Fin 4) (d : Fin 64), qk (ix2 r ⟨256 + (colK h d).val, by omega⟩) = ((gk Z A W b h (p r) d : ℝ) : EReal)
  hv : HasV v fun h r => gv Z A W b h (p r)
  ha : HasK a fun h r => ga Z A W b h (p r)

variable (hZ : ∀ i : S4608x2432.Idx, V m c main_arg0 i = ((Z (i 0).val (i 1).val : ℝ) : EReal))
  (hA : ∀ i : S4608x512.Idx, V m c main_arg1 i = ((A (i 0).val (i 1).val : ℝ) : EReal))
  (hW : ∀ i : S4096x512.Idx, V m c main_arg2 i = ((W (i 0).val (i 1).val : ℝ) : EReal))
  (hSf : IsS Z A false (V m c main_v54)) (hSr : IsS Z A true (V m c main_v55))

theorem upto {t : ℕ} (ht : t < 68) : 64 * (67 - t) + 64 ≤ 4352 := by omega

section One

variable {t} (ht : t.val < 68) {D0 D1 : Vec Ideal S512x256 .f32} (h0 : Carries Z A W false (64 * (67 - t.val) + 64) D0)
  (h1 : Carries Z A W true (64 * (67 - t.val) + 64) D1)
include ht hZ hA hW

include hSf h0 in
theorem outs_leavesF : Leaves Z A W false (fun r => 64 * (67 - t.val) + r.val) (outs m c t D0 D1).1 (outs m c t D0 D1).2.1 (outs m c t D0 D1).2.2.1 where
  hq := coreQK_q (rows_up _) (upto ht) (scaledF_reads (queryF t ht hZ) (keyF t ht hZ) (decayF t ht hA)) (valueF t ht hZ) (cotangentF t ht hW (point t)) (stateF t ht hSf)
  hk := coreQK_k (rows_up _) (upto ht) (scaledF_reads (queryF t ht hZ) (keyF t ht hZ) (decayF t ht hA)) (valueF t ht hZ) (cotangentF t ht hW (point t)) h0
  hv := coreV_has (rows_up _) (upto ht) (scaledF_reads (queryF t ht hZ) (keyF t ht hZ) (decayF t ht hA)) (cotangentF t ht hW (point t)) h0
  ha := coreA_has (rows_up _) (upto ht) (scaledF_reads (queryF t ht hZ) (keyF t ht hZ) (decayF t ht hA)) (valueF t ht hZ) (cotangentF t ht hW (point t)) (stateF t ht hSf) h0

include hSr h1 in
theorem outs_leavesR :
    Leaves Z A W true (fun r => 64 * (67 - t.val) + (63 - r.val)) (outs m c t D0 D1).2.2.2.1 (outs m c t D0 D1).2.2.2.2.1 (outs m c t D0 D1).2.2.2.2.2.1 where
  hq := coreQK_q (rows_down _) (upto ht) (scaledR_reads (queryR t ht hZ) (keyR t ht hZ) (decayR t ht hA)) (valueR t ht hZ) (cotangentR t ht hW (point t)) (stateR t ht hSr)
  hk := coreQK_k (rows_down _) (upto ht) (scaledR_reads (queryR t ht hZ) (keyR t ht hZ) (decayR t ht hA)) (valueR t ht hZ) (cotangentR t ht hW (point t)) h1
  hv := coreV_has (rows_down _) (upto ht) (scaledR_reads (queryR t ht hZ) (keyR t ht hZ) (decayR t ht hA)) (cotangentR t ht hW (point t)) h1
  ha := coreA_has (rows_down _) (upto ht) (scaledR_reads (queryR t ht hZ) (keyR t ht hZ) (decayR t ht hA)) (valueR t ht hZ) (cotangentR t ht hW (point t)) (stateR t ht hSr) h1

include h0 in
theorem outs_carriesF : Carries Z A W false (64 * (67 - t.val)) (outs m c t D0 D1).2.2.2.2.2.2.1 :=
  coreD_diag (rows_up _) (upto ht) (scaledF_reads (queryF t ht hZ) (keyF t ht hZ) (decayF t ht hA)) (cotangentF t ht hW (point t)) h0

include h1 in
theorem outs_carriesR : Carries Z A W true (64 * (67 - t.val)) (outs m c t D0 D1).2.2.2.2.2.2.2 :=
  coreD_diag (rows_down _) (upto ht) (scaledR_reads (queryR t ht hZ) (keyR t ht hZ) (decayR t ht hA)) (cotangentR t ht hW (point t)) h1

end One

/-- After the last position the gradient of the state is zero. -/
theorem carries_zero (b : Bool) {D : Vec Ideal S512x256 .f32} (hD : ∀ y, D y = 0) : Carries Z A W b 4352 D := by
  intro h' e h d
  rw [hD]
  simp only [dstate, future, Ico_self, sum_empty, mul_zero, EReal.coe_zero, ite_self]

include hZ hA hW in
/-- Every point below 68 leaves `outs` of the gradients of the states after its chunk. -/
theorem step : ∀ (n : ℕ) (hn : n < cfg0.N), n < 68 → ∃ D0 D1, Carries Z A W false (64 * (67 - n) + 64) D0 ∧ Carries Z A W true (64 * (67 - n) + 64) D1 ∧
    outsAt0 m c n hn = outs m c ⟨n, hn⟩ D0 D1
  | 0, hn, _ => ⟨k0_pay1 (F := Ideal), k0_pay2 (F := Ideal),
      carries_zero false fun y => by unfold k0_pay1; exact (congrFun (shapeCast_self _ _) y).trans Ideal.ofBits_zero_f32,
      carries_zero true fun y => by unfold k0_pay2; exact (congrFun (shapeCast_self _ _) y).trans Ideal.ofBits_zero_f32,
      outs_A m c ⟨0, hn⟩ (Nat.zero_mod _) (by show ¬68 ≤ 0; omega) (by show 0 < 68; omega)⟩
  | n + 1, hn, ht => by
      obtain ⟨D0, D1, h0, h1, e⟩ := step n (by omega) (by omega)
      have q0 := outs_carriesF hZ hA hW (t := ⟨n, by omega⟩) (show n < 68 by omega) (D1 := D1) h0
      have q1 := outs_carriesR hZ hA hW (t := ⟨n, by omega⟩) (show n < 68 by omega) (D0 := D0) h1
      rw [← e] at q0 q1
      refine ⟨_, _, ?_, ?_, outs_B m c ⟨n + 1, hn⟩ (by show ¬(n + 1) % 72 = 0; omega) (by show ¬68 ≤ n + 1; omega) ht⟩
      · rw [show 64 * (67 - (n + 1)) + 64 = 64 * (67 - n) by omega]; exact q0
      · rw [show 64 * (67 - (n + 1)) + 64 = 64 * (67 - n) by omega]; exact q1

include hZ hA hW hSf in
theorem leavesF {t : Fin cfg0.N} (ht : t.val < 68) : Leaves Z A W false (fun r => 64 * (67 - t.val) + r.val)
    (outsAt0 m c t.val t.isLt).1 (outsAt0 m c t.val t.isLt).2.1 (outsAt0 m c t.val t.isLt).2.2.1 := by
  obtain ⟨D0, D1, h0, _, e⟩ := step hZ hA hW t.val t.isLt ht
  rw [e]
  exact outs_leavesF hZ hA hW hSf ht h0

include hZ hA hW hSr in
theorem leavesR {t : Fin cfg0.N} (ht : t.val < 68) : Leaves Z A W true (fun r => 64 * (67 - t.val) + (63 - r.val))
    (outsAt0 m c t.val t.isLt).2.2.2.1 (outsAt0 m c t.val t.isLt).2.2.2.2.1 (outsAt0 m c t.val t.isLt).2.2.2.2.2.1 := by
  obtain ⟨D0, D1, _, h1, e⟩ := step hZ hA hW t.val t.isLt ht
  rw [e]
  exact outs_leavesR hZ hA hW hSr ht h1

end Cert.Gla.Bwd
-- ==== Proof.BwdBlocks.lean ====
/-
  The backward kernel's results, block by block: each block of a result array after the run is what the grid point that writes it back left.
-/
module

public import proofs.«01_k».proof.Proof.BwdRun
public import Idealize.ShloMosaic.Lib.Pipeline.Value

@[expose] public section

noncomputable section

namespace Cert.BwdIdeal.Own

open Cert.BwdIdeal Cert.BwdIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to result 0: its block of what the run holds there after the body. -/
theorem flushed10 (c : Dev nD) (t : Fin cfg0.N) :
    (dats m 0 c).flushed 10 t = (cfg0.win 10).cut (grid0.coords t) ((outsAt0 m c t.val t.isLt).1) := by
  show (cfg0.win 10).cut (grid0.coords t) ((dats m 0 c).after 10 t) = _
  rw [after0_10]

/-- Distinct points write distinct blocks, -/
theorem idx_inj10 : ∀ t t' : Fin cfg0.N, win0_10.index t = win0_10.index t' → t = t' :=
  (by decide +kernel : ∀ t t' : Fin grid0.N, win0_10.index t = win0_10.index t' → t = t')

/-- so the blocks of two points share no index. -/
theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (idx_inj10 t t' h)

/-- Block `t` of the final array is what point `t` wrote back: no other point's block meets it. -/
theorem blocks10 (c : Dev nD) (t : Fin cfg0.N) (hf : (cfg0.win 10).flush t = true) :
    ((cfg0.win 10).blk t).view.read (Elt F) ((dats m 0 c).arrAt 10 cfg0.N) = (dats m 0 c).flushed 10 t :=
  (dats m 0 c).read_blk_arrAt_eq_flushed 10 disjoint10 cfg0.N t t.isLt hf

/-- What point `t` writes back to result 1: its block of what the run holds there after the body. -/
theorem flushed11 (c : Dev nD) (t : Fin cfg0.N) :
    (dats m 0 c).flushed 11 t = (cfg0.win 11).cut (grid0.coords t) ((outsAt0 m c t.val t.isLt).2.1) := by
  show (cfg0.win 11).cut (grid0.coords t) ((dats m 0 c).after 11 t) = _
  rw [after0_11]

/-- Distinct points write distinct blocks, -/
theorem idx_inj11 : ∀ t t' : Fin cfg0.N, win0_11.index t = win0_11.index t' → t = t' :=
  (by decide +kernel : ∀ t t' : Fin grid0.N, win0_11.index t = win0_11.index t' → t = t')

/-- so the blocks of two points share no index. -/
theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (idx_inj11 t t' h)

/-- Block `t` of the final array is what point `t` wrote back: no other point's block meets it. -/
theorem blocks11 (c : Dev nD) (t : Fin cfg0.N) (hf : (cfg0.win 11).flush t = true) :
    ((cfg0.win 11).blk t).view.read (Elt F) ((dats m 0 c).arrAt 11 cfg0.N) = (dats m 0 c).flushed 11 t :=
  (dats m 0 c).read_blk_arrAt_eq_flushed 11 disjoint11 cfg0.N t t.isLt hf

/-- What point `t` writes back to result 2: its block of what the run holds there after the body. -/
theorem flushed12 (c : Dev nD) (t : Fin cfg0.N) :
    (dats m 0 c).flushed 12 t = (cfg0.win 12).cut (grid0.coords t) ((outsAt0 m c t.val t.isLt).2.2.1) := by
  show (cfg0.win 12).cut (grid0.coords t) ((dats m 0 c).after 12 t) = _
  rw [after0_12]

/-- Distinct points write distinct blocks, -/
theorem idx_inj12 : ∀ t t' : Fin cfg0.N, win0_12.index t = win0_12.index t' → t = t' :=
  (by decide +kernel : ∀ t t' : Fin grid0.N, win0_12.index t = win0_12.index t' → t = t')

/-- so the blocks of two points share no index. -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- Block `t` of the final array is what point `t` wrote back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- What point `t` writes back to result 3: its block of what the run holds there after the body. -/
theorem flushed13 (c : Dev nD) (t : Fin cfg0.N) :
    (dats m 0 c).flushed 13 t = (cfg0.win 13).cut (grid0.coords t) ((outsAt0 m c t.val t.isLt).2.2.2.1) := by
  show (cfg0.win 13).cut (grid0.coords t) ((dats m 0 c).after 13 t) = _
  rw [after0_13]

/-- Distinct points write distinct blocks, -/
theorem idx_inj13 : ∀ t t' : Fin cfg0.N, win0_13.index t = win0_13.index t' → t = t' :=
  (by decide +kernel : ∀ t t' : Fin grid0.N, win0_13.index t = win0_13.index t' → t = t')

/-- so the blocks of two points share no index. -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- Block `t` of the final array is what point `t` wrote back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- What point `t` writes back to result 4: its block of what the run holds there after the body. -/
theorem flushed14 (c : Dev nD) (t : Fin cfg0.N) :
    (dats m 0 c).flushed 14 t = (cfg0.win 14).cut (grid0.coords t) ((outsAt0 m c t.val t.isLt).2.2.2.2.1) := by
  show (cfg0.win 14).cut (grid0.coords t) ((dats m 0 c).after 14 t) = _
  rw [after0_14]

/-- Distinct points write distinct blocks, -/
theorem idx_inj14 : ∀ t t' : Fin cfg0.N, win0_14.index t = win0_14.index t' → t = t' :=
  (by decide +kernel : ∀ t t' : Fin grid0.N, win0_14.index t = win0_14.index t' → t = t')

/-- so the blocks of two points share no index. -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- Block `t` of the final array is what point `t` wrote back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- What point `t` writes back to result 5: its block of what the run holds there after the body. -/
theorem flushed15 (c : Dev nD) (t : Fin cfg0.N) :
    (dats m 0 c).flushed 15 t = (cfg0.win 15).cut (grid0.coords t) ((outsAt0 m c t.val t.isLt).2.2.2.2.2.1) := by
  show (cfg0.win 15).cut (grid0.coords t) ((dats m 0 c).after 15 t) = _
  rw [after0_15]

/-- Distinct points write distinct blocks, -/
theorem idx_inj15 : ∀ t t' : Fin cfg0.N, win0_15.index t = win0_15.index t' → t = t' :=
  (by decide +kernel : ∀ t t' : Fin grid0.N, win0_15.index t = win0_15.index t' → t = t')

/-- so the blocks of two points share no index. -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- Block `t` of the final array is what point `t` wrote back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v56_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v56_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v56_2) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v56_3) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v56_4) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v56_5) = (dats m 0 c).arrAt 15 cfg0.N :=
  (h c).1 15

/-- After the frame run, argument `main_arg0` is as launched: input window 6 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 6).trans (((dats m 0 c).arrAt_in 6 rfl _).trans ((A_eq m c 6).trans (V_main_arg0 m c)))

/-- After the frame run, argument `main_arg1` is as launched: input window 7 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 7).trans (((dats m 0 c).arrAt_in 7 rfl _).trans ((A_eq m c 7).trans (V_main_arg1 m c)))

/-- After the frame run, argument `main_arg2` is as launched: input window 9 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 9).trans (((dats m 0 c).arrAt_in 9 rfl _).trans ((A_eq m c 9).trans (V_main_arg2 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v56_0) = (dats m 0 c).arrAt 10 cfg0.N
      ∧ r.2.mem ((c : Thread nD τ).loc main_v56_1) = (dats m 0 c).arrAt 11 cfg0.N
      ∧ r.2.mem ((c : Thread nD τ).loc main_v56_2) = (dats m 0 c).arrAt 12 cfg0.N
      ∧ r.2.mem ((c : Thread nD τ).loc main_v56_3) = (dats m 0 c).arrAt 13 cfg0.N
      ∧ r.2.mem ((c : Thread nD τ).loc main_v56_4) = (dats m 0 c).arrAt 14 cfg0.N
      ∧ r.2.mem ((c : Thread nD τ).loc main_v56_5) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨post10 m r h c,
      post11 m r h c,
      post12 m r h c,
      post13 m r h c,
      post14 m r h c,
      post15 m r h c,
      kept_main_arg0 m r h c,
      kept_main_arg1 m r h c,
      kept_main_arg2 m r h c⟩)
    (run_main m ρ)

end Cert.BwdIdeal.Own
-- ==== Proof.BwdArrays.lean ====
/-
  The backward kernel's six result arrays as the gradients of the two scans.
-/
module

public import proofs.«01_k».proof.Proof.BwdScan
public import proofs.«01_k».proof.Proof.BwdBlocks

@[expose] public section

set_option maxRecDepth 16384

noncomputable section

namespace Cert.Gla.Bwd

open Cert.BwdIdeal Cert.BwdIdeal.Gen Cert.BwdIdeal.Own Idealize.ShloMosaic Idealize.ShloMosaic.TcCoe Finset

/-- The block a point writes, forward. -/
def blkF (t : ℕ) : ℕ := if t < 68 then (67 - t + 64) % 68 else t

theorem idx10 : ∀ t : Fin grid0.N, win0_10.index t 0 = blkF t.val ∧ win0_10.index t 1 = 0 := by decide +kernel
theorem idx11 : ∀ t : Fin grid0.N, win0_11.index t 0 = blkF t.val ∧ win0_11.index t 1 = 0 := by decide +kernel
theorem idx12 : ∀ t : Fin grid0.N, win0_12.index t 0 = blkF t.val ∧ win0_12.index t 1 = 0 := by decide +kernel
theorem idx13 : ∀ t : Fin grid0.N, win0_13.index t 0 = t.val ∧ win0_13.index t 1 = 0 := by decide +kernel
theorem idx14 : ∀ t : Fin grid0.N, win0_14.index t 0 = t.val ∧ win0_14.index t 1 = 0 := by decide +kernel
theorem idx15 : ∀ t : Fin grid0.N, win0_15.index t 0 = t.val ∧ win0_15.index t 1 = 0 := by decide +kernel

/-- Every row of a forward result lies in one point's block, at a chunk's position if it is a row of the sequence. -/
theorem rowsF (i : Fin 4608) : ∃ (t : Fin cfg0.N) (r : Fin 64), blkF t.val * 64 + r.val = i.val ∧
    (t.val < 68 → i.val < 4352 ∧ pos false i = 64 * (67 - t.val) + r.val) ∧ (¬t.val < 68 → ¬i.val < 4352) := by
  have hi := i.isLt
  have hN : cfg0.N = 72 := N_0
  refine ⟨⟨if i.val / 64 < 64 then 63 - i.val / 64 else if i.val / 64 < 68 then 131 - i.val / 64 else i.val / 64, by split_ifs <;> omega⟩, ⟨i.val % 64, by omega⟩, ?_, ?_, ?_⟩ <;>
    simp only [blkF, pos_false] <;> split_ifs <;> omega

/-- Every row of a reverse result lies in one point's block. -/
theorem rowsR (i : Fin 4608) : ∃ (t : Fin cfg0.N) (r : Fin 64), t.val * 64 + r.val = i.val ∧
    (t.val < 68 → i.val < 4352 ∧ pos true i = 64 * (67 - t.val) + (63 - r.val)) ∧ (¬t.val < 68 → ¬i.val < 4352) := by
  have hi := i.isLt
  have hN : cfg0.N = 72 := N_0
  refine ⟨⟨i.val / 64, by omega⟩, ⟨i.val % 64, by omega⟩, ?_, ?_, ?_⟩ <;> simp only [pos_true] <;> omega

variable {m : (l : Loc nD τ sig) → Buf (Elt Ideal) l} {c : Dev nD} {Z A W : ℕ → ℕ → ℝ}

theorem elt10 (t : Fin cfg0.N) {r : Fin 64} {i : Fin 4608} (hi : blkF t.val * 64 + r.val = i.val) (j : Fin 512) :
    (dats m 0 c).arrAt 10 cfg0.N (ix2 i j) = (outsAt0 m c t.val t.isLt).1 (ix2 r j) := by
  refine Eq.trans (congrArg _ (funext fun a => Fin.ext ?_)) (congrFun ((blocks10 m c t (flush0_10 t)).trans (flushed10 m c t)) (ix2 r j))
  refine Eq.trans ?_ ((cfg0.win 10).rect_emb_val t _ a).symm
  match a with
  | ⟨0, _⟩ => show i.val = win0_10.index t 0 * 64 + r.val; rw [(idx10 t).1, hi]
  | ⟨1, _⟩ => show j.val = win0_10.index t 1 * 512 + j.val; rw [(idx10 t).2]; omega

theorem elt11 (t : Fin cfg0.N) {r : Fin 64} {i : Fin 4608} (hi : blkF t.val * 64 + r.val = i.val) (j : Fin 512) :
    (dats m 0 c).arrAt 11 cfg0.N (ix2 i j) = (outsAt0 m c t.val t.isLt).2.1 (ix2 r j) := by
  refine Eq.trans (congrArg _ (funext fun a => Fin.ext ?_)) (congrFun ((blocks11 m c t (flush0_11 t)).trans (flushed11 m c t)) (ix2 r j))
  refine Eq.trans ?_ ((cfg0.win 11).rect_emb_val t _ a).symm
  match a with
  | ⟨0, _⟩ => show i.val = win0_11.index t 0 * 64 + r.val; rw [(idx11 t).1, hi]
  | ⟨1, _⟩ => show j.val = win0_11.index t 1 * 512 + j.val; rw [(idx11 t).2]; omega

theorem elt12 (t : Fin cfg0.N) {r : Fin 64} {i : Fin 4608} (hi : blkF t.val * 64 + r.val = i.val) (j : Fin 256) :
    (dats m 0 c).arrAt 12 cfg0.N (ix2 i j) = (outsAt0 m c t.val t.isLt).2.2.1 (ix2 r j) := by
  refine Eq.trans (congrArg _ (funext fun a => Fin.ext ?_)) (congrFun ((blocks12 m c t (flush0_12 t)).trans (flushed12 m c t)) (ix2 r j))
  refine Eq.trans ?_ ((cfg0.win 12).rect_emb_val t _ a).symm
  match a with
  | ⟨0, _⟩ => show i.val = win0_12.index t 0 * 64 + r.val; rw [(idx12 t).1, hi]
  | ⟨1, _⟩ => show j.val = win0_12.index t 1 * 256 + j.val; rw [(idx12 t).2]; omega

theorem elt13 (t : Fin cfg0.N) {r : Fin 64} {i : Fin 4608} (hi : t.val * 64 + r.val = i.val) (j : Fin 512) :
    (dats m 0 c).arrAt 13 cfg0.N (ix2 i j) = (outsAt0 m c t.val t.isLt).2.2.2.1 (ix2 r j) := by
  refine Eq.trans (congrArg _ (funext fun a => Fin.ext ?_)) (congrFun ((blocks13 m c t (flush0_13 t)).trans (flushed13 m c t)) (ix2 r j))
  refine Eq.trans ?_ ((cfg0.win 13).rect_emb_val t _ a).symm
  match a with
  | ⟨0, _⟩ => show i.val = win0_13.index t 0 * 64 + r.val; rw [(idx13 t).1, hi]
  | ⟨1, _⟩ => show j.val = win0_13.index t 1 * 512 + j.val; rw [(idx13 t).2]; omega

theorem elt14 (t : Fin cfg0.N) {r : Fin 64} {i : Fin 4608} (hi : t.val * 64 + r.val = i.val) (j : Fin 512) :
    (dats m 0 c).arrAt 14 cfg0.N (ix2 i j) = (outsAt0 m c t.val t.isLt).2.2.2.2.1 (ix2 r j) := by
  refine Eq.trans (congrArg _ (funext fun a => Fin.ext ?_)) (congrFun ((blocks14 m c t (flush0_14 t)).trans (flushed14 m c t)) (ix2 r j))
  refine Eq.trans ?_ ((cfg0.win 14).rect_emb_val t _ a).symm
  match a with
  | ⟨0, _⟩ => show i.val = win0_14.index t 0 * 64 + r.val; rw [(idx14 t).1, hi]
  | ⟨1, _⟩ => show j.val = win0_14.index t 1 * 512 + j.val; rw [(idx14 t).2]; omega

theorem elt15 (t : Fin cfg0.N) {r : Fin 64} {i : Fin 4608} (hi : t.val * 64 + r.val = i.val) (j : Fin 256) :
    (dats m 0 c).arrAt 15 cfg0.N (ix2 i j) = (outsAt0 m c t.val t.isLt).2.2.2.2.2.1 (ix2 r j) := by
  refine Eq.trans (congrArg _ (funext fun a => Fin.ext ?_)) (congrFun ((blocks15 m c t (flush0_15 t)).trans (flushed15 m c t)) (ix2 r j))
  refine Eq.trans ?_ ((cfg0.win 15).rect_emb_val t _ a).symm
  match a with
  | ⟨0, _⟩ => show i.val = win0_15.index t 0 * 64 + r.val; rw [(idx15 t).1, hi]
  | ⟨1, _⟩ => show j.val = win0_15.index t 1 * 256 + j.val; rw [(idx15 t).2]; omega

theorem tail {t : Fin cfg0.N} (ht : ¬t.val < 68) : Zero (outsAt0 m c t.val t.isLt) :=
  outs_C m c t (by have := lt_of_lt_of_eq t.isLt N_0; omega) (by omega) ht

variable (hZ : ∀ i : S4608x2432.Idx, V m c main_arg0 i = ((Z (i 0).val (i 1).val : ℝ) : EReal))
  (hA : ∀ i : S4608x512.Idx, V m c main_arg1 i = ((A (i 0).val (i 1).val : ℝ) : EReal))
  (hW : ∀ i : S4096x512.Idx, V m c main_arg2 i = ((W (i 0).val (i 1).val : ℝ) : EReal))
  (hSf : IsS Z A false (V m c main_v54)) (hSr : IsS Z A true (V m c main_v55))
include hZ hA hW

include hSf in
theorem isQK_false : IsQK Z A W false ((dats m 0 c).arrAt 10 cfg0.N) := by
  intro i h d
  obtain ⟨t, r, hi, h1, h2⟩ := rowsF i
  by_cases ht : t.val < 68
  · rw [elt10 t hi, elt10 t hi, if_pos (h1 ht).1, if_pos (h1 ht).1, (h1 ht).2]
    exact ⟨(leavesF hZ hA hW hSf ht).hq r h d, (leavesF hZ hA hW hSf ht).hk r h d⟩
  · rw [elt10 t hi, elt10 t hi, if_neg (h2 ht), if_neg (h2 ht)]
    exact ⟨(tail ht).z0 _, (tail ht).z0 _⟩

include hSf in
theorem isV_false : IsV Z A W false ((dats m 0 c).arrAt 11 cfg0.N) := by
  intro i h e
  obtain ⟨t, r, hi, h1, h2⟩ := rowsF i
  by_cases ht : t.val < 68
  · rw [elt11 t hi, if_pos (h1 ht).1, (h1 ht).2]
    exact (leavesF hZ hA hW hSf ht).hv r h e
  · rw [elt11 t hi, if_neg (h2 ht)]
    exact (tail ht).z1 _

include hSf in
theorem isA_false : IsA Z A W false ((dats m 0 c).arrAt 12 cfg0.N) := by
  intro i h d
  obtain ⟨t, r, hi, h1, h2⟩ := rowsF i
  by_cases ht : t.val < 68
  · rw [elt12 t hi, if_pos (h1 ht).1, (h1 ht).2]
    exact (leavesF hZ hA hW hSf ht).ha r h d
  · rw [elt12 t hi, if_neg (h2 ht)]
    exact (tail ht).z2 _

include hSr in
theorem isQK_true : IsQK Z A W true ((dats m 0 c).arrAt 13 cfg0.N) := by
  intro i h d
  obtain ⟨t, r, hi, h1, h2⟩ := rowsR i
  by_cases ht : t.val < 68
  · rw [elt13 t hi, elt13 t hi, if_pos (h1 ht).1, if_pos (h1 ht).1, (h1 ht).2]
    exact ⟨(leavesR hZ hA hW hSr ht).hq r h d, (leavesR hZ hA hW hSr ht).hk r h d⟩
  · rw [elt13 t hi, elt13 t hi, if_neg (h2 ht), if_neg (h2 ht)]
    exact ⟨(tail ht).z3 _, (tail ht).z3 _⟩

include hSr in
theorem isV_true : IsV Z A W true ((dats m 0 c).arrAt 14 cfg0.N) := by
  intro i h e
  obtain ⟨t, r, hi, h1, h2⟩ := rowsR i
  by_cases ht : t.val < 68
  · rw [elt14 t hi, if_pos (h1 ht).1, (h1 ht).2]
    exact (leavesR hZ hA hW hSr ht).hv r h e
  · rw [elt14 t hi, if_neg (h2 ht)]
    exact (tail ht).z4 _

include hSr in
theorem isA_true : IsA Z A W true ((dats m 0 c).arrAt 15 cfg0.N) := by
  intro i h d
  obtain ⟨t, r, hi, h1, h2⟩ := rowsR i
  by_cases ht : t.val < 68
  · rw [elt15 t hi, if_pos (h1 ht).1, (h1 ht).2]
    exact (leavesR hZ hA hW hSr ht).ha r h d
  · rw [elt15 t hi, if_neg (h2 ht)]
    exact (tail ht).z5 _

end Cert.Gla.Bwd
-- ==== Proof.BwdPrelude.lean ====
/-
  The states the backward kernel is given: its host prelude computes them as the forward reference does.
-/
module

public import proofs.«01_k».proof.Proof.Gen.RefFwdIdeal.Read
public import proofs.«01_k».proof.Proof.Gen.BwdIdeal.Frame.Runs

@[expose] public section

set_option maxRecDepth 16384

noncomputable section

namespace Cert.Gla.Bwd

open Cert.BwdIdeal Cert.BwdIdeal.Gen Idealize.ShloMosaic Idealize.ShloMosaic.TcCoe Idealize.ShloMosaic.StableHlo

variable (m : (l : Loc nD τ sig) → Buf (Elt Ideal) l) (c : Dev nD)

set_option maxHeartbeats 25600000 in
theorem V_states_f : V m c main_v54
    = Cert.RefFwdIdeal.Read.val_main_v54 (F := Ideal) (m ((c.tc : Thread nD τ).loc main_arg0)) (m ((c.tc : Thread nD τ).loc main_arg1)) := by
  simp only [V, hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

set_option maxHeartbeats 25600000 in
theorem V_states_r : V m c main_v55
    = Cert.RefFwdIdeal.Read.val_main_v55 (F := Ideal) (m ((c.tc : Thread nD τ).loc main_arg0)) (m ((c.tc : Thread nD τ).loc main_arg1)) := by
  simp only [V, hostOps0, hostOps0_1, hostOps0_2, hostOps0_3, hostOps0_4, List.flatten_cons, List.flatten_nil, List.append_nil, List.cons_append, List.nil_append,
    TRef.binary, TRef.nullary, TRef.ternary, TRef.unary, TRef.toBuf, TRef.ofBuf, cast_eq]
  after_results_simp <;> rfl

end Cert.Gla.Bwd
-- ==== Proof.Cumsum.lean ====
/-
  The host's float running sum along the first axis of a rank-three array, from either end, read at the ideal values.
-/
module

public import proofs.«01_k».proof.Proof.Heads

@[expose] public section

noncomputable section

namespace Cert.Gla

open Idealize.ShloMosaic Idealize.ShloMosaic.TcCoe Finset

private theorem foldl_add_sum {n : ℕ} (g : Fin n → EReal) (v : EReal) (hv : v = 0) :
    (List.finRange n).foldl (fun r k => r + g k) v = ∑ k, g k := by
  subst hv
  rw [Fin.sum_univ_def, List.sum_eq_foldl, List.foldl_map]

/-- The positions of a window that spans the first axis alone. -/
private def colEquiv (N : ℕ) : Fin N ≃ (⟨3, ![N, 1, 1]⟩ : Shape).Idx where
  toFun n := ix3 n (0 : Fin 1) (0 : Fin 1)
  invFun i := i 0
  left_inv _ := rfl
  right_inv i := by
    funext a
    match a with
    | ⟨0, _⟩ => rfl
    | ⟨1, _⟩ => exact (Subsingleton.elim (α := Fin 1) _ _)
    | ⟨2, _⟩ => exact (Subsingleton.elim (α := Fin 1) _ _)

/-- A window sum along the whole first axis, padded `L` low: the entries whose position in the window lies inside the array. -/
theorem window_sum {N L H B C : ℕ} (x : (⟨3, ![N, B, C]⟩ : Shape).Idx → EReal) (init : (⟨0, ![]⟩ : Shape).Idx → EReal) (hinit : ∀ i, init i = 0)
    (h : (⟨3, ![N, B, C]⟩ : Shape).ReduceWindows (![N, 1, 1] : Fin 3 → ℕ) ![1, 1, 1] ![L, 0, 0] ![H, 0, 0] ⟨3, ![N, B, C]⟩)
    (hu : 0 < (⟨0, ![]⟩ : Shape).numel) (t : Fin N) (b : Fin B) (c : Fin C) :
    Host.reduceWindowAdd (F := Ideal) (φ := .f32) ![N, 1, 1] ![1, 1, 1] ![L, 0, 0] ![H, 0, 0] x init h hu (ix3 t b c)
      = ∑ n : Fin N, if hn : L ≤ t.val + n.val ∧ t.val + n.val - L < N then x (ix3 ⟨t.val + n.val - L, hn.2⟩ b c) else 0 := by
  show (List.finRange _).foldl _ (init _) = _
  refine (foldl_add_sum _ _ (hinit _)).trans ?_
  rw [← Equiv.sum_comp (colEquiv N |>.trans (⟨3, ![N, 1, 1]⟩ : Shape).rowMajor)]
  refine sum_congr rfl fun n _ => ?_
  simp only [Equiv.trans_apply, Equiv.symm_apply_apply]
  by_cases hn : L ≤ t.val + n.val ∧ t.val + n.val - L < N
  · have hin : ∀ a : Fin 3, (![L, 0, 0] : Fin 3 → ℕ) a ≤ ((ix3 t b c) a).val * (![1, 1, 1] : Fin 3 → ℕ) a + (colEquiv N n a).val
        ∧ ((ix3 t b c) a).val * (![1, 1, 1] : Fin 3 → ℕ) a + (colEquiv N n a).val - (![L, 0, 0] : Fin 3 → ℕ) a < (⟨3, ![N, B, C]⟩ : Shape).size a := by
      intro a
      match a with
      | ⟨0, _⟩ =>
        show L ≤ t.val * 1 + n.val ∧ t.val * 1 + n.val - L < N
        omega
      | ⟨1, _⟩ =>
        show 0 ≤ b.val * 1 + 0 ∧ b.val * 1 + 0 - 0 < B
        have := b.isLt
        omega
      | ⟨2, _⟩ =>
        show 0 ≤ c.val * 1 + 0 ∧ c.val * 1 + 0 - 0 < C
        have := c.isLt
        omega
    rw [dif_pos hn]
    refine (dif_pos hin).trans (congrArg x (funext fun a => Fin.ext ?_))
    match a with
    | ⟨0, _⟩ =>
      show t.val * 1 + n.val - L = t.val + n.val - L
      omega
    | ⟨1, _⟩ =>
      show b.val * 1 + 0 - 0 = b.val
      omega
    | ⟨2, _⟩ =>
      show c.val * 1 + 0 - 0 = c.val
      omega
  · rw [dif_neg hn]
    refine (dif_neg fun hin => hn ?_).trans (hinit _)
    have h0 := hin 0
    change L ≤ t.val * 1 + n.val ∧ t.val * 1 + n.val - L < N at h0
    omega

/-- The running sum from the first row: entry `t` sums the rows up to `t`. -/
theorem cumsum_up {N L B C : ℕ} (hL : L + 1 = N) (x : (⟨3, ![N, B, C]⟩ : Shape).Idx → EReal) (f : ℕ → ℝ) (t : Fin N) (b : Fin B) (c : Fin C)
    (hx : ∀ s : Fin N, x (ix3 s b c) = ((f s : ℝ) : EReal)) (init : (⟨0, ![]⟩ : Shape).Idx → EReal) (hinit : ∀ i, init i = 0)
    (h : (⟨3, ![N, B, C]⟩ : Shape).ReduceWindows (![N, 1, 1] : Fin 3 → ℕ) ![1, 1, 1] ![L, 0, 0] ![0, 0, 0] ⟨3, ![N, B, C]⟩)
    (hu : 0 < (⟨0, ![]⟩ : Shape).numel) :
    Host.reduceWindowAdd (F := Ideal) (φ := .f32) ![N, 1, 1] ![1, 1, 1] ![L, 0, 0] ![0, 0, 0] x init h hu (ix3 t b c)
      = ((∑ s ∈ range (t.val + 1), f s : ℝ) : EReal) := by
  have ht := t.isLt
  refine (window_sum x init hinit h hu t b c).trans ?_
  rw [← coe_sum]
  refine (sum_congr rfl fun n _ => show _ = (fun n : ℕ => if L ≤ t.val + n then ((f (t.val + n - L) : ℝ) : EReal) else 0) n.val from ?_).trans
    ((Fin.sum_univ_eq_sum_range (fun n : ℕ => if L ≤ t.val + n then ((f (t.val + n - L) : ℝ) : EReal) else 0) N).trans ?_)
  · have := n.isLt
    by_cases hn : L ≤ t.val + n.val
    · rw [dif_pos ⟨hn, by omega⟩, hx]
      exact (if_pos hn).symm
    · rw [dif_neg fun e => hn e.1]
      exact (if_neg hn).symm
  · rw [← sum_filter]
    refine sum_bij' (fun n _ => t.val + n - L) (fun s _ => s + L - t.val) ?_ ?_ ?_ ?_ ?_
    · intro n hn; simp only [mem_filter, mem_range] at hn ⊢; omega
    · intro s hs; simp only [mem_filter, mem_range] at hs ⊢; omega
    · intro n hn; simp only [mem_filter, mem_range] at hn; omega
    · intro s hs; simp only [mem_range] at hs; omega
    · intro n _; rfl

/-- The running sum from the last row: entry `t` sums the rows from `t` on. -/
theorem cumsum_down {N L B C : ℕ} (x : (⟨3, ![N, B, C]⟩ : Shape).Idx → EReal) (f : ℕ → ℝ) (t : Fin N) (b : Fin B) (c : Fin C)
    (hx : ∀ s : Fin N, x (ix3 s b c) = ((f s : ℝ) : EReal)) (init : (⟨0, ![]⟩ : Shape).Idx → EReal) (hinit : ∀ i, init i = 0)
    (h : (⟨3, ![N, B, C]⟩ : Shape).ReduceWindows (![N, 1, 1] : Fin 3 → ℕ) ![1, 1, 1] ![0, 0, 0] ![L, 0, 0] ⟨3, ![N, B, C]⟩)
    (hu : 0 < (⟨0, ![]⟩ : Shape).numel) :
    Host.reduceWindowAdd (F := Ideal) (φ := .f32) ![N, 1, 1] ![1, 1, 1] ![0, 0, 0] ![L, 0, 0] x init h hu (ix3 t b c)
      = ((∑ s ∈ Ico t.val N, f s : ℝ) : EReal) := by
  have ht := t.isLt
  refine (window_sum x init hinit h hu t b c).trans ?_
  rw [← coe_sum]
  refine (sum_congr rfl fun n _ => show _ = (fun n : ℕ => if t.val + n < N then ((f (t.val + n) : ℝ) : EReal) else 0) n.val from ?_).trans
    ((Fin.sum_univ_eq_sum_range (fun n : ℕ => if t.val + n < N then ((f (t.val + n) : ℝ) : EReal) else 0) N).trans ?_)
  · by_cases hn : t.val + n.val < N
    · rw [dif_pos ⟨by omega, by omega⟩, hx]
      exact (if_pos hn).symm
    · rw [dif_neg fun e => hn e.2]
      exact (if_neg hn).symm
  · rw [← sum_filter]
    refine sum_bij' (fun n _ => t.val + n) (fun s _ => s - t.val) ?_ ?_ ?_ ?_ ?_
    · intro n hn; simp only [mem_filter, mem_range, mem_Ico] at hn ⊢; omega
    · intro s hs; simp only [mem_filter, mem_range, mem_Ico] at hs ⊢; omega
    · intro n hn; simp only [mem_filter, mem_range] at hn; omega
    · intro s hs; simp only [mem_Ico] at hs; omega
    · intro n _; rfl

end Cert.Gla
-- ==== Proof.RefStates.lean ====
/-
  The forward reference's states as the states of the two scans.
-/
module

public import proofs.«01_k».proof.Proof.Seqs
public import Idealize.ShloMosaic.Lib.WordCmp
public import proofs.«01_k».proof.Proof.Cumsum
public import proofs.«01_k».proof.Proof.Gen.RefFwdIdeal.Read

@[expose] public section

set_option maxRecDepth 16384

noncomputable section

namespace Cert.Gla

/-- A direction's head among the eight. -/
def hd (b : Bool) (h : Fin 4) : Fin 8 := ⟨b.toNat * 4 + h.val, by cases b <;> simp <;> omega⟩

/-- An array of eight heads of rows. -/
def Has8 {n : ℕ} (x : (⟨3, ![4352, 8, n]⟩ : Idealize.ShloMosaic.Shape).Idx → EReal) (f : Bool → Fin 4 → ℕ → Fin n → ℝ) : Prop :=
  ∀ (b : Bool) (h : Fin 4) (t : Fin 4352) (d : Fin n), x (Idealize.ShloMosaic.ix3 t (hd b h) d) = ((f b h t d : ℝ) : EReal)

namespace States

open Cert.RefFwdIdeal Cert.RefFwdIdeal.Gen Cert.RefFwdIdeal.Read Idealize.ShloMosaic Idealize.ShloMosaic.TcCoe Finset

variable {Z A : ℕ → ℕ → ℝ} {zc : S4608x2432.Idx → EReal} {la : S4608x512.Idx → EReal} (hZ : ∀ i j, zc (ix2 i j) = ((Z i.val j.val : ℝ) : EReal))
  (hA : ∀ i j, la (ix2 i j) = ((A i.val j.val : ℝ) : EReal))

include hZ in
theorem keys : Has8 (val_main_v9 (F := Ideal) zc) (sk Z) := by
  intro b h t d
  have hh := h.isLt
  unfold val_main_v9
  cases b
  · unfold val_main_v7 val_main_v4 val_main_v2 val_main_v3 val_main_v0 hd
    pointwise
    refine (dif_pos (show 0 * 4 + h.val < 4 by omega)).trans ?_
    by_cases hlt : t.val < 256
    · refine (dif_pos hlt).trans ((hZ _ _).trans (congrArg₂ (fun i j => ((Z i j : ℝ) : EReal)) ?_ ?_))
      · show 4096 + t.val = row false t.val
        rw [row_false, if_pos hlt]
      · show 768 + ((0 * 4 + h.val) * 64 + d.val) = 768 + (64 * h.val + d.val)
        omega
    · refine (dif_neg hlt).trans ((hZ _ _).trans (congrArg₂ (fun i j => ((Z i j : ℝ) : EReal)) ?_ ?_))
      · show t.val - 256 = row false t.val
        rw [row_false, if_neg hlt]
      · show 768 + ((0 * 4 + h.val) * 64 + d.val) = 768 + (64 * h.val + d.val)
        omega
  · unfold val_main_v8 val_main_v6 val_main_v5 val_main_v0 hd
    pointwise
    refine (dif_neg (show ¬1 * 4 + h.val < 4 by omega)).trans ((hZ _ _).trans (congrArg₂ (fun i j => ((Z i j : ℝ) : EReal)) ?_ ?_))
    · show 4352 - (t.val + 1) = row true t.val
      rw [row_true]; omega
    · show 768 + ((1 * 4 + h.val - 4) * 64 + d.val) = 768 + (64 * h.val + d.val)
      omega

include hZ in
theorem values : Has8 (val_main_v17 (F := Ideal) zc) (sv Z) := by
  intro b h t d
  have hh := h.isLt
  unfold val_main_v17
  cases b
  · unfold val_main_v15 val_main_v12 val_main_v10 val_main_v11 val_main_v1 hd
    pointwise
    refine (dif_pos (show 0 * 4 + h.val < 4 by omega)).trans ?_
    by_cases hlt : t.val < 256
    · refine (dif_pos hlt).trans ((hZ _ _).trans (congrArg₂ (fun i j => ((Z i j : ℝ) : EReal)) ?_ ?_))
      · show 4096 + t.val = row false t.val
        rw [row_false, if_pos hlt]
      · show 1024 + ((0 * 4 + h.val) * 128 + d.val) = 1024 + (128 * h.val + d.val)
        omega
    · refine (dif_neg hlt).trans ((hZ _ _).trans (congrArg₂ (fun i j => ((Z i j : ℝ) : EReal)) ?_ ?_))
      · show t.val - 256 = row false t.val
        rw [row_false, if_neg hlt]
      · show 1024 + ((0 * 4 + h.val) * 128 + d.val) = 1024 + (128 * h.val + d.val)
        omega
  · unfold val_main_v16 val_main_v14 val_main_v13 val_main_v1 hd
    pointwise
    refine (dif_neg (show ¬1 * 4 + h.val < 4 by omega)).trans ((hZ _ _).trans (congrArg₂ (fun i j => ((Z i j : ℝ) : EReal)) ?_ ?_))
    · show 4352 - (t.val + 1) = row true t.val
      rw [row_true]; omega
    · show 1024 + ((1 * 4 + h.val - 4) * 128 + d.val) = 1024 + (128 * h.val + d.val)
      omega

include hA in
theorem decays : Has8 (val_main_v27 (F := Ideal) la) (sa A) := by
  intro b h t d
  have hh := h.isLt
  unfold val_main_v27
  cases b
  · unfold val_main_v25 val_main_v22 val_main_v20 val_main_v21 val_main_v18 hd
    pointwise
    refine (dif_pos (show 0 * 4 + h.val < 4 by omega)).trans ?_
    by_cases hlt : t.val < 256
    · refine (dif_pos hlt).trans ((hA _ _).trans (congrArg₂ (fun i j => ((A i j : ℝ) : EReal)) ?_ ?_))
      · show 4096 + t.val = row false t.val
        rw [row_false, if_pos hlt]
      · show (0 * 4 + h.val) * 64 + d.val = 0 * 256 + (64 * h.val + d.val)
        omega
    · refine (dif_neg hlt).trans ((hA _ _).trans (congrArg₂ (fun i j => ((A i j : ℝ) : EReal)) ?_ ?_))
      · show t.val - 256 = row false t.val
        rw [row_false, if_neg hlt]
      · show (0 * 4 + h.val) * 64 + d.val = 0 * 256 + (64 * h.val + d.val)
        omega
  · unfold val_main_v26 val_main_v24 val_main_v23 val_main_v19 hd
    pointwise
    refine (dif_neg (show ¬1 * 4 + h.val < 4 by omega)).trans ((hA _ _).trans (congrArg₂ (fun i j => ((A i j : ℝ) : EReal)) ?_ ?_))
    · show 4352 - (t.val + 1) = row true t.val
      rw [row_true]; omega
    · show 256 + ((1 * 4 + h.val - 4) * 64 + d.val) = 256 + (64 * h.val + d.val)
      omega

include hA in
theorem sums : Has8 (val_main_v28 (F := Ideal) la) fun b h => cum (sa A b h) := by
  intro b h t d
  unfold val_main_v28
  refine cumsum_up (L := 4351) rfl _ (fun s => sa A b h s d) t _ d (fun s => decays hA b h s d) _ (fun i => ?_) _ _
  unfold val_main_call0_call0_v0 val_main_call0_call0_cst
  exact Ideal.ofBits_zero_f32

include hA in
theorem starts (i : Fin 68) (b : Bool) (h : Fin 4) (d : Fin 64) :
    val_main_v31 (F := Ideal) la (ix3 i (hd b h) d) = ((before (sa A b h) (64 * i.val) d : ℝ) : EReal) := by
  unfold val_main_v31
  pointwise
  split
  · rename_i hi
    unfold val_main_v29 val_main_cst
    pointwise
    rw [show 64 * i.val = 0 by omega]
    simp [before]
  · rename_i hi
    unfold val_main_v30
    pointwise
    refine (sums hA b h ⟨63 + 64 * (i.val - 1), by omega⟩ d).trans ?_
    show ((∑ s ∈ range (63 + 64 * (i.val - 1) + 1), sa A b h s d : ℝ) : EReal) = _
    unfold before
    rw [show 63 + 64 * (i.val - 1) + 1 = 64 * i.val by omega]

theorem slt_word {a b : ℕ} (ha : a < 4352) (hb : b < 68) :
    IntOp.cmpi .slt (BitVec.ofNat 32 a) (IntOp.muli 64#32 (BitVec.ofNat 32 b)) = if a < 64 * b then 1#1 else 0#1 := by
  have e : IntOp.muli 64#32 (BitVec.ofNat 32 b) = BitVec.ofNat 32 (64 * b) := (BitVec.ofNat_mul 64 b).symm
  rw [e, Idealize.ShloMosaic.WordCmp.cmpi_slt_ofNat (by omega) (by omega)]
  split <;> simp [*]

include hZ hA in
theorem masked (i : Fin 68) (s : Fin 4352) (b : Bool) (h : Fin 4) (d : Fin 64) :
    val_main_v51 (F := Ideal) zc la (ix4 i s (hd b h) d)
      = ((if s.val < 64 * i.val then sk Z b h s d * Real.exp (before (sa A b h) (64 * i.val) d - cum (sa A b h) s d) else 0 : ℝ) : EReal) := by
  unfold val_main_v51 val_main_call1_v1 val_main_v41 val_main_v40 val_main_v38 val_main_v33 val_main_v32 val_main_v39 val_main_v37 val_main_v36 val_main_c
    val_main_v35 val_main_v34 val_main_v50 val_main_v49 val_main_v42 val_main_v48 val_main_v47 val_main_v45 val_main_v43 val_main_v46 val_main_v44
    val_main_call1_v2 val_main_call1_v0 val_main_cst_0
  pointwise
  rw [slt_word s.isLt i.isLt, select_ite, keys hZ b h s d, starts hA, sums hA b h s d, ← EReal.coe_sub, Ideal.exp_coe, ← EReal.coe_mul, ← coe_ite]
  exact if_congr Iff.rfl rfl Ideal.ofBits_zero_f32

include hZ hA in
theorem states (i : Fin 68) (b : Bool) (h : Fin 4) (e : Fin 128) (d : Fin 64) :
    val_main_v53 (F := Ideal) zc la (ix4 i (hd b h) e d) = ((gs Z A b h (64 * i.val) e d : ℝ) : EReal) := by
  unfold val_main_v53 val_main_v52
  pointwise
  simp only [values hZ b h _ e, masked hZ hA, ← EReal.coe_mul, coe_sum]
  congr 1
  rw [Fin.sum_univ_eq_sum_range (fun s => sv Z b h s e * if s < 64 * i.val then sk Z b h s d * Real.exp (before (sa A b h) (64 * i.val) d - cum (sa A b h) s d) else 0) 4352,
    gs, state]
  simp only [mul_ite, mul_zero]
  rw [← sum_filter]
  refine sum_congr ?_ fun s _ => mul_comm _ _
  ext s
  simp only [mem_filter, mem_range]
  omega

include hZ hA in
theorem isS_false : IsS Z A false (val_main_v54 (F := Ideal) zc la) := by
  intro i h e d
  unfold val_main_v54
  pointwise
  refine Eq.trans (congrArg (fun g => val_main_v53 (F := Ideal) zc la (ix4 i g e d)) (Fin.ext ?_)) (states hZ hA i false h e d)
  show h.val = 0 * 4 + h.val
  omega

include hZ hA in
theorem isS_true : IsS Z A true (val_main_v55 (F := Ideal) zc la) := by
  intro i h e d
  unfold val_main_v55
  pointwise
  refine Eq.trans (congrArg (fun g => val_main_v53 (F := Ideal) zc la (ix4 i g e d)) (Fin.ext ?_)) (states hZ hA i true h e d)
  show 4 + h.val = 1 * 4 + h.val
  omega

end States

end Cert.Gla
-- ==== Proof.RefGrads.lean ====
/-
  The backward reference's results as the gradients of the two scans.
-/
module

public import proofs.«01_k».proof.Proof.RefStates
public import proofs.«01_k».proof.Proof.Gen.RefBwdIdeal.Read

@[expose] public section

set_option maxRecDepth 16384

noncomputable section

namespace Cert.Gla.Grads

open Cert.RefBwdIdeal Cert.RefBwdIdeal.Gen Cert.RefBwdIdeal.Read Idealize.ShloMosaic Idealize.ShloMosaic.TcCoe Finset

variable {Z A W : ℕ → ℕ → ℝ} {zc : S4608x2432.Idx → EReal} {la : S4608x512.Idx → EReal} {w : S4096x512.Idx → EReal}
  (hZ : ∀ i j, zc (ix2 i j) = ((Z i.val j.val : ℝ) : EReal)) (hA : ∀ i j, la (ix2 i j) = ((A i.val j.val : ℝ) : EReal))
  (hW : ∀ i j, w (ix2 i j) = ((W i.val j.val : ℝ) : EReal))

include hZ in
theorem scan_false (t : Fin 4352) (c : Fin 2432) : val_main_v2 (F := Ideal) zc (ix2 t c) = ((Z (row false t) c : ℝ) : EReal) := by
  unfold val_main_v2 val_main_v0 val_main_v1
  pointwise
  by_cases hlt : t.val < 256
  · refine (dif_pos hlt).trans ((hZ _ _).trans (congrArg₂ (fun i j => ((Z i j : ℝ) : EReal)) ?_ rfl))
    show 4096 + t.val = row false t.val
    rw [row_false, if_pos hlt]
  · refine (dif_neg hlt).trans ((hZ _ _).trans (congrArg₂ (fun i j => ((Z i j : ℝ) : EReal)) ?_ rfl))
    show t.val - 256 = row false t.val
    rw [row_false, if_neg hlt]

include hZ in
theorem scan_true (t : Fin 4352) (c : Fin 2432) : val_main_v4 (F := Ideal) zc (ix2 t c) = ((Z (row true t) c : ℝ) : EReal) := by
  unfold val_main_v4 val_main_v3
  pointwise
  refine (hZ _ _).trans (congrArg₂ (fun i j => ((Z i j : ℝ) : EReal)) ?_ rfl)
  show 4352 - (t.val + 1) = row true t.val
  rw [row_true]; omega

include hA in
theorem decay_false (t : Fin 4352) (c : Fin 512) : val_main_v7 (F := Ideal) la (ix2 t c) = ((A (row false t) c : ℝ) : EReal) := by
  unfold val_main_v7 val_main_v5 val_main_v6
  pointwise
  by_cases hlt : t.val < 256
  · refine (dif_pos hlt).trans ((hA _ _).trans (congrArg₂ (fun i j => ((A i j : ℝ) : EReal)) ?_ rfl))
    show 4096 + t.val = row false t.val
    rw [row_false, if_pos hlt]
  · refine (dif_neg hlt).trans ((hA _ _).trans (congrArg₂ (fun i j => ((A i j : ℝ) : EReal)) ?_ rfl))
    show t.val - 256 = row false t.val
    rw [row_false, if_neg hlt]

include hA in
theorem decay_true (t : Fin 4352) (c : Fin 512) : val_main_v9 (F := Ideal) la (ix2 t c) = ((A (row true t) c : ℝ) : EReal) := by
  unfold val_main_v9 val_main_v8
  pointwise
  refine (hA _ _).trans (congrArg₂ (fun i j => ((A i j : ℝ) : EReal)) ?_ rfl)
  show 4352 - (t.val + 1) = row true t.val
  rw [row_true]; omega

include hZ in
theorem queries : Has8 (val_main_v13 (F := Ideal) zc) (sq Z) := by
  intro b h t d
  have hh := h.isLt
  unfold val_main_v13 val_main_v12 hd
  cases b
  · unfold val_main_v10
    pointwise
    refine (dif_pos (show (0 * 4 + h.val) * 64 + d.val < 256 by omega)).trans ((scan_false hZ _ _).trans (congrArg (fun j => ((Z (row false t) j : ℝ) : EReal)) ?_))
    show 512 + ((0 * 4 + h.val) * 64 + d.val) = 512 + (64 * h.val + d.val)
    omega
  · unfold val_main_v11
    pointwise
    refine (dif_neg (show ¬(1 * 4 + h.val) * 64 + d.val < 256 by omega)).trans ((scan_true hZ _ _).trans (congrArg (fun j => ((Z (row true t) j : ℝ) : EReal)) ?_))
    show 512 + ((1 * 4 + h.val) * 64 + d.val - 256) = 512 + (64 * h.val + d.val)
    omega

include hZ in
theorem keys : Has8 (val_main_v17 (F := Ideal) zc) (sk Z) := by
  intro b h t d
  have hh := h.isLt
  unfold val_main_v17 val_main_v16 hd
  cases b
  · unfold val_main_v14
    pointwise
    refine (dif_pos (show (0 * 4 + h.val) * 64 + d.val < 256 by omega)).trans ((scan_false hZ _ _).trans (congrArg (fun j => ((Z (row false t) j : ℝ) : EReal)) ?_))
    show 768 + ((0 * 4 + h.val) * 64 + d.val) = 768 + (64 * h.val + d.val)
    omega
  · unfold val_main_v15
    pointwise
    refine (dif_neg (show ¬(1 * 4 + h.val) * 64 + d.val < 256 by omega)).trans ((scan_true hZ _ _).trans (congrArg (fun j => ((Z (row true t) j : ℝ) : EReal)) ?_))
    show 768 + ((1 * 4 + h.val) * 64 + d.val - 256) = 768 + (64 * h.val + d.val)
    omega

include hZ in
theorem values : Has8 (val_main_v21 (F := Ideal) zc) (sv Z) := by
  intro b h t d
  have hh := h.isLt
  unfold val_main_v21 val_main_v20 hd
  cases b
  · unfold val_main_v18
    pointwise
    refine (dif_pos (show (0 * 4 + h.val) * 128 + d.val < 512 by omega)).trans ((scan_false hZ _ _).trans (congrArg (fun j => ((Z (row false t) j : ℝ) : EReal)) ?_))
    show 1024 + ((0 * 4 + h.val) * 128 + d.val) = 1024 + (128 * h.val + d.val)
    omega
  · unfold val_main_v19
    pointwise
    refine (dif_neg (show ¬(1 * 4 + h.val) * 128 + d.val < 512 by omega)).trans ((scan_true hZ _ _).trans (congrArg (fun j => ((Z (row true t) j : ℝ) : EReal)) ?_))
    show 1024 + ((1 * 4 + h.val) * 128 + d.val - 512) = 1024 + (128 * h.val + d.val)
    omega

include hA in
theorem decays : Has8 (val_main_v25 (F := Ideal) la) (sa A) := by
  intro b h t d
  have hh := h.isLt
  unfold val_main_v25 val_main_v24 hd
  cases b
  · unfold val_main_v22
    pointwise
    refine (dif_pos (show (0 * 4 + h.val) * 64 + d.val < 256 by omega)).trans ((decay_false hA _ _).trans (congrArg (fun j => ((A (row false t) j : ℝ) : EReal)) ?_))
    show (0 * 4 + h.val) * 64 + d.val = 0 * 256 + (64 * h.val + d.val)
    omega
  · unfold val_main_v23
    pointwise
    refine (dif_neg (show ¬(1 * 4 + h.val) * 64 + d.val < 256 by omega)).trans ((decay_true hA _ _).trans (congrArg (fun j => ((A (row true t) j : ℝ) : EReal)) ?_))
    show 256 + ((1 * 4 + h.val) * 64 + d.val - 256) = 1 * 256 + (64 * h.val + d.val)
    omega

include hW in
theorem cotangents : Has8 (val_main_v49 (F := Ideal) w) (sw W) := by
  intro b h t e
  have hh := h.isLt
  unfold val_main_v49 val_main_v29 sw hd
  by_cases hlt : t.val < 256
  · rw [if_pos hlt]
    unfold val_main_v26 val_main_cst
    pointwise
    exact (dif_pos hlt).trans EReal.coe_zero.symm
  · rw [if_neg hlt]
    unfold val_main_v28
    cases b
    · pointwise
      refine (dif_neg hlt).trans ((dif_pos (show (0 * 4 + h.val) * 128 + e.val < 512 by omega)).trans
        ((hW _ _).trans (congrArg₂ (fun i j => ((W i j : ℝ) : EReal)) ?_ ?_)))
      · show t.val - 256 = row false t.val
        rw [row_false, if_neg hlt]
      · show (0 * 4 + h.val) * 128 + e.val = 128 * h.val + e.val
        omega
    · unfold val_main_v27
      pointwise
      refine (dif_neg hlt).trans ((dif_neg (show ¬(1 * 4 + h.val) * 128 + e.val < 512 by omega)).trans
        ((hW _ _).trans (congrArg₂ (fun i j => ((W i j : ℝ) : EReal)) ?_ ?_)))
      · show 4096 - (t.val - 256 + 1) = row true t.val
        rw [row_true]; omega
      · show (1 * 4 + h.val) * 128 + e.val - 512 = 128 * h.val + e.val
        omega

include hA in
theorem sums : Has8 (val_main_v30 (F := Ideal) la) fun b h => cum (sa A b h) := by
  intro b h t d
  unfold val_main_v30
  refine cumsum_up (L := 4351) rfl _ (fun s => sa A b h s d) t _ d (fun s => decays hA b h s d) _ (fun i => ?_) _ _
  unfold val_main_call0_call0_v0 val_main_call0_call0_cst
  exact Ideal.ofBits_zero_f32

include hA in
theorem ups : Has8 (val_main_v33 (F := Ideal) la) fun b h t d => Real.exp (cum (sa A b h) t d) := by
  intro b h t d
  unfold val_main_v33
  pointwise
  rw [sums hA b h t d, Ideal.exp_coe]

include hA in
theorem downs : Has8 (val_main_v36 (F := Ideal) la) fun b h t d => Real.exp (-cum (sa A b h) t d) := by
  intro b h t d
  unfold val_main_v36 val_main_v35
  pointwise
  rw [sums hA b h t d, ← EReal.coe_neg, Ideal.exp_coe]

include hZ in
theorem eighths : Has8 (val_main_v32 (F := Ideal) zc) fun b h t d => sq Z b h t d * (1 / 8) := by
  intro b h t d
  unfold val_main_v32 val_main_v31 val_main_cst_0
  pointwise
  rw [queries hZ b h t d, ofBits_eighth, ← EReal.coe_mul]

include hZ hA in
theorem qts : Has8 (val_main_v34 (F := Ideal) zc la) fun b h => qt (sq Z b h) (sa A b h) := by
  intro b h t d
  unfold val_main_v34
  pointwise
  rw [eighths hZ b h t d, ups hA b h t d, ← EReal.coe_mul]
  rfl

include hZ hA in
theorem kts : Has8 (val_main_v37 (F := Ideal) zc la) fun b h => kt (sk Z b h) (sa A b h) := by
  intro b h t d
  unfold val_main_v37
  pointwise
  rw [keys hZ b h t d, downs hA b h t d, ← EReal.coe_mul]
  rfl

theorem sge_word {a b : ℕ} (ha : a < 4352) (hb : b < 4352) : IntOp.cmpi .sge (BitVec.ofNat 32 a) (BitVec.ofNat 32 b) = if b ≤ a then 1#1 else 0#1 := by
  rw [WordCmp.cmpi_sge_ofNat (by omega) (by omega)]
  split <;> simp [*]

include hZ hA in
/-- The masked attention weights. -/
theorem weights (b : Bool) (h : Fin 4) (t s : Fin 4352) : val_main_v46_0 (F := Ideal) zc la (ix3 (hd b h) t s)
    = ((if s.val ≤ t.val then att (sq Z b h) (sk Z b h) (sa A b h) t s else 0 : ℝ) : EReal) := by
  unfold val_main_v46_0 val_main_v46_1 val_main_v44 val_main_v42 val_main_v39 val_main_v38 val_main_v43 val_main_v41 val_main_v40 val_main_v45
    val_main_call1_v2 val_main_call1_v0 val_main_cst_1
  pointwise
  rw [sge_word t.isLt s.isLt, select_ite, coe_dot _ _ _ _ (fun d => qts hZ hA b h t d) (fun d => kts hZ hA b h s d), ← coe_ite]
  exact if_congr Iff.rfl rfl Ideal.ofBits_zero_f32

include hZ hW in
/-- Their gradients, masked. -/
theorem dweights (b : Bool) (h : Fin 4) (t s : Fin 4352) : val_main_v54 (F := Ideal) zc w (ix3 (hd b h) t s)
    = ((if s.val ≤ t.val then datt (sv Z b h) (sw W b h) t s else 0 : ℝ) : EReal) := by
  unfold val_main_v54 val_main_v46_1 val_main_v44 val_main_v42 val_main_v39 val_main_v38 val_main_v43 val_main_v41 val_main_v40 val_main_v51
    val_main_v50 val_main_call2_v0 val_main_call2_cst
  pointwise
  rw [sge_word t.isLt s.isLt, select_ite, coe_dot _ _ _ _ (fun e => cotangents hW b h t e) (fun e => values hZ b h s e), ← coe_ite]
  rfl

include hZ hA hW in
theorem dkts : Has8 (val_main_v56 (F := Ideal) zc la w) fun b h => dkt (sq Z b h) (sa A b h) (sv Z b h) (sw W b h) 4352 := by
  intro b h s d
  unfold val_main_v56 val_main_v55
  pointwise
  rw [coe_dot _ _ _ _ (fun t => dweights hZ hW b h t s) (fun t => qts hZ hA b h t d)]
  congr 1
  rw [Fin.sum_univ_eq_sum_range (fun t => (if s.val ≤ t then datt (sv Z b h) (sw W b h) t s else 0) * qt (sq Z b h) (sa A b h) t d) 4352, dkt]
  exact sum_congr rfl fun t _ => by split <;> simp

include hZ hA hW in
theorem dqts : Has8 (val_main_v58 (F := Ideal) zc la w) fun b h => dqt (sk Z b h) (sa A b h) (sv Z b h) (sw W b h) 4352 := by
  intro b h t d
  unfold val_main_v58 val_main_v57
  pointwise
  rw [coe_dot _ _ _ _ (fun s => dweights hZ hW b h t s) (fun s => kts hZ hA b h s d)]
  congr 1
  rw [Fin.sum_univ_eq_sum_range (fun s => (if s ≤ t.val then datt (sv Z b h) (sw W b h) t s else 0) * kt (sk Z b h) (sa A b h) s d) 4352, dqt]
  exact sum_congr rfl fun s _ => by split <;> simp

include hZ hA hW in
theorem dvs : Has8 (val_main_v53 (F := Ideal) zc la w) (gv Z A W) := by
  intro b h s e
  unfold val_main_v53 val_main_v52 val_main_v50
  pointwise
  rw [coe_dot _ _ _ _ (fun t => cotangents hW b h t e) (fun t => weights hZ hA b h t s)]
  congr 1
  rw [Fin.sum_univ_eq_sum_range (fun t => sw W b h t e * (if s.val ≤ t then att (sq Z b h) (sk Z b h) (sa A b h) t s else 0)) 4352, gv, dv]
  exact sum_congr rfl fun t _ => by split <;> simp [mul_comm]

include hZ hA hW in
theorem dqs : Has8 (val_main_v68 (F := Ideal) zc la w) (gq Z A W) := by
  intro b h t d
  unfold val_main_v68 val_main_v64 val_main_v67 val_main_cst_2
  pointwise
  rw [dqts hZ hA hW b h t d, ups hA b h t d, ofBits_eighth, ← EReal.coe_mul, ← EReal.coe_mul, gq]
  congr 1
  ring

include hZ hA hW in
theorem dks : Has8 (val_main_v60 (F := Ideal) zc la w) (gk Z A W) := by
  intro b h t d
  unfold val_main_v60
  pointwise
  rw [dkts hZ hA hW b h t d, downs hA b h t d, ← EReal.coe_mul, gk]

include hZ hA hW in
theorem dcums : Has8 (val_main_v66 (F := Ideal) zc la w) fun b h => dcum (sq Z b h) (sk Z b h) (sa A b h) (sv Z b h) (sw W b h) 4352 := by
  intro b h t d
  unfold val_main_v66 val_main_v62 val_main_v61 val_main_v59 val_main_v65 val_main_v63
  pointwise
  rw [keys hZ b h t d, dkts hZ hA hW b h t d, downs hA b h t d, eighths hZ b h t d, dqts hZ hA hW b h t d, ups hA b h t d]
  simp only [← EReal.coe_mul, ← EReal.coe_neg, ← EReal.coe_add]
  rw [dcum, qt, kt]
  congr 1
  ring

include hZ hA hW in
theorem das : Has8 (val_main_v69 (F := Ideal) zc la w) (ga Z A W) := by
  intro b h t d
  unfold val_main_v69
  refine cumsum_down (L := 4351) _ (fun s => dcum (sq Z b h) (sk Z b h) (sa A b h) (sv Z b h) (sw W b h) 4352 s d) t _ d
    (fun s => dcums hZ hA hW b h s d) _ (fun i => ?_) _ _
  unfold val_main_call3_call0_v0 val_main_call3_call0_cst
  exact Ideal.ofBits_zero_f32

include hZ hA hW in
/-- The four gradients side by side. -/
theorem joined (b : Bool) (h : Fin 4) (t : Fin 4352) :
    (∀ d : Fin 64, val_main_v74 (F := Ideal) zc la w (ix2 t ⟨b.toNat * 256 + (64 * h.val + d.val), by cases b <;> simp <;> omega⟩) = ((gq Z A W b h t d : ℝ) : EReal))
    ∧ (∀ d : Fin 64, val_main_v74 (F := Ideal) zc la w (ix2 t ⟨512 + (b.toNat * 256 + (64 * h.val + d.val)), by cases b <;> simp <;> omega⟩) = ((gk Z A W b h t d : ℝ) : EReal))
    ∧ (∀ e : Fin 128, val_main_v74 (F := Ideal) zc la w (ix2 t ⟨1024 + (b.toNat * 512 + (128 * h.val + e.val)), by cases b <;> simp <;> omega⟩) = ((gv Z A W b h t e : ℝ) : EReal))
    ∧ (∀ d : Fin 64, val_main_v74 (F := Ideal) zc la w (ix2 t ⟨2048 + (b.toNat * 256 + (64 * h.val + d.val)), by cases b <;> simp <;> omega⟩) = ((ga Z A W b h t d : ℝ) : EReal)) := by
  have hh := h.isLt
  have hb : b.toNat ≤ 1 := Bool.toNat_le b
  unfold val_main_v74
  refine ⟨fun d => ?_, fun d => ?_, fun e => ?_, fun d => ?_⟩
  · unfold val_main_v70
    pointwise
    refine (dif_pos (show b.toNat * 256 + (64 * h.val + d.val) < 512 by omega)).trans (Eq.trans (congrArg (val_main_v68 (F := Ideal) zc la w) (?_ : _ = ix3 t (hd b h) d)) (dqs hZ hA hW b h t d))
    exact congrArg₂ (fun i j => ix3 t i j) (Fin.ext (by show (b.toNat * 256 + (64 * h.val + d.val)) / 64 = b.toNat * 4 + h.val; omega)) rfl
  · unfold val_main_v71
    pointwise
    refine (dif_pos (show b.toNat * 256 + (64 * h.val + d.val) < 512 by omega)).trans ?_
    refine Eq.trans (congrArg (val_main_v60 (F := Ideal) zc la w) (?_ : _ = ix3 t (hd b h) d)) (dks hZ hA hW b h t d)
    exact congrArg₂ (fun i j => ix3 t i j) (Fin.ext (by show (b.toNat * 256 + (64 * h.val + d.val)) / 64 = b.toNat * 4 + h.val; omega)) rfl
  · unfold val_main_v72
    pointwise
    refine (dif_neg (show ¬1024 + (b.toNat * 512 + (128 * h.val + e.val)) < 512 by omega)).trans ?_
    refine (dif_neg (show ¬1024 + (b.toNat * 512 + (128 * h.val + e.val)) - 512 < 512 by omega)).trans ?_
    refine (dif_pos (show 1024 + (b.toNat * 512 + (128 * h.val + e.val)) - 512 - 512 < 1024 by omega)).trans ?_
    refine Eq.trans (congrArg (val_main_v53 (F := Ideal) zc la w) (?_ : _ = ix3 t (hd b h) e)) (dvs hZ hA hW b h t e)
    exact congrArg₂ (fun i j => ix3 t i j) (Fin.ext (by show (1024 + (b.toNat * 512 + (128 * h.val + e.val)) - 512 - 512) / 128 = b.toNat * 4 + h.val; omega))
      (Fin.ext (by show (1024 + (b.toNat * 512 + (128 * h.val + e.val)) - 512 - 512) % 128 = e.val; omega))
  · unfold val_main_v73
    pointwise
    refine (dif_neg (show ¬2048 + (b.toNat * 256 + (64 * h.val + d.val)) < 512 by omega)).trans ?_
    refine (dif_neg (show ¬2048 + (b.toNat * 256 + (64 * h.val + d.val)) - 512 < 512 by omega)).trans ?_
    refine (dif_neg (show ¬2048 + (b.toNat * 256 + (64 * h.val + d.val)) - 512 - 512 < 1024 by omega)).trans ?_
    refine Eq.trans (congrArg (val_main_v69 (F := Ideal) zc la w) (?_ : _ = ix3 t (hd b h) d)) (das hZ hA hW b h t d)
    exact congrArg₂ (fun i j => ix3 t i j) (Fin.ext (by show (2048 + (b.toNat * 256 + (64 * h.val + d.val)) - 512 - 512 - 1024) / 64 = b.toNat * 4 + h.val; omega))
      (Fin.ext (by show (2048 + (b.toNat * 256 + (64 * h.val + d.val)) - 512 - 512 - 1024) % 64 = d.val; omega))

theorem first_rows (t : Fin 256) (c : Fin 2560) :
    val_main_v77 (F := Ideal) zc la w (ix2 t c) = val_main_v74 (F := Ideal) zc la w (ix2 ⟨t.val, by omega⟩ c) := by
  unfold val_main_v77
  pointwise

/-- The rows put back in their own order, for the forward direction. -/
theorem rows_false (f : ℕ → ℝ) (c : Fin 2560) (hf : ∀ t : Fin 4352, val_main_v74 (F := Ideal) zc la w (ix2 t c) = ((f t : ℝ) : EReal)) (i : Fin 4608) :
    val_main_v78 (F := Ideal) zc la w (ix2 i c) = ((if i.val < 4352 then f (pos false i) else 0 : ℝ) : EReal) := by
  unfold val_main_v78
  by_cases h1 : i.val < 4096
  · rw [if_pos (by omega), pos_false, if_neg (by omega), Nat.add_comm]
    unfold val_main_v76
    pointwise
    exact (dif_pos h1).trans (hf ⟨256 + i.val, by omega⟩)
  · by_cases h2 : i.val < 4352
    · rw [if_pos h2, pos_false, if_pos (by omega)]
      pointwise
      refine (dif_neg h1).trans ?_
      refine (dif_pos (show i.val - 4096 < 256 by omega)).trans ?_
      exact (first_rows ⟨i.val - 4096, by omega⟩ c).trans (hf ⟨i.val - 4096, by omega⟩)
    · rw [if_neg h2]
      unfold val_main_v75 val_main_cst_3
      pointwise
      exact (dif_neg h1).trans ((dif_neg (show ¬i.val - 4096 < 256 by omega)).trans EReal.coe_zero.symm)

/-- The rows put back in their own order, for the reverse direction. -/
theorem rows_true (f : ℕ → ℝ) (c : Fin 2560) (hf : ∀ t : Fin 4352, val_main_v74 (F := Ideal) zc la w (ix2 t c) = ((f t : ℝ) : EReal)) (i : Fin 4608) :
    val_main_v80 (F := Ideal) zc la w (ix2 i c) = ((if i.val < 4352 then f (pos true i) else 0 : ℝ) : EReal) := by
  unfold val_main_v80
  by_cases h2 : i.val < 4352
  · rw [if_pos h2, pos_true]
    unfold val_main_v79
    pointwise
    refine (dif_pos h2).trans ((hf ⟨4352 - (i.val + 1), by omega⟩).trans (congrArg (fun j => ((f j : ℝ) : EReal)) ?_))
    show 4352 - (i.val + 1) = 4351 - i.val
    omega
  · rw [if_neg h2]
    unfold val_main_v75 val_main_cst_3
    pointwise
    exact (dif_neg h2).trans EReal.coe_zero.symm

include hZ hA hW

theorem isQK_false : IsQK Z A W false (val_main_v83 (F := Ideal) zc la w) := by
  intro i h d
  have hh := h.isLt
  unfold val_main_v83 val_main_v81 val_main_v82
  constructor
  · pointwise
    refine (dif_pos (show 64 * h.val + d.val < 256 by omega)).trans ?_
    refine (Eq.trans (congrArg (val_main_v78 (F := Ideal) zc la w) (?_ : _ = ix2 i _)) (rows_false (fun t => gq Z A W false h t d) _ (fun t => (joined hZ hA hW false h t).1 d) i))
    exact congrArg (ix2 i) (Fin.ext (by show 64 * h.val + d.val = 0 * 256 + (64 * h.val + d.val); omega))
  · pointwise
    refine (Eq.trans (congrArg (val_main_v78 (F := Ideal) zc la w) (?_ : _ = ix2 i _)) (rows_false (fun t => gk Z A W false h t d) _ (fun t => (joined hZ hA hW false h t).2.1 d) i))
    exact congrArg (ix2 i) (Fin.ext (by show 512 + (64 * h.val + d.val) = 512 + (0 * 256 + (64 * h.val + d.val)); omega))

theorem isQK_true : IsQK Z A W true (val_main_v88 (F := Ideal) zc la w) := by
  intro i h d
  have hh := h.isLt
  unfold val_main_v88 val_main_v86 val_main_v87
  constructor
  · pointwise
    refine (dif_pos (show 64 * h.val + d.val < 256 by omega)).trans ?_
    refine (Eq.trans (congrArg (val_main_v80 (F := Ideal) zc la w) (?_ : _ = ix2 i _)) (rows_true (fun t => gq Z A W true h t d) _ (fun t => (joined hZ hA hW true h t).1 d) i))
    exact congrArg (ix2 i) (Fin.ext (by show 256 + (64 * h.val + d.val) = 1 * 256 + (64 * h.val + d.val); omega))
  · pointwise
    refine (Eq.trans (congrArg (val_main_v80 (F := Ideal) zc la w) (?_ : _ = ix2 i _)) (rows_true (fun t => gk Z A W true h t d) _ (fun t => (joined hZ hA hW true h t).2.1 d) i))
    exact congrArg (ix2 i) (Fin.ext (by show 768 + (64 * h.val + d.val) = 512 + (1 * 256 + (64 * h.val + d.val)); omega))

theorem isV_false : IsV Z A W false (val_main_v84 (F := Ideal) zc la w) := by
  intro i h e
  unfold val_main_v84 colV
  pointwise
  refine Eq.trans (congrArg (val_main_v78 (F := Ideal) zc la w) (?_ : _ = ix2 i _)) (rows_false (fun t => gv Z A W false h t e) _ (fun t => (joined hZ hA hW false h t).2.2.1 e) i)
  exact congrArg (ix2 i) (Fin.ext (by show 1024 + (128 * h.val + e.val) = 1024 + (0 * 512 + (128 * h.val + e.val)); omega))

theorem isV_true : IsV Z A W true (val_main_v89 (F := Ideal) zc la w) := by
  intro i h e
  unfold val_main_v89 colV
  pointwise
  refine Eq.trans (congrArg (val_main_v80 (F := Ideal) zc la w) (?_ : _ = ix2 i _)) (rows_true (fun t => gv Z A W true h t e) _ (fun t => (joined hZ hA hW true h t).2.2.1 e) i)
  exact congrArg (ix2 i) (Fin.ext (by show 1536 + (128 * h.val + e.val) = 1024 + (1 * 512 + (128 * h.val + e.val)); omega))

theorem isA_false : IsA Z A W false (val_main_v85 (F := Ideal) zc la w) := by
  intro i h d
  unfold val_main_v85 colK
  pointwise
  refine Eq.trans (congrArg (val_main_v78 (F := Ideal) zc la w) (?_ : _ = ix2 i _)) (rows_false (fun t => ga Z A W false h t d) _ (fun t => (joined hZ hA hW false h t).2.2.2 d) i)
  exact congrArg (ix2 i) (Fin.ext (by show 2048 + (64 * h.val + d.val) = 2048 + (0 * 256 + (64 * h.val + d.val)); omega))

theorem isA_true : IsA Z A W true (val_main_v90 (F := Ideal) zc la w) := by
  intro i h d
  unfold val_main_v90 colK
  pointwise
  refine Eq.trans (congrArg (val_main_v80 (F := Ideal) zc la w) (?_ : _ = ix2 i _)) (rows_true (fun t => ga Z A W true h t d) _ (fun t => (joined hZ hA hW true h t).2.2.2 d) i)
  exact congrArg (ix2 i) (Fin.ext (by show 2304 + (64 * h.val + d.val) = 2048 + (1 * 256 + (64 * h.val + d.val)); omega))

end Cert.Gla.Grads
-- ==== Proof.BwdClaim.lean ====
/-
  The backward claim: the kernel's six results are the reference's.
-/
module

public import proofs.«01_k».proof.Defs
public import proofs.«01_k».proof.Proof.Gen.Pre_finite_bwd
public import proofs.«01_k».proof.Proof.Gen.RefBwdIdeal.Run
public import proofs.«01_k».proof.Proof.BwdArrays
public import proofs.«01_k».proof.Proof.BwdPrelude
public import proofs.«01_k».proof.Proof.RefGrads
public import proofs.«01_k».proof.Proof.Finite

@[expose] public section

noncomputable section

namespace Cert.Gla.Bwd

open Cert.BwdIdeal Cert.BwdIdeal.Gen Cert.BwdIdeal.Own Idealize.ShloMosaic Idealize.ShloMosaic.TcCoe Idealize.SL.Sem

variable (m : (l : Loc nD τ sig) → Buf (Elt Ideal) l) (c : Dev nD) (hm : Cert.Pre_BwdIdeal_finite_bwd m)

/-- The projection, the log-decays and the cotangent as real numbers. -/
abbrev argZ : ℕ → ℕ → ℝ := entry (m ((c.tc : Thread nD τ).loc main_arg0))
@[inherit_doc argZ] abbrev argA : ℕ → ℕ → ℝ := entry (m ((c.tc : Thread nD τ).loc main_arg1))
@[inherit_doc argZ] abbrev argW : ℕ → ℕ → ℝ := entry (m ((c.tc : Thread nD τ).loc main_arg2))

include hm

theorem hZ (i : Fin 4608) (j : Fin 2432) : m ((c.tc : Thread nD τ).loc main_arg0) (ix2 i j) = ((argZ m c i.val j.val : ℝ) : EReal) :=
  entry_eq (reals_bwd (hm c)).1 i j

theorem hA (i : Fin 4608) (j : Fin 512) : m ((c.tc : Thread nD τ).loc main_arg1) (ix2 i j) = ((argA m c i.val j.val : ℝ) : EReal) :=
  entry_eq (reals_bwd (hm c)).2.1 i j

theorem hW (i : Fin 4096) (j : Fin 512) : m ((c.tc : Thread nD τ).loc main_arg2) (ix2 i j) = ((argW m c i.val j.val : ℝ) : EReal) :=
  entry_eq (reals_bwd (hm c)).2.2 i j

theorem vZ (i : S4608x2432.Idx) : V m c main_arg0 i = ((argZ m c (i 0).val (i 1).val : ℝ) : EReal) :=
  ((congrFun (V_main_arg0 m c) i).trans (congrArg _ (eq_ix2 i))).trans (hZ m c hm (i 0) (i 1))

theorem vA (i : S4608x512.Idx) : V m c main_arg1 i = ((argA m c (i 0).val (i 1).val : ℝ) : EReal) :=
  ((congrFun (V_main_arg1 m c) i).trans (congrArg _ (eq_ix2 i))).trans (hA m c hm (i 0) (i 1))

theorem vW (i : S4096x512.Idx) : V m c main_arg2 i = ((argW m c (i 0).val (i 1).val : ℝ) : EReal) :=
  ((congrFun (V_main_arg2 m c) i).trans (congrArg _ (eq_ix2 i))).trans (hW m c hm (i 0) (i 1))

theorem statesF : IsS (argZ m c) (argA m c) false (V m c main_v54) :=
  V_states_f m c ▸ States.isS_false (hZ m c hm) (hA m c hm)

theorem statesR : IsS (argZ m c) (argA m c) true (V m c main_v55) :=
  V_states_r m c ▸ States.isS_true (hZ m c hm) (hA m c hm)

theorem same10 : Cert.RefBwdIdeal.Read.val_main_v83 (F := Ideal) (m ((c.tc : Thread nD τ).loc main_arg0)) (m ((c.tc : Thread nD τ).loc main_arg1))
    (m ((c.tc : Thread nD τ).loc main_arg2)) = (dats m 0 c).arrAt 10 cfg0.N :=
  IsQK.ext (Grads.isQK_false (hZ m c hm) (hA m c hm) (hW m c hm)) (isQK_false (vZ m c hm) (vA m c hm) (vW m c hm) (statesF m c hm))

theorem same11 : Cert.RefBwdIdeal.Read.val_main_v84 (F := Ideal) (m ((c.tc : Thread nD τ).loc main_arg0)) (m ((c.tc : Thread nD τ).loc main_arg1))
    (m ((c.tc : Thread nD τ).loc main_arg2)) = (dats m 0 c).arrAt 11 cfg0.N :=
  IsV.ext (Grads.isV_false (hZ m c hm) (hA m c hm) (hW m c hm)) (isV_false (vZ m c hm) (vA m c hm) (vW m c hm) (statesF m c hm))

theorem same12 : Cert.RefBwdIdeal.Read.val_main_v85 (F := Ideal) (m ((c.tc : Thread nD τ).loc main_arg0)) (m ((c.tc : Thread nD τ).loc main_arg1))
    (m ((c.tc : Thread nD τ).loc main_arg2)) = (dats m 0 c).arrAt 12 cfg0.N :=
  IsA.ext (Grads.isA_false (hZ m c hm) (hA m c hm) (hW m c hm)) (isA_false (vZ m c hm) (vA m c hm) (vW m c hm) (statesF m c hm))

theorem same13 : Cert.RefBwdIdeal.Read.val_main_v88 (F := Ideal) (m ((c.tc : Thread nD τ).loc main_arg0)) (m ((c.tc : Thread nD τ).loc main_arg1))
    (m ((c.tc : Thread nD τ).loc main_arg2)) = (dats m 0 c).arrAt 13 cfg0.N :=
  IsQK.ext (Grads.isQK_true (hZ m c hm) (hA m c hm) (hW m c hm)) (isQK_true (vZ m c hm) (vA m c hm) (vW m c hm) (statesR m c hm))

theorem same14 : Cert.RefBwdIdeal.Read.val_main_v89 (F := Ideal) (m ((c.tc : Thread nD τ).loc main_arg0)) (m ((c.tc : Thread nD τ).loc main_arg1))
    (m ((c.tc : Thread nD τ).loc main_arg2)) = (dats m 0 c).arrAt 14 cfg0.N :=
  IsV.ext (Grads.isV_true (hZ m c hm) (hA m c hm) (hW m c hm)) (isV_true (vZ m c hm) (vA m c hm) (vW m c hm) (statesR m c hm))

theorem same15 : Cert.RefBwdIdeal.Read.val_main_v90 (F := Ideal) (m ((c.tc : Thread nD τ).loc main_arg0)) (m ((c.tc : Thread nD τ).loc main_arg1))
    (m ((c.tc : Thread nD τ).loc main_arg2)) = (dats m 0 c).arrAt 15 cfg0.N :=
  IsA.ext (Grads.isA_true (hZ m c hm) (hA m c hm) (hW m c hm)) (isA_true (vZ m c hm) (vA m c hm) (vW m c hm) (statesR m c hm))

set_option maxHeartbeats 4000000 in
omit hm in
theorem claim : Cert.algebraic_BwdIdeal_RefBwdIdeal_pre_finite_bwd := by
  intro m g m' g' hm hargs
  refine ⟨fun c => (dats m 0 c).arrAt 10 cfg0.N, fun c => (dats m 0 c).arrAt 11 cfg0.N, fun c => (dats m 0 c).arrAt 12 cfg0.N,
    fun c => (dats m 0 c).arrAt 13 cfg0.N, fun c => (dats m 0 c).arrAt 14 cfg0.N, fun c => (dats m 0 c).arrAt 15 cfg0.N,
    run_blocks (F := Ideal) m g, (θ_run _ _ _).mono (fun r h c => ?_) (Cert.RefBwdIdeal.Value.run (F := Ideal) m' g')⟩
  obtain ⟨h0, h1, h2, h3, h4, h5, hargs'⟩ := h c
  obtain ⟨a0, a1, a2⟩ := hargs c
  refine ⟨h0.trans ((Cert.RefBwdIdeal.Read.val_main_v83_eq _).trans (Eq.trans ?_ (same10 m c hm))),
    h1.trans ((Cert.RefBwdIdeal.Read.val_main_v84_eq _).trans (Eq.trans ?_ (same11 m c hm))),
    h2.trans ((Cert.RefBwdIdeal.Read.val_main_v85_eq _).trans (Eq.trans ?_ (same12 m c hm))),
    h3.trans ((Cert.RefBwdIdeal.Read.val_main_v88_eq _).trans (Eq.trans ?_ (same13 m c hm))),
    h4.trans ((Cert.RefBwdIdeal.Read.val_main_v89_eq _).trans (Eq.trans ?_ (same14 m c hm))),
    h5.trans ((Cert.RefBwdIdeal.Read.val_main_v90_eq _).trans (Eq.trans ?_ (same15 m c hm))), hargs'⟩
  all_goals exact congr (congrArg₂ _ a0 a1) a2

end Cert.Gla.Bwd
-- ==== Proof.lean ====
/-
  The claims: the backward call's frames and its equality with the derivative of the plain attention, the forward call's frames,
  and the equality of the SwiGLU sublayers' calls with reference.py's lines and their derivatives.
-/
module

public import proofs.«01_k».proof.Proof.Up2
public import proofs.«01_k».proof.Proof.Up0
public import proofs.«01_k».proof.Proof.UpCtx
public import proofs.«01_k».proof.Proof.UpSame
public import proofs.«01_k».proof.Proof.Dx2
public import proofs.«01_k».proof.Proof.Dx0
public import proofs.«01_k».proof.Proof.DxCtx
public import proofs.«01_k».proof.Proof.Down2
public import proofs.«01_k».proof.Proof.Down0
public import proofs.«01_k».proof.Proof.DownCtx
public import proofs.«01_k».proof.Proof.Gen.Dwi.Frame
public import proofs.«01_k».proof.Proof.Dwi
public import proofs.«01_k».proof.Proof.Gen.Dwo.Frame
public import proofs.«01_k».proof.Proof.Dwo
public import proofs.«01_k».proof.Proof.Gen.DwiCtx.Frame
public import proofs.«01_k».proof.Proof.DwiCtx
public import proofs.«01_k».proof.Proof.Gen.DwoCtx.Frame
public import proofs.«01_k».proof.Proof.DwoCtx
public import proofs.«01_k».proof.Defs
public import proofs.«01_k».proof.Proof.BwdSame
public import proofs.«01_k».proof.Proof.Gen.Fwd.Frame
public import proofs.«01_k».proof.Proof.Gen.FwdIdeal.Frame
public import proofs.«01_k».proof.Proof.Gen.RefFwdIdeal.Run
public import proofs.«01_k».proof.Proof.BwdClaim
public import Idealize.ShloMosaic.Adequacy
public import Idealize.ShloMosaic.Init

@[expose] public section

noncomputable section

namespace Cert.Proof

open Idealize.ShloMosaic Idealize.SL.Sem

theorem frame_refBwd : Cert.quiescent_RefBwdIdeal := fun m ρ _ =>
  (θ_run Cert.RefBwdIdeal.defs _ _).mono (fun r h => ⟨fun c => (h c).2.2.2.2.2.2, sem_eq_zero_of_no_sems (by decide) r.2⟩)
    (Cert.RefBwdIdeal.Value.run (F := Ideal) m ρ)

theorem frame_refFwd : Cert.quiescent_RefFwdIdeal := fun m ρ _ =>
  (θ_run Cert.RefFwdIdeal.defs _ _).mono (fun r h => ⟨fun c => (h c).2.2, sem_eq_zero_of_no_sems (by decide) r.2⟩)
    (Cert.RefFwdIdeal.Value.run (F := Ideal) m ρ)

theorem frame_refDwi : Cert.quiescent_RefDwiIdeal := fun m ρ _ =>
  (θ_run Cert.RefDwiIdeal.defs _ _).mono (fun r h => ⟨fun c => (h c).2, sem_eq_zero_of_no_sems (by decide) r.2⟩)
    (Cert.RefDwiIdeal.Value.run (F := Ideal) m ρ)

theorem frame_refDwo : Cert.quiescent_RefDwoIdeal := fun m ρ _ =>
  (θ_run Cert.RefDwoIdeal.defs _ _).mono (fun r h => ⟨fun c => (h c).2, sem_eq_zero_of_no_sems (by decide) r.2⟩)
    (Cert.RefDwoIdeal.Value.run (F := Ideal) m ρ)

theorem frame_refDwiCtx : Cert.quiescent_RefDwiCtxIdeal := fun m ρ _ =>
  (θ_run Cert.RefDwiCtxIdeal.defs _ _).mono (fun r h => ⟨fun c => (h c).2, sem_eq_zero_of_no_sems (by decide) r.2⟩)
    (Cert.RefDwiCtxIdeal.Value.run (F := Ideal) m ρ)

theorem frame_refDwoCtx : Cert.quiescent_RefDwoCtxIdeal := fun m ρ _ =>
  (θ_run Cert.RefDwoCtxIdeal.defs _ _).mono (fun r h => ⟨fun c => (h c).2, sem_eq_zero_of_no_sems (by decide) r.2⟩)
    (Cert.RefDwoCtxIdeal.Value.run (F := Ideal) m ρ)

theorem frame_refDx2 : Cert.quiescent_RefDx2Ideal := fun m ρ _ =>
  (θ_run Cert.RefDx2Ideal.defs _ _).mono (fun r h => ⟨fun c => (h c).2.2, sem_eq_zero_of_no_sems (by decide) r.2⟩)
    (Cert.RefDx2Ideal.Value.run (F := Ideal) m ρ)

theorem frame_refDx0 : Cert.quiescent_RefDx0Ideal := fun m ρ _ =>
  (θ_run Cert.RefDx0Ideal.defs _ _).mono (fun r h => ⟨fun c => (h c).2.2, sem_eq_zero_of_no_sems (by decide) r.2⟩)
    (Cert.RefDx0Ideal.Value.run (F := Ideal) m ρ)

theorem frame_refDown2 : Cert.quiescent_RefDown2Ideal := fun m ρ _ =>
  (θ_run Cert.RefDown2Ideal.defs _ _).mono (fun r h => ⟨fun c => (h c).2.2, sem_eq_zero_of_no_sems (by decide) r.2⟩)
    (Cert.RefDown2Ideal.Value.run (F := Ideal) m ρ)

theorem frame_refDown0 : Cert.quiescent_RefDown0Ideal := fun m ρ _ =>
  (θ_run Cert.RefDown0Ideal.defs _ _).mono (fun r h => ⟨fun c => (h c).2.2, sem_eq_zero_of_no_sems (by decide) r.2⟩)
    (Cert.RefDown0Ideal.Value.run (F := Ideal) m ρ)

theorem frame_refDownCtx : Cert.quiescent_RefDownCtxIdeal := fun m ρ _ =>
  (θ_run Cert.RefDownCtxIdeal.defs _ _).mono (fun r h => ⟨fun c => (h c).2.2, sem_eq_zero_of_no_sems (by decide) r.2⟩)
    (Cert.RefDownCtxIdeal.Value.run (F := Ideal) m ρ)

theorem frame_refUp2 : Cert.quiescent_RefUp2Ideal := fun m ρ _ =>
  (θ_run Cert.RefUp2Ideal.defs _ _).mono (fun r h => ⟨fun c => (h c).2.2.2, sem_eq_zero_of_no_sems (by decide) r.2⟩)
    (Cert.RefUp2Ideal.Value.run (F := Ideal) m ρ)

theorem frame_refUp0 : Cert.quiescent_RefUp0Ideal := fun m ρ _ =>
  (θ_run Cert.RefUp0Ideal.defs _ _).mono (fun r h => ⟨fun c => (h c).2.2.2, sem_eq_zero_of_no_sems (by decide) r.2⟩)
    (Cert.RefUp0Ideal.Value.run (F := Ideal) m ρ)

theorem frame_refUpCtx : Cert.quiescent_RefUpCtxIdeal := fun m ρ _ =>
  (θ_run Cert.RefUpCtxIdeal.defs _ _).mono (fun r h => ⟨fun c => (h c).2.2.2, sem_eq_zero_of_no_sems (by decide) r.2⟩)
    (Cert.RefUpCtxIdeal.Value.run (F := Ideal) m ρ)

theorem frame_refDxCtx : Cert.quiescent_RefDxCtxIdeal := fun m ρ _ =>
  (θ_run Cert.RefDxCtxIdeal.defs _ _).mono (fun r h => ⟨fun c => (h c).2.2, sem_eq_zero_of_no_sems (by decide) r.2⟩)
    (Cert.RefDxCtxIdeal.Value.run (F := Ideal) m ρ)

theorem claim : Cert.Claim :=
  ⟨Cert.Bwd.Gen.facts, Cert.BwdIdeal.Gen.facts, Cert.RefBwdIdeal.Gen.facts, Cert.Fwd.Gen.facts, Cert.FwdIdeal.Gen.facts, Cert.RefFwdIdeal.Gen.facts,
    Cert.Dwi.Gen.facts, Cert.DwiIdeal.Gen.facts, Cert.RefDwiIdeal.Gen.facts,
    Cert.Dwo.Gen.facts, Cert.DwoIdeal.Gen.facts, Cert.RefDwoIdeal.Gen.facts,
    Cert.DwiCtx.Gen.facts, Cert.DwiCtxIdeal.Gen.facts, Cert.RefDwiCtxIdeal.Gen.facts,
    Cert.DwoCtx.Gen.facts, Cert.DwoCtxIdeal.Gen.facts, Cert.RefDwoCtxIdeal.Gen.facts,
    Cert.Dx2.Gen.facts, Cert.Dx2Ideal.Gen.facts, Cert.RefDx2Ideal.Gen.facts,
    Cert.Dx0.Gen.facts, Cert.Dx0Ideal.Gen.facts, Cert.RefDx0Ideal.Gen.facts,
    Cert.Down2.Gen.facts, Cert.Down2Ideal.Gen.facts, Cert.RefDown2Ideal.Gen.facts,
    Cert.Down0.Gen.facts, Cert.Down0Ideal.Gen.facts, Cert.RefDown0Ideal.Gen.facts,
    Cert.DownCtx.Gen.facts, Cert.DownCtxIdeal.Gen.facts, Cert.RefDownCtxIdeal.Gen.facts,
    Cert.Up2.Gen.facts, Cert.Up2Ideal.Gen.facts, Cert.RefUp2Ideal.Gen.facts,
    Cert.Up0.Gen.facts, Cert.Up0Ideal.Gen.facts, Cert.RefUp0Ideal.Gen.facts,
    Cert.UpCtx.Gen.facts, Cert.UpCtxIdeal.Gen.facts, Cert.RefUpCtxIdeal.Gen.facts,
    Cert.DxCtx.Gen.facts, Cert.DxCtxIdeal.Gen.facts, Cert.RefDxCtxIdeal.Gen.facts,
    Cert.Pre_finite_bwd.Gen.facts, Cert.Pre_finite_dx.Gen.facts, Cert.Pre_finite_up.Gen.facts, Cert.Pre_finite_up_ctx.Gen.facts, Cert.Pre_finite_dx_ctx.Gen.facts,
    Cert.Gla.Bwd.frame, fun m ρ _ => Cert.BwdIdeal.Own.frame m ρ, fun m ρ _ => Cert.BwdIdeal.Own.frame m ρ,
    frame_refBwd, fun m ρ _ => frame_refBwd m ρ trivial,
    fun m ρ _ => Cert.Fwd.Gen.frame m ρ, fun m ρ _ => Cert.FwdIdeal.Gen.frame m ρ, frame_refFwd,
    fun m ρ _ => Cert.Dwi.Gen.frame m ρ, fun m ρ _ => Cert.DwiIdeal.Gen.frame m ρ, frame_refDwi,
    fun m ρ _ => Cert.Dwo.Gen.frame m ρ, fun m ρ _ => Cert.DwoIdeal.Gen.frame m ρ, frame_refDwo,
    fun m ρ _ => Cert.DwiCtx.Gen.frame m ρ, fun m ρ _ => Cert.DwiCtxIdeal.Gen.frame m ρ, frame_refDwiCtx,
    fun m ρ _ => Cert.DwoCtx.Gen.frame m ρ, fun m ρ _ => Cert.DwoCtxIdeal.Gen.frame m ρ, frame_refDwoCtx,
    fun m ρ _ => Cert.Dx2.Gen.frame m ρ, fun m ρ _ => Cert.Dx2Ideal.Gen.frame m ρ, fun m ρ _ => Cert.Dx2Ideal.Gen.frame m ρ,
    frame_refDx2, fun m ρ _ => frame_refDx2 m ρ trivial,
    fun m ρ _ => Cert.Dx0.Gen.frame m ρ, fun m ρ _ => Cert.Dx0Ideal.Gen.frame m ρ, fun m ρ _ => Cert.Dx0Ideal.Gen.frame m ρ,
    frame_refDx0, fun m ρ _ => frame_refDx0 m ρ trivial,
    fun m ρ _ => Cert.Down2.Gen.frame m ρ, fun m ρ _ => Cert.Down2Ideal.Gen.frame m ρ, frame_refDown2,
    fun m ρ _ => Cert.Down0.Gen.frame m ρ, fun m ρ _ => Cert.Down0Ideal.Gen.frame m ρ, frame_refDown0,
    fun m ρ _ => Cert.DownCtx.Gen.frame m ρ, fun m ρ _ => Cert.DownCtxIdeal.Gen.frame m ρ, frame_refDownCtx,
    Cert.Up.Up2.frame, fun m ρ _ => Cert.Up2Ideal.Own.frame m ρ, fun m ρ _ => Cert.Up2Ideal.Own.frame m ρ, frame_refUp2, fun m ρ _ => frame_refUp2 m ρ trivial,
    Cert.Up.Up0.frame, fun m ρ _ => Cert.Up0Ideal.Own.frame m ρ, fun m ρ _ => Cert.Up0Ideal.Own.frame m ρ, frame_refUp0, fun m ρ _ => frame_refUp0 m ρ trivial,
    Cert.Up.UpCtx.frame, fun m ρ _ => Cert.UpCtxIdeal.Own.frame m ρ, fun m ρ _ => Cert.UpCtxIdeal.Own.frame m ρ, frame_refUpCtx, fun m ρ _ => frame_refUpCtx m ρ trivial,
    Cert.Dx.frame, fun m ρ _ => Cert.DxCtxIdeal.Own.frame m ρ, fun m ρ _ => Cert.DxCtxIdeal.Own.frame m ρ, frame_refDxCtx, fun m ρ _ => frame_refDxCtx m ρ trivial,
    trivial, Cert.Gla.Bwd.claim, trivial,
    trivial, Cert.DwiIdeal.Own.claim, trivial, Cert.DwoIdeal.Own.claim, trivial, Cert.DwiCtxIdeal.Own.claim, trivial, Cert.DwoCtxIdeal.Own.claim,
    trivial, Cert.Dx2Ideal.Own.claim, trivial, Cert.Dx0Ideal.Own.claim, trivial, Cert.Down2Ideal.Own.claim, trivial, Cert.Down0Ideal.Own.claim, trivial, Cert.DownCtxIdeal.Own.claim,
    trivial, Cert.Up2Ideal.Own.claim, trivial, Cert.Up0Ideal.Own.claim, trivial, Cert.UpCtxIdeal.Own.claim,
    trivial, Cert.DxCtxIdeal.Own.claim⟩

end Cert.Proof
